-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S32x8x100000 : Shape := ⟨3, ![32, 8, 100000]⟩
abbrev S32x8 : Shape := ⟨2, ![32, 8]⟩
abbrev S_ : Shape := ⟨0, ![]⟩

class Facts : Prop where
  bcast_S_S32x8 : S_.BroadcastsInDim S32x8 (![] : Fin 0 → Fin S32x8.rank)
  reducesTo_S32x8_S_d0_1 : S32x8.ReducesTo [0, 1] S_
  h_S_ : 0 < S_.numel

variable [Facts]

def fn {F : FTy → Type} [FloatOps F] (main_arg0 : FVec F S32x8x100000 .f32) (main_arg1 : IVec S32x8 32) (main_arg2 : IVec S32x8 32) : IVec S_ 1 :=
  let main_c : IVec S_ 32 := constantI S_ 32 0#32
  let main_v0 : IVec S32x8 32 := broadcastInDim S32x8 ![] bcast_S_S32x8 main_c
  let main_v1 : IVec S32x8 1 := cmpi .sge main_arg1 main_v0
  let main_c_0 : IVec S_ 32 := constantI S_ 32 100000#32
  let main_v2 : IVec S32x8 32 := broadcastInDim S32x8 ![] bcast_S_S32x8 main_c_0
  let main_v3 : IVec S32x8 1 := cmpi .slt main_arg1 main_v2
  let main_v4 : IVec S32x8 1 := andi main_v1 main_v3
  let main_c_1 : IVec S_ 1 := constantI S_ 1 1#1
  let main_v5 : IVec S_ 1 := (fun x v => Host.reduce IntOp.andi x v reducesTo_S32x8_S_d0_1 h_S_) main_v4 main_c_1
  main_v5
-- ==== Kernel.lean ====
abbrev S32x8x100000 : Shape := ⟨3, ![32, 8, 100000]⟩
abbrev S32x8 : Shape := ⟨2, ![32, 8]⟩
abbrev S256x100000 : Shape := ⟨2, ![256, 100000]⟩
abbrev S256x128 : Shape := ⟨2, ![256, 128]⟩
abbrev S256 : Shape := ⟨1, ![256]⟩
abbrev S512 : Shape := ⟨1, ![512]⟩
abbrev S8x6400 : Shape := ⟨2, ![8, 6400]⟩
abbrev S64x128 : Shape := ⟨2, ![64, 128]⟩
abbrev S8x128 : Shape := ⟨2, ![8, 128]⟩
abbrev S16 : Shape := ⟨1, ![16]⟩
abbrev S_ : Shape := ⟨0, ![]⟩
abbrev S8 : Shape := ⟨1, ![8]⟩
abbrev S1 : Shape := ⟨1, ![1]⟩
abbrev S1x16 : Shape := ⟨2, ![1, 16]⟩
abbrev S8x3968 : Shape := ⟨2, ![8, 3968]⟩
abbrev S32x16 : Shape := ⟨2, ![32, 16]⟩

abbrev nBuf : Table → Nat
  | .hbm => 17
  | .local .scVector .vmem => 7
  | _ => 0

abbrev bufTy : (tb : Table) → Fin (nBuf tb) → BufTy
  | .hbm, ⟨0, _⟩ => ⟨S32x8x100000, .f32⟩
  | .hbm, ⟨1, _⟩ => ⟨S32x8, .i32⟩
  | .hbm, ⟨2, _⟩ => ⟨S32x8, .i32⟩
  | .hbm, ⟨3, _⟩ => ⟨S256x100000, .f32⟩
  | .hbm, ⟨4, _⟩ => ⟨S256x128, .f32⟩
  | .hbm, ⟨5, _⟩ => ⟨S256, .i32⟩
  | .hbm, ⟨6, _⟩ => ⟨S256, .i32⟩
  | .hbm, ⟨7, _⟩ => ⟨S512, .f32⟩
  | .hbm, ⟨8, _⟩ => ⟨S32x16, .f32⟩
  | .hbm, ⟨9, _⟩ => ⟨S32x8, .f32⟩
  | .hbm, ⟨10, _⟩ => ⟨S_, .f32⟩
  | .hbm, ⟨11, _⟩ => ⟨S_, .f32⟩
  | .hbm, ⟨12, _⟩ => ⟨S32x8, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1, .f32⟩
  | .local .scVector .vmem, ⟨0, _⟩ => ⟨S8x6400, .f32⟩
  | .local .scVector .vmem, ⟨1, _⟩ => ⟨S8x6400, .f32⟩
  | .local .scVector .vmem, ⟨2, _⟩ => ⟨S64x128, .f32⟩
  | .local .scVector .vmem, ⟨3, _⟩ => ⟨S8x128, .f32⟩
  | .local .scVector .vmem, ⟨4, _⟩ => ⟨S16, .i32⟩
  | .local .scVector .vmem, ⟨5, _⟩ => ⟨S16, .i32⟩
  | .local .scVector .vmem, ⟨6, _⟩ => ⟨S16, .f32⟩
  | _, _ => ⟨S32x8x100000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev main_v3_scv : Ref sig .scVector := ⟨.hbm, 6, rfl⟩
abbrev main_v4_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  v2
def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v3 : BitVec 32 := v2
  ![v3.toNat]
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  v2
def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  v2
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v11 : BitVec 32 := v2
  let c0_i32_3 : BitVec 32 := 0#32
  ![v11.toNat, 0]
def k0_mult4 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  v2
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v16 : BitVec 32 := v2
  let c6400_i32 : BitVec 32 := 6400#32
  ![v16.toNat, 6400]
def k0_mult5 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  v2
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v21 : BitVec 32 := v2
  let c0_i32_12 : BitVec 32 := 0#32
  ![v21.toNat, 0]
def k0_mult6 (v25 : BitVec 32) : BitVec 32 :=
  let c_m128_i32 : BitVec 32 := 4294967168#32
  let v26 : BitVec 32 := Scalar.andi v25 c_m128_i32
  let c99840_i32 : BitVec 32 := 99840#32
  let v27 : BitVec 32 := Scalar.minsi v26 c99840_i32
  v27

def k0_mult7 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  v2
def k0_off5 (i : grid0.Coords) (v25 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v29 : BitVec 32 := v2
  let c_m128_i32 : BitVec 32 := 4294967168#32
  let v26 : BitVec 32 := Scalar.andi v25 c_m128_i32
  let c99840_i32 : BitVec 32 := 99840#32
  let v27 : BitVec 32 := Scalar.minsi v26 c99840_i32
  let v28 : BitVec 32 := v27
  ![v29.toNat, v28.toNat]
def k0_mult8 (v35 : BitVec 32) : BitVec 32 :=
  let c_m128_i32_18 : BitVec 32 := 4294967168#32
  let v36 : BitVec 32 := Scalar.andi v35 c_m128_i32_18
  let c99840_i32_19 : BitVec 32 := 99840#32
  let v37 : BitVec 32 := Scalar.minsi v36 c99840_i32_19
  v37

def k0_mult9 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  v2
def k0_off6 (i : grid0.Coords) (v35 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v39 : BitVec 32 := v2
  let c_m128_i32_18 : BitVec 32 := 4294967168#32
  let v36 : BitVec 32 := Scalar.andi v35 c_m128_i32_18
  let c99840_i32_19 : BitVec 32 := 99840#32
  let v37 : BitVec 32 := Scalar.minsi v36 c99840_i32_19
  let v38 : BitVec 32 := v37
  ![v39.toNat, v38.toNat]
def k0_mult10 (v45 : BitVec 32) : BitVec 32 :=
  let c_m128_i32_24 : BitVec 32 := 4294967168#32
  let v46 : BitVec 32 := Scalar.andi v45 c_m128_i32_24
  let c99840_i32_25 : BitVec 32 := 99840#32
  let v47 : BitVec 32 := Scalar.minsi v46 c99840_i32_25
  v47

def k0_mult11 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  v2
def k0_off7 (i : grid0.Coords) (v45 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v49 : BitVec 32 := v2
  let c_m128_i32_24 : BitVec 32 := 4294967168#32
  let v46 : BitVec 32 := Scalar.andi v45 c_m128_i32_24
  let c99840_i32_25 : BitVec 32 := 99840#32
  let v47 : BitVec 32 := Scalar.minsi v46 c99840_i32_25
  let v48 : BitVec 32 := v47
  ![v49.toNat, v48.toNat]
def k0_mult12 (v55 : BitVec 32) : BitVec 32 :=
  let c_m128_i32_29 : BitVec 32 := 4294967168#32
  let v56 : BitVec 32 := Scalar.andi v55 c_m128_i32_29
  let c99840_i32_30 : BitVec 32 := 99840#32
  let v57 : BitVec 32 := Scalar.minsi v56 c99840_i32_30
  v57

def k0_mult13 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  v2
def k0_off8 (i : grid0.Coords) (v55 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v59 : BitVec 32 := v2
  let c_m128_i32_29 : BitVec 32 := 4294967168#32
  let v56 : BitVec 32 := Scalar.andi v55 c_m128_i32_29
  let c99840_i32_30 : BitVec 32 := 99840#32
  let v57 : BitVec 32 := Scalar.minsi v56 c99840_i32_30
  let v58 : BitVec 32 := v57
  ![v59.toNat, v58.toNat]
def k0_mult14 (v65 : BitVec 32) : BitVec 32 :=
  let c_m128_i32_34 : BitVec 32 := 4294967168#32
  let v66 : BitVec 32 := Scalar.andi v65 c_m128_i32_34
  let c99840_i32_35 : BitVec 32 := 99840#32
  let v67 : BitVec 32 := Scalar.minsi v66 c99840_i32_35
  v67

def k0_mult15 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  v2
def k0_off9 (i : grid0.Coords) (v65 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v69 : BitVec 32 := v2
  let c_m128_i32_34 : BitVec 32 := 4294967168#32
  let v66 : BitVec 32 := Scalar.andi v65 c_m128_i32_34
  let c99840_i32_35 : BitVec 32 := 99840#32
  let v67 : BitVec 32 := Scalar.minsi v66 c99840_i32_35
  let v68 : BitVec 32 := v67
  ![v69.toNat, v68.toNat]
def k0_mult16 (v75 : BitVec 32) : BitVec 32 :=
  let c_m128_i32_39 : BitVec 32 := 4294967168#32
  let v76 : BitVec 32 := Scalar.andi v75 c_m128_i32_39
  let c99840_i32_40 : BitVec 32 := 99840#32
  let v77 : BitVec 32 := Scalar.minsi v76 c99840_i32_40
  v77

def k0_mult17 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  v2
def k0_off10 (i : grid0.Coords) (v75 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v79 : BitVec 32 := v2
  let c_m128_i32_39 : BitVec 32 := 4294967168#32
  let v76 : BitVec 32 := Scalar.andi v75 c_m128_i32_39
  let c99840_i32_40 : BitVec 32 := 99840#32
  let v77 : BitVec 32 := Scalar.minsi v76 c99840_i32_40
  let v78 : BitVec 32 := v77
  ![v79.toNat, v78.toNat]
def k0_mult18 (v85 : BitVec 32) : BitVec 32 :=
  let c_m128_i32_44 : BitVec 32 := 4294967168#32
  let v86 : BitVec 32 := Scalar.andi v85 c_m128_i32_44
  let c99840_i32_45 : BitVec 32 := 99840#32
  let v87 : BitVec 32 := Scalar.minsi v86 c99840_i32_45
  v87

def k0_mult19 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  v2
def k0_off11 (i : grid0.Coords) (v85 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v89 : BitVec 32 := v2
  let c_m128_i32_44 : BitVec 32 := 4294967168#32
  let v86 : BitVec 32 := Scalar.andi v85 c_m128_i32_44
  let c99840_i32_45 : BitVec 32 := 99840#32
  let v87 : BitVec 32 := Scalar.minsi v86 c99840_i32_45
  let v88 : BitVec 32 := v87
  ![v89.toNat, v88.toNat]
def k0_mult20 (v95 : BitVec 32) : BitVec 32 :=
  let c_m128_i32_49 : BitVec 32 := 4294967168#32
  let v96 : BitVec 32 := Scalar.andi v95 c_m128_i32_49
  let c99840_i32_50 : BitVec 32 := 99840#32
  let v97 : BitVec 32 := Scalar.minsi v96 c99840_i32_50
  v97

def k0_mult21 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  v2
def k0_off12 (i : grid0.Coords) (v95 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v99 : BitVec 32 := v2
  let c_m128_i32_49 : BitVec 32 := 4294967168#32
  let v96 : BitVec 32 := Scalar.andi v95 c_m128_i32_49
  let c99840_i32_50 : BitVec 32 := 99840#32
  let v97 : BitVec 32 := Scalar.minsi v96 c99840_i32_50
  let v98 : BitVec 32 := v97
  ![v99.toNat, v98.toNat]

def k0_chk8 (i : grid0.Coords) (v95 : BitVec 32) : Prop :=
  (128 ∣ (k0_mult20 v95).toNat) ∧
  (∀ a, (k0_off12 i v95) a + S8x128.size a ≤ S256x100000.size a)
theorem k0_mult20_dvd : ∀ (i : grid0.Coords) (v95 : BitVec 32) (k0_hw8 : k0_chk8 i v95), 128 ∣ (k0_mult20 v95).toNat := fun i v95 k0_hw8 => k0_hw8.1
theorem k0_off12_inb : ∀ (i : grid0.Coords) (v95 : BitVec 32) (k0_hw8 : k0_chk8 i v95), ∀ a, (k0_off12 i v95) a + S8x128.size a ≤ S256x100000.size a := fun i v95 k0_hw8 => k0_hw8.2

def k0_off13 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v21 : BitVec 32 := v2
  let c0_i32_54 : BitVec 32 := 0#32
  ![v21.toNat, 0]
def k0_off14 (i : grid0.Coords) (v25 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v29 : BitVec 32 := v2
  let c_m128_i32 : BitVec 32 := 4294967168#32
  let v26 : BitVec 32 := Scalar.andi v25 c_m128_i32
  let c99840_i32 : BitVec 32 := 99840#32
  let v27 : BitVec 32 := Scalar.minsi v26 c99840_i32
  let v28 : BitVec 32 := v27
  ![v29.toNat, v28.toNat]

def k0_chk1 (i : grid0.Coords) (v25 : BitVec 32) : Prop :=
  (128 ∣ (k0_mult6 v25).toNat) ∧
  (∀ a, (k0_off5 i v25) a + S8x128.size a ≤ S256x100000.size a) ∧
  (∀ a, (k0_off14 i v25) a + S8x128.size a ≤ S256x100000.size a)
theorem k0_mult6_dvd : ∀ (i : grid0.Coords) (v25 : BitVec 32) (k0_hw1 : k0_chk1 i v25), 128 ∣ (k0_mult6 v25).toNat := fun i v25 k0_hw1 => k0_hw1.1
theorem k0_off5_inb : ∀ (i : grid0.Coords) (v25 : BitVec 32) (k0_hw1 : k0_chk1 i v25), ∀ a, (k0_off5 i v25) a + S8x128.size a ≤ S256x100000.size a := fun i v25 k0_hw1 => k0_hw1.2.1
theorem k0_off14_inb : ∀ (i : grid0.Coords) (v25 : BitVec 32) (k0_hw1 : k0_chk1 i v25), ∀ a, (k0_off14 i v25) a + S8x128.size a ≤ S256x100000.size a := fun i v25 k0_hw1 => k0_hw1.2.2

def k0_off15 (i : grid0.Coords) (v35 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v39 : BitVec 32 := v2
  let c_m128_i32_18 : BitVec 32 := 4294967168#32
  let v36 : BitVec 32 := Scalar.andi v35 c_m128_i32_18
  let c99840_i32_19 : BitVec 32 := 99840#32
  let v37 : BitVec 32 := Scalar.minsi v36 c99840_i32_19
  let v38 : BitVec 32 := v37
  ![v39.toNat, v38.toNat]

def k0_chk2 (i : grid0.Coords) (v35 : BitVec 32) : Prop :=
  (128 ∣ (k0_mult8 v35).toNat) ∧
  (∀ a, (k0_off6 i v35) a + S8x128.size a ≤ S256x100000.size a) ∧
  (∀ a, (k0_off15 i v35) a + S8x128.size a ≤ S256x100000.size a)
theorem k0_mult8_dvd : ∀ (i : grid0.Coords) (v35 : BitVec 32) (k0_hw2 : k0_chk2 i v35), 128 ∣ (k0_mult8 v35).toNat := fun i v35 k0_hw2 => k0_hw2.1
theorem k0_off6_inb : ∀ (i : grid0.Coords) (v35 : BitVec 32) (k0_hw2 : k0_chk2 i v35), ∀ a, (k0_off6 i v35) a + S8x128.size a ≤ S256x100000.size a := fun i v35 k0_hw2 => k0_hw2.2.1
theorem k0_off15_inb : ∀ (i : grid0.Coords) (v35 : BitVec 32) (k0_hw2 : k0_chk2 i v35), ∀ a, (k0_off15 i v35) a + S8x128.size a ≤ S256x100000.size a := fun i v35 k0_hw2 => k0_hw2.2.2

def k0_off16 (i : grid0.Coords) (v45 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v49 : BitVec 32 := v2
  let c_m128_i32_24 : BitVec 32 := 4294967168#32
  let v46 : BitVec 32 := Scalar.andi v45 c_m128_i32_24
  let c99840_i32_25 : BitVec 32 := 99840#32
  let v47 : BitVec 32 := Scalar.minsi v46 c99840_i32_25
  let v48 : BitVec 32 := v47
  ![v49.toNat, v48.toNat]

def k0_chk3 (i : grid0.Coords) (v45 : BitVec 32) : Prop :=
  (128 ∣ (k0_mult10 v45).toNat) ∧
  (∀ a, (k0_off7 i v45) a + S8x128.size a ≤ S256x100000.size a) ∧
  (∀ a, (k0_off16 i v45) a + S8x128.size a ≤ S256x100000.size a)
theorem k0_mult10_dvd : ∀ (i : grid0.Coords) (v45 : BitVec 32) (k0_hw3 : k0_chk3 i v45), 128 ∣ (k0_mult10 v45).toNat := fun i v45 k0_hw3 => k0_hw3.1
theorem k0_off7_inb : ∀ (i : grid0.Coords) (v45 : BitVec 32) (k0_hw3 : k0_chk3 i v45), ∀ a, (k0_off7 i v45) a + S8x128.size a ≤ S256x100000.size a := fun i v45 k0_hw3 => k0_hw3.2.1
theorem k0_off16_inb : ∀ (i : grid0.Coords) (v45 : BitVec 32) (k0_hw3 : k0_chk3 i v45), ∀ a, (k0_off16 i v45) a + S8x128.size a ≤ S256x100000.size a := fun i v45 k0_hw3 => k0_hw3.2.2

def k0_off17 (i : grid0.Coords) (v55 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v59 : BitVec 32 := v2
  let c_m128_i32_29 : BitVec 32 := 4294967168#32
  let v56 : BitVec 32 := Scalar.andi v55 c_m128_i32_29
  let c99840_i32_30 : BitVec 32 := 99840#32
  let v57 : BitVec 32 := Scalar.minsi v56 c99840_i32_30
  let v58 : BitVec 32 := v57
  ![v59.toNat, v58.toNat]

def k0_chk4 (i : grid0.Coords) (v55 : BitVec 32) : Prop :=
  (128 ∣ (k0_mult12 v55).toNat) ∧
  (∀ a, (k0_off8 i v55) a + S8x128.size a ≤ S256x100000.size a) ∧
  (∀ a, (k0_off17 i v55) a + S8x128.size a ≤ S256x100000.size a)
theorem k0_mult12_dvd : ∀ (i : grid0.Coords) (v55 : BitVec 32) (k0_hw4 : k0_chk4 i v55), 128 ∣ (k0_mult12 v55).toNat := fun i v55 k0_hw4 => k0_hw4.1
theorem k0_off8_inb : ∀ (i : grid0.Coords) (v55 : BitVec 32) (k0_hw4 : k0_chk4 i v55), ∀ a, (k0_off8 i v55) a + S8x128.size a ≤ S256x100000.size a := fun i v55 k0_hw4 => k0_hw4.2.1
theorem k0_off17_inb : ∀ (i : grid0.Coords) (v55 : BitVec 32) (k0_hw4 : k0_chk4 i v55), ∀ a, (k0_off17 i v55) a + S8x128.size a ≤ S256x100000.size a := fun i v55 k0_hw4 => k0_hw4.2.2

def k0_off18 (i : grid0.Coords) (v65 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v69 : BitVec 32 := v2
  let c_m128_i32_34 : BitVec 32 := 4294967168#32
  let v66 : BitVec 32 := Scalar.andi v65 c_m128_i32_34
  let c99840_i32_35 : BitVec 32 := 99840#32
  let v67 : BitVec 32 := Scalar.minsi v66 c99840_i32_35
  let v68 : BitVec 32 := v67
  ![v69.toNat, v68.toNat]

def k0_chk5 (i : grid0.Coords) (v65 : BitVec 32) : Prop :=
  (128 ∣ (k0_mult14 v65).toNat) ∧
  (∀ a, (k0_off9 i v65) a + S8x128.size a ≤ S256x100000.size a) ∧
  (∀ a, (k0_off18 i v65) a + S8x128.size a ≤ S256x100000.size a)
theorem k0_mult14_dvd : ∀ (i : grid0.Coords) (v65 : BitVec 32) (k0_hw5 : k0_chk5 i v65), 128 ∣ (k0_mult14 v65).toNat := fun i v65 k0_hw5 => k0_hw5.1
theorem k0_off9_inb : ∀ (i : grid0.Coords) (v65 : BitVec 32) (k0_hw5 : k0_chk5 i v65), ∀ a, (k0_off9 i v65) a + S8x128.size a ≤ S256x100000.size a := fun i v65 k0_hw5 => k0_hw5.2.1
theorem k0_off18_inb : ∀ (i : grid0.Coords) (v65 : BitVec 32) (k0_hw5 : k0_chk5 i v65), ∀ a, (k0_off18 i v65) a + S8x128.size a ≤ S256x100000.size a := fun i v65 k0_hw5 => k0_hw5.2.2

def k0_off19 (i : grid0.Coords) (v75 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v79 : BitVec 32 := v2
  let c_m128_i32_39 : BitVec 32 := 4294967168#32
  let v76 : BitVec 32 := Scalar.andi v75 c_m128_i32_39
  let c99840_i32_40 : BitVec 32 := 99840#32
  let v77 : BitVec 32 := Scalar.minsi v76 c99840_i32_40
  let v78 : BitVec 32 := v77
  ![v79.toNat, v78.toNat]

def k0_chk6 (i : grid0.Coords) (v75 : BitVec 32) : Prop :=
  (128 ∣ (k0_mult16 v75).toNat) ∧
  (∀ a, (k0_off10 i v75) a + S8x128.size a ≤ S256x100000.size a) ∧
  (∀ a, (k0_off19 i v75) a + S8x128.size a ≤ S256x100000.size a)
theorem k0_mult16_dvd : ∀ (i : grid0.Coords) (v75 : BitVec 32) (k0_hw6 : k0_chk6 i v75), 128 ∣ (k0_mult16 v75).toNat := fun i v75 k0_hw6 => k0_hw6.1
theorem k0_off10_inb : ∀ (i : grid0.Coords) (v75 : BitVec 32) (k0_hw6 : k0_chk6 i v75), ∀ a, (k0_off10 i v75) a + S8x128.size a ≤ S256x100000.size a := fun i v75 k0_hw6 => k0_hw6.2.1
theorem k0_off19_inb : ∀ (i : grid0.Coords) (v75 : BitVec 32) (k0_hw6 : k0_chk6 i v75), ∀ a, (k0_off19 i v75) a + S8x128.size a ≤ S256x100000.size a := fun i v75 k0_hw6 => k0_hw6.2.2

def k0_off20 (i : grid0.Coords) (v85 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v89 : BitVec 32 := v2
  let c_m128_i32_44 : BitVec 32 := 4294967168#32
  let v86 : BitVec 32 := Scalar.andi v85 c_m128_i32_44
  let c99840_i32_45 : BitVec 32 := 99840#32
  let v87 : BitVec 32 := Scalar.minsi v86 c99840_i32_45
  let v88 : BitVec 32 := v87
  ![v89.toNat, v88.toNat]

def k0_chk7 (i : grid0.Coords) (v85 : BitVec 32) : Prop :=
  (128 ∣ (k0_mult18 v85).toNat) ∧
  (∀ a, (k0_off11 i v85) a + S8x128.size a ≤ S256x100000.size a) ∧
  (∀ a, (k0_off20 i v85) a + S8x128.size a ≤ S256x100000.size a)
theorem k0_mult18_dvd : ∀ (i : grid0.Coords) (v85 : BitVec 32) (k0_hw7 : k0_chk7 i v85), 128 ∣ (k0_mult18 v85).toNat := fun i v85 k0_hw7 => k0_hw7.1
theorem k0_off11_inb : ∀ (i : grid0.Coords) (v85 : BitVec 32) (k0_hw7 : k0_chk7 i v85), ∀ a, (k0_off11 i v85) a + S8x128.size a ≤ S256x100000.size a := fun i v85 k0_hw7 => k0_hw7.2.1
theorem k0_off20_inb : ∀ (i : grid0.Coords) (v85 : BitVec 32) (k0_hw7 : k0_chk7 i v85), ∀ a, (k0_off20 i v85) a + S8x128.size a ≤ S256x100000.size a := fun i v85 k0_hw7 => k0_hw7.2.2

def k0_chk9 (v145 : IVec S16 32) (v146 : IVec S16 32) : Prop :=
  (∀ a x, ((![v145, v146] : Fin 2 → IVec S16 32) a x).toNat < S64x128.size a)
theorem k0_idx1_inb : ∀ (v145 : IVec S16 32) (v146 : IVec S16 32) (k0_hw9 : k0_chk9 v145 v146), ∀ a x, ((![v145, v146] : Fin 2 → IVec S16 32) a x).toNat < S64x128.size a := fun v145 v146 k0_hw9 => k0_hw9

def k0_chk10 (v151 : IVec S16 32) (v152 : IVec S16 32) : Prop :=
  (∀ a x, ((![v151, v152] : Fin 2 → IVec S16 32) a x).toNat < S8x128.size a)
theorem k0_idx2_inb : ∀ (v151 : IVec S16 32) (v152 : IVec S16 32) (k0_hw10 : k0_chk10 v151 v152), ∀ a x, ((![v151, v152] : Fin 2 → IVec S16 32) a x).toNat < S8x128.size a := fun v151 v152 k0_hw10 => k0_hw10

def k0_chk11 (v164 : IVec S16 32) (v165 : IVec S16 32) : Prop :=
  (∀ a x, ((![v164, v165] : Fin 2 → IVec S16 32) a x).toNat < S64x128.size a)
theorem k0_idx3_inb : ∀ (v164 : IVec S16 32) (v165 : IVec S16 32) (k0_hw11 : k0_chk11 v164 v165), ∀ a x, ((![v164, v165] : Fin 2 → IVec S16 32) a x).toNat < S64x128.size a := fun v164 v165 k0_hw11 => k0_hw11

def k0_chk12 (v170 : IVec S16 32) (v171 : IVec S16 32) : Prop :=
  (∀ a x, ((![v170, v171] : Fin 2 → IVec S16 32) a x).toNat < S8x128.size a)
theorem k0_idx4_inb : ∀ (v170 : IVec S16 32) (v171 : IVec S16 32) (k0_hw12 : k0_chk12 v170 v171), ∀ a x, ((![v170, v171] : Fin 2 → IVec S16 32) a x).toNat < S8x128.size a := fun v170 v171 k0_hw12 => k0_hw12

def k0_chk13 (v183 : IVec S16 32) (v184 : IVec S16 32) : Prop :=
  (∀ a x, ((![v183, v184] : Fin 2 → IVec S16 32) a x).toNat < S64x128.size a)
theorem k0_idx5_inb : ∀ (v183 : IVec S16 32) (v184 : IVec S16 32) (k0_hw13 : k0_chk13 v183 v184), ∀ a x, ((![v183, v184] : Fin 2 → IVec S16 32) a x).toNat < S64x128.size a := fun v183 v184 k0_hw13 => k0_hw13

def k0_chk14 (v189 : IVec S16 32) (v190 : IVec S16 32) : Prop :=
  (∀ a x, ((![v189, v190] : Fin 2 → IVec S16 32) a x).toNat < S8x128.size a)
theorem k0_idx6_inb : ∀ (v189 : IVec S16 32) (v190 : IVec S16 32) (k0_hw14 : k0_chk14 v189 v190), ∀ a x, ((![v189, v190] : Fin 2 → IVec S16 32) a x).toNat < S8x128.size a := fun v189 v190 k0_hw14 => k0_hw14

def k0_chk15 (v202 : IVec S16 32) (v203 : IVec S16 32) : Prop :=
  (∀ a x, ((![v202, v203] : Fin 2 → IVec S16 32) a x).toNat < S64x128.size a)
theorem k0_idx7_inb : ∀ (v202 : IVec S16 32) (v203 : IVec S16 32) (k0_hw15 : k0_chk15 v202 v203), ∀ a x, ((![v202, v203] : Fin 2 → IVec S16 32) a x).toNat < S64x128.size a := fun v202 v203 k0_hw15 => k0_hw15

def k0_chk16 (v208 : IVec S16 32) (v209 : IVec S16 32) : Prop :=
  (∀ a x, ((![v208, v209] : Fin 2 → IVec S16 32) a x).toNat < S8x128.size a)
theorem k0_idx8_inb : ∀ (v208 : IVec S16 32) (v209 : IVec S16 32) (k0_hw16 : k0_chk16 v208 v209), ∀ a x, ((![v208, v209] : Fin 2 → IVec S16 32) a x).toNat < S8x128.size a := fun v208 v209 k0_hw16 => k0_hw16

def k0_chk17 (v221 : IVec S16 32) (v222 : IVec S16 32) : Prop :=
  (∀ a x, ((![v221, v222] : Fin 2 → IVec S16 32) a x).toNat < S64x128.size a)
theorem k0_idx9_inb : ∀ (v221 : IVec S16 32) (v222 : IVec S16 32) (k0_hw17 : k0_chk17 v221 v222), ∀ a x, ((![v221, v222] : Fin 2 → IVec S16 32) a x).toNat < S64x128.size a := fun v221 v222 k0_hw17 => k0_hw17

def k0_chk18 (v227 : IVec S16 32) (v228 : IVec S16 32) : Prop :=
  (∀ a x, ((![v227, v228] : Fin 2 → IVec S16 32) a x).toNat < S8x128.size a)
theorem k0_idx10_inb : ∀ (v227 : IVec S16 32) (v228 : IVec S16 32) (k0_hw18 : k0_chk18 v227 v228), ∀ a x, ((![v227, v228] : Fin 2 → IVec S16 32) a x).toNat < S8x128.size a := fun v227 v228 k0_hw18 => k0_hw18

def k0_chk19 (v240 : IVec S16 32) (v241 : IVec S16 32) : Prop :=
  (∀ a x, ((![v240, v241] : Fin 2 → IVec S16 32) a x).toNat < S64x128.size a)
theorem k0_idx11_inb : ∀ (v240 : IVec S16 32) (v241 : IVec S16 32) (k0_hw19 : k0_chk19 v240 v241), ∀ a x, ((![v240, v241] : Fin 2 → IVec S16 32) a x).toNat < S64x128.size a := fun v240 v241 k0_hw19 => k0_hw19

def k0_chk20 (v246 : IVec S16 32) (v247 : IVec S16 32) : Prop :=
  (∀ a x, ((![v246, v247] : Fin 2 → IVec S16 32) a x).toNat < S8x128.size a)
theorem k0_idx12_inb : ∀ (v246 : IVec S16 32) (v247 : IVec S16 32) (k0_hw20 : k0_chk20 v246 v247), ∀ a x, ((![v246, v247] : Fin 2 → IVec S16 32) a x).toNat < S8x128.size a := fun v246 v247 k0_hw20 => k0_hw20

def k0_chk21 (v259 : IVec S16 32) (v260 : IVec S16 32) : Prop :=
  (∀ a x, ((![v259, v260] : Fin 2 → IVec S16 32) a x).toNat < S64x128.size a)
theorem k0_idx13_inb : ∀ (v259 : IVec S16 32) (v260 : IVec S16 32) (k0_hw21 : k0_chk21 v259 v260), ∀ a x, ((![v259, v260] : Fin 2 → IVec S16 32) a x).toNat < S64x128.size a := fun v259 v260 k0_hw21 => k0_hw21

def k0_chk22 (v265 : IVec S16 32) (v266 : IVec S16 32) : Prop :=
  (∀ a x, ((![v265, v266] : Fin 2 → IVec S16 32) a x).toNat < S8x128.size a)
theorem k0_idx14_inb : ∀ (v265 : IVec S16 32) (v266 : IVec S16 32) (k0_hw22 : k0_chk22 v265 v266), ∀ a x, ((![v265, v266] : Fin 2 → IVec S16 32) a x).toNat < S8x128.size a := fun v265 v266 k0_hw22 => k0_hw22

def k0_chk23 (v278 : IVec S16 32) (v279 : IVec S16 32) : Prop :=
  (∀ a x, ((![v278, v279] : Fin 2 → IVec S16 32) a x).toNat < S64x128.size a)
theorem k0_idx15_inb : ∀ (v278 : IVec S16 32) (v279 : IVec S16 32) (k0_hw23 : k0_chk23 v278 v279), ∀ a x, ((![v278, v279] : Fin 2 → IVec S16 32) a x).toNat < S64x128.size a := fun v278 v279 k0_hw23 => k0_hw23

def k0_chk24 (v284 : IVec S16 32) (v285 : IVec S16 32) : Prop :=
  (∀ a x, ((![v284, v285] : Fin 2 → IVec S16 32) a x).toNat < S8x128.size a)
theorem k0_idx16_inb : ∀ (v284 : IVec S16 32) (v285 : IVec S16 32) (k0_hw24 : k0_chk24 v284 v285), ∀ a x, ((![v284, v285] : Fin 2 → IVec S16 32) a x).toNat < S8x128.size a := fun v284 v285 k0_hw24 => k0_hw24
@[reducible] def k0_t1_loop : Scf.Loop 32 :=
  let c0_i32_145 : BitVec 32 := 0#32
  let c7_i32_146 : BitVec 32 := 7#32
  let v290 : BitVec 32 := Scalar.addi c0_i32_145 c7_i32_146
  let c1_i32_147 : BitVec 32 := 1#32
  ⟨c0_i32_145, v290, c1_i32_147⟩
def k0_mult22 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  v2
def k0_off21 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v1281 : BitVec 32 := v2
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  ![v1281.toNat, v1280.toNat]
@[reducible] def k0_t2_loop (k0_t1 : Fin k0_t1_loop.trips) (v1287 : BitVec 32) : Scf.Loop 32 :=
  let c0_i32_545 : BitVec 32 := 0#32
  let c6400_i32_543 : BitVec 32 := 6400#32
  let c0_i32_542 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1288 : BitVec 32 := Scalar.subi v1287 v1280
  let v1289 : BitVec 32 := Scalar.maxsi c0_i32_542 v1288
  let v1290 : BitVec 32 := Scalar.minsi c6400_i32_543 v1289
  let c4_i32_544 : BitVec 32 := 4#32
  let v1291 : BitVec 32 := Scalar.shrui v1290 c4_i32_544
  let v1292 : BitVec 32 := Scalar.subi v1291 c0_i32_545
  let c1_i32_546 : BitVec 32 := 1#32
  let v1294 : BitVec 32 := Scalar.divsi v1292 c1_i32_546
  let v1295 : BitVec 32 := Scalar.muli v1294 c1_i32_546
  let v1296 : BitVec 32 := Scalar.addi c0_i32_545 v1295
  let c1_i32_547 : BitVec 32 := 1#32
  ⟨c0_i32_545, v1296, c1_i32_547⟩

def k0_mult23 (k0_t1 : Fin k0_t1_loop.trips) (v1287 : BitVec 32) (k0_t2 : Fin (k0_t2_loop k0_t1 v1287).trips) : BitVec 32 :=
  let c0_i32_545 : BitVec 32 := 0#32
  let c1_i32_547 : BitVec 32 := 1#32
  let arg27 : BitVec 32 := Scf.iv c0_i32_545 c1_i32_547 k0_t2
  let c16_i32_826 : BitVec 32 := 16#32
  let v1958 : BitVec 32 := Scalar.muli arg27 c16_i32_826
  v1958
def k0_off22 (k0_t1 : Fin k0_t1_loop.trips) (v1287 : BitVec 32) (k0_t2 : Fin (k0_t2_loop k0_t1 v1287).trips) : Fin 2 → Nat :=
  let c0_i32_827 : BitVec 32 := 0#32
  let v1960 : Index := Scalar.indexCast c0_i32_827
  let c0_i32_545 : BitVec 32 := 0#32
  let c1_i32_547 : BitVec 32 := 1#32
  let arg27 : BitVec 32 := Scf.iv c0_i32_545 c1_i32_547 k0_t2
  let c16_i32_826 : BitVec 32 := 16#32
  let v1958 : BitVec 32 := Scalar.muli arg27 c16_i32_826
  let v1959 : BitVec 32 := v1958
  let v1961 : Index := Scalar.indexCast v1959
  ![0, v1961.toNat]
@[reducible] def k0_t3_loop (k0_t1 : Fin k0_t1_loop.trips) (v1287 : BitVec 32) : Scf.Loop 32 :=
  let c0_i32_545 : BitVec 32 := 0#32
  let c6400_i32_543 : BitVec 32 := 6400#32
  let c0_i32_542 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1288 : BitVec 32 := Scalar.subi v1287 v1280
  let v1289 : BitVec 32 := Scalar.maxsi c0_i32_542 v1288
  let v1290 : BitVec 32 := Scalar.minsi c6400_i32_543 v1289
  let c4_i32_544 : BitVec 32 := 4#32
  let v1291 : BitVec 32 := Scalar.shrui v1290 c4_i32_544
  let v1292 : BitVec 32 := Scalar.subi v1291 c0_i32_545
  let c1_i32_546 : BitVec 32 := 1#32
  let v1294 : BitVec 32 := Scalar.divsi v1292 c1_i32_546
  let v1295 : BitVec 32 := Scalar.muli v1294 c1_i32_546
  let v1296 : BitVec 32 := Scalar.addi c0_i32_545 v1295
  let v1293 : BitVec 32 := Scalar.addi c0_i32_545 v1292
  let c1_i32_548 : BitVec 32 := 1#32
  ⟨v1296, v1293, c1_i32_548⟩
def k0_mult24 (k0_t1 : Fin k0_t1_loop.trips) (v1287 : BitVec 32) (k0_t3 : Fin (k0_t3_loop k0_t1 v1287).trips) : BitVec 32 :=
  let c0_i32_545 : BitVec 32 := 0#32
  let c6400_i32_543 : BitVec 32 := 6400#32
  let c0_i32_542 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1288 : BitVec 32 := Scalar.subi v1287 v1280
  let v1289 : BitVec 32 := Scalar.maxsi c0_i32_542 v1288
  let v1290 : BitVec 32 := Scalar.minsi c6400_i32_543 v1289
  let c4_i32_544 : BitVec 32 := 4#32
  let v1291 : BitVec 32 := Scalar.shrui v1290 c4_i32_544
  let v1292 : BitVec 32 := Scalar.subi v1291 c0_i32_545
  let c1_i32_546 : BitVec 32 := 1#32
  let v1294 : BitVec 32 := Scalar.divsi v1292 c1_i32_546
  let v1295 : BitVec 32 := Scalar.muli v1294 c1_i32_546
  let v1296 : BitVec 32 := Scalar.addi c0_i32_545 v1295
  let c1_i32_548 : BitVec 32 := 1#32
  let arg27 : BitVec 32 := Scf.iv v1296 c1_i32_548 k0_t3
  let c16_i32_826 : BitVec 32 := 16#32
  let v1958 : BitVec 32 := Scalar.muli arg27 c16_i32_826
  v1958
def k0_off23 (k0_t1 : Fin k0_t1_loop.trips) (v1287 : BitVec 32) (k0_t3 : Fin (k0_t3_loop k0_t1 v1287).trips) : Fin 2 → Nat :=
  let c0_i32_827 : BitVec 32 := 0#32
  let v1960 : Index := Scalar.indexCast c0_i32_827
  let c0_i32_545 : BitVec 32 := 0#32
  let c6400_i32_543 : BitVec 32 := 6400#32
  let c0_i32_542 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1288 : BitVec 32 := Scalar.subi v1287 v1280
  let v1289 : BitVec 32 := Scalar.maxsi c0_i32_542 v1288
  let v1290 : BitVec 32 := Scalar.minsi c6400_i32_543 v1289
  let c4_i32_544 : BitVec 32 := 4#32
  let v1291 : BitVec 32 := Scalar.shrui v1290 c4_i32_544
  let v1292 : BitVec 32 := Scalar.subi v1291 c0_i32_545
  let c1_i32_546 : BitVec 32 := 1#32
  let v1294 : BitVec 32 := Scalar.divsi v1292 c1_i32_546
  let v1295 : BitVec 32 := Scalar.muli v1294 c1_i32_546
  let v1296 : BitVec 32 := Scalar.addi c0_i32_545 v1295
  let c1_i32_548 : BitVec 32 := 1#32
  let arg27 : BitVec 32 := Scf.iv v1296 c1_i32_548 k0_t3
  let c16_i32_826 : BitVec 32 := 16#32
  let v1958 : BitVec 32 := Scalar.muli arg27 c16_i32_826
  let v1959 : BitVec 32 := v1958
  let v1961 : Index := Scalar.indexCast v1959
  ![0, v1961.toNat]
def k0_mult25 (k0_t1 : Fin k0_t1_loop.trips) (v1287 : BitVec 32) : BitVec 32 :=
  let c6400_i32_543 : BitVec 32 := 6400#32
  let c0_i32_542 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1288 : BitVec 32 := Scalar.subi v1287 v1280
  let v1289 : BitVec 32 := Scalar.maxsi c0_i32_542 v1288
  let v1290 : BitVec 32 := Scalar.minsi c6400_i32_543 v1289
  let c4_i32_544 : BitVec 32 := 4#32
  let v1291 : BitVec 32 := Scalar.shrui v1290 c4_i32_544
  let c399_i32_549 : BitVec 32 := 399#32
  let v1299 : BitVec 32 := Scalar.minsi v1291 c399_i32_549
  let c16_i32_550 : BitVec 32 := 16#32
  let v1300 : BitVec 32 := Scalar.muli v1299 c16_i32_550
  v1300
def k0_off24 (k0_t1 : Fin k0_t1_loop.trips) (v1287 : BitVec 32) : Fin 2 → Nat :=
  let c0_i32_551 : BitVec 32 := 0#32
  let v1302 : Index := Scalar.indexCast c0_i32_551
  let c6400_i32_543 : BitVec 32 := 6400#32
  let c0_i32_542 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1288 : BitVec 32 := Scalar.subi v1287 v1280
  let v1289 : BitVec 32 := Scalar.maxsi c0_i32_542 v1288
  let v1290 : BitVec 32 := Scalar.minsi c6400_i32_543 v1289
  let c4_i32_544 : BitVec 32 := 4#32
  let v1291 : BitVec 32 := Scalar.shrui v1290 c4_i32_544
  let c399_i32_549 : BitVec 32 := 399#32
  let v1299 : BitVec 32 := Scalar.minsi v1291 c399_i32_549
  let c16_i32_550 : BitVec 32 := 16#32
  let v1300 : BitVec 32 := Scalar.muli v1299 c16_i32_550
  let v1301 : BitVec 32 := v1300
  let v1303 : Index := Scalar.indexCast v1301
  ![0, v1303.toNat]
@[reducible] def k0_t4_loop (k0_t1 : Fin k0_t1_loop.trips) (v1287 : BitVec 32) : Scf.Loop 32 :=
  let c6400_i32_543 : BitVec 32 := 6400#32
  let c0_i32_542 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1288 : BitVec 32 := Scalar.subi v1287 v1280
  let v1289 : BitVec 32 := Scalar.maxsi c0_i32_542 v1288
  let v1290 : BitVec 32 := Scalar.minsi c6400_i32_543 v1289
  let c4_i32_544 : BitVec 32 := 4#32
  let v1291 : BitVec 32 := Scalar.shrui v1290 c4_i32_544
  let c1_i32_554 : BitVec 32 := 1#32
  let v1319 : BitVec 32 := Scalar.addi v1291 c1_i32_554
  let c400_i32_555 : BitVec 32 := 400#32
  let v1320 : BitVec 32 := Scalar.subi c400_i32_555 v1319
  let c1_i32_556 : BitVec 32 := 1#32
  let v1322 : BitVec 32 := Scalar.divsi v1320 c1_i32_556
  let v1323 : BitVec 32 := Scalar.muli v1322 c1_i32_556
  let v1324 : BitVec 32 := Scalar.addi v1319 v1323
  let c1_i32_557 : BitVec 32 := 1#32
  ⟨v1319, v1324, c1_i32_557⟩
def k0_mult26 (k0_t1 : Fin k0_t1_loop.trips) (v1287 : BitVec 32) (k0_t4 : Fin (k0_t4_loop k0_t1 v1287).trips) : BitVec 32 :=
  let c6400_i32_543 : BitVec 32 := 6400#32
  let c0_i32_542 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1288 : BitVec 32 := Scalar.subi v1287 v1280
  let v1289 : BitVec 32 := Scalar.maxsi c0_i32_542 v1288
  let v1290 : BitVec 32 := Scalar.minsi c6400_i32_543 v1289
  let c4_i32_544 : BitVec 32 := 4#32
  let v1291 : BitVec 32 := Scalar.shrui v1290 c4_i32_544
  let c1_i32_554 : BitVec 32 := 1#32
  let v1319 : BitVec 32 := Scalar.addi v1291 c1_i32_554
  let c1_i32_557 : BitVec 32 := 1#32
  let arg27 : BitVec 32 := Scf.iv v1319 c1_i32_557 k0_t4
  let c16_i32_826 : BitVec 32 := 16#32
  let v1958 : BitVec 32 := Scalar.muli arg27 c16_i32_826
  v1958
def k0_off25 (k0_t1 : Fin k0_t1_loop.trips) (v1287 : BitVec 32) (k0_t4 : Fin (k0_t4_loop k0_t1 v1287).trips) : Fin 2 → Nat :=
  let c0_i32_827 : BitVec 32 := 0#32
  let v1960 : Index := Scalar.indexCast c0_i32_827
  let c6400_i32_543 : BitVec 32 := 6400#32
  let c0_i32_542 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1288 : BitVec 32 := Scalar.subi v1287 v1280
  let v1289 : BitVec 32 := Scalar.maxsi c0_i32_542 v1288
  let v1290 : BitVec 32 := Scalar.minsi c6400_i32_543 v1289
  let c4_i32_544 : BitVec 32 := 4#32
  let v1291 : BitVec 32 := Scalar.shrui v1290 c4_i32_544
  let c1_i32_554 : BitVec 32 := 1#32
  let v1319 : BitVec 32 := Scalar.addi v1291 c1_i32_554
  let c1_i32_557 : BitVec 32 := 1#32
  let arg27 : BitVec 32 := Scf.iv v1319 c1_i32_557 k0_t4
  let c16_i32_826 : BitVec 32 := 16#32
  let v1958 : BitVec 32 := Scalar.muli arg27 c16_i32_826
  let v1959 : BitVec 32 := v1958
  let v1961 : Index := Scalar.indexCast v1959
  ![0, v1961.toNat]
@[reducible] def k0_t5_loop (k0_t1 : Fin k0_t1_loop.trips) (v1287 : BitVec 32) : Scf.Loop 32 :=
  let c6400_i32_543 : BitVec 32 := 6400#32
  let c0_i32_542 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1288 : BitVec 32 := Scalar.subi v1287 v1280
  let v1289 : BitVec 32 := Scalar.maxsi c0_i32_542 v1288
  let v1290 : BitVec 32 := Scalar.minsi c6400_i32_543 v1289
  let c4_i32_544 : BitVec 32 := 4#32
  let v1291 : BitVec 32 := Scalar.shrui v1290 c4_i32_544
  let c1_i32_554 : BitVec 32 := 1#32
  let v1319 : BitVec 32 := Scalar.addi v1291 c1_i32_554
  let c400_i32_555 : BitVec 32 := 400#32
  let v1320 : BitVec 32 := Scalar.subi c400_i32_555 v1319
  let c1_i32_556 : BitVec 32 := 1#32
  let v1322 : BitVec 32 := Scalar.divsi v1320 c1_i32_556
  let v1323 : BitVec 32 := Scalar.muli v1322 c1_i32_556
  let v1324 : BitVec 32 := Scalar.addi v1319 v1323
  let v1321 : BitVec 32 := Scalar.addi v1319 v1320
  let c1_i32_558 : BitVec 32 := 1#32
  ⟨v1324, v1321, c1_i32_558⟩
def k0_mult27 (k0_t1 : Fin k0_t1_loop.trips) (v1287 : BitVec 32) (k0_t5 : Fin (k0_t5_loop k0_t1 v1287).trips) : BitVec 32 :=
  let c6400_i32_543 : BitVec 32 := 6400#32
  let c0_i32_542 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1288 : BitVec 32 := Scalar.subi v1287 v1280
  let v1289 : BitVec 32 := Scalar.maxsi c0_i32_542 v1288
  let v1290 : BitVec 32 := Scalar.minsi c6400_i32_543 v1289
  let c4_i32_544 : BitVec 32 := 4#32
  let v1291 : BitVec 32 := Scalar.shrui v1290 c4_i32_544
  let c1_i32_554 : BitVec 32 := 1#32
  let v1319 : BitVec 32 := Scalar.addi v1291 c1_i32_554
  let c400_i32_555 : BitVec 32 := 400#32
  let v1320 : BitVec 32 := Scalar.subi c400_i32_555 v1319
  let c1_i32_556 : BitVec 32 := 1#32
  let v1322 : BitVec 32 := Scalar.divsi v1320 c1_i32_556
  let v1323 : BitVec 32 := Scalar.muli v1322 c1_i32_556
  let v1324 : BitVec 32 := Scalar.addi v1319 v1323
  let c1_i32_558 : BitVec 32 := 1#32
  let arg27 : BitVec 32 := Scf.iv v1324 c1_i32_558 k0_t5
  let c16_i32_826 : BitVec 32 := 16#32
  let v1958 : BitVec 32 := Scalar.muli arg27 c16_i32_826
  v1958
def k0_off26 (k0_t1 : Fin k0_t1_loop.trips) (v1287 : BitVec 32) (k0_t5 : Fin (k0_t5_loop k0_t1 v1287).trips) : Fin 2 → Nat :=
  let c0_i32_827 : BitVec 32 := 0#32
  let v1960 : Index := Scalar.indexCast c0_i32_827
  let c6400_i32_543 : BitVec 32 := 6400#32
  let c0_i32_542 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1288 : BitVec 32 := Scalar.subi v1287 v1280
  let v1289 : BitVec 32 := Scalar.maxsi c0_i32_542 v1288
  let v1290 : BitVec 32 := Scalar.minsi c6400_i32_543 v1289
  let c4_i32_544 : BitVec 32 := 4#32
  let v1291 : BitVec 32 := Scalar.shrui v1290 c4_i32_544
  let c1_i32_554 : BitVec 32 := 1#32
  let v1319 : BitVec 32 := Scalar.addi v1291 c1_i32_554
  let c400_i32_555 : BitVec 32 := 400#32
  let v1320 : BitVec 32 := Scalar.subi c400_i32_555 v1319
  let c1_i32_556 : BitVec 32 := 1#32
  let v1322 : BitVec 32 := Scalar.divsi v1320 c1_i32_556
  let v1323 : BitVec 32 := Scalar.muli v1322 c1_i32_556
  let v1324 : BitVec 32 := Scalar.addi v1319 v1323
  let c1_i32_558 : BitVec 32 := 1#32
  let arg27 : BitVec 32 := Scf.iv v1324 c1_i32_558 k0_t5
  let c16_i32_826 : BitVec 32 := 16#32
  let v1958 : BitVec 32 := Scalar.muli arg27 c16_i32_826
  let v1959 : BitVec 32 := v1958
  let v1961 : Index := Scalar.indexCast v1959
  ![0, v1961.toNat]

def k0_chk25 (k0_t1 : Fin k0_t1_loop.trips) (v1287 : BitVec 32) : Prop :=
  ((k0_t2_loop k0_t1 v1287).OK) ∧
  (∀ k0_t2 : Fin (k0_t2_loop k0_t1 v1287).trips, 16 ∣ (k0_mult23 k0_t1 v1287 k0_t2).toNat) ∧
  (∀ k0_t2 : Fin (k0_t2_loop k0_t1 v1287).trips, ∀ a, (k0_off22 k0_t1 v1287 k0_t2) a + S1x16.size a ≤ S8x6400.size a) ∧
  ((k0_t3_loop k0_t1 v1287).OK) ∧
  (∀ k0_t3 : Fin (k0_t3_loop k0_t1 v1287).trips, 16 ∣ (k0_mult24 k0_t1 v1287 k0_t3).toNat) ∧
  (∀ k0_t3 : Fin (k0_t3_loop k0_t1 v1287).trips, ∀ a, (k0_off23 k0_t1 v1287 k0_t3) a + S1x16.size a ≤ S8x6400.size a) ∧
  (16 ∣ (k0_mult25 k0_t1 v1287).toNat) ∧
  (∀ a, (k0_off24 k0_t1 v1287) a + S1x16.size a ≤ S8x6400.size a) ∧
  ((k0_t4_loop k0_t1 v1287).OK) ∧
  (∀ k0_t4 : Fin (k0_t4_loop k0_t1 v1287).trips, 16 ∣ (k0_mult26 k0_t1 v1287 k0_t4).toNat) ∧
  (∀ k0_t4 : Fin (k0_t4_loop k0_t1 v1287).trips, ∀ a, (k0_off25 k0_t1 v1287 k0_t4) a + S1x16.size a ≤ S8x6400.size a) ∧
  ((k0_t5_loop k0_t1 v1287).OK) ∧
  (∀ k0_t5 : Fin (k0_t5_loop k0_t1 v1287).trips, 16 ∣ (k0_mult27 k0_t1 v1287 k0_t5).toNat) ∧
  (∀ k0_t5 : Fin (k0_t5_loop k0_t1 v1287).trips, ∀ a, (k0_off26 k0_t1 v1287 k0_t5) a + S1x16.size a ≤ S8x6400.size a)
theorem k0_t2_ok : ∀ (k0_t1 : Fin k0_t1_loop.trips) (v1287 : BitVec 32) (k0_hw25 : k0_chk25 k0_t1 v1287), (k0_t2_loop k0_t1 v1287).OK := fun k0_t1 v1287 k0_hw25 => k0_hw25.1
theorem k0_mult23_dvd : ∀ (k0_t1 : Fin k0_t1_loop.trips) (v1287 : BitVec 32) (k0_hw25 : k0_chk25 k0_t1 v1287) (k0_t2 : Fin (k0_t2_loop k0_t1 v1287).trips), 16 ∣ (k0_mult23 k0_t1 v1287 k0_t2).toNat := fun k0_t1 v1287 k0_hw25 k0_t2 => k0_hw25.2.1 k0_t2
theorem k0_off22_inb : ∀ (k0_t1 : Fin k0_t1_loop.trips) (v1287 : BitVec 32) (k0_hw25 : k0_chk25 k0_t1 v1287) (k0_t2 : Fin (k0_t2_loop k0_t1 v1287).trips), ∀ a, (k0_off22 k0_t1 v1287 k0_t2) a + S1x16.size a ≤ S8x6400.size a := fun k0_t1 v1287 k0_hw25 k0_t2 => k0_hw25.2.2.1 k0_t2
theorem k0_t3_ok : ∀ (k0_t1 : Fin k0_t1_loop.trips) (v1287 : BitVec 32) (k0_hw25 : k0_chk25 k0_t1 v1287), (k0_t3_loop k0_t1 v1287).OK := fun k0_t1 v1287 k0_hw25 => k0_hw25.2.2.2.1
theorem k0_mult24_dvd : ∀ (k0_t1 : Fin k0_t1_loop.trips) (v1287 : BitVec 32) (k0_hw25 : k0_chk25 k0_t1 v1287) (k0_t3 : Fin (k0_t3_loop k0_t1 v1287).trips), 16 ∣ (k0_mult24 k0_t1 v1287 k0_t3).toNat := fun k0_t1 v1287 k0_hw25 k0_t3 => k0_hw25.2.2.2.2.1 k0_t3
theorem k0_off23_inb : ∀ (k0_t1 : Fin k0_t1_loop.trips) (v1287 : BitVec 32) (k0_hw25 : k0_chk25 k0_t1 v1287) (k0_t3 : Fin (k0_t3_loop k0_t1 v1287).trips), ∀ a, (k0_off23 k0_t1 v1287 k0_t3) a + S1x16.size a ≤ S8x6400.size a := fun k0_t1 v1287 k0_hw25 k0_t3 => k0_hw25.2.2.2.2.2.1 k0_t3
theorem k0_mult25_dvd : ∀ (k0_t1 : Fin k0_t1_loop.trips) (v1287 : BitVec 32) (k0_hw25 : k0_chk25 k0_t1 v1287), 16 ∣ (k0_mult25 k0_t1 v1287).toNat := fun k0_t1 v1287 k0_hw25 => k0_hw25.2.2.2.2.2.2.1
theorem k0_off24_inb : ∀ (k0_t1 : Fin k0_t1_loop.trips) (v1287 : BitVec 32) (k0_hw25 : k0_chk25 k0_t1 v1287), ∀ a, (k0_off24 k0_t1 v1287) a + S1x16.size a ≤ S8x6400.size a := fun k0_t1 v1287 k0_hw25 => k0_hw25.2.2.2.2.2.2.2.1
theorem k0_t4_ok : ∀ (k0_t1 : Fin k0_t1_loop.trips) (v1287 : BitVec 32) (k0_hw25 : k0_chk25 k0_t1 v1287), (k0_t4_loop k0_t1 v1287).OK := fun k0_t1 v1287 k0_hw25 => k0_hw25.2.2.2.2.2.2.2.2.1
theorem k0_mult26_dvd : ∀ (k0_t1 : Fin k0_t1_loop.trips) (v1287 : BitVec 32) (k0_hw25 : k0_chk25 k0_t1 v1287) (k0_t4 : Fin (k0_t4_loop k0_t1 v1287).trips), 16 ∣ (k0_mult26 k0_t1 v1287 k0_t4).toNat := fun k0_t1 v1287 k0_hw25 k0_t4 => k0_hw25.2.2.2.2.2.2.2.2.2.1 k0_t4
theorem k0_off25_inb : ∀ (k0_t1 : Fin k0_t1_loop.trips) (v1287 : BitVec 32) (k0_hw25 : k0_chk25 k0_t1 v1287) (k0_t4 : Fin (k0_t4_loop k0_t1 v1287).trips), ∀ a, (k0_off25 k0_t1 v1287 k0_t4) a + S1x16.size a ≤ S8x6400.size a := fun k0_t1 v1287 k0_hw25 k0_t4 => k0_hw25.2.2.2.2.2.2.2.2.2.2.1 k0_t4
theorem k0_t5_ok : ∀ (k0_t1 : Fin k0_t1_loop.trips) (v1287 : BitVec 32) (k0_hw25 : k0_chk25 k0_t1 v1287), (k0_t5_loop k0_t1 v1287).OK := fun k0_t1 v1287 k0_hw25 => k0_hw25.2.2.2.2.2.2.2.2.2.2.2.1
theorem k0_mult27_dvd : ∀ (k0_t1 : Fin k0_t1_loop.trips) (v1287 : BitVec 32) (k0_hw25 : k0_chk25 k0_t1 v1287) (k0_t5 : Fin (k0_t5_loop k0_t1 v1287).trips), 16 ∣ (k0_mult27 k0_t1 v1287 k0_t5).toNat := fun k0_t1 v1287 k0_hw25 k0_t5 => k0_hw25.2.2.2.2.2.2.2.2.2.2.2.2.1 k0_t5
theorem k0_off26_inb : ∀ (k0_t1 : Fin k0_t1_loop.trips) (v1287 : BitVec 32) (k0_hw25 : k0_chk25 k0_t1 v1287) (k0_t5 : Fin (k0_t5_loop k0_t1 v1287).trips), ∀ a, (k0_off26 k0_t1 v1287 k0_t5) a + S1x16.size a ≤ S8x6400.size a := fun k0_t1 v1287 k0_hw25 k0_t5 => k0_hw25.2.2.2.2.2.2.2.2.2.2.2.2.2 k0_t5

@[reducible] def k0_t6_loop (k0_t1 : Fin k0_t1_loop.trips) (v1328 : BitVec 32) : Scf.Loop 32 :=
  let c0_i32_562 : BitVec 32 := 0#32
  let c6400_i32_560 : BitVec 32 := 6400#32
  let c0_i32_559 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1329 : BitVec 32 := Scalar.subi v1328 v1280
  let v1330 : BitVec 32 := Scalar.maxsi c0_i32_559 v1329
  let v1331 : BitVec 32 := Scalar.minsi c6400_i32_560 v1330
  let c4_i32_561 : BitVec 32 := 4#32
  let v1332 : BitVec 32 := Scalar.shrui v1331 c4_i32_561
  let v1333 : BitVec 32 := Scalar.subi v1332 c0_i32_562
  let c1_i32_563 : BitVec 32 := 1#32
  let v1335 : BitVec 32 := Scalar.divsi v1333 c1_i32_563
  let v1336 : BitVec 32 := Scalar.muli v1335 c1_i32_563
  let v1337 : BitVec 32 := Scalar.addi c0_i32_562 v1336
  let c1_i32_564 : BitVec 32 := 1#32
  ⟨c0_i32_562, v1337, c1_i32_564⟩

def k0_mult28 (k0_t1 : Fin k0_t1_loop.trips) (v1328 : BitVec 32) (k0_t6 : Fin (k0_t6_loop k0_t1 v1328).trips) : BitVec 32 :=
  let c0_i32_562 : BitVec 32 := 0#32
  let c1_i32_564 : BitVec 32 := 1#32
  let arg27 : BitVec 32 := Scf.iv c0_i32_562 c1_i32_564 k0_t6
  let c16_i32_826 : BitVec 32 := 16#32
  let v1958 : BitVec 32 := Scalar.muli arg27 c16_i32_826
  v1958
def k0_off27 (k0_t1 : Fin k0_t1_loop.trips) (v1328 : BitVec 32) (k0_t6 : Fin (k0_t6_loop k0_t1 v1328).trips) : Fin 2 → Nat :=
  let c1_i32_827 : BitVec 32 := 1#32
  let v1960 : Index := Scalar.indexCast c1_i32_827
  let c0_i32_562 : BitVec 32 := 0#32
  let c1_i32_564 : BitVec 32 := 1#32
  let arg27 : BitVec 32 := Scf.iv c0_i32_562 c1_i32_564 k0_t6
  let c16_i32_826 : BitVec 32 := 16#32
  let v1958 : BitVec 32 := Scalar.muli arg27 c16_i32_826
  let v1959 : BitVec 32 := v1958
  let v1961 : Index := Scalar.indexCast v1959
  ![1, v1961.toNat]
@[reducible] def k0_t7_loop (k0_t1 : Fin k0_t1_loop.trips) (v1328 : BitVec 32) : Scf.Loop 32 :=
  let c0_i32_562 : BitVec 32 := 0#32
  let c6400_i32_560 : BitVec 32 := 6400#32
  let c0_i32_559 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1329 : BitVec 32 := Scalar.subi v1328 v1280
  let v1330 : BitVec 32 := Scalar.maxsi c0_i32_559 v1329
  let v1331 : BitVec 32 := Scalar.minsi c6400_i32_560 v1330
  let c4_i32_561 : BitVec 32 := 4#32
  let v1332 : BitVec 32 := Scalar.shrui v1331 c4_i32_561
  let v1333 : BitVec 32 := Scalar.subi v1332 c0_i32_562
  let c1_i32_563 : BitVec 32 := 1#32
  let v1335 : BitVec 32 := Scalar.divsi v1333 c1_i32_563
  let v1336 : BitVec 32 := Scalar.muli v1335 c1_i32_563
  let v1337 : BitVec 32 := Scalar.addi c0_i32_562 v1336
  let v1334 : BitVec 32 := Scalar.addi c0_i32_562 v1333
  let c1_i32_565 : BitVec 32 := 1#32
  ⟨v1337, v1334, c1_i32_565⟩
def k0_mult29 (k0_t1 : Fin k0_t1_loop.trips) (v1328 : BitVec 32) (k0_t7 : Fin (k0_t7_loop k0_t1 v1328).trips) : BitVec 32 :=
  let c0_i32_562 : BitVec 32 := 0#32
  let c6400_i32_560 : BitVec 32 := 6400#32
  let c0_i32_559 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1329 : BitVec 32 := Scalar.subi v1328 v1280
  let v1330 : BitVec 32 := Scalar.maxsi c0_i32_559 v1329
  let v1331 : BitVec 32 := Scalar.minsi c6400_i32_560 v1330
  let c4_i32_561 : BitVec 32 := 4#32
  let v1332 : BitVec 32 := Scalar.shrui v1331 c4_i32_561
  let v1333 : BitVec 32 := Scalar.subi v1332 c0_i32_562
  let c1_i32_563 : BitVec 32 := 1#32
  let v1335 : BitVec 32 := Scalar.divsi v1333 c1_i32_563
  let v1336 : BitVec 32 := Scalar.muli v1335 c1_i32_563
  let v1337 : BitVec 32 := Scalar.addi c0_i32_562 v1336
  let c1_i32_565 : BitVec 32 := 1#32
  let arg27 : BitVec 32 := Scf.iv v1337 c1_i32_565 k0_t7
  let c16_i32_826 : BitVec 32 := 16#32
  let v1958 : BitVec 32 := Scalar.muli arg27 c16_i32_826
  v1958
def k0_off28 (k0_t1 : Fin k0_t1_loop.trips) (v1328 : BitVec 32) (k0_t7 : Fin (k0_t7_loop k0_t1 v1328).trips) : Fin 2 → Nat :=
  let c1_i32_827 : BitVec 32 := 1#32
  let v1960 : Index := Scalar.indexCast c1_i32_827
  let c0_i32_562 : BitVec 32 := 0#32
  let c6400_i32_560 : BitVec 32 := 6400#32
  let c0_i32_559 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1329 : BitVec 32 := Scalar.subi v1328 v1280
  let v1330 : BitVec 32 := Scalar.maxsi c0_i32_559 v1329
  let v1331 : BitVec 32 := Scalar.minsi c6400_i32_560 v1330
  let c4_i32_561 : BitVec 32 := 4#32
  let v1332 : BitVec 32 := Scalar.shrui v1331 c4_i32_561
  let v1333 : BitVec 32 := Scalar.subi v1332 c0_i32_562
  let c1_i32_563 : BitVec 32 := 1#32
  let v1335 : BitVec 32 := Scalar.divsi v1333 c1_i32_563
  let v1336 : BitVec 32 := Scalar.muli v1335 c1_i32_563
  let v1337 : BitVec 32 := Scalar.addi c0_i32_562 v1336
  let c1_i32_565 : BitVec 32 := 1#32
  let arg27 : BitVec 32 := Scf.iv v1337 c1_i32_565 k0_t7
  let c16_i32_826 : BitVec 32 := 16#32
  let v1958 : BitVec 32 := Scalar.muli arg27 c16_i32_826
  let v1959 : BitVec 32 := v1958
  let v1961 : Index := Scalar.indexCast v1959
  ![1, v1961.toNat]
def k0_mult30 (k0_t1 : Fin k0_t1_loop.trips) (v1328 : BitVec 32) : BitVec 32 :=
  let c6400_i32_560 : BitVec 32 := 6400#32
  let c0_i32_559 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1329 : BitVec 32 := Scalar.subi v1328 v1280
  let v1330 : BitVec 32 := Scalar.maxsi c0_i32_559 v1329
  let v1331 : BitVec 32 := Scalar.minsi c6400_i32_560 v1330
  let c4_i32_561 : BitVec 32 := 4#32
  let v1332 : BitVec 32 := Scalar.shrui v1331 c4_i32_561
  let c399_i32_566 : BitVec 32 := 399#32
  let v1340 : BitVec 32 := Scalar.minsi v1332 c399_i32_566
  let c16_i32_567 : BitVec 32 := 16#32
  let v1341 : BitVec 32 := Scalar.muli v1340 c16_i32_567
  v1341
def k0_off29 (k0_t1 : Fin k0_t1_loop.trips) (v1328 : BitVec 32) : Fin 2 → Nat :=
  let c1_i32_568 : BitVec 32 := 1#32
  let v1343 : Index := Scalar.indexCast c1_i32_568
  let c6400_i32_560 : BitVec 32 := 6400#32
  let c0_i32_559 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1329 : BitVec 32 := Scalar.subi v1328 v1280
  let v1330 : BitVec 32 := Scalar.maxsi c0_i32_559 v1329
  let v1331 : BitVec 32 := Scalar.minsi c6400_i32_560 v1330
  let c4_i32_561 : BitVec 32 := 4#32
  let v1332 : BitVec 32 := Scalar.shrui v1331 c4_i32_561
  let c399_i32_566 : BitVec 32 := 399#32
  let v1340 : BitVec 32 := Scalar.minsi v1332 c399_i32_566
  let c16_i32_567 : BitVec 32 := 16#32
  let v1341 : BitVec 32 := Scalar.muli v1340 c16_i32_567
  let v1342 : BitVec 32 := v1341
  let v1344 : Index := Scalar.indexCast v1342
  ![1, v1344.toNat]
@[reducible] def k0_t8_loop (k0_t1 : Fin k0_t1_loop.trips) (v1328 : BitVec 32) : Scf.Loop 32 :=
  let c6400_i32_560 : BitVec 32 := 6400#32
  let c0_i32_559 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1329 : BitVec 32 := Scalar.subi v1328 v1280
  let v1330 : BitVec 32 := Scalar.maxsi c0_i32_559 v1329
  let v1331 : BitVec 32 := Scalar.minsi c6400_i32_560 v1330
  let c4_i32_561 : BitVec 32 := 4#32
  let v1332 : BitVec 32 := Scalar.shrui v1331 c4_i32_561
  let c1_i32_571 : BitVec 32 := 1#32
  let v1360 : BitVec 32 := Scalar.addi v1332 c1_i32_571
  let c400_i32_572 : BitVec 32 := 400#32
  let v1361 : BitVec 32 := Scalar.subi c400_i32_572 v1360
  let c1_i32_573 : BitVec 32 := 1#32
  let v1363 : BitVec 32 := Scalar.divsi v1361 c1_i32_573
  let v1364 : BitVec 32 := Scalar.muli v1363 c1_i32_573
  let v1365 : BitVec 32 := Scalar.addi v1360 v1364
  let c1_i32_574 : BitVec 32 := 1#32
  ⟨v1360, v1365, c1_i32_574⟩
def k0_mult31 (k0_t1 : Fin k0_t1_loop.trips) (v1328 : BitVec 32) (k0_t8 : Fin (k0_t8_loop k0_t1 v1328).trips) : BitVec 32 :=
  let c6400_i32_560 : BitVec 32 := 6400#32
  let c0_i32_559 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1329 : BitVec 32 := Scalar.subi v1328 v1280
  let v1330 : BitVec 32 := Scalar.maxsi c0_i32_559 v1329
  let v1331 : BitVec 32 := Scalar.minsi c6400_i32_560 v1330
  let c4_i32_561 : BitVec 32 := 4#32
  let v1332 : BitVec 32 := Scalar.shrui v1331 c4_i32_561
  let c1_i32_571 : BitVec 32 := 1#32
  let v1360 : BitVec 32 := Scalar.addi v1332 c1_i32_571
  let c1_i32_574 : BitVec 32 := 1#32
  let arg27 : BitVec 32 := Scf.iv v1360 c1_i32_574 k0_t8
  let c16_i32_826 : BitVec 32 := 16#32
  let v1958 : BitVec 32 := Scalar.muli arg27 c16_i32_826
  v1958
def k0_off30 (k0_t1 : Fin k0_t1_loop.trips) (v1328 : BitVec 32) (k0_t8 : Fin (k0_t8_loop k0_t1 v1328).trips) : Fin 2 → Nat :=
  let c1_i32_827 : BitVec 32 := 1#32
  let v1960 : Index := Scalar.indexCast c1_i32_827
  let c6400_i32_560 : BitVec 32 := 6400#32
  let c0_i32_559 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1329 : BitVec 32 := Scalar.subi v1328 v1280
  let v1330 : BitVec 32 := Scalar.maxsi c0_i32_559 v1329
  let v1331 : BitVec 32 := Scalar.minsi c6400_i32_560 v1330
  let c4_i32_561 : BitVec 32 := 4#32
  let v1332 : BitVec 32 := Scalar.shrui v1331 c4_i32_561
  let c1_i32_571 : BitVec 32 := 1#32
  let v1360 : BitVec 32 := Scalar.addi v1332 c1_i32_571
  let c1_i32_574 : BitVec 32 := 1#32
  let arg27 : BitVec 32 := Scf.iv v1360 c1_i32_574 k0_t8
  let c16_i32_826 : BitVec 32 := 16#32
  let v1958 : BitVec 32 := Scalar.muli arg27 c16_i32_826
  let v1959 : BitVec 32 := v1958
  let v1961 : Index := Scalar.indexCast v1959
  ![1, v1961.toNat]
@[reducible] def k0_t9_loop (k0_t1 : Fin k0_t1_loop.trips) (v1328 : BitVec 32) : Scf.Loop 32 :=
  let c6400_i32_560 : BitVec 32 := 6400#32
  let c0_i32_559 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1329 : BitVec 32 := Scalar.subi v1328 v1280
  let v1330 : BitVec 32 := Scalar.maxsi c0_i32_559 v1329
  let v1331 : BitVec 32 := Scalar.minsi c6400_i32_560 v1330
  let c4_i32_561 : BitVec 32 := 4#32
  let v1332 : BitVec 32 := Scalar.shrui v1331 c4_i32_561
  let c1_i32_571 : BitVec 32 := 1#32
  let v1360 : BitVec 32 := Scalar.addi v1332 c1_i32_571
  let c400_i32_572 : BitVec 32 := 400#32
  let v1361 : BitVec 32 := Scalar.subi c400_i32_572 v1360
  let c1_i32_573 : BitVec 32 := 1#32
  let v1363 : BitVec 32 := Scalar.divsi v1361 c1_i32_573
  let v1364 : BitVec 32 := Scalar.muli v1363 c1_i32_573
  let v1365 : BitVec 32 := Scalar.addi v1360 v1364
  let v1362 : BitVec 32 := Scalar.addi v1360 v1361
  let c1_i32_575 : BitVec 32 := 1#32
  ⟨v1365, v1362, c1_i32_575⟩
def k0_mult32 (k0_t1 : Fin k0_t1_loop.trips) (v1328 : BitVec 32) (k0_t9 : Fin (k0_t9_loop k0_t1 v1328).trips) : BitVec 32 :=
  let c6400_i32_560 : BitVec 32 := 6400#32
  let c0_i32_559 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1329 : BitVec 32 := Scalar.subi v1328 v1280
  let v1330 : BitVec 32 := Scalar.maxsi c0_i32_559 v1329
  let v1331 : BitVec 32 := Scalar.minsi c6400_i32_560 v1330
  let c4_i32_561 : BitVec 32 := 4#32
  let v1332 : BitVec 32 := Scalar.shrui v1331 c4_i32_561
  let c1_i32_571 : BitVec 32 := 1#32
  let v1360 : BitVec 32 := Scalar.addi v1332 c1_i32_571
  let c400_i32_572 : BitVec 32 := 400#32
  let v1361 : BitVec 32 := Scalar.subi c400_i32_572 v1360
  let c1_i32_573 : BitVec 32 := 1#32
  let v1363 : BitVec 32 := Scalar.divsi v1361 c1_i32_573
  let v1364 : BitVec 32 := Scalar.muli v1363 c1_i32_573
  let v1365 : BitVec 32 := Scalar.addi v1360 v1364
  let c1_i32_575 : BitVec 32 := 1#32
  let arg27 : BitVec 32 := Scf.iv v1365 c1_i32_575 k0_t9
  let c16_i32_826 : BitVec 32 := 16#32
  let v1958 : BitVec 32 := Scalar.muli arg27 c16_i32_826
  v1958
def k0_off31 (k0_t1 : Fin k0_t1_loop.trips) (v1328 : BitVec 32) (k0_t9 : Fin (k0_t9_loop k0_t1 v1328).trips) : Fin 2 → Nat :=
  let c1_i32_827 : BitVec 32 := 1#32
  let v1960 : Index := Scalar.indexCast c1_i32_827
  let c6400_i32_560 : BitVec 32 := 6400#32
  let c0_i32_559 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1329 : BitVec 32 := Scalar.subi v1328 v1280
  let v1330 : BitVec 32 := Scalar.maxsi c0_i32_559 v1329
  let v1331 : BitVec 32 := Scalar.minsi c6400_i32_560 v1330
  let c4_i32_561 : BitVec 32 := 4#32
  let v1332 : BitVec 32 := Scalar.shrui v1331 c4_i32_561
  let c1_i32_571 : BitVec 32 := 1#32
  let v1360 : BitVec 32 := Scalar.addi v1332 c1_i32_571
  let c400_i32_572 : BitVec 32 := 400#32
  let v1361 : BitVec 32 := Scalar.subi c400_i32_572 v1360
  let c1_i32_573 : BitVec 32 := 1#32
  let v1363 : BitVec 32 := Scalar.divsi v1361 c1_i32_573
  let v1364 : BitVec 32 := Scalar.muli v1363 c1_i32_573
  let v1365 : BitVec 32 := Scalar.addi v1360 v1364
  let c1_i32_575 : BitVec 32 := 1#32
  let arg27 : BitVec 32 := Scf.iv v1365 c1_i32_575 k0_t9
  let c16_i32_826 : BitVec 32 := 16#32
  let v1958 : BitVec 32 := Scalar.muli arg27 c16_i32_826
  let v1959 : BitVec 32 := v1958
  let v1961 : Index := Scalar.indexCast v1959
  ![1, v1961.toNat]

def k0_chk26 (k0_t1 : Fin k0_t1_loop.trips) (v1328 : BitVec 32) : Prop :=
  ((k0_t6_loop k0_t1 v1328).OK) ∧
  (∀ k0_t6 : Fin (k0_t6_loop k0_t1 v1328).trips, 16 ∣ (k0_mult28 k0_t1 v1328 k0_t6).toNat) ∧
  (∀ k0_t6 : Fin (k0_t6_loop k0_t1 v1328).trips, ∀ a, (k0_off27 k0_t1 v1328 k0_t6) a + S1x16.size a ≤ S8x6400.size a) ∧
  ((k0_t7_loop k0_t1 v1328).OK) ∧
  (∀ k0_t7 : Fin (k0_t7_loop k0_t1 v1328).trips, 16 ∣ (k0_mult29 k0_t1 v1328 k0_t7).toNat) ∧
  (∀ k0_t7 : Fin (k0_t7_loop k0_t1 v1328).trips, ∀ a, (k0_off28 k0_t1 v1328 k0_t7) a + S1x16.size a ≤ S8x6400.size a) ∧
  (16 ∣ (k0_mult30 k0_t1 v1328).toNat) ∧
  (∀ a, (k0_off29 k0_t1 v1328) a + S1x16.size a ≤ S8x6400.size a) ∧
  ((k0_t8_loop k0_t1 v1328).OK) ∧
  (∀ k0_t8 : Fin (k0_t8_loop k0_t1 v1328).trips, 16 ∣ (k0_mult31 k0_t1 v1328 k0_t8).toNat) ∧
  (∀ k0_t8 : Fin (k0_t8_loop k0_t1 v1328).trips, ∀ a, (k0_off30 k0_t1 v1328 k0_t8) a + S1x16.size a ≤ S8x6400.size a) ∧
  ((k0_t9_loop k0_t1 v1328).OK) ∧
  (∀ k0_t9 : Fin (k0_t9_loop k0_t1 v1328).trips, 16 ∣ (k0_mult32 k0_t1 v1328 k0_t9).toNat) ∧
  (∀ k0_t9 : Fin (k0_t9_loop k0_t1 v1328).trips, ∀ a, (k0_off31 k0_t1 v1328 k0_t9) a + S1x16.size a ≤ S8x6400.size a)
theorem k0_t6_ok : ∀ (k0_t1 : Fin k0_t1_loop.trips) (v1328 : BitVec 32) (k0_hw26 : k0_chk26 k0_t1 v1328), (k0_t6_loop k0_t1 v1328).OK := fun k0_t1 v1328 k0_hw26 => k0_hw26.1
theorem k0_mult28_dvd : ∀ (k0_t1 : Fin k0_t1_loop.trips) (v1328 : BitVec 32) (k0_hw26 : k0_chk26 k0_t1 v1328) (k0_t6 : Fin (k0_t6_loop k0_t1 v1328).trips), 16 ∣ (k0_mult28 k0_t1 v1328 k0_t6).toNat := fun k0_t1 v1328 k0_hw26 k0_t6 => k0_hw26.2.1 k0_t6
theorem k0_off27_inb : ∀ (k0_t1 : Fin k0_t1_loop.trips) (v1328 : BitVec 32) (k0_hw26 : k0_chk26 k0_t1 v1328) (k0_t6 : Fin (k0_t6_loop k0_t1 v1328).trips), ∀ a, (k0_off27 k0_t1 v1328 k0_t6) a + S1x16.size a ≤ S8x6400.size a := fun k0_t1 v1328 k0_hw26 k0_t6 => k0_hw26.2.2.1 k0_t6
theorem k0_t7_ok : ∀ (k0_t1 : Fin k0_t1_loop.trips) (v1328 : BitVec 32) (k0_hw26 : k0_chk26 k0_t1 v1328), (k0_t7_loop k0_t1 v1328).OK := fun k0_t1 v1328 k0_hw26 => k0_hw26.2.2.2.1
theorem k0_mult29_dvd : ∀ (k0_t1 : Fin k0_t1_loop.trips) (v1328 : BitVec 32) (k0_hw26 : k0_chk26 k0_t1 v1328) (k0_t7 : Fin (k0_t7_loop k0_t1 v1328).trips), 16 ∣ (k0_mult29 k0_t1 v1328 k0_t7).toNat := fun k0_t1 v1328 k0_hw26 k0_t7 => k0_hw26.2.2.2.2.1 k0_t7
theorem k0_off28_inb : ∀ (k0_t1 : Fin k0_t1_loop.trips) (v1328 : BitVec 32) (k0_hw26 : k0_chk26 k0_t1 v1328) (k0_t7 : Fin (k0_t7_loop k0_t1 v1328).trips), ∀ a, (k0_off28 k0_t1 v1328 k0_t7) a + S1x16.size a ≤ S8x6400.size a := fun k0_t1 v1328 k0_hw26 k0_t7 => k0_hw26.2.2.2.2.2.1 k0_t7
theorem k0_mult30_dvd : ∀ (k0_t1 : Fin k0_t1_loop.trips) (v1328 : BitVec 32) (k0_hw26 : k0_chk26 k0_t1 v1328), 16 ∣ (k0_mult30 k0_t1 v1328).toNat := fun k0_t1 v1328 k0_hw26 => k0_hw26.2.2.2.2.2.2.1
theorem k0_off29_inb : ∀ (k0_t1 : Fin k0_t1_loop.trips) (v1328 : BitVec 32) (k0_hw26 : k0_chk26 k0_t1 v1328), ∀ a, (k0_off29 k0_t1 v1328) a + S1x16.size a ≤ S8x6400.size a := fun k0_t1 v1328 k0_hw26 => k0_hw26.2.2.2.2.2.2.2.1
theorem k0_t8_ok : ∀ (k0_t1 : Fin k0_t1_loop.trips) (v1328 : BitVec 32) (k0_hw26 : k0_chk26 k0_t1 v1328), (k0_t8_loop k0_t1 v1328).OK := fun k0_t1 v1328 k0_hw26 => k0_hw26.2.2.2.2.2.2.2.2.1
theorem k0_mult31_dvd : ∀ (k0_t1 : Fin k0_t1_loop.trips) (v1328 : BitVec 32) (k0_hw26 : k0_chk26 k0_t1 v1328) (k0_t8 : Fin (k0_t8_loop k0_t1 v1328).trips), 16 ∣ (k0_mult31 k0_t1 v1328 k0_t8).toNat := fun k0_t1 v1328 k0_hw26 k0_t8 => k0_hw26.2.2.2.2.2.2.2.2.2.1 k0_t8
theorem k0_off30_inb : ∀ (k0_t1 : Fin k0_t1_loop.trips) (v1328 : BitVec 32) (k0_hw26 : k0_chk26 k0_t1 v1328) (k0_t8 : Fin (k0_t8_loop k0_t1 v1328).trips), ∀ a, (k0_off30 k0_t1 v1328 k0_t8) a + S1x16.size a ≤ S8x6400.size a := fun k0_t1 v1328 k0_hw26 k0_t8 => k0_hw26.2.2.2.2.2.2.2.2.2.2.1 k0_t8
theorem k0_t9_ok : ∀ (k0_t1 : Fin k0_t1_loop.trips) (v1328 : BitVec 32) (k0_hw26 : k0_chk26 k0_t1 v1328), (k0_t9_loop k0_t1 v1328).OK := fun k0_t1 v1328 k0_hw26 => k0_hw26.2.2.2.2.2.2.2.2.2.2.2.1
theorem k0_mult32_dvd : ∀ (k0_t1 : Fin k0_t1_loop.trips) (v1328 : BitVec 32) (k0_hw26 : k0_chk26 k0_t1 v1328) (k0_t9 : Fin (k0_t9_loop k0_t1 v1328).trips), 16 ∣ (k0_mult32 k0_t1 v1328 k0_t9).toNat := fun k0_t1 v1328 k0_hw26 k0_t9 => k0_hw26.2.2.2.2.2.2.2.2.2.2.2.2.1 k0_t9
theorem k0_off31_inb : ∀ (k0_t1 : Fin k0_t1_loop.trips) (v1328 : BitVec 32) (k0_hw26 : k0_chk26 k0_t1 v1328) (k0_t9 : Fin (k0_t9_loop k0_t1 v1328).trips), ∀ a, (k0_off31 k0_t1 v1328 k0_t9) a + S1x16.size a ≤ S8x6400.size a := fun k0_t1 v1328 k0_hw26 k0_t9 => k0_hw26.2.2.2.2.2.2.2.2.2.2.2.2.2 k0_t9

@[reducible] def k0_t10_loop (k0_t1 : Fin k0_t1_loop.trips) (v1369 : BitVec 32) : Scf.Loop 32 :=
  let c0_i32_579 : BitVec 32 := 0#32
  let c6400_i32_577 : BitVec 32 := 6400#32
  let c0_i32_576 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1370 : BitVec 32 := Scalar.subi v1369 v1280
  let v1371 : BitVec 32 := Scalar.maxsi c0_i32_576 v1370
  let v1372 : BitVec 32 := Scalar.minsi c6400_i32_577 v1371
  let c4_i32_578 : BitVec 32 := 4#32
  let v1373 : BitVec 32 := Scalar.shrui v1372 c4_i32_578
  let v1374 : BitVec 32 := Scalar.subi v1373 c0_i32_579
  let c1_i32_580 : BitVec 32 := 1#32
  let v1376 : BitVec 32 := Scalar.divsi v1374 c1_i32_580
  let v1377 : BitVec 32 := Scalar.muli v1376 c1_i32_580
  let v1378 : BitVec 32 := Scalar.addi c0_i32_579 v1377
  let c1_i32_581 : BitVec 32 := 1#32
  ⟨c0_i32_579, v1378, c1_i32_581⟩

def k0_mult33 (k0_t1 : Fin k0_t1_loop.trips) (v1369 : BitVec 32) (k0_t10 : Fin (k0_t10_loop k0_t1 v1369).trips) : BitVec 32 :=
  let c0_i32_579 : BitVec 32 := 0#32
  let c1_i32_581 : BitVec 32 := 1#32
  let arg27 : BitVec 32 := Scf.iv c0_i32_579 c1_i32_581 k0_t10
  let c16_i32_826 : BitVec 32 := 16#32
  let v1958 : BitVec 32 := Scalar.muli arg27 c16_i32_826
  v1958
def k0_off32 (k0_t1 : Fin k0_t1_loop.trips) (v1369 : BitVec 32) (k0_t10 : Fin (k0_t10_loop k0_t1 v1369).trips) : Fin 2 → Nat :=
  let c2_i32_827 : BitVec 32 := 2#32
  let v1960 : Index := Scalar.indexCast c2_i32_827
  let c0_i32_579 : BitVec 32 := 0#32
  let c1_i32_581 : BitVec 32 := 1#32
  let arg27 : BitVec 32 := Scf.iv c0_i32_579 c1_i32_581 k0_t10
  let c16_i32_826 : BitVec 32 := 16#32
  let v1958 : BitVec 32 := Scalar.muli arg27 c16_i32_826
  let v1959 : BitVec 32 := v1958
  let v1961 : Index := Scalar.indexCast v1959
  ![2, v1961.toNat]
@[reducible] def k0_t11_loop (k0_t1 : Fin k0_t1_loop.trips) (v1369 : BitVec 32) : Scf.Loop 32 :=
  let c0_i32_579 : BitVec 32 := 0#32
  let c6400_i32_577 : BitVec 32 := 6400#32
  let c0_i32_576 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1370 : BitVec 32 := Scalar.subi v1369 v1280
  let v1371 : BitVec 32 := Scalar.maxsi c0_i32_576 v1370
  let v1372 : BitVec 32 := Scalar.minsi c6400_i32_577 v1371
  let c4_i32_578 : BitVec 32 := 4#32
  let v1373 : BitVec 32 := Scalar.shrui v1372 c4_i32_578
  let v1374 : BitVec 32 := Scalar.subi v1373 c0_i32_579
  let c1_i32_580 : BitVec 32 := 1#32
  let v1376 : BitVec 32 := Scalar.divsi v1374 c1_i32_580
  let v1377 : BitVec 32 := Scalar.muli v1376 c1_i32_580
  let v1378 : BitVec 32 := Scalar.addi c0_i32_579 v1377
  let v1375 : BitVec 32 := Scalar.addi c0_i32_579 v1374
  let c1_i32_582 : BitVec 32 := 1#32
  ⟨v1378, v1375, c1_i32_582⟩
def k0_mult34 (k0_t1 : Fin k0_t1_loop.trips) (v1369 : BitVec 32) (k0_t11 : Fin (k0_t11_loop k0_t1 v1369).trips) : BitVec 32 :=
  let c0_i32_579 : BitVec 32 := 0#32
  let c6400_i32_577 : BitVec 32 := 6400#32
  let c0_i32_576 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1370 : BitVec 32 := Scalar.subi v1369 v1280
  let v1371 : BitVec 32 := Scalar.maxsi c0_i32_576 v1370
  let v1372 : BitVec 32 := Scalar.minsi c6400_i32_577 v1371
  let c4_i32_578 : BitVec 32 := 4#32
  let v1373 : BitVec 32 := Scalar.shrui v1372 c4_i32_578
  let v1374 : BitVec 32 := Scalar.subi v1373 c0_i32_579
  let c1_i32_580 : BitVec 32 := 1#32
  let v1376 : BitVec 32 := Scalar.divsi v1374 c1_i32_580
  let v1377 : BitVec 32 := Scalar.muli v1376 c1_i32_580
  let v1378 : BitVec 32 := Scalar.addi c0_i32_579 v1377
  let c1_i32_582 : BitVec 32 := 1#32
  let arg27 : BitVec 32 := Scf.iv v1378 c1_i32_582 k0_t11
  let c16_i32_826 : BitVec 32 := 16#32
  let v1958 : BitVec 32 := Scalar.muli arg27 c16_i32_826
  v1958
def k0_off33 (k0_t1 : Fin k0_t1_loop.trips) (v1369 : BitVec 32) (k0_t11 : Fin (k0_t11_loop k0_t1 v1369).trips) : Fin 2 → Nat :=
  let c2_i32_827 : BitVec 32 := 2#32
  let v1960 : Index := Scalar.indexCast c2_i32_827
  let c0_i32_579 : BitVec 32 := 0#32
  let c6400_i32_577 : BitVec 32 := 6400#32
  let c0_i32_576 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1370 : BitVec 32 := Scalar.subi v1369 v1280
  let v1371 : BitVec 32 := Scalar.maxsi c0_i32_576 v1370
  let v1372 : BitVec 32 := Scalar.minsi c6400_i32_577 v1371
  let c4_i32_578 : BitVec 32 := 4#32
  let v1373 : BitVec 32 := Scalar.shrui v1372 c4_i32_578
  let v1374 : BitVec 32 := Scalar.subi v1373 c0_i32_579
  let c1_i32_580 : BitVec 32 := 1#32
  let v1376 : BitVec 32 := Scalar.divsi v1374 c1_i32_580
  let v1377 : BitVec 32 := Scalar.muli v1376 c1_i32_580
  let v1378 : BitVec 32 := Scalar.addi c0_i32_579 v1377
  let c1_i32_582 : BitVec 32 := 1#32
  let arg27 : BitVec 32 := Scf.iv v1378 c1_i32_582 k0_t11
  let c16_i32_826 : BitVec 32 := 16#32
  let v1958 : BitVec 32 := Scalar.muli arg27 c16_i32_826
  let v1959 : BitVec 32 := v1958
  let v1961 : Index := Scalar.indexCast v1959
  ![2, v1961.toNat]
def k0_mult35 (k0_t1 : Fin k0_t1_loop.trips) (v1369 : BitVec 32) : BitVec 32 :=
  let c6400_i32_577 : BitVec 32 := 6400#32
  let c0_i32_576 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1370 : BitVec 32 := Scalar.subi v1369 v1280
  let v1371 : BitVec 32 := Scalar.maxsi c0_i32_576 v1370
  let v1372 : BitVec 32 := Scalar.minsi c6400_i32_577 v1371
  let c4_i32_578 : BitVec 32 := 4#32
  let v1373 : BitVec 32 := Scalar.shrui v1372 c4_i32_578
  let c399_i32_583 : BitVec 32 := 399#32
  let v1381 : BitVec 32 := Scalar.minsi v1373 c399_i32_583
  let c16_i32_584 : BitVec 32 := 16#32
  let v1382 : BitVec 32 := Scalar.muli v1381 c16_i32_584
  v1382
def k0_off34 (k0_t1 : Fin k0_t1_loop.trips) (v1369 : BitVec 32) : Fin 2 → Nat :=
  let c2_i32_585 : BitVec 32 := 2#32
  let v1384 : Index := Scalar.indexCast c2_i32_585
  let c6400_i32_577 : BitVec 32 := 6400#32
  let c0_i32_576 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1370 : BitVec 32 := Scalar.subi v1369 v1280
  let v1371 : BitVec 32 := Scalar.maxsi c0_i32_576 v1370
  let v1372 : BitVec 32 := Scalar.minsi c6400_i32_577 v1371
  let c4_i32_578 : BitVec 32 := 4#32
  let v1373 : BitVec 32 := Scalar.shrui v1372 c4_i32_578
  let c399_i32_583 : BitVec 32 := 399#32
  let v1381 : BitVec 32 := Scalar.minsi v1373 c399_i32_583
  let c16_i32_584 : BitVec 32 := 16#32
  let v1382 : BitVec 32 := Scalar.muli v1381 c16_i32_584
  let v1383 : BitVec 32 := v1382
  let v1385 : Index := Scalar.indexCast v1383
  ![2, v1385.toNat]
@[reducible] def k0_t12_loop (k0_t1 : Fin k0_t1_loop.trips) (v1369 : BitVec 32) : Scf.Loop 32 :=
  let c6400_i32_577 : BitVec 32 := 6400#32
  let c0_i32_576 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1370 : BitVec 32 := Scalar.subi v1369 v1280
  let v1371 : BitVec 32 := Scalar.maxsi c0_i32_576 v1370
  let v1372 : BitVec 32 := Scalar.minsi c6400_i32_577 v1371
  let c4_i32_578 : BitVec 32 := 4#32
  let v1373 : BitVec 32 := Scalar.shrui v1372 c4_i32_578
  let c1_i32_588 : BitVec 32 := 1#32
  let v1401 : BitVec 32 := Scalar.addi v1373 c1_i32_588
  let c400_i32_589 : BitVec 32 := 400#32
  let v1402 : BitVec 32 := Scalar.subi c400_i32_589 v1401
  let c1_i32_590 : BitVec 32 := 1#32
  let v1404 : BitVec 32 := Scalar.divsi v1402 c1_i32_590
  let v1405 : BitVec 32 := Scalar.muli v1404 c1_i32_590
  let v1406 : BitVec 32 := Scalar.addi v1401 v1405
  let c1_i32_591 : BitVec 32 := 1#32
  ⟨v1401, v1406, c1_i32_591⟩
def k0_mult36 (k0_t1 : Fin k0_t1_loop.trips) (v1369 : BitVec 32) (k0_t12 : Fin (k0_t12_loop k0_t1 v1369).trips) : BitVec 32 :=
  let c6400_i32_577 : BitVec 32 := 6400#32
  let c0_i32_576 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1370 : BitVec 32 := Scalar.subi v1369 v1280
  let v1371 : BitVec 32 := Scalar.maxsi c0_i32_576 v1370
  let v1372 : BitVec 32 := Scalar.minsi c6400_i32_577 v1371
  let c4_i32_578 : BitVec 32 := 4#32
  let v1373 : BitVec 32 := Scalar.shrui v1372 c4_i32_578
  let c1_i32_588 : BitVec 32 := 1#32
  let v1401 : BitVec 32 := Scalar.addi v1373 c1_i32_588
  let c1_i32_591 : BitVec 32 := 1#32
  let arg27 : BitVec 32 := Scf.iv v1401 c1_i32_591 k0_t12
  let c16_i32_826 : BitVec 32 := 16#32
  let v1958 : BitVec 32 := Scalar.muli arg27 c16_i32_826
  v1958
def k0_off35 (k0_t1 : Fin k0_t1_loop.trips) (v1369 : BitVec 32) (k0_t12 : Fin (k0_t12_loop k0_t1 v1369).trips) : Fin 2 → Nat :=
  let c2_i32_827 : BitVec 32 := 2#32
  let v1960 : Index := Scalar.indexCast c2_i32_827
  let c6400_i32_577 : BitVec 32 := 6400#32
  let c0_i32_576 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1370 : BitVec 32 := Scalar.subi v1369 v1280
  let v1371 : BitVec 32 := Scalar.maxsi c0_i32_576 v1370
  let v1372 : BitVec 32 := Scalar.minsi c6400_i32_577 v1371
  let c4_i32_578 : BitVec 32 := 4#32
  let v1373 : BitVec 32 := Scalar.shrui v1372 c4_i32_578
  let c1_i32_588 : BitVec 32 := 1#32
  let v1401 : BitVec 32 := Scalar.addi v1373 c1_i32_588
  let c1_i32_591 : BitVec 32 := 1#32
  let arg27 : BitVec 32 := Scf.iv v1401 c1_i32_591 k0_t12
  let c16_i32_826 : BitVec 32 := 16#32
  let v1958 : BitVec 32 := Scalar.muli arg27 c16_i32_826
  let v1959 : BitVec 32 := v1958
  let v1961 : Index := Scalar.indexCast v1959
  ![2, v1961.toNat]
@[reducible] def k0_t13_loop (k0_t1 : Fin k0_t1_loop.trips) (v1369 : BitVec 32) : Scf.Loop 32 :=
  let c6400_i32_577 : BitVec 32 := 6400#32
  let c0_i32_576 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1370 : BitVec 32 := Scalar.subi v1369 v1280
  let v1371 : BitVec 32 := Scalar.maxsi c0_i32_576 v1370
  let v1372 : BitVec 32 := Scalar.minsi c6400_i32_577 v1371
  let c4_i32_578 : BitVec 32 := 4#32
  let v1373 : BitVec 32 := Scalar.shrui v1372 c4_i32_578
  let c1_i32_588 : BitVec 32 := 1#32
  let v1401 : BitVec 32 := Scalar.addi v1373 c1_i32_588
  let c400_i32_589 : BitVec 32 := 400#32
  let v1402 : BitVec 32 := Scalar.subi c400_i32_589 v1401
  let c1_i32_590 : BitVec 32 := 1#32
  let v1404 : BitVec 32 := Scalar.divsi v1402 c1_i32_590
  let v1405 : BitVec 32 := Scalar.muli v1404 c1_i32_590
  let v1406 : BitVec 32 := Scalar.addi v1401 v1405
  let v1403 : BitVec 32 := Scalar.addi v1401 v1402
  let c1_i32_592 : BitVec 32 := 1#32
  ⟨v1406, v1403, c1_i32_592⟩
def k0_mult37 (k0_t1 : Fin k0_t1_loop.trips) (v1369 : BitVec 32) (k0_t13 : Fin (k0_t13_loop k0_t1 v1369).trips) : BitVec 32 :=
  let c6400_i32_577 : BitVec 32 := 6400#32
  let c0_i32_576 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1370 : BitVec 32 := Scalar.subi v1369 v1280
  let v1371 : BitVec 32 := Scalar.maxsi c0_i32_576 v1370
  let v1372 : BitVec 32 := Scalar.minsi c6400_i32_577 v1371
  let c4_i32_578 : BitVec 32 := 4#32
  let v1373 : BitVec 32 := Scalar.shrui v1372 c4_i32_578
  let c1_i32_588 : BitVec 32 := 1#32
  let v1401 : BitVec 32 := Scalar.addi v1373 c1_i32_588
  let c400_i32_589 : BitVec 32 := 400#32
  let v1402 : BitVec 32 := Scalar.subi c400_i32_589 v1401
  let c1_i32_590 : BitVec 32 := 1#32
  let v1404 : BitVec 32 := Scalar.divsi v1402 c1_i32_590
  let v1405 : BitVec 32 := Scalar.muli v1404 c1_i32_590
  let v1406 : BitVec 32 := Scalar.addi v1401 v1405
  let c1_i32_592 : BitVec 32 := 1#32
  let arg27 : BitVec 32 := Scf.iv v1406 c1_i32_592 k0_t13
  let c16_i32_826 : BitVec 32 := 16#32
  let v1958 : BitVec 32 := Scalar.muli arg27 c16_i32_826
  v1958
def k0_off36 (k0_t1 : Fin k0_t1_loop.trips) (v1369 : BitVec 32) (k0_t13 : Fin (k0_t13_loop k0_t1 v1369).trips) : Fin 2 → Nat :=
  let c2_i32_827 : BitVec 32 := 2#32
  let v1960 : Index := Scalar.indexCast c2_i32_827
  let c6400_i32_577 : BitVec 32 := 6400#32
  let c0_i32_576 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1370 : BitVec 32 := Scalar.subi v1369 v1280
  let v1371 : BitVec 32 := Scalar.maxsi c0_i32_576 v1370
  let v1372 : BitVec 32 := Scalar.minsi c6400_i32_577 v1371
  let c4_i32_578 : BitVec 32 := 4#32
  let v1373 : BitVec 32 := Scalar.shrui v1372 c4_i32_578
  let c1_i32_588 : BitVec 32 := 1#32
  let v1401 : BitVec 32 := Scalar.addi v1373 c1_i32_588
  let c400_i32_589 : BitVec 32 := 400#32
  let v1402 : BitVec 32 := Scalar.subi c400_i32_589 v1401
  let c1_i32_590 : BitVec 32 := 1#32
  let v1404 : BitVec 32 := Scalar.divsi v1402 c1_i32_590
  let v1405 : BitVec 32 := Scalar.muli v1404 c1_i32_590
  let v1406 : BitVec 32 := Scalar.addi v1401 v1405
  let c1_i32_592 : BitVec 32 := 1#32
  let arg27 : BitVec 32 := Scf.iv v1406 c1_i32_592 k0_t13
  let c16_i32_826 : BitVec 32 := 16#32
  let v1958 : BitVec 32 := Scalar.muli arg27 c16_i32_826
  let v1959 : BitVec 32 := v1958
  let v1961 : Index := Scalar.indexCast v1959
  ![2, v1961.toNat]

def k0_chk27 (k0_t1 : Fin k0_t1_loop.trips) (v1369 : BitVec 32) : Prop :=
  ((k0_t10_loop k0_t1 v1369).OK) ∧
  (∀ k0_t10 : Fin (k0_t10_loop k0_t1 v1369).trips, 16 ∣ (k0_mult33 k0_t1 v1369 k0_t10).toNat) ∧
  (∀ k0_t10 : Fin (k0_t10_loop k0_t1 v1369).trips, ∀ a, (k0_off32 k0_t1 v1369 k0_t10) a + S1x16.size a ≤ S8x6400.size a) ∧
  ((k0_t11_loop k0_t1 v1369).OK) ∧
  (∀ k0_t11 : Fin (k0_t11_loop k0_t1 v1369).trips, 16 ∣ (k0_mult34 k0_t1 v1369 k0_t11).toNat) ∧
  (∀ k0_t11 : Fin (k0_t11_loop k0_t1 v1369).trips, ∀ a, (k0_off33 k0_t1 v1369 k0_t11) a + S1x16.size a ≤ S8x6400.size a) ∧
  (16 ∣ (k0_mult35 k0_t1 v1369).toNat) ∧
  (∀ a, (k0_off34 k0_t1 v1369) a + S1x16.size a ≤ S8x6400.size a) ∧
  ((k0_t12_loop k0_t1 v1369).OK) ∧
  (∀ k0_t12 : Fin (k0_t12_loop k0_t1 v1369).trips, 16 ∣ (k0_mult36 k0_t1 v1369 k0_t12).toNat) ∧
  (∀ k0_t12 : Fin (k0_t12_loop k0_t1 v1369).trips, ∀ a, (k0_off35 k0_t1 v1369 k0_t12) a + S1x16.size a ≤ S8x6400.size a) ∧
  ((k0_t13_loop k0_t1 v1369).OK) ∧
  (∀ k0_t13 : Fin (k0_t13_loop k0_t1 v1369).trips, 16 ∣ (k0_mult37 k0_t1 v1369 k0_t13).toNat) ∧
  (∀ k0_t13 : Fin (k0_t13_loop k0_t1 v1369).trips, ∀ a, (k0_off36 k0_t1 v1369 k0_t13) a + S1x16.size a ≤ S8x6400.size a)
theorem k0_t10_ok : ∀ (k0_t1 : Fin k0_t1_loop.trips) (v1369 : BitVec 32) (k0_hw27 : k0_chk27 k0_t1 v1369), (k0_t10_loop k0_t1 v1369).OK := fun k0_t1 v1369 k0_hw27 => k0_hw27.1
theorem k0_mult33_dvd : ∀ (k0_t1 : Fin k0_t1_loop.trips) (v1369 : BitVec 32) (k0_hw27 : k0_chk27 k0_t1 v1369) (k0_t10 : Fin (k0_t10_loop k0_t1 v1369).trips), 16 ∣ (k0_mult33 k0_t1 v1369 k0_t10).toNat := fun k0_t1 v1369 k0_hw27 k0_t10 => k0_hw27.2.1 k0_t10
theorem k0_off32_inb : ∀ (k0_t1 : Fin k0_t1_loop.trips) (v1369 : BitVec 32) (k0_hw27 : k0_chk27 k0_t1 v1369) (k0_t10 : Fin (k0_t10_loop k0_t1 v1369).trips), ∀ a, (k0_off32 k0_t1 v1369 k0_t10) a + S1x16.size a ≤ S8x6400.size a := fun k0_t1 v1369 k0_hw27 k0_t10 => k0_hw27.2.2.1 k0_t10
theorem k0_t11_ok : ∀ (k0_t1 : Fin k0_t1_loop.trips) (v1369 : BitVec 32) (k0_hw27 : k0_chk27 k0_t1 v1369), (k0_t11_loop k0_t1 v1369).OK := fun k0_t1 v1369 k0_hw27 => k0_hw27.2.2.2.1
theorem k0_mult34_dvd : ∀ (k0_t1 : Fin k0_t1_loop.trips) (v1369 : BitVec 32) (k0_hw27 : k0_chk27 k0_t1 v1369) (k0_t11 : Fin (k0_t11_loop k0_t1 v1369).trips), 16 ∣ (k0_mult34 k0_t1 v1369 k0_t11).toNat := fun k0_t1 v1369 k0_hw27 k0_t11 => k0_hw27.2.2.2.2.1 k0_t11
theorem k0_off33_inb : ∀ (k0_t1 : Fin k0_t1_loop.trips) (v1369 : BitVec 32) (k0_hw27 : k0_chk27 k0_t1 v1369) (k0_t11 : Fin (k0_t11_loop k0_t1 v1369).trips), ∀ a, (k0_off33 k0_t1 v1369 k0_t11) a + S1x16.size a ≤ S8x6400.size a := fun k0_t1 v1369 k0_hw27 k0_t11 => k0_hw27.2.2.2.2.2.1 k0_t11
theorem k0_mult35_dvd : ∀ (k0_t1 : Fin k0_t1_loop.trips) (v1369 : BitVec 32) (k0_hw27 : k0_chk27 k0_t1 v1369), 16 ∣ (k0_mult35 k0_t1 v1369).toNat := fun k0_t1 v1369 k0_hw27 => k0_hw27.2.2.2.2.2.2.1
theorem k0_off34_inb : ∀ (k0_t1 : Fin k0_t1_loop.trips) (v1369 : BitVec 32) (k0_hw27 : k0_chk27 k0_t1 v1369), ∀ a, (k0_off34 k0_t1 v1369) a + S1x16.size a ≤ S8x6400.size a := fun k0_t1 v1369 k0_hw27 => k0_hw27.2.2.2.2.2.2.2.1
theorem k0_t12_ok : ∀ (k0_t1 : Fin k0_t1_loop.trips) (v1369 : BitVec 32) (k0_hw27 : k0_chk27 k0_t1 v1369), (k0_t12_loop k0_t1 v1369).OK := fun k0_t1 v1369 k0_hw27 => k0_hw27.2.2.2.2.2.2.2.2.1
theorem k0_mult36_dvd : ∀ (k0_t1 : Fin k0_t1_loop.trips) (v1369 : BitVec 32) (k0_hw27 : k0_chk27 k0_t1 v1369) (k0_t12 : Fin (k0_t12_loop k0_t1 v1369).trips), 16 ∣ (k0_mult36 k0_t1 v1369 k0_t12).toNat := fun k0_t1 v1369 k0_hw27 k0_t12 => k0_hw27.2.2.2.2.2.2.2.2.2.1 k0_t12
theorem k0_off35_inb : ∀ (k0_t1 : Fin k0_t1_loop.trips) (v1369 : BitVec 32) (k0_hw27 : k0_chk27 k0_t1 v1369) (k0_t12 : Fin (k0_t12_loop k0_t1 v1369).trips), ∀ a, (k0_off35 k0_t1 v1369 k0_t12) a + S1x16.size a ≤ S8x6400.size a := fun k0_t1 v1369 k0_hw27 k0_t12 => k0_hw27.2.2.2.2.2.2.2.2.2.2.1 k0_t12
theorem k0_t13_ok : ∀ (k0_t1 : Fin k0_t1_loop.trips) (v1369 : BitVec 32) (k0_hw27 : k0_chk27 k0_t1 v1369), (k0_t13_loop k0_t1 v1369).OK := fun k0_t1 v1369 k0_hw27 => k0_hw27.2.2.2.2.2.2.2.2.2.2.2.1
theorem k0_mult37_dvd : ∀ (k0_t1 : Fin k0_t1_loop.trips) (v1369 : BitVec 32) (k0_hw27 : k0_chk27 k0_t1 v1369) (k0_t13 : Fin (k0_t13_loop k0_t1 v1369).trips), 16 ∣ (k0_mult37 k0_t1 v1369 k0_t13).toNat := fun k0_t1 v1369 k0_hw27 k0_t13 => k0_hw27.2.2.2.2.2.2.2.2.2.2.2.2.1 k0_t13
theorem k0_off36_inb : ∀ (k0_t1 : Fin k0_t1_loop.trips) (v1369 : BitVec 32) (k0_hw27 : k0_chk27 k0_t1 v1369) (k0_t13 : Fin (k0_t13_loop k0_t1 v1369).trips), ∀ a, (k0_off36 k0_t1 v1369 k0_t13) a + S1x16.size a ≤ S8x6400.size a := fun k0_t1 v1369 k0_hw27 k0_t13 => k0_hw27.2.2.2.2.2.2.2.2.2.2.2.2.2 k0_t13

@[reducible] def k0_t14_loop (k0_t1 : Fin k0_t1_loop.trips) (v1410 : BitVec 32) : Scf.Loop 32 :=
  let c0_i32_596 : BitVec 32 := 0#32
  let c6400_i32_594 : BitVec 32 := 6400#32
  let c0_i32_593 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1411 : BitVec 32 := Scalar.subi v1410 v1280
  let v1412 : BitVec 32 := Scalar.maxsi c0_i32_593 v1411
  let v1413 : BitVec 32 := Scalar.minsi c6400_i32_594 v1412
  let c4_i32_595 : BitVec 32 := 4#32
  let v1414 : BitVec 32 := Scalar.shrui v1413 c4_i32_595
  let v1415 : BitVec 32 := Scalar.subi v1414 c0_i32_596
  let c1_i32_597 : BitVec 32 := 1#32
  let v1417 : BitVec 32 := Scalar.divsi v1415 c1_i32_597
  let v1418 : BitVec 32 := Scalar.muli v1417 c1_i32_597
  let v1419 : BitVec 32 := Scalar.addi c0_i32_596 v1418
  let c1_i32_598 : BitVec 32 := 1#32
  ⟨c0_i32_596, v1419, c1_i32_598⟩

def k0_mult38 (k0_t1 : Fin k0_t1_loop.trips) (v1410 : BitVec 32) (k0_t14 : Fin (k0_t14_loop k0_t1 v1410).trips) : BitVec 32 :=
  let c0_i32_596 : BitVec 32 := 0#32
  let c1_i32_598 : BitVec 32 := 1#32
  let arg27 : BitVec 32 := Scf.iv c0_i32_596 c1_i32_598 k0_t14
  let c16_i32_826 : BitVec 32 := 16#32
  let v1958 : BitVec 32 := Scalar.muli arg27 c16_i32_826
  v1958
def k0_off37 (k0_t1 : Fin k0_t1_loop.trips) (v1410 : BitVec 32) (k0_t14 : Fin (k0_t14_loop k0_t1 v1410).trips) : Fin 2 → Nat :=
  let c3_i32_827 : BitVec 32 := 3#32
  let v1960 : Index := Scalar.indexCast c3_i32_827
  let c0_i32_596 : BitVec 32 := 0#32
  let c1_i32_598 : BitVec 32 := 1#32
  let arg27 : BitVec 32 := Scf.iv c0_i32_596 c1_i32_598 k0_t14
  let c16_i32_826 : BitVec 32 := 16#32
  let v1958 : BitVec 32 := Scalar.muli arg27 c16_i32_826
  let v1959 : BitVec 32 := v1958
  let v1961 : Index := Scalar.indexCast v1959
  ![3, v1961.toNat]
@[reducible] def k0_t15_loop (k0_t1 : Fin k0_t1_loop.trips) (v1410 : BitVec 32) : Scf.Loop 32 :=
  let c0_i32_596 : BitVec 32 := 0#32
  let c6400_i32_594 : BitVec 32 := 6400#32
  let c0_i32_593 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1411 : BitVec 32 := Scalar.subi v1410 v1280
  let v1412 : BitVec 32 := Scalar.maxsi c0_i32_593 v1411
  let v1413 : BitVec 32 := Scalar.minsi c6400_i32_594 v1412
  let c4_i32_595 : BitVec 32 := 4#32
  let v1414 : BitVec 32 := Scalar.shrui v1413 c4_i32_595
  let v1415 : BitVec 32 := Scalar.subi v1414 c0_i32_596
  let c1_i32_597 : BitVec 32 := 1#32
  let v1417 : BitVec 32 := Scalar.divsi v1415 c1_i32_597
  let v1418 : BitVec 32 := Scalar.muli v1417 c1_i32_597
  let v1419 : BitVec 32 := Scalar.addi c0_i32_596 v1418
  let v1416 : BitVec 32 := Scalar.addi c0_i32_596 v1415
  let c1_i32_599 : BitVec 32 := 1#32
  ⟨v1419, v1416, c1_i32_599⟩
def k0_mult39 (k0_t1 : Fin k0_t1_loop.trips) (v1410 : BitVec 32) (k0_t15 : Fin (k0_t15_loop k0_t1 v1410).trips) : BitVec 32 :=
  let c0_i32_596 : BitVec 32 := 0#32
  let c6400_i32_594 : BitVec 32 := 6400#32
  let c0_i32_593 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1411 : BitVec 32 := Scalar.subi v1410 v1280
  let v1412 : BitVec 32 := Scalar.maxsi c0_i32_593 v1411
  let v1413 : BitVec 32 := Scalar.minsi c6400_i32_594 v1412
  let c4_i32_595 : BitVec 32 := 4#32
  let v1414 : BitVec 32 := Scalar.shrui v1413 c4_i32_595
  let v1415 : BitVec 32 := Scalar.subi v1414 c0_i32_596
  let c1_i32_597 : BitVec 32 := 1#32
  let v1417 : BitVec 32 := Scalar.divsi v1415 c1_i32_597
  let v1418 : BitVec 32 := Scalar.muli v1417 c1_i32_597
  let v1419 : BitVec 32 := Scalar.addi c0_i32_596 v1418
  let c1_i32_599 : BitVec 32 := 1#32
  let arg27 : BitVec 32 := Scf.iv v1419 c1_i32_599 k0_t15
  let c16_i32_826 : BitVec 32 := 16#32
  let v1958 : BitVec 32 := Scalar.muli arg27 c16_i32_826
  v1958
def k0_off38 (k0_t1 : Fin k0_t1_loop.trips) (v1410 : BitVec 32) (k0_t15 : Fin (k0_t15_loop k0_t1 v1410).trips) : Fin 2 → Nat :=
  let c3_i32_827 : BitVec 32 := 3#32
  let v1960 : Index := Scalar.indexCast c3_i32_827
  let c0_i32_596 : BitVec 32 := 0#32
  let c6400_i32_594 : BitVec 32 := 6400#32
  let c0_i32_593 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1411 : BitVec 32 := Scalar.subi v1410 v1280
  let v1412 : BitVec 32 := Scalar.maxsi c0_i32_593 v1411
  let v1413 : BitVec 32 := Scalar.minsi c6400_i32_594 v1412
  let c4_i32_595 : BitVec 32 := 4#32
  let v1414 : BitVec 32 := Scalar.shrui v1413 c4_i32_595
  let v1415 : BitVec 32 := Scalar.subi v1414 c0_i32_596
  let c1_i32_597 : BitVec 32 := 1#32
  let v1417 : BitVec 32 := Scalar.divsi v1415 c1_i32_597
  let v1418 : BitVec 32 := Scalar.muli v1417 c1_i32_597
  let v1419 : BitVec 32 := Scalar.addi c0_i32_596 v1418
  let c1_i32_599 : BitVec 32 := 1#32
  let arg27 : BitVec 32 := Scf.iv v1419 c1_i32_599 k0_t15
  let c16_i32_826 : BitVec 32 := 16#32
  let v1958 : BitVec 32 := Scalar.muli arg27 c16_i32_826
  let v1959 : BitVec 32 := v1958
  let v1961 : Index := Scalar.indexCast v1959
  ![3, v1961.toNat]
def k0_mult40 (k0_t1 : Fin k0_t1_loop.trips) (v1410 : BitVec 32) : BitVec 32 :=
  let c6400_i32_594 : BitVec 32 := 6400#32
  let c0_i32_593 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1411 : BitVec 32 := Scalar.subi v1410 v1280
  let v1412 : BitVec 32 := Scalar.maxsi c0_i32_593 v1411
  let v1413 : BitVec 32 := Scalar.minsi c6400_i32_594 v1412
  let c4_i32_595 : BitVec 32 := 4#32
  let v1414 : BitVec 32 := Scalar.shrui v1413 c4_i32_595
  let c399_i32_600 : BitVec 32 := 399#32
  let v1422 : BitVec 32 := Scalar.minsi v1414 c399_i32_600
  let c16_i32_601 : BitVec 32 := 16#32
  let v1423 : BitVec 32 := Scalar.muli v1422 c16_i32_601
  v1423
def k0_off39 (k0_t1 : Fin k0_t1_loop.trips) (v1410 : BitVec 32) : Fin 2 → Nat :=
  let c3_i32_602 : BitVec 32 := 3#32
  let v1425 : Index := Scalar.indexCast c3_i32_602
  let c6400_i32_594 : BitVec 32 := 6400#32
  let c0_i32_593 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1411 : BitVec 32 := Scalar.subi v1410 v1280
  let v1412 : BitVec 32 := Scalar.maxsi c0_i32_593 v1411
  let v1413 : BitVec 32 := Scalar.minsi c6400_i32_594 v1412
  let c4_i32_595 : BitVec 32 := 4#32
  let v1414 : BitVec 32 := Scalar.shrui v1413 c4_i32_595
  let c399_i32_600 : BitVec 32 := 399#32
  let v1422 : BitVec 32 := Scalar.minsi v1414 c399_i32_600
  let c16_i32_601 : BitVec 32 := 16#32
  let v1423 : BitVec 32 := Scalar.muli v1422 c16_i32_601
  let v1424 : BitVec 32 := v1423
  let v1426 : Index := Scalar.indexCast v1424
  ![3, v1426.toNat]
@[reducible] def k0_t16_loop (k0_t1 : Fin k0_t1_loop.trips) (v1410 : BitVec 32) : Scf.Loop 32 :=
  let c6400_i32_594 : BitVec 32 := 6400#32
  let c0_i32_593 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1411 : BitVec 32 := Scalar.subi v1410 v1280
  let v1412 : BitVec 32 := Scalar.maxsi c0_i32_593 v1411
  let v1413 : BitVec 32 := Scalar.minsi c6400_i32_594 v1412
  let c4_i32_595 : BitVec 32 := 4#32
  let v1414 : BitVec 32 := Scalar.shrui v1413 c4_i32_595
  let c1_i32_605 : BitVec 32 := 1#32
  let v1442 : BitVec 32 := Scalar.addi v1414 c1_i32_605
  let c400_i32_606 : BitVec 32 := 400#32
  let v1443 : BitVec 32 := Scalar.subi c400_i32_606 v1442
  let c1_i32_607 : BitVec 32 := 1#32
  let v1445 : BitVec 32 := Scalar.divsi v1443 c1_i32_607
  let v1446 : BitVec 32 := Scalar.muli v1445 c1_i32_607
  let v1447 : BitVec 32 := Scalar.addi v1442 v1446
  let c1_i32_608 : BitVec 32 := 1#32
  ⟨v1442, v1447, c1_i32_608⟩
def k0_mult41 (k0_t1 : Fin k0_t1_loop.trips) (v1410 : BitVec 32) (k0_t16 : Fin (k0_t16_loop k0_t1 v1410).trips) : BitVec 32 :=
  let c6400_i32_594 : BitVec 32 := 6400#32
  let c0_i32_593 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1411 : BitVec 32 := Scalar.subi v1410 v1280
  let v1412 : BitVec 32 := Scalar.maxsi c0_i32_593 v1411
  let v1413 : BitVec 32 := Scalar.minsi c6400_i32_594 v1412
  let c4_i32_595 : BitVec 32 := 4#32
  let v1414 : BitVec 32 := Scalar.shrui v1413 c4_i32_595
  let c1_i32_605 : BitVec 32 := 1#32
  let v1442 : BitVec 32 := Scalar.addi v1414 c1_i32_605
  let c1_i32_608 : BitVec 32 := 1#32
  let arg27 : BitVec 32 := Scf.iv v1442 c1_i32_608 k0_t16
  let c16_i32_826 : BitVec 32 := 16#32
  let v1958 : BitVec 32 := Scalar.muli arg27 c16_i32_826
  v1958
def k0_off40 (k0_t1 : Fin k0_t1_loop.trips) (v1410 : BitVec 32) (k0_t16 : Fin (k0_t16_loop k0_t1 v1410).trips) : Fin 2 → Nat :=
  let c3_i32_827 : BitVec 32 := 3#32
  let v1960 : Index := Scalar.indexCast c3_i32_827
  let c6400_i32_594 : BitVec 32 := 6400#32
  let c0_i32_593 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1411 : BitVec 32 := Scalar.subi v1410 v1280
  let v1412 : BitVec 32 := Scalar.maxsi c0_i32_593 v1411
  let v1413 : BitVec 32 := Scalar.minsi c6400_i32_594 v1412
  let c4_i32_595 : BitVec 32 := 4#32
  let v1414 : BitVec 32 := Scalar.shrui v1413 c4_i32_595
  let c1_i32_605 : BitVec 32 := 1#32
  let v1442 : BitVec 32 := Scalar.addi v1414 c1_i32_605
  let c1_i32_608 : BitVec 32 := 1#32
  let arg27 : BitVec 32 := Scf.iv v1442 c1_i32_608 k0_t16
  let c16_i32_826 : BitVec 32 := 16#32
  let v1958 : BitVec 32 := Scalar.muli arg27 c16_i32_826
  let v1959 : BitVec 32 := v1958
  let v1961 : Index := Scalar.indexCast v1959
  ![3, v1961.toNat]
@[reducible] def k0_t17_loop (k0_t1 : Fin k0_t1_loop.trips) (v1410 : BitVec 32) : Scf.Loop 32 :=
  let c6400_i32_594 : BitVec 32 := 6400#32
  let c0_i32_593 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1411 : BitVec 32 := Scalar.subi v1410 v1280
  let v1412 : BitVec 32 := Scalar.maxsi c0_i32_593 v1411
  let v1413 : BitVec 32 := Scalar.minsi c6400_i32_594 v1412
  let c4_i32_595 : BitVec 32 := 4#32
  let v1414 : BitVec 32 := Scalar.shrui v1413 c4_i32_595
  let c1_i32_605 : BitVec 32 := 1#32
  let v1442 : BitVec 32 := Scalar.addi v1414 c1_i32_605
  let c400_i32_606 : BitVec 32 := 400#32
  let v1443 : BitVec 32 := Scalar.subi c400_i32_606 v1442
  let c1_i32_607 : BitVec 32 := 1#32
  let v1445 : BitVec 32 := Scalar.divsi v1443 c1_i32_607
  let v1446 : BitVec 32 := Scalar.muli v1445 c1_i32_607
  let v1447 : BitVec 32 := Scalar.addi v1442 v1446
  let v1444 : BitVec 32 := Scalar.addi v1442 v1443
  let c1_i32_609 : BitVec 32 := 1#32
  ⟨v1447, v1444, c1_i32_609⟩
def k0_mult42 (k0_t1 : Fin k0_t1_loop.trips) (v1410 : BitVec 32) (k0_t17 : Fin (k0_t17_loop k0_t1 v1410).trips) : BitVec 32 :=
  let c6400_i32_594 : BitVec 32 := 6400#32
  let c0_i32_593 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1411 : BitVec 32 := Scalar.subi v1410 v1280
  let v1412 : BitVec 32 := Scalar.maxsi c0_i32_593 v1411
  let v1413 : BitVec 32 := Scalar.minsi c6400_i32_594 v1412
  let c4_i32_595 : BitVec 32 := 4#32
  let v1414 : BitVec 32 := Scalar.shrui v1413 c4_i32_595
  let c1_i32_605 : BitVec 32 := 1#32
  let v1442 : BitVec 32 := Scalar.addi v1414 c1_i32_605
  let c400_i32_606 : BitVec 32 := 400#32
  let v1443 : BitVec 32 := Scalar.subi c400_i32_606 v1442
  let c1_i32_607 : BitVec 32 := 1#32
  let v1445 : BitVec 32 := Scalar.divsi v1443 c1_i32_607
  let v1446 : BitVec 32 := Scalar.muli v1445 c1_i32_607
  let v1447 : BitVec 32 := Scalar.addi v1442 v1446
  let c1_i32_609 : BitVec 32 := 1#32
  let arg27 : BitVec 32 := Scf.iv v1447 c1_i32_609 k0_t17
  let c16_i32_826 : BitVec 32 := 16#32
  let v1958 : BitVec 32 := Scalar.muli arg27 c16_i32_826
  v1958
def k0_off41 (k0_t1 : Fin k0_t1_loop.trips) (v1410 : BitVec 32) (k0_t17 : Fin (k0_t17_loop k0_t1 v1410).trips) : Fin 2 → Nat :=
  let c3_i32_827 : BitVec 32 := 3#32
  let v1960 : Index := Scalar.indexCast c3_i32_827
  let c6400_i32_594 : BitVec 32 := 6400#32
  let c0_i32_593 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1411 : BitVec 32 := Scalar.subi v1410 v1280
  let v1412 : BitVec 32 := Scalar.maxsi c0_i32_593 v1411
  let v1413 : BitVec 32 := Scalar.minsi c6400_i32_594 v1412
  let c4_i32_595 : BitVec 32 := 4#32
  let v1414 : BitVec 32 := Scalar.shrui v1413 c4_i32_595
  let c1_i32_605 : BitVec 32 := 1#32
  let v1442 : BitVec 32 := Scalar.addi v1414 c1_i32_605
  let c400_i32_606 : BitVec 32 := 400#32
  let v1443 : BitVec 32 := Scalar.subi c400_i32_606 v1442
  let c1_i32_607 : BitVec 32 := 1#32
  let v1445 : BitVec 32 := Scalar.divsi v1443 c1_i32_607
  let v1446 : BitVec 32 := Scalar.muli v1445 c1_i32_607
  let v1447 : BitVec 32 := Scalar.addi v1442 v1446
  let c1_i32_609 : BitVec 32 := 1#32
  let arg27 : BitVec 32 := Scf.iv v1447 c1_i32_609 k0_t17
  let c16_i32_826 : BitVec 32 := 16#32
  let v1958 : BitVec 32 := Scalar.muli arg27 c16_i32_826
  let v1959 : BitVec 32 := v1958
  let v1961 : Index := Scalar.indexCast v1959
  ![3, v1961.toNat]

def k0_chk28 (k0_t1 : Fin k0_t1_loop.trips) (v1410 : BitVec 32) : Prop :=
  ((k0_t14_loop k0_t1 v1410).OK) ∧
  (∀ k0_t14 : Fin (k0_t14_loop k0_t1 v1410).trips, 16 ∣ (k0_mult38 k0_t1 v1410 k0_t14).toNat) ∧
  (∀ k0_t14 : Fin (k0_t14_loop k0_t1 v1410).trips, ∀ a, (k0_off37 k0_t1 v1410 k0_t14) a + S1x16.size a ≤ S8x6400.size a) ∧
  ((k0_t15_loop k0_t1 v1410).OK) ∧
  (∀ k0_t15 : Fin (k0_t15_loop k0_t1 v1410).trips, 16 ∣ (k0_mult39 k0_t1 v1410 k0_t15).toNat) ∧
  (∀ k0_t15 : Fin (k0_t15_loop k0_t1 v1410).trips, ∀ a, (k0_off38 k0_t1 v1410 k0_t15) a + S1x16.size a ≤ S8x6400.size a) ∧
  (16 ∣ (k0_mult40 k0_t1 v1410).toNat) ∧
  (∀ a, (k0_off39 k0_t1 v1410) a + S1x16.size a ≤ S8x6400.size a) ∧
  ((k0_t16_loop k0_t1 v1410).OK) ∧
  (∀ k0_t16 : Fin (k0_t16_loop k0_t1 v1410).trips, 16 ∣ (k0_mult41 k0_t1 v1410 k0_t16).toNat) ∧
  (∀ k0_t16 : Fin (k0_t16_loop k0_t1 v1410).trips, ∀ a, (k0_off40 k0_t1 v1410 k0_t16) a + S1x16.size a ≤ S8x6400.size a) ∧
  ((k0_t17_loop k0_t1 v1410).OK) ∧
  (∀ k0_t17 : Fin (k0_t17_loop k0_t1 v1410).trips, 16 ∣ (k0_mult42 k0_t1 v1410 k0_t17).toNat) ∧
  (∀ k0_t17 : Fin (k0_t17_loop k0_t1 v1410).trips, ∀ a, (k0_off41 k0_t1 v1410 k0_t17) a + S1x16.size a ≤ S8x6400.size a)
theorem k0_t14_ok : ∀ (k0_t1 : Fin k0_t1_loop.trips) (v1410 : BitVec 32) (k0_hw28 : k0_chk28 k0_t1 v1410), (k0_t14_loop k0_t1 v1410).OK := fun k0_t1 v1410 k0_hw28 => k0_hw28.1
theorem k0_mult38_dvd : ∀ (k0_t1 : Fin k0_t1_loop.trips) (v1410 : BitVec 32) (k0_hw28 : k0_chk28 k0_t1 v1410) (k0_t14 : Fin (k0_t14_loop k0_t1 v1410).trips), 16 ∣ (k0_mult38 k0_t1 v1410 k0_t14).toNat := fun k0_t1 v1410 k0_hw28 k0_t14 => k0_hw28.2.1 k0_t14
theorem k0_off37_inb : ∀ (k0_t1 : Fin k0_t1_loop.trips) (v1410 : BitVec 32) (k0_hw28 : k0_chk28 k0_t1 v1410) (k0_t14 : Fin (k0_t14_loop k0_t1 v1410).trips), ∀ a, (k0_off37 k0_t1 v1410 k0_t14) a + S1x16.size a ≤ S8x6400.size a := fun k0_t1 v1410 k0_hw28 k0_t14 => k0_hw28.2.2.1 k0_t14
theorem k0_t15_ok : ∀ (k0_t1 : Fin k0_t1_loop.trips) (v1410 : BitVec 32) (k0_hw28 : k0_chk28 k0_t1 v1410), (k0_t15_loop k0_t1 v1410).OK := fun k0_t1 v1410 k0_hw28 => k0_hw28.2.2.2.1
theorem k0_mult39_dvd : ∀ (k0_t1 : Fin k0_t1_loop.trips) (v1410 : BitVec 32) (k0_hw28 : k0_chk28 k0_t1 v1410) (k0_t15 : Fin (k0_t15_loop k0_t1 v1410).trips), 16 ∣ (k0_mult39 k0_t1 v1410 k0_t15).toNat := fun k0_t1 v1410 k0_hw28 k0_t15 => k0_hw28.2.2.2.2.1 k0_t15
theorem k0_off38_inb : ∀ (k0_t1 : Fin k0_t1_loop.trips) (v1410 : BitVec 32) (k0_hw28 : k0_chk28 k0_t1 v1410) (k0_t15 : Fin (k0_t15_loop k0_t1 v1410).trips), ∀ a, (k0_off38 k0_t1 v1410 k0_t15) a + S1x16.size a ≤ S8x6400.size a := fun k0_t1 v1410 k0_hw28 k0_t15 => k0_hw28.2.2.2.2.2.1 k0_t15
theorem k0_mult40_dvd : ∀ (k0_t1 : Fin k0_t1_loop.trips) (v1410 : BitVec 32) (k0_hw28 : k0_chk28 k0_t1 v1410), 16 ∣ (k0_mult40 k0_t1 v1410).toNat := fun k0_t1 v1410 k0_hw28 => k0_hw28.2.2.2.2.2.2.1
theorem k0_off39_inb : ∀ (k0_t1 : Fin k0_t1_loop.trips) (v1410 : BitVec 32) (k0_hw28 : k0_chk28 k0_t1 v1410), ∀ a, (k0_off39 k0_t1 v1410) a + S1x16.size a ≤ S8x6400.size a := fun k0_t1 v1410 k0_hw28 => k0_hw28.2.2.2.2.2.2.2.1
theorem k0_t16_ok : ∀ (k0_t1 : Fin k0_t1_loop.trips) (v1410 : BitVec 32) (k0_hw28 : k0_chk28 k0_t1 v1410), (k0_t16_loop k0_t1 v1410).OK := fun k0_t1 v1410 k0_hw28 => k0_hw28.2.2.2.2.2.2.2.2.1
theorem k0_mult41_dvd : ∀ (k0_t1 : Fin k0_t1_loop.trips) (v1410 : BitVec 32) (k0_hw28 : k0_chk28 k0_t1 v1410) (k0_t16 : Fin (k0_t16_loop k0_t1 v1410).trips), 16 ∣ (k0_mult41 k0_t1 v1410 k0_t16).toNat := fun k0_t1 v1410 k0_hw28 k0_t16 => k0_hw28.2.2.2.2.2.2.2.2.2.1 k0_t16
theorem k0_off40_inb : ∀ (k0_t1 : Fin k0_t1_loop.trips) (v1410 : BitVec 32) (k0_hw28 : k0_chk28 k0_t1 v1410) (k0_t16 : Fin (k0_t16_loop k0_t1 v1410).trips), ∀ a, (k0_off40 k0_t1 v1410 k0_t16) a + S1x16.size a ≤ S8x6400.size a := fun k0_t1 v1410 k0_hw28 k0_t16 => k0_hw28.2.2.2.2.2.2.2.2.2.2.1 k0_t16
theorem k0_t17_ok : ∀ (k0_t1 : Fin k0_t1_loop.trips) (v1410 : BitVec 32) (k0_hw28 : k0_chk28 k0_t1 v1410), (k0_t17_loop k0_t1 v1410).OK := fun k0_t1 v1410 k0_hw28 => k0_hw28.2.2.2.2.2.2.2.2.2.2.2.1
theorem k0_mult42_dvd : ∀ (k0_t1 : Fin k0_t1_loop.trips) (v1410 : BitVec 32) (k0_hw28 : k0_chk28 k0_t1 v1410) (k0_t17 : Fin (k0_t17_loop k0_t1 v1410).trips), 16 ∣ (k0_mult42 k0_t1 v1410 k0_t17).toNat := fun k0_t1 v1410 k0_hw28 k0_t17 => k0_hw28.2.2.2.2.2.2.2.2.2.2.2.2.1 k0_t17
theorem k0_off41_inb : ∀ (k0_t1 : Fin k0_t1_loop.trips) (v1410 : BitVec 32) (k0_hw28 : k0_chk28 k0_t1 v1410) (k0_t17 : Fin (k0_t17_loop k0_t1 v1410).trips), ∀ a, (k0_off41 k0_t1 v1410 k0_t17) a + S1x16.size a ≤ S8x6400.size a := fun k0_t1 v1410 k0_hw28 k0_t17 => k0_hw28.2.2.2.2.2.2.2.2.2.2.2.2.2 k0_t17

@[reducible] def k0_t18_loop (k0_t1 : Fin k0_t1_loop.trips) (v1451 : BitVec 32) : Scf.Loop 32 :=
  let c0_i32_613 : BitVec 32 := 0#32
  let c6400_i32_611 : BitVec 32 := 6400#32
  let c0_i32_610 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1452 : BitVec 32 := Scalar.subi v1451 v1280
  let v1453 : BitVec 32 := Scalar.maxsi c0_i32_610 v1452
  let v1454 : BitVec 32 := Scalar.minsi c6400_i32_611 v1453
  let c4_i32_612 : BitVec 32 := 4#32
  let v1455 : BitVec 32 := Scalar.shrui v1454 c4_i32_612
  let v1456 : BitVec 32 := Scalar.subi v1455 c0_i32_613
  let c1_i32_614 : BitVec 32 := 1#32
  let v1458 : BitVec 32 := Scalar.divsi v1456 c1_i32_614
  let v1459 : BitVec 32 := Scalar.muli v1458 c1_i32_614
  let v1460 : BitVec 32 := Scalar.addi c0_i32_613 v1459
  let c1_i32_615 : BitVec 32 := 1#32
  ⟨c0_i32_613, v1460, c1_i32_615⟩

def k0_mult43 (k0_t1 : Fin k0_t1_loop.trips) (v1451 : BitVec 32) (k0_t18 : Fin (k0_t18_loop k0_t1 v1451).trips) : BitVec 32 :=
  let c0_i32_613 : BitVec 32 := 0#32
  let c1_i32_615 : BitVec 32 := 1#32
  let arg27 : BitVec 32 := Scf.iv c0_i32_613 c1_i32_615 k0_t18
  let c16_i32_826 : BitVec 32 := 16#32
  let v1958 : BitVec 32 := Scalar.muli arg27 c16_i32_826
  v1958
def k0_off42 (k0_t1 : Fin k0_t1_loop.trips) (v1451 : BitVec 32) (k0_t18 : Fin (k0_t18_loop k0_t1 v1451).trips) : Fin 2 → Nat :=
  let c4_i32_827 : BitVec 32 := 4#32
  let v1960 : Index := Scalar.indexCast c4_i32_827
  let c0_i32_613 : BitVec 32 := 0#32
  let c1_i32_615 : BitVec 32 := 1#32
  let arg27 : BitVec 32 := Scf.iv c0_i32_613 c1_i32_615 k0_t18
  let c16_i32_826 : BitVec 32 := 16#32
  let v1958 : BitVec 32 := Scalar.muli arg27 c16_i32_826
  let v1959 : BitVec 32 := v1958
  let v1961 : Index := Scalar.indexCast v1959
  ![4, v1961.toNat]
@[reducible] def k0_t19_loop (k0_t1 : Fin k0_t1_loop.trips) (v1451 : BitVec 32) : Scf.Loop 32 :=
  let c0_i32_613 : BitVec 32 := 0#32
  let c6400_i32_611 : BitVec 32 := 6400#32
  let c0_i32_610 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1452 : BitVec 32 := Scalar.subi v1451 v1280
  let v1453 : BitVec 32 := Scalar.maxsi c0_i32_610 v1452
  let v1454 : BitVec 32 := Scalar.minsi c6400_i32_611 v1453
  let c4_i32_612 : BitVec 32 := 4#32
  let v1455 : BitVec 32 := Scalar.shrui v1454 c4_i32_612
  let v1456 : BitVec 32 := Scalar.subi v1455 c0_i32_613
  let c1_i32_614 : BitVec 32 := 1#32
  let v1458 : BitVec 32 := Scalar.divsi v1456 c1_i32_614
  let v1459 : BitVec 32 := Scalar.muli v1458 c1_i32_614
  let v1460 : BitVec 32 := Scalar.addi c0_i32_613 v1459
  let v1457 : BitVec 32 := Scalar.addi c0_i32_613 v1456
  let c1_i32_616 : BitVec 32 := 1#32
  ⟨v1460, v1457, c1_i32_616⟩
def k0_mult44 (k0_t1 : Fin k0_t1_loop.trips) (v1451 : BitVec 32) (k0_t19 : Fin (k0_t19_loop k0_t1 v1451).trips) : BitVec 32 :=
  let c0_i32_613 : BitVec 32 := 0#32
  let c6400_i32_611 : BitVec 32 := 6400#32
  let c0_i32_610 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1452 : BitVec 32 := Scalar.subi v1451 v1280
  let v1453 : BitVec 32 := Scalar.maxsi c0_i32_610 v1452
  let v1454 : BitVec 32 := Scalar.minsi c6400_i32_611 v1453
  let c4_i32_612 : BitVec 32 := 4#32
  let v1455 : BitVec 32 := Scalar.shrui v1454 c4_i32_612
  let v1456 : BitVec 32 := Scalar.subi v1455 c0_i32_613
  let c1_i32_614 : BitVec 32 := 1#32
  let v1458 : BitVec 32 := Scalar.divsi v1456 c1_i32_614
  let v1459 : BitVec 32 := Scalar.muli v1458 c1_i32_614
  let v1460 : BitVec 32 := Scalar.addi c0_i32_613 v1459
  let c1_i32_616 : BitVec 32 := 1#32
  let arg27 : BitVec 32 := Scf.iv v1460 c1_i32_616 k0_t19
  let c16_i32_826 : BitVec 32 := 16#32
  let v1958 : BitVec 32 := Scalar.muli arg27 c16_i32_826
  v1958
def k0_off43 (k0_t1 : Fin k0_t1_loop.trips) (v1451 : BitVec 32) (k0_t19 : Fin (k0_t19_loop k0_t1 v1451).trips) : Fin 2 → Nat :=
  let c4_i32_827 : BitVec 32 := 4#32
  let v1960 : Index := Scalar.indexCast c4_i32_827
  let c0_i32_613 : BitVec 32 := 0#32
  let c6400_i32_611 : BitVec 32 := 6400#32
  let c0_i32_610 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1452 : BitVec 32 := Scalar.subi v1451 v1280
  let v1453 : BitVec 32 := Scalar.maxsi c0_i32_610 v1452
  let v1454 : BitVec 32 := Scalar.minsi c6400_i32_611 v1453
  let c4_i32_612 : BitVec 32 := 4#32
  let v1455 : BitVec 32 := Scalar.shrui v1454 c4_i32_612
  let v1456 : BitVec 32 := Scalar.subi v1455 c0_i32_613
  let c1_i32_614 : BitVec 32 := 1#32
  let v1458 : BitVec 32 := Scalar.divsi v1456 c1_i32_614
  let v1459 : BitVec 32 := Scalar.muli v1458 c1_i32_614
  let v1460 : BitVec 32 := Scalar.addi c0_i32_613 v1459
  let c1_i32_616 : BitVec 32 := 1#32
  let arg27 : BitVec 32 := Scf.iv v1460 c1_i32_616 k0_t19
  let c16_i32_826 : BitVec 32 := 16#32
  let v1958 : BitVec 32 := Scalar.muli arg27 c16_i32_826
  let v1959 : BitVec 32 := v1958
  let v1961 : Index := Scalar.indexCast v1959
  ![4, v1961.toNat]
def k0_mult45 (k0_t1 : Fin k0_t1_loop.trips) (v1451 : BitVec 32) : BitVec 32 :=
  let c6400_i32_611 : BitVec 32 := 6400#32
  let c0_i32_610 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1452 : BitVec 32 := Scalar.subi v1451 v1280
  let v1453 : BitVec 32 := Scalar.maxsi c0_i32_610 v1452
  let v1454 : BitVec 32 := Scalar.minsi c6400_i32_611 v1453
  let c4_i32_612 : BitVec 32 := 4#32
  let v1455 : BitVec 32 := Scalar.shrui v1454 c4_i32_612
  let c399_i32_617 : BitVec 32 := 399#32
  let v1463 : BitVec 32 := Scalar.minsi v1455 c399_i32_617
  let c16_i32_618 : BitVec 32 := 16#32
  let v1464 : BitVec 32 := Scalar.muli v1463 c16_i32_618
  v1464
def k0_off44 (k0_t1 : Fin k0_t1_loop.trips) (v1451 : BitVec 32) : Fin 2 → Nat :=
  let c4_i32_619 : BitVec 32 := 4#32
  let v1466 : Index := Scalar.indexCast c4_i32_619
  let c6400_i32_611 : BitVec 32 := 6400#32
  let c0_i32_610 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1452 : BitVec 32 := Scalar.subi v1451 v1280
  let v1453 : BitVec 32 := Scalar.maxsi c0_i32_610 v1452
  let v1454 : BitVec 32 := Scalar.minsi c6400_i32_611 v1453
  let c4_i32_612 : BitVec 32 := 4#32
  let v1455 : BitVec 32 := Scalar.shrui v1454 c4_i32_612
  let c399_i32_617 : BitVec 32 := 399#32
  let v1463 : BitVec 32 := Scalar.minsi v1455 c399_i32_617
  let c16_i32_618 : BitVec 32 := 16#32
  let v1464 : BitVec 32 := Scalar.muli v1463 c16_i32_618
  let v1465 : BitVec 32 := v1464
  let v1467 : Index := Scalar.indexCast v1465
  ![4, v1467.toNat]
@[reducible] def k0_t20_loop (k0_t1 : Fin k0_t1_loop.trips) (v1451 : BitVec 32) : Scf.Loop 32 :=
  let c6400_i32_611 : BitVec 32 := 6400#32
  let c0_i32_610 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1452 : BitVec 32 := Scalar.subi v1451 v1280
  let v1453 : BitVec 32 := Scalar.maxsi c0_i32_610 v1452
  let v1454 : BitVec 32 := Scalar.minsi c6400_i32_611 v1453
  let c4_i32_612 : BitVec 32 := 4#32
  let v1455 : BitVec 32 := Scalar.shrui v1454 c4_i32_612
  let c1_i32_622 : BitVec 32 := 1#32
  let v1483 : BitVec 32 := Scalar.addi v1455 c1_i32_622
  let c400_i32_623 : BitVec 32 := 400#32
  let v1484 : BitVec 32 := Scalar.subi c400_i32_623 v1483
  let c1_i32_624 : BitVec 32 := 1#32
  let v1486 : BitVec 32 := Scalar.divsi v1484 c1_i32_624
  let v1487 : BitVec 32 := Scalar.muli v1486 c1_i32_624
  let v1488 : BitVec 32 := Scalar.addi v1483 v1487
  let c1_i32_625 : BitVec 32 := 1#32
  ⟨v1483, v1488, c1_i32_625⟩
def k0_mult46 (k0_t1 : Fin k0_t1_loop.trips) (v1451 : BitVec 32) (k0_t20 : Fin (k0_t20_loop k0_t1 v1451).trips) : BitVec 32 :=
  let c6400_i32_611 : BitVec 32 := 6400#32
  let c0_i32_610 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1452 : BitVec 32 := Scalar.subi v1451 v1280
  let v1453 : BitVec 32 := Scalar.maxsi c0_i32_610 v1452
  let v1454 : BitVec 32 := Scalar.minsi c6400_i32_611 v1453
  let c4_i32_612 : BitVec 32 := 4#32
  let v1455 : BitVec 32 := Scalar.shrui v1454 c4_i32_612
  let c1_i32_622 : BitVec 32 := 1#32
  let v1483 : BitVec 32 := Scalar.addi v1455 c1_i32_622
  let c1_i32_625 : BitVec 32 := 1#32
  let arg27 : BitVec 32 := Scf.iv v1483 c1_i32_625 k0_t20
  let c16_i32_826 : BitVec 32 := 16#32
  let v1958 : BitVec 32 := Scalar.muli arg27 c16_i32_826
  v1958
def k0_off45 (k0_t1 : Fin k0_t1_loop.trips) (v1451 : BitVec 32) (k0_t20 : Fin (k0_t20_loop k0_t1 v1451).trips) : Fin 2 → Nat :=
  let c4_i32_827 : BitVec 32 := 4#32
  let v1960 : Index := Scalar.indexCast c4_i32_827
  let c6400_i32_611 : BitVec 32 := 6400#32
  let c0_i32_610 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1452 : BitVec 32 := Scalar.subi v1451 v1280
  let v1453 : BitVec 32 := Scalar.maxsi c0_i32_610 v1452
  let v1454 : BitVec 32 := Scalar.minsi c6400_i32_611 v1453
  let c4_i32_612 : BitVec 32 := 4#32
  let v1455 : BitVec 32 := Scalar.shrui v1454 c4_i32_612
  let c1_i32_622 : BitVec 32 := 1#32
  let v1483 : BitVec 32 := Scalar.addi v1455 c1_i32_622
  let c1_i32_625 : BitVec 32 := 1#32
  let arg27 : BitVec 32 := Scf.iv v1483 c1_i32_625 k0_t20
  let c16_i32_826 : BitVec 32 := 16#32
  let v1958 : BitVec 32 := Scalar.muli arg27 c16_i32_826
  let v1959 : BitVec 32 := v1958
  let v1961 : Index := Scalar.indexCast v1959
  ![4, v1961.toNat]
@[reducible] def k0_t21_loop (k0_t1 : Fin k0_t1_loop.trips) (v1451 : BitVec 32) : Scf.Loop 32 :=
  let c6400_i32_611 : BitVec 32 := 6400#32
  let c0_i32_610 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1452 : BitVec 32 := Scalar.subi v1451 v1280
  let v1453 : BitVec 32 := Scalar.maxsi c0_i32_610 v1452
  let v1454 : BitVec 32 := Scalar.minsi c6400_i32_611 v1453
  let c4_i32_612 : BitVec 32 := 4#32
  let v1455 : BitVec 32 := Scalar.shrui v1454 c4_i32_612
  let c1_i32_622 : BitVec 32 := 1#32
  let v1483 : BitVec 32 := Scalar.addi v1455 c1_i32_622
  let c400_i32_623 : BitVec 32 := 400#32
  let v1484 : BitVec 32 := Scalar.subi c400_i32_623 v1483
  let c1_i32_624 : BitVec 32 := 1#32
  let v1486 : BitVec 32 := Scalar.divsi v1484 c1_i32_624
  let v1487 : BitVec 32 := Scalar.muli v1486 c1_i32_624
  let v1488 : BitVec 32 := Scalar.addi v1483 v1487
  let v1485 : BitVec 32 := Scalar.addi v1483 v1484
  let c1_i32_626 : BitVec 32 := 1#32
  ⟨v1488, v1485, c1_i32_626⟩
def k0_mult47 (k0_t1 : Fin k0_t1_loop.trips) (v1451 : BitVec 32) (k0_t21 : Fin (k0_t21_loop k0_t1 v1451).trips) : BitVec 32 :=
  let c6400_i32_611 : BitVec 32 := 6400#32
  let c0_i32_610 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1452 : BitVec 32 := Scalar.subi v1451 v1280
  let v1453 : BitVec 32 := Scalar.maxsi c0_i32_610 v1452
  let v1454 : BitVec 32 := Scalar.minsi c6400_i32_611 v1453
  let c4_i32_612 : BitVec 32 := 4#32
  let v1455 : BitVec 32 := Scalar.shrui v1454 c4_i32_612
  let c1_i32_622 : BitVec 32 := 1#32
  let v1483 : BitVec 32 := Scalar.addi v1455 c1_i32_622
  let c400_i32_623 : BitVec 32 := 400#32
  let v1484 : BitVec 32 := Scalar.subi c400_i32_623 v1483
  let c1_i32_624 : BitVec 32 := 1#32
  let v1486 : BitVec 32 := Scalar.divsi v1484 c1_i32_624
  let v1487 : BitVec 32 := Scalar.muli v1486 c1_i32_624
  let v1488 : BitVec 32 := Scalar.addi v1483 v1487
  let c1_i32_626 : BitVec 32 := 1#32
  let arg27 : BitVec 32 := Scf.iv v1488 c1_i32_626 k0_t21
  let c16_i32_826 : BitVec 32 := 16#32
  let v1958 : BitVec 32 := Scalar.muli arg27 c16_i32_826
  v1958
def k0_off46 (k0_t1 : Fin k0_t1_loop.trips) (v1451 : BitVec 32) (k0_t21 : Fin (k0_t21_loop k0_t1 v1451).trips) : Fin 2 → Nat :=
  let c4_i32_827 : BitVec 32 := 4#32
  let v1960 : Index := Scalar.indexCast c4_i32_827
  let c6400_i32_611 : BitVec 32 := 6400#32
  let c0_i32_610 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1452 : BitVec 32 := Scalar.subi v1451 v1280
  let v1453 : BitVec 32 := Scalar.maxsi c0_i32_610 v1452
  let v1454 : BitVec 32 := Scalar.minsi c6400_i32_611 v1453
  let c4_i32_612 : BitVec 32 := 4#32
  let v1455 : BitVec 32 := Scalar.shrui v1454 c4_i32_612
  let c1_i32_622 : BitVec 32 := 1#32
  let v1483 : BitVec 32 := Scalar.addi v1455 c1_i32_622
  let c400_i32_623 : BitVec 32 := 400#32
  let v1484 : BitVec 32 := Scalar.subi c400_i32_623 v1483
  let c1_i32_624 : BitVec 32 := 1#32
  let v1486 : BitVec 32 := Scalar.divsi v1484 c1_i32_624
  let v1487 : BitVec 32 := Scalar.muli v1486 c1_i32_624
  let v1488 : BitVec 32 := Scalar.addi v1483 v1487
  let c1_i32_626 : BitVec 32 := 1#32
  let arg27 : BitVec 32 := Scf.iv v1488 c1_i32_626 k0_t21
  let c16_i32_826 : BitVec 32 := 16#32
  let v1958 : BitVec 32 := Scalar.muli arg27 c16_i32_826
  let v1959 : BitVec 32 := v1958
  let v1961 : Index := Scalar.indexCast v1959
  ![4, v1961.toNat]

def k0_chk29 (k0_t1 : Fin k0_t1_loop.trips) (v1451 : BitVec 32) : Prop :=
  ((k0_t18_loop k0_t1 v1451).OK) ∧
  (∀ k0_t18 : Fin (k0_t18_loop k0_t1 v1451).trips, 16 ∣ (k0_mult43 k0_t1 v1451 k0_t18).toNat) ∧
  (∀ k0_t18 : Fin (k0_t18_loop k0_t1 v1451).trips, ∀ a, (k0_off42 k0_t1 v1451 k0_t18) a + S1x16.size a ≤ S8x6400.size a) ∧
  ((k0_t19_loop k0_t1 v1451).OK) ∧
  (∀ k0_t19 : Fin (k0_t19_loop k0_t1 v1451).trips, 16 ∣ (k0_mult44 k0_t1 v1451 k0_t19).toNat) ∧
  (∀ k0_t19 : Fin (k0_t19_loop k0_t1 v1451).trips, ∀ a, (k0_off43 k0_t1 v1451 k0_t19) a + S1x16.size a ≤ S8x6400.size a) ∧
  (16 ∣ (k0_mult45 k0_t1 v1451).toNat) ∧
  (∀ a, (k0_off44 k0_t1 v1451) a + S1x16.size a ≤ S8x6400.size a) ∧
  ((k0_t20_loop k0_t1 v1451).OK) ∧
  (∀ k0_t20 : Fin (k0_t20_loop k0_t1 v1451).trips, 16 ∣ (k0_mult46 k0_t1 v1451 k0_t20).toNat) ∧
  (∀ k0_t20 : Fin (k0_t20_loop k0_t1 v1451).trips, ∀ a, (k0_off45 k0_t1 v1451 k0_t20) a + S1x16.size a ≤ S8x6400.size a) ∧
  ((k0_t21_loop k0_t1 v1451).OK) ∧
  (∀ k0_t21 : Fin (k0_t21_loop k0_t1 v1451).trips, 16 ∣ (k0_mult47 k0_t1 v1451 k0_t21).toNat) ∧
  (∀ k0_t21 : Fin (k0_t21_loop k0_t1 v1451).trips, ∀ a, (k0_off46 k0_t1 v1451 k0_t21) a + S1x16.size a ≤ S8x6400.size a)
theorem k0_t18_ok : ∀ (k0_t1 : Fin k0_t1_loop.trips) (v1451 : BitVec 32) (k0_hw29 : k0_chk29 k0_t1 v1451), (k0_t18_loop k0_t1 v1451).OK := fun k0_t1 v1451 k0_hw29 => k0_hw29.1
theorem k0_mult43_dvd : ∀ (k0_t1 : Fin k0_t1_loop.trips) (v1451 : BitVec 32) (k0_hw29 : k0_chk29 k0_t1 v1451) (k0_t18 : Fin (k0_t18_loop k0_t1 v1451).trips), 16 ∣ (k0_mult43 k0_t1 v1451 k0_t18).toNat := fun k0_t1 v1451 k0_hw29 k0_t18 => k0_hw29.2.1 k0_t18
theorem k0_off42_inb : ∀ (k0_t1 : Fin k0_t1_loop.trips) (v1451 : BitVec 32) (k0_hw29 : k0_chk29 k0_t1 v1451) (k0_t18 : Fin (k0_t18_loop k0_t1 v1451).trips), ∀ a, (k0_off42 k0_t1 v1451 k0_t18) a + S1x16.size a ≤ S8x6400.size a := fun k0_t1 v1451 k0_hw29 k0_t18 => k0_hw29.2.2.1 k0_t18
theorem k0_t19_ok : ∀ (k0_t1 : Fin k0_t1_loop.trips) (v1451 : BitVec 32) (k0_hw29 : k0_chk29 k0_t1 v1451), (k0_t19_loop k0_t1 v1451).OK := fun k0_t1 v1451 k0_hw29 => k0_hw29.2.2.2.1
theorem k0_mult44_dvd : ∀ (k0_t1 : Fin k0_t1_loop.trips) (v1451 : BitVec 32) (k0_hw29 : k0_chk29 k0_t1 v1451) (k0_t19 : Fin (k0_t19_loop k0_t1 v1451).trips), 16 ∣ (k0_mult44 k0_t1 v1451 k0_t19).toNat := fun k0_t1 v1451 k0_hw29 k0_t19 => k0_hw29.2.2.2.2.1 k0_t19
theorem k0_off43_inb : ∀ (k0_t1 : Fin k0_t1_loop.trips) (v1451 : BitVec 32) (k0_hw29 : k0_chk29 k0_t1 v1451) (k0_t19 : Fin (k0_t19_loop k0_t1 v1451).trips), ∀ a, (k0_off43 k0_t1 v1451 k0_t19) a + S1x16.size a ≤ S8x6400.size a := fun k0_t1 v1451 k0_hw29 k0_t19 => k0_hw29.2.2.2.2.2.1 k0_t19
theorem k0_mult45_dvd : ∀ (k0_t1 : Fin k0_t1_loop.trips) (v1451 : BitVec 32) (k0_hw29 : k0_chk29 k0_t1 v1451), 16 ∣ (k0_mult45 k0_t1 v1451).toNat := fun k0_t1 v1451 k0_hw29 => k0_hw29.2.2.2.2.2.2.1
theorem k0_off44_inb : ∀ (k0_t1 : Fin k0_t1_loop.trips) (v1451 : BitVec 32) (k0_hw29 : k0_chk29 k0_t1 v1451), ∀ a, (k0_off44 k0_t1 v1451) a + S1x16.size a ≤ S8x6400.size a := fun k0_t1 v1451 k0_hw29 => k0_hw29.2.2.2.2.2.2.2.1
theorem k0_t20_ok : ∀ (k0_t1 : Fin k0_t1_loop.trips) (v1451 : BitVec 32) (k0_hw29 : k0_chk29 k0_t1 v1451), (k0_t20_loop k0_t1 v1451).OK := fun k0_t1 v1451 k0_hw29 => k0_hw29.2.2.2.2.2.2.2.2.1
theorem k0_mult46_dvd : ∀ (k0_t1 : Fin k0_t1_loop.trips) (v1451 : BitVec 32) (k0_hw29 : k0_chk29 k0_t1 v1451) (k0_t20 : Fin (k0_t20_loop k0_t1 v1451).trips), 16 ∣ (k0_mult46 k0_t1 v1451 k0_t20).toNat := fun k0_t1 v1451 k0_hw29 k0_t20 => k0_hw29.2.2.2.2.2.2.2.2.2.1 k0_t20
theorem k0_off45_inb : ∀ (k0_t1 : Fin k0_t1_loop.trips) (v1451 : BitVec 32) (k0_hw29 : k0_chk29 k0_t1 v1451) (k0_t20 : Fin (k0_t20_loop k0_t1 v1451).trips), ∀ a, (k0_off45 k0_t1 v1451 k0_t20) a + S1x16.size a ≤ S8x6400.size a := fun k0_t1 v1451 k0_hw29 k0_t20 => k0_hw29.2.2.2.2.2.2.2.2.2.2.1 k0_t20
theorem k0_t21_ok : ∀ (k0_t1 : Fin k0_t1_loop.trips) (v1451 : BitVec 32) (k0_hw29 : k0_chk29 k0_t1 v1451), (k0_t21_loop k0_t1 v1451).OK := fun k0_t1 v1451 k0_hw29 => k0_hw29.2.2.2.2.2.2.2.2.2.2.2.1
theorem k0_mult47_dvd : ∀ (k0_t1 : Fin k0_t1_loop.trips) (v1451 : BitVec 32) (k0_hw29 : k0_chk29 k0_t1 v1451) (k0_t21 : Fin (k0_t21_loop k0_t1 v1451).trips), 16 ∣ (k0_mult47 k0_t1 v1451 k0_t21).toNat := fun k0_t1 v1451 k0_hw29 k0_t21 => k0_hw29.2.2.2.2.2.2.2.2.2.2.2.2.1 k0_t21
theorem k0_off46_inb : ∀ (k0_t1 : Fin k0_t1_loop.trips) (v1451 : BitVec 32) (k0_hw29 : k0_chk29 k0_t1 v1451) (k0_t21 : Fin (k0_t21_loop k0_t1 v1451).trips), ∀ a, (k0_off46 k0_t1 v1451 k0_t21) a + S1x16.size a ≤ S8x6400.size a := fun k0_t1 v1451 k0_hw29 k0_t21 => k0_hw29.2.2.2.2.2.2.2.2.2.2.2.2.2 k0_t21

@[reducible] def k0_t22_loop (k0_t1 : Fin k0_t1_loop.trips) (v1492 : BitVec 32) : Scf.Loop 32 :=
  let c0_i32_630 : BitVec 32 := 0#32
  let c6400_i32_628 : BitVec 32 := 6400#32
  let c0_i32_627 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1493 : BitVec 32 := Scalar.subi v1492 v1280
  let v1494 : BitVec 32 := Scalar.maxsi c0_i32_627 v1493
  let v1495 : BitVec 32 := Scalar.minsi c6400_i32_628 v1494
  let c4_i32_629 : BitVec 32 := 4#32
  let v1496 : BitVec 32 := Scalar.shrui v1495 c4_i32_629
  let v1497 : BitVec 32 := Scalar.subi v1496 c0_i32_630
  let c1_i32_631 : BitVec 32 := 1#32
  let v1499 : BitVec 32 := Scalar.divsi v1497 c1_i32_631
  let v1500 : BitVec 32 := Scalar.muli v1499 c1_i32_631
  let v1501 : BitVec 32 := Scalar.addi c0_i32_630 v1500
  let c1_i32_632 : BitVec 32 := 1#32
  ⟨c0_i32_630, v1501, c1_i32_632⟩

def k0_mult48 (k0_t1 : Fin k0_t1_loop.trips) (v1492 : BitVec 32) (k0_t22 : Fin (k0_t22_loop k0_t1 v1492).trips) : BitVec 32 :=
  let c0_i32_630 : BitVec 32 := 0#32
  let c1_i32_632 : BitVec 32 := 1#32
  let arg27 : BitVec 32 := Scf.iv c0_i32_630 c1_i32_632 k0_t22
  let c16_i32_826 : BitVec 32 := 16#32
  let v1958 : BitVec 32 := Scalar.muli arg27 c16_i32_826
  v1958
def k0_off47 (k0_t1 : Fin k0_t1_loop.trips) (v1492 : BitVec 32) (k0_t22 : Fin (k0_t22_loop k0_t1 v1492).trips) : Fin 2 → Nat :=
  let c5_i32_827 : BitVec 32 := 5#32
  let v1960 : Index := Scalar.indexCast c5_i32_827
  let c0_i32_630 : BitVec 32 := 0#32
  let c1_i32_632 : BitVec 32 := 1#32
  let arg27 : BitVec 32 := Scf.iv c0_i32_630 c1_i32_632 k0_t22
  let c16_i32_826 : BitVec 32 := 16#32
  let v1958 : BitVec 32 := Scalar.muli arg27 c16_i32_826
  let v1959 : BitVec 32 := v1958
  let v1961 : Index := Scalar.indexCast v1959
  ![5, v1961.toNat]
@[reducible] def k0_t23_loop (k0_t1 : Fin k0_t1_loop.trips) (v1492 : BitVec 32) : Scf.Loop 32 :=
  let c0_i32_630 : BitVec 32 := 0#32
  let c6400_i32_628 : BitVec 32 := 6400#32
  let c0_i32_627 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1493 : BitVec 32 := Scalar.subi v1492 v1280
  let v1494 : BitVec 32 := Scalar.maxsi c0_i32_627 v1493
  let v1495 : BitVec 32 := Scalar.minsi c6400_i32_628 v1494
  let c4_i32_629 : BitVec 32 := 4#32
  let v1496 : BitVec 32 := Scalar.shrui v1495 c4_i32_629
  let v1497 : BitVec 32 := Scalar.subi v1496 c0_i32_630
  let c1_i32_631 : BitVec 32 := 1#32
  let v1499 : BitVec 32 := Scalar.divsi v1497 c1_i32_631
  let v1500 : BitVec 32 := Scalar.muli v1499 c1_i32_631
  let v1501 : BitVec 32 := Scalar.addi c0_i32_630 v1500
  let v1498 : BitVec 32 := Scalar.addi c0_i32_630 v1497
  let c1_i32_633 : BitVec 32 := 1#32
  ⟨v1501, v1498, c1_i32_633⟩
def k0_mult49 (k0_t1 : Fin k0_t1_loop.trips) (v1492 : BitVec 32) (k0_t23 : Fin (k0_t23_loop k0_t1 v1492).trips) : BitVec 32 :=
  let c0_i32_630 : BitVec 32 := 0#32
  let c6400_i32_628 : BitVec 32 := 6400#32
  let c0_i32_627 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1493 : BitVec 32 := Scalar.subi v1492 v1280
  let v1494 : BitVec 32 := Scalar.maxsi c0_i32_627 v1493
  let v1495 : BitVec 32 := Scalar.minsi c6400_i32_628 v1494
  let c4_i32_629 : BitVec 32 := 4#32
  let v1496 : BitVec 32 := Scalar.shrui v1495 c4_i32_629
  let v1497 : BitVec 32 := Scalar.subi v1496 c0_i32_630
  let c1_i32_631 : BitVec 32 := 1#32
  let v1499 : BitVec 32 := Scalar.divsi v1497 c1_i32_631
  let v1500 : BitVec 32 := Scalar.muli v1499 c1_i32_631
  let v1501 : BitVec 32 := Scalar.addi c0_i32_630 v1500
  let c1_i32_633 : BitVec 32 := 1#32
  let arg27 : BitVec 32 := Scf.iv v1501 c1_i32_633 k0_t23
  let c16_i32_826 : BitVec 32 := 16#32
  let v1958 : BitVec 32 := Scalar.muli arg27 c16_i32_826
  v1958
def k0_off48 (k0_t1 : Fin k0_t1_loop.trips) (v1492 : BitVec 32) (k0_t23 : Fin (k0_t23_loop k0_t1 v1492).trips) : Fin 2 → Nat :=
  let c5_i32_827 : BitVec 32 := 5#32
  let v1960 : Index := Scalar.indexCast c5_i32_827
  let c0_i32_630 : BitVec 32 := 0#32
  let c6400_i32_628 : BitVec 32 := 6400#32
  let c0_i32_627 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1493 : BitVec 32 := Scalar.subi v1492 v1280
  let v1494 : BitVec 32 := Scalar.maxsi c0_i32_627 v1493
  let v1495 : BitVec 32 := Scalar.minsi c6400_i32_628 v1494
  let c4_i32_629 : BitVec 32 := 4#32
  let v1496 : BitVec 32 := Scalar.shrui v1495 c4_i32_629
  let v1497 : BitVec 32 := Scalar.subi v1496 c0_i32_630
  let c1_i32_631 : BitVec 32 := 1#32
  let v1499 : BitVec 32 := Scalar.divsi v1497 c1_i32_631
  let v1500 : BitVec 32 := Scalar.muli v1499 c1_i32_631
  let v1501 : BitVec 32 := Scalar.addi c0_i32_630 v1500
  let c1_i32_633 : BitVec 32 := 1#32
  let arg27 : BitVec 32 := Scf.iv v1501 c1_i32_633 k0_t23
  let c16_i32_826 : BitVec 32 := 16#32
  let v1958 : BitVec 32 := Scalar.muli arg27 c16_i32_826
  let v1959 : BitVec 32 := v1958
  let v1961 : Index := Scalar.indexCast v1959
  ![5, v1961.toNat]
def k0_mult50 (k0_t1 : Fin k0_t1_loop.trips) (v1492 : BitVec 32) : BitVec 32 :=
  let c6400_i32_628 : BitVec 32 := 6400#32
  let c0_i32_627 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1493 : BitVec 32 := Scalar.subi v1492 v1280
  let v1494 : BitVec 32 := Scalar.maxsi c0_i32_627 v1493
  let v1495 : BitVec 32 := Scalar.minsi c6400_i32_628 v1494
  let c4_i32_629 : BitVec 32 := 4#32
  let v1496 : BitVec 32 := Scalar.shrui v1495 c4_i32_629
  let c399_i32_634 : BitVec 32 := 399#32
  let v1504 : BitVec 32 := Scalar.minsi v1496 c399_i32_634
  let c16_i32_635 : BitVec 32 := 16#32
  let v1505 : BitVec 32 := Scalar.muli v1504 c16_i32_635
  v1505
def k0_off49 (k0_t1 : Fin k0_t1_loop.trips) (v1492 : BitVec 32) : Fin 2 → Nat :=
  let c5_i32_636 : BitVec 32 := 5#32
  let v1507 : Index := Scalar.indexCast c5_i32_636
  let c6400_i32_628 : BitVec 32 := 6400#32
  let c0_i32_627 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1493 : BitVec 32 := Scalar.subi v1492 v1280
  let v1494 : BitVec 32 := Scalar.maxsi c0_i32_627 v1493
  let v1495 : BitVec 32 := Scalar.minsi c6400_i32_628 v1494
  let c4_i32_629 : BitVec 32 := 4#32
  let v1496 : BitVec 32 := Scalar.shrui v1495 c4_i32_629
  let c399_i32_634 : BitVec 32 := 399#32
  let v1504 : BitVec 32 := Scalar.minsi v1496 c399_i32_634
  let c16_i32_635 : BitVec 32 := 16#32
  let v1505 : BitVec 32 := Scalar.muli v1504 c16_i32_635
  let v1506 : BitVec 32 := v1505
  let v1508 : Index := Scalar.indexCast v1506
  ![5, v1508.toNat]
@[reducible] def k0_t24_loop (k0_t1 : Fin k0_t1_loop.trips) (v1492 : BitVec 32) : Scf.Loop 32 :=
  let c6400_i32_628 : BitVec 32 := 6400#32
  let c0_i32_627 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1493 : BitVec 32 := Scalar.subi v1492 v1280
  let v1494 : BitVec 32 := Scalar.maxsi c0_i32_627 v1493
  let v1495 : BitVec 32 := Scalar.minsi c6400_i32_628 v1494
  let c4_i32_629 : BitVec 32 := 4#32
  let v1496 : BitVec 32 := Scalar.shrui v1495 c4_i32_629
  let c1_i32_639 : BitVec 32 := 1#32
  let v1524 : BitVec 32 := Scalar.addi v1496 c1_i32_639
  let c400_i32_640 : BitVec 32 := 400#32
  let v1525 : BitVec 32 := Scalar.subi c400_i32_640 v1524
  let c1_i32_641 : BitVec 32 := 1#32
  let v1527 : BitVec 32 := Scalar.divsi v1525 c1_i32_641
  let v1528 : BitVec 32 := Scalar.muli v1527 c1_i32_641
  let v1529 : BitVec 32 := Scalar.addi v1524 v1528
  let c1_i32_642 : BitVec 32 := 1#32
  ⟨v1524, v1529, c1_i32_642⟩
def k0_mult51 (k0_t1 : Fin k0_t1_loop.trips) (v1492 : BitVec 32) (k0_t24 : Fin (k0_t24_loop k0_t1 v1492).trips) : BitVec 32 :=
  let c6400_i32_628 : BitVec 32 := 6400#32
  let c0_i32_627 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1493 : BitVec 32 := Scalar.subi v1492 v1280
  let v1494 : BitVec 32 := Scalar.maxsi c0_i32_627 v1493
  let v1495 : BitVec 32 := Scalar.minsi c6400_i32_628 v1494
  let c4_i32_629 : BitVec 32 := 4#32
  let v1496 : BitVec 32 := Scalar.shrui v1495 c4_i32_629
  let c1_i32_639 : BitVec 32 := 1#32
  let v1524 : BitVec 32 := Scalar.addi v1496 c1_i32_639
  let c1_i32_642 : BitVec 32 := 1#32
  let arg27 : BitVec 32 := Scf.iv v1524 c1_i32_642 k0_t24
  let c16_i32_826 : BitVec 32 := 16#32
  let v1958 : BitVec 32 := Scalar.muli arg27 c16_i32_826
  v1958
def k0_off50 (k0_t1 : Fin k0_t1_loop.trips) (v1492 : BitVec 32) (k0_t24 : Fin (k0_t24_loop k0_t1 v1492).trips) : Fin 2 → Nat :=
  let c5_i32_827 : BitVec 32 := 5#32
  let v1960 : Index := Scalar.indexCast c5_i32_827
  let c6400_i32_628 : BitVec 32 := 6400#32
  let c0_i32_627 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1493 : BitVec 32 := Scalar.subi v1492 v1280
  let v1494 : BitVec 32 := Scalar.maxsi c0_i32_627 v1493
  let v1495 : BitVec 32 := Scalar.minsi c6400_i32_628 v1494
  let c4_i32_629 : BitVec 32 := 4#32
  let v1496 : BitVec 32 := Scalar.shrui v1495 c4_i32_629
  let c1_i32_639 : BitVec 32 := 1#32
  let v1524 : BitVec 32 := Scalar.addi v1496 c1_i32_639
  let c1_i32_642 : BitVec 32 := 1#32
  let arg27 : BitVec 32 := Scf.iv v1524 c1_i32_642 k0_t24
  let c16_i32_826 : BitVec 32 := 16#32
  let v1958 : BitVec 32 := Scalar.muli arg27 c16_i32_826
  let v1959 : BitVec 32 := v1958
  let v1961 : Index := Scalar.indexCast v1959
  ![5, v1961.toNat]
@[reducible] def k0_t25_loop (k0_t1 : Fin k0_t1_loop.trips) (v1492 : BitVec 32) : Scf.Loop 32 :=
  let c6400_i32_628 : BitVec 32 := 6400#32
  let c0_i32_627 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1493 : BitVec 32 := Scalar.subi v1492 v1280
  let v1494 : BitVec 32 := Scalar.maxsi c0_i32_627 v1493
  let v1495 : BitVec 32 := Scalar.minsi c6400_i32_628 v1494
  let c4_i32_629 : BitVec 32 := 4#32
  let v1496 : BitVec 32 := Scalar.shrui v1495 c4_i32_629
  let c1_i32_639 : BitVec 32 := 1#32
  let v1524 : BitVec 32 := Scalar.addi v1496 c1_i32_639
  let c400_i32_640 : BitVec 32 := 400#32
  let v1525 : BitVec 32 := Scalar.subi c400_i32_640 v1524
  let c1_i32_641 : BitVec 32 := 1#32
  let v1527 : BitVec 32 := Scalar.divsi v1525 c1_i32_641
  let v1528 : BitVec 32 := Scalar.muli v1527 c1_i32_641
  let v1529 : BitVec 32 := Scalar.addi v1524 v1528
  let v1526 : BitVec 32 := Scalar.addi v1524 v1525
  let c1_i32_643 : BitVec 32 := 1#32
  ⟨v1529, v1526, c1_i32_643⟩
def k0_mult52 (k0_t1 : Fin k0_t1_loop.trips) (v1492 : BitVec 32) (k0_t25 : Fin (k0_t25_loop k0_t1 v1492).trips) : BitVec 32 :=
  let c6400_i32_628 : BitVec 32 := 6400#32
  let c0_i32_627 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1493 : BitVec 32 := Scalar.subi v1492 v1280
  let v1494 : BitVec 32 := Scalar.maxsi c0_i32_627 v1493
  let v1495 : BitVec 32 := Scalar.minsi c6400_i32_628 v1494
  let c4_i32_629 : BitVec 32 := 4#32
  let v1496 : BitVec 32 := Scalar.shrui v1495 c4_i32_629
  let c1_i32_639 : BitVec 32 := 1#32
  let v1524 : BitVec 32 := Scalar.addi v1496 c1_i32_639
  let c400_i32_640 : BitVec 32 := 400#32
  let v1525 : BitVec 32 := Scalar.subi c400_i32_640 v1524
  let c1_i32_641 : BitVec 32 := 1#32
  let v1527 : BitVec 32 := Scalar.divsi v1525 c1_i32_641
  let v1528 : BitVec 32 := Scalar.muli v1527 c1_i32_641
  let v1529 : BitVec 32 := Scalar.addi v1524 v1528
  let c1_i32_643 : BitVec 32 := 1#32
  let arg27 : BitVec 32 := Scf.iv v1529 c1_i32_643 k0_t25
  let c16_i32_826 : BitVec 32 := 16#32
  let v1958 : BitVec 32 := Scalar.muli arg27 c16_i32_826
  v1958
def k0_off51 (k0_t1 : Fin k0_t1_loop.trips) (v1492 : BitVec 32) (k0_t25 : Fin (k0_t25_loop k0_t1 v1492).trips) : Fin 2 → Nat :=
  let c5_i32_827 : BitVec 32 := 5#32
  let v1960 : Index := Scalar.indexCast c5_i32_827
  let c6400_i32_628 : BitVec 32 := 6400#32
  let c0_i32_627 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1493 : BitVec 32 := Scalar.subi v1492 v1280
  let v1494 : BitVec 32 := Scalar.maxsi c0_i32_627 v1493
  let v1495 : BitVec 32 := Scalar.minsi c6400_i32_628 v1494
  let c4_i32_629 : BitVec 32 := 4#32
  let v1496 : BitVec 32 := Scalar.shrui v1495 c4_i32_629
  let c1_i32_639 : BitVec 32 := 1#32
  let v1524 : BitVec 32 := Scalar.addi v1496 c1_i32_639
  let c400_i32_640 : BitVec 32 := 400#32
  let v1525 : BitVec 32 := Scalar.subi c400_i32_640 v1524
  let c1_i32_641 : BitVec 32 := 1#32
  let v1527 : BitVec 32 := Scalar.divsi v1525 c1_i32_641
  let v1528 : BitVec 32 := Scalar.muli v1527 c1_i32_641
  let v1529 : BitVec 32 := Scalar.addi v1524 v1528
  let c1_i32_643 : BitVec 32 := 1#32
  let arg27 : BitVec 32 := Scf.iv v1529 c1_i32_643 k0_t25
  let c16_i32_826 : BitVec 32 := 16#32
  let v1958 : BitVec 32 := Scalar.muli arg27 c16_i32_826
  let v1959 : BitVec 32 := v1958
  let v1961 : Index := Scalar.indexCast v1959
  ![5, v1961.toNat]

def k0_chk30 (k0_t1 : Fin k0_t1_loop.trips) (v1492 : BitVec 32) : Prop :=
  ((k0_t22_loop k0_t1 v1492).OK) ∧
  (∀ k0_t22 : Fin (k0_t22_loop k0_t1 v1492).trips, 16 ∣ (k0_mult48 k0_t1 v1492 k0_t22).toNat) ∧
  (∀ k0_t22 : Fin (k0_t22_loop k0_t1 v1492).trips, ∀ a, (k0_off47 k0_t1 v1492 k0_t22) a + S1x16.size a ≤ S8x6400.size a) ∧
  ((k0_t23_loop k0_t1 v1492).OK) ∧
  (∀ k0_t23 : Fin (k0_t23_loop k0_t1 v1492).trips, 16 ∣ (k0_mult49 k0_t1 v1492 k0_t23).toNat) ∧
  (∀ k0_t23 : Fin (k0_t23_loop k0_t1 v1492).trips, ∀ a, (k0_off48 k0_t1 v1492 k0_t23) a + S1x16.size a ≤ S8x6400.size a) ∧
  (16 ∣ (k0_mult50 k0_t1 v1492).toNat) ∧
  (∀ a, (k0_off49 k0_t1 v1492) a + S1x16.size a ≤ S8x6400.size a) ∧
  ((k0_t24_loop k0_t1 v1492).OK) ∧
  (∀ k0_t24 : Fin (k0_t24_loop k0_t1 v1492).trips, 16 ∣ (k0_mult51 k0_t1 v1492 k0_t24).toNat) ∧
  (∀ k0_t24 : Fin (k0_t24_loop k0_t1 v1492).trips, ∀ a, (k0_off50 k0_t1 v1492 k0_t24) a + S1x16.size a ≤ S8x6400.size a) ∧
  ((k0_t25_loop k0_t1 v1492).OK) ∧
  (∀ k0_t25 : Fin (k0_t25_loop k0_t1 v1492).trips, 16 ∣ (k0_mult52 k0_t1 v1492 k0_t25).toNat) ∧
  (∀ k0_t25 : Fin (k0_t25_loop k0_t1 v1492).trips, ∀ a, (k0_off51 k0_t1 v1492 k0_t25) a + S1x16.size a ≤ S8x6400.size a)
theorem k0_t22_ok : ∀ (k0_t1 : Fin k0_t1_loop.trips) (v1492 : BitVec 32) (k0_hw30 : k0_chk30 k0_t1 v1492), (k0_t22_loop k0_t1 v1492).OK := fun k0_t1 v1492 k0_hw30 => k0_hw30.1
theorem k0_mult48_dvd : ∀ (k0_t1 : Fin k0_t1_loop.trips) (v1492 : BitVec 32) (k0_hw30 : k0_chk30 k0_t1 v1492) (k0_t22 : Fin (k0_t22_loop k0_t1 v1492).trips), 16 ∣ (k0_mult48 k0_t1 v1492 k0_t22).toNat := fun k0_t1 v1492 k0_hw30 k0_t22 => k0_hw30.2.1 k0_t22
theorem k0_off47_inb : ∀ (k0_t1 : Fin k0_t1_loop.trips) (v1492 : BitVec 32) (k0_hw30 : k0_chk30 k0_t1 v1492) (k0_t22 : Fin (k0_t22_loop k0_t1 v1492).trips), ∀ a, (k0_off47 k0_t1 v1492 k0_t22) a + S1x16.size a ≤ S8x6400.size a := fun k0_t1 v1492 k0_hw30 k0_t22 => k0_hw30.2.2.1 k0_t22
theorem k0_t23_ok : ∀ (k0_t1 : Fin k0_t1_loop.trips) (v1492 : BitVec 32) (k0_hw30 : k0_chk30 k0_t1 v1492), (k0_t23_loop k0_t1 v1492).OK := fun k0_t1 v1492 k0_hw30 => k0_hw30.2.2.2.1
theorem k0_mult49_dvd : ∀ (k0_t1 : Fin k0_t1_loop.trips) (v1492 : BitVec 32) (k0_hw30 : k0_chk30 k0_t1 v1492) (k0_t23 : Fin (k0_t23_loop k0_t1 v1492).trips), 16 ∣ (k0_mult49 k0_t1 v1492 k0_t23).toNat := fun k0_t1 v1492 k0_hw30 k0_t23 => k0_hw30.2.2.2.2.1 k0_t23
theorem k0_off48_inb : ∀ (k0_t1 : Fin k0_t1_loop.trips) (v1492 : BitVec 32) (k0_hw30 : k0_chk30 k0_t1 v1492) (k0_t23 : Fin (k0_t23_loop k0_t1 v1492).trips), ∀ a, (k0_off48 k0_t1 v1492 k0_t23) a + S1x16.size a ≤ S8x6400.size a := fun k0_t1 v1492 k0_hw30 k0_t23 => k0_hw30.2.2.2.2.2.1 k0_t23
theorem k0_mult50_dvd : ∀ (k0_t1 : Fin k0_t1_loop.trips) (v1492 : BitVec 32) (k0_hw30 : k0_chk30 k0_t1 v1492), 16 ∣ (k0_mult50 k0_t1 v1492).toNat := fun k0_t1 v1492 k0_hw30 => k0_hw30.2.2.2.2.2.2.1
theorem k0_off49_inb : ∀ (k0_t1 : Fin k0_t1_loop.trips) (v1492 : BitVec 32) (k0_hw30 : k0_chk30 k0_t1 v1492), ∀ a, (k0_off49 k0_t1 v1492) a + S1x16.size a ≤ S8x6400.size a := fun k0_t1 v1492 k0_hw30 => k0_hw30.2.2.2.2.2.2.2.1
theorem k0_t24_ok : ∀ (k0_t1 : Fin k0_t1_loop.trips) (v1492 : BitVec 32) (k0_hw30 : k0_chk30 k0_t1 v1492), (k0_t24_loop k0_t1 v1492).OK := fun k0_t1 v1492 k0_hw30 => k0_hw30.2.2.2.2.2.2.2.2.1
theorem k0_mult51_dvd : ∀ (k0_t1 : Fin k0_t1_loop.trips) (v1492 : BitVec 32) (k0_hw30 : k0_chk30 k0_t1 v1492) (k0_t24 : Fin (k0_t24_loop k0_t1 v1492).trips), 16 ∣ (k0_mult51 k0_t1 v1492 k0_t24).toNat := fun k0_t1 v1492 k0_hw30 k0_t24 => k0_hw30.2.2.2.2.2.2.2.2.2.1 k0_t24
theorem k0_off50_inb : ∀ (k0_t1 : Fin k0_t1_loop.trips) (v1492 : BitVec 32) (k0_hw30 : k0_chk30 k0_t1 v1492) (k0_t24 : Fin (k0_t24_loop k0_t1 v1492).trips), ∀ a, (k0_off50 k0_t1 v1492 k0_t24) a + S1x16.size a ≤ S8x6400.size a := fun k0_t1 v1492 k0_hw30 k0_t24 => k0_hw30.2.2.2.2.2.2.2.2.2.2.1 k0_t24
theorem k0_t25_ok : ∀ (k0_t1 : Fin k0_t1_loop.trips) (v1492 : BitVec 32) (k0_hw30 : k0_chk30 k0_t1 v1492), (k0_t25_loop k0_t1 v1492).OK := fun k0_t1 v1492 k0_hw30 => k0_hw30.2.2.2.2.2.2.2.2.2.2.2.1
theorem k0_mult52_dvd : ∀ (k0_t1 : Fin k0_t1_loop.trips) (v1492 : BitVec 32) (k0_hw30 : k0_chk30 k0_t1 v1492) (k0_t25 : Fin (k0_t25_loop k0_t1 v1492).trips), 16 ∣ (k0_mult52 k0_t1 v1492 k0_t25).toNat := fun k0_t1 v1492 k0_hw30 k0_t25 => k0_hw30.2.2.2.2.2.2.2.2.2.2.2.2.1 k0_t25
theorem k0_off51_inb : ∀ (k0_t1 : Fin k0_t1_loop.trips) (v1492 : BitVec 32) (k0_hw30 : k0_chk30 k0_t1 v1492) (k0_t25 : Fin (k0_t25_loop k0_t1 v1492).trips), ∀ a, (k0_off51 k0_t1 v1492 k0_t25) a + S1x16.size a ≤ S8x6400.size a := fun k0_t1 v1492 k0_hw30 k0_t25 => k0_hw30.2.2.2.2.2.2.2.2.2.2.2.2.2 k0_t25

@[reducible] def k0_t26_loop (k0_t1 : Fin k0_t1_loop.trips) (v1533 : BitVec 32) : Scf.Loop 32 :=
  let c0_i32_647 : BitVec 32 := 0#32
  let c6400_i32_645 : BitVec 32 := 6400#32
  let c0_i32_644 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1534 : BitVec 32 := Scalar.subi v1533 v1280
  let v1535 : BitVec 32 := Scalar.maxsi c0_i32_644 v1534
  let v1536 : BitVec 32 := Scalar.minsi c6400_i32_645 v1535
  let c4_i32_646 : BitVec 32 := 4#32
  let v1537 : BitVec 32 := Scalar.shrui v1536 c4_i32_646
  let v1538 : BitVec 32 := Scalar.subi v1537 c0_i32_647
  let c1_i32_648 : BitVec 32 := 1#32
  let v1540 : BitVec 32 := Scalar.divsi v1538 c1_i32_648
  let v1541 : BitVec 32 := Scalar.muli v1540 c1_i32_648
  let v1542 : BitVec 32 := Scalar.addi c0_i32_647 v1541
  let c1_i32_649 : BitVec 32 := 1#32
  ⟨c0_i32_647, v1542, c1_i32_649⟩

def k0_mult53 (k0_t1 : Fin k0_t1_loop.trips) (v1533 : BitVec 32) (k0_t26 : Fin (k0_t26_loop k0_t1 v1533).trips) : BitVec 32 :=
  let c0_i32_647 : BitVec 32 := 0#32
  let c1_i32_649 : BitVec 32 := 1#32
  let arg27 : BitVec 32 := Scf.iv c0_i32_647 c1_i32_649 k0_t26
  let c16_i32_826 : BitVec 32 := 16#32
  let v1958 : BitVec 32 := Scalar.muli arg27 c16_i32_826
  v1958
def k0_off52 (k0_t1 : Fin k0_t1_loop.trips) (v1533 : BitVec 32) (k0_t26 : Fin (k0_t26_loop k0_t1 v1533).trips) : Fin 2 → Nat :=
  let c6_i32_827 : BitVec 32 := 6#32
  let v1960 : Index := Scalar.indexCast c6_i32_827
  let c0_i32_647 : BitVec 32 := 0#32
  let c1_i32_649 : BitVec 32 := 1#32
  let arg27 : BitVec 32 := Scf.iv c0_i32_647 c1_i32_649 k0_t26
  let c16_i32_826 : BitVec 32 := 16#32
  let v1958 : BitVec 32 := Scalar.muli arg27 c16_i32_826
  let v1959 : BitVec 32 := v1958
  let v1961 : Index := Scalar.indexCast v1959
  ![6, v1961.toNat]
@[reducible] def k0_t27_loop (k0_t1 : Fin k0_t1_loop.trips) (v1533 : BitVec 32) : Scf.Loop 32 :=
  let c0_i32_647 : BitVec 32 := 0#32
  let c6400_i32_645 : BitVec 32 := 6400#32
  let c0_i32_644 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1534 : BitVec 32 := Scalar.subi v1533 v1280
  let v1535 : BitVec 32 := Scalar.maxsi c0_i32_644 v1534
  let v1536 : BitVec 32 := Scalar.minsi c6400_i32_645 v1535
  let c4_i32_646 : BitVec 32 := 4#32
  let v1537 : BitVec 32 := Scalar.shrui v1536 c4_i32_646
  let v1538 : BitVec 32 := Scalar.subi v1537 c0_i32_647
  let c1_i32_648 : BitVec 32 := 1#32
  let v1540 : BitVec 32 := Scalar.divsi v1538 c1_i32_648
  let v1541 : BitVec 32 := Scalar.muli v1540 c1_i32_648
  let v1542 : BitVec 32 := Scalar.addi c0_i32_647 v1541
  let v1539 : BitVec 32 := Scalar.addi c0_i32_647 v1538
  let c1_i32_650 : BitVec 32 := 1#32
  ⟨v1542, v1539, c1_i32_650⟩
def k0_mult54 (k0_t1 : Fin k0_t1_loop.trips) (v1533 : BitVec 32) (k0_t27 : Fin (k0_t27_loop k0_t1 v1533).trips) : BitVec 32 :=
  let c0_i32_647 : BitVec 32 := 0#32
  let c6400_i32_645 : BitVec 32 := 6400#32
  let c0_i32_644 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1534 : BitVec 32 := Scalar.subi v1533 v1280
  let v1535 : BitVec 32 := Scalar.maxsi c0_i32_644 v1534
  let v1536 : BitVec 32 := Scalar.minsi c6400_i32_645 v1535
  let c4_i32_646 : BitVec 32 := 4#32
  let v1537 : BitVec 32 := Scalar.shrui v1536 c4_i32_646
  let v1538 : BitVec 32 := Scalar.subi v1537 c0_i32_647
  let c1_i32_648 : BitVec 32 := 1#32
  let v1540 : BitVec 32 := Scalar.divsi v1538 c1_i32_648
  let v1541 : BitVec 32 := Scalar.muli v1540 c1_i32_648
  let v1542 : BitVec 32 := Scalar.addi c0_i32_647 v1541
  let c1_i32_650 : BitVec 32 := 1#32
  let arg27 : BitVec 32 := Scf.iv v1542 c1_i32_650 k0_t27
  let c16_i32_826 : BitVec 32 := 16#32
  let v1958 : BitVec 32 := Scalar.muli arg27 c16_i32_826
  v1958
def k0_off53 (k0_t1 : Fin k0_t1_loop.trips) (v1533 : BitVec 32) (k0_t27 : Fin (k0_t27_loop k0_t1 v1533).trips) : Fin 2 → Nat :=
  let c6_i32_827 : BitVec 32 := 6#32
  let v1960 : Index := Scalar.indexCast c6_i32_827
  let c0_i32_647 : BitVec 32 := 0#32
  let c6400_i32_645 : BitVec 32 := 6400#32
  let c0_i32_644 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1534 : BitVec 32 := Scalar.subi v1533 v1280
  let v1535 : BitVec 32 := Scalar.maxsi c0_i32_644 v1534
  let v1536 : BitVec 32 := Scalar.minsi c6400_i32_645 v1535
  let c4_i32_646 : BitVec 32 := 4#32
  let v1537 : BitVec 32 := Scalar.shrui v1536 c4_i32_646
  let v1538 : BitVec 32 := Scalar.subi v1537 c0_i32_647
  let c1_i32_648 : BitVec 32 := 1#32
  let v1540 : BitVec 32 := Scalar.divsi v1538 c1_i32_648
  let v1541 : BitVec 32 := Scalar.muli v1540 c1_i32_648
  let v1542 : BitVec 32 := Scalar.addi c0_i32_647 v1541
  let c1_i32_650 : BitVec 32 := 1#32
  let arg27 : BitVec 32 := Scf.iv v1542 c1_i32_650 k0_t27
  let c16_i32_826 : BitVec 32 := 16#32
  let v1958 : BitVec 32 := Scalar.muli arg27 c16_i32_826
  let v1959 : BitVec 32 := v1958
  let v1961 : Index := Scalar.indexCast v1959
  ![6, v1961.toNat]
def k0_mult55 (k0_t1 : Fin k0_t1_loop.trips) (v1533 : BitVec 32) : BitVec 32 :=
  let c6400_i32_645 : BitVec 32 := 6400#32
  let c0_i32_644 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1534 : BitVec 32 := Scalar.subi v1533 v1280
  let v1535 : BitVec 32 := Scalar.maxsi c0_i32_644 v1534
  let v1536 : BitVec 32 := Scalar.minsi c6400_i32_645 v1535
  let c4_i32_646 : BitVec 32 := 4#32
  let v1537 : BitVec 32 := Scalar.shrui v1536 c4_i32_646
  let c399_i32_651 : BitVec 32 := 399#32
  let v1545 : BitVec 32 := Scalar.minsi v1537 c399_i32_651
  let c16_i32_652 : BitVec 32 := 16#32
  let v1546 : BitVec 32 := Scalar.muli v1545 c16_i32_652
  v1546
def k0_off54 (k0_t1 : Fin k0_t1_loop.trips) (v1533 : BitVec 32) : Fin 2 → Nat :=
  let c6_i32_653 : BitVec 32 := 6#32
  let v1548 : Index := Scalar.indexCast c6_i32_653
  let c6400_i32_645 : BitVec 32 := 6400#32
  let c0_i32_644 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1534 : BitVec 32 := Scalar.subi v1533 v1280
  let v1535 : BitVec 32 := Scalar.maxsi c0_i32_644 v1534
  let v1536 : BitVec 32 := Scalar.minsi c6400_i32_645 v1535
  let c4_i32_646 : BitVec 32 := 4#32
  let v1537 : BitVec 32 := Scalar.shrui v1536 c4_i32_646
  let c399_i32_651 : BitVec 32 := 399#32
  let v1545 : BitVec 32 := Scalar.minsi v1537 c399_i32_651
  let c16_i32_652 : BitVec 32 := 16#32
  let v1546 : BitVec 32 := Scalar.muli v1545 c16_i32_652
  let v1547 : BitVec 32 := v1546
  let v1549 : Index := Scalar.indexCast v1547
  ![6, v1549.toNat]
@[reducible] def k0_t28_loop (k0_t1 : Fin k0_t1_loop.trips) (v1533 : BitVec 32) : Scf.Loop 32 :=
  let c6400_i32_645 : BitVec 32 := 6400#32
  let c0_i32_644 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1534 : BitVec 32 := Scalar.subi v1533 v1280
  let v1535 : BitVec 32 := Scalar.maxsi c0_i32_644 v1534
  let v1536 : BitVec 32 := Scalar.minsi c6400_i32_645 v1535
  let c4_i32_646 : BitVec 32 := 4#32
  let v1537 : BitVec 32 := Scalar.shrui v1536 c4_i32_646
  let c1_i32_656 : BitVec 32 := 1#32
  let v1565 : BitVec 32 := Scalar.addi v1537 c1_i32_656
  let c400_i32_657 : BitVec 32 := 400#32
  let v1566 : BitVec 32 := Scalar.subi c400_i32_657 v1565
  let c1_i32_658 : BitVec 32 := 1#32
  let v1568 : BitVec 32 := Scalar.divsi v1566 c1_i32_658
  let v1569 : BitVec 32 := Scalar.muli v1568 c1_i32_658
  let v1570 : BitVec 32 := Scalar.addi v1565 v1569
  let c1_i32_659 : BitVec 32 := 1#32
  ⟨v1565, v1570, c1_i32_659⟩
def k0_mult56 (k0_t1 : Fin k0_t1_loop.trips) (v1533 : BitVec 32) (k0_t28 : Fin (k0_t28_loop k0_t1 v1533).trips) : BitVec 32 :=
  let c6400_i32_645 : BitVec 32 := 6400#32
  let c0_i32_644 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1534 : BitVec 32 := Scalar.subi v1533 v1280
  let v1535 : BitVec 32 := Scalar.maxsi c0_i32_644 v1534
  let v1536 : BitVec 32 := Scalar.minsi c6400_i32_645 v1535
  let c4_i32_646 : BitVec 32 := 4#32
  let v1537 : BitVec 32 := Scalar.shrui v1536 c4_i32_646
  let c1_i32_656 : BitVec 32 := 1#32
  let v1565 : BitVec 32 := Scalar.addi v1537 c1_i32_656
  let c1_i32_659 : BitVec 32 := 1#32
  let arg27 : BitVec 32 := Scf.iv v1565 c1_i32_659 k0_t28
  let c16_i32_826 : BitVec 32 := 16#32
  let v1958 : BitVec 32 := Scalar.muli arg27 c16_i32_826
  v1958
def k0_off55 (k0_t1 : Fin k0_t1_loop.trips) (v1533 : BitVec 32) (k0_t28 : Fin (k0_t28_loop k0_t1 v1533).trips) : Fin 2 → Nat :=
  let c6_i32_827 : BitVec 32 := 6#32
  let v1960 : Index := Scalar.indexCast c6_i32_827
  let c6400_i32_645 : BitVec 32 := 6400#32
  let c0_i32_644 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1534 : BitVec 32 := Scalar.subi v1533 v1280
  let v1535 : BitVec 32 := Scalar.maxsi c0_i32_644 v1534
  let v1536 : BitVec 32 := Scalar.minsi c6400_i32_645 v1535
  let c4_i32_646 : BitVec 32 := 4#32
  let v1537 : BitVec 32 := Scalar.shrui v1536 c4_i32_646
  let c1_i32_656 : BitVec 32 := 1#32
  let v1565 : BitVec 32 := Scalar.addi v1537 c1_i32_656
  let c1_i32_659 : BitVec 32 := 1#32
  let arg27 : BitVec 32 := Scf.iv v1565 c1_i32_659 k0_t28
  let c16_i32_826 : BitVec 32 := 16#32
  let v1958 : BitVec 32 := Scalar.muli arg27 c16_i32_826
  let v1959 : BitVec 32 := v1958
  let v1961 : Index := Scalar.indexCast v1959
  ![6, v1961.toNat]
@[reducible] def k0_t29_loop (k0_t1 : Fin k0_t1_loop.trips) (v1533 : BitVec 32) : Scf.Loop 32 :=
  let c6400_i32_645 : BitVec 32 := 6400#32
  let c0_i32_644 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1534 : BitVec 32 := Scalar.subi v1533 v1280
  let v1535 : BitVec 32 := Scalar.maxsi c0_i32_644 v1534
  let v1536 : BitVec 32 := Scalar.minsi c6400_i32_645 v1535
  let c4_i32_646 : BitVec 32 := 4#32
  let v1537 : BitVec 32 := Scalar.shrui v1536 c4_i32_646
  let c1_i32_656 : BitVec 32 := 1#32
  let v1565 : BitVec 32 := Scalar.addi v1537 c1_i32_656
  let c400_i32_657 : BitVec 32 := 400#32
  let v1566 : BitVec 32 := Scalar.subi c400_i32_657 v1565
  let c1_i32_658 : BitVec 32 := 1#32
  let v1568 : BitVec 32 := Scalar.divsi v1566 c1_i32_658
  let v1569 : BitVec 32 := Scalar.muli v1568 c1_i32_658
  let v1570 : BitVec 32 := Scalar.addi v1565 v1569
  let v1567 : BitVec 32 := Scalar.addi v1565 v1566
  let c1_i32_660 : BitVec 32 := 1#32
  ⟨v1570, v1567, c1_i32_660⟩
def k0_mult57 (k0_t1 : Fin k0_t1_loop.trips) (v1533 : BitVec 32) (k0_t29 : Fin (k0_t29_loop k0_t1 v1533).trips) : BitVec 32 :=
  let c6400_i32_645 : BitVec 32 := 6400#32
  let c0_i32_644 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1534 : BitVec 32 := Scalar.subi v1533 v1280
  let v1535 : BitVec 32 := Scalar.maxsi c0_i32_644 v1534
  let v1536 : BitVec 32 := Scalar.minsi c6400_i32_645 v1535
  let c4_i32_646 : BitVec 32 := 4#32
  let v1537 : BitVec 32 := Scalar.shrui v1536 c4_i32_646
  let c1_i32_656 : BitVec 32 := 1#32
  let v1565 : BitVec 32 := Scalar.addi v1537 c1_i32_656
  let c400_i32_657 : BitVec 32 := 400#32
  let v1566 : BitVec 32 := Scalar.subi c400_i32_657 v1565
  let c1_i32_658 : BitVec 32 := 1#32
  let v1568 : BitVec 32 := Scalar.divsi v1566 c1_i32_658
  let v1569 : BitVec 32 := Scalar.muli v1568 c1_i32_658
  let v1570 : BitVec 32 := Scalar.addi v1565 v1569
  let c1_i32_660 : BitVec 32 := 1#32
  let arg27 : BitVec 32 := Scf.iv v1570 c1_i32_660 k0_t29
  let c16_i32_826 : BitVec 32 := 16#32
  let v1958 : BitVec 32 := Scalar.muli arg27 c16_i32_826
  v1958
def k0_off56 (k0_t1 : Fin k0_t1_loop.trips) (v1533 : BitVec 32) (k0_t29 : Fin (k0_t29_loop k0_t1 v1533).trips) : Fin 2 → Nat :=
  let c6_i32_827 : BitVec 32 := 6#32
  let v1960 : Index := Scalar.indexCast c6_i32_827
  let c6400_i32_645 : BitVec 32 := 6400#32
  let c0_i32_644 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1534 : BitVec 32 := Scalar.subi v1533 v1280
  let v1535 : BitVec 32 := Scalar.maxsi c0_i32_644 v1534
  let v1536 : BitVec 32 := Scalar.minsi c6400_i32_645 v1535
  let c4_i32_646 : BitVec 32 := 4#32
  let v1537 : BitVec 32 := Scalar.shrui v1536 c4_i32_646
  let c1_i32_656 : BitVec 32 := 1#32
  let v1565 : BitVec 32 := Scalar.addi v1537 c1_i32_656
  let c400_i32_657 : BitVec 32 := 400#32
  let v1566 : BitVec 32 := Scalar.subi c400_i32_657 v1565
  let c1_i32_658 : BitVec 32 := 1#32
  let v1568 : BitVec 32 := Scalar.divsi v1566 c1_i32_658
  let v1569 : BitVec 32 := Scalar.muli v1568 c1_i32_658
  let v1570 : BitVec 32 := Scalar.addi v1565 v1569
  let c1_i32_660 : BitVec 32 := 1#32
  let arg27 : BitVec 32 := Scf.iv v1570 c1_i32_660 k0_t29
  let c16_i32_826 : BitVec 32 := 16#32
  let v1958 : BitVec 32 := Scalar.muli arg27 c16_i32_826
  let v1959 : BitVec 32 := v1958
  let v1961 : Index := Scalar.indexCast v1959
  ![6, v1961.toNat]

def k0_chk31 (k0_t1 : Fin k0_t1_loop.trips) (v1533 : BitVec 32) : Prop :=
  ((k0_t26_loop k0_t1 v1533).OK) ∧
  (∀ k0_t26 : Fin (k0_t26_loop k0_t1 v1533).trips, 16 ∣ (k0_mult53 k0_t1 v1533 k0_t26).toNat) ∧
  (∀ k0_t26 : Fin (k0_t26_loop k0_t1 v1533).trips, ∀ a, (k0_off52 k0_t1 v1533 k0_t26) a + S1x16.size a ≤ S8x6400.size a) ∧
  ((k0_t27_loop k0_t1 v1533).OK) ∧
  (∀ k0_t27 : Fin (k0_t27_loop k0_t1 v1533).trips, 16 ∣ (k0_mult54 k0_t1 v1533 k0_t27).toNat) ∧
  (∀ k0_t27 : Fin (k0_t27_loop k0_t1 v1533).trips, ∀ a, (k0_off53 k0_t1 v1533 k0_t27) a + S1x16.size a ≤ S8x6400.size a) ∧
  (16 ∣ (k0_mult55 k0_t1 v1533).toNat) ∧
  (∀ a, (k0_off54 k0_t1 v1533) a + S1x16.size a ≤ S8x6400.size a) ∧
  ((k0_t28_loop k0_t1 v1533).OK) ∧
  (∀ k0_t28 : Fin (k0_t28_loop k0_t1 v1533).trips, 16 ∣ (k0_mult56 k0_t1 v1533 k0_t28).toNat) ∧
  (∀ k0_t28 : Fin (k0_t28_loop k0_t1 v1533).trips, ∀ a, (k0_off55 k0_t1 v1533 k0_t28) a + S1x16.size a ≤ S8x6400.size a) ∧
  ((k0_t29_loop k0_t1 v1533).OK) ∧
  (∀ k0_t29 : Fin (k0_t29_loop k0_t1 v1533).trips, 16 ∣ (k0_mult57 k0_t1 v1533 k0_t29).toNat) ∧
  (∀ k0_t29 : Fin (k0_t29_loop k0_t1 v1533).trips, ∀ a, (k0_off56 k0_t1 v1533 k0_t29) a + S1x16.size a ≤ S8x6400.size a)
theorem k0_t26_ok : ∀ (k0_t1 : Fin k0_t1_loop.trips) (v1533 : BitVec 32) (k0_hw31 : k0_chk31 k0_t1 v1533), (k0_t26_loop k0_t1 v1533).OK := fun k0_t1 v1533 k0_hw31 => k0_hw31.1
theorem k0_mult53_dvd : ∀ (k0_t1 : Fin k0_t1_loop.trips) (v1533 : BitVec 32) (k0_hw31 : k0_chk31 k0_t1 v1533) (k0_t26 : Fin (k0_t26_loop k0_t1 v1533).trips), 16 ∣ (k0_mult53 k0_t1 v1533 k0_t26).toNat := fun k0_t1 v1533 k0_hw31 k0_t26 => k0_hw31.2.1 k0_t26
theorem k0_off52_inb : ∀ (k0_t1 : Fin k0_t1_loop.trips) (v1533 : BitVec 32) (k0_hw31 : k0_chk31 k0_t1 v1533) (k0_t26 : Fin (k0_t26_loop k0_t1 v1533).trips), ∀ a, (k0_off52 k0_t1 v1533 k0_t26) a + S1x16.size a ≤ S8x6400.size a := fun k0_t1 v1533 k0_hw31 k0_t26 => k0_hw31.2.2.1 k0_t26
theorem k0_t27_ok : ∀ (k0_t1 : Fin k0_t1_loop.trips) (v1533 : BitVec 32) (k0_hw31 : k0_chk31 k0_t1 v1533), (k0_t27_loop k0_t1 v1533).OK := fun k0_t1 v1533 k0_hw31 => k0_hw31.2.2.2.1
theorem k0_mult54_dvd : ∀ (k0_t1 : Fin k0_t1_loop.trips) (v1533 : BitVec 32) (k0_hw31 : k0_chk31 k0_t1 v1533) (k0_t27 : Fin (k0_t27_loop k0_t1 v1533).trips), 16 ∣ (k0_mult54 k0_t1 v1533 k0_t27).toNat := fun k0_t1 v1533 k0_hw31 k0_t27 => k0_hw31.2.2.2.2.1 k0_t27
theorem k0_off53_inb : ∀ (k0_t1 : Fin k0_t1_loop.trips) (v1533 : BitVec 32) (k0_hw31 : k0_chk31 k0_t1 v1533) (k0_t27 : Fin (k0_t27_loop k0_t1 v1533).trips), ∀ a, (k0_off53 k0_t1 v1533 k0_t27) a + S1x16.size a ≤ S8x6400.size a := fun k0_t1 v1533 k0_hw31 k0_t27 => k0_hw31.2.2.2.2.2.1 k0_t27
theorem k0_mult55_dvd : ∀ (k0_t1 : Fin k0_t1_loop.trips) (v1533 : BitVec 32) (k0_hw31 : k0_chk31 k0_t1 v1533), 16 ∣ (k0_mult55 k0_t1 v1533).toNat := fun k0_t1 v1533 k0_hw31 => k0_hw31.2.2.2.2.2.2.1
theorem k0_off54_inb : ∀ (k0_t1 : Fin k0_t1_loop.trips) (v1533 : BitVec 32) (k0_hw31 : k0_chk31 k0_t1 v1533), ∀ a, (k0_off54 k0_t1 v1533) a + S1x16.size a ≤ S8x6400.size a := fun k0_t1 v1533 k0_hw31 => k0_hw31.2.2.2.2.2.2.2.1
theorem k0_t28_ok : ∀ (k0_t1 : Fin k0_t1_loop.trips) (v1533 : BitVec 32) (k0_hw31 : k0_chk31 k0_t1 v1533), (k0_t28_loop k0_t1 v1533).OK := fun k0_t1 v1533 k0_hw31 => k0_hw31.2.2.2.2.2.2.2.2.1
theorem k0_mult56_dvd : ∀ (k0_t1 : Fin k0_t1_loop.trips) (v1533 : BitVec 32) (k0_hw31 : k0_chk31 k0_t1 v1533) (k0_t28 : Fin (k0_t28_loop k0_t1 v1533).trips), 16 ∣ (k0_mult56 k0_t1 v1533 k0_t28).toNat := fun k0_t1 v1533 k0_hw31 k0_t28 => k0_hw31.2.2.2.2.2.2.2.2.2.1 k0_t28
theorem k0_off55_inb : ∀ (k0_t1 : Fin k0_t1_loop.trips) (v1533 : BitVec 32) (k0_hw31 : k0_chk31 k0_t1 v1533) (k0_t28 : Fin (k0_t28_loop k0_t1 v1533).trips), ∀ a, (k0_off55 k0_t1 v1533 k0_t28) a + S1x16.size a ≤ S8x6400.size a := fun k0_t1 v1533 k0_hw31 k0_t28 => k0_hw31.2.2.2.2.2.2.2.2.2.2.1 k0_t28
theorem k0_t29_ok : ∀ (k0_t1 : Fin k0_t1_loop.trips) (v1533 : BitVec 32) (k0_hw31 : k0_chk31 k0_t1 v1533), (k0_t29_loop k0_t1 v1533).OK := fun k0_t1 v1533 k0_hw31 => k0_hw31.2.2.2.2.2.2.2.2.2.2.2.1
theorem k0_mult57_dvd : ∀ (k0_t1 : Fin k0_t1_loop.trips) (v1533 : BitVec 32) (k0_hw31 : k0_chk31 k0_t1 v1533) (k0_t29 : Fin (k0_t29_loop k0_t1 v1533).trips), 16 ∣ (k0_mult57 k0_t1 v1533 k0_t29).toNat := fun k0_t1 v1533 k0_hw31 k0_t29 => k0_hw31.2.2.2.2.2.2.2.2.2.2.2.2.1 k0_t29
theorem k0_off56_inb : ∀ (k0_t1 : Fin k0_t1_loop.trips) (v1533 : BitVec 32) (k0_hw31 : k0_chk31 k0_t1 v1533) (k0_t29 : Fin (k0_t29_loop k0_t1 v1533).trips), ∀ a, (k0_off56 k0_t1 v1533 k0_t29) a + S1x16.size a ≤ S8x6400.size a := fun k0_t1 v1533 k0_hw31 k0_t29 => k0_hw31.2.2.2.2.2.2.2.2.2.2.2.2.2 k0_t29

@[reducible] def k0_t30_loop (k0_t1 : Fin k0_t1_loop.trips) (v1574 : BitVec 32) : Scf.Loop 32 :=
  let c0_i32_664 : BitVec 32 := 0#32
  let c6400_i32_662 : BitVec 32 := 6400#32
  let c0_i32_661 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1575 : BitVec 32 := Scalar.subi v1574 v1280
  let v1576 : BitVec 32 := Scalar.maxsi c0_i32_661 v1575
  let v1577 : BitVec 32 := Scalar.minsi c6400_i32_662 v1576
  let c4_i32_663 : BitVec 32 := 4#32
  let v1578 : BitVec 32 := Scalar.shrui v1577 c4_i32_663
  let v1579 : BitVec 32 := Scalar.subi v1578 c0_i32_664
  let c1_i32_665 : BitVec 32 := 1#32
  let v1581 : BitVec 32 := Scalar.divsi v1579 c1_i32_665
  let v1582 : BitVec 32 := Scalar.muli v1581 c1_i32_665
  let v1583 : BitVec 32 := Scalar.addi c0_i32_664 v1582
  let c1_i32_666 : BitVec 32 := 1#32
  ⟨c0_i32_664, v1583, c1_i32_666⟩

def k0_mult58 (k0_t1 : Fin k0_t1_loop.trips) (v1574 : BitVec 32) (k0_t30 : Fin (k0_t30_loop k0_t1 v1574).trips) : BitVec 32 :=
  let c0_i32_664 : BitVec 32 := 0#32
  let c1_i32_666 : BitVec 32 := 1#32
  let arg27 : BitVec 32 := Scf.iv c0_i32_664 c1_i32_666 k0_t30
  let c16_i32_826 : BitVec 32 := 16#32
  let v1958 : BitVec 32 := Scalar.muli arg27 c16_i32_826
  v1958
def k0_off57 (k0_t1 : Fin k0_t1_loop.trips) (v1574 : BitVec 32) (k0_t30 : Fin (k0_t30_loop k0_t1 v1574).trips) : Fin 2 → Nat :=
  let c7_i32_827 : BitVec 32 := 7#32
  let v1960 : Index := Scalar.indexCast c7_i32_827
  let c0_i32_664 : BitVec 32 := 0#32
  let c1_i32_666 : BitVec 32 := 1#32
  let arg27 : BitVec 32 := Scf.iv c0_i32_664 c1_i32_666 k0_t30
  let c16_i32_826 : BitVec 32 := 16#32
  let v1958 : BitVec 32 := Scalar.muli arg27 c16_i32_826
  let v1959 : BitVec 32 := v1958
  let v1961 : Index := Scalar.indexCast v1959
  ![7, v1961.toNat]
@[reducible] def k0_t31_loop (k0_t1 : Fin k0_t1_loop.trips) (v1574 : BitVec 32) : Scf.Loop 32 :=
  let c0_i32_664 : BitVec 32 := 0#32
  let c6400_i32_662 : BitVec 32 := 6400#32
  let c0_i32_661 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1575 : BitVec 32 := Scalar.subi v1574 v1280
  let v1576 : BitVec 32 := Scalar.maxsi c0_i32_661 v1575
  let v1577 : BitVec 32 := Scalar.minsi c6400_i32_662 v1576
  let c4_i32_663 : BitVec 32 := 4#32
  let v1578 : BitVec 32 := Scalar.shrui v1577 c4_i32_663
  let v1579 : BitVec 32 := Scalar.subi v1578 c0_i32_664
  let c1_i32_665 : BitVec 32 := 1#32
  let v1581 : BitVec 32 := Scalar.divsi v1579 c1_i32_665
  let v1582 : BitVec 32 := Scalar.muli v1581 c1_i32_665
  let v1583 : BitVec 32 := Scalar.addi c0_i32_664 v1582
  let v1580 : BitVec 32 := Scalar.addi c0_i32_664 v1579
  let c1_i32_667 : BitVec 32 := 1#32
  ⟨v1583, v1580, c1_i32_667⟩
def k0_mult59 (k0_t1 : Fin k0_t1_loop.trips) (v1574 : BitVec 32) (k0_t31 : Fin (k0_t31_loop k0_t1 v1574).trips) : BitVec 32 :=
  let c0_i32_664 : BitVec 32 := 0#32
  let c6400_i32_662 : BitVec 32 := 6400#32
  let c0_i32_661 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1575 : BitVec 32 := Scalar.subi v1574 v1280
  let v1576 : BitVec 32 := Scalar.maxsi c0_i32_661 v1575
  let v1577 : BitVec 32 := Scalar.minsi c6400_i32_662 v1576
  let c4_i32_663 : BitVec 32 := 4#32
  let v1578 : BitVec 32 := Scalar.shrui v1577 c4_i32_663
  let v1579 : BitVec 32 := Scalar.subi v1578 c0_i32_664
  let c1_i32_665 : BitVec 32 := 1#32
  let v1581 : BitVec 32 := Scalar.divsi v1579 c1_i32_665
  let v1582 : BitVec 32 := Scalar.muli v1581 c1_i32_665
  let v1583 : BitVec 32 := Scalar.addi c0_i32_664 v1582
  let c1_i32_667 : BitVec 32 := 1#32
  let arg27 : BitVec 32 := Scf.iv v1583 c1_i32_667 k0_t31
  let c16_i32_826 : BitVec 32 := 16#32
  let v1958 : BitVec 32 := Scalar.muli arg27 c16_i32_826
  v1958
def k0_off58 (k0_t1 : Fin k0_t1_loop.trips) (v1574 : BitVec 32) (k0_t31 : Fin (k0_t31_loop k0_t1 v1574).trips) : Fin 2 → Nat :=
  let c7_i32_827 : BitVec 32 := 7#32
  let v1960 : Index := Scalar.indexCast c7_i32_827
  let c0_i32_664 : BitVec 32 := 0#32
  let c6400_i32_662 : BitVec 32 := 6400#32
  let c0_i32_661 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1575 : BitVec 32 := Scalar.subi v1574 v1280
  let v1576 : BitVec 32 := Scalar.maxsi c0_i32_661 v1575
  let v1577 : BitVec 32 := Scalar.minsi c6400_i32_662 v1576
  let c4_i32_663 : BitVec 32 := 4#32
  let v1578 : BitVec 32 := Scalar.shrui v1577 c4_i32_663
  let v1579 : BitVec 32 := Scalar.subi v1578 c0_i32_664
  let c1_i32_665 : BitVec 32 := 1#32
  let v1581 : BitVec 32 := Scalar.divsi v1579 c1_i32_665
  let v1582 : BitVec 32 := Scalar.muli v1581 c1_i32_665
  let v1583 : BitVec 32 := Scalar.addi c0_i32_664 v1582
  let c1_i32_667 : BitVec 32 := 1#32
  let arg27 : BitVec 32 := Scf.iv v1583 c1_i32_667 k0_t31
  let c16_i32_826 : BitVec 32 := 16#32
  let v1958 : BitVec 32 := Scalar.muli arg27 c16_i32_826
  let v1959 : BitVec 32 := v1958
  let v1961 : Index := Scalar.indexCast v1959
  ![7, v1961.toNat]
def k0_mult60 (k0_t1 : Fin k0_t1_loop.trips) (v1574 : BitVec 32) : BitVec 32 :=
  let c6400_i32_662 : BitVec 32 := 6400#32
  let c0_i32_661 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1575 : BitVec 32 := Scalar.subi v1574 v1280
  let v1576 : BitVec 32 := Scalar.maxsi c0_i32_661 v1575
  let v1577 : BitVec 32 := Scalar.minsi c6400_i32_662 v1576
  let c4_i32_663 : BitVec 32 := 4#32
  let v1578 : BitVec 32 := Scalar.shrui v1577 c4_i32_663
  let c399_i32_668 : BitVec 32 := 399#32
  let v1586 : BitVec 32 := Scalar.minsi v1578 c399_i32_668
  let c16_i32_669 : BitVec 32 := 16#32
  let v1587 : BitVec 32 := Scalar.muli v1586 c16_i32_669
  v1587
def k0_off59 (k0_t1 : Fin k0_t1_loop.trips) (v1574 : BitVec 32) : Fin 2 → Nat :=
  let c7_i32_670 : BitVec 32 := 7#32
  let v1589 : Index := Scalar.indexCast c7_i32_670
  let c6400_i32_662 : BitVec 32 := 6400#32
  let c0_i32_661 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1575 : BitVec 32 := Scalar.subi v1574 v1280
  let v1576 : BitVec 32 := Scalar.maxsi c0_i32_661 v1575
  let v1577 : BitVec 32 := Scalar.minsi c6400_i32_662 v1576
  let c4_i32_663 : BitVec 32 := 4#32
  let v1578 : BitVec 32 := Scalar.shrui v1577 c4_i32_663
  let c399_i32_668 : BitVec 32 := 399#32
  let v1586 : BitVec 32 := Scalar.minsi v1578 c399_i32_668
  let c16_i32_669 : BitVec 32 := 16#32
  let v1587 : BitVec 32 := Scalar.muli v1586 c16_i32_669
  let v1588 : BitVec 32 := v1587
  let v1590 : Index := Scalar.indexCast v1588
  ![7, v1590.toNat]
@[reducible] def k0_t32_loop (k0_t1 : Fin k0_t1_loop.trips) (v1574 : BitVec 32) : Scf.Loop 32 :=
  let c6400_i32_662 : BitVec 32 := 6400#32
  let c0_i32_661 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1575 : BitVec 32 := Scalar.subi v1574 v1280
  let v1576 : BitVec 32 := Scalar.maxsi c0_i32_661 v1575
  let v1577 : BitVec 32 := Scalar.minsi c6400_i32_662 v1576
  let c4_i32_663 : BitVec 32 := 4#32
  let v1578 : BitVec 32 := Scalar.shrui v1577 c4_i32_663
  let c1_i32_673 : BitVec 32 := 1#32
  let v1606 : BitVec 32 := Scalar.addi v1578 c1_i32_673
  let c400_i32_674 : BitVec 32 := 400#32
  let v1607 : BitVec 32 := Scalar.subi c400_i32_674 v1606
  let c1_i32_675 : BitVec 32 := 1#32
  let v1609 : BitVec 32 := Scalar.divsi v1607 c1_i32_675
  let v1610 : BitVec 32 := Scalar.muli v1609 c1_i32_675
  let v1611 : BitVec 32 := Scalar.addi v1606 v1610
  let c1_i32_676 : BitVec 32 := 1#32
  ⟨v1606, v1611, c1_i32_676⟩
def k0_mult61 (k0_t1 : Fin k0_t1_loop.trips) (v1574 : BitVec 32) (k0_t32 : Fin (k0_t32_loop k0_t1 v1574).trips) : BitVec 32 :=
  let c6400_i32_662 : BitVec 32 := 6400#32
  let c0_i32_661 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1575 : BitVec 32 := Scalar.subi v1574 v1280
  let v1576 : BitVec 32 := Scalar.maxsi c0_i32_661 v1575
  let v1577 : BitVec 32 := Scalar.minsi c6400_i32_662 v1576
  let c4_i32_663 : BitVec 32 := 4#32
  let v1578 : BitVec 32 := Scalar.shrui v1577 c4_i32_663
  let c1_i32_673 : BitVec 32 := 1#32
  let v1606 : BitVec 32 := Scalar.addi v1578 c1_i32_673
  let c1_i32_676 : BitVec 32 := 1#32
  let arg27 : BitVec 32 := Scf.iv v1606 c1_i32_676 k0_t32
  let c16_i32_826 : BitVec 32 := 16#32
  let v1958 : BitVec 32 := Scalar.muli arg27 c16_i32_826
  v1958
def k0_off60 (k0_t1 : Fin k0_t1_loop.trips) (v1574 : BitVec 32) (k0_t32 : Fin (k0_t32_loop k0_t1 v1574).trips) : Fin 2 → Nat :=
  let c7_i32_827 : BitVec 32 := 7#32
  let v1960 : Index := Scalar.indexCast c7_i32_827
  let c6400_i32_662 : BitVec 32 := 6400#32
  let c0_i32_661 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1575 : BitVec 32 := Scalar.subi v1574 v1280
  let v1576 : BitVec 32 := Scalar.maxsi c0_i32_661 v1575
  let v1577 : BitVec 32 := Scalar.minsi c6400_i32_662 v1576
  let c4_i32_663 : BitVec 32 := 4#32
  let v1578 : BitVec 32 := Scalar.shrui v1577 c4_i32_663
  let c1_i32_673 : BitVec 32 := 1#32
  let v1606 : BitVec 32 := Scalar.addi v1578 c1_i32_673
  let c1_i32_676 : BitVec 32 := 1#32
  let arg27 : BitVec 32 := Scf.iv v1606 c1_i32_676 k0_t32
  let c16_i32_826 : BitVec 32 := 16#32
  let v1958 : BitVec 32 := Scalar.muli arg27 c16_i32_826
  let v1959 : BitVec 32 := v1958
  let v1961 : Index := Scalar.indexCast v1959
  ![7, v1961.toNat]
@[reducible] def k0_t33_loop (k0_t1 : Fin k0_t1_loop.trips) (v1574 : BitVec 32) : Scf.Loop 32 :=
  let c6400_i32_662 : BitVec 32 := 6400#32
  let c0_i32_661 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1575 : BitVec 32 := Scalar.subi v1574 v1280
  let v1576 : BitVec 32 := Scalar.maxsi c0_i32_661 v1575
  let v1577 : BitVec 32 := Scalar.minsi c6400_i32_662 v1576
  let c4_i32_663 : BitVec 32 := 4#32
  let v1578 : BitVec 32 := Scalar.shrui v1577 c4_i32_663
  let c1_i32_673 : BitVec 32 := 1#32
  let v1606 : BitVec 32 := Scalar.addi v1578 c1_i32_673
  let c400_i32_674 : BitVec 32 := 400#32
  let v1607 : BitVec 32 := Scalar.subi c400_i32_674 v1606
  let c1_i32_675 : BitVec 32 := 1#32
  let v1609 : BitVec 32 := Scalar.divsi v1607 c1_i32_675
  let v1610 : BitVec 32 := Scalar.muli v1609 c1_i32_675
  let v1611 : BitVec 32 := Scalar.addi v1606 v1610
  let v1608 : BitVec 32 := Scalar.addi v1606 v1607
  let c1_i32_677 : BitVec 32 := 1#32
  ⟨v1611, v1608, c1_i32_677⟩
def k0_mult62 (k0_t1 : Fin k0_t1_loop.trips) (v1574 : BitVec 32) (k0_t33 : Fin (k0_t33_loop k0_t1 v1574).trips) : BitVec 32 :=
  let c6400_i32_662 : BitVec 32 := 6400#32
  let c0_i32_661 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1575 : BitVec 32 := Scalar.subi v1574 v1280
  let v1576 : BitVec 32 := Scalar.maxsi c0_i32_661 v1575
  let v1577 : BitVec 32 := Scalar.minsi c6400_i32_662 v1576
  let c4_i32_663 : BitVec 32 := 4#32
  let v1578 : BitVec 32 := Scalar.shrui v1577 c4_i32_663
  let c1_i32_673 : BitVec 32 := 1#32
  let v1606 : BitVec 32 := Scalar.addi v1578 c1_i32_673
  let c400_i32_674 : BitVec 32 := 400#32
  let v1607 : BitVec 32 := Scalar.subi c400_i32_674 v1606
  let c1_i32_675 : BitVec 32 := 1#32
  let v1609 : BitVec 32 := Scalar.divsi v1607 c1_i32_675
  let v1610 : BitVec 32 := Scalar.muli v1609 c1_i32_675
  let v1611 : BitVec 32 := Scalar.addi v1606 v1610
  let c1_i32_677 : BitVec 32 := 1#32
  let arg27 : BitVec 32 := Scf.iv v1611 c1_i32_677 k0_t33
  let c16_i32_826 : BitVec 32 := 16#32
  let v1958 : BitVec 32 := Scalar.muli arg27 c16_i32_826
  v1958
def k0_off61 (k0_t1 : Fin k0_t1_loop.trips) (v1574 : BitVec 32) (k0_t33 : Fin (k0_t33_loop k0_t1 v1574).trips) : Fin 2 → Nat :=
  let c7_i32_827 : BitVec 32 := 7#32
  let v1960 : Index := Scalar.indexCast c7_i32_827
  let c6400_i32_662 : BitVec 32 := 6400#32
  let c0_i32_661 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let v1575 : BitVec 32 := Scalar.subi v1574 v1280
  let v1576 : BitVec 32 := Scalar.maxsi c0_i32_661 v1575
  let v1577 : BitVec 32 := Scalar.minsi c6400_i32_662 v1576
  let c4_i32_663 : BitVec 32 := 4#32
  let v1578 : BitVec 32 := Scalar.shrui v1577 c4_i32_663
  let c1_i32_673 : BitVec 32 := 1#32
  let v1606 : BitVec 32 := Scalar.addi v1578 c1_i32_673
  let c400_i32_674 : BitVec 32 := 400#32
  let v1607 : BitVec 32 := Scalar.subi c400_i32_674 v1606
  let c1_i32_675 : BitVec 32 := 1#32
  let v1609 : BitVec 32 := Scalar.divsi v1607 c1_i32_675
  let v1610 : BitVec 32 := Scalar.muli v1609 c1_i32_675
  let v1611 : BitVec 32 := Scalar.addi v1606 v1610
  let c1_i32_677 : BitVec 32 := 1#32
  let arg27 : BitVec 32 := Scf.iv v1611 c1_i32_677 k0_t33
  let c16_i32_826 : BitVec 32 := 16#32
  let v1958 : BitVec 32 := Scalar.muli arg27 c16_i32_826
  let v1959 : BitVec 32 := v1958
  let v1961 : Index := Scalar.indexCast v1959
  ![7, v1961.toNat]

def k0_chk32 (k0_t1 : Fin k0_t1_loop.trips) (v1574 : BitVec 32) : Prop :=
  ((k0_t30_loop k0_t1 v1574).OK) ∧
  (∀ k0_t30 : Fin (k0_t30_loop k0_t1 v1574).trips, 16 ∣ (k0_mult58 k0_t1 v1574 k0_t30).toNat) ∧
  (∀ k0_t30 : Fin (k0_t30_loop k0_t1 v1574).trips, ∀ a, (k0_off57 k0_t1 v1574 k0_t30) a + S1x16.size a ≤ S8x6400.size a) ∧
  ((k0_t31_loop k0_t1 v1574).OK) ∧
  (∀ k0_t31 : Fin (k0_t31_loop k0_t1 v1574).trips, 16 ∣ (k0_mult59 k0_t1 v1574 k0_t31).toNat) ∧
  (∀ k0_t31 : Fin (k0_t31_loop k0_t1 v1574).trips, ∀ a, (k0_off58 k0_t1 v1574 k0_t31) a + S1x16.size a ≤ S8x6400.size a) ∧
  (16 ∣ (k0_mult60 k0_t1 v1574).toNat) ∧
  (∀ a, (k0_off59 k0_t1 v1574) a + S1x16.size a ≤ S8x6400.size a) ∧
  ((k0_t32_loop k0_t1 v1574).OK) ∧
  (∀ k0_t32 : Fin (k0_t32_loop k0_t1 v1574).trips, 16 ∣ (k0_mult61 k0_t1 v1574 k0_t32).toNat) ∧
  (∀ k0_t32 : Fin (k0_t32_loop k0_t1 v1574).trips, ∀ a, (k0_off60 k0_t1 v1574 k0_t32) a + S1x16.size a ≤ S8x6400.size a) ∧
  ((k0_t33_loop k0_t1 v1574).OK) ∧
  (∀ k0_t33 : Fin (k0_t33_loop k0_t1 v1574).trips, 16 ∣ (k0_mult62 k0_t1 v1574 k0_t33).toNat) ∧
  (∀ k0_t33 : Fin (k0_t33_loop k0_t1 v1574).trips, ∀ a, (k0_off61 k0_t1 v1574 k0_t33) a + S1x16.size a ≤ S8x6400.size a)
theorem k0_t30_ok : ∀ (k0_t1 : Fin k0_t1_loop.trips) (v1574 : BitVec 32) (k0_hw32 : k0_chk32 k0_t1 v1574), (k0_t30_loop k0_t1 v1574).OK := fun k0_t1 v1574 k0_hw32 => k0_hw32.1
theorem k0_mult58_dvd : ∀ (k0_t1 : Fin k0_t1_loop.trips) (v1574 : BitVec 32) (k0_hw32 : k0_chk32 k0_t1 v1574) (k0_t30 : Fin (k0_t30_loop k0_t1 v1574).trips), 16 ∣ (k0_mult58 k0_t1 v1574 k0_t30).toNat := fun k0_t1 v1574 k0_hw32 k0_t30 => k0_hw32.2.1 k0_t30
theorem k0_off57_inb : ∀ (k0_t1 : Fin k0_t1_loop.trips) (v1574 : BitVec 32) (k0_hw32 : k0_chk32 k0_t1 v1574) (k0_t30 : Fin (k0_t30_loop k0_t1 v1574).trips), ∀ a, (k0_off57 k0_t1 v1574 k0_t30) a + S1x16.size a ≤ S8x6400.size a := fun k0_t1 v1574 k0_hw32 k0_t30 => k0_hw32.2.2.1 k0_t30
theorem k0_t31_ok : ∀ (k0_t1 : Fin k0_t1_loop.trips) (v1574 : BitVec 32) (k0_hw32 : k0_chk32 k0_t1 v1574), (k0_t31_loop k0_t1 v1574).OK := fun k0_t1 v1574 k0_hw32 => k0_hw32.2.2.2.1
theorem k0_mult59_dvd : ∀ (k0_t1 : Fin k0_t1_loop.trips) (v1574 : BitVec 32) (k0_hw32 : k0_chk32 k0_t1 v1574) (k0_t31 : Fin (k0_t31_loop k0_t1 v1574).trips), 16 ∣ (k0_mult59 k0_t1 v1574 k0_t31).toNat := fun k0_t1 v1574 k0_hw32 k0_t31 => k0_hw32.2.2.2.2.1 k0_t31
theorem k0_off58_inb : ∀ (k0_t1 : Fin k0_t1_loop.trips) (v1574 : BitVec 32) (k0_hw32 : k0_chk32 k0_t1 v1574) (k0_t31 : Fin (k0_t31_loop k0_t1 v1574).trips), ∀ a, (k0_off58 k0_t1 v1574 k0_t31) a + S1x16.size a ≤ S8x6400.size a := fun k0_t1 v1574 k0_hw32 k0_t31 => k0_hw32.2.2.2.2.2.1 k0_t31
theorem k0_mult60_dvd : ∀ (k0_t1 : Fin k0_t1_loop.trips) (v1574 : BitVec 32) (k0_hw32 : k0_chk32 k0_t1 v1574), 16 ∣ (k0_mult60 k0_t1 v1574).toNat := fun k0_t1 v1574 k0_hw32 => k0_hw32.2.2.2.2.2.2.1
theorem k0_off59_inb : ∀ (k0_t1 : Fin k0_t1_loop.trips) (v1574 : BitVec 32) (k0_hw32 : k0_chk32 k0_t1 v1574), ∀ a, (k0_off59 k0_t1 v1574) a + S1x16.size a ≤ S8x6400.size a := fun k0_t1 v1574 k0_hw32 => k0_hw32.2.2.2.2.2.2.2.1
theorem k0_t32_ok : ∀ (k0_t1 : Fin k0_t1_loop.trips) (v1574 : BitVec 32) (k0_hw32 : k0_chk32 k0_t1 v1574), (k0_t32_loop k0_t1 v1574).OK := fun k0_t1 v1574 k0_hw32 => k0_hw32.2.2.2.2.2.2.2.2.1
theorem k0_mult61_dvd : ∀ (k0_t1 : Fin k0_t1_loop.trips) (v1574 : BitVec 32) (k0_hw32 : k0_chk32 k0_t1 v1574) (k0_t32 : Fin (k0_t32_loop k0_t1 v1574).trips), 16 ∣ (k0_mult61 k0_t1 v1574 k0_t32).toNat := fun k0_t1 v1574 k0_hw32 k0_t32 => k0_hw32.2.2.2.2.2.2.2.2.2.1 k0_t32
theorem k0_off60_inb : ∀ (k0_t1 : Fin k0_t1_loop.trips) (v1574 : BitVec 32) (k0_hw32 : k0_chk32 k0_t1 v1574) (k0_t32 : Fin (k0_t32_loop k0_t1 v1574).trips), ∀ a, (k0_off60 k0_t1 v1574 k0_t32) a + S1x16.size a ≤ S8x6400.size a := fun k0_t1 v1574 k0_hw32 k0_t32 => k0_hw32.2.2.2.2.2.2.2.2.2.2.1 k0_t32
theorem k0_t33_ok : ∀ (k0_t1 : Fin k0_t1_loop.trips) (v1574 : BitVec 32) (k0_hw32 : k0_chk32 k0_t1 v1574), (k0_t33_loop k0_t1 v1574).OK := fun k0_t1 v1574 k0_hw32 => k0_hw32.2.2.2.2.2.2.2.2.2.2.2.1
theorem k0_mult62_dvd : ∀ (k0_t1 : Fin k0_t1_loop.trips) (v1574 : BitVec 32) (k0_hw32 : k0_chk32 k0_t1 v1574) (k0_t33 : Fin (k0_t33_loop k0_t1 v1574).trips), 16 ∣ (k0_mult62 k0_t1 v1574 k0_t33).toNat := fun k0_t1 v1574 k0_hw32 k0_t33 => k0_hw32.2.2.2.2.2.2.2.2.2.2.2.2.1 k0_t33
theorem k0_off61_inb : ∀ (k0_t1 : Fin k0_t1_loop.trips) (v1574 : BitVec 32) (k0_hw32 : k0_chk32 k0_t1 v1574) (k0_t33 : Fin (k0_t33_loop k0_t1 v1574).trips), ∀ a, (k0_off61 k0_t1 v1574 k0_t33) a + S1x16.size a ≤ S8x6400.size a := fun k0_t1 v1574 k0_hw32 k0_t33 => k0_hw32.2.2.2.2.2.2.2.2.2.2.2.2.2 k0_t33

def k0_cond1 (k0_t1 : Fin k0_t1_loop.trips) : BitVec 1 :=
  let c0_i32_145 : BitVec 32 := 0#32
  let c1_i32_147 : BitVec 32 := 1#32
  let arg18 : BitVec 32 := Scf.iv c0_i32_145 c1_i32_147 k0_t1
  let c6_i32_678 : BitVec 32 := 6#32
  let v1614 : BitVec 1 := Scalar.cmpi .sle arg18 c6_i32_678
  let v1615 : BitVec 32 := Scalar.extui v1614
  let c0_i32_679 : BitVec 32 := 0#32
  let v1616 : BitVec 1 := Scalar.cmpi .ne v1615 c0_i32_679
  v1616

def k0_mult63 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  v2
def k0_off62 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v1959 : BitVec 32 := v2
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c12800_i32_826 : BitVec 32 := 12800#32
  let v1958 : BitVec 32 := Scalar.addi v1280 c12800_i32_826
  ![v1959.toNat, v1958.toNat]
def k0_mult64 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  v2
def k0_off63 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v1618 : BitVec 32 := v2
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_680 : BitVec 32 := 6400#32
  let v1617 : BitVec 32 := Scalar.addi v1280 c6400_i32_680
  ![v1618.toNat, v1617.toNat]
@[reducible] def k0_t34_loop (k0_t1 : Fin k0_t1_loop.trips) (v1625 : BitVec 32) : Scf.Loop 32 :=
  let c0_i32_689 : BitVec 32 := 0#32
  let c6400_i32_687 : BitVec 32 := 6400#32
  let c0_i32_686 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1626 : BitVec 32 := Scalar.subi v1625 v1623
  let v1627 : BitVec 32 := Scalar.maxsi c0_i32_686 v1626
  let v1628 : BitVec 32 := Scalar.minsi c6400_i32_687 v1627
  let c4_i32_688 : BitVec 32 := 4#32
  let v1629 : BitVec 32 := Scalar.shrui v1628 c4_i32_688
  let v1630 : BitVec 32 := Scalar.subi v1629 c0_i32_689
  let c1_i32_690 : BitVec 32 := 1#32
  let v1632 : BitVec 32 := Scalar.divsi v1630 c1_i32_690
  let v1633 : BitVec 32 := Scalar.muli v1632 c1_i32_690
  let v1634 : BitVec 32 := Scalar.addi c0_i32_689 v1633
  let c1_i32_691 : BitVec 32 := 1#32
  ⟨c0_i32_689, v1634, c1_i32_691⟩

def k0_mult65 (k0_t1 : Fin k0_t1_loop.trips) (v1625 : BitVec 32) (k0_t34 : Fin (k0_t34_loop k0_t1 v1625).trips) : BitVec 32 :=
  let c0_i32_689 : BitVec 32 := 0#32
  let c1_i32_691 : BitVec 32 := 1#32
  let arg27 : BitVec 32 := Scf.iv c0_i32_689 c1_i32_691 k0_t34
  let c16_i32_826 : BitVec 32 := 16#32
  let v1958 : BitVec 32 := Scalar.muli arg27 c16_i32_826
  v1958
def k0_off64 (k0_t1 : Fin k0_t1_loop.trips) (v1625 : BitVec 32) (k0_t34 : Fin (k0_t34_loop k0_t1 v1625).trips) : Fin 2 → Nat :=
  let c0_i32_827 : BitVec 32 := 0#32
  let v1960 : Index := Scalar.indexCast c0_i32_827
  let c0_i32_689 : BitVec 32 := 0#32
  let c1_i32_691 : BitVec 32 := 1#32
  let arg27 : BitVec 32 := Scf.iv c0_i32_689 c1_i32_691 k0_t34
  let c16_i32_826 : BitVec 32 := 16#32
  let v1958 : BitVec 32 := Scalar.muli arg27 c16_i32_826
  let v1959 : BitVec 32 := v1958
  let v1961 : Index := Scalar.indexCast v1959
  ![0, v1961.toNat]
@[reducible] def k0_t35_loop (k0_t1 : Fin k0_t1_loop.trips) (v1625 : BitVec 32) : Scf.Loop 32 :=
  let c0_i32_689 : BitVec 32 := 0#32
  let c6400_i32_687 : BitVec 32 := 6400#32
  let c0_i32_686 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1626 : BitVec 32 := Scalar.subi v1625 v1623
  let v1627 : BitVec 32 := Scalar.maxsi c0_i32_686 v1626
  let v1628 : BitVec 32 := Scalar.minsi c6400_i32_687 v1627
  let c4_i32_688 : BitVec 32 := 4#32
  let v1629 : BitVec 32 := Scalar.shrui v1628 c4_i32_688
  let v1630 : BitVec 32 := Scalar.subi v1629 c0_i32_689
  let c1_i32_690 : BitVec 32 := 1#32
  let v1632 : BitVec 32 := Scalar.divsi v1630 c1_i32_690
  let v1633 : BitVec 32 := Scalar.muli v1632 c1_i32_690
  let v1634 : BitVec 32 := Scalar.addi c0_i32_689 v1633
  let v1631 : BitVec 32 := Scalar.addi c0_i32_689 v1630
  let c1_i32_692 : BitVec 32 := 1#32
  ⟨v1634, v1631, c1_i32_692⟩
def k0_mult66 (k0_t1 : Fin k0_t1_loop.trips) (v1625 : BitVec 32) (k0_t35 : Fin (k0_t35_loop k0_t1 v1625).trips) : BitVec 32 :=
  let c0_i32_689 : BitVec 32 := 0#32
  let c6400_i32_687 : BitVec 32 := 6400#32
  let c0_i32_686 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1626 : BitVec 32 := Scalar.subi v1625 v1623
  let v1627 : BitVec 32 := Scalar.maxsi c0_i32_686 v1626
  let v1628 : BitVec 32 := Scalar.minsi c6400_i32_687 v1627
  let c4_i32_688 : BitVec 32 := 4#32
  let v1629 : BitVec 32 := Scalar.shrui v1628 c4_i32_688
  let v1630 : BitVec 32 := Scalar.subi v1629 c0_i32_689
  let c1_i32_690 : BitVec 32 := 1#32
  let v1632 : BitVec 32 := Scalar.divsi v1630 c1_i32_690
  let v1633 : BitVec 32 := Scalar.muli v1632 c1_i32_690
  let v1634 : BitVec 32 := Scalar.addi c0_i32_689 v1633
  let c1_i32_692 : BitVec 32 := 1#32
  let arg27 : BitVec 32 := Scf.iv v1634 c1_i32_692 k0_t35
  let c16_i32_826 : BitVec 32 := 16#32
  let v1958 : BitVec 32 := Scalar.muli arg27 c16_i32_826
  v1958
def k0_off65 (k0_t1 : Fin k0_t1_loop.trips) (v1625 : BitVec 32) (k0_t35 : Fin (k0_t35_loop k0_t1 v1625).trips) : Fin 2 → Nat :=
  let c0_i32_827 : BitVec 32 := 0#32
  let v1960 : Index := Scalar.indexCast c0_i32_827
  let c0_i32_689 : BitVec 32 := 0#32
  let c6400_i32_687 : BitVec 32 := 6400#32
  let c0_i32_686 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1626 : BitVec 32 := Scalar.subi v1625 v1623
  let v1627 : BitVec 32 := Scalar.maxsi c0_i32_686 v1626
  let v1628 : BitVec 32 := Scalar.minsi c6400_i32_687 v1627
  let c4_i32_688 : BitVec 32 := 4#32
  let v1629 : BitVec 32 := Scalar.shrui v1628 c4_i32_688
  let v1630 : BitVec 32 := Scalar.subi v1629 c0_i32_689
  let c1_i32_690 : BitVec 32 := 1#32
  let v1632 : BitVec 32 := Scalar.divsi v1630 c1_i32_690
  let v1633 : BitVec 32 := Scalar.muli v1632 c1_i32_690
  let v1634 : BitVec 32 := Scalar.addi c0_i32_689 v1633
  let c1_i32_692 : BitVec 32 := 1#32
  let arg27 : BitVec 32 := Scf.iv v1634 c1_i32_692 k0_t35
  let c16_i32_826 : BitVec 32 := 16#32
  let v1958 : BitVec 32 := Scalar.muli arg27 c16_i32_826
  let v1959 : BitVec 32 := v1958
  let v1961 : Index := Scalar.indexCast v1959
  ![0, v1961.toNat]
def k0_mult67 (k0_t1 : Fin k0_t1_loop.trips) (v1625 : BitVec 32) : BitVec 32 :=
  let c6400_i32_687 : BitVec 32 := 6400#32
  let c0_i32_686 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1626 : BitVec 32 := Scalar.subi v1625 v1623
  let v1627 : BitVec 32 := Scalar.maxsi c0_i32_686 v1626
  let v1628 : BitVec 32 := Scalar.minsi c6400_i32_687 v1627
  let c4_i32_688 : BitVec 32 := 4#32
  let v1629 : BitVec 32 := Scalar.shrui v1628 c4_i32_688
  let c399_i32_693 : BitVec 32 := 399#32
  let v1637 : BitVec 32 := Scalar.minsi v1629 c399_i32_693
  let c16_i32_694 : BitVec 32 := 16#32
  let v1638 : BitVec 32 := Scalar.muli v1637 c16_i32_694
  v1638
def k0_off66 (k0_t1 : Fin k0_t1_loop.trips) (v1625 : BitVec 32) : Fin 2 → Nat :=
  let c0_i32_695 : BitVec 32 := 0#32
  let v1640 : Index := Scalar.indexCast c0_i32_695
  let c6400_i32_687 : BitVec 32 := 6400#32
  let c0_i32_686 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1626 : BitVec 32 := Scalar.subi v1625 v1623
  let v1627 : BitVec 32 := Scalar.maxsi c0_i32_686 v1626
  let v1628 : BitVec 32 := Scalar.minsi c6400_i32_687 v1627
  let c4_i32_688 : BitVec 32 := 4#32
  let v1629 : BitVec 32 := Scalar.shrui v1628 c4_i32_688
  let c399_i32_693 : BitVec 32 := 399#32
  let v1637 : BitVec 32 := Scalar.minsi v1629 c399_i32_693
  let c16_i32_694 : BitVec 32 := 16#32
  let v1638 : BitVec 32 := Scalar.muli v1637 c16_i32_694
  let v1639 : BitVec 32 := v1638
  let v1641 : Index := Scalar.indexCast v1639
  ![0, v1641.toNat]
@[reducible] def k0_t36_loop (k0_t1 : Fin k0_t1_loop.trips) (v1625 : BitVec 32) : Scf.Loop 32 :=
  let c6400_i32_687 : BitVec 32 := 6400#32
  let c0_i32_686 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1626 : BitVec 32 := Scalar.subi v1625 v1623
  let v1627 : BitVec 32 := Scalar.maxsi c0_i32_686 v1626
  let v1628 : BitVec 32 := Scalar.minsi c6400_i32_687 v1627
  let c4_i32_688 : BitVec 32 := 4#32
  let v1629 : BitVec 32 := Scalar.shrui v1628 c4_i32_688
  let c1_i32_698 : BitVec 32 := 1#32
  let v1657 : BitVec 32 := Scalar.addi v1629 c1_i32_698
  let c400_i32_699 : BitVec 32 := 400#32
  let v1658 : BitVec 32 := Scalar.subi c400_i32_699 v1657
  let c1_i32_700 : BitVec 32 := 1#32
  let v1660 : BitVec 32 := Scalar.divsi v1658 c1_i32_700
  let v1661 : BitVec 32 := Scalar.muli v1660 c1_i32_700
  let v1662 : BitVec 32 := Scalar.addi v1657 v1661
  let c1_i32_701 : BitVec 32 := 1#32
  ⟨v1657, v1662, c1_i32_701⟩
def k0_mult68 (k0_t1 : Fin k0_t1_loop.trips) (v1625 : BitVec 32) (k0_t36 : Fin (k0_t36_loop k0_t1 v1625).trips) : BitVec 32 :=
  let c6400_i32_687 : BitVec 32 := 6400#32
  let c0_i32_686 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1626 : BitVec 32 := Scalar.subi v1625 v1623
  let v1627 : BitVec 32 := Scalar.maxsi c0_i32_686 v1626
  let v1628 : BitVec 32 := Scalar.minsi c6400_i32_687 v1627
  let c4_i32_688 : BitVec 32 := 4#32
  let v1629 : BitVec 32 := Scalar.shrui v1628 c4_i32_688
  let c1_i32_698 : BitVec 32 := 1#32
  let v1657 : BitVec 32 := Scalar.addi v1629 c1_i32_698
  let c1_i32_701 : BitVec 32 := 1#32
  let arg27 : BitVec 32 := Scf.iv v1657 c1_i32_701 k0_t36
  let c16_i32_826 : BitVec 32 := 16#32
  let v1958 : BitVec 32 := Scalar.muli arg27 c16_i32_826
  v1958
def k0_off67 (k0_t1 : Fin k0_t1_loop.trips) (v1625 : BitVec 32) (k0_t36 : Fin (k0_t36_loop k0_t1 v1625).trips) : Fin 2 → Nat :=
  let c0_i32_827 : BitVec 32 := 0#32
  let v1960 : Index := Scalar.indexCast c0_i32_827
  let c6400_i32_687 : BitVec 32 := 6400#32
  let c0_i32_686 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1626 : BitVec 32 := Scalar.subi v1625 v1623
  let v1627 : BitVec 32 := Scalar.maxsi c0_i32_686 v1626
  let v1628 : BitVec 32 := Scalar.minsi c6400_i32_687 v1627
  let c4_i32_688 : BitVec 32 := 4#32
  let v1629 : BitVec 32 := Scalar.shrui v1628 c4_i32_688
  let c1_i32_698 : BitVec 32 := 1#32
  let v1657 : BitVec 32 := Scalar.addi v1629 c1_i32_698
  let c1_i32_701 : BitVec 32 := 1#32
  let arg27 : BitVec 32 := Scf.iv v1657 c1_i32_701 k0_t36
  let c16_i32_826 : BitVec 32 := 16#32
  let v1958 : BitVec 32 := Scalar.muli arg27 c16_i32_826
  let v1959 : BitVec 32 := v1958
  let v1961 : Index := Scalar.indexCast v1959
  ![0, v1961.toNat]
@[reducible] def k0_t37_loop (k0_t1 : Fin k0_t1_loop.trips) (v1625 : BitVec 32) : Scf.Loop 32 :=
  let c6400_i32_687 : BitVec 32 := 6400#32
  let c0_i32_686 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1626 : BitVec 32 := Scalar.subi v1625 v1623
  let v1627 : BitVec 32 := Scalar.maxsi c0_i32_686 v1626
  let v1628 : BitVec 32 := Scalar.minsi c6400_i32_687 v1627
  let c4_i32_688 : BitVec 32 := 4#32
  let v1629 : BitVec 32 := Scalar.shrui v1628 c4_i32_688
  let c1_i32_698 : BitVec 32 := 1#32
  let v1657 : BitVec 32 := Scalar.addi v1629 c1_i32_698
  let c400_i32_699 : BitVec 32 := 400#32
  let v1658 : BitVec 32 := Scalar.subi c400_i32_699 v1657
  let c1_i32_700 : BitVec 32 := 1#32
  let v1660 : BitVec 32 := Scalar.divsi v1658 c1_i32_700
  let v1661 : BitVec 32 := Scalar.muli v1660 c1_i32_700
  let v1662 : BitVec 32 := Scalar.addi v1657 v1661
  let v1659 : BitVec 32 := Scalar.addi v1657 v1658
  let c1_i32_702 : BitVec 32 := 1#32
  ⟨v1662, v1659, c1_i32_702⟩
def k0_mult69 (k0_t1 : Fin k0_t1_loop.trips) (v1625 : BitVec 32) (k0_t37 : Fin (k0_t37_loop k0_t1 v1625).trips) : BitVec 32 :=
  let c6400_i32_687 : BitVec 32 := 6400#32
  let c0_i32_686 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1626 : BitVec 32 := Scalar.subi v1625 v1623
  let v1627 : BitVec 32 := Scalar.maxsi c0_i32_686 v1626
  let v1628 : BitVec 32 := Scalar.minsi c6400_i32_687 v1627
  let c4_i32_688 : BitVec 32 := 4#32
  let v1629 : BitVec 32 := Scalar.shrui v1628 c4_i32_688
  let c1_i32_698 : BitVec 32 := 1#32
  let v1657 : BitVec 32 := Scalar.addi v1629 c1_i32_698
  let c400_i32_699 : BitVec 32 := 400#32
  let v1658 : BitVec 32 := Scalar.subi c400_i32_699 v1657
  let c1_i32_700 : BitVec 32 := 1#32
  let v1660 : BitVec 32 := Scalar.divsi v1658 c1_i32_700
  let v1661 : BitVec 32 := Scalar.muli v1660 c1_i32_700
  let v1662 : BitVec 32 := Scalar.addi v1657 v1661
  let c1_i32_702 : BitVec 32 := 1#32
  let arg27 : BitVec 32 := Scf.iv v1662 c1_i32_702 k0_t37
  let c16_i32_826 : BitVec 32 := 16#32
  let v1958 : BitVec 32 := Scalar.muli arg27 c16_i32_826
  v1958
def k0_off68 (k0_t1 : Fin k0_t1_loop.trips) (v1625 : BitVec 32) (k0_t37 : Fin (k0_t37_loop k0_t1 v1625).trips) : Fin 2 → Nat :=
  let c0_i32_827 : BitVec 32 := 0#32
  let v1960 : Index := Scalar.indexCast c0_i32_827
  let c6400_i32_687 : BitVec 32 := 6400#32
  let c0_i32_686 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1626 : BitVec 32 := Scalar.subi v1625 v1623
  let v1627 : BitVec 32 := Scalar.maxsi c0_i32_686 v1626
  let v1628 : BitVec 32 := Scalar.minsi c6400_i32_687 v1627
  let c4_i32_688 : BitVec 32 := 4#32
  let v1629 : BitVec 32 := Scalar.shrui v1628 c4_i32_688
  let c1_i32_698 : BitVec 32 := 1#32
  let v1657 : BitVec 32 := Scalar.addi v1629 c1_i32_698
  let c400_i32_699 : BitVec 32 := 400#32
  let v1658 : BitVec 32 := Scalar.subi c400_i32_699 v1657
  let c1_i32_700 : BitVec 32 := 1#32
  let v1660 : BitVec 32 := Scalar.divsi v1658 c1_i32_700
  let v1661 : BitVec 32 := Scalar.muli v1660 c1_i32_700
  let v1662 : BitVec 32 := Scalar.addi v1657 v1661
  let c1_i32_702 : BitVec 32 := 1#32
  let arg27 : BitVec 32 := Scf.iv v1662 c1_i32_702 k0_t37
  let c16_i32_826 : BitVec 32 := 16#32
  let v1958 : BitVec 32 := Scalar.muli arg27 c16_i32_826
  let v1959 : BitVec 32 := v1958
  let v1961 : Index := Scalar.indexCast v1959
  ![0, v1961.toNat]

def k0_chk33 (k0_t1 : Fin k0_t1_loop.trips) (v1625 : BitVec 32) : Prop :=
  ((k0_t34_loop k0_t1 v1625).OK) ∧
  (∀ k0_t34 : Fin (k0_t34_loop k0_t1 v1625).trips, 16 ∣ (k0_mult65 k0_t1 v1625 k0_t34).toNat) ∧
  (∀ k0_t34 : Fin (k0_t34_loop k0_t1 v1625).trips, ∀ a, (k0_off64 k0_t1 v1625 k0_t34) a + S1x16.size a ≤ S8x6400.size a) ∧
  ((k0_t35_loop k0_t1 v1625).OK) ∧
  (∀ k0_t35 : Fin (k0_t35_loop k0_t1 v1625).trips, 16 ∣ (k0_mult66 k0_t1 v1625 k0_t35).toNat) ∧
  (∀ k0_t35 : Fin (k0_t35_loop k0_t1 v1625).trips, ∀ a, (k0_off65 k0_t1 v1625 k0_t35) a + S1x16.size a ≤ S8x6400.size a) ∧
  (16 ∣ (k0_mult67 k0_t1 v1625).toNat) ∧
  (∀ a, (k0_off66 k0_t1 v1625) a + S1x16.size a ≤ S8x6400.size a) ∧
  ((k0_t36_loop k0_t1 v1625).OK) ∧
  (∀ k0_t36 : Fin (k0_t36_loop k0_t1 v1625).trips, 16 ∣ (k0_mult68 k0_t1 v1625 k0_t36).toNat) ∧
  (∀ k0_t36 : Fin (k0_t36_loop k0_t1 v1625).trips, ∀ a, (k0_off67 k0_t1 v1625 k0_t36) a + S1x16.size a ≤ S8x6400.size a) ∧
  ((k0_t37_loop k0_t1 v1625).OK) ∧
  (∀ k0_t37 : Fin (k0_t37_loop k0_t1 v1625).trips, 16 ∣ (k0_mult69 k0_t1 v1625 k0_t37).toNat) ∧
  (∀ k0_t37 : Fin (k0_t37_loop k0_t1 v1625).trips, ∀ a, (k0_off68 k0_t1 v1625 k0_t37) a + S1x16.size a ≤ S8x6400.size a)
theorem k0_t34_ok : ∀ (k0_t1 : Fin k0_t1_loop.trips) (v1625 : BitVec 32) (k0_hw33 : k0_chk33 k0_t1 v1625), (k0_t34_loop k0_t1 v1625).OK := fun k0_t1 v1625 k0_hw33 => k0_hw33.1
theorem k0_mult65_dvd : ∀ (k0_t1 : Fin k0_t1_loop.trips) (v1625 : BitVec 32) (k0_hw33 : k0_chk33 k0_t1 v1625) (k0_t34 : Fin (k0_t34_loop k0_t1 v1625).trips), 16 ∣ (k0_mult65 k0_t1 v1625 k0_t34).toNat := fun k0_t1 v1625 k0_hw33 k0_t34 => k0_hw33.2.1 k0_t34
theorem k0_off64_inb : ∀ (k0_t1 : Fin k0_t1_loop.trips) (v1625 : BitVec 32) (k0_hw33 : k0_chk33 k0_t1 v1625) (k0_t34 : Fin (k0_t34_loop k0_t1 v1625).trips), ∀ a, (k0_off64 k0_t1 v1625 k0_t34) a + S1x16.size a ≤ S8x6400.size a := fun k0_t1 v1625 k0_hw33 k0_t34 => k0_hw33.2.2.1 k0_t34
theorem k0_t35_ok : ∀ (k0_t1 : Fin k0_t1_loop.trips) (v1625 : BitVec 32) (k0_hw33 : k0_chk33 k0_t1 v1625), (k0_t35_loop k0_t1 v1625).OK := fun k0_t1 v1625 k0_hw33 => k0_hw33.2.2.2.1
theorem k0_mult66_dvd : ∀ (k0_t1 : Fin k0_t1_loop.trips) (v1625 : BitVec 32) (k0_hw33 : k0_chk33 k0_t1 v1625) (k0_t35 : Fin (k0_t35_loop k0_t1 v1625).trips), 16 ∣ (k0_mult66 k0_t1 v1625 k0_t35).toNat := fun k0_t1 v1625 k0_hw33 k0_t35 => k0_hw33.2.2.2.2.1 k0_t35
theorem k0_off65_inb : ∀ (k0_t1 : Fin k0_t1_loop.trips) (v1625 : BitVec 32) (k0_hw33 : k0_chk33 k0_t1 v1625) (k0_t35 : Fin (k0_t35_loop k0_t1 v1625).trips), ∀ a, (k0_off65 k0_t1 v1625 k0_t35) a + S1x16.size a ≤ S8x6400.size a := fun k0_t1 v1625 k0_hw33 k0_t35 => k0_hw33.2.2.2.2.2.1 k0_t35
theorem k0_mult67_dvd : ∀ (k0_t1 : Fin k0_t1_loop.trips) (v1625 : BitVec 32) (k0_hw33 : k0_chk33 k0_t1 v1625), 16 ∣ (k0_mult67 k0_t1 v1625).toNat := fun k0_t1 v1625 k0_hw33 => k0_hw33.2.2.2.2.2.2.1
theorem k0_off66_inb : ∀ (k0_t1 : Fin k0_t1_loop.trips) (v1625 : BitVec 32) (k0_hw33 : k0_chk33 k0_t1 v1625), ∀ a, (k0_off66 k0_t1 v1625) a + S1x16.size a ≤ S8x6400.size a := fun k0_t1 v1625 k0_hw33 => k0_hw33.2.2.2.2.2.2.2.1
theorem k0_t36_ok : ∀ (k0_t1 : Fin k0_t1_loop.trips) (v1625 : BitVec 32) (k0_hw33 : k0_chk33 k0_t1 v1625), (k0_t36_loop k0_t1 v1625).OK := fun k0_t1 v1625 k0_hw33 => k0_hw33.2.2.2.2.2.2.2.2.1
theorem k0_mult68_dvd : ∀ (k0_t1 : Fin k0_t1_loop.trips) (v1625 : BitVec 32) (k0_hw33 : k0_chk33 k0_t1 v1625) (k0_t36 : Fin (k0_t36_loop k0_t1 v1625).trips), 16 ∣ (k0_mult68 k0_t1 v1625 k0_t36).toNat := fun k0_t1 v1625 k0_hw33 k0_t36 => k0_hw33.2.2.2.2.2.2.2.2.2.1 k0_t36
theorem k0_off67_inb : ∀ (k0_t1 : Fin k0_t1_loop.trips) (v1625 : BitVec 32) (k0_hw33 : k0_chk33 k0_t1 v1625) (k0_t36 : Fin (k0_t36_loop k0_t1 v1625).trips), ∀ a, (k0_off67 k0_t1 v1625 k0_t36) a + S1x16.size a ≤ S8x6400.size a := fun k0_t1 v1625 k0_hw33 k0_t36 => k0_hw33.2.2.2.2.2.2.2.2.2.2.1 k0_t36
theorem k0_t37_ok : ∀ (k0_t1 : Fin k0_t1_loop.trips) (v1625 : BitVec 32) (k0_hw33 : k0_chk33 k0_t1 v1625), (k0_t37_loop k0_t1 v1625).OK := fun k0_t1 v1625 k0_hw33 => k0_hw33.2.2.2.2.2.2.2.2.2.2.2.1
theorem k0_mult69_dvd : ∀ (k0_t1 : Fin k0_t1_loop.trips) (v1625 : BitVec 32) (k0_hw33 : k0_chk33 k0_t1 v1625) (k0_t37 : Fin (k0_t37_loop k0_t1 v1625).trips), 16 ∣ (k0_mult69 k0_t1 v1625 k0_t37).toNat := fun k0_t1 v1625 k0_hw33 k0_t37 => k0_hw33.2.2.2.2.2.2.2.2.2.2.2.2.1 k0_t37
theorem k0_off68_inb : ∀ (k0_t1 : Fin k0_t1_loop.trips) (v1625 : BitVec 32) (k0_hw33 : k0_chk33 k0_t1 v1625) (k0_t37 : Fin (k0_t37_loop k0_t1 v1625).trips), ∀ a, (k0_off68 k0_t1 v1625 k0_t37) a + S1x16.size a ≤ S8x6400.size a := fun k0_t1 v1625 k0_hw33 k0_t37 => k0_hw33.2.2.2.2.2.2.2.2.2.2.2.2.2 k0_t37

@[reducible] def k0_t38_loop (k0_t1 : Fin k0_t1_loop.trips) (v1666 : BitVec 32) : Scf.Loop 32 :=
  let c0_i32_706 : BitVec 32 := 0#32
  let c6400_i32_704 : BitVec 32 := 6400#32
  let c0_i32_703 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1667 : BitVec 32 := Scalar.subi v1666 v1623
  let v1668 : BitVec 32 := Scalar.maxsi c0_i32_703 v1667
  let v1669 : BitVec 32 := Scalar.minsi c6400_i32_704 v1668
  let c4_i32_705 : BitVec 32 := 4#32
  let v1670 : BitVec 32 := Scalar.shrui v1669 c4_i32_705
  let v1671 : BitVec 32 := Scalar.subi v1670 c0_i32_706
  let c1_i32_707 : BitVec 32 := 1#32
  let v1673 : BitVec 32 := Scalar.divsi v1671 c1_i32_707
  let v1674 : BitVec 32 := Scalar.muli v1673 c1_i32_707
  let v1675 : BitVec 32 := Scalar.addi c0_i32_706 v1674
  let c1_i32_708 : BitVec 32 := 1#32
  ⟨c0_i32_706, v1675, c1_i32_708⟩

def k0_mult70 (k0_t1 : Fin k0_t1_loop.trips) (v1666 : BitVec 32) (k0_t38 : Fin (k0_t38_loop k0_t1 v1666).trips) : BitVec 32 :=
  let c0_i32_706 : BitVec 32 := 0#32
  let c1_i32_708 : BitVec 32 := 1#32
  let arg27 : BitVec 32 := Scf.iv c0_i32_706 c1_i32_708 k0_t38
  let c16_i32_826 : BitVec 32 := 16#32
  let v1958 : BitVec 32 := Scalar.muli arg27 c16_i32_826
  v1958
def k0_off69 (k0_t1 : Fin k0_t1_loop.trips) (v1666 : BitVec 32) (k0_t38 : Fin (k0_t38_loop k0_t1 v1666).trips) : Fin 2 → Nat :=
  let c1_i32_827 : BitVec 32 := 1#32
  let v1960 : Index := Scalar.indexCast c1_i32_827
  let c0_i32_706 : BitVec 32 := 0#32
  let c1_i32_708 : BitVec 32 := 1#32
  let arg27 : BitVec 32 := Scf.iv c0_i32_706 c1_i32_708 k0_t38
  let c16_i32_826 : BitVec 32 := 16#32
  let v1958 : BitVec 32 := Scalar.muli arg27 c16_i32_826
  let v1959 : BitVec 32 := v1958
  let v1961 : Index := Scalar.indexCast v1959
  ![1, v1961.toNat]
@[reducible] def k0_t39_loop (k0_t1 : Fin k0_t1_loop.trips) (v1666 : BitVec 32) : Scf.Loop 32 :=
  let c0_i32_706 : BitVec 32 := 0#32
  let c6400_i32_704 : BitVec 32 := 6400#32
  let c0_i32_703 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1667 : BitVec 32 := Scalar.subi v1666 v1623
  let v1668 : BitVec 32 := Scalar.maxsi c0_i32_703 v1667
  let v1669 : BitVec 32 := Scalar.minsi c6400_i32_704 v1668
  let c4_i32_705 : BitVec 32 := 4#32
  let v1670 : BitVec 32 := Scalar.shrui v1669 c4_i32_705
  let v1671 : BitVec 32 := Scalar.subi v1670 c0_i32_706
  let c1_i32_707 : BitVec 32 := 1#32
  let v1673 : BitVec 32 := Scalar.divsi v1671 c1_i32_707
  let v1674 : BitVec 32 := Scalar.muli v1673 c1_i32_707
  let v1675 : BitVec 32 := Scalar.addi c0_i32_706 v1674
  let v1672 : BitVec 32 := Scalar.addi c0_i32_706 v1671
  let c1_i32_709 : BitVec 32 := 1#32
  ⟨v1675, v1672, c1_i32_709⟩
def k0_mult71 (k0_t1 : Fin k0_t1_loop.trips) (v1666 : BitVec 32) (k0_t39 : Fin (k0_t39_loop k0_t1 v1666).trips) : BitVec 32 :=
  let c0_i32_706 : BitVec 32 := 0#32
  let c6400_i32_704 : BitVec 32 := 6400#32
  let c0_i32_703 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1667 : BitVec 32 := Scalar.subi v1666 v1623
  let v1668 : BitVec 32 := Scalar.maxsi c0_i32_703 v1667
  let v1669 : BitVec 32 := Scalar.minsi c6400_i32_704 v1668
  let c4_i32_705 : BitVec 32 := 4#32
  let v1670 : BitVec 32 := Scalar.shrui v1669 c4_i32_705
  let v1671 : BitVec 32 := Scalar.subi v1670 c0_i32_706
  let c1_i32_707 : BitVec 32 := 1#32
  let v1673 : BitVec 32 := Scalar.divsi v1671 c1_i32_707
  let v1674 : BitVec 32 := Scalar.muli v1673 c1_i32_707
  let v1675 : BitVec 32 := Scalar.addi c0_i32_706 v1674
  let c1_i32_709 : BitVec 32 := 1#32
  let arg27 : BitVec 32 := Scf.iv v1675 c1_i32_709 k0_t39
  let c16_i32_826 : BitVec 32 := 16#32
  let v1958 : BitVec 32 := Scalar.muli arg27 c16_i32_826
  v1958
def k0_off70 (k0_t1 : Fin k0_t1_loop.trips) (v1666 : BitVec 32) (k0_t39 : Fin (k0_t39_loop k0_t1 v1666).trips) : Fin 2 → Nat :=
  let c1_i32_827 : BitVec 32 := 1#32
  let v1960 : Index := Scalar.indexCast c1_i32_827
  let c0_i32_706 : BitVec 32 := 0#32
  let c6400_i32_704 : BitVec 32 := 6400#32
  let c0_i32_703 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1667 : BitVec 32 := Scalar.subi v1666 v1623
  let v1668 : BitVec 32 := Scalar.maxsi c0_i32_703 v1667
  let v1669 : BitVec 32 := Scalar.minsi c6400_i32_704 v1668
  let c4_i32_705 : BitVec 32 := 4#32
  let v1670 : BitVec 32 := Scalar.shrui v1669 c4_i32_705
  let v1671 : BitVec 32 := Scalar.subi v1670 c0_i32_706
  let c1_i32_707 : BitVec 32 := 1#32
  let v1673 : BitVec 32 := Scalar.divsi v1671 c1_i32_707
  let v1674 : BitVec 32 := Scalar.muli v1673 c1_i32_707
  let v1675 : BitVec 32 := Scalar.addi c0_i32_706 v1674
  let c1_i32_709 : BitVec 32 := 1#32
  let arg27 : BitVec 32 := Scf.iv v1675 c1_i32_709 k0_t39
  let c16_i32_826 : BitVec 32 := 16#32
  let v1958 : BitVec 32 := Scalar.muli arg27 c16_i32_826
  let v1959 : BitVec 32 := v1958
  let v1961 : Index := Scalar.indexCast v1959
  ![1, v1961.toNat]
def k0_mult72 (k0_t1 : Fin k0_t1_loop.trips) (v1666 : BitVec 32) : BitVec 32 :=
  let c6400_i32_704 : BitVec 32 := 6400#32
  let c0_i32_703 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1667 : BitVec 32 := Scalar.subi v1666 v1623
  let v1668 : BitVec 32 := Scalar.maxsi c0_i32_703 v1667
  let v1669 : BitVec 32 := Scalar.minsi c6400_i32_704 v1668
  let c4_i32_705 : BitVec 32 := 4#32
  let v1670 : BitVec 32 := Scalar.shrui v1669 c4_i32_705
  let c399_i32_710 : BitVec 32 := 399#32
  let v1678 : BitVec 32 := Scalar.minsi v1670 c399_i32_710
  let c16_i32_711 : BitVec 32 := 16#32
  let v1679 : BitVec 32 := Scalar.muli v1678 c16_i32_711
  v1679
def k0_off71 (k0_t1 : Fin k0_t1_loop.trips) (v1666 : BitVec 32) : Fin 2 → Nat :=
  let c1_i32_712 : BitVec 32 := 1#32
  let v1681 : Index := Scalar.indexCast c1_i32_712
  let c6400_i32_704 : BitVec 32 := 6400#32
  let c0_i32_703 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1667 : BitVec 32 := Scalar.subi v1666 v1623
  let v1668 : BitVec 32 := Scalar.maxsi c0_i32_703 v1667
  let v1669 : BitVec 32 := Scalar.minsi c6400_i32_704 v1668
  let c4_i32_705 : BitVec 32 := 4#32
  let v1670 : BitVec 32 := Scalar.shrui v1669 c4_i32_705
  let c399_i32_710 : BitVec 32 := 399#32
  let v1678 : BitVec 32 := Scalar.minsi v1670 c399_i32_710
  let c16_i32_711 : BitVec 32 := 16#32
  let v1679 : BitVec 32 := Scalar.muli v1678 c16_i32_711
  let v1680 : BitVec 32 := v1679
  let v1682 : Index := Scalar.indexCast v1680
  ![1, v1682.toNat]
@[reducible] def k0_t40_loop (k0_t1 : Fin k0_t1_loop.trips) (v1666 : BitVec 32) : Scf.Loop 32 :=
  let c6400_i32_704 : BitVec 32 := 6400#32
  let c0_i32_703 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1667 : BitVec 32 := Scalar.subi v1666 v1623
  let v1668 : BitVec 32 := Scalar.maxsi c0_i32_703 v1667
  let v1669 : BitVec 32 := Scalar.minsi c6400_i32_704 v1668
  let c4_i32_705 : BitVec 32 := 4#32
  let v1670 : BitVec 32 := Scalar.shrui v1669 c4_i32_705
  let c1_i32_715 : BitVec 32 := 1#32
  let v1698 : BitVec 32 := Scalar.addi v1670 c1_i32_715
  let c400_i32_716 : BitVec 32 := 400#32
  let v1699 : BitVec 32 := Scalar.subi c400_i32_716 v1698
  let c1_i32_717 : BitVec 32 := 1#32
  let v1701 : BitVec 32 := Scalar.divsi v1699 c1_i32_717
  let v1702 : BitVec 32 := Scalar.muli v1701 c1_i32_717
  let v1703 : BitVec 32 := Scalar.addi v1698 v1702
  let c1_i32_718 : BitVec 32 := 1#32
  ⟨v1698, v1703, c1_i32_718⟩
def k0_mult73 (k0_t1 : Fin k0_t1_loop.trips) (v1666 : BitVec 32) (k0_t40 : Fin (k0_t40_loop k0_t1 v1666).trips) : BitVec 32 :=
  let c6400_i32_704 : BitVec 32 := 6400#32
  let c0_i32_703 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1667 : BitVec 32 := Scalar.subi v1666 v1623
  let v1668 : BitVec 32 := Scalar.maxsi c0_i32_703 v1667
  let v1669 : BitVec 32 := Scalar.minsi c6400_i32_704 v1668
  let c4_i32_705 : BitVec 32 := 4#32
  let v1670 : BitVec 32 := Scalar.shrui v1669 c4_i32_705
  let c1_i32_715 : BitVec 32 := 1#32
  let v1698 : BitVec 32 := Scalar.addi v1670 c1_i32_715
  let c1_i32_718 : BitVec 32 := 1#32
  let arg27 : BitVec 32 := Scf.iv v1698 c1_i32_718 k0_t40
  let c16_i32_826 : BitVec 32 := 16#32
  let v1958 : BitVec 32 := Scalar.muli arg27 c16_i32_826
  v1958
def k0_off72 (k0_t1 : Fin k0_t1_loop.trips) (v1666 : BitVec 32) (k0_t40 : Fin (k0_t40_loop k0_t1 v1666).trips) : Fin 2 → Nat :=
  let c1_i32_827 : BitVec 32 := 1#32
  let v1960 : Index := Scalar.indexCast c1_i32_827
  let c6400_i32_704 : BitVec 32 := 6400#32
  let c0_i32_703 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1667 : BitVec 32 := Scalar.subi v1666 v1623
  let v1668 : BitVec 32 := Scalar.maxsi c0_i32_703 v1667
  let v1669 : BitVec 32 := Scalar.minsi c6400_i32_704 v1668
  let c4_i32_705 : BitVec 32 := 4#32
  let v1670 : BitVec 32 := Scalar.shrui v1669 c4_i32_705
  let c1_i32_715 : BitVec 32 := 1#32
  let v1698 : BitVec 32 := Scalar.addi v1670 c1_i32_715
  let c1_i32_718 : BitVec 32 := 1#32
  let arg27 : BitVec 32 := Scf.iv v1698 c1_i32_718 k0_t40
  let c16_i32_826 : BitVec 32 := 16#32
  let v1958 : BitVec 32 := Scalar.muli arg27 c16_i32_826
  let v1959 : BitVec 32 := v1958
  let v1961 : Index := Scalar.indexCast v1959
  ![1, v1961.toNat]
@[reducible] def k0_t41_loop (k0_t1 : Fin k0_t1_loop.trips) (v1666 : BitVec 32) : Scf.Loop 32 :=
  let c6400_i32_704 : BitVec 32 := 6400#32
  let c0_i32_703 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1667 : BitVec 32 := Scalar.subi v1666 v1623
  let v1668 : BitVec 32 := Scalar.maxsi c0_i32_703 v1667
  let v1669 : BitVec 32 := Scalar.minsi c6400_i32_704 v1668
  let c4_i32_705 : BitVec 32 := 4#32
  let v1670 : BitVec 32 := Scalar.shrui v1669 c4_i32_705
  let c1_i32_715 : BitVec 32 := 1#32
  let v1698 : BitVec 32 := Scalar.addi v1670 c1_i32_715
  let c400_i32_716 : BitVec 32 := 400#32
  let v1699 : BitVec 32 := Scalar.subi c400_i32_716 v1698
  let c1_i32_717 : BitVec 32 := 1#32
  let v1701 : BitVec 32 := Scalar.divsi v1699 c1_i32_717
  let v1702 : BitVec 32 := Scalar.muli v1701 c1_i32_717
  let v1703 : BitVec 32 := Scalar.addi v1698 v1702
  let v1700 : BitVec 32 := Scalar.addi v1698 v1699
  let c1_i32_719 : BitVec 32 := 1#32
  ⟨v1703, v1700, c1_i32_719⟩
def k0_mult74 (k0_t1 : Fin k0_t1_loop.trips) (v1666 : BitVec 32) (k0_t41 : Fin (k0_t41_loop k0_t1 v1666).trips) : BitVec 32 :=
  let c6400_i32_704 : BitVec 32 := 6400#32
  let c0_i32_703 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1667 : BitVec 32 := Scalar.subi v1666 v1623
  let v1668 : BitVec 32 := Scalar.maxsi c0_i32_703 v1667
  let v1669 : BitVec 32 := Scalar.minsi c6400_i32_704 v1668
  let c4_i32_705 : BitVec 32 := 4#32
  let v1670 : BitVec 32 := Scalar.shrui v1669 c4_i32_705
  let c1_i32_715 : BitVec 32 := 1#32
  let v1698 : BitVec 32 := Scalar.addi v1670 c1_i32_715
  let c400_i32_716 : BitVec 32 := 400#32
  let v1699 : BitVec 32 := Scalar.subi c400_i32_716 v1698
  let c1_i32_717 : BitVec 32 := 1#32
  let v1701 : BitVec 32 := Scalar.divsi v1699 c1_i32_717
  let v1702 : BitVec 32 := Scalar.muli v1701 c1_i32_717
  let v1703 : BitVec 32 := Scalar.addi v1698 v1702
  let c1_i32_719 : BitVec 32 := 1#32
  let arg27 : BitVec 32 := Scf.iv v1703 c1_i32_719 k0_t41
  let c16_i32_826 : BitVec 32 := 16#32
  let v1958 : BitVec 32 := Scalar.muli arg27 c16_i32_826
  v1958
def k0_off73 (k0_t1 : Fin k0_t1_loop.trips) (v1666 : BitVec 32) (k0_t41 : Fin (k0_t41_loop k0_t1 v1666).trips) : Fin 2 → Nat :=
  let c1_i32_827 : BitVec 32 := 1#32
  let v1960 : Index := Scalar.indexCast c1_i32_827
  let c6400_i32_704 : BitVec 32 := 6400#32
  let c0_i32_703 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1667 : BitVec 32 := Scalar.subi v1666 v1623
  let v1668 : BitVec 32 := Scalar.maxsi c0_i32_703 v1667
  let v1669 : BitVec 32 := Scalar.minsi c6400_i32_704 v1668
  let c4_i32_705 : BitVec 32 := 4#32
  let v1670 : BitVec 32 := Scalar.shrui v1669 c4_i32_705
  let c1_i32_715 : BitVec 32 := 1#32
  let v1698 : BitVec 32 := Scalar.addi v1670 c1_i32_715
  let c400_i32_716 : BitVec 32 := 400#32
  let v1699 : BitVec 32 := Scalar.subi c400_i32_716 v1698
  let c1_i32_717 : BitVec 32 := 1#32
  let v1701 : BitVec 32 := Scalar.divsi v1699 c1_i32_717
  let v1702 : BitVec 32 := Scalar.muli v1701 c1_i32_717
  let v1703 : BitVec 32 := Scalar.addi v1698 v1702
  let c1_i32_719 : BitVec 32 := 1#32
  let arg27 : BitVec 32 := Scf.iv v1703 c1_i32_719 k0_t41
  let c16_i32_826 : BitVec 32 := 16#32
  let v1958 : BitVec 32 := Scalar.muli arg27 c16_i32_826
  let v1959 : BitVec 32 := v1958
  let v1961 : Index := Scalar.indexCast v1959
  ![1, v1961.toNat]

def k0_chk34 (k0_t1 : Fin k0_t1_loop.trips) (v1666 : BitVec 32) : Prop :=
  ((k0_t38_loop k0_t1 v1666).OK) ∧
  (∀ k0_t38 : Fin (k0_t38_loop k0_t1 v1666).trips, 16 ∣ (k0_mult70 k0_t1 v1666 k0_t38).toNat) ∧
  (∀ k0_t38 : Fin (k0_t38_loop k0_t1 v1666).trips, ∀ a, (k0_off69 k0_t1 v1666 k0_t38) a + S1x16.size a ≤ S8x6400.size a) ∧
  ((k0_t39_loop k0_t1 v1666).OK) ∧
  (∀ k0_t39 : Fin (k0_t39_loop k0_t1 v1666).trips, 16 ∣ (k0_mult71 k0_t1 v1666 k0_t39).toNat) ∧
  (∀ k0_t39 : Fin (k0_t39_loop k0_t1 v1666).trips, ∀ a, (k0_off70 k0_t1 v1666 k0_t39) a + S1x16.size a ≤ S8x6400.size a) ∧
  (16 ∣ (k0_mult72 k0_t1 v1666).toNat) ∧
  (∀ a, (k0_off71 k0_t1 v1666) a + S1x16.size a ≤ S8x6400.size a) ∧
  ((k0_t40_loop k0_t1 v1666).OK) ∧
  (∀ k0_t40 : Fin (k0_t40_loop k0_t1 v1666).trips, 16 ∣ (k0_mult73 k0_t1 v1666 k0_t40).toNat) ∧
  (∀ k0_t40 : Fin (k0_t40_loop k0_t1 v1666).trips, ∀ a, (k0_off72 k0_t1 v1666 k0_t40) a + S1x16.size a ≤ S8x6400.size a) ∧
  ((k0_t41_loop k0_t1 v1666).OK) ∧
  (∀ k0_t41 : Fin (k0_t41_loop k0_t1 v1666).trips, 16 ∣ (k0_mult74 k0_t1 v1666 k0_t41).toNat) ∧
  (∀ k0_t41 : Fin (k0_t41_loop k0_t1 v1666).trips, ∀ a, (k0_off73 k0_t1 v1666 k0_t41) a + S1x16.size a ≤ S8x6400.size a)
theorem k0_t38_ok : ∀ (k0_t1 : Fin k0_t1_loop.trips) (v1666 : BitVec 32) (k0_hw34 : k0_chk34 k0_t1 v1666), (k0_t38_loop k0_t1 v1666).OK := fun k0_t1 v1666 k0_hw34 => k0_hw34.1
theorem k0_mult70_dvd : ∀ (k0_t1 : Fin k0_t1_loop.trips) (v1666 : BitVec 32) (k0_hw34 : k0_chk34 k0_t1 v1666) (k0_t38 : Fin (k0_t38_loop k0_t1 v1666).trips), 16 ∣ (k0_mult70 k0_t1 v1666 k0_t38).toNat := fun k0_t1 v1666 k0_hw34 k0_t38 => k0_hw34.2.1 k0_t38
theorem k0_off69_inb : ∀ (k0_t1 : Fin k0_t1_loop.trips) (v1666 : BitVec 32) (k0_hw34 : k0_chk34 k0_t1 v1666) (k0_t38 : Fin (k0_t38_loop k0_t1 v1666).trips), ∀ a, (k0_off69 k0_t1 v1666 k0_t38) a + S1x16.size a ≤ S8x6400.size a := fun k0_t1 v1666 k0_hw34 k0_t38 => k0_hw34.2.2.1 k0_t38
theorem k0_t39_ok : ∀ (k0_t1 : Fin k0_t1_loop.trips) (v1666 : BitVec 32) (k0_hw34 : k0_chk34 k0_t1 v1666), (k0_t39_loop k0_t1 v1666).OK := fun k0_t1 v1666 k0_hw34 => k0_hw34.2.2.2.1
theorem k0_mult71_dvd : ∀ (k0_t1 : Fin k0_t1_loop.trips) (v1666 : BitVec 32) (k0_hw34 : k0_chk34 k0_t1 v1666) (k0_t39 : Fin (k0_t39_loop k0_t1 v1666).trips), 16 ∣ (k0_mult71 k0_t1 v1666 k0_t39).toNat := fun k0_t1 v1666 k0_hw34 k0_t39 => k0_hw34.2.2.2.2.1 k0_t39
theorem k0_off70_inb : ∀ (k0_t1 : Fin k0_t1_loop.trips) (v1666 : BitVec 32) (k0_hw34 : k0_chk34 k0_t1 v1666) (k0_t39 : Fin (k0_t39_loop k0_t1 v1666).trips), ∀ a, (k0_off70 k0_t1 v1666 k0_t39) a + S1x16.size a ≤ S8x6400.size a := fun k0_t1 v1666 k0_hw34 k0_t39 => k0_hw34.2.2.2.2.2.1 k0_t39
theorem k0_mult72_dvd : ∀ (k0_t1 : Fin k0_t1_loop.trips) (v1666 : BitVec 32) (k0_hw34 : k0_chk34 k0_t1 v1666), 16 ∣ (k0_mult72 k0_t1 v1666).toNat := fun k0_t1 v1666 k0_hw34 => k0_hw34.2.2.2.2.2.2.1
theorem k0_off71_inb : ∀ (k0_t1 : Fin k0_t1_loop.trips) (v1666 : BitVec 32) (k0_hw34 : k0_chk34 k0_t1 v1666), ∀ a, (k0_off71 k0_t1 v1666) a + S1x16.size a ≤ S8x6400.size a := fun k0_t1 v1666 k0_hw34 => k0_hw34.2.2.2.2.2.2.2.1
theorem k0_t40_ok : ∀ (k0_t1 : Fin k0_t1_loop.trips) (v1666 : BitVec 32) (k0_hw34 : k0_chk34 k0_t1 v1666), (k0_t40_loop k0_t1 v1666).OK := fun k0_t1 v1666 k0_hw34 => k0_hw34.2.2.2.2.2.2.2.2.1
theorem k0_mult73_dvd : ∀ (k0_t1 : Fin k0_t1_loop.trips) (v1666 : BitVec 32) (k0_hw34 : k0_chk34 k0_t1 v1666) (k0_t40 : Fin (k0_t40_loop k0_t1 v1666).trips), 16 ∣ (k0_mult73 k0_t1 v1666 k0_t40).toNat := fun k0_t1 v1666 k0_hw34 k0_t40 => k0_hw34.2.2.2.2.2.2.2.2.2.1 k0_t40
theorem k0_off72_inb : ∀ (k0_t1 : Fin k0_t1_loop.trips) (v1666 : BitVec 32) (k0_hw34 : k0_chk34 k0_t1 v1666) (k0_t40 : Fin (k0_t40_loop k0_t1 v1666).trips), ∀ a, (k0_off72 k0_t1 v1666 k0_t40) a + S1x16.size a ≤ S8x6400.size a := fun k0_t1 v1666 k0_hw34 k0_t40 => k0_hw34.2.2.2.2.2.2.2.2.2.2.1 k0_t40
theorem k0_t41_ok : ∀ (k0_t1 : Fin k0_t1_loop.trips) (v1666 : BitVec 32) (k0_hw34 : k0_chk34 k0_t1 v1666), (k0_t41_loop k0_t1 v1666).OK := fun k0_t1 v1666 k0_hw34 => k0_hw34.2.2.2.2.2.2.2.2.2.2.2.1
theorem k0_mult74_dvd : ∀ (k0_t1 : Fin k0_t1_loop.trips) (v1666 : BitVec 32) (k0_hw34 : k0_chk34 k0_t1 v1666) (k0_t41 : Fin (k0_t41_loop k0_t1 v1666).trips), 16 ∣ (k0_mult74 k0_t1 v1666 k0_t41).toNat := fun k0_t1 v1666 k0_hw34 k0_t41 => k0_hw34.2.2.2.2.2.2.2.2.2.2.2.2.1 k0_t41
theorem k0_off73_inb : ∀ (k0_t1 : Fin k0_t1_loop.trips) (v1666 : BitVec 32) (k0_hw34 : k0_chk34 k0_t1 v1666) (k0_t41 : Fin (k0_t41_loop k0_t1 v1666).trips), ∀ a, (k0_off73 k0_t1 v1666 k0_t41) a + S1x16.size a ≤ S8x6400.size a := fun k0_t1 v1666 k0_hw34 k0_t41 => k0_hw34.2.2.2.2.2.2.2.2.2.2.2.2.2 k0_t41

@[reducible] def k0_t42_loop (k0_t1 : Fin k0_t1_loop.trips) (v1707 : BitVec 32) : Scf.Loop 32 :=
  let c0_i32_723 : BitVec 32 := 0#32
  let c6400_i32_721 : BitVec 32 := 6400#32
  let c0_i32_720 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1708 : BitVec 32 := Scalar.subi v1707 v1623
  let v1709 : BitVec 32 := Scalar.maxsi c0_i32_720 v1708
  let v1710 : BitVec 32 := Scalar.minsi c6400_i32_721 v1709
  let c4_i32_722 : BitVec 32 := 4#32
  let v1711 : BitVec 32 := Scalar.shrui v1710 c4_i32_722
  let v1712 : BitVec 32 := Scalar.subi v1711 c0_i32_723
  let c1_i32_724 : BitVec 32 := 1#32
  let v1714 : BitVec 32 := Scalar.divsi v1712 c1_i32_724
  let v1715 : BitVec 32 := Scalar.muli v1714 c1_i32_724
  let v1716 : BitVec 32 := Scalar.addi c0_i32_723 v1715
  let c1_i32_725 : BitVec 32 := 1#32
  ⟨c0_i32_723, v1716, c1_i32_725⟩

def k0_mult75 (k0_t1 : Fin k0_t1_loop.trips) (v1707 : BitVec 32) (k0_t42 : Fin (k0_t42_loop k0_t1 v1707).trips) : BitVec 32 :=
  let c0_i32_723 : BitVec 32 := 0#32
  let c1_i32_725 : BitVec 32 := 1#32
  let arg27 : BitVec 32 := Scf.iv c0_i32_723 c1_i32_725 k0_t42
  let c16_i32_826 : BitVec 32 := 16#32
  let v1958 : BitVec 32 := Scalar.muli arg27 c16_i32_826
  v1958
def k0_off74 (k0_t1 : Fin k0_t1_loop.trips) (v1707 : BitVec 32) (k0_t42 : Fin (k0_t42_loop k0_t1 v1707).trips) : Fin 2 → Nat :=
  let c2_i32_827 : BitVec 32 := 2#32
  let v1960 : Index := Scalar.indexCast c2_i32_827
  let c0_i32_723 : BitVec 32 := 0#32
  let c1_i32_725 : BitVec 32 := 1#32
  let arg27 : BitVec 32 := Scf.iv c0_i32_723 c1_i32_725 k0_t42
  let c16_i32_826 : BitVec 32 := 16#32
  let v1958 : BitVec 32 := Scalar.muli arg27 c16_i32_826
  let v1959 : BitVec 32 := v1958
  let v1961 : Index := Scalar.indexCast v1959
  ![2, v1961.toNat]
@[reducible] def k0_t43_loop (k0_t1 : Fin k0_t1_loop.trips) (v1707 : BitVec 32) : Scf.Loop 32 :=
  let c0_i32_723 : BitVec 32 := 0#32
  let c6400_i32_721 : BitVec 32 := 6400#32
  let c0_i32_720 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1708 : BitVec 32 := Scalar.subi v1707 v1623
  let v1709 : BitVec 32 := Scalar.maxsi c0_i32_720 v1708
  let v1710 : BitVec 32 := Scalar.minsi c6400_i32_721 v1709
  let c4_i32_722 : BitVec 32 := 4#32
  let v1711 : BitVec 32 := Scalar.shrui v1710 c4_i32_722
  let v1712 : BitVec 32 := Scalar.subi v1711 c0_i32_723
  let c1_i32_724 : BitVec 32 := 1#32
  let v1714 : BitVec 32 := Scalar.divsi v1712 c1_i32_724
  let v1715 : BitVec 32 := Scalar.muli v1714 c1_i32_724
  let v1716 : BitVec 32 := Scalar.addi c0_i32_723 v1715
  let v1713 : BitVec 32 := Scalar.addi c0_i32_723 v1712
  let c1_i32_726 : BitVec 32 := 1#32
  ⟨v1716, v1713, c1_i32_726⟩
def k0_mult76 (k0_t1 : Fin k0_t1_loop.trips) (v1707 : BitVec 32) (k0_t43 : Fin (k0_t43_loop k0_t1 v1707).trips) : BitVec 32 :=
  let c0_i32_723 : BitVec 32 := 0#32
  let c6400_i32_721 : BitVec 32 := 6400#32
  let c0_i32_720 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1708 : BitVec 32 := Scalar.subi v1707 v1623
  let v1709 : BitVec 32 := Scalar.maxsi c0_i32_720 v1708
  let v1710 : BitVec 32 := Scalar.minsi c6400_i32_721 v1709
  let c4_i32_722 : BitVec 32 := 4#32
  let v1711 : BitVec 32 := Scalar.shrui v1710 c4_i32_722
  let v1712 : BitVec 32 := Scalar.subi v1711 c0_i32_723
  let c1_i32_724 : BitVec 32 := 1#32
  let v1714 : BitVec 32 := Scalar.divsi v1712 c1_i32_724
  let v1715 : BitVec 32 := Scalar.muli v1714 c1_i32_724
  let v1716 : BitVec 32 := Scalar.addi c0_i32_723 v1715
  let c1_i32_726 : BitVec 32 := 1#32
  let arg27 : BitVec 32 := Scf.iv v1716 c1_i32_726 k0_t43
  let c16_i32_826 : BitVec 32 := 16#32
  let v1958 : BitVec 32 := Scalar.muli arg27 c16_i32_826
  v1958
def k0_off75 (k0_t1 : Fin k0_t1_loop.trips) (v1707 : BitVec 32) (k0_t43 : Fin (k0_t43_loop k0_t1 v1707).trips) : Fin 2 → Nat :=
  let c2_i32_827 : BitVec 32 := 2#32
  let v1960 : Index := Scalar.indexCast c2_i32_827
  let c0_i32_723 : BitVec 32 := 0#32
  let c6400_i32_721 : BitVec 32 := 6400#32
  let c0_i32_720 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1708 : BitVec 32 := Scalar.subi v1707 v1623
  let v1709 : BitVec 32 := Scalar.maxsi c0_i32_720 v1708
  let v1710 : BitVec 32 := Scalar.minsi c6400_i32_721 v1709
  let c4_i32_722 : BitVec 32 := 4#32
  let v1711 : BitVec 32 := Scalar.shrui v1710 c4_i32_722
  let v1712 : BitVec 32 := Scalar.subi v1711 c0_i32_723
  let c1_i32_724 : BitVec 32 := 1#32
  let v1714 : BitVec 32 := Scalar.divsi v1712 c1_i32_724
  let v1715 : BitVec 32 := Scalar.muli v1714 c1_i32_724
  let v1716 : BitVec 32 := Scalar.addi c0_i32_723 v1715
  let c1_i32_726 : BitVec 32 := 1#32
  let arg27 : BitVec 32 := Scf.iv v1716 c1_i32_726 k0_t43
  let c16_i32_826 : BitVec 32 := 16#32
  let v1958 : BitVec 32 := Scalar.muli arg27 c16_i32_826
  let v1959 : BitVec 32 := v1958
  let v1961 : Index := Scalar.indexCast v1959
  ![2, v1961.toNat]
def k0_mult77 (k0_t1 : Fin k0_t1_loop.trips) (v1707 : BitVec 32) : BitVec 32 :=
  let c6400_i32_721 : BitVec 32 := 6400#32
  let c0_i32_720 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1708 : BitVec 32 := Scalar.subi v1707 v1623
  let v1709 : BitVec 32 := Scalar.maxsi c0_i32_720 v1708
  let v1710 : BitVec 32 := Scalar.minsi c6400_i32_721 v1709
  let c4_i32_722 : BitVec 32 := 4#32
  let v1711 : BitVec 32 := Scalar.shrui v1710 c4_i32_722
  let c399_i32_727 : BitVec 32 := 399#32
  let v1719 : BitVec 32 := Scalar.minsi v1711 c399_i32_727
  let c16_i32_728 : BitVec 32 := 16#32
  let v1720 : BitVec 32 := Scalar.muli v1719 c16_i32_728
  v1720
def k0_off76 (k0_t1 : Fin k0_t1_loop.trips) (v1707 : BitVec 32) : Fin 2 → Nat :=
  let c2_i32_729 : BitVec 32 := 2#32
  let v1722 : Index := Scalar.indexCast c2_i32_729
  let c6400_i32_721 : BitVec 32 := 6400#32
  let c0_i32_720 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1708 : BitVec 32 := Scalar.subi v1707 v1623
  let v1709 : BitVec 32 := Scalar.maxsi c0_i32_720 v1708
  let v1710 : BitVec 32 := Scalar.minsi c6400_i32_721 v1709
  let c4_i32_722 : BitVec 32 := 4#32
  let v1711 : BitVec 32 := Scalar.shrui v1710 c4_i32_722
  let c399_i32_727 : BitVec 32 := 399#32
  let v1719 : BitVec 32 := Scalar.minsi v1711 c399_i32_727
  let c16_i32_728 : BitVec 32 := 16#32
  let v1720 : BitVec 32 := Scalar.muli v1719 c16_i32_728
  let v1721 : BitVec 32 := v1720
  let v1723 : Index := Scalar.indexCast v1721
  ![2, v1723.toNat]
@[reducible] def k0_t44_loop (k0_t1 : Fin k0_t1_loop.trips) (v1707 : BitVec 32) : Scf.Loop 32 :=
  let c6400_i32_721 : BitVec 32 := 6400#32
  let c0_i32_720 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1708 : BitVec 32 := Scalar.subi v1707 v1623
  let v1709 : BitVec 32 := Scalar.maxsi c0_i32_720 v1708
  let v1710 : BitVec 32 := Scalar.minsi c6400_i32_721 v1709
  let c4_i32_722 : BitVec 32 := 4#32
  let v1711 : BitVec 32 := Scalar.shrui v1710 c4_i32_722
  let c1_i32_732 : BitVec 32 := 1#32
  let v1739 : BitVec 32 := Scalar.addi v1711 c1_i32_732
  let c400_i32_733 : BitVec 32 := 400#32
  let v1740 : BitVec 32 := Scalar.subi c400_i32_733 v1739
  let c1_i32_734 : BitVec 32 := 1#32
  let v1742 : BitVec 32 := Scalar.divsi v1740 c1_i32_734
  let v1743 : BitVec 32 := Scalar.muli v1742 c1_i32_734
  let v1744 : BitVec 32 := Scalar.addi v1739 v1743
  let c1_i32_735 : BitVec 32 := 1#32
  ⟨v1739, v1744, c1_i32_735⟩
def k0_mult78 (k0_t1 : Fin k0_t1_loop.trips) (v1707 : BitVec 32) (k0_t44 : Fin (k0_t44_loop k0_t1 v1707).trips) : BitVec 32 :=
  let c6400_i32_721 : BitVec 32 := 6400#32
  let c0_i32_720 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1708 : BitVec 32 := Scalar.subi v1707 v1623
  let v1709 : BitVec 32 := Scalar.maxsi c0_i32_720 v1708
  let v1710 : BitVec 32 := Scalar.minsi c6400_i32_721 v1709
  let c4_i32_722 : BitVec 32 := 4#32
  let v1711 : BitVec 32 := Scalar.shrui v1710 c4_i32_722
  let c1_i32_732 : BitVec 32 := 1#32
  let v1739 : BitVec 32 := Scalar.addi v1711 c1_i32_732
  let c1_i32_735 : BitVec 32 := 1#32
  let arg27 : BitVec 32 := Scf.iv v1739 c1_i32_735 k0_t44
  let c16_i32_826 : BitVec 32 := 16#32
  let v1958 : BitVec 32 := Scalar.muli arg27 c16_i32_826
  v1958
def k0_off77 (k0_t1 : Fin k0_t1_loop.trips) (v1707 : BitVec 32) (k0_t44 : Fin (k0_t44_loop k0_t1 v1707).trips) : Fin 2 → Nat :=
  let c2_i32_827 : BitVec 32 := 2#32
  let v1960 : Index := Scalar.indexCast c2_i32_827
  let c6400_i32_721 : BitVec 32 := 6400#32
  let c0_i32_720 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1708 : BitVec 32 := Scalar.subi v1707 v1623
  let v1709 : BitVec 32 := Scalar.maxsi c0_i32_720 v1708
  let v1710 : BitVec 32 := Scalar.minsi c6400_i32_721 v1709
  let c4_i32_722 : BitVec 32 := 4#32
  let v1711 : BitVec 32 := Scalar.shrui v1710 c4_i32_722
  let c1_i32_732 : BitVec 32 := 1#32
  let v1739 : BitVec 32 := Scalar.addi v1711 c1_i32_732
  let c1_i32_735 : BitVec 32 := 1#32
  let arg27 : BitVec 32 := Scf.iv v1739 c1_i32_735 k0_t44
  let c16_i32_826 : BitVec 32 := 16#32
  let v1958 : BitVec 32 := Scalar.muli arg27 c16_i32_826
  let v1959 : BitVec 32 := v1958
  let v1961 : Index := Scalar.indexCast v1959
  ![2, v1961.toNat]
@[reducible] def k0_t45_loop (k0_t1 : Fin k0_t1_loop.trips) (v1707 : BitVec 32) : Scf.Loop 32 :=
  let c6400_i32_721 : BitVec 32 := 6400#32
  let c0_i32_720 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1708 : BitVec 32 := Scalar.subi v1707 v1623
  let v1709 : BitVec 32 := Scalar.maxsi c0_i32_720 v1708
  let v1710 : BitVec 32 := Scalar.minsi c6400_i32_721 v1709
  let c4_i32_722 : BitVec 32 := 4#32
  let v1711 : BitVec 32 := Scalar.shrui v1710 c4_i32_722
  let c1_i32_732 : BitVec 32 := 1#32
  let v1739 : BitVec 32 := Scalar.addi v1711 c1_i32_732
  let c400_i32_733 : BitVec 32 := 400#32
  let v1740 : BitVec 32 := Scalar.subi c400_i32_733 v1739
  let c1_i32_734 : BitVec 32 := 1#32
  let v1742 : BitVec 32 := Scalar.divsi v1740 c1_i32_734
  let v1743 : BitVec 32 := Scalar.muli v1742 c1_i32_734
  let v1744 : BitVec 32 := Scalar.addi v1739 v1743
  let v1741 : BitVec 32 := Scalar.addi v1739 v1740
  let c1_i32_736 : BitVec 32 := 1#32
  ⟨v1744, v1741, c1_i32_736⟩
def k0_mult79 (k0_t1 : Fin k0_t1_loop.trips) (v1707 : BitVec 32) (k0_t45 : Fin (k0_t45_loop k0_t1 v1707).trips) : BitVec 32 :=
  let c6400_i32_721 : BitVec 32 := 6400#32
  let c0_i32_720 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1708 : BitVec 32 := Scalar.subi v1707 v1623
  let v1709 : BitVec 32 := Scalar.maxsi c0_i32_720 v1708
  let v1710 : BitVec 32 := Scalar.minsi c6400_i32_721 v1709
  let c4_i32_722 : BitVec 32 := 4#32
  let v1711 : BitVec 32 := Scalar.shrui v1710 c4_i32_722
  let c1_i32_732 : BitVec 32 := 1#32
  let v1739 : BitVec 32 := Scalar.addi v1711 c1_i32_732
  let c400_i32_733 : BitVec 32 := 400#32
  let v1740 : BitVec 32 := Scalar.subi c400_i32_733 v1739
  let c1_i32_734 : BitVec 32 := 1#32
  let v1742 : BitVec 32 := Scalar.divsi v1740 c1_i32_734
  let v1743 : BitVec 32 := Scalar.muli v1742 c1_i32_734
  let v1744 : BitVec 32 := Scalar.addi v1739 v1743
  let c1_i32_736 : BitVec 32 := 1#32
  let arg27 : BitVec 32 := Scf.iv v1744 c1_i32_736 k0_t45
  let c16_i32_826 : BitVec 32 := 16#32
  let v1958 : BitVec 32 := Scalar.muli arg27 c16_i32_826
  v1958
def k0_off78 (k0_t1 : Fin k0_t1_loop.trips) (v1707 : BitVec 32) (k0_t45 : Fin (k0_t45_loop k0_t1 v1707).trips) : Fin 2 → Nat :=
  let c2_i32_827 : BitVec 32 := 2#32
  let v1960 : Index := Scalar.indexCast c2_i32_827
  let c6400_i32_721 : BitVec 32 := 6400#32
  let c0_i32_720 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1708 : BitVec 32 := Scalar.subi v1707 v1623
  let v1709 : BitVec 32 := Scalar.maxsi c0_i32_720 v1708
  let v1710 : BitVec 32 := Scalar.minsi c6400_i32_721 v1709
  let c4_i32_722 : BitVec 32 := 4#32
  let v1711 : BitVec 32 := Scalar.shrui v1710 c4_i32_722
  let c1_i32_732 : BitVec 32 := 1#32
  let v1739 : BitVec 32 := Scalar.addi v1711 c1_i32_732
  let c400_i32_733 : BitVec 32 := 400#32
  let v1740 : BitVec 32 := Scalar.subi c400_i32_733 v1739
  let c1_i32_734 : BitVec 32 := 1#32
  let v1742 : BitVec 32 := Scalar.divsi v1740 c1_i32_734
  let v1743 : BitVec 32 := Scalar.muli v1742 c1_i32_734
  let v1744 : BitVec 32 := Scalar.addi v1739 v1743
  let c1_i32_736 : BitVec 32 := 1#32
  let arg27 : BitVec 32 := Scf.iv v1744 c1_i32_736 k0_t45
  let c16_i32_826 : BitVec 32 := 16#32
  let v1958 : BitVec 32 := Scalar.muli arg27 c16_i32_826
  let v1959 : BitVec 32 := v1958
  let v1961 : Index := Scalar.indexCast v1959
  ![2, v1961.toNat]

def k0_chk35 (k0_t1 : Fin k0_t1_loop.trips) (v1707 : BitVec 32) : Prop :=
  ((k0_t42_loop k0_t1 v1707).OK) ∧
  (∀ k0_t42 : Fin (k0_t42_loop k0_t1 v1707).trips, 16 ∣ (k0_mult75 k0_t1 v1707 k0_t42).toNat) ∧
  (∀ k0_t42 : Fin (k0_t42_loop k0_t1 v1707).trips, ∀ a, (k0_off74 k0_t1 v1707 k0_t42) a + S1x16.size a ≤ S8x6400.size a) ∧
  ((k0_t43_loop k0_t1 v1707).OK) ∧
  (∀ k0_t43 : Fin (k0_t43_loop k0_t1 v1707).trips, 16 ∣ (k0_mult76 k0_t1 v1707 k0_t43).toNat) ∧
  (∀ k0_t43 : Fin (k0_t43_loop k0_t1 v1707).trips, ∀ a, (k0_off75 k0_t1 v1707 k0_t43) a + S1x16.size a ≤ S8x6400.size a) ∧
  (16 ∣ (k0_mult77 k0_t1 v1707).toNat) ∧
  (∀ a, (k0_off76 k0_t1 v1707) a + S1x16.size a ≤ S8x6400.size a) ∧
  ((k0_t44_loop k0_t1 v1707).OK) ∧
  (∀ k0_t44 : Fin (k0_t44_loop k0_t1 v1707).trips, 16 ∣ (k0_mult78 k0_t1 v1707 k0_t44).toNat) ∧
  (∀ k0_t44 : Fin (k0_t44_loop k0_t1 v1707).trips, ∀ a, (k0_off77 k0_t1 v1707 k0_t44) a + S1x16.size a ≤ S8x6400.size a) ∧
  ((k0_t45_loop k0_t1 v1707).OK) ∧
  (∀ k0_t45 : Fin (k0_t45_loop k0_t1 v1707).trips, 16 ∣ (k0_mult79 k0_t1 v1707 k0_t45).toNat) ∧
  (∀ k0_t45 : Fin (k0_t45_loop k0_t1 v1707).trips, ∀ a, (k0_off78 k0_t1 v1707 k0_t45) a + S1x16.size a ≤ S8x6400.size a)
theorem k0_t42_ok : ∀ (k0_t1 : Fin k0_t1_loop.trips) (v1707 : BitVec 32) (k0_hw35 : k0_chk35 k0_t1 v1707), (k0_t42_loop k0_t1 v1707).OK := fun k0_t1 v1707 k0_hw35 => k0_hw35.1
theorem k0_mult75_dvd : ∀ (k0_t1 : Fin k0_t1_loop.trips) (v1707 : BitVec 32) (k0_hw35 : k0_chk35 k0_t1 v1707) (k0_t42 : Fin (k0_t42_loop k0_t1 v1707).trips), 16 ∣ (k0_mult75 k0_t1 v1707 k0_t42).toNat := fun k0_t1 v1707 k0_hw35 k0_t42 => k0_hw35.2.1 k0_t42
theorem k0_off74_inb : ∀ (k0_t1 : Fin k0_t1_loop.trips) (v1707 : BitVec 32) (k0_hw35 : k0_chk35 k0_t1 v1707) (k0_t42 : Fin (k0_t42_loop k0_t1 v1707).trips), ∀ a, (k0_off74 k0_t1 v1707 k0_t42) a + S1x16.size a ≤ S8x6400.size a := fun k0_t1 v1707 k0_hw35 k0_t42 => k0_hw35.2.2.1 k0_t42
theorem k0_t43_ok : ∀ (k0_t1 : Fin k0_t1_loop.trips) (v1707 : BitVec 32) (k0_hw35 : k0_chk35 k0_t1 v1707), (k0_t43_loop k0_t1 v1707).OK := fun k0_t1 v1707 k0_hw35 => k0_hw35.2.2.2.1
theorem k0_mult76_dvd : ∀ (k0_t1 : Fin k0_t1_loop.trips) (v1707 : BitVec 32) (k0_hw35 : k0_chk35 k0_t1 v1707) (k0_t43 : Fin (k0_t43_loop k0_t1 v1707).trips), 16 ∣ (k0_mult76 k0_t1 v1707 k0_t43).toNat := fun k0_t1 v1707 k0_hw35 k0_t43 => k0_hw35.2.2.2.2.1 k0_t43
theorem k0_off75_inb : ∀ (k0_t1 : Fin k0_t1_loop.trips) (v1707 : BitVec 32) (k0_hw35 : k0_chk35 k0_t1 v1707) (k0_t43 : Fin (k0_t43_loop k0_t1 v1707).trips), ∀ a, (k0_off75 k0_t1 v1707 k0_t43) a + S1x16.size a ≤ S8x6400.size a := fun k0_t1 v1707 k0_hw35 k0_t43 => k0_hw35.2.2.2.2.2.1 k0_t43
theorem k0_mult77_dvd : ∀ (k0_t1 : Fin k0_t1_loop.trips) (v1707 : BitVec 32) (k0_hw35 : k0_chk35 k0_t1 v1707), 16 ∣ (k0_mult77 k0_t1 v1707).toNat := fun k0_t1 v1707 k0_hw35 => k0_hw35.2.2.2.2.2.2.1
theorem k0_off76_inb : ∀ (k0_t1 : Fin k0_t1_loop.trips) (v1707 : BitVec 32) (k0_hw35 : k0_chk35 k0_t1 v1707), ∀ a, (k0_off76 k0_t1 v1707) a + S1x16.size a ≤ S8x6400.size a := fun k0_t1 v1707 k0_hw35 => k0_hw35.2.2.2.2.2.2.2.1
theorem k0_t44_ok : ∀ (k0_t1 : Fin k0_t1_loop.trips) (v1707 : BitVec 32) (k0_hw35 : k0_chk35 k0_t1 v1707), (k0_t44_loop k0_t1 v1707).OK := fun k0_t1 v1707 k0_hw35 => k0_hw35.2.2.2.2.2.2.2.2.1
theorem k0_mult78_dvd : ∀ (k0_t1 : Fin k0_t1_loop.trips) (v1707 : BitVec 32) (k0_hw35 : k0_chk35 k0_t1 v1707) (k0_t44 : Fin (k0_t44_loop k0_t1 v1707).trips), 16 ∣ (k0_mult78 k0_t1 v1707 k0_t44).toNat := fun k0_t1 v1707 k0_hw35 k0_t44 => k0_hw35.2.2.2.2.2.2.2.2.2.1 k0_t44
theorem k0_off77_inb : ∀ (k0_t1 : Fin k0_t1_loop.trips) (v1707 : BitVec 32) (k0_hw35 : k0_chk35 k0_t1 v1707) (k0_t44 : Fin (k0_t44_loop k0_t1 v1707).trips), ∀ a, (k0_off77 k0_t1 v1707 k0_t44) a + S1x16.size a ≤ S8x6400.size a := fun k0_t1 v1707 k0_hw35 k0_t44 => k0_hw35.2.2.2.2.2.2.2.2.2.2.1 k0_t44
theorem k0_t45_ok : ∀ (k0_t1 : Fin k0_t1_loop.trips) (v1707 : BitVec 32) (k0_hw35 : k0_chk35 k0_t1 v1707), (k0_t45_loop k0_t1 v1707).OK := fun k0_t1 v1707 k0_hw35 => k0_hw35.2.2.2.2.2.2.2.2.2.2.2.1
theorem k0_mult79_dvd : ∀ (k0_t1 : Fin k0_t1_loop.trips) (v1707 : BitVec 32) (k0_hw35 : k0_chk35 k0_t1 v1707) (k0_t45 : Fin (k0_t45_loop k0_t1 v1707).trips), 16 ∣ (k0_mult79 k0_t1 v1707 k0_t45).toNat := fun k0_t1 v1707 k0_hw35 k0_t45 => k0_hw35.2.2.2.2.2.2.2.2.2.2.2.2.1 k0_t45
theorem k0_off78_inb : ∀ (k0_t1 : Fin k0_t1_loop.trips) (v1707 : BitVec 32) (k0_hw35 : k0_chk35 k0_t1 v1707) (k0_t45 : Fin (k0_t45_loop k0_t1 v1707).trips), ∀ a, (k0_off78 k0_t1 v1707 k0_t45) a + S1x16.size a ≤ S8x6400.size a := fun k0_t1 v1707 k0_hw35 k0_t45 => k0_hw35.2.2.2.2.2.2.2.2.2.2.2.2.2 k0_t45

@[reducible] def k0_t46_loop (k0_t1 : Fin k0_t1_loop.trips) (v1748 : BitVec 32) : Scf.Loop 32 :=
  let c0_i32_740 : BitVec 32 := 0#32
  let c6400_i32_738 : BitVec 32 := 6400#32
  let c0_i32_737 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1749 : BitVec 32 := Scalar.subi v1748 v1623
  let v1750 : BitVec 32 := Scalar.maxsi c0_i32_737 v1749
  let v1751 : BitVec 32 := Scalar.minsi c6400_i32_738 v1750
  let c4_i32_739 : BitVec 32 := 4#32
  let v1752 : BitVec 32 := Scalar.shrui v1751 c4_i32_739
  let v1753 : BitVec 32 := Scalar.subi v1752 c0_i32_740
  let c1_i32_741 : BitVec 32 := 1#32
  let v1755 : BitVec 32 := Scalar.divsi v1753 c1_i32_741
  let v1756 : BitVec 32 := Scalar.muli v1755 c1_i32_741
  let v1757 : BitVec 32 := Scalar.addi c0_i32_740 v1756
  let c1_i32_742 : BitVec 32 := 1#32
  ⟨c0_i32_740, v1757, c1_i32_742⟩

def k0_mult80 (k0_t1 : Fin k0_t1_loop.trips) (v1748 : BitVec 32) (k0_t46 : Fin (k0_t46_loop k0_t1 v1748).trips) : BitVec 32 :=
  let c0_i32_740 : BitVec 32 := 0#32
  let c1_i32_742 : BitVec 32 := 1#32
  let arg27 : BitVec 32 := Scf.iv c0_i32_740 c1_i32_742 k0_t46
  let c16_i32_826 : BitVec 32 := 16#32
  let v1958 : BitVec 32 := Scalar.muli arg27 c16_i32_826
  v1958
def k0_off79 (k0_t1 : Fin k0_t1_loop.trips) (v1748 : BitVec 32) (k0_t46 : Fin (k0_t46_loop k0_t1 v1748).trips) : Fin 2 → Nat :=
  let c3_i32_827 : BitVec 32 := 3#32
  let v1960 : Index := Scalar.indexCast c3_i32_827
  let c0_i32_740 : BitVec 32 := 0#32
  let c1_i32_742 : BitVec 32 := 1#32
  let arg27 : BitVec 32 := Scf.iv c0_i32_740 c1_i32_742 k0_t46
  let c16_i32_826 : BitVec 32 := 16#32
  let v1958 : BitVec 32 := Scalar.muli arg27 c16_i32_826
  let v1959 : BitVec 32 := v1958
  let v1961 : Index := Scalar.indexCast v1959
  ![3, v1961.toNat]
@[reducible] def k0_t47_loop (k0_t1 : Fin k0_t1_loop.trips) (v1748 : BitVec 32) : Scf.Loop 32 :=
  let c0_i32_740 : BitVec 32 := 0#32
  let c6400_i32_738 : BitVec 32 := 6400#32
  let c0_i32_737 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1749 : BitVec 32 := Scalar.subi v1748 v1623
  let v1750 : BitVec 32 := Scalar.maxsi c0_i32_737 v1749
  let v1751 : BitVec 32 := Scalar.minsi c6400_i32_738 v1750
  let c4_i32_739 : BitVec 32 := 4#32
  let v1752 : BitVec 32 := Scalar.shrui v1751 c4_i32_739
  let v1753 : BitVec 32 := Scalar.subi v1752 c0_i32_740
  let c1_i32_741 : BitVec 32 := 1#32
  let v1755 : BitVec 32 := Scalar.divsi v1753 c1_i32_741
  let v1756 : BitVec 32 := Scalar.muli v1755 c1_i32_741
  let v1757 : BitVec 32 := Scalar.addi c0_i32_740 v1756
  let v1754 : BitVec 32 := Scalar.addi c0_i32_740 v1753
  let c1_i32_743 : BitVec 32 := 1#32
  ⟨v1757, v1754, c1_i32_743⟩
def k0_mult81 (k0_t1 : Fin k0_t1_loop.trips) (v1748 : BitVec 32) (k0_t47 : Fin (k0_t47_loop k0_t1 v1748).trips) : BitVec 32 :=
  let c0_i32_740 : BitVec 32 := 0#32
  let c6400_i32_738 : BitVec 32 := 6400#32
  let c0_i32_737 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1749 : BitVec 32 := Scalar.subi v1748 v1623
  let v1750 : BitVec 32 := Scalar.maxsi c0_i32_737 v1749
  let v1751 : BitVec 32 := Scalar.minsi c6400_i32_738 v1750
  let c4_i32_739 : BitVec 32 := 4#32
  let v1752 : BitVec 32 := Scalar.shrui v1751 c4_i32_739
  let v1753 : BitVec 32 := Scalar.subi v1752 c0_i32_740
  let c1_i32_741 : BitVec 32 := 1#32
  let v1755 : BitVec 32 := Scalar.divsi v1753 c1_i32_741
  let v1756 : BitVec 32 := Scalar.muli v1755 c1_i32_741
  let v1757 : BitVec 32 := Scalar.addi c0_i32_740 v1756
  let c1_i32_743 : BitVec 32 := 1#32
  let arg27 : BitVec 32 := Scf.iv v1757 c1_i32_743 k0_t47
  let c16_i32_826 : BitVec 32 := 16#32
  let v1958 : BitVec 32 := Scalar.muli arg27 c16_i32_826
  v1958
def k0_off80 (k0_t1 : Fin k0_t1_loop.trips) (v1748 : BitVec 32) (k0_t47 : Fin (k0_t47_loop k0_t1 v1748).trips) : Fin 2 → Nat :=
  let c3_i32_827 : BitVec 32 := 3#32
  let v1960 : Index := Scalar.indexCast c3_i32_827
  let c0_i32_740 : BitVec 32 := 0#32
  let c6400_i32_738 : BitVec 32 := 6400#32
  let c0_i32_737 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1749 : BitVec 32 := Scalar.subi v1748 v1623
  let v1750 : BitVec 32 := Scalar.maxsi c0_i32_737 v1749
  let v1751 : BitVec 32 := Scalar.minsi c6400_i32_738 v1750
  let c4_i32_739 : BitVec 32 := 4#32
  let v1752 : BitVec 32 := Scalar.shrui v1751 c4_i32_739
  let v1753 : BitVec 32 := Scalar.subi v1752 c0_i32_740
  let c1_i32_741 : BitVec 32 := 1#32
  let v1755 : BitVec 32 := Scalar.divsi v1753 c1_i32_741
  let v1756 : BitVec 32 := Scalar.muli v1755 c1_i32_741
  let v1757 : BitVec 32 := Scalar.addi c0_i32_740 v1756
  let c1_i32_743 : BitVec 32 := 1#32
  let arg27 : BitVec 32 := Scf.iv v1757 c1_i32_743 k0_t47
  let c16_i32_826 : BitVec 32 := 16#32
  let v1958 : BitVec 32 := Scalar.muli arg27 c16_i32_826
  let v1959 : BitVec 32 := v1958
  let v1961 : Index := Scalar.indexCast v1959
  ![3, v1961.toNat]
def k0_mult82 (k0_t1 : Fin k0_t1_loop.trips) (v1748 : BitVec 32) : BitVec 32 :=
  let c6400_i32_738 : BitVec 32 := 6400#32
  let c0_i32_737 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1749 : BitVec 32 := Scalar.subi v1748 v1623
  let v1750 : BitVec 32 := Scalar.maxsi c0_i32_737 v1749
  let v1751 : BitVec 32 := Scalar.minsi c6400_i32_738 v1750
  let c4_i32_739 : BitVec 32 := 4#32
  let v1752 : BitVec 32 := Scalar.shrui v1751 c4_i32_739
  let c399_i32_744 : BitVec 32 := 399#32
  let v1760 : BitVec 32 := Scalar.minsi v1752 c399_i32_744
  let c16_i32_745 : BitVec 32 := 16#32
  let v1761 : BitVec 32 := Scalar.muli v1760 c16_i32_745
  v1761
def k0_off81 (k0_t1 : Fin k0_t1_loop.trips) (v1748 : BitVec 32) : Fin 2 → Nat :=
  let c3_i32_746 : BitVec 32 := 3#32
  let v1763 : Index := Scalar.indexCast c3_i32_746
  let c6400_i32_738 : BitVec 32 := 6400#32
  let c0_i32_737 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1749 : BitVec 32 := Scalar.subi v1748 v1623
  let v1750 : BitVec 32 := Scalar.maxsi c0_i32_737 v1749
  let v1751 : BitVec 32 := Scalar.minsi c6400_i32_738 v1750
  let c4_i32_739 : BitVec 32 := 4#32
  let v1752 : BitVec 32 := Scalar.shrui v1751 c4_i32_739
  let c399_i32_744 : BitVec 32 := 399#32
  let v1760 : BitVec 32 := Scalar.minsi v1752 c399_i32_744
  let c16_i32_745 : BitVec 32 := 16#32
  let v1761 : BitVec 32 := Scalar.muli v1760 c16_i32_745
  let v1762 : BitVec 32 := v1761
  let v1764 : Index := Scalar.indexCast v1762
  ![3, v1764.toNat]
@[reducible] def k0_t48_loop (k0_t1 : Fin k0_t1_loop.trips) (v1748 : BitVec 32) : Scf.Loop 32 :=
  let c6400_i32_738 : BitVec 32 := 6400#32
  let c0_i32_737 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1749 : BitVec 32 := Scalar.subi v1748 v1623
  let v1750 : BitVec 32 := Scalar.maxsi c0_i32_737 v1749
  let v1751 : BitVec 32 := Scalar.minsi c6400_i32_738 v1750
  let c4_i32_739 : BitVec 32 := 4#32
  let v1752 : BitVec 32 := Scalar.shrui v1751 c4_i32_739
  let c1_i32_749 : BitVec 32 := 1#32
  let v1780 : BitVec 32 := Scalar.addi v1752 c1_i32_749
  let c400_i32_750 : BitVec 32 := 400#32
  let v1781 : BitVec 32 := Scalar.subi c400_i32_750 v1780
  let c1_i32_751 : BitVec 32 := 1#32
  let v1783 : BitVec 32 := Scalar.divsi v1781 c1_i32_751
  let v1784 : BitVec 32 := Scalar.muli v1783 c1_i32_751
  let v1785 : BitVec 32 := Scalar.addi v1780 v1784
  let c1_i32_752 : BitVec 32 := 1#32
  ⟨v1780, v1785, c1_i32_752⟩
def k0_mult83 (k0_t1 : Fin k0_t1_loop.trips) (v1748 : BitVec 32) (k0_t48 : Fin (k0_t48_loop k0_t1 v1748).trips) : BitVec 32 :=
  let c6400_i32_738 : BitVec 32 := 6400#32
  let c0_i32_737 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1749 : BitVec 32 := Scalar.subi v1748 v1623
  let v1750 : BitVec 32 := Scalar.maxsi c0_i32_737 v1749
  let v1751 : BitVec 32 := Scalar.minsi c6400_i32_738 v1750
  let c4_i32_739 : BitVec 32 := 4#32
  let v1752 : BitVec 32 := Scalar.shrui v1751 c4_i32_739
  let c1_i32_749 : BitVec 32 := 1#32
  let v1780 : BitVec 32 := Scalar.addi v1752 c1_i32_749
  let c1_i32_752 : BitVec 32 := 1#32
  let arg27 : BitVec 32 := Scf.iv v1780 c1_i32_752 k0_t48
  let c16_i32_826 : BitVec 32 := 16#32
  let v1958 : BitVec 32 := Scalar.muli arg27 c16_i32_826
  v1958
def k0_off82 (k0_t1 : Fin k0_t1_loop.trips) (v1748 : BitVec 32) (k0_t48 : Fin (k0_t48_loop k0_t1 v1748).trips) : Fin 2 → Nat :=
  let c3_i32_827 : BitVec 32 := 3#32
  let v1960 : Index := Scalar.indexCast c3_i32_827
  let c6400_i32_738 : BitVec 32 := 6400#32
  let c0_i32_737 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1749 : BitVec 32 := Scalar.subi v1748 v1623
  let v1750 : BitVec 32 := Scalar.maxsi c0_i32_737 v1749
  let v1751 : BitVec 32 := Scalar.minsi c6400_i32_738 v1750
  let c4_i32_739 : BitVec 32 := 4#32
  let v1752 : BitVec 32 := Scalar.shrui v1751 c4_i32_739
  let c1_i32_749 : BitVec 32 := 1#32
  let v1780 : BitVec 32 := Scalar.addi v1752 c1_i32_749
  let c1_i32_752 : BitVec 32 := 1#32
  let arg27 : BitVec 32 := Scf.iv v1780 c1_i32_752 k0_t48
  let c16_i32_826 : BitVec 32 := 16#32
  let v1958 : BitVec 32 := Scalar.muli arg27 c16_i32_826
  let v1959 : BitVec 32 := v1958
  let v1961 : Index := Scalar.indexCast v1959
  ![3, v1961.toNat]
@[reducible] def k0_t49_loop (k0_t1 : Fin k0_t1_loop.trips) (v1748 : BitVec 32) : Scf.Loop 32 :=
  let c6400_i32_738 : BitVec 32 := 6400#32
  let c0_i32_737 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1749 : BitVec 32 := Scalar.subi v1748 v1623
  let v1750 : BitVec 32 := Scalar.maxsi c0_i32_737 v1749
  let v1751 : BitVec 32 := Scalar.minsi c6400_i32_738 v1750
  let c4_i32_739 : BitVec 32 := 4#32
  let v1752 : BitVec 32 := Scalar.shrui v1751 c4_i32_739
  let c1_i32_749 : BitVec 32 := 1#32
  let v1780 : BitVec 32 := Scalar.addi v1752 c1_i32_749
  let c400_i32_750 : BitVec 32 := 400#32
  let v1781 : BitVec 32 := Scalar.subi c400_i32_750 v1780
  let c1_i32_751 : BitVec 32 := 1#32
  let v1783 : BitVec 32 := Scalar.divsi v1781 c1_i32_751
  let v1784 : BitVec 32 := Scalar.muli v1783 c1_i32_751
  let v1785 : BitVec 32 := Scalar.addi v1780 v1784
  let v1782 : BitVec 32 := Scalar.addi v1780 v1781
  let c1_i32_753 : BitVec 32 := 1#32
  ⟨v1785, v1782, c1_i32_753⟩
def k0_mult84 (k0_t1 : Fin k0_t1_loop.trips) (v1748 : BitVec 32) (k0_t49 : Fin (k0_t49_loop k0_t1 v1748).trips) : BitVec 32 :=
  let c6400_i32_738 : BitVec 32 := 6400#32
  let c0_i32_737 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1749 : BitVec 32 := Scalar.subi v1748 v1623
  let v1750 : BitVec 32 := Scalar.maxsi c0_i32_737 v1749
  let v1751 : BitVec 32 := Scalar.minsi c6400_i32_738 v1750
  let c4_i32_739 : BitVec 32 := 4#32
  let v1752 : BitVec 32 := Scalar.shrui v1751 c4_i32_739
  let c1_i32_749 : BitVec 32 := 1#32
  let v1780 : BitVec 32 := Scalar.addi v1752 c1_i32_749
  let c400_i32_750 : BitVec 32 := 400#32
  let v1781 : BitVec 32 := Scalar.subi c400_i32_750 v1780
  let c1_i32_751 : BitVec 32 := 1#32
  let v1783 : BitVec 32 := Scalar.divsi v1781 c1_i32_751
  let v1784 : BitVec 32 := Scalar.muli v1783 c1_i32_751
  let v1785 : BitVec 32 := Scalar.addi v1780 v1784
  let c1_i32_753 : BitVec 32 := 1#32
  let arg27 : BitVec 32 := Scf.iv v1785 c1_i32_753 k0_t49
  let c16_i32_826 : BitVec 32 := 16#32
  let v1958 : BitVec 32 := Scalar.muli arg27 c16_i32_826
  v1958
def k0_off83 (k0_t1 : Fin k0_t1_loop.trips) (v1748 : BitVec 32) (k0_t49 : Fin (k0_t49_loop k0_t1 v1748).trips) : Fin 2 → Nat :=
  let c3_i32_827 : BitVec 32 := 3#32
  let v1960 : Index := Scalar.indexCast c3_i32_827
  let c6400_i32_738 : BitVec 32 := 6400#32
  let c0_i32_737 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1749 : BitVec 32 := Scalar.subi v1748 v1623
  let v1750 : BitVec 32 := Scalar.maxsi c0_i32_737 v1749
  let v1751 : BitVec 32 := Scalar.minsi c6400_i32_738 v1750
  let c4_i32_739 : BitVec 32 := 4#32
  let v1752 : BitVec 32 := Scalar.shrui v1751 c4_i32_739
  let c1_i32_749 : BitVec 32 := 1#32
  let v1780 : BitVec 32 := Scalar.addi v1752 c1_i32_749
  let c400_i32_750 : BitVec 32 := 400#32
  let v1781 : BitVec 32 := Scalar.subi c400_i32_750 v1780
  let c1_i32_751 : BitVec 32 := 1#32
  let v1783 : BitVec 32 := Scalar.divsi v1781 c1_i32_751
  let v1784 : BitVec 32 := Scalar.muli v1783 c1_i32_751
  let v1785 : BitVec 32 := Scalar.addi v1780 v1784
  let c1_i32_753 : BitVec 32 := 1#32
  let arg27 : BitVec 32 := Scf.iv v1785 c1_i32_753 k0_t49
  let c16_i32_826 : BitVec 32 := 16#32
  let v1958 : BitVec 32 := Scalar.muli arg27 c16_i32_826
  let v1959 : BitVec 32 := v1958
  let v1961 : Index := Scalar.indexCast v1959
  ![3, v1961.toNat]

def k0_chk36 (k0_t1 : Fin k0_t1_loop.trips) (v1748 : BitVec 32) : Prop :=
  ((k0_t46_loop k0_t1 v1748).OK) ∧
  (∀ k0_t46 : Fin (k0_t46_loop k0_t1 v1748).trips, 16 ∣ (k0_mult80 k0_t1 v1748 k0_t46).toNat) ∧
  (∀ k0_t46 : Fin (k0_t46_loop k0_t1 v1748).trips, ∀ a, (k0_off79 k0_t1 v1748 k0_t46) a + S1x16.size a ≤ S8x6400.size a) ∧
  ((k0_t47_loop k0_t1 v1748).OK) ∧
  (∀ k0_t47 : Fin (k0_t47_loop k0_t1 v1748).trips, 16 ∣ (k0_mult81 k0_t1 v1748 k0_t47).toNat) ∧
  (∀ k0_t47 : Fin (k0_t47_loop k0_t1 v1748).trips, ∀ a, (k0_off80 k0_t1 v1748 k0_t47) a + S1x16.size a ≤ S8x6400.size a) ∧
  (16 ∣ (k0_mult82 k0_t1 v1748).toNat) ∧
  (∀ a, (k0_off81 k0_t1 v1748) a + S1x16.size a ≤ S8x6400.size a) ∧
  ((k0_t48_loop k0_t1 v1748).OK) ∧
  (∀ k0_t48 : Fin (k0_t48_loop k0_t1 v1748).trips, 16 ∣ (k0_mult83 k0_t1 v1748 k0_t48).toNat) ∧
  (∀ k0_t48 : Fin (k0_t48_loop k0_t1 v1748).trips, ∀ a, (k0_off82 k0_t1 v1748 k0_t48) a + S1x16.size a ≤ S8x6400.size a) ∧
  ((k0_t49_loop k0_t1 v1748).OK) ∧
  (∀ k0_t49 : Fin (k0_t49_loop k0_t1 v1748).trips, 16 ∣ (k0_mult84 k0_t1 v1748 k0_t49).toNat) ∧
  (∀ k0_t49 : Fin (k0_t49_loop k0_t1 v1748).trips, ∀ a, (k0_off83 k0_t1 v1748 k0_t49) a + S1x16.size a ≤ S8x6400.size a)
theorem k0_t46_ok : ∀ (k0_t1 : Fin k0_t1_loop.trips) (v1748 : BitVec 32) (k0_hw36 : k0_chk36 k0_t1 v1748), (k0_t46_loop k0_t1 v1748).OK := fun k0_t1 v1748 k0_hw36 => k0_hw36.1
theorem k0_mult80_dvd : ∀ (k0_t1 : Fin k0_t1_loop.trips) (v1748 : BitVec 32) (k0_hw36 : k0_chk36 k0_t1 v1748) (k0_t46 : Fin (k0_t46_loop k0_t1 v1748).trips), 16 ∣ (k0_mult80 k0_t1 v1748 k0_t46).toNat := fun k0_t1 v1748 k0_hw36 k0_t46 => k0_hw36.2.1 k0_t46
theorem k0_off79_inb : ∀ (k0_t1 : Fin k0_t1_loop.trips) (v1748 : BitVec 32) (k0_hw36 : k0_chk36 k0_t1 v1748) (k0_t46 : Fin (k0_t46_loop k0_t1 v1748).trips), ∀ a, (k0_off79 k0_t1 v1748 k0_t46) a + S1x16.size a ≤ S8x6400.size a := fun k0_t1 v1748 k0_hw36 k0_t46 => k0_hw36.2.2.1 k0_t46
theorem k0_t47_ok : ∀ (k0_t1 : Fin k0_t1_loop.trips) (v1748 : BitVec 32) (k0_hw36 : k0_chk36 k0_t1 v1748), (k0_t47_loop k0_t1 v1748).OK := fun k0_t1 v1748 k0_hw36 => k0_hw36.2.2.2.1
theorem k0_mult81_dvd : ∀ (k0_t1 : Fin k0_t1_loop.trips) (v1748 : BitVec 32) (k0_hw36 : k0_chk36 k0_t1 v1748) (k0_t47 : Fin (k0_t47_loop k0_t1 v1748).trips), 16 ∣ (k0_mult81 k0_t1 v1748 k0_t47).toNat := fun k0_t1 v1748 k0_hw36 k0_t47 => k0_hw36.2.2.2.2.1 k0_t47
theorem k0_off80_inb : ∀ (k0_t1 : Fin k0_t1_loop.trips) (v1748 : BitVec 32) (k0_hw36 : k0_chk36 k0_t1 v1748) (k0_t47 : Fin (k0_t47_loop k0_t1 v1748).trips), ∀ a, (k0_off80 k0_t1 v1748 k0_t47) a + S1x16.size a ≤ S8x6400.size a := fun k0_t1 v1748 k0_hw36 k0_t47 => k0_hw36.2.2.2.2.2.1 k0_t47
theorem k0_mult82_dvd : ∀ (k0_t1 : Fin k0_t1_loop.trips) (v1748 : BitVec 32) (k0_hw36 : k0_chk36 k0_t1 v1748), 16 ∣ (k0_mult82 k0_t1 v1748).toNat := fun k0_t1 v1748 k0_hw36 => k0_hw36.2.2.2.2.2.2.1
theorem k0_off81_inb : ∀ (k0_t1 : Fin k0_t1_loop.trips) (v1748 : BitVec 32) (k0_hw36 : k0_chk36 k0_t1 v1748), ∀ a, (k0_off81 k0_t1 v1748) a + S1x16.size a ≤ S8x6400.size a := fun k0_t1 v1748 k0_hw36 => k0_hw36.2.2.2.2.2.2.2.1
theorem k0_t48_ok : ∀ (k0_t1 : Fin k0_t1_loop.trips) (v1748 : BitVec 32) (k0_hw36 : k0_chk36 k0_t1 v1748), (k0_t48_loop k0_t1 v1748).OK := fun k0_t1 v1748 k0_hw36 => k0_hw36.2.2.2.2.2.2.2.2.1
theorem k0_mult83_dvd : ∀ (k0_t1 : Fin k0_t1_loop.trips) (v1748 : BitVec 32) (k0_hw36 : k0_chk36 k0_t1 v1748) (k0_t48 : Fin (k0_t48_loop k0_t1 v1748).trips), 16 ∣ (k0_mult83 k0_t1 v1748 k0_t48).toNat := fun k0_t1 v1748 k0_hw36 k0_t48 => k0_hw36.2.2.2.2.2.2.2.2.2.1 k0_t48
theorem k0_off82_inb : ∀ (k0_t1 : Fin k0_t1_loop.trips) (v1748 : BitVec 32) (k0_hw36 : k0_chk36 k0_t1 v1748) (k0_t48 : Fin (k0_t48_loop k0_t1 v1748).trips), ∀ a, (k0_off82 k0_t1 v1748 k0_t48) a + S1x16.size a ≤ S8x6400.size a := fun k0_t1 v1748 k0_hw36 k0_t48 => k0_hw36.2.2.2.2.2.2.2.2.2.2.1 k0_t48
theorem k0_t49_ok : ∀ (k0_t1 : Fin k0_t1_loop.trips) (v1748 : BitVec 32) (k0_hw36 : k0_chk36 k0_t1 v1748), (k0_t49_loop k0_t1 v1748).OK := fun k0_t1 v1748 k0_hw36 => k0_hw36.2.2.2.2.2.2.2.2.2.2.2.1
theorem k0_mult84_dvd : ∀ (k0_t1 : Fin k0_t1_loop.trips) (v1748 : BitVec 32) (k0_hw36 : k0_chk36 k0_t1 v1748) (k0_t49 : Fin (k0_t49_loop k0_t1 v1748).trips), 16 ∣ (k0_mult84 k0_t1 v1748 k0_t49).toNat := fun k0_t1 v1748 k0_hw36 k0_t49 => k0_hw36.2.2.2.2.2.2.2.2.2.2.2.2.1 k0_t49
theorem k0_off83_inb : ∀ (k0_t1 : Fin k0_t1_loop.trips) (v1748 : BitVec 32) (k0_hw36 : k0_chk36 k0_t1 v1748) (k0_t49 : Fin (k0_t49_loop k0_t1 v1748).trips), ∀ a, (k0_off83 k0_t1 v1748 k0_t49) a + S1x16.size a ≤ S8x6400.size a := fun k0_t1 v1748 k0_hw36 k0_t49 => k0_hw36.2.2.2.2.2.2.2.2.2.2.2.2.2 k0_t49

@[reducible] def k0_t50_loop (k0_t1 : Fin k0_t1_loop.trips) (v1789 : BitVec 32) : Scf.Loop 32 :=
  let c0_i32_757 : BitVec 32 := 0#32
  let c6400_i32_755 : BitVec 32 := 6400#32
  let c0_i32_754 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1790 : BitVec 32 := Scalar.subi v1789 v1623
  let v1791 : BitVec 32 := Scalar.maxsi c0_i32_754 v1790
  let v1792 : BitVec 32 := Scalar.minsi c6400_i32_755 v1791
  let c4_i32_756 : BitVec 32 := 4#32
  let v1793 : BitVec 32 := Scalar.shrui v1792 c4_i32_756
  let v1794 : BitVec 32 := Scalar.subi v1793 c0_i32_757
  let c1_i32_758 : BitVec 32 := 1#32
  let v1796 : BitVec 32 := Scalar.divsi v1794 c1_i32_758
  let v1797 : BitVec 32 := Scalar.muli v1796 c1_i32_758
  let v1798 : BitVec 32 := Scalar.addi c0_i32_757 v1797
  let c1_i32_759 : BitVec 32 := 1#32
  ⟨c0_i32_757, v1798, c1_i32_759⟩

def k0_mult85 (k0_t1 : Fin k0_t1_loop.trips) (v1789 : BitVec 32) (k0_t50 : Fin (k0_t50_loop k0_t1 v1789).trips) : BitVec 32 :=
  let c0_i32_757 : BitVec 32 := 0#32
  let c1_i32_759 : BitVec 32 := 1#32
  let arg27 : BitVec 32 := Scf.iv c0_i32_757 c1_i32_759 k0_t50
  let c16_i32_826 : BitVec 32 := 16#32
  let v1958 : BitVec 32 := Scalar.muli arg27 c16_i32_826
  v1958
def k0_off84 (k0_t1 : Fin k0_t1_loop.trips) (v1789 : BitVec 32) (k0_t50 : Fin (k0_t50_loop k0_t1 v1789).trips) : Fin 2 → Nat :=
  let c4_i32_827 : BitVec 32 := 4#32
  let v1960 : Index := Scalar.indexCast c4_i32_827
  let c0_i32_757 : BitVec 32 := 0#32
  let c1_i32_759 : BitVec 32 := 1#32
  let arg27 : BitVec 32 := Scf.iv c0_i32_757 c1_i32_759 k0_t50
  let c16_i32_826 : BitVec 32 := 16#32
  let v1958 : BitVec 32 := Scalar.muli arg27 c16_i32_826
  let v1959 : BitVec 32 := v1958
  let v1961 : Index := Scalar.indexCast v1959
  ![4, v1961.toNat]
@[reducible] def k0_t51_loop (k0_t1 : Fin k0_t1_loop.trips) (v1789 : BitVec 32) : Scf.Loop 32 :=
  let c0_i32_757 : BitVec 32 := 0#32
  let c6400_i32_755 : BitVec 32 := 6400#32
  let c0_i32_754 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1790 : BitVec 32 := Scalar.subi v1789 v1623
  let v1791 : BitVec 32 := Scalar.maxsi c0_i32_754 v1790
  let v1792 : BitVec 32 := Scalar.minsi c6400_i32_755 v1791
  let c4_i32_756 : BitVec 32 := 4#32
  let v1793 : BitVec 32 := Scalar.shrui v1792 c4_i32_756
  let v1794 : BitVec 32 := Scalar.subi v1793 c0_i32_757
  let c1_i32_758 : BitVec 32 := 1#32
  let v1796 : BitVec 32 := Scalar.divsi v1794 c1_i32_758
  let v1797 : BitVec 32 := Scalar.muli v1796 c1_i32_758
  let v1798 : BitVec 32 := Scalar.addi c0_i32_757 v1797
  let v1795 : BitVec 32 := Scalar.addi c0_i32_757 v1794
  let c1_i32_760 : BitVec 32 := 1#32
  ⟨v1798, v1795, c1_i32_760⟩
def k0_mult86 (k0_t1 : Fin k0_t1_loop.trips) (v1789 : BitVec 32) (k0_t51 : Fin (k0_t51_loop k0_t1 v1789).trips) : BitVec 32 :=
  let c0_i32_757 : BitVec 32 := 0#32
  let c6400_i32_755 : BitVec 32 := 6400#32
  let c0_i32_754 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1790 : BitVec 32 := Scalar.subi v1789 v1623
  let v1791 : BitVec 32 := Scalar.maxsi c0_i32_754 v1790
  let v1792 : BitVec 32 := Scalar.minsi c6400_i32_755 v1791
  let c4_i32_756 : BitVec 32 := 4#32
  let v1793 : BitVec 32 := Scalar.shrui v1792 c4_i32_756
  let v1794 : BitVec 32 := Scalar.subi v1793 c0_i32_757
  let c1_i32_758 : BitVec 32 := 1#32
  let v1796 : BitVec 32 := Scalar.divsi v1794 c1_i32_758
  let v1797 : BitVec 32 := Scalar.muli v1796 c1_i32_758
  let v1798 : BitVec 32 := Scalar.addi c0_i32_757 v1797
  let c1_i32_760 : BitVec 32 := 1#32
  let arg27 : BitVec 32 := Scf.iv v1798 c1_i32_760 k0_t51
  let c16_i32_826 : BitVec 32 := 16#32
  let v1958 : BitVec 32 := Scalar.muli arg27 c16_i32_826
  v1958
def k0_off85 (k0_t1 : Fin k0_t1_loop.trips) (v1789 : BitVec 32) (k0_t51 : Fin (k0_t51_loop k0_t1 v1789).trips) : Fin 2 → Nat :=
  let c4_i32_827 : BitVec 32 := 4#32
  let v1960 : Index := Scalar.indexCast c4_i32_827
  let c0_i32_757 : BitVec 32 := 0#32
  let c6400_i32_755 : BitVec 32 := 6400#32
  let c0_i32_754 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1790 : BitVec 32 := Scalar.subi v1789 v1623
  let v1791 : BitVec 32 := Scalar.maxsi c0_i32_754 v1790
  let v1792 : BitVec 32 := Scalar.minsi c6400_i32_755 v1791
  let c4_i32_756 : BitVec 32 := 4#32
  let v1793 : BitVec 32 := Scalar.shrui v1792 c4_i32_756
  let v1794 : BitVec 32 := Scalar.subi v1793 c0_i32_757
  let c1_i32_758 : BitVec 32 := 1#32
  let v1796 : BitVec 32 := Scalar.divsi v1794 c1_i32_758
  let v1797 : BitVec 32 := Scalar.muli v1796 c1_i32_758
  let v1798 : BitVec 32 := Scalar.addi c0_i32_757 v1797
  let c1_i32_760 : BitVec 32 := 1#32
  let arg27 : BitVec 32 := Scf.iv v1798 c1_i32_760 k0_t51
  let c16_i32_826 : BitVec 32 := 16#32
  let v1958 : BitVec 32 := Scalar.muli arg27 c16_i32_826
  let v1959 : BitVec 32 := v1958
  let v1961 : Index := Scalar.indexCast v1959
  ![4, v1961.toNat]
def k0_mult87 (k0_t1 : Fin k0_t1_loop.trips) (v1789 : BitVec 32) : BitVec 32 :=
  let c6400_i32_755 : BitVec 32 := 6400#32
  let c0_i32_754 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1790 : BitVec 32 := Scalar.subi v1789 v1623
  let v1791 : BitVec 32 := Scalar.maxsi c0_i32_754 v1790
  let v1792 : BitVec 32 := Scalar.minsi c6400_i32_755 v1791
  let c4_i32_756 : BitVec 32 := 4#32
  let v1793 : BitVec 32 := Scalar.shrui v1792 c4_i32_756
  let c399_i32_761 : BitVec 32 := 399#32
  let v1801 : BitVec 32 := Scalar.minsi v1793 c399_i32_761
  let c16_i32_762 : BitVec 32 := 16#32
  let v1802 : BitVec 32 := Scalar.muli v1801 c16_i32_762
  v1802
def k0_off86 (k0_t1 : Fin k0_t1_loop.trips) (v1789 : BitVec 32) : Fin 2 → Nat :=
  let c4_i32_763 : BitVec 32 := 4#32
  let v1804 : Index := Scalar.indexCast c4_i32_763
  let c6400_i32_755 : BitVec 32 := 6400#32
  let c0_i32_754 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1790 : BitVec 32 := Scalar.subi v1789 v1623
  let v1791 : BitVec 32 := Scalar.maxsi c0_i32_754 v1790
  let v1792 : BitVec 32 := Scalar.minsi c6400_i32_755 v1791
  let c4_i32_756 : BitVec 32 := 4#32
  let v1793 : BitVec 32 := Scalar.shrui v1792 c4_i32_756
  let c399_i32_761 : BitVec 32 := 399#32
  let v1801 : BitVec 32 := Scalar.minsi v1793 c399_i32_761
  let c16_i32_762 : BitVec 32 := 16#32
  let v1802 : BitVec 32 := Scalar.muli v1801 c16_i32_762
  let v1803 : BitVec 32 := v1802
  let v1805 : Index := Scalar.indexCast v1803
  ![4, v1805.toNat]
@[reducible] def k0_t52_loop (k0_t1 : Fin k0_t1_loop.trips) (v1789 : BitVec 32) : Scf.Loop 32 :=
  let c6400_i32_755 : BitVec 32 := 6400#32
  let c0_i32_754 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1790 : BitVec 32 := Scalar.subi v1789 v1623
  let v1791 : BitVec 32 := Scalar.maxsi c0_i32_754 v1790
  let v1792 : BitVec 32 := Scalar.minsi c6400_i32_755 v1791
  let c4_i32_756 : BitVec 32 := 4#32
  let v1793 : BitVec 32 := Scalar.shrui v1792 c4_i32_756
  let c1_i32_766 : BitVec 32 := 1#32
  let v1821 : BitVec 32 := Scalar.addi v1793 c1_i32_766
  let c400_i32_767 : BitVec 32 := 400#32
  let v1822 : BitVec 32 := Scalar.subi c400_i32_767 v1821
  let c1_i32_768 : BitVec 32 := 1#32
  let v1824 : BitVec 32 := Scalar.divsi v1822 c1_i32_768
  let v1825 : BitVec 32 := Scalar.muli v1824 c1_i32_768
  let v1826 : BitVec 32 := Scalar.addi v1821 v1825
  let c1_i32_769 : BitVec 32 := 1#32
  ⟨v1821, v1826, c1_i32_769⟩
def k0_mult88 (k0_t1 : Fin k0_t1_loop.trips) (v1789 : BitVec 32) (k0_t52 : Fin (k0_t52_loop k0_t1 v1789).trips) : BitVec 32 :=
  let c6400_i32_755 : BitVec 32 := 6400#32
  let c0_i32_754 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1790 : BitVec 32 := Scalar.subi v1789 v1623
  let v1791 : BitVec 32 := Scalar.maxsi c0_i32_754 v1790
  let v1792 : BitVec 32 := Scalar.minsi c6400_i32_755 v1791
  let c4_i32_756 : BitVec 32 := 4#32
  let v1793 : BitVec 32 := Scalar.shrui v1792 c4_i32_756
  let c1_i32_766 : BitVec 32 := 1#32
  let v1821 : BitVec 32 := Scalar.addi v1793 c1_i32_766
  let c1_i32_769 : BitVec 32 := 1#32
  let arg27 : BitVec 32 := Scf.iv v1821 c1_i32_769 k0_t52
  let c16_i32_826 : BitVec 32 := 16#32
  let v1958 : BitVec 32 := Scalar.muli arg27 c16_i32_826
  v1958
def k0_off87 (k0_t1 : Fin k0_t1_loop.trips) (v1789 : BitVec 32) (k0_t52 : Fin (k0_t52_loop k0_t1 v1789).trips) : Fin 2 → Nat :=
  let c4_i32_827 : BitVec 32 := 4#32
  let v1960 : Index := Scalar.indexCast c4_i32_827
  let c6400_i32_755 : BitVec 32 := 6400#32
  let c0_i32_754 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1790 : BitVec 32 := Scalar.subi v1789 v1623
  let v1791 : BitVec 32 := Scalar.maxsi c0_i32_754 v1790
  let v1792 : BitVec 32 := Scalar.minsi c6400_i32_755 v1791
  let c4_i32_756 : BitVec 32 := 4#32
  let v1793 : BitVec 32 := Scalar.shrui v1792 c4_i32_756
  let c1_i32_766 : BitVec 32 := 1#32
  let v1821 : BitVec 32 := Scalar.addi v1793 c1_i32_766
  let c1_i32_769 : BitVec 32 := 1#32
  let arg27 : BitVec 32 := Scf.iv v1821 c1_i32_769 k0_t52
  let c16_i32_826 : BitVec 32 := 16#32
  let v1958 : BitVec 32 := Scalar.muli arg27 c16_i32_826
  let v1959 : BitVec 32 := v1958
  let v1961 : Index := Scalar.indexCast v1959
  ![4, v1961.toNat]
@[reducible] def k0_t53_loop (k0_t1 : Fin k0_t1_loop.trips) (v1789 : BitVec 32) : Scf.Loop 32 :=
  let c6400_i32_755 : BitVec 32 := 6400#32
  let c0_i32_754 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1790 : BitVec 32 := Scalar.subi v1789 v1623
  let v1791 : BitVec 32 := Scalar.maxsi c0_i32_754 v1790
  let v1792 : BitVec 32 := Scalar.minsi c6400_i32_755 v1791
  let c4_i32_756 : BitVec 32 := 4#32
  let v1793 : BitVec 32 := Scalar.shrui v1792 c4_i32_756
  let c1_i32_766 : BitVec 32 := 1#32
  let v1821 : BitVec 32 := Scalar.addi v1793 c1_i32_766
  let c400_i32_767 : BitVec 32 := 400#32
  let v1822 : BitVec 32 := Scalar.subi c400_i32_767 v1821
  let c1_i32_768 : BitVec 32 := 1#32
  let v1824 : BitVec 32 := Scalar.divsi v1822 c1_i32_768
  let v1825 : BitVec 32 := Scalar.muli v1824 c1_i32_768
  let v1826 : BitVec 32 := Scalar.addi v1821 v1825
  let v1823 : BitVec 32 := Scalar.addi v1821 v1822
  let c1_i32_770 : BitVec 32 := 1#32
  ⟨v1826, v1823, c1_i32_770⟩
def k0_mult89 (k0_t1 : Fin k0_t1_loop.trips) (v1789 : BitVec 32) (k0_t53 : Fin (k0_t53_loop k0_t1 v1789).trips) : BitVec 32 :=
  let c6400_i32_755 : BitVec 32 := 6400#32
  let c0_i32_754 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1790 : BitVec 32 := Scalar.subi v1789 v1623
  let v1791 : BitVec 32 := Scalar.maxsi c0_i32_754 v1790
  let v1792 : BitVec 32 := Scalar.minsi c6400_i32_755 v1791
  let c4_i32_756 : BitVec 32 := 4#32
  let v1793 : BitVec 32 := Scalar.shrui v1792 c4_i32_756
  let c1_i32_766 : BitVec 32 := 1#32
  let v1821 : BitVec 32 := Scalar.addi v1793 c1_i32_766
  let c400_i32_767 : BitVec 32 := 400#32
  let v1822 : BitVec 32 := Scalar.subi c400_i32_767 v1821
  let c1_i32_768 : BitVec 32 := 1#32
  let v1824 : BitVec 32 := Scalar.divsi v1822 c1_i32_768
  let v1825 : BitVec 32 := Scalar.muli v1824 c1_i32_768
  let v1826 : BitVec 32 := Scalar.addi v1821 v1825
  let c1_i32_770 : BitVec 32 := 1#32
  let arg27 : BitVec 32 := Scf.iv v1826 c1_i32_770 k0_t53
  let c16_i32_826 : BitVec 32 := 16#32
  let v1958 : BitVec 32 := Scalar.muli arg27 c16_i32_826
  v1958
def k0_off88 (k0_t1 : Fin k0_t1_loop.trips) (v1789 : BitVec 32) (k0_t53 : Fin (k0_t53_loop k0_t1 v1789).trips) : Fin 2 → Nat :=
  let c4_i32_827 : BitVec 32 := 4#32
  let v1960 : Index := Scalar.indexCast c4_i32_827
  let c6400_i32_755 : BitVec 32 := 6400#32
  let c0_i32_754 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1790 : BitVec 32 := Scalar.subi v1789 v1623
  let v1791 : BitVec 32 := Scalar.maxsi c0_i32_754 v1790
  let v1792 : BitVec 32 := Scalar.minsi c6400_i32_755 v1791
  let c4_i32_756 : BitVec 32 := 4#32
  let v1793 : BitVec 32 := Scalar.shrui v1792 c4_i32_756
  let c1_i32_766 : BitVec 32 := 1#32
  let v1821 : BitVec 32 := Scalar.addi v1793 c1_i32_766
  let c400_i32_767 : BitVec 32 := 400#32
  let v1822 : BitVec 32 := Scalar.subi c400_i32_767 v1821
  let c1_i32_768 : BitVec 32 := 1#32
  let v1824 : BitVec 32 := Scalar.divsi v1822 c1_i32_768
  let v1825 : BitVec 32 := Scalar.muli v1824 c1_i32_768
  let v1826 : BitVec 32 := Scalar.addi v1821 v1825
  let c1_i32_770 : BitVec 32 := 1#32
  let arg27 : BitVec 32 := Scf.iv v1826 c1_i32_770 k0_t53
  let c16_i32_826 : BitVec 32 := 16#32
  let v1958 : BitVec 32 := Scalar.muli arg27 c16_i32_826
  let v1959 : BitVec 32 := v1958
  let v1961 : Index := Scalar.indexCast v1959
  ![4, v1961.toNat]

def k0_chk37 (k0_t1 : Fin k0_t1_loop.trips) (v1789 : BitVec 32) : Prop :=
  ((k0_t50_loop k0_t1 v1789).OK) ∧
  (∀ k0_t50 : Fin (k0_t50_loop k0_t1 v1789).trips, 16 ∣ (k0_mult85 k0_t1 v1789 k0_t50).toNat) ∧
  (∀ k0_t50 : Fin (k0_t50_loop k0_t1 v1789).trips, ∀ a, (k0_off84 k0_t1 v1789 k0_t50) a + S1x16.size a ≤ S8x6400.size a) ∧
  ((k0_t51_loop k0_t1 v1789).OK) ∧
  (∀ k0_t51 : Fin (k0_t51_loop k0_t1 v1789).trips, 16 ∣ (k0_mult86 k0_t1 v1789 k0_t51).toNat) ∧
  (∀ k0_t51 : Fin (k0_t51_loop k0_t1 v1789).trips, ∀ a, (k0_off85 k0_t1 v1789 k0_t51) a + S1x16.size a ≤ S8x6400.size a) ∧
  (16 ∣ (k0_mult87 k0_t1 v1789).toNat) ∧
  (∀ a, (k0_off86 k0_t1 v1789) a + S1x16.size a ≤ S8x6400.size a) ∧
  ((k0_t52_loop k0_t1 v1789).OK) ∧
  (∀ k0_t52 : Fin (k0_t52_loop k0_t1 v1789).trips, 16 ∣ (k0_mult88 k0_t1 v1789 k0_t52).toNat) ∧
  (∀ k0_t52 : Fin (k0_t52_loop k0_t1 v1789).trips, ∀ a, (k0_off87 k0_t1 v1789 k0_t52) a + S1x16.size a ≤ S8x6400.size a) ∧
  ((k0_t53_loop k0_t1 v1789).OK) ∧
  (∀ k0_t53 : Fin (k0_t53_loop k0_t1 v1789).trips, 16 ∣ (k0_mult89 k0_t1 v1789 k0_t53).toNat) ∧
  (∀ k0_t53 : Fin (k0_t53_loop k0_t1 v1789).trips, ∀ a, (k0_off88 k0_t1 v1789 k0_t53) a + S1x16.size a ≤ S8x6400.size a)
theorem k0_t50_ok : ∀ (k0_t1 : Fin k0_t1_loop.trips) (v1789 : BitVec 32) (k0_hw37 : k0_chk37 k0_t1 v1789), (k0_t50_loop k0_t1 v1789).OK := fun k0_t1 v1789 k0_hw37 => k0_hw37.1
theorem k0_mult85_dvd : ∀ (k0_t1 : Fin k0_t1_loop.trips) (v1789 : BitVec 32) (k0_hw37 : k0_chk37 k0_t1 v1789) (k0_t50 : Fin (k0_t50_loop k0_t1 v1789).trips), 16 ∣ (k0_mult85 k0_t1 v1789 k0_t50).toNat := fun k0_t1 v1789 k0_hw37 k0_t50 => k0_hw37.2.1 k0_t50
theorem k0_off84_inb : ∀ (k0_t1 : Fin k0_t1_loop.trips) (v1789 : BitVec 32) (k0_hw37 : k0_chk37 k0_t1 v1789) (k0_t50 : Fin (k0_t50_loop k0_t1 v1789).trips), ∀ a, (k0_off84 k0_t1 v1789 k0_t50) a + S1x16.size a ≤ S8x6400.size a := fun k0_t1 v1789 k0_hw37 k0_t50 => k0_hw37.2.2.1 k0_t50
theorem k0_t51_ok : ∀ (k0_t1 : Fin k0_t1_loop.trips) (v1789 : BitVec 32) (k0_hw37 : k0_chk37 k0_t1 v1789), (k0_t51_loop k0_t1 v1789).OK := fun k0_t1 v1789 k0_hw37 => k0_hw37.2.2.2.1
theorem k0_mult86_dvd : ∀ (k0_t1 : Fin k0_t1_loop.trips) (v1789 : BitVec 32) (k0_hw37 : k0_chk37 k0_t1 v1789) (k0_t51 : Fin (k0_t51_loop k0_t1 v1789).trips), 16 ∣ (k0_mult86 k0_t1 v1789 k0_t51).toNat := fun k0_t1 v1789 k0_hw37 k0_t51 => k0_hw37.2.2.2.2.1 k0_t51
theorem k0_off85_inb : ∀ (k0_t1 : Fin k0_t1_loop.trips) (v1789 : BitVec 32) (k0_hw37 : k0_chk37 k0_t1 v1789) (k0_t51 : Fin (k0_t51_loop k0_t1 v1789).trips), ∀ a, (k0_off85 k0_t1 v1789 k0_t51) a + S1x16.size a ≤ S8x6400.size a := fun k0_t1 v1789 k0_hw37 k0_t51 => k0_hw37.2.2.2.2.2.1 k0_t51
theorem k0_mult87_dvd : ∀ (k0_t1 : Fin k0_t1_loop.trips) (v1789 : BitVec 32) (k0_hw37 : k0_chk37 k0_t1 v1789), 16 ∣ (k0_mult87 k0_t1 v1789).toNat := fun k0_t1 v1789 k0_hw37 => k0_hw37.2.2.2.2.2.2.1
theorem k0_off86_inb : ∀ (k0_t1 : Fin k0_t1_loop.trips) (v1789 : BitVec 32) (k0_hw37 : k0_chk37 k0_t1 v1789), ∀ a, (k0_off86 k0_t1 v1789) a + S1x16.size a ≤ S8x6400.size a := fun k0_t1 v1789 k0_hw37 => k0_hw37.2.2.2.2.2.2.2.1
theorem k0_t52_ok : ∀ (k0_t1 : Fin k0_t1_loop.trips) (v1789 : BitVec 32) (k0_hw37 : k0_chk37 k0_t1 v1789), (k0_t52_loop k0_t1 v1789).OK := fun k0_t1 v1789 k0_hw37 => k0_hw37.2.2.2.2.2.2.2.2.1
theorem k0_mult88_dvd : ∀ (k0_t1 : Fin k0_t1_loop.trips) (v1789 : BitVec 32) (k0_hw37 : k0_chk37 k0_t1 v1789) (k0_t52 : Fin (k0_t52_loop k0_t1 v1789).trips), 16 ∣ (k0_mult88 k0_t1 v1789 k0_t52).toNat := fun k0_t1 v1789 k0_hw37 k0_t52 => k0_hw37.2.2.2.2.2.2.2.2.2.1 k0_t52
theorem k0_off87_inb : ∀ (k0_t1 : Fin k0_t1_loop.trips) (v1789 : BitVec 32) (k0_hw37 : k0_chk37 k0_t1 v1789) (k0_t52 : Fin (k0_t52_loop k0_t1 v1789).trips), ∀ a, (k0_off87 k0_t1 v1789 k0_t52) a + S1x16.size a ≤ S8x6400.size a := fun k0_t1 v1789 k0_hw37 k0_t52 => k0_hw37.2.2.2.2.2.2.2.2.2.2.1 k0_t52
theorem k0_t53_ok : ∀ (k0_t1 : Fin k0_t1_loop.trips) (v1789 : BitVec 32) (k0_hw37 : k0_chk37 k0_t1 v1789), (k0_t53_loop k0_t1 v1789).OK := fun k0_t1 v1789 k0_hw37 => k0_hw37.2.2.2.2.2.2.2.2.2.2.2.1
theorem k0_mult89_dvd : ∀ (k0_t1 : Fin k0_t1_loop.trips) (v1789 : BitVec 32) (k0_hw37 : k0_chk37 k0_t1 v1789) (k0_t53 : Fin (k0_t53_loop k0_t1 v1789).trips), 16 ∣ (k0_mult89 k0_t1 v1789 k0_t53).toNat := fun k0_t1 v1789 k0_hw37 k0_t53 => k0_hw37.2.2.2.2.2.2.2.2.2.2.2.2.1 k0_t53
theorem k0_off88_inb : ∀ (k0_t1 : Fin k0_t1_loop.trips) (v1789 : BitVec 32) (k0_hw37 : k0_chk37 k0_t1 v1789) (k0_t53 : Fin (k0_t53_loop k0_t1 v1789).trips), ∀ a, (k0_off88 k0_t1 v1789 k0_t53) a + S1x16.size a ≤ S8x6400.size a := fun k0_t1 v1789 k0_hw37 k0_t53 => k0_hw37.2.2.2.2.2.2.2.2.2.2.2.2.2 k0_t53

@[reducible] def k0_t54_loop (k0_t1 : Fin k0_t1_loop.trips) (v1830 : BitVec 32) : Scf.Loop 32 :=
  let c0_i32_774 : BitVec 32 := 0#32
  let c6400_i32_772 : BitVec 32 := 6400#32
  let c0_i32_771 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1831 : BitVec 32 := Scalar.subi v1830 v1623
  let v1832 : BitVec 32 := Scalar.maxsi c0_i32_771 v1831
  let v1833 : BitVec 32 := Scalar.minsi c6400_i32_772 v1832
  let c4_i32_773 : BitVec 32 := 4#32
  let v1834 : BitVec 32 := Scalar.shrui v1833 c4_i32_773
  let v1835 : BitVec 32 := Scalar.subi v1834 c0_i32_774
  let c1_i32_775 : BitVec 32 := 1#32
  let v1837 : BitVec 32 := Scalar.divsi v1835 c1_i32_775
  let v1838 : BitVec 32 := Scalar.muli v1837 c1_i32_775
  let v1839 : BitVec 32 := Scalar.addi c0_i32_774 v1838
  let c1_i32_776 : BitVec 32 := 1#32
  ⟨c0_i32_774, v1839, c1_i32_776⟩

def k0_mult90 (k0_t1 : Fin k0_t1_loop.trips) (v1830 : BitVec 32) (k0_t54 : Fin (k0_t54_loop k0_t1 v1830).trips) : BitVec 32 :=
  let c0_i32_774 : BitVec 32 := 0#32
  let c1_i32_776 : BitVec 32 := 1#32
  let arg27 : BitVec 32 := Scf.iv c0_i32_774 c1_i32_776 k0_t54
  let c16_i32_826 : BitVec 32 := 16#32
  let v1958 : BitVec 32 := Scalar.muli arg27 c16_i32_826
  v1958
def k0_off89 (k0_t1 : Fin k0_t1_loop.trips) (v1830 : BitVec 32) (k0_t54 : Fin (k0_t54_loop k0_t1 v1830).trips) : Fin 2 → Nat :=
  let c5_i32_827 : BitVec 32 := 5#32
  let v1960 : Index := Scalar.indexCast c5_i32_827
  let c0_i32_774 : BitVec 32 := 0#32
  let c1_i32_776 : BitVec 32 := 1#32
  let arg27 : BitVec 32 := Scf.iv c0_i32_774 c1_i32_776 k0_t54
  let c16_i32_826 : BitVec 32 := 16#32
  let v1958 : BitVec 32 := Scalar.muli arg27 c16_i32_826
  let v1959 : BitVec 32 := v1958
  let v1961 : Index := Scalar.indexCast v1959
  ![5, v1961.toNat]
@[reducible] def k0_t55_loop (k0_t1 : Fin k0_t1_loop.trips) (v1830 : BitVec 32) : Scf.Loop 32 :=
  let c0_i32_774 : BitVec 32 := 0#32
  let c6400_i32_772 : BitVec 32 := 6400#32
  let c0_i32_771 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1831 : BitVec 32 := Scalar.subi v1830 v1623
  let v1832 : BitVec 32 := Scalar.maxsi c0_i32_771 v1831
  let v1833 : BitVec 32 := Scalar.minsi c6400_i32_772 v1832
  let c4_i32_773 : BitVec 32 := 4#32
  let v1834 : BitVec 32 := Scalar.shrui v1833 c4_i32_773
  let v1835 : BitVec 32 := Scalar.subi v1834 c0_i32_774
  let c1_i32_775 : BitVec 32 := 1#32
  let v1837 : BitVec 32 := Scalar.divsi v1835 c1_i32_775
  let v1838 : BitVec 32 := Scalar.muli v1837 c1_i32_775
  let v1839 : BitVec 32 := Scalar.addi c0_i32_774 v1838
  let v1836 : BitVec 32 := Scalar.addi c0_i32_774 v1835
  let c1_i32_777 : BitVec 32 := 1#32
  ⟨v1839, v1836, c1_i32_777⟩
def k0_mult91 (k0_t1 : Fin k0_t1_loop.trips) (v1830 : BitVec 32) (k0_t55 : Fin (k0_t55_loop k0_t1 v1830).trips) : BitVec 32 :=
  let c0_i32_774 : BitVec 32 := 0#32
  let c6400_i32_772 : BitVec 32 := 6400#32
  let c0_i32_771 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1831 : BitVec 32 := Scalar.subi v1830 v1623
  let v1832 : BitVec 32 := Scalar.maxsi c0_i32_771 v1831
  let v1833 : BitVec 32 := Scalar.minsi c6400_i32_772 v1832
  let c4_i32_773 : BitVec 32 := 4#32
  let v1834 : BitVec 32 := Scalar.shrui v1833 c4_i32_773
  let v1835 : BitVec 32 := Scalar.subi v1834 c0_i32_774
  let c1_i32_775 : BitVec 32 := 1#32
  let v1837 : BitVec 32 := Scalar.divsi v1835 c1_i32_775
  let v1838 : BitVec 32 := Scalar.muli v1837 c1_i32_775
  let v1839 : BitVec 32 := Scalar.addi c0_i32_774 v1838
  let c1_i32_777 : BitVec 32 := 1#32
  let arg27 : BitVec 32 := Scf.iv v1839 c1_i32_777 k0_t55
  let c16_i32_826 : BitVec 32 := 16#32
  let v1958 : BitVec 32 := Scalar.muli arg27 c16_i32_826
  v1958
def k0_off90 (k0_t1 : Fin k0_t1_loop.trips) (v1830 : BitVec 32) (k0_t55 : Fin (k0_t55_loop k0_t1 v1830).trips) : Fin 2 → Nat :=
  let c5_i32_827 : BitVec 32 := 5#32
  let v1960 : Index := Scalar.indexCast c5_i32_827
  let c0_i32_774 : BitVec 32 := 0#32
  let c6400_i32_772 : BitVec 32 := 6400#32
  let c0_i32_771 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1831 : BitVec 32 := Scalar.subi v1830 v1623
  let v1832 : BitVec 32 := Scalar.maxsi c0_i32_771 v1831
  let v1833 : BitVec 32 := Scalar.minsi c6400_i32_772 v1832
  let c4_i32_773 : BitVec 32 := 4#32
  let v1834 : BitVec 32 := Scalar.shrui v1833 c4_i32_773
  let v1835 : BitVec 32 := Scalar.subi v1834 c0_i32_774
  let c1_i32_775 : BitVec 32 := 1#32
  let v1837 : BitVec 32 := Scalar.divsi v1835 c1_i32_775
  let v1838 : BitVec 32 := Scalar.muli v1837 c1_i32_775
  let v1839 : BitVec 32 := Scalar.addi c0_i32_774 v1838
  let c1_i32_777 : BitVec 32 := 1#32
  let arg27 : BitVec 32 := Scf.iv v1839 c1_i32_777 k0_t55
  let c16_i32_826 : BitVec 32 := 16#32
  let v1958 : BitVec 32 := Scalar.muli arg27 c16_i32_826
  let v1959 : BitVec 32 := v1958
  let v1961 : Index := Scalar.indexCast v1959
  ![5, v1961.toNat]
def k0_mult92 (k0_t1 : Fin k0_t1_loop.trips) (v1830 : BitVec 32) : BitVec 32 :=
  let c6400_i32_772 : BitVec 32 := 6400#32
  let c0_i32_771 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1831 : BitVec 32 := Scalar.subi v1830 v1623
  let v1832 : BitVec 32 := Scalar.maxsi c0_i32_771 v1831
  let v1833 : BitVec 32 := Scalar.minsi c6400_i32_772 v1832
  let c4_i32_773 : BitVec 32 := 4#32
  let v1834 : BitVec 32 := Scalar.shrui v1833 c4_i32_773
  let c399_i32_778 : BitVec 32 := 399#32
  let v1842 : BitVec 32 := Scalar.minsi v1834 c399_i32_778
  let c16_i32_779 : BitVec 32 := 16#32
  let v1843 : BitVec 32 := Scalar.muli v1842 c16_i32_779
  v1843
def k0_off91 (k0_t1 : Fin k0_t1_loop.trips) (v1830 : BitVec 32) : Fin 2 → Nat :=
  let c5_i32_780 : BitVec 32 := 5#32
  let v1845 : Index := Scalar.indexCast c5_i32_780
  let c6400_i32_772 : BitVec 32 := 6400#32
  let c0_i32_771 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1831 : BitVec 32 := Scalar.subi v1830 v1623
  let v1832 : BitVec 32 := Scalar.maxsi c0_i32_771 v1831
  let v1833 : BitVec 32 := Scalar.minsi c6400_i32_772 v1832
  let c4_i32_773 : BitVec 32 := 4#32
  let v1834 : BitVec 32 := Scalar.shrui v1833 c4_i32_773
  let c399_i32_778 : BitVec 32 := 399#32
  let v1842 : BitVec 32 := Scalar.minsi v1834 c399_i32_778
  let c16_i32_779 : BitVec 32 := 16#32
  let v1843 : BitVec 32 := Scalar.muli v1842 c16_i32_779
  let v1844 : BitVec 32 := v1843
  let v1846 : Index := Scalar.indexCast v1844
  ![5, v1846.toNat]
@[reducible] def k0_t56_loop (k0_t1 : Fin k0_t1_loop.trips) (v1830 : BitVec 32) : Scf.Loop 32 :=
  let c6400_i32_772 : BitVec 32 := 6400#32
  let c0_i32_771 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1831 : BitVec 32 := Scalar.subi v1830 v1623
  let v1832 : BitVec 32 := Scalar.maxsi c0_i32_771 v1831
  let v1833 : BitVec 32 := Scalar.minsi c6400_i32_772 v1832
  let c4_i32_773 : BitVec 32 := 4#32
  let v1834 : BitVec 32 := Scalar.shrui v1833 c4_i32_773
  let c1_i32_783 : BitVec 32 := 1#32
  let v1862 : BitVec 32 := Scalar.addi v1834 c1_i32_783
  let c400_i32_784 : BitVec 32 := 400#32
  let v1863 : BitVec 32 := Scalar.subi c400_i32_784 v1862
  let c1_i32_785 : BitVec 32 := 1#32
  let v1865 : BitVec 32 := Scalar.divsi v1863 c1_i32_785
  let v1866 : BitVec 32 := Scalar.muli v1865 c1_i32_785
  let v1867 : BitVec 32 := Scalar.addi v1862 v1866
  let c1_i32_786 : BitVec 32 := 1#32
  ⟨v1862, v1867, c1_i32_786⟩
def k0_mult93 (k0_t1 : Fin k0_t1_loop.trips) (v1830 : BitVec 32) (k0_t56 : Fin (k0_t56_loop k0_t1 v1830).trips) : BitVec 32 :=
  let c6400_i32_772 : BitVec 32 := 6400#32
  let c0_i32_771 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1831 : BitVec 32 := Scalar.subi v1830 v1623
  let v1832 : BitVec 32 := Scalar.maxsi c0_i32_771 v1831
  let v1833 : BitVec 32 := Scalar.minsi c6400_i32_772 v1832
  let c4_i32_773 : BitVec 32 := 4#32
  let v1834 : BitVec 32 := Scalar.shrui v1833 c4_i32_773
  let c1_i32_783 : BitVec 32 := 1#32
  let v1862 : BitVec 32 := Scalar.addi v1834 c1_i32_783
  let c1_i32_786 : BitVec 32 := 1#32
  let arg27 : BitVec 32 := Scf.iv v1862 c1_i32_786 k0_t56
  let c16_i32_826 : BitVec 32 := 16#32
  let v1958 : BitVec 32 := Scalar.muli arg27 c16_i32_826
  v1958
def k0_off92 (k0_t1 : Fin k0_t1_loop.trips) (v1830 : BitVec 32) (k0_t56 : Fin (k0_t56_loop k0_t1 v1830).trips) : Fin 2 → Nat :=
  let c5_i32_827 : BitVec 32 := 5#32
  let v1960 : Index := Scalar.indexCast c5_i32_827
  let c6400_i32_772 : BitVec 32 := 6400#32
  let c0_i32_771 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1831 : BitVec 32 := Scalar.subi v1830 v1623
  let v1832 : BitVec 32 := Scalar.maxsi c0_i32_771 v1831
  let v1833 : BitVec 32 := Scalar.minsi c6400_i32_772 v1832
  let c4_i32_773 : BitVec 32 := 4#32
  let v1834 : BitVec 32 := Scalar.shrui v1833 c4_i32_773
  let c1_i32_783 : BitVec 32 := 1#32
  let v1862 : BitVec 32 := Scalar.addi v1834 c1_i32_783
  let c1_i32_786 : BitVec 32 := 1#32
  let arg27 : BitVec 32 := Scf.iv v1862 c1_i32_786 k0_t56
  let c16_i32_826 : BitVec 32 := 16#32
  let v1958 : BitVec 32 := Scalar.muli arg27 c16_i32_826
  let v1959 : BitVec 32 := v1958
  let v1961 : Index := Scalar.indexCast v1959
  ![5, v1961.toNat]
@[reducible] def k0_t57_loop (k0_t1 : Fin k0_t1_loop.trips) (v1830 : BitVec 32) : Scf.Loop 32 :=
  let c6400_i32_772 : BitVec 32 := 6400#32
  let c0_i32_771 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1831 : BitVec 32 := Scalar.subi v1830 v1623
  let v1832 : BitVec 32 := Scalar.maxsi c0_i32_771 v1831
  let v1833 : BitVec 32 := Scalar.minsi c6400_i32_772 v1832
  let c4_i32_773 : BitVec 32 := 4#32
  let v1834 : BitVec 32 := Scalar.shrui v1833 c4_i32_773
  let c1_i32_783 : BitVec 32 := 1#32
  let v1862 : BitVec 32 := Scalar.addi v1834 c1_i32_783
  let c400_i32_784 : BitVec 32 := 400#32
  let v1863 : BitVec 32 := Scalar.subi c400_i32_784 v1862
  let c1_i32_785 : BitVec 32 := 1#32
  let v1865 : BitVec 32 := Scalar.divsi v1863 c1_i32_785
  let v1866 : BitVec 32 := Scalar.muli v1865 c1_i32_785
  let v1867 : BitVec 32 := Scalar.addi v1862 v1866
  let v1864 : BitVec 32 := Scalar.addi v1862 v1863
  let c1_i32_787 : BitVec 32 := 1#32
  ⟨v1867, v1864, c1_i32_787⟩
def k0_mult94 (k0_t1 : Fin k0_t1_loop.trips) (v1830 : BitVec 32) (k0_t57 : Fin (k0_t57_loop k0_t1 v1830).trips) : BitVec 32 :=
  let c6400_i32_772 : BitVec 32 := 6400#32
  let c0_i32_771 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1831 : BitVec 32 := Scalar.subi v1830 v1623
  let v1832 : BitVec 32 := Scalar.maxsi c0_i32_771 v1831
  let v1833 : BitVec 32 := Scalar.minsi c6400_i32_772 v1832
  let c4_i32_773 : BitVec 32 := 4#32
  let v1834 : BitVec 32 := Scalar.shrui v1833 c4_i32_773
  let c1_i32_783 : BitVec 32 := 1#32
  let v1862 : BitVec 32 := Scalar.addi v1834 c1_i32_783
  let c400_i32_784 : BitVec 32 := 400#32
  let v1863 : BitVec 32 := Scalar.subi c400_i32_784 v1862
  let c1_i32_785 : BitVec 32 := 1#32
  let v1865 : BitVec 32 := Scalar.divsi v1863 c1_i32_785
  let v1866 : BitVec 32 := Scalar.muli v1865 c1_i32_785
  let v1867 : BitVec 32 := Scalar.addi v1862 v1866
  let c1_i32_787 : BitVec 32 := 1#32
  let arg27 : BitVec 32 := Scf.iv v1867 c1_i32_787 k0_t57
  let c16_i32_826 : BitVec 32 := 16#32
  let v1958 : BitVec 32 := Scalar.muli arg27 c16_i32_826
  v1958
def k0_off93 (k0_t1 : Fin k0_t1_loop.trips) (v1830 : BitVec 32) (k0_t57 : Fin (k0_t57_loop k0_t1 v1830).trips) : Fin 2 → Nat :=
  let c5_i32_827 : BitVec 32 := 5#32
  let v1960 : Index := Scalar.indexCast c5_i32_827
  let c6400_i32_772 : BitVec 32 := 6400#32
  let c0_i32_771 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1831 : BitVec 32 := Scalar.subi v1830 v1623
  let v1832 : BitVec 32 := Scalar.maxsi c0_i32_771 v1831
  let v1833 : BitVec 32 := Scalar.minsi c6400_i32_772 v1832
  let c4_i32_773 : BitVec 32 := 4#32
  let v1834 : BitVec 32 := Scalar.shrui v1833 c4_i32_773
  let c1_i32_783 : BitVec 32 := 1#32
  let v1862 : BitVec 32 := Scalar.addi v1834 c1_i32_783
  let c400_i32_784 : BitVec 32 := 400#32
  let v1863 : BitVec 32 := Scalar.subi c400_i32_784 v1862
  let c1_i32_785 : BitVec 32 := 1#32
  let v1865 : BitVec 32 := Scalar.divsi v1863 c1_i32_785
  let v1866 : BitVec 32 := Scalar.muli v1865 c1_i32_785
  let v1867 : BitVec 32 := Scalar.addi v1862 v1866
  let c1_i32_787 : BitVec 32 := 1#32
  let arg27 : BitVec 32 := Scf.iv v1867 c1_i32_787 k0_t57
  let c16_i32_826 : BitVec 32 := 16#32
  let v1958 : BitVec 32 := Scalar.muli arg27 c16_i32_826
  let v1959 : BitVec 32 := v1958
  let v1961 : Index := Scalar.indexCast v1959
  ![5, v1961.toNat]

def k0_chk38 (k0_t1 : Fin k0_t1_loop.trips) (v1830 : BitVec 32) : Prop :=
  ((k0_t54_loop k0_t1 v1830).OK) ∧
  (∀ k0_t54 : Fin (k0_t54_loop k0_t1 v1830).trips, 16 ∣ (k0_mult90 k0_t1 v1830 k0_t54).toNat) ∧
  (∀ k0_t54 : Fin (k0_t54_loop k0_t1 v1830).trips, ∀ a, (k0_off89 k0_t1 v1830 k0_t54) a + S1x16.size a ≤ S8x6400.size a) ∧
  ((k0_t55_loop k0_t1 v1830).OK) ∧
  (∀ k0_t55 : Fin (k0_t55_loop k0_t1 v1830).trips, 16 ∣ (k0_mult91 k0_t1 v1830 k0_t55).toNat) ∧
  (∀ k0_t55 : Fin (k0_t55_loop k0_t1 v1830).trips, ∀ a, (k0_off90 k0_t1 v1830 k0_t55) a + S1x16.size a ≤ S8x6400.size a) ∧
  (16 ∣ (k0_mult92 k0_t1 v1830).toNat) ∧
  (∀ a, (k0_off91 k0_t1 v1830) a + S1x16.size a ≤ S8x6400.size a) ∧
  ((k0_t56_loop k0_t1 v1830).OK) ∧
  (∀ k0_t56 : Fin (k0_t56_loop k0_t1 v1830).trips, 16 ∣ (k0_mult93 k0_t1 v1830 k0_t56).toNat) ∧
  (∀ k0_t56 : Fin (k0_t56_loop k0_t1 v1830).trips, ∀ a, (k0_off92 k0_t1 v1830 k0_t56) a + S1x16.size a ≤ S8x6400.size a) ∧
  ((k0_t57_loop k0_t1 v1830).OK) ∧
  (∀ k0_t57 : Fin (k0_t57_loop k0_t1 v1830).trips, 16 ∣ (k0_mult94 k0_t1 v1830 k0_t57).toNat) ∧
  (∀ k0_t57 : Fin (k0_t57_loop k0_t1 v1830).trips, ∀ a, (k0_off93 k0_t1 v1830 k0_t57) a + S1x16.size a ≤ S8x6400.size a)
theorem k0_t54_ok : ∀ (k0_t1 : Fin k0_t1_loop.trips) (v1830 : BitVec 32) (k0_hw38 : k0_chk38 k0_t1 v1830), (k0_t54_loop k0_t1 v1830).OK := fun k0_t1 v1830 k0_hw38 => k0_hw38.1
theorem k0_mult90_dvd : ∀ (k0_t1 : Fin k0_t1_loop.trips) (v1830 : BitVec 32) (k0_hw38 : k0_chk38 k0_t1 v1830) (k0_t54 : Fin (k0_t54_loop k0_t1 v1830).trips), 16 ∣ (k0_mult90 k0_t1 v1830 k0_t54).toNat := fun k0_t1 v1830 k0_hw38 k0_t54 => k0_hw38.2.1 k0_t54
theorem k0_off89_inb : ∀ (k0_t1 : Fin k0_t1_loop.trips) (v1830 : BitVec 32) (k0_hw38 : k0_chk38 k0_t1 v1830) (k0_t54 : Fin (k0_t54_loop k0_t1 v1830).trips), ∀ a, (k0_off89 k0_t1 v1830 k0_t54) a + S1x16.size a ≤ S8x6400.size a := fun k0_t1 v1830 k0_hw38 k0_t54 => k0_hw38.2.2.1 k0_t54
theorem k0_t55_ok : ∀ (k0_t1 : Fin k0_t1_loop.trips) (v1830 : BitVec 32) (k0_hw38 : k0_chk38 k0_t1 v1830), (k0_t55_loop k0_t1 v1830).OK := fun k0_t1 v1830 k0_hw38 => k0_hw38.2.2.2.1
theorem k0_mult91_dvd : ∀ (k0_t1 : Fin k0_t1_loop.trips) (v1830 : BitVec 32) (k0_hw38 : k0_chk38 k0_t1 v1830) (k0_t55 : Fin (k0_t55_loop k0_t1 v1830).trips), 16 ∣ (k0_mult91 k0_t1 v1830 k0_t55).toNat := fun k0_t1 v1830 k0_hw38 k0_t55 => k0_hw38.2.2.2.2.1 k0_t55
theorem k0_off90_inb : ∀ (k0_t1 : Fin k0_t1_loop.trips) (v1830 : BitVec 32) (k0_hw38 : k0_chk38 k0_t1 v1830) (k0_t55 : Fin (k0_t55_loop k0_t1 v1830).trips), ∀ a, (k0_off90 k0_t1 v1830 k0_t55) a + S1x16.size a ≤ S8x6400.size a := fun k0_t1 v1830 k0_hw38 k0_t55 => k0_hw38.2.2.2.2.2.1 k0_t55
theorem k0_mult92_dvd : ∀ (k0_t1 : Fin k0_t1_loop.trips) (v1830 : BitVec 32) (k0_hw38 : k0_chk38 k0_t1 v1830), 16 ∣ (k0_mult92 k0_t1 v1830).toNat := fun k0_t1 v1830 k0_hw38 => k0_hw38.2.2.2.2.2.2.1
theorem k0_off91_inb : ∀ (k0_t1 : Fin k0_t1_loop.trips) (v1830 : BitVec 32) (k0_hw38 : k0_chk38 k0_t1 v1830), ∀ a, (k0_off91 k0_t1 v1830) a + S1x16.size a ≤ S8x6400.size a := fun k0_t1 v1830 k0_hw38 => k0_hw38.2.2.2.2.2.2.2.1
theorem k0_t56_ok : ∀ (k0_t1 : Fin k0_t1_loop.trips) (v1830 : BitVec 32) (k0_hw38 : k0_chk38 k0_t1 v1830), (k0_t56_loop k0_t1 v1830).OK := fun k0_t1 v1830 k0_hw38 => k0_hw38.2.2.2.2.2.2.2.2.1
theorem k0_mult93_dvd : ∀ (k0_t1 : Fin k0_t1_loop.trips) (v1830 : BitVec 32) (k0_hw38 : k0_chk38 k0_t1 v1830) (k0_t56 : Fin (k0_t56_loop k0_t1 v1830).trips), 16 ∣ (k0_mult93 k0_t1 v1830 k0_t56).toNat := fun k0_t1 v1830 k0_hw38 k0_t56 => k0_hw38.2.2.2.2.2.2.2.2.2.1 k0_t56
theorem k0_off92_inb : ∀ (k0_t1 : Fin k0_t1_loop.trips) (v1830 : BitVec 32) (k0_hw38 : k0_chk38 k0_t1 v1830) (k0_t56 : Fin (k0_t56_loop k0_t1 v1830).trips), ∀ a, (k0_off92 k0_t1 v1830 k0_t56) a + S1x16.size a ≤ S8x6400.size a := fun k0_t1 v1830 k0_hw38 k0_t56 => k0_hw38.2.2.2.2.2.2.2.2.2.2.1 k0_t56
theorem k0_t57_ok : ∀ (k0_t1 : Fin k0_t1_loop.trips) (v1830 : BitVec 32) (k0_hw38 : k0_chk38 k0_t1 v1830), (k0_t57_loop k0_t1 v1830).OK := fun k0_t1 v1830 k0_hw38 => k0_hw38.2.2.2.2.2.2.2.2.2.2.2.1
theorem k0_mult94_dvd : ∀ (k0_t1 : Fin k0_t1_loop.trips) (v1830 : BitVec 32) (k0_hw38 : k0_chk38 k0_t1 v1830) (k0_t57 : Fin (k0_t57_loop k0_t1 v1830).trips), 16 ∣ (k0_mult94 k0_t1 v1830 k0_t57).toNat := fun k0_t1 v1830 k0_hw38 k0_t57 => k0_hw38.2.2.2.2.2.2.2.2.2.2.2.2.1 k0_t57
theorem k0_off93_inb : ∀ (k0_t1 : Fin k0_t1_loop.trips) (v1830 : BitVec 32) (k0_hw38 : k0_chk38 k0_t1 v1830) (k0_t57 : Fin (k0_t57_loop k0_t1 v1830).trips), ∀ a, (k0_off93 k0_t1 v1830 k0_t57) a + S1x16.size a ≤ S8x6400.size a := fun k0_t1 v1830 k0_hw38 k0_t57 => k0_hw38.2.2.2.2.2.2.2.2.2.2.2.2.2 k0_t57

@[reducible] def k0_t58_loop (k0_t1 : Fin k0_t1_loop.trips) (v1871 : BitVec 32) : Scf.Loop 32 :=
  let c0_i32_791 : BitVec 32 := 0#32
  let c6400_i32_789 : BitVec 32 := 6400#32
  let c0_i32_788 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1872 : BitVec 32 := Scalar.subi v1871 v1623
  let v1873 : BitVec 32 := Scalar.maxsi c0_i32_788 v1872
  let v1874 : BitVec 32 := Scalar.minsi c6400_i32_789 v1873
  let c4_i32_790 : BitVec 32 := 4#32
  let v1875 : BitVec 32 := Scalar.shrui v1874 c4_i32_790
  let v1876 : BitVec 32 := Scalar.subi v1875 c0_i32_791
  let c1_i32_792 : BitVec 32 := 1#32
  let v1878 : BitVec 32 := Scalar.divsi v1876 c1_i32_792
  let v1879 : BitVec 32 := Scalar.muli v1878 c1_i32_792
  let v1880 : BitVec 32 := Scalar.addi c0_i32_791 v1879
  let c1_i32_793 : BitVec 32 := 1#32
  ⟨c0_i32_791, v1880, c1_i32_793⟩

def k0_mult95 (k0_t1 : Fin k0_t1_loop.trips) (v1871 : BitVec 32) (k0_t58 : Fin (k0_t58_loop k0_t1 v1871).trips) : BitVec 32 :=
  let c0_i32_791 : BitVec 32 := 0#32
  let c1_i32_793 : BitVec 32 := 1#32
  let arg27 : BitVec 32 := Scf.iv c0_i32_791 c1_i32_793 k0_t58
  let c16_i32_826 : BitVec 32 := 16#32
  let v1958 : BitVec 32 := Scalar.muli arg27 c16_i32_826
  v1958
def k0_off94 (k0_t1 : Fin k0_t1_loop.trips) (v1871 : BitVec 32) (k0_t58 : Fin (k0_t58_loop k0_t1 v1871).trips) : Fin 2 → Nat :=
  let c6_i32_827 : BitVec 32 := 6#32
  let v1960 : Index := Scalar.indexCast c6_i32_827
  let c0_i32_791 : BitVec 32 := 0#32
  let c1_i32_793 : BitVec 32 := 1#32
  let arg27 : BitVec 32 := Scf.iv c0_i32_791 c1_i32_793 k0_t58
  let c16_i32_826 : BitVec 32 := 16#32
  let v1958 : BitVec 32 := Scalar.muli arg27 c16_i32_826
  let v1959 : BitVec 32 := v1958
  let v1961 : Index := Scalar.indexCast v1959
  ![6, v1961.toNat]
@[reducible] def k0_t59_loop (k0_t1 : Fin k0_t1_loop.trips) (v1871 : BitVec 32) : Scf.Loop 32 :=
  let c0_i32_791 : BitVec 32 := 0#32
  let c6400_i32_789 : BitVec 32 := 6400#32
  let c0_i32_788 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1872 : BitVec 32 := Scalar.subi v1871 v1623
  let v1873 : BitVec 32 := Scalar.maxsi c0_i32_788 v1872
  let v1874 : BitVec 32 := Scalar.minsi c6400_i32_789 v1873
  let c4_i32_790 : BitVec 32 := 4#32
  let v1875 : BitVec 32 := Scalar.shrui v1874 c4_i32_790
  let v1876 : BitVec 32 := Scalar.subi v1875 c0_i32_791
  let c1_i32_792 : BitVec 32 := 1#32
  let v1878 : BitVec 32 := Scalar.divsi v1876 c1_i32_792
  let v1879 : BitVec 32 := Scalar.muli v1878 c1_i32_792
  let v1880 : BitVec 32 := Scalar.addi c0_i32_791 v1879
  let v1877 : BitVec 32 := Scalar.addi c0_i32_791 v1876
  let c1_i32_794 : BitVec 32 := 1#32
  ⟨v1880, v1877, c1_i32_794⟩
def k0_mult96 (k0_t1 : Fin k0_t1_loop.trips) (v1871 : BitVec 32) (k0_t59 : Fin (k0_t59_loop k0_t1 v1871).trips) : BitVec 32 :=
  let c0_i32_791 : BitVec 32 := 0#32
  let c6400_i32_789 : BitVec 32 := 6400#32
  let c0_i32_788 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1872 : BitVec 32 := Scalar.subi v1871 v1623
  let v1873 : BitVec 32 := Scalar.maxsi c0_i32_788 v1872
  let v1874 : BitVec 32 := Scalar.minsi c6400_i32_789 v1873
  let c4_i32_790 : BitVec 32 := 4#32
  let v1875 : BitVec 32 := Scalar.shrui v1874 c4_i32_790
  let v1876 : BitVec 32 := Scalar.subi v1875 c0_i32_791
  let c1_i32_792 : BitVec 32 := 1#32
  let v1878 : BitVec 32 := Scalar.divsi v1876 c1_i32_792
  let v1879 : BitVec 32 := Scalar.muli v1878 c1_i32_792
  let v1880 : BitVec 32 := Scalar.addi c0_i32_791 v1879
  let c1_i32_794 : BitVec 32 := 1#32
  let arg27 : BitVec 32 := Scf.iv v1880 c1_i32_794 k0_t59
  let c16_i32_826 : BitVec 32 := 16#32
  let v1958 : BitVec 32 := Scalar.muli arg27 c16_i32_826
  v1958
def k0_off95 (k0_t1 : Fin k0_t1_loop.trips) (v1871 : BitVec 32) (k0_t59 : Fin (k0_t59_loop k0_t1 v1871).trips) : Fin 2 → Nat :=
  let c6_i32_827 : BitVec 32 := 6#32
  let v1960 : Index := Scalar.indexCast c6_i32_827
  let c0_i32_791 : BitVec 32 := 0#32
  let c6400_i32_789 : BitVec 32 := 6400#32
  let c0_i32_788 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1872 : BitVec 32 := Scalar.subi v1871 v1623
  let v1873 : BitVec 32 := Scalar.maxsi c0_i32_788 v1872
  let v1874 : BitVec 32 := Scalar.minsi c6400_i32_789 v1873
  let c4_i32_790 : BitVec 32 := 4#32
  let v1875 : BitVec 32 := Scalar.shrui v1874 c4_i32_790
  let v1876 : BitVec 32 := Scalar.subi v1875 c0_i32_791
  let c1_i32_792 : BitVec 32 := 1#32
  let v1878 : BitVec 32 := Scalar.divsi v1876 c1_i32_792
  let v1879 : BitVec 32 := Scalar.muli v1878 c1_i32_792
  let v1880 : BitVec 32 := Scalar.addi c0_i32_791 v1879
  let c1_i32_794 : BitVec 32 := 1#32
  let arg27 : BitVec 32 := Scf.iv v1880 c1_i32_794 k0_t59
  let c16_i32_826 : BitVec 32 := 16#32
  let v1958 : BitVec 32 := Scalar.muli arg27 c16_i32_826
  let v1959 : BitVec 32 := v1958
  let v1961 : Index := Scalar.indexCast v1959
  ![6, v1961.toNat]
def k0_mult97 (k0_t1 : Fin k0_t1_loop.trips) (v1871 : BitVec 32) : BitVec 32 :=
  let c6400_i32_789 : BitVec 32 := 6400#32
  let c0_i32_788 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1872 : BitVec 32 := Scalar.subi v1871 v1623
  let v1873 : BitVec 32 := Scalar.maxsi c0_i32_788 v1872
  let v1874 : BitVec 32 := Scalar.minsi c6400_i32_789 v1873
  let c4_i32_790 : BitVec 32 := 4#32
  let v1875 : BitVec 32 := Scalar.shrui v1874 c4_i32_790
  let c399_i32_795 : BitVec 32 := 399#32
  let v1883 : BitVec 32 := Scalar.minsi v1875 c399_i32_795
  let c16_i32_796 : BitVec 32 := 16#32
  let v1884 : BitVec 32 := Scalar.muli v1883 c16_i32_796
  v1884
def k0_off96 (k0_t1 : Fin k0_t1_loop.trips) (v1871 : BitVec 32) : Fin 2 → Nat :=
  let c6_i32_797 : BitVec 32 := 6#32
  let v1886 : Index := Scalar.indexCast c6_i32_797
  let c6400_i32_789 : BitVec 32 := 6400#32
  let c0_i32_788 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1872 : BitVec 32 := Scalar.subi v1871 v1623
  let v1873 : BitVec 32 := Scalar.maxsi c0_i32_788 v1872
  let v1874 : BitVec 32 := Scalar.minsi c6400_i32_789 v1873
  let c4_i32_790 : BitVec 32 := 4#32
  let v1875 : BitVec 32 := Scalar.shrui v1874 c4_i32_790
  let c399_i32_795 : BitVec 32 := 399#32
  let v1883 : BitVec 32 := Scalar.minsi v1875 c399_i32_795
  let c16_i32_796 : BitVec 32 := 16#32
  let v1884 : BitVec 32 := Scalar.muli v1883 c16_i32_796
  let v1885 : BitVec 32 := v1884
  let v1887 : Index := Scalar.indexCast v1885
  ![6, v1887.toNat]
@[reducible] def k0_t60_loop (k0_t1 : Fin k0_t1_loop.trips) (v1871 : BitVec 32) : Scf.Loop 32 :=
  let c6400_i32_789 : BitVec 32 := 6400#32
  let c0_i32_788 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1872 : BitVec 32 := Scalar.subi v1871 v1623
  let v1873 : BitVec 32 := Scalar.maxsi c0_i32_788 v1872
  let v1874 : BitVec 32 := Scalar.minsi c6400_i32_789 v1873
  let c4_i32_790 : BitVec 32 := 4#32
  let v1875 : BitVec 32 := Scalar.shrui v1874 c4_i32_790
  let c1_i32_800 : BitVec 32 := 1#32
  let v1903 : BitVec 32 := Scalar.addi v1875 c1_i32_800
  let c400_i32_801 : BitVec 32 := 400#32
  let v1904 : BitVec 32 := Scalar.subi c400_i32_801 v1903
  let c1_i32_802 : BitVec 32 := 1#32
  let v1906 : BitVec 32 := Scalar.divsi v1904 c1_i32_802
  let v1907 : BitVec 32 := Scalar.muli v1906 c1_i32_802
  let v1908 : BitVec 32 := Scalar.addi v1903 v1907
  let c1_i32_803 : BitVec 32 := 1#32
  ⟨v1903, v1908, c1_i32_803⟩
def k0_mult98 (k0_t1 : Fin k0_t1_loop.trips) (v1871 : BitVec 32) (k0_t60 : Fin (k0_t60_loop k0_t1 v1871).trips) : BitVec 32 :=
  let c6400_i32_789 : BitVec 32 := 6400#32
  let c0_i32_788 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1872 : BitVec 32 := Scalar.subi v1871 v1623
  let v1873 : BitVec 32 := Scalar.maxsi c0_i32_788 v1872
  let v1874 : BitVec 32 := Scalar.minsi c6400_i32_789 v1873
  let c4_i32_790 : BitVec 32 := 4#32
  let v1875 : BitVec 32 := Scalar.shrui v1874 c4_i32_790
  let c1_i32_800 : BitVec 32 := 1#32
  let v1903 : BitVec 32 := Scalar.addi v1875 c1_i32_800
  let c1_i32_803 : BitVec 32 := 1#32
  let arg27 : BitVec 32 := Scf.iv v1903 c1_i32_803 k0_t60
  let c16_i32_826 : BitVec 32 := 16#32
  let v1958 : BitVec 32 := Scalar.muli arg27 c16_i32_826
  v1958
def k0_off97 (k0_t1 : Fin k0_t1_loop.trips) (v1871 : BitVec 32) (k0_t60 : Fin (k0_t60_loop k0_t1 v1871).trips) : Fin 2 → Nat :=
  let c6_i32_827 : BitVec 32 := 6#32
  let v1960 : Index := Scalar.indexCast c6_i32_827
  let c6400_i32_789 : BitVec 32 := 6400#32
  let c0_i32_788 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1872 : BitVec 32 := Scalar.subi v1871 v1623
  let v1873 : BitVec 32 := Scalar.maxsi c0_i32_788 v1872
  let v1874 : BitVec 32 := Scalar.minsi c6400_i32_789 v1873
  let c4_i32_790 : BitVec 32 := 4#32
  let v1875 : BitVec 32 := Scalar.shrui v1874 c4_i32_790
  let c1_i32_800 : BitVec 32 := 1#32
  let v1903 : BitVec 32 := Scalar.addi v1875 c1_i32_800
  let c1_i32_803 : BitVec 32 := 1#32
  let arg27 : BitVec 32 := Scf.iv v1903 c1_i32_803 k0_t60
  let c16_i32_826 : BitVec 32 := 16#32
  let v1958 : BitVec 32 := Scalar.muli arg27 c16_i32_826
  let v1959 : BitVec 32 := v1958
  let v1961 : Index := Scalar.indexCast v1959
  ![6, v1961.toNat]
@[reducible] def k0_t61_loop (k0_t1 : Fin k0_t1_loop.trips) (v1871 : BitVec 32) : Scf.Loop 32 :=
  let c6400_i32_789 : BitVec 32 := 6400#32
  let c0_i32_788 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1872 : BitVec 32 := Scalar.subi v1871 v1623
  let v1873 : BitVec 32 := Scalar.maxsi c0_i32_788 v1872
  let v1874 : BitVec 32 := Scalar.minsi c6400_i32_789 v1873
  let c4_i32_790 : BitVec 32 := 4#32
  let v1875 : BitVec 32 := Scalar.shrui v1874 c4_i32_790
  let c1_i32_800 : BitVec 32 := 1#32
  let v1903 : BitVec 32 := Scalar.addi v1875 c1_i32_800
  let c400_i32_801 : BitVec 32 := 400#32
  let v1904 : BitVec 32 := Scalar.subi c400_i32_801 v1903
  let c1_i32_802 : BitVec 32 := 1#32
  let v1906 : BitVec 32 := Scalar.divsi v1904 c1_i32_802
  let v1907 : BitVec 32 := Scalar.muli v1906 c1_i32_802
  let v1908 : BitVec 32 := Scalar.addi v1903 v1907
  let v1905 : BitVec 32 := Scalar.addi v1903 v1904
  let c1_i32_804 : BitVec 32 := 1#32
  ⟨v1908, v1905, c1_i32_804⟩
def k0_mult99 (k0_t1 : Fin k0_t1_loop.trips) (v1871 : BitVec 32) (k0_t61 : Fin (k0_t61_loop k0_t1 v1871).trips) : BitVec 32 :=
  let c6400_i32_789 : BitVec 32 := 6400#32
  let c0_i32_788 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1872 : BitVec 32 := Scalar.subi v1871 v1623
  let v1873 : BitVec 32 := Scalar.maxsi c0_i32_788 v1872
  let v1874 : BitVec 32 := Scalar.minsi c6400_i32_789 v1873
  let c4_i32_790 : BitVec 32 := 4#32
  let v1875 : BitVec 32 := Scalar.shrui v1874 c4_i32_790
  let c1_i32_800 : BitVec 32 := 1#32
  let v1903 : BitVec 32 := Scalar.addi v1875 c1_i32_800
  let c400_i32_801 : BitVec 32 := 400#32
  let v1904 : BitVec 32 := Scalar.subi c400_i32_801 v1903
  let c1_i32_802 : BitVec 32 := 1#32
  let v1906 : BitVec 32 := Scalar.divsi v1904 c1_i32_802
  let v1907 : BitVec 32 := Scalar.muli v1906 c1_i32_802
  let v1908 : BitVec 32 := Scalar.addi v1903 v1907
  let c1_i32_804 : BitVec 32 := 1#32
  let arg27 : BitVec 32 := Scf.iv v1908 c1_i32_804 k0_t61
  let c16_i32_826 : BitVec 32 := 16#32
  let v1958 : BitVec 32 := Scalar.muli arg27 c16_i32_826
  v1958
def k0_off98 (k0_t1 : Fin k0_t1_loop.trips) (v1871 : BitVec 32) (k0_t61 : Fin (k0_t61_loop k0_t1 v1871).trips) : Fin 2 → Nat :=
  let c6_i32_827 : BitVec 32 := 6#32
  let v1960 : Index := Scalar.indexCast c6_i32_827
  let c6400_i32_789 : BitVec 32 := 6400#32
  let c0_i32_788 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1872 : BitVec 32 := Scalar.subi v1871 v1623
  let v1873 : BitVec 32 := Scalar.maxsi c0_i32_788 v1872
  let v1874 : BitVec 32 := Scalar.minsi c6400_i32_789 v1873
  let c4_i32_790 : BitVec 32 := 4#32
  let v1875 : BitVec 32 := Scalar.shrui v1874 c4_i32_790
  let c1_i32_800 : BitVec 32 := 1#32
  let v1903 : BitVec 32 := Scalar.addi v1875 c1_i32_800
  let c400_i32_801 : BitVec 32 := 400#32
  let v1904 : BitVec 32 := Scalar.subi c400_i32_801 v1903
  let c1_i32_802 : BitVec 32 := 1#32
  let v1906 : BitVec 32 := Scalar.divsi v1904 c1_i32_802
  let v1907 : BitVec 32 := Scalar.muli v1906 c1_i32_802
  let v1908 : BitVec 32 := Scalar.addi v1903 v1907
  let c1_i32_804 : BitVec 32 := 1#32
  let arg27 : BitVec 32 := Scf.iv v1908 c1_i32_804 k0_t61
  let c16_i32_826 : BitVec 32 := 16#32
  let v1958 : BitVec 32 := Scalar.muli arg27 c16_i32_826
  let v1959 : BitVec 32 := v1958
  let v1961 : Index := Scalar.indexCast v1959
  ![6, v1961.toNat]

def k0_chk39 (k0_t1 : Fin k0_t1_loop.trips) (v1871 : BitVec 32) : Prop :=
  ((k0_t58_loop k0_t1 v1871).OK) ∧
  (∀ k0_t58 : Fin (k0_t58_loop k0_t1 v1871).trips, 16 ∣ (k0_mult95 k0_t1 v1871 k0_t58).toNat) ∧
  (∀ k0_t58 : Fin (k0_t58_loop k0_t1 v1871).trips, ∀ a, (k0_off94 k0_t1 v1871 k0_t58) a + S1x16.size a ≤ S8x6400.size a) ∧
  ((k0_t59_loop k0_t1 v1871).OK) ∧
  (∀ k0_t59 : Fin (k0_t59_loop k0_t1 v1871).trips, 16 ∣ (k0_mult96 k0_t1 v1871 k0_t59).toNat) ∧
  (∀ k0_t59 : Fin (k0_t59_loop k0_t1 v1871).trips, ∀ a, (k0_off95 k0_t1 v1871 k0_t59) a + S1x16.size a ≤ S8x6400.size a) ∧
  (16 ∣ (k0_mult97 k0_t1 v1871).toNat) ∧
  (∀ a, (k0_off96 k0_t1 v1871) a + S1x16.size a ≤ S8x6400.size a) ∧
  ((k0_t60_loop k0_t1 v1871).OK) ∧
  (∀ k0_t60 : Fin (k0_t60_loop k0_t1 v1871).trips, 16 ∣ (k0_mult98 k0_t1 v1871 k0_t60).toNat) ∧
  (∀ k0_t60 : Fin (k0_t60_loop k0_t1 v1871).trips, ∀ a, (k0_off97 k0_t1 v1871 k0_t60) a + S1x16.size a ≤ S8x6400.size a) ∧
  ((k0_t61_loop k0_t1 v1871).OK) ∧
  (∀ k0_t61 : Fin (k0_t61_loop k0_t1 v1871).trips, 16 ∣ (k0_mult99 k0_t1 v1871 k0_t61).toNat) ∧
  (∀ k0_t61 : Fin (k0_t61_loop k0_t1 v1871).trips, ∀ a, (k0_off98 k0_t1 v1871 k0_t61) a + S1x16.size a ≤ S8x6400.size a)
theorem k0_t58_ok : ∀ (k0_t1 : Fin k0_t1_loop.trips) (v1871 : BitVec 32) (k0_hw39 : k0_chk39 k0_t1 v1871), (k0_t58_loop k0_t1 v1871).OK := fun k0_t1 v1871 k0_hw39 => k0_hw39.1
theorem k0_mult95_dvd : ∀ (k0_t1 : Fin k0_t1_loop.trips) (v1871 : BitVec 32) (k0_hw39 : k0_chk39 k0_t1 v1871) (k0_t58 : Fin (k0_t58_loop k0_t1 v1871).trips), 16 ∣ (k0_mult95 k0_t1 v1871 k0_t58).toNat := fun k0_t1 v1871 k0_hw39 k0_t58 => k0_hw39.2.1 k0_t58
theorem k0_off94_inb : ∀ (k0_t1 : Fin k0_t1_loop.trips) (v1871 : BitVec 32) (k0_hw39 : k0_chk39 k0_t1 v1871) (k0_t58 : Fin (k0_t58_loop k0_t1 v1871).trips), ∀ a, (k0_off94 k0_t1 v1871 k0_t58) a + S1x16.size a ≤ S8x6400.size a := fun k0_t1 v1871 k0_hw39 k0_t58 => k0_hw39.2.2.1 k0_t58
theorem k0_t59_ok : ∀ (k0_t1 : Fin k0_t1_loop.trips) (v1871 : BitVec 32) (k0_hw39 : k0_chk39 k0_t1 v1871), (k0_t59_loop k0_t1 v1871).OK := fun k0_t1 v1871 k0_hw39 => k0_hw39.2.2.2.1
theorem k0_mult96_dvd : ∀ (k0_t1 : Fin k0_t1_loop.trips) (v1871 : BitVec 32) (k0_hw39 : k0_chk39 k0_t1 v1871) (k0_t59 : Fin (k0_t59_loop k0_t1 v1871).trips), 16 ∣ (k0_mult96 k0_t1 v1871 k0_t59).toNat := fun k0_t1 v1871 k0_hw39 k0_t59 => k0_hw39.2.2.2.2.1 k0_t59
theorem k0_off95_inb : ∀ (k0_t1 : Fin k0_t1_loop.trips) (v1871 : BitVec 32) (k0_hw39 : k0_chk39 k0_t1 v1871) (k0_t59 : Fin (k0_t59_loop k0_t1 v1871).trips), ∀ a, (k0_off95 k0_t1 v1871 k0_t59) a + S1x16.size a ≤ S8x6400.size a := fun k0_t1 v1871 k0_hw39 k0_t59 => k0_hw39.2.2.2.2.2.1 k0_t59
theorem k0_mult97_dvd : ∀ (k0_t1 : Fin k0_t1_loop.trips) (v1871 : BitVec 32) (k0_hw39 : k0_chk39 k0_t1 v1871), 16 ∣ (k0_mult97 k0_t1 v1871).toNat := fun k0_t1 v1871 k0_hw39 => k0_hw39.2.2.2.2.2.2.1
theorem k0_off96_inb : ∀ (k0_t1 : Fin k0_t1_loop.trips) (v1871 : BitVec 32) (k0_hw39 : k0_chk39 k0_t1 v1871), ∀ a, (k0_off96 k0_t1 v1871) a + S1x16.size a ≤ S8x6400.size a := fun k0_t1 v1871 k0_hw39 => k0_hw39.2.2.2.2.2.2.2.1
theorem k0_t60_ok : ∀ (k0_t1 : Fin k0_t1_loop.trips) (v1871 : BitVec 32) (k0_hw39 : k0_chk39 k0_t1 v1871), (k0_t60_loop k0_t1 v1871).OK := fun k0_t1 v1871 k0_hw39 => k0_hw39.2.2.2.2.2.2.2.2.1
theorem k0_mult98_dvd : ∀ (k0_t1 : Fin k0_t1_loop.trips) (v1871 : BitVec 32) (k0_hw39 : k0_chk39 k0_t1 v1871) (k0_t60 : Fin (k0_t60_loop k0_t1 v1871).trips), 16 ∣ (k0_mult98 k0_t1 v1871 k0_t60).toNat := fun k0_t1 v1871 k0_hw39 k0_t60 => k0_hw39.2.2.2.2.2.2.2.2.2.1 k0_t60
theorem k0_off97_inb : ∀ (k0_t1 : Fin k0_t1_loop.trips) (v1871 : BitVec 32) (k0_hw39 : k0_chk39 k0_t1 v1871) (k0_t60 : Fin (k0_t60_loop k0_t1 v1871).trips), ∀ a, (k0_off97 k0_t1 v1871 k0_t60) a + S1x16.size a ≤ S8x6400.size a := fun k0_t1 v1871 k0_hw39 k0_t60 => k0_hw39.2.2.2.2.2.2.2.2.2.2.1 k0_t60
theorem k0_t61_ok : ∀ (k0_t1 : Fin k0_t1_loop.trips) (v1871 : BitVec 32) (k0_hw39 : k0_chk39 k0_t1 v1871), (k0_t61_loop k0_t1 v1871).OK := fun k0_t1 v1871 k0_hw39 => k0_hw39.2.2.2.2.2.2.2.2.2.2.2.1
theorem k0_mult99_dvd : ∀ (k0_t1 : Fin k0_t1_loop.trips) (v1871 : BitVec 32) (k0_hw39 : k0_chk39 k0_t1 v1871) (k0_t61 : Fin (k0_t61_loop k0_t1 v1871).trips), 16 ∣ (k0_mult99 k0_t1 v1871 k0_t61).toNat := fun k0_t1 v1871 k0_hw39 k0_t61 => k0_hw39.2.2.2.2.2.2.2.2.2.2.2.2.1 k0_t61
theorem k0_off98_inb : ∀ (k0_t1 : Fin k0_t1_loop.trips) (v1871 : BitVec 32) (k0_hw39 : k0_chk39 k0_t1 v1871) (k0_t61 : Fin (k0_t61_loop k0_t1 v1871).trips), ∀ a, (k0_off98 k0_t1 v1871 k0_t61) a + S1x16.size a ≤ S8x6400.size a := fun k0_t1 v1871 k0_hw39 k0_t61 => k0_hw39.2.2.2.2.2.2.2.2.2.2.2.2.2 k0_t61

@[reducible] def k0_t62_loop (k0_t1 : Fin k0_t1_loop.trips) (v1912 : BitVec 32) : Scf.Loop 32 :=
  let c0_i32_808 : BitVec 32 := 0#32
  let c6400_i32_806 : BitVec 32 := 6400#32
  let c0_i32_805 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1913 : BitVec 32 := Scalar.subi v1912 v1623
  let v1914 : BitVec 32 := Scalar.maxsi c0_i32_805 v1913
  let v1915 : BitVec 32 := Scalar.minsi c6400_i32_806 v1914
  let c4_i32_807 : BitVec 32 := 4#32
  let v1916 : BitVec 32 := Scalar.shrui v1915 c4_i32_807
  let v1917 : BitVec 32 := Scalar.subi v1916 c0_i32_808
  let c1_i32_809 : BitVec 32 := 1#32
  let v1919 : BitVec 32 := Scalar.divsi v1917 c1_i32_809
  let v1920 : BitVec 32 := Scalar.muli v1919 c1_i32_809
  let v1921 : BitVec 32 := Scalar.addi c0_i32_808 v1920
  let c1_i32_810 : BitVec 32 := 1#32
  ⟨c0_i32_808, v1921, c1_i32_810⟩

def k0_mult100 (k0_t1 : Fin k0_t1_loop.trips) (v1912 : BitVec 32) (k0_t62 : Fin (k0_t62_loop k0_t1 v1912).trips) : BitVec 32 :=
  let c0_i32_808 : BitVec 32 := 0#32
  let c1_i32_810 : BitVec 32 := 1#32
  let arg27 : BitVec 32 := Scf.iv c0_i32_808 c1_i32_810 k0_t62
  let c16_i32_826 : BitVec 32 := 16#32
  let v1958 : BitVec 32 := Scalar.muli arg27 c16_i32_826
  v1958
def k0_off99 (k0_t1 : Fin k0_t1_loop.trips) (v1912 : BitVec 32) (k0_t62 : Fin (k0_t62_loop k0_t1 v1912).trips) : Fin 2 → Nat :=
  let c7_i32_827 : BitVec 32 := 7#32
  let v1960 : Index := Scalar.indexCast c7_i32_827
  let c0_i32_808 : BitVec 32 := 0#32
  let c1_i32_810 : BitVec 32 := 1#32
  let arg27 : BitVec 32 := Scf.iv c0_i32_808 c1_i32_810 k0_t62
  let c16_i32_826 : BitVec 32 := 16#32
  let v1958 : BitVec 32 := Scalar.muli arg27 c16_i32_826
  let v1959 : BitVec 32 := v1958
  let v1961 : Index := Scalar.indexCast v1959
  ![7, v1961.toNat]
@[reducible] def k0_t63_loop (k0_t1 : Fin k0_t1_loop.trips) (v1912 : BitVec 32) : Scf.Loop 32 :=
  let c0_i32_808 : BitVec 32 := 0#32
  let c6400_i32_806 : BitVec 32 := 6400#32
  let c0_i32_805 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1913 : BitVec 32 := Scalar.subi v1912 v1623
  let v1914 : BitVec 32 := Scalar.maxsi c0_i32_805 v1913
  let v1915 : BitVec 32 := Scalar.minsi c6400_i32_806 v1914
  let c4_i32_807 : BitVec 32 := 4#32
  let v1916 : BitVec 32 := Scalar.shrui v1915 c4_i32_807
  let v1917 : BitVec 32 := Scalar.subi v1916 c0_i32_808
  let c1_i32_809 : BitVec 32 := 1#32
  let v1919 : BitVec 32 := Scalar.divsi v1917 c1_i32_809
  let v1920 : BitVec 32 := Scalar.muli v1919 c1_i32_809
  let v1921 : BitVec 32 := Scalar.addi c0_i32_808 v1920
  let v1918 : BitVec 32 := Scalar.addi c0_i32_808 v1917
  let c1_i32_811 : BitVec 32 := 1#32
  ⟨v1921, v1918, c1_i32_811⟩
def k0_mult101 (k0_t1 : Fin k0_t1_loop.trips) (v1912 : BitVec 32) (k0_t63 : Fin (k0_t63_loop k0_t1 v1912).trips) : BitVec 32 :=
  let c0_i32_808 : BitVec 32 := 0#32
  let c6400_i32_806 : BitVec 32 := 6400#32
  let c0_i32_805 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1913 : BitVec 32 := Scalar.subi v1912 v1623
  let v1914 : BitVec 32 := Scalar.maxsi c0_i32_805 v1913
  let v1915 : BitVec 32 := Scalar.minsi c6400_i32_806 v1914
  let c4_i32_807 : BitVec 32 := 4#32
  let v1916 : BitVec 32 := Scalar.shrui v1915 c4_i32_807
  let v1917 : BitVec 32 := Scalar.subi v1916 c0_i32_808
  let c1_i32_809 : BitVec 32 := 1#32
  let v1919 : BitVec 32 := Scalar.divsi v1917 c1_i32_809
  let v1920 : BitVec 32 := Scalar.muli v1919 c1_i32_809
  let v1921 : BitVec 32 := Scalar.addi c0_i32_808 v1920
  let c1_i32_811 : BitVec 32 := 1#32
  let arg27 : BitVec 32 := Scf.iv v1921 c1_i32_811 k0_t63
  let c16_i32_826 : BitVec 32 := 16#32
  let v1958 : BitVec 32 := Scalar.muli arg27 c16_i32_826
  v1958
def k0_off100 (k0_t1 : Fin k0_t1_loop.trips) (v1912 : BitVec 32) (k0_t63 : Fin (k0_t63_loop k0_t1 v1912).trips) : Fin 2 → Nat :=
  let c7_i32_827 : BitVec 32 := 7#32
  let v1960 : Index := Scalar.indexCast c7_i32_827
  let c0_i32_808 : BitVec 32 := 0#32
  let c6400_i32_806 : BitVec 32 := 6400#32
  let c0_i32_805 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1913 : BitVec 32 := Scalar.subi v1912 v1623
  let v1914 : BitVec 32 := Scalar.maxsi c0_i32_805 v1913
  let v1915 : BitVec 32 := Scalar.minsi c6400_i32_806 v1914
  let c4_i32_807 : BitVec 32 := 4#32
  let v1916 : BitVec 32 := Scalar.shrui v1915 c4_i32_807
  let v1917 : BitVec 32 := Scalar.subi v1916 c0_i32_808
  let c1_i32_809 : BitVec 32 := 1#32
  let v1919 : BitVec 32 := Scalar.divsi v1917 c1_i32_809
  let v1920 : BitVec 32 := Scalar.muli v1919 c1_i32_809
  let v1921 : BitVec 32 := Scalar.addi c0_i32_808 v1920
  let c1_i32_811 : BitVec 32 := 1#32
  let arg27 : BitVec 32 := Scf.iv v1921 c1_i32_811 k0_t63
  let c16_i32_826 : BitVec 32 := 16#32
  let v1958 : BitVec 32 := Scalar.muli arg27 c16_i32_826
  let v1959 : BitVec 32 := v1958
  let v1961 : Index := Scalar.indexCast v1959
  ![7, v1961.toNat]
def k0_mult102 (k0_t1 : Fin k0_t1_loop.trips) (v1912 : BitVec 32) : BitVec 32 :=
  let c6400_i32_806 : BitVec 32 := 6400#32
  let c0_i32_805 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1913 : BitVec 32 := Scalar.subi v1912 v1623
  let v1914 : BitVec 32 := Scalar.maxsi c0_i32_805 v1913
  let v1915 : BitVec 32 := Scalar.minsi c6400_i32_806 v1914
  let c4_i32_807 : BitVec 32 := 4#32
  let v1916 : BitVec 32 := Scalar.shrui v1915 c4_i32_807
  let c399_i32_812 : BitVec 32 := 399#32
  let v1924 : BitVec 32 := Scalar.minsi v1916 c399_i32_812
  let c16_i32_813 : BitVec 32 := 16#32
  let v1925 : BitVec 32 := Scalar.muli v1924 c16_i32_813
  v1925
def k0_off101 (k0_t1 : Fin k0_t1_loop.trips) (v1912 : BitVec 32) : Fin 2 → Nat :=
  let c7_i32_814 : BitVec 32 := 7#32
  let v1927 : Index := Scalar.indexCast c7_i32_814
  let c6400_i32_806 : BitVec 32 := 6400#32
  let c0_i32_805 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1913 : BitVec 32 := Scalar.subi v1912 v1623
  let v1914 : BitVec 32 := Scalar.maxsi c0_i32_805 v1913
  let v1915 : BitVec 32 := Scalar.minsi c6400_i32_806 v1914
  let c4_i32_807 : BitVec 32 := 4#32
  let v1916 : BitVec 32 := Scalar.shrui v1915 c4_i32_807
  let c399_i32_812 : BitVec 32 := 399#32
  let v1924 : BitVec 32 := Scalar.minsi v1916 c399_i32_812
  let c16_i32_813 : BitVec 32 := 16#32
  let v1925 : BitVec 32 := Scalar.muli v1924 c16_i32_813
  let v1926 : BitVec 32 := v1925
  let v1928 : Index := Scalar.indexCast v1926
  ![7, v1928.toNat]
@[reducible] def k0_t64_loop (k0_t1 : Fin k0_t1_loop.trips) (v1912 : BitVec 32) : Scf.Loop 32 :=
  let c6400_i32_806 : BitVec 32 := 6400#32
  let c0_i32_805 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1913 : BitVec 32 := Scalar.subi v1912 v1623
  let v1914 : BitVec 32 := Scalar.maxsi c0_i32_805 v1913
  let v1915 : BitVec 32 := Scalar.minsi c6400_i32_806 v1914
  let c4_i32_807 : BitVec 32 := 4#32
  let v1916 : BitVec 32 := Scalar.shrui v1915 c4_i32_807
  let c1_i32_817 : BitVec 32 := 1#32
  let v1944 : BitVec 32 := Scalar.addi v1916 c1_i32_817
  let c400_i32_818 : BitVec 32 := 400#32
  let v1945 : BitVec 32 := Scalar.subi c400_i32_818 v1944
  let c1_i32_819 : BitVec 32 := 1#32
  let v1947 : BitVec 32 := Scalar.divsi v1945 c1_i32_819
  let v1948 : BitVec 32 := Scalar.muli v1947 c1_i32_819
  let v1949 : BitVec 32 := Scalar.addi v1944 v1948
  let c1_i32_820 : BitVec 32 := 1#32
  ⟨v1944, v1949, c1_i32_820⟩
def k0_mult103 (k0_t1 : Fin k0_t1_loop.trips) (v1912 : BitVec 32) (k0_t64 : Fin (k0_t64_loop k0_t1 v1912).trips) : BitVec 32 :=
  let c6400_i32_806 : BitVec 32 := 6400#32
  let c0_i32_805 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1913 : BitVec 32 := Scalar.subi v1912 v1623
  let v1914 : BitVec 32 := Scalar.maxsi c0_i32_805 v1913
  let v1915 : BitVec 32 := Scalar.minsi c6400_i32_806 v1914
  let c4_i32_807 : BitVec 32 := 4#32
  let v1916 : BitVec 32 := Scalar.shrui v1915 c4_i32_807
  let c1_i32_817 : BitVec 32 := 1#32
  let v1944 : BitVec 32 := Scalar.addi v1916 c1_i32_817
  let c1_i32_820 : BitVec 32 := 1#32
  let arg27 : BitVec 32 := Scf.iv v1944 c1_i32_820 k0_t64
  let c16_i32_826 : BitVec 32 := 16#32
  let v1958 : BitVec 32 := Scalar.muli arg27 c16_i32_826
  v1958
def k0_off102 (k0_t1 : Fin k0_t1_loop.trips) (v1912 : BitVec 32) (k0_t64 : Fin (k0_t64_loop k0_t1 v1912).trips) : Fin 2 → Nat :=
  let c7_i32_827 : BitVec 32 := 7#32
  let v1960 : Index := Scalar.indexCast c7_i32_827
  let c6400_i32_806 : BitVec 32 := 6400#32
  let c0_i32_805 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1913 : BitVec 32 := Scalar.subi v1912 v1623
  let v1914 : BitVec 32 := Scalar.maxsi c0_i32_805 v1913
  let v1915 : BitVec 32 := Scalar.minsi c6400_i32_806 v1914
  let c4_i32_807 : BitVec 32 := 4#32
  let v1916 : BitVec 32 := Scalar.shrui v1915 c4_i32_807
  let c1_i32_817 : BitVec 32 := 1#32
  let v1944 : BitVec 32 := Scalar.addi v1916 c1_i32_817
  let c1_i32_820 : BitVec 32 := 1#32
  let arg27 : BitVec 32 := Scf.iv v1944 c1_i32_820 k0_t64
  let c16_i32_826 : BitVec 32 := 16#32
  let v1958 : BitVec 32 := Scalar.muli arg27 c16_i32_826
  let v1959 : BitVec 32 := v1958
  let v1961 : Index := Scalar.indexCast v1959
  ![7, v1961.toNat]
@[reducible] def k0_t65_loop (k0_t1 : Fin k0_t1_loop.trips) (v1912 : BitVec 32) : Scf.Loop 32 :=
  let c6400_i32_806 : BitVec 32 := 6400#32
  let c0_i32_805 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1913 : BitVec 32 := Scalar.subi v1912 v1623
  let v1914 : BitVec 32 := Scalar.maxsi c0_i32_805 v1913
  let v1915 : BitVec 32 := Scalar.minsi c6400_i32_806 v1914
  let c4_i32_807 : BitVec 32 := 4#32
  let v1916 : BitVec 32 := Scalar.shrui v1915 c4_i32_807
  let c1_i32_817 : BitVec 32 := 1#32
  let v1944 : BitVec 32 := Scalar.addi v1916 c1_i32_817
  let c400_i32_818 : BitVec 32 := 400#32
  let v1945 : BitVec 32 := Scalar.subi c400_i32_818 v1944
  let c1_i32_819 : BitVec 32 := 1#32
  let v1947 : BitVec 32 := Scalar.divsi v1945 c1_i32_819
  let v1948 : BitVec 32 := Scalar.muli v1947 c1_i32_819
  let v1949 : BitVec 32 := Scalar.addi v1944 v1948
  let v1946 : BitVec 32 := Scalar.addi v1944 v1945
  let c1_i32_821 : BitVec 32 := 1#32
  ⟨v1949, v1946, c1_i32_821⟩
def k0_mult104 (k0_t1 : Fin k0_t1_loop.trips) (v1912 : BitVec 32) (k0_t65 : Fin (k0_t65_loop k0_t1 v1912).trips) : BitVec 32 :=
  let c6400_i32_806 : BitVec 32 := 6400#32
  let c0_i32_805 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1913 : BitVec 32 := Scalar.subi v1912 v1623
  let v1914 : BitVec 32 := Scalar.maxsi c0_i32_805 v1913
  let v1915 : BitVec 32 := Scalar.minsi c6400_i32_806 v1914
  let c4_i32_807 : BitVec 32 := 4#32
  let v1916 : BitVec 32 := Scalar.shrui v1915 c4_i32_807
  let c1_i32_817 : BitVec 32 := 1#32
  let v1944 : BitVec 32 := Scalar.addi v1916 c1_i32_817
  let c400_i32_818 : BitVec 32 := 400#32
  let v1945 : BitVec 32 := Scalar.subi c400_i32_818 v1944
  let c1_i32_819 : BitVec 32 := 1#32
  let v1947 : BitVec 32 := Scalar.divsi v1945 c1_i32_819
  let v1948 : BitVec 32 := Scalar.muli v1947 c1_i32_819
  let v1949 : BitVec 32 := Scalar.addi v1944 v1948
  let c1_i32_821 : BitVec 32 := 1#32
  let arg27 : BitVec 32 := Scf.iv v1949 c1_i32_821 k0_t65
  let c16_i32_826 : BitVec 32 := 16#32
  let v1958 : BitVec 32 := Scalar.muli arg27 c16_i32_826
  v1958
def k0_off103 (k0_t1 : Fin k0_t1_loop.trips) (v1912 : BitVec 32) (k0_t65 : Fin (k0_t65_loop k0_t1 v1912).trips) : Fin 2 → Nat :=
  let c7_i32_827 : BitVec 32 := 7#32
  let v1960 : Index := Scalar.indexCast c7_i32_827
  let c6400_i32_806 : BitVec 32 := 6400#32
  let c0_i32_805 : BitVec 32 := 0#32
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c6400_i32_685 : BitVec 32 := 6400#32
  let v1623 : BitVec 32 := Scalar.addi v1280 c6400_i32_685
  let v1913 : BitVec 32 := Scalar.subi v1912 v1623
  let v1914 : BitVec 32 := Scalar.maxsi c0_i32_805 v1913
  let v1915 : BitVec 32 := Scalar.minsi c6400_i32_806 v1914
  let c4_i32_807 : BitVec 32 := 4#32
  let v1916 : BitVec 32 := Scalar.shrui v1915 c4_i32_807
  let c1_i32_817 : BitVec 32 := 1#32
  let v1944 : BitVec 32 := Scalar.addi v1916 c1_i32_817
  let c400_i32_818 : BitVec 32 := 400#32
  let v1945 : BitVec 32 := Scalar.subi c400_i32_818 v1944
  let c1_i32_819 : BitVec 32 := 1#32
  let v1947 : BitVec 32 := Scalar.divsi v1945 c1_i32_819
  let v1948 : BitVec 32 := Scalar.muli v1947 c1_i32_819
  let v1949 : BitVec 32 := Scalar.addi v1944 v1948
  let c1_i32_821 : BitVec 32 := 1#32
  let arg27 : BitVec 32 := Scf.iv v1949 c1_i32_821 k0_t65
  let c16_i32_826 : BitVec 32 := 16#32
  let v1958 : BitVec 32 := Scalar.muli arg27 c16_i32_826
  let v1959 : BitVec 32 := v1958
  let v1961 : Index := Scalar.indexCast v1959
  ![7, v1961.toNat]

def k0_chk40 (k0_t1 : Fin k0_t1_loop.trips) (v1912 : BitVec 32) : Prop :=
  ((k0_t62_loop k0_t1 v1912).OK) ∧
  (∀ k0_t62 : Fin (k0_t62_loop k0_t1 v1912).trips, 16 ∣ (k0_mult100 k0_t1 v1912 k0_t62).toNat) ∧
  (∀ k0_t62 : Fin (k0_t62_loop k0_t1 v1912).trips, ∀ a, (k0_off99 k0_t1 v1912 k0_t62) a + S1x16.size a ≤ S8x6400.size a) ∧
  ((k0_t63_loop k0_t1 v1912).OK) ∧
  (∀ k0_t63 : Fin (k0_t63_loop k0_t1 v1912).trips, 16 ∣ (k0_mult101 k0_t1 v1912 k0_t63).toNat) ∧
  (∀ k0_t63 : Fin (k0_t63_loop k0_t1 v1912).trips, ∀ a, (k0_off100 k0_t1 v1912 k0_t63) a + S1x16.size a ≤ S8x6400.size a) ∧
  (16 ∣ (k0_mult102 k0_t1 v1912).toNat) ∧
  (∀ a, (k0_off101 k0_t1 v1912) a + S1x16.size a ≤ S8x6400.size a) ∧
  ((k0_t64_loop k0_t1 v1912).OK) ∧
  (∀ k0_t64 : Fin (k0_t64_loop k0_t1 v1912).trips, 16 ∣ (k0_mult103 k0_t1 v1912 k0_t64).toNat) ∧
  (∀ k0_t64 : Fin (k0_t64_loop k0_t1 v1912).trips, ∀ a, (k0_off102 k0_t1 v1912 k0_t64) a + S1x16.size a ≤ S8x6400.size a) ∧
  ((k0_t65_loop k0_t1 v1912).OK) ∧
  (∀ k0_t65 : Fin (k0_t65_loop k0_t1 v1912).trips, 16 ∣ (k0_mult104 k0_t1 v1912 k0_t65).toNat) ∧
  (∀ k0_t65 : Fin (k0_t65_loop k0_t1 v1912).trips, ∀ a, (k0_off103 k0_t1 v1912 k0_t65) a + S1x16.size a ≤ S8x6400.size a)
theorem k0_t62_ok : ∀ (k0_t1 : Fin k0_t1_loop.trips) (v1912 : BitVec 32) (k0_hw40 : k0_chk40 k0_t1 v1912), (k0_t62_loop k0_t1 v1912).OK := fun k0_t1 v1912 k0_hw40 => k0_hw40.1
theorem k0_mult100_dvd : ∀ (k0_t1 : Fin k0_t1_loop.trips) (v1912 : BitVec 32) (k0_hw40 : k0_chk40 k0_t1 v1912) (k0_t62 : Fin (k0_t62_loop k0_t1 v1912).trips), 16 ∣ (k0_mult100 k0_t1 v1912 k0_t62).toNat := fun k0_t1 v1912 k0_hw40 k0_t62 => k0_hw40.2.1 k0_t62
theorem k0_off99_inb : ∀ (k0_t1 : Fin k0_t1_loop.trips) (v1912 : BitVec 32) (k0_hw40 : k0_chk40 k0_t1 v1912) (k0_t62 : Fin (k0_t62_loop k0_t1 v1912).trips), ∀ a, (k0_off99 k0_t1 v1912 k0_t62) a + S1x16.size a ≤ S8x6400.size a := fun k0_t1 v1912 k0_hw40 k0_t62 => k0_hw40.2.2.1 k0_t62
theorem k0_t63_ok : ∀ (k0_t1 : Fin k0_t1_loop.trips) (v1912 : BitVec 32) (k0_hw40 : k0_chk40 k0_t1 v1912), (k0_t63_loop k0_t1 v1912).OK := fun k0_t1 v1912 k0_hw40 => k0_hw40.2.2.2.1
theorem k0_mult101_dvd : ∀ (k0_t1 : Fin k0_t1_loop.trips) (v1912 : BitVec 32) (k0_hw40 : k0_chk40 k0_t1 v1912) (k0_t63 : Fin (k0_t63_loop k0_t1 v1912).trips), 16 ∣ (k0_mult101 k0_t1 v1912 k0_t63).toNat := fun k0_t1 v1912 k0_hw40 k0_t63 => k0_hw40.2.2.2.2.1 k0_t63
theorem k0_off100_inb : ∀ (k0_t1 : Fin k0_t1_loop.trips) (v1912 : BitVec 32) (k0_hw40 : k0_chk40 k0_t1 v1912) (k0_t63 : Fin (k0_t63_loop k0_t1 v1912).trips), ∀ a, (k0_off100 k0_t1 v1912 k0_t63) a + S1x16.size a ≤ S8x6400.size a := fun k0_t1 v1912 k0_hw40 k0_t63 => k0_hw40.2.2.2.2.2.1 k0_t63
theorem k0_mult102_dvd : ∀ (k0_t1 : Fin k0_t1_loop.trips) (v1912 : BitVec 32) (k0_hw40 : k0_chk40 k0_t1 v1912), 16 ∣ (k0_mult102 k0_t1 v1912).toNat := fun k0_t1 v1912 k0_hw40 => k0_hw40.2.2.2.2.2.2.1
theorem k0_off101_inb : ∀ (k0_t1 : Fin k0_t1_loop.trips) (v1912 : BitVec 32) (k0_hw40 : k0_chk40 k0_t1 v1912), ∀ a, (k0_off101 k0_t1 v1912) a + S1x16.size a ≤ S8x6400.size a := fun k0_t1 v1912 k0_hw40 => k0_hw40.2.2.2.2.2.2.2.1
theorem k0_t64_ok : ∀ (k0_t1 : Fin k0_t1_loop.trips) (v1912 : BitVec 32) (k0_hw40 : k0_chk40 k0_t1 v1912), (k0_t64_loop k0_t1 v1912).OK := fun k0_t1 v1912 k0_hw40 => k0_hw40.2.2.2.2.2.2.2.2.1
theorem k0_mult103_dvd : ∀ (k0_t1 : Fin k0_t1_loop.trips) (v1912 : BitVec 32) (k0_hw40 : k0_chk40 k0_t1 v1912) (k0_t64 : Fin (k0_t64_loop k0_t1 v1912).trips), 16 ∣ (k0_mult103 k0_t1 v1912 k0_t64).toNat := fun k0_t1 v1912 k0_hw40 k0_t64 => k0_hw40.2.2.2.2.2.2.2.2.2.1 k0_t64
theorem k0_off102_inb : ∀ (k0_t1 : Fin k0_t1_loop.trips) (v1912 : BitVec 32) (k0_hw40 : k0_chk40 k0_t1 v1912) (k0_t64 : Fin (k0_t64_loop k0_t1 v1912).trips), ∀ a, (k0_off102 k0_t1 v1912 k0_t64) a + S1x16.size a ≤ S8x6400.size a := fun k0_t1 v1912 k0_hw40 k0_t64 => k0_hw40.2.2.2.2.2.2.2.2.2.2.1 k0_t64
theorem k0_t65_ok : ∀ (k0_t1 : Fin k0_t1_loop.trips) (v1912 : BitVec 32) (k0_hw40 : k0_chk40 k0_t1 v1912), (k0_t65_loop k0_t1 v1912).OK := fun k0_t1 v1912 k0_hw40 => k0_hw40.2.2.2.2.2.2.2.2.2.2.2.1
theorem k0_mult104_dvd : ∀ (k0_t1 : Fin k0_t1_loop.trips) (v1912 : BitVec 32) (k0_hw40 : k0_chk40 k0_t1 v1912) (k0_t65 : Fin (k0_t65_loop k0_t1 v1912).trips), 16 ∣ (k0_mult104 k0_t1 v1912 k0_t65).toNat := fun k0_t1 v1912 k0_hw40 k0_t65 => k0_hw40.2.2.2.2.2.2.2.2.2.2.2.2.1 k0_t65
theorem k0_off103_inb : ∀ (k0_t1 : Fin k0_t1_loop.trips) (v1912 : BitVec 32) (k0_hw40 : k0_chk40 k0_t1 v1912) (k0_t65 : Fin (k0_t65_loop k0_t1 v1912).trips), ∀ a, (k0_off103 k0_t1 v1912 k0_t65) a + S1x16.size a ≤ S8x6400.size a := fun k0_t1 v1912 k0_hw40 k0_t65 => k0_hw40.2.2.2.2.2.2.2.2.2.2.2.2.2 k0_t65

def k0_cond2 (k0_t1 : Fin k0_t1_loop.trips) : BitVec 1 :=
  let c0_i32_145 : BitVec 32 := 0#32
  let c1_i32_147 : BitVec 32 := 1#32
  let arg18 : BitVec 32 := Scf.iv c0_i32_145 c1_i32_147 k0_t1
  let c5_i32_822 : BitVec 32 := 5#32
  let v1952 : BitVec 1 := Scalar.cmpi .sle arg18 c5_i32_822
  let v1953 : BitVec 32 := Scalar.extui v1952
  let c0_i32_823 : BitVec 32 := 0#32
  let v1954 : BitVec 1 := Scalar.cmpi .ne v1953 c0_i32_823
  v1954

def k0_mult105 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  v2
def k0_off104 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v1959 : BitVec 32 := v2
  let c0_i32_145 : BitVec 32 := 0#32
  let c1_i32_147 : BitVec 32 := 1#32
  let arg18 : BitVec 32 := Scf.iv c0_i32_145 c1_i32_147 k0_t1
  let c12800_i32 : BitVec 32 := 12800#32
  let v1280 : BitVec 32 := Scalar.muli arg18 c12800_i32
  let c19200_i32 : BitVec 32 := 19200#32
  let v1958 : BitVec 32 := Scalar.addi v1280 c19200_i32
  ![v1959.toNat, v1958.toNat]
def k0_cond3 (k0_t1 : Fin k0_t1_loop.trips) : BitVec 1 :=
  let c0_i32_145 : BitVec 32 := 0#32
  let c1_i32_147 : BitVec 32 := 1#32
  let arg18 : BitVec 32 := Scf.iv c0_i32_145 c1_i32_147 k0_t1
  let c6_i32_824 : BitVec 32 := 6#32
  let v1955 : BitVec 1 := Scalar.cmpi .eq arg18 c6_i32_824
  let v1956 : BitVec 32 := Scalar.extui v1955
  let c0_i32_825 : BitVec 32 := 0#32
  let v1957 : BitVec 1 := Scalar.cmpi .ne v1956 c0_i32_825
  v1957

def k0_mult106 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  v2
def k0_off105 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v1958 : BitVec 32 := v2
  let c96000_i32_828 : BitVec 32 := 96000#32
  ![v1958.toNat, 96000]
def k0_mult107 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  v2
def k0_off106 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v292 : BitVec 32 := v2
  let c89600_i32 : BitVec 32 := 89600#32
  ![v292.toNat, 89600]
@[reducible] def k0_t66_loop (v298 : BitVec 32) : Scf.Loop 32 :=
  let c0_i32_158 : BitVec 32 := 0#32
  let c6400_i32_156 : BitVec 32 := 6400#32
  let c0_i32_155 : BitVec 32 := 0#32
  let c89600_i32_154 : BitVec 32 := 89600#32
  let v299 : BitVec 32 := Scalar.subi v298 c89600_i32_154
  let v300 : BitVec 32 := Scalar.maxsi c0_i32_155 v299
  let v301 : BitVec 32 := Scalar.minsi c6400_i32_156 v300
  let c4_i32_157 : BitVec 32 := 4#32
  let v302 : BitVec 32 := Scalar.shrui v301 c4_i32_157
  let v303 : BitVec 32 := Scalar.subi v302 c0_i32_158
  let c1_i32_159 : BitVec 32 := 1#32
  let v305 : BitVec 32 := Scalar.divsi v303 c1_i32_159
  let v306 : BitVec 32 := Scalar.muli v305 c1_i32_159
  let v307 : BitVec 32 := Scalar.addi c0_i32_158 v306
  let c1_i32_160 : BitVec 32 := 1#32
  ⟨c0_i32_158, v307, c1_i32_160⟩

def k0_mult108 (v298 : BitVec 32) (k0_t66 : Fin (k0_t66_loop v298).trips) : BitVec 32 :=
  let c0_i32_158 : BitVec 32 := 0#32
  let c1_i32_160 : BitVec 32 := 1#32
  let arg18 : BitVec 32 := Scf.iv c0_i32_158 c1_i32_160 k0_t66
  let c16_i32_538 : BitVec 32 := 16#32
  let v1280 : BitVec 32 := Scalar.muli arg18 c16_i32_538
  v1280
def k0_off107 (v298 : BitVec 32) (k0_t66 : Fin (k0_t66_loop v298).trips) : Fin 2 → Nat :=
  let c0_i32_539 : BitVec 32 := 0#32
  let v1282 : Index := Scalar.indexCast c0_i32_539
  let c0_i32_158 : BitVec 32 := 0#32
  let c1_i32_160 : BitVec 32 := 1#32
  let arg18 : BitVec 32 := Scf.iv c0_i32_158 c1_i32_160 k0_t66
  let c16_i32_538 : BitVec 32 := 16#32
  let v1280 : BitVec 32 := Scalar.muli arg18 c16_i32_538
  let v1281 : BitVec 32 := v1280
  let v1283 : Index := Scalar.indexCast v1281
  ![0, v1283.toNat]
@[reducible] def k0_t67_loop (v298 : BitVec 32) : Scf.Loop 32 :=
  let c0_i32_158 : BitVec 32 := 0#32
  let c6400_i32_156 : BitVec 32 := 6400#32
  let c0_i32_155 : BitVec 32 := 0#32
  let c89600_i32_154 : BitVec 32 := 89600#32
  let v299 : BitVec 32 := Scalar.subi v298 c89600_i32_154
  let v300 : BitVec 32 := Scalar.maxsi c0_i32_155 v299
  let v301 : BitVec 32 := Scalar.minsi c6400_i32_156 v300
  let c4_i32_157 : BitVec 32 := 4#32
  let v302 : BitVec 32 := Scalar.shrui v301 c4_i32_157
  let v303 : BitVec 32 := Scalar.subi v302 c0_i32_158
  let c1_i32_159 : BitVec 32 := 1#32
  let v305 : BitVec 32 := Scalar.divsi v303 c1_i32_159
  let v306 : BitVec 32 := Scalar.muli v305 c1_i32_159
  let v307 : BitVec 32 := Scalar.addi c0_i32_158 v306
  let v304 : BitVec 32 := Scalar.addi c0_i32_158 v303
  let c1_i32_161 : BitVec 32 := 1#32
  ⟨v307, v304, c1_i32_161⟩
def k0_mult109 (v298 : BitVec 32) (k0_t67 : Fin (k0_t67_loop v298).trips) : BitVec 32 :=
  let c0_i32_158 : BitVec 32 := 0#32
  let c6400_i32_156 : BitVec 32 := 6400#32
  let c0_i32_155 : BitVec 32 := 0#32
  let c89600_i32_154 : BitVec 32 := 89600#32
  let v299 : BitVec 32 := Scalar.subi v298 c89600_i32_154
  let v300 : BitVec 32 := Scalar.maxsi c0_i32_155 v299
  let v301 : BitVec 32 := Scalar.minsi c6400_i32_156 v300
  let c4_i32_157 : BitVec 32 := 4#32
  let v302 : BitVec 32 := Scalar.shrui v301 c4_i32_157
  let v303 : BitVec 32 := Scalar.subi v302 c0_i32_158
  let c1_i32_159 : BitVec 32 := 1#32
  let v305 : BitVec 32 := Scalar.divsi v303 c1_i32_159
  let v306 : BitVec 32 := Scalar.muli v305 c1_i32_159
  let v307 : BitVec 32 := Scalar.addi c0_i32_158 v306
  let c1_i32_161 : BitVec 32 := 1#32
  let arg18 : BitVec 32 := Scf.iv v307 c1_i32_161 k0_t67
  let c16_i32_538 : BitVec 32 := 16#32
  let v1280 : BitVec 32 := Scalar.muli arg18 c16_i32_538
  v1280
def k0_off108 (v298 : BitVec 32) (k0_t67 : Fin (k0_t67_loop v298).trips) : Fin 2 → Nat :=
  let c0_i32_539 : BitVec 32 := 0#32
  let v1282 : Index := Scalar.indexCast c0_i32_539
  let c0_i32_158 : BitVec 32 := 0#32
  let c6400_i32_156 : BitVec 32 := 6400#32
  let c0_i32_155 : BitVec 32 := 0#32
  let c89600_i32_154 : BitVec 32 := 89600#32
  let v299 : BitVec 32 := Scalar.subi v298 c89600_i32_154
  let v300 : BitVec 32 := Scalar.maxsi c0_i32_155 v299
  let v301 : BitVec 32 := Scalar.minsi c6400_i32_156 v300
  let c4_i32_157 : BitVec 32 := 4#32
  let v302 : BitVec 32 := Scalar.shrui v301 c4_i32_157
  let v303 : BitVec 32 := Scalar.subi v302 c0_i32_158
  let c1_i32_159 : BitVec 32 := 1#32
  let v305 : BitVec 32 := Scalar.divsi v303 c1_i32_159
  let v306 : BitVec 32 := Scalar.muli v305 c1_i32_159
  let v307 : BitVec 32 := Scalar.addi c0_i32_158 v306
  let c1_i32_161 : BitVec 32 := 1#32
  let arg18 : BitVec 32 := Scf.iv v307 c1_i32_161 k0_t67
  let c16_i32_538 : BitVec 32 := 16#32
  let v1280 : BitVec 32 := Scalar.muli arg18 c16_i32_538
  let v1281 : BitVec 32 := v1280
  let v1283 : Index := Scalar.indexCast v1281
  ![0, v1283.toNat]
def k0_mult110 (v298 : BitVec 32) : BitVec 32 :=
  let c6400_i32_156 : BitVec 32 := 6400#32
  let c0_i32_155 : BitVec 32 := 0#32
  let c89600_i32_154 : BitVec 32 := 89600#32
  let v299 : BitVec 32 := Scalar.subi v298 c89600_i32_154
  let v300 : BitVec 32 := Scalar.maxsi c0_i32_155 v299
  let v301 : BitVec 32 := Scalar.minsi c6400_i32_156 v300
  let c4_i32_157 : BitVec 32 := 4#32
  let v302 : BitVec 32 := Scalar.shrui v301 c4_i32_157
  let c399_i32 : BitVec 32 := 399#32
  let v310 : BitVec 32 := Scalar.minsi v302 c399_i32
  let c16_i32_162 : BitVec 32 := 16#32
  let v311 : BitVec 32 := Scalar.muli v310 c16_i32_162
  v311
def k0_off109 (v298 : BitVec 32) : Fin 2 → Nat :=
  let c0_i32_163 : BitVec 32 := 0#32
  let v313 : Index := Scalar.indexCast c0_i32_163
  let c6400_i32_156 : BitVec 32 := 6400#32
  let c0_i32_155 : BitVec 32 := 0#32
  let c89600_i32_154 : BitVec 32 := 89600#32
  let v299 : BitVec 32 := Scalar.subi v298 c89600_i32_154
  let v300 : BitVec 32 := Scalar.maxsi c0_i32_155 v299
  let v301 : BitVec 32 := Scalar.minsi c6400_i32_156 v300
  let c4_i32_157 : BitVec 32 := 4#32
  let v302 : BitVec 32 := Scalar.shrui v301 c4_i32_157
  let c399_i32 : BitVec 32 := 399#32
  let v310 : BitVec 32 := Scalar.minsi v302 c399_i32
  let c16_i32_162 : BitVec 32 := 16#32
  let v311 : BitVec 32 := Scalar.muli v310 c16_i32_162
  let v312 : BitVec 32 := v311
  let v314 : Index := Scalar.indexCast v312
  ![0, v314.toNat]
@[reducible] def k0_t68_loop (v298 : BitVec 32) : Scf.Loop 32 :=
  let c6400_i32_156 : BitVec 32 := 6400#32
  let c0_i32_155 : BitVec 32 := 0#32
  let c89600_i32_154 : BitVec 32 := 89600#32
  let v299 : BitVec 32 := Scalar.subi v298 c89600_i32_154
  let v300 : BitVec 32 := Scalar.maxsi c0_i32_155 v299
  let v301 : BitVec 32 := Scalar.minsi c6400_i32_156 v300
  let c4_i32_157 : BitVec 32 := 4#32
  let v302 : BitVec 32 := Scalar.shrui v301 c4_i32_157
  let c1_i32_166 : BitVec 32 := 1#32
  let v330 : BitVec 32 := Scalar.addi v302 c1_i32_166
  let c400_i32_167 : BitVec 32 := 400#32
  let v331 : BitVec 32 := Scalar.subi c400_i32_167 v330
  let c1_i32_168 : BitVec 32 := 1#32
  let v333 : BitVec 32 := Scalar.divsi v331 c1_i32_168
  let v334 : BitVec 32 := Scalar.muli v333 c1_i32_168
  let v335 : BitVec 32 := Scalar.addi v330 v334
  let c1_i32_169 : BitVec 32 := 1#32
  ⟨v330, v335, c1_i32_169⟩
def k0_mult111 (v298 : BitVec 32) (k0_t68 : Fin (k0_t68_loop v298).trips) : BitVec 32 :=
  let c6400_i32_156 : BitVec 32 := 6400#32
  let c0_i32_155 : BitVec 32 := 0#32
  let c89600_i32_154 : BitVec 32 := 89600#32
  let v299 : BitVec 32 := Scalar.subi v298 c89600_i32_154
  let v300 : BitVec 32 := Scalar.maxsi c0_i32_155 v299
  let v301 : BitVec 32 := Scalar.minsi c6400_i32_156 v300
  let c4_i32_157 : BitVec 32 := 4#32
  let v302 : BitVec 32 := Scalar.shrui v301 c4_i32_157
  let c1_i32_166 : BitVec 32 := 1#32
  let v330 : BitVec 32 := Scalar.addi v302 c1_i32_166
  let c1_i32_169 : BitVec 32 := 1#32
  let arg18 : BitVec 32 := Scf.iv v330 c1_i32_169 k0_t68
  let c16_i32_538 : BitVec 32 := 16#32
  let v1280 : BitVec 32 := Scalar.muli arg18 c16_i32_538
  v1280
def k0_off110 (v298 : BitVec 32) (k0_t68 : Fin (k0_t68_loop v298).trips) : Fin 2 → Nat :=
  let c0_i32_539 : BitVec 32 := 0#32
  let v1282 : Index := Scalar.indexCast c0_i32_539
  let c6400_i32_156 : BitVec 32 := 6400#32
  let c0_i32_155 : BitVec 32 := 0#32
  let c89600_i32_154 : BitVec 32 := 89600#32
  let v299 : BitVec 32 := Scalar.subi v298 c89600_i32_154
  let v300 : BitVec 32 := Scalar.maxsi c0_i32_155 v299
  let v301 : BitVec 32 := Scalar.minsi c6400_i32_156 v300
  let c4_i32_157 : BitVec 32 := 4#32
  let v302 : BitVec 32 := Scalar.shrui v301 c4_i32_157
  let c1_i32_166 : BitVec 32 := 1#32
  let v330 : BitVec 32 := Scalar.addi v302 c1_i32_166
  let c1_i32_169 : BitVec 32 := 1#32
  let arg18 : BitVec 32 := Scf.iv v330 c1_i32_169 k0_t68
  let c16_i32_538 : BitVec 32 := 16#32
  let v1280 : BitVec 32 := Scalar.muli arg18 c16_i32_538
  let v1281 : BitVec 32 := v1280
  let v1283 : Index := Scalar.indexCast v1281
  ![0, v1283.toNat]
@[reducible] def k0_t69_loop (v298 : BitVec 32) : Scf.Loop 32 :=
  let c6400_i32_156 : BitVec 32 := 6400#32
  let c0_i32_155 : BitVec 32 := 0#32
  let c89600_i32_154 : BitVec 32 := 89600#32
  let v299 : BitVec 32 := Scalar.subi v298 c89600_i32_154
  let v300 : BitVec 32 := Scalar.maxsi c0_i32_155 v299
  let v301 : BitVec 32 := Scalar.minsi c6400_i32_156 v300
  let c4_i32_157 : BitVec 32 := 4#32
  let v302 : BitVec 32 := Scalar.shrui v301 c4_i32_157
  let c1_i32_166 : BitVec 32 := 1#32
  let v330 : BitVec 32 := Scalar.addi v302 c1_i32_166
  let c400_i32_167 : BitVec 32 := 400#32
  let v331 : BitVec 32 := Scalar.subi c400_i32_167 v330
  let c1_i32_168 : BitVec 32 := 1#32
  let v333 : BitVec 32 := Scalar.divsi v331 c1_i32_168
  let v334 : BitVec 32 := Scalar.muli v333 c1_i32_168
  let v335 : BitVec 32 := Scalar.addi v330 v334
  let v332 : BitVec 32 := Scalar.addi v330 v331
  let c1_i32_170 : BitVec 32 := 1#32
  ⟨v335, v332, c1_i32_170⟩
def k0_mult112 (v298 : BitVec 32) (k0_t69 : Fin (k0_t69_loop v298).trips) : BitVec 32 :=
  let c6400_i32_156 : BitVec 32 := 6400#32
  let c0_i32_155 : BitVec 32 := 0#32
  let c89600_i32_154 : BitVec 32 := 89600#32
  let v299 : BitVec 32 := Scalar.subi v298 c89600_i32_154
  let v300 : BitVec 32 := Scalar.maxsi c0_i32_155 v299
  let v301 : BitVec 32 := Scalar.minsi c6400_i32_156 v300
  let c4_i32_157 : BitVec 32 := 4#32
  let v302 : BitVec 32 := Scalar.shrui v301 c4_i32_157
  let c1_i32_166 : BitVec 32 := 1#32
  let v330 : BitVec 32 := Scalar.addi v302 c1_i32_166
  let c400_i32_167 : BitVec 32 := 400#32
  let v331 : BitVec 32 := Scalar.subi c400_i32_167 v330
  let c1_i32_168 : BitVec 32 := 1#32
  let v333 : BitVec 32 := Scalar.divsi v331 c1_i32_168
  let v334 : BitVec 32 := Scalar.muli v333 c1_i32_168
  let v335 : BitVec 32 := Scalar.addi v330 v334
  let c1_i32_170 : BitVec 32 := 1#32
  let arg18 : BitVec 32 := Scf.iv v335 c1_i32_170 k0_t69
  let c16_i32_538 : BitVec 32 := 16#32
  let v1280 : BitVec 32 := Scalar.muli arg18 c16_i32_538
  v1280
def k0_off111 (v298 : BitVec 32) (k0_t69 : Fin (k0_t69_loop v298).trips) : Fin 2 → Nat :=
  let c0_i32_539 : BitVec 32 := 0#32
  let v1282 : Index := Scalar.indexCast c0_i32_539
  let c6400_i32_156 : BitVec 32 := 6400#32
  let c0_i32_155 : BitVec 32 := 0#32
  let c89600_i32_154 : BitVec 32 := 89600#32
  let v299 : BitVec 32 := Scalar.subi v298 c89600_i32_154
  let v300 : BitVec 32 := Scalar.maxsi c0_i32_155 v299
  let v301 : BitVec 32 := Scalar.minsi c6400_i32_156 v300
  let c4_i32_157 : BitVec 32 := 4#32
  let v302 : BitVec 32 := Scalar.shrui v301 c4_i32_157
  let c1_i32_166 : BitVec 32 := 1#32
  let v330 : BitVec 32 := Scalar.addi v302 c1_i32_166
  let c400_i32_167 : BitVec 32 := 400#32
  let v331 : BitVec 32 := Scalar.subi c400_i32_167 v330
  let c1_i32_168 : BitVec 32 := 1#32
  let v333 : BitVec 32 := Scalar.divsi v331 c1_i32_168
  let v334 : BitVec 32 := Scalar.muli v333 c1_i32_168
  let v335 : BitVec 32 := Scalar.addi v330 v334
  let c1_i32_170 : BitVec 32 := 1#32
  let arg18 : BitVec 32 := Scf.iv v335 c1_i32_170 k0_t69
  let c16_i32_538 : BitVec 32 := 16#32
  let v1280 : BitVec 32 := Scalar.muli arg18 c16_i32_538
  let v1281 : BitVec 32 := v1280
  let v1283 : Index := Scalar.indexCast v1281
  ![0, v1283.toNat]

def k0_chk41 (v298 : BitVec 32) : Prop :=
  ((k0_t66_loop v298).OK) ∧
  (∀ k0_t66 : Fin (k0_t66_loop v298).trips, 16 ∣ (k0_mult108 v298 k0_t66).toNat) ∧
  (∀ k0_t66 : Fin (k0_t66_loop v298).trips, ∀ a, (k0_off107 v298 k0_t66) a + S1x16.size a ≤ S8x6400.size a) ∧
  ((k0_t67_loop v298).OK) ∧
  (∀ k0_t67 : Fin (k0_t67_loop v298).trips, 16 ∣ (k0_mult109 v298 k0_t67).toNat) ∧
  (∀ k0_t67 : Fin (k0_t67_loop v298).trips, ∀ a, (k0_off108 v298 k0_t67) a + S1x16.size a ≤ S8x6400.size a) ∧
  (16 ∣ (k0_mult110 v298).toNat) ∧
  (∀ a, (k0_off109 v298) a + S1x16.size a ≤ S8x6400.size a) ∧
  ((k0_t68_loop v298).OK) ∧
  (∀ k0_t68 : Fin (k0_t68_loop v298).trips, 16 ∣ (k0_mult111 v298 k0_t68).toNat) ∧
  (∀ k0_t68 : Fin (k0_t68_loop v298).trips, ∀ a, (k0_off110 v298 k0_t68) a + S1x16.size a ≤ S8x6400.size a) ∧
  ((k0_t69_loop v298).OK) ∧
  (∀ k0_t69 : Fin (k0_t69_loop v298).trips, 16 ∣ (k0_mult112 v298 k0_t69).toNat) ∧
  (∀ k0_t69 : Fin (k0_t69_loop v298).trips, ∀ a, (k0_off111 v298 k0_t69) a + S1x16.size a ≤ S8x6400.size a)
theorem k0_t66_ok : ∀ (v298 : BitVec 32) (k0_hw41 : k0_chk41 v298), (k0_t66_loop v298).OK := fun v298 k0_hw41 => k0_hw41.1
theorem k0_mult108_dvd : ∀ (v298 : BitVec 32) (k0_hw41 : k0_chk41 v298) (k0_t66 : Fin (k0_t66_loop v298).trips), 16 ∣ (k0_mult108 v298 k0_t66).toNat := fun v298 k0_hw41 k0_t66 => k0_hw41.2.1 k0_t66
theorem k0_off107_inb : ∀ (v298 : BitVec 32) (k0_hw41 : k0_chk41 v298) (k0_t66 : Fin (k0_t66_loop v298).trips), ∀ a, (k0_off107 v298 k0_t66) a + S1x16.size a ≤ S8x6400.size a := fun v298 k0_hw41 k0_t66 => k0_hw41.2.2.1 k0_t66
theorem k0_t67_ok : ∀ (v298 : BitVec 32) (k0_hw41 : k0_chk41 v298), (k0_t67_loop v298).OK := fun v298 k0_hw41 => k0_hw41.2.2.2.1
theorem k0_mult109_dvd : ∀ (v298 : BitVec 32) (k0_hw41 : k0_chk41 v298) (k0_t67 : Fin (k0_t67_loop v298).trips), 16 ∣ (k0_mult109 v298 k0_t67).toNat := fun v298 k0_hw41 k0_t67 => k0_hw41.2.2.2.2.1 k0_t67
theorem k0_off108_inb : ∀ (v298 : BitVec 32) (k0_hw41 : k0_chk41 v298) (k0_t67 : Fin (k0_t67_loop v298).trips), ∀ a, (k0_off108 v298 k0_t67) a + S1x16.size a ≤ S8x6400.size a := fun v298 k0_hw41 k0_t67 => k0_hw41.2.2.2.2.2.1 k0_t67
theorem k0_mult110_dvd : ∀ (v298 : BitVec 32) (k0_hw41 : k0_chk41 v298), 16 ∣ (k0_mult110 v298).toNat := fun v298 k0_hw41 => k0_hw41.2.2.2.2.2.2.1
theorem k0_off109_inb : ∀ (v298 : BitVec 32) (k0_hw41 : k0_chk41 v298), ∀ a, (k0_off109 v298) a + S1x16.size a ≤ S8x6400.size a := fun v298 k0_hw41 => k0_hw41.2.2.2.2.2.2.2.1
theorem k0_t68_ok : ∀ (v298 : BitVec 32) (k0_hw41 : k0_chk41 v298), (k0_t68_loop v298).OK := fun v298 k0_hw41 => k0_hw41.2.2.2.2.2.2.2.2.1
theorem k0_mult111_dvd : ∀ (v298 : BitVec 32) (k0_hw41 : k0_chk41 v298) (k0_t68 : Fin (k0_t68_loop v298).trips), 16 ∣ (k0_mult111 v298 k0_t68).toNat := fun v298 k0_hw41 k0_t68 => k0_hw41.2.2.2.2.2.2.2.2.2.1 k0_t68
theorem k0_off110_inb : ∀ (v298 : BitVec 32) (k0_hw41 : k0_chk41 v298) (k0_t68 : Fin (k0_t68_loop v298).trips), ∀ a, (k0_off110 v298 k0_t68) a + S1x16.size a ≤ S8x6400.size a := fun v298 k0_hw41 k0_t68 => k0_hw41.2.2.2.2.2.2.2.2.2.2.1 k0_t68
theorem k0_t69_ok : ∀ (v298 : BitVec 32) (k0_hw41 : k0_chk41 v298), (k0_t69_loop v298).OK := fun v298 k0_hw41 => k0_hw41.2.2.2.2.2.2.2.2.2.2.2.1
theorem k0_mult112_dvd : ∀ (v298 : BitVec 32) (k0_hw41 : k0_chk41 v298) (k0_t69 : Fin (k0_t69_loop v298).trips), 16 ∣ (k0_mult112 v298 k0_t69).toNat := fun v298 k0_hw41 k0_t69 => k0_hw41.2.2.2.2.2.2.2.2.2.2.2.2.1 k0_t69
theorem k0_off111_inb : ∀ (v298 : BitVec 32) (k0_hw41 : k0_chk41 v298) (k0_t69 : Fin (k0_t69_loop v298).trips), ∀ a, (k0_off111 v298 k0_t69) a + S1x16.size a ≤ S8x6400.size a := fun v298 k0_hw41 k0_t69 => k0_hw41.2.2.2.2.2.2.2.2.2.2.2.2.2 k0_t69

@[reducible] def k0_t70_loop (v339 : BitVec 32) : Scf.Loop 32 :=
  let c0_i32_175 : BitVec 32 := 0#32
  let c6400_i32_173 : BitVec 32 := 6400#32
  let c0_i32_172 : BitVec 32 := 0#32
  let c89600_i32_171 : BitVec 32 := 89600#32
  let v340 : BitVec 32 := Scalar.subi v339 c89600_i32_171
  let v341 : BitVec 32 := Scalar.maxsi c0_i32_172 v340
  let v342 : BitVec 32 := Scalar.minsi c6400_i32_173 v341
  let c4_i32_174 : BitVec 32 := 4#32
  let v343 : BitVec 32 := Scalar.shrui v342 c4_i32_174
  let v344 : BitVec 32 := Scalar.subi v343 c0_i32_175
  let c1_i32_176 : BitVec 32 := 1#32
  let v346 : BitVec 32 := Scalar.divsi v344 c1_i32_176
  let v347 : BitVec 32 := Scalar.muli v346 c1_i32_176
  let v348 : BitVec 32 := Scalar.addi c0_i32_175 v347
  let c1_i32_177 : BitVec 32 := 1#32
  ⟨c0_i32_175, v348, c1_i32_177⟩

def k0_mult113 (v339 : BitVec 32) (k0_t70 : Fin (k0_t70_loop v339).trips) : BitVec 32 :=
  let c0_i32_175 : BitVec 32 := 0#32
  let c1_i32_177 : BitVec 32 := 1#32
  let arg18 : BitVec 32 := Scf.iv c0_i32_175 c1_i32_177 k0_t70
  let c16_i32_538 : BitVec 32 := 16#32
  let v1280 : BitVec 32 := Scalar.muli arg18 c16_i32_538
  v1280
def k0_off112 (v339 : BitVec 32) (k0_t70 : Fin (k0_t70_loop v339).trips) : Fin 2 → Nat :=
  let c1_i32_539 : BitVec 32 := 1#32
  let v1282 : Index := Scalar.indexCast c1_i32_539
  let c0_i32_175 : BitVec 32 := 0#32
  let c1_i32_177 : BitVec 32 := 1#32
  let arg18 : BitVec 32 := Scf.iv c0_i32_175 c1_i32_177 k0_t70
  let c16_i32_538 : BitVec 32 := 16#32
  let v1280 : BitVec 32 := Scalar.muli arg18 c16_i32_538
  let v1281 : BitVec 32 := v1280
  let v1283 : Index := Scalar.indexCast v1281
  ![1, v1283.toNat]
@[reducible] def k0_t71_loop (v339 : BitVec 32) : Scf.Loop 32 :=
  let c0_i32_175 : BitVec 32 := 0#32
  let c6400_i32_173 : BitVec 32 := 6400#32
  let c0_i32_172 : BitVec 32 := 0#32
  let c89600_i32_171 : BitVec 32 := 89600#32
  let v340 : BitVec 32 := Scalar.subi v339 c89600_i32_171
  let v341 : BitVec 32 := Scalar.maxsi c0_i32_172 v340
  let v342 : BitVec 32 := Scalar.minsi c6400_i32_173 v341
  let c4_i32_174 : BitVec 32 := 4#32
  let v343 : BitVec 32 := Scalar.shrui v342 c4_i32_174
  let v344 : BitVec 32 := Scalar.subi v343 c0_i32_175
  let c1_i32_176 : BitVec 32 := 1#32
  let v346 : BitVec 32 := Scalar.divsi v344 c1_i32_176
  let v347 : BitVec 32 := Scalar.muli v346 c1_i32_176
  let v348 : BitVec 32 := Scalar.addi c0_i32_175 v347
  let v345 : BitVec 32 := Scalar.addi c0_i32_175 v344
  let c1_i32_178 : BitVec 32 := 1#32
  ⟨v348, v345, c1_i32_178⟩
def k0_mult114 (v339 : BitVec 32) (k0_t71 : Fin (k0_t71_loop v339).trips) : BitVec 32 :=
  let c0_i32_175 : BitVec 32 := 0#32
  let c6400_i32_173 : BitVec 32 := 6400#32
  let c0_i32_172 : BitVec 32 := 0#32
  let c89600_i32_171 : BitVec 32 := 89600#32
  let v340 : BitVec 32 := Scalar.subi v339 c89600_i32_171
  let v341 : BitVec 32 := Scalar.maxsi c0_i32_172 v340
  let v342 : BitVec 32 := Scalar.minsi c6400_i32_173 v341
  let c4_i32_174 : BitVec 32 := 4#32
  let v343 : BitVec 32 := Scalar.shrui v342 c4_i32_174
  let v344 : BitVec 32 := Scalar.subi v343 c0_i32_175
  let c1_i32_176 : BitVec 32 := 1#32
  let v346 : BitVec 32 := Scalar.divsi v344 c1_i32_176
  let v347 : BitVec 32 := Scalar.muli v346 c1_i32_176
  let v348 : BitVec 32 := Scalar.addi c0_i32_175 v347
  let c1_i32_178 : BitVec 32 := 1#32
  let arg18 : BitVec 32 := Scf.iv v348 c1_i32_178 k0_t71
  let c16_i32_538 : BitVec 32 := 16#32
  let v1280 : BitVec 32 := Scalar.muli arg18 c16_i32_538
  v1280
def k0_off113 (v339 : BitVec 32) (k0_t71 : Fin (k0_t71_loop v339).trips) : Fin 2 → Nat :=
  let c1_i32_539 : BitVec 32 := 1#32
  let v1282 : Index := Scalar.indexCast c1_i32_539
  let c0_i32_175 : BitVec 32 := 0#32
  let c6400_i32_173 : BitVec 32 := 6400#32
  let c0_i32_172 : BitVec 32 := 0#32
  let c89600_i32_171 : BitVec 32 := 89600#32
  let v340 : BitVec 32 := Scalar.subi v339 c89600_i32_171
  let v341 : BitVec 32 := Scalar.maxsi c0_i32_172 v340
  let v342 : BitVec 32 := Scalar.minsi c6400_i32_173 v341
  let c4_i32_174 : BitVec 32 := 4#32
  let v343 : BitVec 32 := Scalar.shrui v342 c4_i32_174
  let v344 : BitVec 32 := Scalar.subi v343 c0_i32_175
  let c1_i32_176 : BitVec 32 := 1#32
  let v346 : BitVec 32 := Scalar.divsi v344 c1_i32_176
  let v347 : BitVec 32 := Scalar.muli v346 c1_i32_176
  let v348 : BitVec 32 := Scalar.addi c0_i32_175 v347
  let c1_i32_178 : BitVec 32 := 1#32
  let arg18 : BitVec 32 := Scf.iv v348 c1_i32_178 k0_t71
  let c16_i32_538 : BitVec 32 := 16#32
  let v1280 : BitVec 32 := Scalar.muli arg18 c16_i32_538
  let v1281 : BitVec 32 := v1280
  let v1283 : Index := Scalar.indexCast v1281
  ![1, v1283.toNat]
def k0_mult115 (v339 : BitVec 32) : BitVec 32 :=
  let c6400_i32_173 : BitVec 32 := 6400#32
  let c0_i32_172 : BitVec 32 := 0#32
  let c89600_i32_171 : BitVec 32 := 89600#32
  let v340 : BitVec 32 := Scalar.subi v339 c89600_i32_171
  let v341 : BitVec 32 := Scalar.maxsi c0_i32_172 v340
  let v342 : BitVec 32 := Scalar.minsi c6400_i32_173 v341
  let c4_i32_174 : BitVec 32 := 4#32
  let v343 : BitVec 32 := Scalar.shrui v342 c4_i32_174
  let c399_i32_179 : BitVec 32 := 399#32
  let v351 : BitVec 32 := Scalar.minsi v343 c399_i32_179
  let c16_i32_180 : BitVec 32 := 16#32
  let v352 : BitVec 32 := Scalar.muli v351 c16_i32_180
  v352
def k0_off114 (v339 : BitVec 32) : Fin 2 → Nat :=
  let c1_i32_181 : BitVec 32 := 1#32
  let v354 : Index := Scalar.indexCast c1_i32_181
  let c6400_i32_173 : BitVec 32 := 6400#32
  let c0_i32_172 : BitVec 32 := 0#32
  let c89600_i32_171 : BitVec 32 := 89600#32
  let v340 : BitVec 32 := Scalar.subi v339 c89600_i32_171
  let v341 : BitVec 32 := Scalar.maxsi c0_i32_172 v340
  let v342 : BitVec 32 := Scalar.minsi c6400_i32_173 v341
  let c4_i32_174 : BitVec 32 := 4#32
  let v343 : BitVec 32 := Scalar.shrui v342 c4_i32_174
  let c399_i32_179 : BitVec 32 := 399#32
  let v351 : BitVec 32 := Scalar.minsi v343 c399_i32_179
  let c16_i32_180 : BitVec 32 := 16#32
  let v352 : BitVec 32 := Scalar.muli v351 c16_i32_180
  let v353 : BitVec 32 := v352
  let v355 : Index := Scalar.indexCast v353
  ![1, v355.toNat]
@[reducible] def k0_t72_loop (v339 : BitVec 32) : Scf.Loop 32 :=
  let c6400_i32_173 : BitVec 32 := 6400#32
  let c0_i32_172 : BitVec 32 := 0#32
  let c89600_i32_171 : BitVec 32 := 89600#32
  let v340 : BitVec 32 := Scalar.subi v339 c89600_i32_171
  let v341 : BitVec 32 := Scalar.maxsi c0_i32_172 v340
  let v342 : BitVec 32 := Scalar.minsi c6400_i32_173 v341
  let c4_i32_174 : BitVec 32 := 4#32
  let v343 : BitVec 32 := Scalar.shrui v342 c4_i32_174
  let c1_i32_185 : BitVec 32 := 1#32
  let v371 : BitVec 32 := Scalar.addi v343 c1_i32_185
  let c400_i32_186 : BitVec 32 := 400#32
  let v372 : BitVec 32 := Scalar.subi c400_i32_186 v371
  let c1_i32_187 : BitVec 32 := 1#32
  let v374 : BitVec 32 := Scalar.divsi v372 c1_i32_187
  let v375 : BitVec 32 := Scalar.muli v374 c1_i32_187
  let v376 : BitVec 32 := Scalar.addi v371 v375
  let c1_i32_188 : BitVec 32 := 1#32
  ⟨v371, v376, c1_i32_188⟩
def k0_mult116 (v339 : BitVec 32) (k0_t72 : Fin (k0_t72_loop v339).trips) : BitVec 32 :=
  let c6400_i32_173 : BitVec 32 := 6400#32
  let c0_i32_172 : BitVec 32 := 0#32
  let c89600_i32_171 : BitVec 32 := 89600#32
  let v340 : BitVec 32 := Scalar.subi v339 c89600_i32_171
  let v341 : BitVec 32 := Scalar.maxsi c0_i32_172 v340
  let v342 : BitVec 32 := Scalar.minsi c6400_i32_173 v341
  let c4_i32_174 : BitVec 32 := 4#32
  let v343 : BitVec 32 := Scalar.shrui v342 c4_i32_174
  let c1_i32_185 : BitVec 32 := 1#32
  let v371 : BitVec 32 := Scalar.addi v343 c1_i32_185
  let c1_i32_188 : BitVec 32 := 1#32
  let arg18 : BitVec 32 := Scf.iv v371 c1_i32_188 k0_t72
  let c16_i32_538 : BitVec 32 := 16#32
  let v1280 : BitVec 32 := Scalar.muli arg18 c16_i32_538
  v1280
def k0_off115 (v339 : BitVec 32) (k0_t72 : Fin (k0_t72_loop v339).trips) : Fin 2 → Nat :=
  let c1_i32_539 : BitVec 32 := 1#32
  let v1282 : Index := Scalar.indexCast c1_i32_539
  let c6400_i32_173 : BitVec 32 := 6400#32
  let c0_i32_172 : BitVec 32 := 0#32
  let c89600_i32_171 : BitVec 32 := 89600#32
  let v340 : BitVec 32 := Scalar.subi v339 c89600_i32_171
  let v341 : BitVec 32 := Scalar.maxsi c0_i32_172 v340
  let v342 : BitVec 32 := Scalar.minsi c6400_i32_173 v341
  let c4_i32_174 : BitVec 32 := 4#32
  let v343 : BitVec 32 := Scalar.shrui v342 c4_i32_174
  let c1_i32_185 : BitVec 32 := 1#32
  let v371 : BitVec 32 := Scalar.addi v343 c1_i32_185
  let c1_i32_188 : BitVec 32 := 1#32
  let arg18 : BitVec 32 := Scf.iv v371 c1_i32_188 k0_t72
  let c16_i32_538 : BitVec 32 := 16#32
  let v1280 : BitVec 32 := Scalar.muli arg18 c16_i32_538
  let v1281 : BitVec 32 := v1280
  let v1283 : Index := Scalar.indexCast v1281
  ![1, v1283.toNat]
@[reducible] def k0_t73_loop (v339 : BitVec 32) : Scf.Loop 32 :=
  let c6400_i32_173 : BitVec 32 := 6400#32
  let c0_i32_172 : BitVec 32 := 0#32
  let c89600_i32_171 : BitVec 32 := 89600#32
  let v340 : BitVec 32 := Scalar.subi v339 c89600_i32_171
  let v341 : BitVec 32 := Scalar.maxsi c0_i32_172 v340
  let v342 : BitVec 32 := Scalar.minsi c6400_i32_173 v341
  let c4_i32_174 : BitVec 32 := 4#32
  let v343 : BitVec 32 := Scalar.shrui v342 c4_i32_174
  let c1_i32_185 : BitVec 32 := 1#32
  let v371 : BitVec 32 := Scalar.addi v343 c1_i32_185
  let c400_i32_186 : BitVec 32 := 400#32
  let v372 : BitVec 32 := Scalar.subi c400_i32_186 v371
  let c1_i32_187 : BitVec 32 := 1#32
  let v374 : BitVec 32 := Scalar.divsi v372 c1_i32_187
  let v375 : BitVec 32 := Scalar.muli v374 c1_i32_187
  let v376 : BitVec 32 := Scalar.addi v371 v375
  let v373 : BitVec 32 := Scalar.addi v371 v372
  let c1_i32_189 : BitVec 32 := 1#32
  ⟨v376, v373, c1_i32_189⟩
def k0_mult117 (v339 : BitVec 32) (k0_t73 : Fin (k0_t73_loop v339).trips) : BitVec 32 :=
  let c6400_i32_173 : BitVec 32 := 6400#32
  let c0_i32_172 : BitVec 32 := 0#32
  let c89600_i32_171 : BitVec 32 := 89600#32
  let v340 : BitVec 32 := Scalar.subi v339 c89600_i32_171
  let v341 : BitVec 32 := Scalar.maxsi c0_i32_172 v340
  let v342 : BitVec 32 := Scalar.minsi c6400_i32_173 v341
  let c4_i32_174 : BitVec 32 := 4#32
  let v343 : BitVec 32 := Scalar.shrui v342 c4_i32_174
  let c1_i32_185 : BitVec 32 := 1#32
  let v371 : BitVec 32 := Scalar.addi v343 c1_i32_185
  let c400_i32_186 : BitVec 32 := 400#32
  let v372 : BitVec 32 := Scalar.subi c400_i32_186 v371
  let c1_i32_187 : BitVec 32 := 1#32
  let v374 : BitVec 32 := Scalar.divsi v372 c1_i32_187
  let v375 : BitVec 32 := Scalar.muli v374 c1_i32_187
  let v376 : BitVec 32 := Scalar.addi v371 v375
  let c1_i32_189 : BitVec 32 := 1#32
  let arg18 : BitVec 32 := Scf.iv v376 c1_i32_189 k0_t73
  let c16_i32_538 : BitVec 32 := 16#32
  let v1280 : BitVec 32 := Scalar.muli arg18 c16_i32_538
  v1280
def k0_off116 (v339 : BitVec 32) (k0_t73 : Fin (k0_t73_loop v339).trips) : Fin 2 → Nat :=
  let c1_i32_539 : BitVec 32 := 1#32
  let v1282 : Index := Scalar.indexCast c1_i32_539
  let c6400_i32_173 : BitVec 32 := 6400#32
  let c0_i32_172 : BitVec 32 := 0#32
  let c89600_i32_171 : BitVec 32 := 89600#32
  let v340 : BitVec 32 := Scalar.subi v339 c89600_i32_171
  let v341 : BitVec 32 := Scalar.maxsi c0_i32_172 v340
  let v342 : BitVec 32 := Scalar.minsi c6400_i32_173 v341
  let c4_i32_174 : BitVec 32 := 4#32
  let v343 : BitVec 32 := Scalar.shrui v342 c4_i32_174
  let c1_i32_185 : BitVec 32 := 1#32
  let v371 : BitVec 32 := Scalar.addi v343 c1_i32_185
  let c400_i32_186 : BitVec 32 := 400#32
  let v372 : BitVec 32 := Scalar.subi c400_i32_186 v371
  let c1_i32_187 : BitVec 32 := 1#32
  let v374 : BitVec 32 := Scalar.divsi v372 c1_i32_187
  let v375 : BitVec 32 := Scalar.muli v374 c1_i32_187
  let v376 : BitVec 32 := Scalar.addi v371 v375
  let c1_i32_189 : BitVec 32 := 1#32
  let arg18 : BitVec 32 := Scf.iv v376 c1_i32_189 k0_t73
  let c16_i32_538 : BitVec 32 := 16#32
  let v1280 : BitVec 32 := Scalar.muli arg18 c16_i32_538
  let v1281 : BitVec 32 := v1280
  let v1283 : Index := Scalar.indexCast v1281
  ![1, v1283.toNat]

def k0_chk42 (v339 : BitVec 32) : Prop :=
  ((k0_t70_loop v339).OK) ∧
  (∀ k0_t70 : Fin (k0_t70_loop v339).trips, 16 ∣ (k0_mult113 v339 k0_t70).toNat) ∧
  (∀ k0_t70 : Fin (k0_t70_loop v339).trips, ∀ a, (k0_off112 v339 k0_t70) a + S1x16.size a ≤ S8x6400.size a) ∧
  ((k0_t71_loop v339).OK) ∧
  (∀ k0_t71 : Fin (k0_t71_loop v339).trips, 16 ∣ (k0_mult114 v339 k0_t71).toNat) ∧
  (∀ k0_t71 : Fin (k0_t71_loop v339).trips, ∀ a, (k0_off113 v339 k0_t71) a + S1x16.size a ≤ S8x6400.size a) ∧
  (16 ∣ (k0_mult115 v339).toNat) ∧
  (∀ a, (k0_off114 v339) a + S1x16.size a ≤ S8x6400.size a) ∧
  ((k0_t72_loop v339).OK) ∧
  (∀ k0_t72 : Fin (k0_t72_loop v339).trips, 16 ∣ (k0_mult116 v339 k0_t72).toNat) ∧
  (∀ k0_t72 : Fin (k0_t72_loop v339).trips, ∀ a, (k0_off115 v339 k0_t72) a + S1x16.size a ≤ S8x6400.size a) ∧
  ((k0_t73_loop v339).OK) ∧
  (∀ k0_t73 : Fin (k0_t73_loop v339).trips, 16 ∣ (k0_mult117 v339 k0_t73).toNat) ∧
  (∀ k0_t73 : Fin (k0_t73_loop v339).trips, ∀ a, (k0_off116 v339 k0_t73) a + S1x16.size a ≤ S8x6400.size a)
theorem k0_t70_ok : ∀ (v339 : BitVec 32) (k0_hw42 : k0_chk42 v339), (k0_t70_loop v339).OK := fun v339 k0_hw42 => k0_hw42.1
theorem k0_mult113_dvd : ∀ (v339 : BitVec 32) (k0_hw42 : k0_chk42 v339) (k0_t70 : Fin (k0_t70_loop v339).trips), 16 ∣ (k0_mult113 v339 k0_t70).toNat := fun v339 k0_hw42 k0_t70 => k0_hw42.2.1 k0_t70
theorem k0_off112_inb : ∀ (v339 : BitVec 32) (k0_hw42 : k0_chk42 v339) (k0_t70 : Fin (k0_t70_loop v339).trips), ∀ a, (k0_off112 v339 k0_t70) a + S1x16.size a ≤ S8x6400.size a := fun v339 k0_hw42 k0_t70 => k0_hw42.2.2.1 k0_t70
theorem k0_t71_ok : ∀ (v339 : BitVec 32) (k0_hw42 : k0_chk42 v339), (k0_t71_loop v339).OK := fun v339 k0_hw42 => k0_hw42.2.2.2.1
theorem k0_mult114_dvd : ∀ (v339 : BitVec 32) (k0_hw42 : k0_chk42 v339) (k0_t71 : Fin (k0_t71_loop v339).trips), 16 ∣ (k0_mult114 v339 k0_t71).toNat := fun v339 k0_hw42 k0_t71 => k0_hw42.2.2.2.2.1 k0_t71
theorem k0_off113_inb : ∀ (v339 : BitVec 32) (k0_hw42 : k0_chk42 v339) (k0_t71 : Fin (k0_t71_loop v339).trips), ∀ a, (k0_off113 v339 k0_t71) a + S1x16.size a ≤ S8x6400.size a := fun v339 k0_hw42 k0_t71 => k0_hw42.2.2.2.2.2.1 k0_t71
theorem k0_mult115_dvd : ∀ (v339 : BitVec 32) (k0_hw42 : k0_chk42 v339), 16 ∣ (k0_mult115 v339).toNat := fun v339 k0_hw42 => k0_hw42.2.2.2.2.2.2.1
theorem k0_off114_inb : ∀ (v339 : BitVec 32) (k0_hw42 : k0_chk42 v339), ∀ a, (k0_off114 v339) a + S1x16.size a ≤ S8x6400.size a := fun v339 k0_hw42 => k0_hw42.2.2.2.2.2.2.2.1
theorem k0_t72_ok : ∀ (v339 : BitVec 32) (k0_hw42 : k0_chk42 v339), (k0_t72_loop v339).OK := fun v339 k0_hw42 => k0_hw42.2.2.2.2.2.2.2.2.1
theorem k0_mult116_dvd : ∀ (v339 : BitVec 32) (k0_hw42 : k0_chk42 v339) (k0_t72 : Fin (k0_t72_loop v339).trips), 16 ∣ (k0_mult116 v339 k0_t72).toNat := fun v339 k0_hw42 k0_t72 => k0_hw42.2.2.2.2.2.2.2.2.2.1 k0_t72
theorem k0_off115_inb : ∀ (v339 : BitVec 32) (k0_hw42 : k0_chk42 v339) (k0_t72 : Fin (k0_t72_loop v339).trips), ∀ a, (k0_off115 v339 k0_t72) a + S1x16.size a ≤ S8x6400.size a := fun v339 k0_hw42 k0_t72 => k0_hw42.2.2.2.2.2.2.2.2.2.2.1 k0_t72
theorem k0_t73_ok : ∀ (v339 : BitVec 32) (k0_hw42 : k0_chk42 v339), (k0_t73_loop v339).OK := fun v339 k0_hw42 => k0_hw42.2.2.2.2.2.2.2.2.2.2.2.1
theorem k0_mult117_dvd : ∀ (v339 : BitVec 32) (k0_hw42 : k0_chk42 v339) (k0_t73 : Fin (k0_t73_loop v339).trips), 16 ∣ (k0_mult117 v339 k0_t73).toNat := fun v339 k0_hw42 k0_t73 => k0_hw42.2.2.2.2.2.2.2.2.2.2.2.2.1 k0_t73
theorem k0_off116_inb : ∀ (v339 : BitVec 32) (k0_hw42 : k0_chk42 v339) (k0_t73 : Fin (k0_t73_loop v339).trips), ∀ a, (k0_off116 v339 k0_t73) a + S1x16.size a ≤ S8x6400.size a := fun v339 k0_hw42 k0_t73 => k0_hw42.2.2.2.2.2.2.2.2.2.2.2.2.2 k0_t73

@[reducible] def k0_t74_loop (v380 : BitVec 32) : Scf.Loop 32 :=
  let c0_i32_194 : BitVec 32 := 0#32
  let c6400_i32_192 : BitVec 32 := 6400#32
  let c0_i32_191 : BitVec 32 := 0#32
  let c89600_i32_190 : BitVec 32 := 89600#32
  let v381 : BitVec 32 := Scalar.subi v380 c89600_i32_190
  let v382 : BitVec 32 := Scalar.maxsi c0_i32_191 v381
  let v383 : BitVec 32 := Scalar.minsi c6400_i32_192 v382
  let c4_i32_193 : BitVec 32 := 4#32
  let v384 : BitVec 32 := Scalar.shrui v383 c4_i32_193
  let v385 : BitVec 32 := Scalar.subi v384 c0_i32_194
  let c1_i32_195 : BitVec 32 := 1#32
  let v387 : BitVec 32 := Scalar.divsi v385 c1_i32_195
  let v388 : BitVec 32 := Scalar.muli v387 c1_i32_195
  let v389 : BitVec 32 := Scalar.addi c0_i32_194 v388
  let c1_i32_196 : BitVec 32 := 1#32
  ⟨c0_i32_194, v389, c1_i32_196⟩

def k0_mult118 (v380 : BitVec 32) (k0_t74 : Fin (k0_t74_loop v380).trips) : BitVec 32 :=
  let c0_i32_194 : BitVec 32 := 0#32
  let c1_i32_196 : BitVec 32 := 1#32
  let arg18 : BitVec 32 := Scf.iv c0_i32_194 c1_i32_196 k0_t74
  let c16_i32_538 : BitVec 32 := 16#32
  let v1280 : BitVec 32 := Scalar.muli arg18 c16_i32_538
  v1280
def k0_off117 (v380 : BitVec 32) (k0_t74 : Fin (k0_t74_loop v380).trips) : Fin 2 → Nat :=
  let c2_i32_539 : BitVec 32 := 2#32
  let v1282 : Index := Scalar.indexCast c2_i32_539
  let c0_i32_194 : BitVec 32 := 0#32
  let c1_i32_196 : BitVec 32 := 1#32
  let arg18 : BitVec 32 := Scf.iv c0_i32_194 c1_i32_196 k0_t74
  let c16_i32_538 : BitVec 32 := 16#32
  let v1280 : BitVec 32 := Scalar.muli arg18 c16_i32_538
  let v1281 : BitVec 32 := v1280
  let v1283 : Index := Scalar.indexCast v1281
  ![2, v1283.toNat]
@[reducible] def k0_t75_loop (v380 : BitVec 32) : Scf.Loop 32 :=
  let c0_i32_194 : BitVec 32 := 0#32
  let c6400_i32_192 : BitVec 32 := 6400#32
  let c0_i32_191 : BitVec 32 := 0#32
  let c89600_i32_190 : BitVec 32 := 89600#32
  let v381 : BitVec 32 := Scalar.subi v380 c89600_i32_190
  let v382 : BitVec 32 := Scalar.maxsi c0_i32_191 v381
  let v383 : BitVec 32 := Scalar.minsi c6400_i32_192 v382
  let c4_i32_193 : BitVec 32 := 4#32
  let v384 : BitVec 32 := Scalar.shrui v383 c4_i32_193
  let v385 : BitVec 32 := Scalar.subi v384 c0_i32_194
  let c1_i32_195 : BitVec 32 := 1#32
  let v387 : BitVec 32 := Scalar.divsi v385 c1_i32_195
  let v388 : BitVec 32 := Scalar.muli v387 c1_i32_195
  let v389 : BitVec 32 := Scalar.addi c0_i32_194 v388
  let v386 : BitVec 32 := Scalar.addi c0_i32_194 v385
  let c1_i32_197 : BitVec 32 := 1#32
  ⟨v389, v386, c1_i32_197⟩
def k0_mult119 (v380 : BitVec 32) (k0_t75 : Fin (k0_t75_loop v380).trips) : BitVec 32 :=
  let c0_i32_194 : BitVec 32 := 0#32
  let c6400_i32_192 : BitVec 32 := 6400#32
  let c0_i32_191 : BitVec 32 := 0#32
  let c89600_i32_190 : BitVec 32 := 89600#32
  let v381 : BitVec 32 := Scalar.subi v380 c89600_i32_190
  let v382 : BitVec 32 := Scalar.maxsi c0_i32_191 v381
  let v383 : BitVec 32 := Scalar.minsi c6400_i32_192 v382
  let c4_i32_193 : BitVec 32 := 4#32
  let v384 : BitVec 32 := Scalar.shrui v383 c4_i32_193
  let v385 : BitVec 32 := Scalar.subi v384 c0_i32_194
  let c1_i32_195 : BitVec 32 := 1#32
  let v387 : BitVec 32 := Scalar.divsi v385 c1_i32_195
  let v388 : BitVec 32 := Scalar.muli v387 c1_i32_195
  let v389 : BitVec 32 := Scalar.addi c0_i32_194 v388
  let c1_i32_197 : BitVec 32 := 1#32
  let arg18 : BitVec 32 := Scf.iv v389 c1_i32_197 k0_t75
  let c16_i32_538 : BitVec 32 := 16#32
  let v1280 : BitVec 32 := Scalar.muli arg18 c16_i32_538
  v1280
def k0_off118 (v380 : BitVec 32) (k0_t75 : Fin (k0_t75_loop v380).trips) : Fin 2 → Nat :=
  let c2_i32_539 : BitVec 32 := 2#32
  let v1282 : Index := Scalar.indexCast c2_i32_539
  let c0_i32_194 : BitVec 32 := 0#32
  let c6400_i32_192 : BitVec 32 := 6400#32
  let c0_i32_191 : BitVec 32 := 0#32
  let c89600_i32_190 : BitVec 32 := 89600#32
  let v381 : BitVec 32 := Scalar.subi v380 c89600_i32_190
  let v382 : BitVec 32 := Scalar.maxsi c0_i32_191 v381
  let v383 : BitVec 32 := Scalar.minsi c6400_i32_192 v382
  let c4_i32_193 : BitVec 32 := 4#32
  let v384 : BitVec 32 := Scalar.shrui v383 c4_i32_193
  let v385 : BitVec 32 := Scalar.subi v384 c0_i32_194
  let c1_i32_195 : BitVec 32 := 1#32
  let v387 : BitVec 32 := Scalar.divsi v385 c1_i32_195
  let v388 : BitVec 32 := Scalar.muli v387 c1_i32_195
  let v389 : BitVec 32 := Scalar.addi c0_i32_194 v388
  let c1_i32_197 : BitVec 32 := 1#32
  let arg18 : BitVec 32 := Scf.iv v389 c1_i32_197 k0_t75
  let c16_i32_538 : BitVec 32 := 16#32
  let v1280 : BitVec 32 := Scalar.muli arg18 c16_i32_538
  let v1281 : BitVec 32 := v1280
  let v1283 : Index := Scalar.indexCast v1281
  ![2, v1283.toNat]
def k0_mult120 (v380 : BitVec 32) : BitVec 32 :=
  let c6400_i32_192 : BitVec 32 := 6400#32
  let c0_i32_191 : BitVec 32 := 0#32
  let c89600_i32_190 : BitVec 32 := 89600#32
  let v381 : BitVec 32 := Scalar.subi v380 c89600_i32_190
  let v382 : BitVec 32 := Scalar.maxsi c0_i32_191 v381
  let v383 : BitVec 32 := Scalar.minsi c6400_i32_192 v382
  let c4_i32_193 : BitVec 32 := 4#32
  let v384 : BitVec 32 := Scalar.shrui v383 c4_i32_193
  let c399_i32_198 : BitVec 32 := 399#32
  let v392 : BitVec 32 := Scalar.minsi v384 c399_i32_198
  let c16_i32_199 : BitVec 32 := 16#32
  let v393 : BitVec 32 := Scalar.muli v392 c16_i32_199
  v393
def k0_off119 (v380 : BitVec 32) : Fin 2 → Nat :=
  let c2_i32_200 : BitVec 32 := 2#32
  let v395 : Index := Scalar.indexCast c2_i32_200
  let c6400_i32_192 : BitVec 32 := 6400#32
  let c0_i32_191 : BitVec 32 := 0#32
  let c89600_i32_190 : BitVec 32 := 89600#32
  let v381 : BitVec 32 := Scalar.subi v380 c89600_i32_190
  let v382 : BitVec 32 := Scalar.maxsi c0_i32_191 v381
  let v383 : BitVec 32 := Scalar.minsi c6400_i32_192 v382
  let c4_i32_193 : BitVec 32 := 4#32
  let v384 : BitVec 32 := Scalar.shrui v383 c4_i32_193
  let c399_i32_198 : BitVec 32 := 399#32
  let v392 : BitVec 32 := Scalar.minsi v384 c399_i32_198
  let c16_i32_199 : BitVec 32 := 16#32
  let v393 : BitVec 32 := Scalar.muli v392 c16_i32_199
  let v394 : BitVec 32 := v393
  let v396 : Index := Scalar.indexCast v394
  ![2, v396.toNat]
@[reducible] def k0_t76_loop (v380 : BitVec 32) : Scf.Loop 32 :=
  let c6400_i32_192 : BitVec 32 := 6400#32
  let c0_i32_191 : BitVec 32 := 0#32
  let c89600_i32_190 : BitVec 32 := 89600#32
  let v381 : BitVec 32 := Scalar.subi v380 c89600_i32_190
  let v382 : BitVec 32 := Scalar.maxsi c0_i32_191 v381
  let v383 : BitVec 32 := Scalar.minsi c6400_i32_192 v382
  let c4_i32_193 : BitVec 32 := 4#32
  let v384 : BitVec 32 := Scalar.shrui v383 c4_i32_193
  let c1_i32_204 : BitVec 32 := 1#32
  let v412 : BitVec 32 := Scalar.addi v384 c1_i32_204
  let c400_i32_205 : BitVec 32 := 400#32
  let v413 : BitVec 32 := Scalar.subi c400_i32_205 v412
  let c1_i32_206 : BitVec 32 := 1#32
  let v415 : BitVec 32 := Scalar.divsi v413 c1_i32_206
  let v416 : BitVec 32 := Scalar.muli v415 c1_i32_206
  let v417 : BitVec 32 := Scalar.addi v412 v416
  let c1_i32_207 : BitVec 32 := 1#32
  ⟨v412, v417, c1_i32_207⟩
def k0_mult121 (v380 : BitVec 32) (k0_t76 : Fin (k0_t76_loop v380).trips) : BitVec 32 :=
  let c6400_i32_192 : BitVec 32 := 6400#32
  let c0_i32_191 : BitVec 32 := 0#32
  let c89600_i32_190 : BitVec 32 := 89600#32
  let v381 : BitVec 32 := Scalar.subi v380 c89600_i32_190
  let v382 : BitVec 32 := Scalar.maxsi c0_i32_191 v381
  let v383 : BitVec 32 := Scalar.minsi c6400_i32_192 v382
  let c4_i32_193 : BitVec 32 := 4#32
  let v384 : BitVec 32 := Scalar.shrui v383 c4_i32_193
  let c1_i32_204 : BitVec 32 := 1#32
  let v412 : BitVec 32 := Scalar.addi v384 c1_i32_204
  let c1_i32_207 : BitVec 32 := 1#32
  let arg18 : BitVec 32 := Scf.iv v412 c1_i32_207 k0_t76
  let c16_i32_538 : BitVec 32 := 16#32
  let v1280 : BitVec 32 := Scalar.muli arg18 c16_i32_538
  v1280
def k0_off120 (v380 : BitVec 32) (k0_t76 : Fin (k0_t76_loop v380).trips) : Fin 2 → Nat :=
  let c2_i32_539 : BitVec 32 := 2#32
  let v1282 : Index := Scalar.indexCast c2_i32_539
  let c6400_i32_192 : BitVec 32 := 6400#32
  let c0_i32_191 : BitVec 32 := 0#32
  let c89600_i32_190 : BitVec 32 := 89600#32
  let v381 : BitVec 32 := Scalar.subi v380 c89600_i32_190
  let v382 : BitVec 32 := Scalar.maxsi c0_i32_191 v381
  let v383 : BitVec 32 := Scalar.minsi c6400_i32_192 v382
  let c4_i32_193 : BitVec 32 := 4#32
  let v384 : BitVec 32 := Scalar.shrui v383 c4_i32_193
  let c1_i32_204 : BitVec 32 := 1#32
  let v412 : BitVec 32 := Scalar.addi v384 c1_i32_204
  let c1_i32_207 : BitVec 32 := 1#32
  let arg18 : BitVec 32 := Scf.iv v412 c1_i32_207 k0_t76
  let c16_i32_538 : BitVec 32 := 16#32
  let v1280 : BitVec 32 := Scalar.muli arg18 c16_i32_538
  let v1281 : BitVec 32 := v1280
  let v1283 : Index := Scalar.indexCast v1281
  ![2, v1283.toNat]
@[reducible] def k0_t77_loop (v380 : BitVec 32) : Scf.Loop 32 :=
  let c6400_i32_192 : BitVec 32 := 6400#32
  let c0_i32_191 : BitVec 32 := 0#32
  let c89600_i32_190 : BitVec 32 := 89600#32
  let v381 : BitVec 32 := Scalar.subi v380 c89600_i32_190
  let v382 : BitVec 32 := Scalar.maxsi c0_i32_191 v381
  let v383 : BitVec 32 := Scalar.minsi c6400_i32_192 v382
  let c4_i32_193 : BitVec 32 := 4#32
  let v384 : BitVec 32 := Scalar.shrui v383 c4_i32_193
  let c1_i32_204 : BitVec 32 := 1#32
  let v412 : BitVec 32 := Scalar.addi v384 c1_i32_204
  let c400_i32_205 : BitVec 32 := 400#32
  let v413 : BitVec 32 := Scalar.subi c400_i32_205 v412
  let c1_i32_206 : BitVec 32 := 1#32
  let v415 : BitVec 32 := Scalar.divsi v413 c1_i32_206
  let v416 : BitVec 32 := Scalar.muli v415 c1_i32_206
  let v417 : BitVec 32 := Scalar.addi v412 v416
  let v414 : BitVec 32 := Scalar.addi v412 v413
  let c1_i32_208 : BitVec 32 := 1#32
  ⟨v417, v414, c1_i32_208⟩
def k0_mult122 (v380 : BitVec 32) (k0_t77 : Fin (k0_t77_loop v380).trips) : BitVec 32 :=
  let c6400_i32_192 : BitVec 32 := 6400#32
  let c0_i32_191 : BitVec 32 := 0#32
  let c89600_i32_190 : BitVec 32 := 89600#32
  let v381 : BitVec 32 := Scalar.subi v380 c89600_i32_190
  let v382 : BitVec 32 := Scalar.maxsi c0_i32_191 v381
  let v383 : BitVec 32 := Scalar.minsi c6400_i32_192 v382
  let c4_i32_193 : BitVec 32 := 4#32
  let v384 : BitVec 32 := Scalar.shrui v383 c4_i32_193
  let c1_i32_204 : BitVec 32 := 1#32
  let v412 : BitVec 32 := Scalar.addi v384 c1_i32_204
  let c400_i32_205 : BitVec 32 := 400#32
  let v413 : BitVec 32 := Scalar.subi c400_i32_205 v412
  let c1_i32_206 : BitVec 32 := 1#32
  let v415 : BitVec 32 := Scalar.divsi v413 c1_i32_206
  let v416 : BitVec 32 := Scalar.muli v415 c1_i32_206
  let v417 : BitVec 32 := Scalar.addi v412 v416
  let c1_i32_208 : BitVec 32 := 1#32
  let arg18 : BitVec 32 := Scf.iv v417 c1_i32_208 k0_t77
  let c16_i32_538 : BitVec 32 := 16#32
  let v1280 : BitVec 32 := Scalar.muli arg18 c16_i32_538
  v1280
def k0_off121 (v380 : BitVec 32) (k0_t77 : Fin (k0_t77_loop v380).trips) : Fin 2 → Nat :=
  let c2_i32_539 : BitVec 32 := 2#32
  let v1282 : Index := Scalar.indexCast c2_i32_539
  let c6400_i32_192 : BitVec 32 := 6400#32
  let c0_i32_191 : BitVec 32 := 0#32
  let c89600_i32_190 : BitVec 32 := 89600#32
  let v381 : BitVec 32 := Scalar.subi v380 c89600_i32_190
  let v382 : BitVec 32 := Scalar.maxsi c0_i32_191 v381
  let v383 : BitVec 32 := Scalar.minsi c6400_i32_192 v382
  let c4_i32_193 : BitVec 32 := 4#32
  let v384 : BitVec 32 := Scalar.shrui v383 c4_i32_193
  let c1_i32_204 : BitVec 32 := 1#32
  let v412 : BitVec 32 := Scalar.addi v384 c1_i32_204
  let c400_i32_205 : BitVec 32 := 400#32
  let v413 : BitVec 32 := Scalar.subi c400_i32_205 v412
  let c1_i32_206 : BitVec 32 := 1#32
  let v415 : BitVec 32 := Scalar.divsi v413 c1_i32_206
  let v416 : BitVec 32 := Scalar.muli v415 c1_i32_206
  let v417 : BitVec 32 := Scalar.addi v412 v416
  let c1_i32_208 : BitVec 32 := 1#32
  let arg18 : BitVec 32 := Scf.iv v417 c1_i32_208 k0_t77
  let c16_i32_538 : BitVec 32 := 16#32
  let v1280 : BitVec 32 := Scalar.muli arg18 c16_i32_538
  let v1281 : BitVec 32 := v1280
  let v1283 : Index := Scalar.indexCast v1281
  ![2, v1283.toNat]

def k0_chk43 (v380 : BitVec 32) : Prop :=
  ((k0_t74_loop v380).OK) ∧
  (∀ k0_t74 : Fin (k0_t74_loop v380).trips, 16 ∣ (k0_mult118 v380 k0_t74).toNat) ∧
  (∀ k0_t74 : Fin (k0_t74_loop v380).trips, ∀ a, (k0_off117 v380 k0_t74) a + S1x16.size a ≤ S8x6400.size a) ∧
  ((k0_t75_loop v380).OK) ∧
  (∀ k0_t75 : Fin (k0_t75_loop v380).trips, 16 ∣ (k0_mult119 v380 k0_t75).toNat) ∧
  (∀ k0_t75 : Fin (k0_t75_loop v380).trips, ∀ a, (k0_off118 v380 k0_t75) a + S1x16.size a ≤ S8x6400.size a) ∧
  (16 ∣ (k0_mult120 v380).toNat) ∧
  (∀ a, (k0_off119 v380) a + S1x16.size a ≤ S8x6400.size a) ∧
  ((k0_t76_loop v380).OK) ∧
  (∀ k0_t76 : Fin (k0_t76_loop v380).trips, 16 ∣ (k0_mult121 v380 k0_t76).toNat) ∧
  (∀ k0_t76 : Fin (k0_t76_loop v380).trips, ∀ a, (k0_off120 v380 k0_t76) a + S1x16.size a ≤ S8x6400.size a) ∧
  ((k0_t77_loop v380).OK) ∧
  (∀ k0_t77 : Fin (k0_t77_loop v380).trips, 16 ∣ (k0_mult122 v380 k0_t77).toNat) ∧
  (∀ k0_t77 : Fin (k0_t77_loop v380).trips, ∀ a, (k0_off121 v380 k0_t77) a + S1x16.size a ≤ S8x6400.size a)
theorem k0_t74_ok : ∀ (v380 : BitVec 32) (k0_hw43 : k0_chk43 v380), (k0_t74_loop v380).OK := fun v380 k0_hw43 => k0_hw43.1
theorem k0_mult118_dvd : ∀ (v380 : BitVec 32) (k0_hw43 : k0_chk43 v380) (k0_t74 : Fin (k0_t74_loop v380).trips), 16 ∣ (k0_mult118 v380 k0_t74).toNat := fun v380 k0_hw43 k0_t74 => k0_hw43.2.1 k0_t74
theorem k0_off117_inb : ∀ (v380 : BitVec 32) (k0_hw43 : k0_chk43 v380) (k0_t74 : Fin (k0_t74_loop v380).trips), ∀ a, (k0_off117 v380 k0_t74) a + S1x16.size a ≤ S8x6400.size a := fun v380 k0_hw43 k0_t74 => k0_hw43.2.2.1 k0_t74
theorem k0_t75_ok : ∀ (v380 : BitVec 32) (k0_hw43 : k0_chk43 v380), (k0_t75_loop v380).OK := fun v380 k0_hw43 => k0_hw43.2.2.2.1
theorem k0_mult119_dvd : ∀ (v380 : BitVec 32) (k0_hw43 : k0_chk43 v380) (k0_t75 : Fin (k0_t75_loop v380).trips), 16 ∣ (k0_mult119 v380 k0_t75).toNat := fun v380 k0_hw43 k0_t75 => k0_hw43.2.2.2.2.1 k0_t75
theorem k0_off118_inb : ∀ (v380 : BitVec 32) (k0_hw43 : k0_chk43 v380) (k0_t75 : Fin (k0_t75_loop v380).trips), ∀ a, (k0_off118 v380 k0_t75) a + S1x16.size a ≤ S8x6400.size a := fun v380 k0_hw43 k0_t75 => k0_hw43.2.2.2.2.2.1 k0_t75
theorem k0_mult120_dvd : ∀ (v380 : BitVec 32) (k0_hw43 : k0_chk43 v380), 16 ∣ (k0_mult120 v380).toNat := fun v380 k0_hw43 => k0_hw43.2.2.2.2.2.2.1
theorem k0_off119_inb : ∀ (v380 : BitVec 32) (k0_hw43 : k0_chk43 v380), ∀ a, (k0_off119 v380) a + S1x16.size a ≤ S8x6400.size a := fun v380 k0_hw43 => k0_hw43.2.2.2.2.2.2.2.1
theorem k0_t76_ok : ∀ (v380 : BitVec 32) (k0_hw43 : k0_chk43 v380), (k0_t76_loop v380).OK := fun v380 k0_hw43 => k0_hw43.2.2.2.2.2.2.2.2.1
theorem k0_mult121_dvd : ∀ (v380 : BitVec 32) (k0_hw43 : k0_chk43 v380) (k0_t76 : Fin (k0_t76_loop v380).trips), 16 ∣ (k0_mult121 v380 k0_t76).toNat := fun v380 k0_hw43 k0_t76 => k0_hw43.2.2.2.2.2.2.2.2.2.1 k0_t76
theorem k0_off120_inb : ∀ (v380 : BitVec 32) (k0_hw43 : k0_chk43 v380) (k0_t76 : Fin (k0_t76_loop v380).trips), ∀ a, (k0_off120 v380 k0_t76) a + S1x16.size a ≤ S8x6400.size a := fun v380 k0_hw43 k0_t76 => k0_hw43.2.2.2.2.2.2.2.2.2.2.1 k0_t76
theorem k0_t77_ok : ∀ (v380 : BitVec 32) (k0_hw43 : k0_chk43 v380), (k0_t77_loop v380).OK := fun v380 k0_hw43 => k0_hw43.2.2.2.2.2.2.2.2.2.2.2.1
theorem k0_mult122_dvd : ∀ (v380 : BitVec 32) (k0_hw43 : k0_chk43 v380) (k0_t77 : Fin (k0_t77_loop v380).trips), 16 ∣ (k0_mult122 v380 k0_t77).toNat := fun v380 k0_hw43 k0_t77 => k0_hw43.2.2.2.2.2.2.2.2.2.2.2.2.1 k0_t77
theorem k0_off121_inb : ∀ (v380 : BitVec 32) (k0_hw43 : k0_chk43 v380) (k0_t77 : Fin (k0_t77_loop v380).trips), ∀ a, (k0_off121 v380 k0_t77) a + S1x16.size a ≤ S8x6400.size a := fun v380 k0_hw43 k0_t77 => k0_hw43.2.2.2.2.2.2.2.2.2.2.2.2.2 k0_t77

@[reducible] def k0_t78_loop (v421 : BitVec 32) : Scf.Loop 32 :=
  let c0_i32_213 : BitVec 32 := 0#32
  let c6400_i32_211 : BitVec 32 := 6400#32
  let c0_i32_210 : BitVec 32 := 0#32
  let c89600_i32_209 : BitVec 32 := 89600#32
  let v422 : BitVec 32 := Scalar.subi v421 c89600_i32_209
  let v423 : BitVec 32 := Scalar.maxsi c0_i32_210 v422
  let v424 : BitVec 32 := Scalar.minsi c6400_i32_211 v423
  let c4_i32_212 : BitVec 32 := 4#32
  let v425 : BitVec 32 := Scalar.shrui v424 c4_i32_212
  let v426 : BitVec 32 := Scalar.subi v425 c0_i32_213
  let c1_i32_214 : BitVec 32 := 1#32
  let v428 : BitVec 32 := Scalar.divsi v426 c1_i32_214
  let v429 : BitVec 32 := Scalar.muli v428 c1_i32_214
  let v430 : BitVec 32 := Scalar.addi c0_i32_213 v429
  let c1_i32_215 : BitVec 32 := 1#32
  ⟨c0_i32_213, v430, c1_i32_215⟩

def k0_mult123 (v421 : BitVec 32) (k0_t78 : Fin (k0_t78_loop v421).trips) : BitVec 32 :=
  let c0_i32_213 : BitVec 32 := 0#32
  let c1_i32_215 : BitVec 32 := 1#32
  let arg18 : BitVec 32 := Scf.iv c0_i32_213 c1_i32_215 k0_t78
  let c16_i32_538 : BitVec 32 := 16#32
  let v1280 : BitVec 32 := Scalar.muli arg18 c16_i32_538
  v1280
def k0_off122 (v421 : BitVec 32) (k0_t78 : Fin (k0_t78_loop v421).trips) : Fin 2 → Nat :=
  let c3_i32_539 : BitVec 32 := 3#32
  let v1282 : Index := Scalar.indexCast c3_i32_539
  let c0_i32_213 : BitVec 32 := 0#32
  let c1_i32_215 : BitVec 32 := 1#32
  let arg18 : BitVec 32 := Scf.iv c0_i32_213 c1_i32_215 k0_t78
  let c16_i32_538 : BitVec 32 := 16#32
  let v1280 : BitVec 32 := Scalar.muli arg18 c16_i32_538
  let v1281 : BitVec 32 := v1280
  let v1283 : Index := Scalar.indexCast v1281
  ![3, v1283.toNat]
@[reducible] def k0_t79_loop (v421 : BitVec 32) : Scf.Loop 32 :=
  let c0_i32_213 : BitVec 32 := 0#32
  let c6400_i32_211 : BitVec 32 := 6400#32
  let c0_i32_210 : BitVec 32 := 0#32
  let c89600_i32_209 : BitVec 32 := 89600#32
  let v422 : BitVec 32 := Scalar.subi v421 c89600_i32_209
  let v423 : BitVec 32 := Scalar.maxsi c0_i32_210 v422
  let v424 : BitVec 32 := Scalar.minsi c6400_i32_211 v423
  let c4_i32_212 : BitVec 32 := 4#32
  let v425 : BitVec 32 := Scalar.shrui v424 c4_i32_212
  let v426 : BitVec 32 := Scalar.subi v425 c0_i32_213
  let c1_i32_214 : BitVec 32 := 1#32
  let v428 : BitVec 32 := Scalar.divsi v426 c1_i32_214
  let v429 : BitVec 32 := Scalar.muli v428 c1_i32_214
  let v430 : BitVec 32 := Scalar.addi c0_i32_213 v429
  let v427 : BitVec 32 := Scalar.addi c0_i32_213 v426
  let c1_i32_216 : BitVec 32 := 1#32
  ⟨v430, v427, c1_i32_216⟩
def k0_mult124 (v421 : BitVec 32) (k0_t79 : Fin (k0_t79_loop v421).trips) : BitVec 32 :=
  let c0_i32_213 : BitVec 32 := 0#32
  let c6400_i32_211 : BitVec 32 := 6400#32
  let c0_i32_210 : BitVec 32 := 0#32
  let c89600_i32_209 : BitVec 32 := 89600#32
  let v422 : BitVec 32 := Scalar.subi v421 c89600_i32_209
  let v423 : BitVec 32 := Scalar.maxsi c0_i32_210 v422
  let v424 : BitVec 32 := Scalar.minsi c6400_i32_211 v423
  let c4_i32_212 : BitVec 32 := 4#32
  let v425 : BitVec 32 := Scalar.shrui v424 c4_i32_212
  let v426 : BitVec 32 := Scalar.subi v425 c0_i32_213
  let c1_i32_214 : BitVec 32 := 1#32
  let v428 : BitVec 32 := Scalar.divsi v426 c1_i32_214
  let v429 : BitVec 32 := Scalar.muli v428 c1_i32_214
  let v430 : BitVec 32 := Scalar.addi c0_i32_213 v429
  let c1_i32_216 : BitVec 32 := 1#32
  let arg18 : BitVec 32 := Scf.iv v430 c1_i32_216 k0_t79
  let c16_i32_538 : BitVec 32 := 16#32
  let v1280 : BitVec 32 := Scalar.muli arg18 c16_i32_538
  v1280
def k0_off123 (v421 : BitVec 32) (k0_t79 : Fin (k0_t79_loop v421).trips) : Fin 2 → Nat :=
  let c3_i32_539 : BitVec 32 := 3#32
  let v1282 : Index := Scalar.indexCast c3_i32_539
  let c0_i32_213 : BitVec 32 := 0#32
  let c6400_i32_211 : BitVec 32 := 6400#32
  let c0_i32_210 : BitVec 32 := 0#32
  let c89600_i32_209 : BitVec 32 := 89600#32
  let v422 : BitVec 32 := Scalar.subi v421 c89600_i32_209
  let v423 : BitVec 32 := Scalar.maxsi c0_i32_210 v422
  let v424 : BitVec 32 := Scalar.minsi c6400_i32_211 v423
  let c4_i32_212 : BitVec 32 := 4#32
  let v425 : BitVec 32 := Scalar.shrui v424 c4_i32_212
  let v426 : BitVec 32 := Scalar.subi v425 c0_i32_213
  let c1_i32_214 : BitVec 32 := 1#32
  let v428 : BitVec 32 := Scalar.divsi v426 c1_i32_214
  let v429 : BitVec 32 := Scalar.muli v428 c1_i32_214
  let v430 : BitVec 32 := Scalar.addi c0_i32_213 v429
  let c1_i32_216 : BitVec 32 := 1#32
  let arg18 : BitVec 32 := Scf.iv v430 c1_i32_216 k0_t79
  let c16_i32_538 : BitVec 32 := 16#32
  let v1280 : BitVec 32 := Scalar.muli arg18 c16_i32_538
  let v1281 : BitVec 32 := v1280
  let v1283 : Index := Scalar.indexCast v1281
  ![3, v1283.toNat]
def k0_mult125 (v421 : BitVec 32) : BitVec 32 :=
  let c6400_i32_211 : BitVec 32 := 6400#32
  let c0_i32_210 : BitVec 32 := 0#32
  let c89600_i32_209 : BitVec 32 := 89600#32
  let v422 : BitVec 32 := Scalar.subi v421 c89600_i32_209
  let v423 : BitVec 32 := Scalar.maxsi c0_i32_210 v422
  let v424 : BitVec 32 := Scalar.minsi c6400_i32_211 v423
  let c4_i32_212 : BitVec 32 := 4#32
  let v425 : BitVec 32 := Scalar.shrui v424 c4_i32_212
  let c399_i32_217 : BitVec 32 := 399#32
  let v433 : BitVec 32 := Scalar.minsi v425 c399_i32_217
  let c16_i32_218 : BitVec 32 := 16#32
  let v434 : BitVec 32 := Scalar.muli v433 c16_i32_218
  v434
def k0_off124 (v421 : BitVec 32) : Fin 2 → Nat :=
  let c3_i32_219 : BitVec 32 := 3#32
  let v436 : Index := Scalar.indexCast c3_i32_219
  let c6400_i32_211 : BitVec 32 := 6400#32
  let c0_i32_210 : BitVec 32 := 0#32
  let c89600_i32_209 : BitVec 32 := 89600#32
  let v422 : BitVec 32 := Scalar.subi v421 c89600_i32_209
  let v423 : BitVec 32 := Scalar.maxsi c0_i32_210 v422
  let v424 : BitVec 32 := Scalar.minsi c6400_i32_211 v423
  let c4_i32_212 : BitVec 32 := 4#32
  let v425 : BitVec 32 := Scalar.shrui v424 c4_i32_212
  let c399_i32_217 : BitVec 32 := 399#32
  let v433 : BitVec 32 := Scalar.minsi v425 c399_i32_217
  let c16_i32_218 : BitVec 32 := 16#32
  let v434 : BitVec 32 := Scalar.muli v433 c16_i32_218
  let v435 : BitVec 32 := v434
  let v437 : Index := Scalar.indexCast v435
  ![3, v437.toNat]
@[reducible] def k0_t80_loop (v421 : BitVec 32) : Scf.Loop 32 :=
  let c6400_i32_211 : BitVec 32 := 6400#32
  let c0_i32_210 : BitVec 32 := 0#32
  let c89600_i32_209 : BitVec 32 := 89600#32
  let v422 : BitVec 32 := Scalar.subi v421 c89600_i32_209
  let v423 : BitVec 32 := Scalar.maxsi c0_i32_210 v422
  let v424 : BitVec 32 := Scalar.minsi c6400_i32_211 v423
  let c4_i32_212 : BitVec 32 := 4#32
  let v425 : BitVec 32 := Scalar.shrui v424 c4_i32_212
  let c1_i32_223 : BitVec 32 := 1#32
  let v453 : BitVec 32 := Scalar.addi v425 c1_i32_223
  let c400_i32_224 : BitVec 32 := 400#32
  let v454 : BitVec 32 := Scalar.subi c400_i32_224 v453
  let c1_i32_225 : BitVec 32 := 1#32
  let v456 : BitVec 32 := Scalar.divsi v454 c1_i32_225
  let v457 : BitVec 32 := Scalar.muli v456 c1_i32_225
  let v458 : BitVec 32 := Scalar.addi v453 v457
  let c1_i32_226 : BitVec 32 := 1#32
  ⟨v453, v458, c1_i32_226⟩
def k0_mult126 (v421 : BitVec 32) (k0_t80 : Fin (k0_t80_loop v421).trips) : BitVec 32 :=
  let c6400_i32_211 : BitVec 32 := 6400#32
  let c0_i32_210 : BitVec 32 := 0#32
  let c89600_i32_209 : BitVec 32 := 89600#32
  let v422 : BitVec 32 := Scalar.subi v421 c89600_i32_209
  let v423 : BitVec 32 := Scalar.maxsi c0_i32_210 v422
  let v424 : BitVec 32 := Scalar.minsi c6400_i32_211 v423
  let c4_i32_212 : BitVec 32 := 4#32
  let v425 : BitVec 32 := Scalar.shrui v424 c4_i32_212
  let c1_i32_223 : BitVec 32 := 1#32
  let v453 : BitVec 32 := Scalar.addi v425 c1_i32_223
  let c1_i32_226 : BitVec 32 := 1#32
  let arg18 : BitVec 32 := Scf.iv v453 c1_i32_226 k0_t80
  let c16_i32_538 : BitVec 32 := 16#32
  let v1280 : BitVec 32 := Scalar.muli arg18 c16_i32_538
  v1280
def k0_off125 (v421 : BitVec 32) (k0_t80 : Fin (k0_t80_loop v421).trips) : Fin 2 → Nat :=
  let c3_i32_539 : BitVec 32 := 3#32
  let v1282 : Index := Scalar.indexCast c3_i32_539
  let c6400_i32_211 : BitVec 32 := 6400#32
  let c0_i32_210 : BitVec 32 := 0#32
  let c89600_i32_209 : BitVec 32 := 89600#32
  let v422 : BitVec 32 := Scalar.subi v421 c89600_i32_209
  let v423 : BitVec 32 := Scalar.maxsi c0_i32_210 v422
  let v424 : BitVec 32 := Scalar.minsi c6400_i32_211 v423
  let c4_i32_212 : BitVec 32 := 4#32
  let v425 : BitVec 32 := Scalar.shrui v424 c4_i32_212
  let c1_i32_223 : BitVec 32 := 1#32
  let v453 : BitVec 32 := Scalar.addi v425 c1_i32_223
  let c1_i32_226 : BitVec 32 := 1#32
  let arg18 : BitVec 32 := Scf.iv v453 c1_i32_226 k0_t80
  let c16_i32_538 : BitVec 32 := 16#32
  let v1280 : BitVec 32 := Scalar.muli arg18 c16_i32_538
  let v1281 : BitVec 32 := v1280
  let v1283 : Index := Scalar.indexCast v1281
  ![3, v1283.toNat]
@[reducible] def k0_t81_loop (v421 : BitVec 32) : Scf.Loop 32 :=
  let c6400_i32_211 : BitVec 32 := 6400#32
  let c0_i32_210 : BitVec 32 := 0#32
  let c89600_i32_209 : BitVec 32 := 89600#32
  let v422 : BitVec 32 := Scalar.subi v421 c89600_i32_209
  let v423 : BitVec 32 := Scalar.maxsi c0_i32_210 v422
  let v424 : BitVec 32 := Scalar.minsi c6400_i32_211 v423
  let c4_i32_212 : BitVec 32 := 4#32
  let v425 : BitVec 32 := Scalar.shrui v424 c4_i32_212
  let c1_i32_223 : BitVec 32 := 1#32
  let v453 : BitVec 32 := Scalar.addi v425 c1_i32_223
  let c400_i32_224 : BitVec 32 := 400#32
  let v454 : BitVec 32 := Scalar.subi c400_i32_224 v453
  let c1_i32_225 : BitVec 32 := 1#32
  let v456 : BitVec 32 := Scalar.divsi v454 c1_i32_225
  let v457 : BitVec 32 := Scalar.muli v456 c1_i32_225
  let v458 : BitVec 32 := Scalar.addi v453 v457
  let v455 : BitVec 32 := Scalar.addi v453 v454
  let c1_i32_227 : BitVec 32 := 1#32
  ⟨v458, v455, c1_i32_227⟩
def k0_mult127 (v421 : BitVec 32) (k0_t81 : Fin (k0_t81_loop v421).trips) : BitVec 32 :=
  let c6400_i32_211 : BitVec 32 := 6400#32
  let c0_i32_210 : BitVec 32 := 0#32
  let c89600_i32_209 : BitVec 32 := 89600#32
  let v422 : BitVec 32 := Scalar.subi v421 c89600_i32_209
  let v423 : BitVec 32 := Scalar.maxsi c0_i32_210 v422
  let v424 : BitVec 32 := Scalar.minsi c6400_i32_211 v423
  let c4_i32_212 : BitVec 32 := 4#32
  let v425 : BitVec 32 := Scalar.shrui v424 c4_i32_212
  let c1_i32_223 : BitVec 32 := 1#32
  let v453 : BitVec 32 := Scalar.addi v425 c1_i32_223
  let c400_i32_224 : BitVec 32 := 400#32
  let v454 : BitVec 32 := Scalar.subi c400_i32_224 v453
  let c1_i32_225 : BitVec 32 := 1#32
  let v456 : BitVec 32 := Scalar.divsi v454 c1_i32_225
  let v457 : BitVec 32 := Scalar.muli v456 c1_i32_225
  let v458 : BitVec 32 := Scalar.addi v453 v457
  let c1_i32_227 : BitVec 32 := 1#32
  let arg18 : BitVec 32 := Scf.iv v458 c1_i32_227 k0_t81
  let c16_i32_538 : BitVec 32 := 16#32
  let v1280 : BitVec 32 := Scalar.muli arg18 c16_i32_538
  v1280
def k0_off126 (v421 : BitVec 32) (k0_t81 : Fin (k0_t81_loop v421).trips) : Fin 2 → Nat :=
  let c3_i32_539 : BitVec 32 := 3#32
  let v1282 : Index := Scalar.indexCast c3_i32_539
  let c6400_i32_211 : BitVec 32 := 6400#32
  let c0_i32_210 : BitVec 32 := 0#32
  let c89600_i32_209 : BitVec 32 := 89600#32
  let v422 : BitVec 32 := Scalar.subi v421 c89600_i32_209
  let v423 : BitVec 32 := Scalar.maxsi c0_i32_210 v422
  let v424 : BitVec 32 := Scalar.minsi c6400_i32_211 v423
  let c4_i32_212 : BitVec 32 := 4#32
  let v425 : BitVec 32 := Scalar.shrui v424 c4_i32_212
  let c1_i32_223 : BitVec 32 := 1#32
  let v453 : BitVec 32 := Scalar.addi v425 c1_i32_223
  let c400_i32_224 : BitVec 32 := 400#32
  let v454 : BitVec 32 := Scalar.subi c400_i32_224 v453
  let c1_i32_225 : BitVec 32 := 1#32
  let v456 : BitVec 32 := Scalar.divsi v454 c1_i32_225
  let v457 : BitVec 32 := Scalar.muli v456 c1_i32_225
  let v458 : BitVec 32 := Scalar.addi v453 v457
  let c1_i32_227 : BitVec 32 := 1#32
  let arg18 : BitVec 32 := Scf.iv v458 c1_i32_227 k0_t81
  let c16_i32_538 : BitVec 32 := 16#32
  let v1280 : BitVec 32 := Scalar.muli arg18 c16_i32_538
  let v1281 : BitVec 32 := v1280
  let v1283 : Index := Scalar.indexCast v1281
  ![3, v1283.toNat]

def k0_chk44 (v421 : BitVec 32) : Prop :=
  ((k0_t78_loop v421).OK) ∧
  (∀ k0_t78 : Fin (k0_t78_loop v421).trips, 16 ∣ (k0_mult123 v421 k0_t78).toNat) ∧
  (∀ k0_t78 : Fin (k0_t78_loop v421).trips, ∀ a, (k0_off122 v421 k0_t78) a + S1x16.size a ≤ S8x6400.size a) ∧
  ((k0_t79_loop v421).OK) ∧
  (∀ k0_t79 : Fin (k0_t79_loop v421).trips, 16 ∣ (k0_mult124 v421 k0_t79).toNat) ∧
  (∀ k0_t79 : Fin (k0_t79_loop v421).trips, ∀ a, (k0_off123 v421 k0_t79) a + S1x16.size a ≤ S8x6400.size a) ∧
  (16 ∣ (k0_mult125 v421).toNat) ∧
  (∀ a, (k0_off124 v421) a + S1x16.size a ≤ S8x6400.size a) ∧
  ((k0_t80_loop v421).OK) ∧
  (∀ k0_t80 : Fin (k0_t80_loop v421).trips, 16 ∣ (k0_mult126 v421 k0_t80).toNat) ∧
  (∀ k0_t80 : Fin (k0_t80_loop v421).trips, ∀ a, (k0_off125 v421 k0_t80) a + S1x16.size a ≤ S8x6400.size a) ∧
  ((k0_t81_loop v421).OK) ∧
  (∀ k0_t81 : Fin (k0_t81_loop v421).trips, 16 ∣ (k0_mult127 v421 k0_t81).toNat) ∧
  (∀ k0_t81 : Fin (k0_t81_loop v421).trips, ∀ a, (k0_off126 v421 k0_t81) a + S1x16.size a ≤ S8x6400.size a)
theorem k0_t78_ok : ∀ (v421 : BitVec 32) (k0_hw44 : k0_chk44 v421), (k0_t78_loop v421).OK := fun v421 k0_hw44 => k0_hw44.1
theorem k0_mult123_dvd : ∀ (v421 : BitVec 32) (k0_hw44 : k0_chk44 v421) (k0_t78 : Fin (k0_t78_loop v421).trips), 16 ∣ (k0_mult123 v421 k0_t78).toNat := fun v421 k0_hw44 k0_t78 => k0_hw44.2.1 k0_t78
theorem k0_off122_inb : ∀ (v421 : BitVec 32) (k0_hw44 : k0_chk44 v421) (k0_t78 : Fin (k0_t78_loop v421).trips), ∀ a, (k0_off122 v421 k0_t78) a + S1x16.size a ≤ S8x6400.size a := fun v421 k0_hw44 k0_t78 => k0_hw44.2.2.1 k0_t78
theorem k0_t79_ok : ∀ (v421 : BitVec 32) (k0_hw44 : k0_chk44 v421), (k0_t79_loop v421).OK := fun v421 k0_hw44 => k0_hw44.2.2.2.1
theorem k0_mult124_dvd : ∀ (v421 : BitVec 32) (k0_hw44 : k0_chk44 v421) (k0_t79 : Fin (k0_t79_loop v421).trips), 16 ∣ (k0_mult124 v421 k0_t79).toNat := fun v421 k0_hw44 k0_t79 => k0_hw44.2.2.2.2.1 k0_t79
theorem k0_off123_inb : ∀ (v421 : BitVec 32) (k0_hw44 : k0_chk44 v421) (k0_t79 : Fin (k0_t79_loop v421).trips), ∀ a, (k0_off123 v421 k0_t79) a + S1x16.size a ≤ S8x6400.size a := fun v421 k0_hw44 k0_t79 => k0_hw44.2.2.2.2.2.1 k0_t79
theorem k0_mult125_dvd : ∀ (v421 : BitVec 32) (k0_hw44 : k0_chk44 v421), 16 ∣ (k0_mult125 v421).toNat := fun v421 k0_hw44 => k0_hw44.2.2.2.2.2.2.1
theorem k0_off124_inb : ∀ (v421 : BitVec 32) (k0_hw44 : k0_chk44 v421), ∀ a, (k0_off124 v421) a + S1x16.size a ≤ S8x6400.size a := fun v421 k0_hw44 => k0_hw44.2.2.2.2.2.2.2.1
theorem k0_t80_ok : ∀ (v421 : BitVec 32) (k0_hw44 : k0_chk44 v421), (k0_t80_loop v421).OK := fun v421 k0_hw44 => k0_hw44.2.2.2.2.2.2.2.2.1
theorem k0_mult126_dvd : ∀ (v421 : BitVec 32) (k0_hw44 : k0_chk44 v421) (k0_t80 : Fin (k0_t80_loop v421).trips), 16 ∣ (k0_mult126 v421 k0_t80).toNat := fun v421 k0_hw44 k0_t80 => k0_hw44.2.2.2.2.2.2.2.2.2.1 k0_t80
theorem k0_off125_inb : ∀ (v421 : BitVec 32) (k0_hw44 : k0_chk44 v421) (k0_t80 : Fin (k0_t80_loop v421).trips), ∀ a, (k0_off125 v421 k0_t80) a + S1x16.size a ≤ S8x6400.size a := fun v421 k0_hw44 k0_t80 => k0_hw44.2.2.2.2.2.2.2.2.2.2.1 k0_t80
theorem k0_t81_ok : ∀ (v421 : BitVec 32) (k0_hw44 : k0_chk44 v421), (k0_t81_loop v421).OK := fun v421 k0_hw44 => k0_hw44.2.2.2.2.2.2.2.2.2.2.2.1
theorem k0_mult127_dvd : ∀ (v421 : BitVec 32) (k0_hw44 : k0_chk44 v421) (k0_t81 : Fin (k0_t81_loop v421).trips), 16 ∣ (k0_mult127 v421 k0_t81).toNat := fun v421 k0_hw44 k0_t81 => k0_hw44.2.2.2.2.2.2.2.2.2.2.2.2.1 k0_t81
theorem k0_off126_inb : ∀ (v421 : BitVec 32) (k0_hw44 : k0_chk44 v421) (k0_t81 : Fin (k0_t81_loop v421).trips), ∀ a, (k0_off126 v421 k0_t81) a + S1x16.size a ≤ S8x6400.size a := fun v421 k0_hw44 k0_t81 => k0_hw44.2.2.2.2.2.2.2.2.2.2.2.2.2 k0_t81

@[reducible] def k0_t82_loop (v462 : BitVec 32) : Scf.Loop 32 :=
  let c0_i32_232 : BitVec 32 := 0#32
  let c6400_i32_230 : BitVec 32 := 6400#32
  let c0_i32_229 : BitVec 32 := 0#32
  let c89600_i32_228 : BitVec 32 := 89600#32
  let v463 : BitVec 32 := Scalar.subi v462 c89600_i32_228
  let v464 : BitVec 32 := Scalar.maxsi c0_i32_229 v463
  let v465 : BitVec 32 := Scalar.minsi c6400_i32_230 v464
  let c4_i32_231 : BitVec 32 := 4#32
  let v466 : BitVec 32 := Scalar.shrui v465 c4_i32_231
  let v467 : BitVec 32 := Scalar.subi v466 c0_i32_232
  let c1_i32_233 : BitVec 32 := 1#32
  let v469 : BitVec 32 := Scalar.divsi v467 c1_i32_233
  let v470 : BitVec 32 := Scalar.muli v469 c1_i32_233
  let v471 : BitVec 32 := Scalar.addi c0_i32_232 v470
  let c1_i32_234 : BitVec 32 := 1#32
  ⟨c0_i32_232, v471, c1_i32_234⟩

def k0_mult128 (v462 : BitVec 32) (k0_t82 : Fin (k0_t82_loop v462).trips) : BitVec 32 :=
  let c0_i32_232 : BitVec 32 := 0#32
  let c1_i32_234 : BitVec 32 := 1#32
  let arg18 : BitVec 32 := Scf.iv c0_i32_232 c1_i32_234 k0_t82
  let c16_i32_538 : BitVec 32 := 16#32
  let v1280 : BitVec 32 := Scalar.muli arg18 c16_i32_538
  v1280
def k0_off127 (v462 : BitVec 32) (k0_t82 : Fin (k0_t82_loop v462).trips) : Fin 2 → Nat :=
  let c4_i32_539 : BitVec 32 := 4#32
  let v1282 : Index := Scalar.indexCast c4_i32_539
  let c0_i32_232 : BitVec 32 := 0#32
  let c1_i32_234 : BitVec 32 := 1#32
  let arg18 : BitVec 32 := Scf.iv c0_i32_232 c1_i32_234 k0_t82
  let c16_i32_538 : BitVec 32 := 16#32
  let v1280 : BitVec 32 := Scalar.muli arg18 c16_i32_538
  let v1281 : BitVec 32 := v1280
  let v1283 : Index := Scalar.indexCast v1281
  ![4, v1283.toNat]
@[reducible] def k0_t83_loop (v462 : BitVec 32) : Scf.Loop 32 :=
  let c0_i32_232 : BitVec 32 := 0#32
  let c6400_i32_230 : BitVec 32 := 6400#32
  let c0_i32_229 : BitVec 32 := 0#32
  let c89600_i32_228 : BitVec 32 := 89600#32
  let v463 : BitVec 32 := Scalar.subi v462 c89600_i32_228
  let v464 : BitVec 32 := Scalar.maxsi c0_i32_229 v463
  let v465 : BitVec 32 := Scalar.minsi c6400_i32_230 v464
  let c4_i32_231 : BitVec 32 := 4#32
  let v466 : BitVec 32 := Scalar.shrui v465 c4_i32_231
  let v467 : BitVec 32 := Scalar.subi v466 c0_i32_232
  let c1_i32_233 : BitVec 32 := 1#32
  let v469 : BitVec 32 := Scalar.divsi v467 c1_i32_233
  let v470 : BitVec 32 := Scalar.muli v469 c1_i32_233
  let v471 : BitVec 32 := Scalar.addi c0_i32_232 v470
  let v468 : BitVec 32 := Scalar.addi c0_i32_232 v467
  let c1_i32_235 : BitVec 32 := 1#32
  ⟨v471, v468, c1_i32_235⟩
def k0_mult129 (v462 : BitVec 32) (k0_t83 : Fin (k0_t83_loop v462).trips) : BitVec 32 :=
  let c0_i32_232 : BitVec 32 := 0#32
  let c6400_i32_230 : BitVec 32 := 6400#32
  let c0_i32_229 : BitVec 32 := 0#32
  let c89600_i32_228 : BitVec 32 := 89600#32
  let v463 : BitVec 32 := Scalar.subi v462 c89600_i32_228
  let v464 : BitVec 32 := Scalar.maxsi c0_i32_229 v463
  let v465 : BitVec 32 := Scalar.minsi c6400_i32_230 v464
  let c4_i32_231 : BitVec 32 := 4#32
  let v466 : BitVec 32 := Scalar.shrui v465 c4_i32_231
  let v467 : BitVec 32 := Scalar.subi v466 c0_i32_232
  let c1_i32_233 : BitVec 32 := 1#32
  let v469 : BitVec 32 := Scalar.divsi v467 c1_i32_233
  let v470 : BitVec 32 := Scalar.muli v469 c1_i32_233
  let v471 : BitVec 32 := Scalar.addi c0_i32_232 v470
  let c1_i32_235 : BitVec 32 := 1#32
  let arg18 : BitVec 32 := Scf.iv v471 c1_i32_235 k0_t83
  let c16_i32_538 : BitVec 32 := 16#32
  let v1280 : BitVec 32 := Scalar.muli arg18 c16_i32_538
  v1280
def k0_off128 (v462 : BitVec 32) (k0_t83 : Fin (k0_t83_loop v462).trips) : Fin 2 → Nat :=
  let c4_i32_539 : BitVec 32 := 4#32
  let v1282 : Index := Scalar.indexCast c4_i32_539
  let c0_i32_232 : BitVec 32 := 0#32
  let c6400_i32_230 : BitVec 32 := 6400#32
  let c0_i32_229 : BitVec 32 := 0#32
  let c89600_i32_228 : BitVec 32 := 89600#32
  let v463 : BitVec 32 := Scalar.subi v462 c89600_i32_228
  let v464 : BitVec 32 := Scalar.maxsi c0_i32_229 v463
  let v465 : BitVec 32 := Scalar.minsi c6400_i32_230 v464
  let c4_i32_231 : BitVec 32 := 4#32
  let v466 : BitVec 32 := Scalar.shrui v465 c4_i32_231
  let v467 : BitVec 32 := Scalar.subi v466 c0_i32_232
  let c1_i32_233 : BitVec 32 := 1#32
  let v469 : BitVec 32 := Scalar.divsi v467 c1_i32_233
  let v470 : BitVec 32 := Scalar.muli v469 c1_i32_233
  let v471 : BitVec 32 := Scalar.addi c0_i32_232 v470
  let c1_i32_235 : BitVec 32 := 1#32
  let arg18 : BitVec 32 := Scf.iv v471 c1_i32_235 k0_t83
  let c16_i32_538 : BitVec 32 := 16#32
  let v1280 : BitVec 32 := Scalar.muli arg18 c16_i32_538
  let v1281 : BitVec 32 := v1280
  let v1283 : Index := Scalar.indexCast v1281
  ![4, v1283.toNat]
def k0_mult130 (v462 : BitVec 32) : BitVec 32 :=
  let c6400_i32_230 : BitVec 32 := 6400#32
  let c0_i32_229 : BitVec 32 := 0#32
  let c89600_i32_228 : BitVec 32 := 89600#32
  let v463 : BitVec 32 := Scalar.subi v462 c89600_i32_228
  let v464 : BitVec 32 := Scalar.maxsi c0_i32_229 v463
  let v465 : BitVec 32 := Scalar.minsi c6400_i32_230 v464
  let c4_i32_231 : BitVec 32 := 4#32
  let v466 : BitVec 32 := Scalar.shrui v465 c4_i32_231
  let c399_i32_236 : BitVec 32 := 399#32
  let v474 : BitVec 32 := Scalar.minsi v466 c399_i32_236
  let c16_i32_237 : BitVec 32 := 16#32
  let v475 : BitVec 32 := Scalar.muli v474 c16_i32_237
  v475
def k0_off129 (v462 : BitVec 32) : Fin 2 → Nat :=
  let c4_i32_238 : BitVec 32 := 4#32
  let v477 : Index := Scalar.indexCast c4_i32_238
  let c6400_i32_230 : BitVec 32 := 6400#32
  let c0_i32_229 : BitVec 32 := 0#32
  let c89600_i32_228 : BitVec 32 := 89600#32
  let v463 : BitVec 32 := Scalar.subi v462 c89600_i32_228
  let v464 : BitVec 32 := Scalar.maxsi c0_i32_229 v463
  let v465 : BitVec 32 := Scalar.minsi c6400_i32_230 v464
  let c4_i32_231 : BitVec 32 := 4#32
  let v466 : BitVec 32 := Scalar.shrui v465 c4_i32_231
  let c399_i32_236 : BitVec 32 := 399#32
  let v474 : BitVec 32 := Scalar.minsi v466 c399_i32_236
  let c16_i32_237 : BitVec 32 := 16#32
  let v475 : BitVec 32 := Scalar.muli v474 c16_i32_237
  let v476 : BitVec 32 := v475
  let v478 : Index := Scalar.indexCast v476
  ![4, v478.toNat]
@[reducible] def k0_t84_loop (v462 : BitVec 32) : Scf.Loop 32 :=
  let c6400_i32_230 : BitVec 32 := 6400#32
  let c0_i32_229 : BitVec 32 := 0#32
  let c89600_i32_228 : BitVec 32 := 89600#32
  let v463 : BitVec 32 := Scalar.subi v462 c89600_i32_228
  let v464 : BitVec 32 := Scalar.maxsi c0_i32_229 v463
  let v465 : BitVec 32 := Scalar.minsi c6400_i32_230 v464
  let c4_i32_231 : BitVec 32 := 4#32
  let v466 : BitVec 32 := Scalar.shrui v465 c4_i32_231
  let c1_i32_242 : BitVec 32 := 1#32
  let v494 : BitVec 32 := Scalar.addi v466 c1_i32_242
  let c400_i32_243 : BitVec 32 := 400#32
  let v495 : BitVec 32 := Scalar.subi c400_i32_243 v494
  let c1_i32_244 : BitVec 32 := 1#32
  let v497 : BitVec 32 := Scalar.divsi v495 c1_i32_244
  let v498 : BitVec 32 := Scalar.muli v497 c1_i32_244
  let v499 : BitVec 32 := Scalar.addi v494 v498
  let c1_i32_245 : BitVec 32 := 1#32
  ⟨v494, v499, c1_i32_245⟩
def k0_mult131 (v462 : BitVec 32) (k0_t84 : Fin (k0_t84_loop v462).trips) : BitVec 32 :=
  let c6400_i32_230 : BitVec 32 := 6400#32
  let c0_i32_229 : BitVec 32 := 0#32
  let c89600_i32_228 : BitVec 32 := 89600#32
  let v463 : BitVec 32 := Scalar.subi v462 c89600_i32_228
  let v464 : BitVec 32 := Scalar.maxsi c0_i32_229 v463
  let v465 : BitVec 32 := Scalar.minsi c6400_i32_230 v464
  let c4_i32_231 : BitVec 32 := 4#32
  let v466 : BitVec 32 := Scalar.shrui v465 c4_i32_231
  let c1_i32_242 : BitVec 32 := 1#32
  let v494 : BitVec 32 := Scalar.addi v466 c1_i32_242
  let c1_i32_245 : BitVec 32 := 1#32
  let arg18 : BitVec 32 := Scf.iv v494 c1_i32_245 k0_t84
  let c16_i32_538 : BitVec 32 := 16#32
  let v1280 : BitVec 32 := Scalar.muli arg18 c16_i32_538
  v1280
def k0_off130 (v462 : BitVec 32) (k0_t84 : Fin (k0_t84_loop v462).trips) : Fin 2 → Nat :=
  let c4_i32_539 : BitVec 32 := 4#32
  let v1282 : Index := Scalar.indexCast c4_i32_539
  let c6400_i32_230 : BitVec 32 := 6400#32
  let c0_i32_229 : BitVec 32 := 0#32
  let c89600_i32_228 : BitVec 32 := 89600#32
  let v463 : BitVec 32 := Scalar.subi v462 c89600_i32_228
  let v464 : BitVec 32 := Scalar.maxsi c0_i32_229 v463
  let v465 : BitVec 32 := Scalar.minsi c6400_i32_230 v464
  let c4_i32_231 : BitVec 32 := 4#32
  let v466 : BitVec 32 := Scalar.shrui v465 c4_i32_231
  let c1_i32_242 : BitVec 32 := 1#32
  let v494 : BitVec 32 := Scalar.addi v466 c1_i32_242
  let c1_i32_245 : BitVec 32 := 1#32
  let arg18 : BitVec 32 := Scf.iv v494 c1_i32_245 k0_t84
  let c16_i32_538 : BitVec 32 := 16#32
  let v1280 : BitVec 32 := Scalar.muli arg18 c16_i32_538
  let v1281 : BitVec 32 := v1280
  let v1283 : Index := Scalar.indexCast v1281
  ![4, v1283.toNat]
@[reducible] def k0_t85_loop (v462 : BitVec 32) : Scf.Loop 32 :=
  let c6400_i32_230 : BitVec 32 := 6400#32
  let c0_i32_229 : BitVec 32 := 0#32
  let c89600_i32_228 : BitVec 32 := 89600#32
  let v463 : BitVec 32 := Scalar.subi v462 c89600_i32_228
  let v464 : BitVec 32 := Scalar.maxsi c0_i32_229 v463
  let v465 : BitVec 32 := Scalar.minsi c6400_i32_230 v464
  let c4_i32_231 : BitVec 32 := 4#32
  let v466 : BitVec 32 := Scalar.shrui v465 c4_i32_231
  let c1_i32_242 : BitVec 32 := 1#32
  let v494 : BitVec 32 := Scalar.addi v466 c1_i32_242
  let c400_i32_243 : BitVec 32 := 400#32
  let v495 : BitVec 32 := Scalar.subi c400_i32_243 v494
  let c1_i32_244 : BitVec 32 := 1#32
  let v497 : BitVec 32 := Scalar.divsi v495 c1_i32_244
  let v498 : BitVec 32 := Scalar.muli v497 c1_i32_244
  let v499 : BitVec 32 := Scalar.addi v494 v498
  let v496 : BitVec 32 := Scalar.addi v494 v495
  let c1_i32_246 : BitVec 32 := 1#32
  ⟨v499, v496, c1_i32_246⟩
def k0_mult132 (v462 : BitVec 32) (k0_t85 : Fin (k0_t85_loop v462).trips) : BitVec 32 :=
  let c6400_i32_230 : BitVec 32 := 6400#32
  let c0_i32_229 : BitVec 32 := 0#32
  let c89600_i32_228 : BitVec 32 := 89600#32
  let v463 : BitVec 32 := Scalar.subi v462 c89600_i32_228
  let v464 : BitVec 32 := Scalar.maxsi c0_i32_229 v463
  let v465 : BitVec 32 := Scalar.minsi c6400_i32_230 v464
  let c4_i32_231 : BitVec 32 := 4#32
  let v466 : BitVec 32 := Scalar.shrui v465 c4_i32_231
  let c1_i32_242 : BitVec 32 := 1#32
  let v494 : BitVec 32 := Scalar.addi v466 c1_i32_242
  let c400_i32_243 : BitVec 32 := 400#32
  let v495 : BitVec 32 := Scalar.subi c400_i32_243 v494
  let c1_i32_244 : BitVec 32 := 1#32
  let v497 : BitVec 32 := Scalar.divsi v495 c1_i32_244
  let v498 : BitVec 32 := Scalar.muli v497 c1_i32_244
  let v499 : BitVec 32 := Scalar.addi v494 v498
  let c1_i32_246 : BitVec 32 := 1#32
  let arg18 : BitVec 32 := Scf.iv v499 c1_i32_246 k0_t85
  let c16_i32_538 : BitVec 32 := 16#32
  let v1280 : BitVec 32 := Scalar.muli arg18 c16_i32_538
  v1280
def k0_off131 (v462 : BitVec 32) (k0_t85 : Fin (k0_t85_loop v462).trips) : Fin 2 → Nat :=
  let c4_i32_539 : BitVec 32 := 4#32
  let v1282 : Index := Scalar.indexCast c4_i32_539
  let c6400_i32_230 : BitVec 32 := 6400#32
  let c0_i32_229 : BitVec 32 := 0#32
  let c89600_i32_228 : BitVec 32 := 89600#32
  let v463 : BitVec 32 := Scalar.subi v462 c89600_i32_228
  let v464 : BitVec 32 := Scalar.maxsi c0_i32_229 v463
  let v465 : BitVec 32 := Scalar.minsi c6400_i32_230 v464
  let c4_i32_231 : BitVec 32 := 4#32
  let v466 : BitVec 32 := Scalar.shrui v465 c4_i32_231
  let c1_i32_242 : BitVec 32 := 1#32
  let v494 : BitVec 32 := Scalar.addi v466 c1_i32_242
  let c400_i32_243 : BitVec 32 := 400#32
  let v495 : BitVec 32 := Scalar.subi c400_i32_243 v494
  let c1_i32_244 : BitVec 32 := 1#32
  let v497 : BitVec 32 := Scalar.divsi v495 c1_i32_244
  let v498 : BitVec 32 := Scalar.muli v497 c1_i32_244
  let v499 : BitVec 32 := Scalar.addi v494 v498
  let c1_i32_246 : BitVec 32 := 1#32
  let arg18 : BitVec 32 := Scf.iv v499 c1_i32_246 k0_t85
  let c16_i32_538 : BitVec 32 := 16#32
  let v1280 : BitVec 32 := Scalar.muli arg18 c16_i32_538
  let v1281 : BitVec 32 := v1280
  let v1283 : Index := Scalar.indexCast v1281
  ![4, v1283.toNat]

def k0_chk45 (v462 : BitVec 32) : Prop :=
  ((k0_t82_loop v462).OK) ∧
  (∀ k0_t82 : Fin (k0_t82_loop v462).trips, 16 ∣ (k0_mult128 v462 k0_t82).toNat) ∧
  (∀ k0_t82 : Fin (k0_t82_loop v462).trips, ∀ a, (k0_off127 v462 k0_t82) a + S1x16.size a ≤ S8x6400.size a) ∧
  ((k0_t83_loop v462).OK) ∧
  (∀ k0_t83 : Fin (k0_t83_loop v462).trips, 16 ∣ (k0_mult129 v462 k0_t83).toNat) ∧
  (∀ k0_t83 : Fin (k0_t83_loop v462).trips, ∀ a, (k0_off128 v462 k0_t83) a + S1x16.size a ≤ S8x6400.size a) ∧
  (16 ∣ (k0_mult130 v462).toNat) ∧
  (∀ a, (k0_off129 v462) a + S1x16.size a ≤ S8x6400.size a) ∧
  ((k0_t84_loop v462).OK) ∧
  (∀ k0_t84 : Fin (k0_t84_loop v462).trips, 16 ∣ (k0_mult131 v462 k0_t84).toNat) ∧
  (∀ k0_t84 : Fin (k0_t84_loop v462).trips, ∀ a, (k0_off130 v462 k0_t84) a + S1x16.size a ≤ S8x6400.size a) ∧
  ((k0_t85_loop v462).OK) ∧
  (∀ k0_t85 : Fin (k0_t85_loop v462).trips, 16 ∣ (k0_mult132 v462 k0_t85).toNat) ∧
  (∀ k0_t85 : Fin (k0_t85_loop v462).trips, ∀ a, (k0_off131 v462 k0_t85) a + S1x16.size a ≤ S8x6400.size a)
theorem k0_t82_ok : ∀ (v462 : BitVec 32) (k0_hw45 : k0_chk45 v462), (k0_t82_loop v462).OK := fun v462 k0_hw45 => k0_hw45.1
theorem k0_mult128_dvd : ∀ (v462 : BitVec 32) (k0_hw45 : k0_chk45 v462) (k0_t82 : Fin (k0_t82_loop v462).trips), 16 ∣ (k0_mult128 v462 k0_t82).toNat := fun v462 k0_hw45 k0_t82 => k0_hw45.2.1 k0_t82
theorem k0_off127_inb : ∀ (v462 : BitVec 32) (k0_hw45 : k0_chk45 v462) (k0_t82 : Fin (k0_t82_loop v462).trips), ∀ a, (k0_off127 v462 k0_t82) a + S1x16.size a ≤ S8x6400.size a := fun v462 k0_hw45 k0_t82 => k0_hw45.2.2.1 k0_t82
theorem k0_t83_ok : ∀ (v462 : BitVec 32) (k0_hw45 : k0_chk45 v462), (k0_t83_loop v462).OK := fun v462 k0_hw45 => k0_hw45.2.2.2.1
theorem k0_mult129_dvd : ∀ (v462 : BitVec 32) (k0_hw45 : k0_chk45 v462) (k0_t83 : Fin (k0_t83_loop v462).trips), 16 ∣ (k0_mult129 v462 k0_t83).toNat := fun v462 k0_hw45 k0_t83 => k0_hw45.2.2.2.2.1 k0_t83
theorem k0_off128_inb : ∀ (v462 : BitVec 32) (k0_hw45 : k0_chk45 v462) (k0_t83 : Fin (k0_t83_loop v462).trips), ∀ a, (k0_off128 v462 k0_t83) a + S1x16.size a ≤ S8x6400.size a := fun v462 k0_hw45 k0_t83 => k0_hw45.2.2.2.2.2.1 k0_t83
theorem k0_mult130_dvd : ∀ (v462 : BitVec 32) (k0_hw45 : k0_chk45 v462), 16 ∣ (k0_mult130 v462).toNat := fun v462 k0_hw45 => k0_hw45.2.2.2.2.2.2.1
theorem k0_off129_inb : ∀ (v462 : BitVec 32) (k0_hw45 : k0_chk45 v462), ∀ a, (k0_off129 v462) a + S1x16.size a ≤ S8x6400.size a := fun v462 k0_hw45 => k0_hw45.2.2.2.2.2.2.2.1
theorem k0_t84_ok : ∀ (v462 : BitVec 32) (k0_hw45 : k0_chk45 v462), (k0_t84_loop v462).OK := fun v462 k0_hw45 => k0_hw45.2.2.2.2.2.2.2.2.1
theorem k0_mult131_dvd : ∀ (v462 : BitVec 32) (k0_hw45 : k0_chk45 v462) (k0_t84 : Fin (k0_t84_loop v462).trips), 16 ∣ (k0_mult131 v462 k0_t84).toNat := fun v462 k0_hw45 k0_t84 => k0_hw45.2.2.2.2.2.2.2.2.2.1 k0_t84
theorem k0_off130_inb : ∀ (v462 : BitVec 32) (k0_hw45 : k0_chk45 v462) (k0_t84 : Fin (k0_t84_loop v462).trips), ∀ a, (k0_off130 v462 k0_t84) a + S1x16.size a ≤ S8x6400.size a := fun v462 k0_hw45 k0_t84 => k0_hw45.2.2.2.2.2.2.2.2.2.2.1 k0_t84
theorem k0_t85_ok : ∀ (v462 : BitVec 32) (k0_hw45 : k0_chk45 v462), (k0_t85_loop v462).OK := fun v462 k0_hw45 => k0_hw45.2.2.2.2.2.2.2.2.2.2.2.1
theorem k0_mult132_dvd : ∀ (v462 : BitVec 32) (k0_hw45 : k0_chk45 v462) (k0_t85 : Fin (k0_t85_loop v462).trips), 16 ∣ (k0_mult132 v462 k0_t85).toNat := fun v462 k0_hw45 k0_t85 => k0_hw45.2.2.2.2.2.2.2.2.2.2.2.2.1 k0_t85
theorem k0_off131_inb : ∀ (v462 : BitVec 32) (k0_hw45 : k0_chk45 v462) (k0_t85 : Fin (k0_t85_loop v462).trips), ∀ a, (k0_off131 v462 k0_t85) a + S1x16.size a ≤ S8x6400.size a := fun v462 k0_hw45 k0_t85 => k0_hw45.2.2.2.2.2.2.2.2.2.2.2.2.2 k0_t85

@[reducible] def k0_t86_loop (v503 : BitVec 32) : Scf.Loop 32 :=
  let c0_i32_251 : BitVec 32 := 0#32
  let c6400_i32_249 : BitVec 32 := 6400#32
  let c0_i32_248 : BitVec 32 := 0#32
  let c89600_i32_247 : BitVec 32 := 89600#32
  let v504 : BitVec 32 := Scalar.subi v503 c89600_i32_247
  let v505 : BitVec 32 := Scalar.maxsi c0_i32_248 v504
  let v506 : BitVec 32 := Scalar.minsi c6400_i32_249 v505
  let c4_i32_250 : BitVec 32 := 4#32
  let v507 : BitVec 32 := Scalar.shrui v506 c4_i32_250
  let v508 : BitVec 32 := Scalar.subi v507 c0_i32_251
  let c1_i32_252 : BitVec 32 := 1#32
  let v510 : BitVec 32 := Scalar.divsi v508 c1_i32_252
  let v511 : BitVec 32 := Scalar.muli v510 c1_i32_252
  let v512 : BitVec 32 := Scalar.addi c0_i32_251 v511
  let c1_i32_253 : BitVec 32 := 1#32
  ⟨c0_i32_251, v512, c1_i32_253⟩

def k0_mult133 (v503 : BitVec 32) (k0_t86 : Fin (k0_t86_loop v503).trips) : BitVec 32 :=
  let c0_i32_251 : BitVec 32 := 0#32
  let c1_i32_253 : BitVec 32 := 1#32
  let arg18 : BitVec 32 := Scf.iv c0_i32_251 c1_i32_253 k0_t86
  let c16_i32_538 : BitVec 32 := 16#32
  let v1280 : BitVec 32 := Scalar.muli arg18 c16_i32_538
  v1280
def k0_off132 (v503 : BitVec 32) (k0_t86 : Fin (k0_t86_loop v503).trips) : Fin 2 → Nat :=
  let c5_i32_539 : BitVec 32 := 5#32
  let v1282 : Index := Scalar.indexCast c5_i32_539
  let c0_i32_251 : BitVec 32 := 0#32
  let c1_i32_253 : BitVec 32 := 1#32
  let arg18 : BitVec 32 := Scf.iv c0_i32_251 c1_i32_253 k0_t86
  let c16_i32_538 : BitVec 32 := 16#32
  let v1280 : BitVec 32 := Scalar.muli arg18 c16_i32_538
  let v1281 : BitVec 32 := v1280
  let v1283 : Index := Scalar.indexCast v1281
  ![5, v1283.toNat]
@[reducible] def k0_t87_loop (v503 : BitVec 32) : Scf.Loop 32 :=
  let c0_i32_251 : BitVec 32 := 0#32
  let c6400_i32_249 : BitVec 32 := 6400#32
  let c0_i32_248 : BitVec 32 := 0#32
  let c89600_i32_247 : BitVec 32 := 89600#32
  let v504 : BitVec 32 := Scalar.subi v503 c89600_i32_247
  let v505 : BitVec 32 := Scalar.maxsi c0_i32_248 v504
  let v506 : BitVec 32 := Scalar.minsi c6400_i32_249 v505
  let c4_i32_250 : BitVec 32 := 4#32
  let v507 : BitVec 32 := Scalar.shrui v506 c4_i32_250
  let v508 : BitVec 32 := Scalar.subi v507 c0_i32_251
  let c1_i32_252 : BitVec 32 := 1#32
  let v510 : BitVec 32 := Scalar.divsi v508 c1_i32_252
  let v511 : BitVec 32 := Scalar.muli v510 c1_i32_252
  let v512 : BitVec 32 := Scalar.addi c0_i32_251 v511
  let v509 : BitVec 32 := Scalar.addi c0_i32_251 v508
  let c1_i32_254 : BitVec 32 := 1#32
  ⟨v512, v509, c1_i32_254⟩
def k0_mult134 (v503 : BitVec 32) (k0_t87 : Fin (k0_t87_loop v503).trips) : BitVec 32 :=
  let c0_i32_251 : BitVec 32 := 0#32
  let c6400_i32_249 : BitVec 32 := 6400#32
  let c0_i32_248 : BitVec 32 := 0#32
  let c89600_i32_247 : BitVec 32 := 89600#32
  let v504 : BitVec 32 := Scalar.subi v503 c89600_i32_247
  let v505 : BitVec 32 := Scalar.maxsi c0_i32_248 v504
  let v506 : BitVec 32 := Scalar.minsi c6400_i32_249 v505
  let c4_i32_250 : BitVec 32 := 4#32
  let v507 : BitVec 32 := Scalar.shrui v506 c4_i32_250
  let v508 : BitVec 32 := Scalar.subi v507 c0_i32_251
  let c1_i32_252 : BitVec 32 := 1#32
  let v510 : BitVec 32 := Scalar.divsi v508 c1_i32_252
  let v511 : BitVec 32 := Scalar.muli v510 c1_i32_252
  let v512 : BitVec 32 := Scalar.addi c0_i32_251 v511
  let c1_i32_254 : BitVec 32 := 1#32
  let arg18 : BitVec 32 := Scf.iv v512 c1_i32_254 k0_t87
  let c16_i32_538 : BitVec 32 := 16#32
  let v1280 : BitVec 32 := Scalar.muli arg18 c16_i32_538
  v1280
def k0_off133 (v503 : BitVec 32) (k0_t87 : Fin (k0_t87_loop v503).trips) : Fin 2 → Nat :=
  let c5_i32_539 : BitVec 32 := 5#32
  let v1282 : Index := Scalar.indexCast c5_i32_539
  let c0_i32_251 : BitVec 32 := 0#32
  let c6400_i32_249 : BitVec 32 := 6400#32
  let c0_i32_248 : BitVec 32 := 0#32
  let c89600_i32_247 : BitVec 32 := 89600#32
  let v504 : BitVec 32 := Scalar.subi v503 c89600_i32_247
  let v505 : BitVec 32 := Scalar.maxsi c0_i32_248 v504
  let v506 : BitVec 32 := Scalar.minsi c6400_i32_249 v505
  let c4_i32_250 : BitVec 32 := 4#32
  let v507 : BitVec 32 := Scalar.shrui v506 c4_i32_250
  let v508 : BitVec 32 := Scalar.subi v507 c0_i32_251
  let c1_i32_252 : BitVec 32 := 1#32
  let v510 : BitVec 32 := Scalar.divsi v508 c1_i32_252
  let v511 : BitVec 32 := Scalar.muli v510 c1_i32_252
  let v512 : BitVec 32 := Scalar.addi c0_i32_251 v511
  let c1_i32_254 : BitVec 32 := 1#32
  let arg18 : BitVec 32 := Scf.iv v512 c1_i32_254 k0_t87
  let c16_i32_538 : BitVec 32 := 16#32
  let v1280 : BitVec 32 := Scalar.muli arg18 c16_i32_538
  let v1281 : BitVec 32 := v1280
  let v1283 : Index := Scalar.indexCast v1281
  ![5, v1283.toNat]
def k0_mult135 (v503 : BitVec 32) : BitVec 32 :=
  let c6400_i32_249 : BitVec 32 := 6400#32
  let c0_i32_248 : BitVec 32 := 0#32
  let c89600_i32_247 : BitVec 32 := 89600#32
  let v504 : BitVec 32 := Scalar.subi v503 c89600_i32_247
  let v505 : BitVec 32 := Scalar.maxsi c0_i32_248 v504
  let v506 : BitVec 32 := Scalar.minsi c6400_i32_249 v505
  let c4_i32_250 : BitVec 32 := 4#32
  let v507 : BitVec 32 := Scalar.shrui v506 c4_i32_250
  let c399_i32_255 : BitVec 32 := 399#32
  let v515 : BitVec 32 := Scalar.minsi v507 c399_i32_255
  let c16_i32_256 : BitVec 32 := 16#32
  let v516 : BitVec 32 := Scalar.muli v515 c16_i32_256
  v516
def k0_off134 (v503 : BitVec 32) : Fin 2 → Nat :=
  let c5_i32_257 : BitVec 32 := 5#32
  let v518 : Index := Scalar.indexCast c5_i32_257
  let c6400_i32_249 : BitVec 32 := 6400#32
  let c0_i32_248 : BitVec 32 := 0#32
  let c89600_i32_247 : BitVec 32 := 89600#32
  let v504 : BitVec 32 := Scalar.subi v503 c89600_i32_247
  let v505 : BitVec 32 := Scalar.maxsi c0_i32_248 v504
  let v506 : BitVec 32 := Scalar.minsi c6400_i32_249 v505
  let c4_i32_250 : BitVec 32 := 4#32
  let v507 : BitVec 32 := Scalar.shrui v506 c4_i32_250
  let c399_i32_255 : BitVec 32 := 399#32
  let v515 : BitVec 32 := Scalar.minsi v507 c399_i32_255
  let c16_i32_256 : BitVec 32 := 16#32
  let v516 : BitVec 32 := Scalar.muli v515 c16_i32_256
  let v517 : BitVec 32 := v516
  let v519 : Index := Scalar.indexCast v517
  ![5, v519.toNat]
@[reducible] def k0_t88_loop (v503 : BitVec 32) : Scf.Loop 32 :=
  let c6400_i32_249 : BitVec 32 := 6400#32
  let c0_i32_248 : BitVec 32 := 0#32
  let c89600_i32_247 : BitVec 32 := 89600#32
  let v504 : BitVec 32 := Scalar.subi v503 c89600_i32_247
  let v505 : BitVec 32 := Scalar.maxsi c0_i32_248 v504
  let v506 : BitVec 32 := Scalar.minsi c6400_i32_249 v505
  let c4_i32_250 : BitVec 32 := 4#32
  let v507 : BitVec 32 := Scalar.shrui v506 c4_i32_250
  let c1_i32_261 : BitVec 32 := 1#32
  let v535 : BitVec 32 := Scalar.addi v507 c1_i32_261
  let c400_i32_262 : BitVec 32 := 400#32
  let v536 : BitVec 32 := Scalar.subi c400_i32_262 v535
  let c1_i32_263 : BitVec 32 := 1#32
  let v538 : BitVec 32 := Scalar.divsi v536 c1_i32_263
  let v539 : BitVec 32 := Scalar.muli v538 c1_i32_263
  let v540 : BitVec 32 := Scalar.addi v535 v539
  let c1_i32_264 : BitVec 32 := 1#32
  ⟨v535, v540, c1_i32_264⟩
def k0_mult136 (v503 : BitVec 32) (k0_t88 : Fin (k0_t88_loop v503).trips) : BitVec 32 :=
  let c6400_i32_249 : BitVec 32 := 6400#32
  let c0_i32_248 : BitVec 32 := 0#32
  let c89600_i32_247 : BitVec 32 := 89600#32
  let v504 : BitVec 32 := Scalar.subi v503 c89600_i32_247
  let v505 : BitVec 32 := Scalar.maxsi c0_i32_248 v504
  let v506 : BitVec 32 := Scalar.minsi c6400_i32_249 v505
  let c4_i32_250 : BitVec 32 := 4#32
  let v507 : BitVec 32 := Scalar.shrui v506 c4_i32_250
  let c1_i32_261 : BitVec 32 := 1#32
  let v535 : BitVec 32 := Scalar.addi v507 c1_i32_261
  let c1_i32_264 : BitVec 32 := 1#32
  let arg18 : BitVec 32 := Scf.iv v535 c1_i32_264 k0_t88
  let c16_i32_538 : BitVec 32 := 16#32
  let v1280 : BitVec 32 := Scalar.muli arg18 c16_i32_538
  v1280
def k0_off135 (v503 : BitVec 32) (k0_t88 : Fin (k0_t88_loop v503).trips) : Fin 2 → Nat :=
  let c5_i32_539 : BitVec 32 := 5#32
  let v1282 : Index := Scalar.indexCast c5_i32_539
  let c6400_i32_249 : BitVec 32 := 6400#32
  let c0_i32_248 : BitVec 32 := 0#32
  let c89600_i32_247 : BitVec 32 := 89600#32
  let v504 : BitVec 32 := Scalar.subi v503 c89600_i32_247
  let v505 : BitVec 32 := Scalar.maxsi c0_i32_248 v504
  let v506 : BitVec 32 := Scalar.minsi c6400_i32_249 v505
  let c4_i32_250 : BitVec 32 := 4#32
  let v507 : BitVec 32 := Scalar.shrui v506 c4_i32_250
  let c1_i32_261 : BitVec 32 := 1#32
  let v535 : BitVec 32 := Scalar.addi v507 c1_i32_261
  let c1_i32_264 : BitVec 32 := 1#32
  let arg18 : BitVec 32 := Scf.iv v535 c1_i32_264 k0_t88
  let c16_i32_538 : BitVec 32 := 16#32
  let v1280 : BitVec 32 := Scalar.muli arg18 c16_i32_538
  let v1281 : BitVec 32 := v1280
  let v1283 : Index := Scalar.indexCast v1281
  ![5, v1283.toNat]
@[reducible] def k0_t89_loop (v503 : BitVec 32) : Scf.Loop 32 :=
  let c6400_i32_249 : BitVec 32 := 6400#32
  let c0_i32_248 : BitVec 32 := 0#32
  let c89600_i32_247 : BitVec 32 := 89600#32
  let v504 : BitVec 32 := Scalar.subi v503 c89600_i32_247
  let v505 : BitVec 32 := Scalar.maxsi c0_i32_248 v504
  let v506 : BitVec 32 := Scalar.minsi c6400_i32_249 v505
  let c4_i32_250 : BitVec 32 := 4#32
  let v507 : BitVec 32 := Scalar.shrui v506 c4_i32_250
  let c1_i32_261 : BitVec 32 := 1#32
  let v535 : BitVec 32 := Scalar.addi v507 c1_i32_261
  let c400_i32_262 : BitVec 32 := 400#32
  let v536 : BitVec 32 := Scalar.subi c400_i32_262 v535
  let c1_i32_263 : BitVec 32 := 1#32
  let v538 : BitVec 32 := Scalar.divsi v536 c1_i32_263
  let v539 : BitVec 32 := Scalar.muli v538 c1_i32_263
  let v540 : BitVec 32 := Scalar.addi v535 v539
  let v537 : BitVec 32 := Scalar.addi v535 v536
  let c1_i32_265 : BitVec 32 := 1#32
  ⟨v540, v537, c1_i32_265⟩
def k0_mult137 (v503 : BitVec 32) (k0_t89 : Fin (k0_t89_loop v503).trips) : BitVec 32 :=
  let c6400_i32_249 : BitVec 32 := 6400#32
  let c0_i32_248 : BitVec 32 := 0#32
  let c89600_i32_247 : BitVec 32 := 89600#32
  let v504 : BitVec 32 := Scalar.subi v503 c89600_i32_247
  let v505 : BitVec 32 := Scalar.maxsi c0_i32_248 v504
  let v506 : BitVec 32 := Scalar.minsi c6400_i32_249 v505
  let c4_i32_250 : BitVec 32 := 4#32
  let v507 : BitVec 32 := Scalar.shrui v506 c4_i32_250
  let c1_i32_261 : BitVec 32 := 1#32
  let v535 : BitVec 32 := Scalar.addi v507 c1_i32_261
  let c400_i32_262 : BitVec 32 := 400#32
  let v536 : BitVec 32 := Scalar.subi c400_i32_262 v535
  let c1_i32_263 : BitVec 32 := 1#32
  let v538 : BitVec 32 := Scalar.divsi v536 c1_i32_263
  let v539 : BitVec 32 := Scalar.muli v538 c1_i32_263
  let v540 : BitVec 32 := Scalar.addi v535 v539
  let c1_i32_265 : BitVec 32 := 1#32
  let arg18 : BitVec 32 := Scf.iv v540 c1_i32_265 k0_t89
  let c16_i32_538 : BitVec 32 := 16#32
  let v1280 : BitVec 32 := Scalar.muli arg18 c16_i32_538
  v1280
def k0_off136 (v503 : BitVec 32) (k0_t89 : Fin (k0_t89_loop v503).trips) : Fin 2 → Nat :=
  let c5_i32_539 : BitVec 32 := 5#32
  let v1282 : Index := Scalar.indexCast c5_i32_539
  let c6400_i32_249 : BitVec 32 := 6400#32
  let c0_i32_248 : BitVec 32 := 0#32
  let c89600_i32_247 : BitVec 32 := 89600#32
  let v504 : BitVec 32 := Scalar.subi v503 c89600_i32_247
  let v505 : BitVec 32 := Scalar.maxsi c0_i32_248 v504
  let v506 : BitVec 32 := Scalar.minsi c6400_i32_249 v505
  let c4_i32_250 : BitVec 32 := 4#32
  let v507 : BitVec 32 := Scalar.shrui v506 c4_i32_250
  let c1_i32_261 : BitVec 32 := 1#32
  let v535 : BitVec 32 := Scalar.addi v507 c1_i32_261
  let c400_i32_262 : BitVec 32 := 400#32
  let v536 : BitVec 32 := Scalar.subi c400_i32_262 v535
  let c1_i32_263 : BitVec 32 := 1#32
  let v538 : BitVec 32 := Scalar.divsi v536 c1_i32_263
  let v539 : BitVec 32 := Scalar.muli v538 c1_i32_263
  let v540 : BitVec 32 := Scalar.addi v535 v539
  let c1_i32_265 : BitVec 32 := 1#32
  let arg18 : BitVec 32 := Scf.iv v540 c1_i32_265 k0_t89
  let c16_i32_538 : BitVec 32 := 16#32
  let v1280 : BitVec 32 := Scalar.muli arg18 c16_i32_538
  let v1281 : BitVec 32 := v1280
  let v1283 : Index := Scalar.indexCast v1281
  ![5, v1283.toNat]

def k0_chk46 (v503 : BitVec 32) : Prop :=
  ((k0_t86_loop v503).OK) ∧
  (∀ k0_t86 : Fin (k0_t86_loop v503).trips, 16 ∣ (k0_mult133 v503 k0_t86).toNat) ∧
  (∀ k0_t86 : Fin (k0_t86_loop v503).trips, ∀ a, (k0_off132 v503 k0_t86) a + S1x16.size a ≤ S8x6400.size a) ∧
  ((k0_t87_loop v503).OK) ∧
  (∀ k0_t87 : Fin (k0_t87_loop v503).trips, 16 ∣ (k0_mult134 v503 k0_t87).toNat) ∧
  (∀ k0_t87 : Fin (k0_t87_loop v503).trips, ∀ a, (k0_off133 v503 k0_t87) a + S1x16.size a ≤ S8x6400.size a) ∧
  (16 ∣ (k0_mult135 v503).toNat) ∧
  (∀ a, (k0_off134 v503) a + S1x16.size a ≤ S8x6400.size a) ∧
  ((k0_t88_loop v503).OK) ∧
  (∀ k0_t88 : Fin (k0_t88_loop v503).trips, 16 ∣ (k0_mult136 v503 k0_t88).toNat) ∧
  (∀ k0_t88 : Fin (k0_t88_loop v503).trips, ∀ a, (k0_off135 v503 k0_t88) a + S1x16.size a ≤ S8x6400.size a) ∧
  ((k0_t89_loop v503).OK) ∧
  (∀ k0_t89 : Fin (k0_t89_loop v503).trips, 16 ∣ (k0_mult137 v503 k0_t89).toNat) ∧
  (∀ k0_t89 : Fin (k0_t89_loop v503).trips, ∀ a, (k0_off136 v503 k0_t89) a + S1x16.size a ≤ S8x6400.size a)
theorem k0_t86_ok : ∀ (v503 : BitVec 32) (k0_hw46 : k0_chk46 v503), (k0_t86_loop v503).OK := fun v503 k0_hw46 => k0_hw46.1
theorem k0_mult133_dvd : ∀ (v503 : BitVec 32) (k0_hw46 : k0_chk46 v503) (k0_t86 : Fin (k0_t86_loop v503).trips), 16 ∣ (k0_mult133 v503 k0_t86).toNat := fun v503 k0_hw46 k0_t86 => k0_hw46.2.1 k0_t86
theorem k0_off132_inb : ∀ (v503 : BitVec 32) (k0_hw46 : k0_chk46 v503) (k0_t86 : Fin (k0_t86_loop v503).trips), ∀ a, (k0_off132 v503 k0_t86) a + S1x16.size a ≤ S8x6400.size a := fun v503 k0_hw46 k0_t86 => k0_hw46.2.2.1 k0_t86
theorem k0_t87_ok : ∀ (v503 : BitVec 32) (k0_hw46 : k0_chk46 v503), (k0_t87_loop v503).OK := fun v503 k0_hw46 => k0_hw46.2.2.2.1
theorem k0_mult134_dvd : ∀ (v503 : BitVec 32) (k0_hw46 : k0_chk46 v503) (k0_t87 : Fin (k0_t87_loop v503).trips), 16 ∣ (k0_mult134 v503 k0_t87).toNat := fun v503 k0_hw46 k0_t87 => k0_hw46.2.2.2.2.1 k0_t87
theorem k0_off133_inb : ∀ (v503 : BitVec 32) (k0_hw46 : k0_chk46 v503) (k0_t87 : Fin (k0_t87_loop v503).trips), ∀ a, (k0_off133 v503 k0_t87) a + S1x16.size a ≤ S8x6400.size a := fun v503 k0_hw46 k0_t87 => k0_hw46.2.2.2.2.2.1 k0_t87
theorem k0_mult135_dvd : ∀ (v503 : BitVec 32) (k0_hw46 : k0_chk46 v503), 16 ∣ (k0_mult135 v503).toNat := fun v503 k0_hw46 => k0_hw46.2.2.2.2.2.2.1
theorem k0_off134_inb : ∀ (v503 : BitVec 32) (k0_hw46 : k0_chk46 v503), ∀ a, (k0_off134 v503) a + S1x16.size a ≤ S8x6400.size a := fun v503 k0_hw46 => k0_hw46.2.2.2.2.2.2.2.1
theorem k0_t88_ok : ∀ (v503 : BitVec 32) (k0_hw46 : k0_chk46 v503), (k0_t88_loop v503).OK := fun v503 k0_hw46 => k0_hw46.2.2.2.2.2.2.2.2.1
theorem k0_mult136_dvd : ∀ (v503 : BitVec 32) (k0_hw46 : k0_chk46 v503) (k0_t88 : Fin (k0_t88_loop v503).trips), 16 ∣ (k0_mult136 v503 k0_t88).toNat := fun v503 k0_hw46 k0_t88 => k0_hw46.2.2.2.2.2.2.2.2.2.1 k0_t88
theorem k0_off135_inb : ∀ (v503 : BitVec 32) (k0_hw46 : k0_chk46 v503) (k0_t88 : Fin (k0_t88_loop v503).trips), ∀ a, (k0_off135 v503 k0_t88) a + S1x16.size a ≤ S8x6400.size a := fun v503 k0_hw46 k0_t88 => k0_hw46.2.2.2.2.2.2.2.2.2.2.1 k0_t88
theorem k0_t89_ok : ∀ (v503 : BitVec 32) (k0_hw46 : k0_chk46 v503), (k0_t89_loop v503).OK := fun v503 k0_hw46 => k0_hw46.2.2.2.2.2.2.2.2.2.2.2.1
theorem k0_mult137_dvd : ∀ (v503 : BitVec 32) (k0_hw46 : k0_chk46 v503) (k0_t89 : Fin (k0_t89_loop v503).trips), 16 ∣ (k0_mult137 v503 k0_t89).toNat := fun v503 k0_hw46 k0_t89 => k0_hw46.2.2.2.2.2.2.2.2.2.2.2.2.1 k0_t89
theorem k0_off136_inb : ∀ (v503 : BitVec 32) (k0_hw46 : k0_chk46 v503) (k0_t89 : Fin (k0_t89_loop v503).trips), ∀ a, (k0_off136 v503 k0_t89) a + S1x16.size a ≤ S8x6400.size a := fun v503 k0_hw46 k0_t89 => k0_hw46.2.2.2.2.2.2.2.2.2.2.2.2.2 k0_t89

@[reducible] def k0_t90_loop (v544 : BitVec 32) : Scf.Loop 32 :=
  let c0_i32_270 : BitVec 32 := 0#32
  let c6400_i32_268 : BitVec 32 := 6400#32
  let c0_i32_267 : BitVec 32 := 0#32
  let c89600_i32_266 : BitVec 32 := 89600#32
  let v545 : BitVec 32 := Scalar.subi v544 c89600_i32_266
  let v546 : BitVec 32 := Scalar.maxsi c0_i32_267 v545
  let v547 : BitVec 32 := Scalar.minsi c6400_i32_268 v546
  let c4_i32_269 : BitVec 32 := 4#32
  let v548 : BitVec 32 := Scalar.shrui v547 c4_i32_269
  let v549 : BitVec 32 := Scalar.subi v548 c0_i32_270
  let c1_i32_271 : BitVec 32 := 1#32
  let v551 : BitVec 32 := Scalar.divsi v549 c1_i32_271
  let v552 : BitVec 32 := Scalar.muli v551 c1_i32_271
  let v553 : BitVec 32 := Scalar.addi c0_i32_270 v552
  let c1_i32_272 : BitVec 32 := 1#32
  ⟨c0_i32_270, v553, c1_i32_272⟩

def k0_mult138 (v544 : BitVec 32) (k0_t90 : Fin (k0_t90_loop v544).trips) : BitVec 32 :=
  let c0_i32_270 : BitVec 32 := 0#32
  let c1_i32_272 : BitVec 32 := 1#32
  let arg18 : BitVec 32 := Scf.iv c0_i32_270 c1_i32_272 k0_t90
  let c16_i32_538 : BitVec 32 := 16#32
  let v1280 : BitVec 32 := Scalar.muli arg18 c16_i32_538
  v1280
def k0_off137 (v544 : BitVec 32) (k0_t90 : Fin (k0_t90_loop v544).trips) : Fin 2 → Nat :=
  let c6_i32_539 : BitVec 32 := 6#32
  let v1282 : Index := Scalar.indexCast c6_i32_539
  let c0_i32_270 : BitVec 32 := 0#32
  let c1_i32_272 : BitVec 32 := 1#32
  let arg18 : BitVec 32 := Scf.iv c0_i32_270 c1_i32_272 k0_t90
  let c16_i32_538 : BitVec 32 := 16#32
  let v1280 : BitVec 32 := Scalar.muli arg18 c16_i32_538
  let v1281 : BitVec 32 := v1280
  let v1283 : Index := Scalar.indexCast v1281
  ![6, v1283.toNat]
@[reducible] def k0_t91_loop (v544 : BitVec 32) : Scf.Loop 32 :=
  let c0_i32_270 : BitVec 32 := 0#32
  let c6400_i32_268 : BitVec 32 := 6400#32
  let c0_i32_267 : BitVec 32 := 0#32
  let c89600_i32_266 : BitVec 32 := 89600#32
  let v545 : BitVec 32 := Scalar.subi v544 c89600_i32_266
  let v546 : BitVec 32 := Scalar.maxsi c0_i32_267 v545
  let v547 : BitVec 32 := Scalar.minsi c6400_i32_268 v546
  let c4_i32_269 : BitVec 32 := 4#32
  let v548 : BitVec 32 := Scalar.shrui v547 c4_i32_269
  let v549 : BitVec 32 := Scalar.subi v548 c0_i32_270
  let c1_i32_271 : BitVec 32 := 1#32
  let v551 : BitVec 32 := Scalar.divsi v549 c1_i32_271
  let v552 : BitVec 32 := Scalar.muli v551 c1_i32_271
  let v553 : BitVec 32 := Scalar.addi c0_i32_270 v552
  let v550 : BitVec 32 := Scalar.addi c0_i32_270 v549
  let c1_i32_273 : BitVec 32 := 1#32
  ⟨v553, v550, c1_i32_273⟩
def k0_mult139 (v544 : BitVec 32) (k0_t91 : Fin (k0_t91_loop v544).trips) : BitVec 32 :=
  let c0_i32_270 : BitVec 32 := 0#32
  let c6400_i32_268 : BitVec 32 := 6400#32
  let c0_i32_267 : BitVec 32 := 0#32
  let c89600_i32_266 : BitVec 32 := 89600#32
  let v545 : BitVec 32 := Scalar.subi v544 c89600_i32_266
  let v546 : BitVec 32 := Scalar.maxsi c0_i32_267 v545
  let v547 : BitVec 32 := Scalar.minsi c6400_i32_268 v546
  let c4_i32_269 : BitVec 32 := 4#32
  let v548 : BitVec 32 := Scalar.shrui v547 c4_i32_269
  let v549 : BitVec 32 := Scalar.subi v548 c0_i32_270
  let c1_i32_271 : BitVec 32 := 1#32
  let v551 : BitVec 32 := Scalar.divsi v549 c1_i32_271
  let v552 : BitVec 32 := Scalar.muli v551 c1_i32_271
  let v553 : BitVec 32 := Scalar.addi c0_i32_270 v552
  let c1_i32_273 : BitVec 32 := 1#32
  let arg18 : BitVec 32 := Scf.iv v553 c1_i32_273 k0_t91
  let c16_i32_538 : BitVec 32 := 16#32
  let v1280 : BitVec 32 := Scalar.muli arg18 c16_i32_538
  v1280
def k0_off138 (v544 : BitVec 32) (k0_t91 : Fin (k0_t91_loop v544).trips) : Fin 2 → Nat :=
  let c6_i32_539 : BitVec 32 := 6#32
  let v1282 : Index := Scalar.indexCast c6_i32_539
  let c0_i32_270 : BitVec 32 := 0#32
  let c6400_i32_268 : BitVec 32 := 6400#32
  let c0_i32_267 : BitVec 32 := 0#32
  let c89600_i32_266 : BitVec 32 := 89600#32
  let v545 : BitVec 32 := Scalar.subi v544 c89600_i32_266
  let v546 : BitVec 32 := Scalar.maxsi c0_i32_267 v545
  let v547 : BitVec 32 := Scalar.minsi c6400_i32_268 v546
  let c4_i32_269 : BitVec 32 := 4#32
  let v548 : BitVec 32 := Scalar.shrui v547 c4_i32_269
  let v549 : BitVec 32 := Scalar.subi v548 c0_i32_270
  let c1_i32_271 : BitVec 32 := 1#32
  let v551 : BitVec 32 := Scalar.divsi v549 c1_i32_271
  let v552 : BitVec 32 := Scalar.muli v551 c1_i32_271
  let v553 : BitVec 32 := Scalar.addi c0_i32_270 v552
  let c1_i32_273 : BitVec 32 := 1#32
  let arg18 : BitVec 32 := Scf.iv v553 c1_i32_273 k0_t91
  let c16_i32_538 : BitVec 32 := 16#32
  let v1280 : BitVec 32 := Scalar.muli arg18 c16_i32_538
  let v1281 : BitVec 32 := v1280
  let v1283 : Index := Scalar.indexCast v1281
  ![6, v1283.toNat]
def k0_mult140 (v544 : BitVec 32) : BitVec 32 :=
  let c6400_i32_268 : BitVec 32 := 6400#32
  let c0_i32_267 : BitVec 32 := 0#32
  let c89600_i32_266 : BitVec 32 := 89600#32
  let v545 : BitVec 32 := Scalar.subi v544 c89600_i32_266
  let v546 : BitVec 32 := Scalar.maxsi c0_i32_267 v545
  let v547 : BitVec 32 := Scalar.minsi c6400_i32_268 v546
  let c4_i32_269 : BitVec 32 := 4#32
  let v548 : BitVec 32 := Scalar.shrui v547 c4_i32_269
  let c399_i32_274 : BitVec 32 := 399#32
  let v556 : BitVec 32 := Scalar.minsi v548 c399_i32_274
  let c16_i32_275 : BitVec 32 := 16#32
  let v557 : BitVec 32 := Scalar.muli v556 c16_i32_275
  v557
def k0_off139 (v544 : BitVec 32) : Fin 2 → Nat :=
  let c6_i32_276 : BitVec 32 := 6#32
  let v559 : Index := Scalar.indexCast c6_i32_276
  let c6400_i32_268 : BitVec 32 := 6400#32
  let c0_i32_267 : BitVec 32 := 0#32
  let c89600_i32_266 : BitVec 32 := 89600#32
  let v545 : BitVec 32 := Scalar.subi v544 c89600_i32_266
  let v546 : BitVec 32 := Scalar.maxsi c0_i32_267 v545
  let v547 : BitVec 32 := Scalar.minsi c6400_i32_268 v546
  let c4_i32_269 : BitVec 32 := 4#32
  let v548 : BitVec 32 := Scalar.shrui v547 c4_i32_269
  let c399_i32_274 : BitVec 32 := 399#32
  let v556 : BitVec 32 := Scalar.minsi v548 c399_i32_274
  let c16_i32_275 : BitVec 32 := 16#32
  let v557 : BitVec 32 := Scalar.muli v556 c16_i32_275
  let v558 : BitVec 32 := v557
  let v560 : Index := Scalar.indexCast v558
  ![6, v560.toNat]
@[reducible] def k0_t92_loop (v544 : BitVec 32) : Scf.Loop 32 :=
  let c6400_i32_268 : BitVec 32 := 6400#32
  let c0_i32_267 : BitVec 32 := 0#32
  let c89600_i32_266 : BitVec 32 := 89600#32
  let v545 : BitVec 32 := Scalar.subi v544 c89600_i32_266
  let v546 : BitVec 32 := Scalar.maxsi c0_i32_267 v545
  let v547 : BitVec 32 := Scalar.minsi c6400_i32_268 v546
  let c4_i32_269 : BitVec 32 := 4#32
  let v548 : BitVec 32 := Scalar.shrui v547 c4_i32_269
  let c1_i32_280 : BitVec 32 := 1#32
  let v576 : BitVec 32 := Scalar.addi v548 c1_i32_280
  let c400_i32_281 : BitVec 32 := 400#32
  let v577 : BitVec 32 := Scalar.subi c400_i32_281 v576
  let c1_i32_282 : BitVec 32 := 1#32
  let v579 : BitVec 32 := Scalar.divsi v577 c1_i32_282
  let v580 : BitVec 32 := Scalar.muli v579 c1_i32_282
  let v581 : BitVec 32 := Scalar.addi v576 v580
  let c1_i32_283 : BitVec 32 := 1#32
  ⟨v576, v581, c1_i32_283⟩
def k0_mult141 (v544 : BitVec 32) (k0_t92 : Fin (k0_t92_loop v544).trips) : BitVec 32 :=
  let c6400_i32_268 : BitVec 32 := 6400#32
  let c0_i32_267 : BitVec 32 := 0#32
  let c89600_i32_266 : BitVec 32 := 89600#32
  let v545 : BitVec 32 := Scalar.subi v544 c89600_i32_266
  let v546 : BitVec 32 := Scalar.maxsi c0_i32_267 v545
  let v547 : BitVec 32 := Scalar.minsi c6400_i32_268 v546
  let c4_i32_269 : BitVec 32 := 4#32
  let v548 : BitVec 32 := Scalar.shrui v547 c4_i32_269
  let c1_i32_280 : BitVec 32 := 1#32
  let v576 : BitVec 32 := Scalar.addi v548 c1_i32_280
  let c1_i32_283 : BitVec 32 := 1#32
  let arg18 : BitVec 32 := Scf.iv v576 c1_i32_283 k0_t92
  let c16_i32_538 : BitVec 32 := 16#32
  let v1280 : BitVec 32 := Scalar.muli arg18 c16_i32_538
  v1280
def k0_off140 (v544 : BitVec 32) (k0_t92 : Fin (k0_t92_loop v544).trips) : Fin 2 → Nat :=
  let c6_i32_539 : BitVec 32 := 6#32
  let v1282 : Index := Scalar.indexCast c6_i32_539
  let c6400_i32_268 : BitVec 32 := 6400#32
  let c0_i32_267 : BitVec 32 := 0#32
  let c89600_i32_266 : BitVec 32 := 89600#32
  let v545 : BitVec 32 := Scalar.subi v544 c89600_i32_266
  let v546 : BitVec 32 := Scalar.maxsi c0_i32_267 v545
  let v547 : BitVec 32 := Scalar.minsi c6400_i32_268 v546
  let c4_i32_269 : BitVec 32 := 4#32
  let v548 : BitVec 32 := Scalar.shrui v547 c4_i32_269
  let c1_i32_280 : BitVec 32 := 1#32
  let v576 : BitVec 32 := Scalar.addi v548 c1_i32_280
  let c1_i32_283 : BitVec 32 := 1#32
  let arg18 : BitVec 32 := Scf.iv v576 c1_i32_283 k0_t92
  let c16_i32_538 : BitVec 32 := 16#32
  let v1280 : BitVec 32 := Scalar.muli arg18 c16_i32_538
  let v1281 : BitVec 32 := v1280
  let v1283 : Index := Scalar.indexCast v1281
  ![6, v1283.toNat]
@[reducible] def k0_t93_loop (v544 : BitVec 32) : Scf.Loop 32 :=
  let c6400_i32_268 : BitVec 32 := 6400#32
  let c0_i32_267 : BitVec 32 := 0#32
  let c89600_i32_266 : BitVec 32 := 89600#32
  let v545 : BitVec 32 := Scalar.subi v544 c89600_i32_266
  let v546 : BitVec 32 := Scalar.maxsi c0_i32_267 v545
  let v547 : BitVec 32 := Scalar.minsi c6400_i32_268 v546
  let c4_i32_269 : BitVec 32 := 4#32
  let v548 : BitVec 32 := Scalar.shrui v547 c4_i32_269
  let c1_i32_280 : BitVec 32 := 1#32
  let v576 : BitVec 32 := Scalar.addi v548 c1_i32_280
  let c400_i32_281 : BitVec 32 := 400#32
  let v577 : BitVec 32 := Scalar.subi c400_i32_281 v576
  let c1_i32_282 : BitVec 32 := 1#32
  let v579 : BitVec 32 := Scalar.divsi v577 c1_i32_282
  let v580 : BitVec 32 := Scalar.muli v579 c1_i32_282
  let v581 : BitVec 32 := Scalar.addi v576 v580
  let v578 : BitVec 32 := Scalar.addi v576 v577
  let c1_i32_284 : BitVec 32 := 1#32
  ⟨v581, v578, c1_i32_284⟩
def k0_mult142 (v544 : BitVec 32) (k0_t93 : Fin (k0_t93_loop v544).trips) : BitVec 32 :=
  let c6400_i32_268 : BitVec 32 := 6400#32
  let c0_i32_267 : BitVec 32 := 0#32
  let c89600_i32_266 : BitVec 32 := 89600#32
  let v545 : BitVec 32 := Scalar.subi v544 c89600_i32_266
  let v546 : BitVec 32 := Scalar.maxsi c0_i32_267 v545
  let v547 : BitVec 32 := Scalar.minsi c6400_i32_268 v546
  let c4_i32_269 : BitVec 32 := 4#32
  let v548 : BitVec 32 := Scalar.shrui v547 c4_i32_269
  let c1_i32_280 : BitVec 32 := 1#32
  let v576 : BitVec 32 := Scalar.addi v548 c1_i32_280
  let c400_i32_281 : BitVec 32 := 400#32
  let v577 : BitVec 32 := Scalar.subi c400_i32_281 v576
  let c1_i32_282 : BitVec 32 := 1#32
  let v579 : BitVec 32 := Scalar.divsi v577 c1_i32_282
  let v580 : BitVec 32 := Scalar.muli v579 c1_i32_282
  let v581 : BitVec 32 := Scalar.addi v576 v580
  let c1_i32_284 : BitVec 32 := 1#32
  let arg18 : BitVec 32 := Scf.iv v581 c1_i32_284 k0_t93
  let c16_i32_538 : BitVec 32 := 16#32
  let v1280 : BitVec 32 := Scalar.muli arg18 c16_i32_538
  v1280
def k0_off141 (v544 : BitVec 32) (k0_t93 : Fin (k0_t93_loop v544).trips) : Fin 2 → Nat :=
  let c6_i32_539 : BitVec 32 := 6#32
  let v1282 : Index := Scalar.indexCast c6_i32_539
  let c6400_i32_268 : BitVec 32 := 6400#32
  let c0_i32_267 : BitVec 32 := 0#32
  let c89600_i32_266 : BitVec 32 := 89600#32
  let v545 : BitVec 32 := Scalar.subi v544 c89600_i32_266
  let v546 : BitVec 32 := Scalar.maxsi c0_i32_267 v545
  let v547 : BitVec 32 := Scalar.minsi c6400_i32_268 v546
  let c4_i32_269 : BitVec 32 := 4#32
  let v548 : BitVec 32 := Scalar.shrui v547 c4_i32_269
  let c1_i32_280 : BitVec 32 := 1#32
  let v576 : BitVec 32 := Scalar.addi v548 c1_i32_280
  let c400_i32_281 : BitVec 32 := 400#32
  let v577 : BitVec 32 := Scalar.subi c400_i32_281 v576
  let c1_i32_282 : BitVec 32 := 1#32
  let v579 : BitVec 32 := Scalar.divsi v577 c1_i32_282
  let v580 : BitVec 32 := Scalar.muli v579 c1_i32_282
  let v581 : BitVec 32 := Scalar.addi v576 v580
  let c1_i32_284 : BitVec 32 := 1#32
  let arg18 : BitVec 32 := Scf.iv v581 c1_i32_284 k0_t93
  let c16_i32_538 : BitVec 32 := 16#32
  let v1280 : BitVec 32 := Scalar.muli arg18 c16_i32_538
  let v1281 : BitVec 32 := v1280
  let v1283 : Index := Scalar.indexCast v1281
  ![6, v1283.toNat]

def k0_chk47 (v544 : BitVec 32) : Prop :=
  ((k0_t90_loop v544).OK) ∧
  (∀ k0_t90 : Fin (k0_t90_loop v544).trips, 16 ∣ (k0_mult138 v544 k0_t90).toNat) ∧
  (∀ k0_t90 : Fin (k0_t90_loop v544).trips, ∀ a, (k0_off137 v544 k0_t90) a + S1x16.size a ≤ S8x6400.size a) ∧
  ((k0_t91_loop v544).OK) ∧
  (∀ k0_t91 : Fin (k0_t91_loop v544).trips, 16 ∣ (k0_mult139 v544 k0_t91).toNat) ∧
  (∀ k0_t91 : Fin (k0_t91_loop v544).trips, ∀ a, (k0_off138 v544 k0_t91) a + S1x16.size a ≤ S8x6400.size a) ∧
  (16 ∣ (k0_mult140 v544).toNat) ∧
  (∀ a, (k0_off139 v544) a + S1x16.size a ≤ S8x6400.size a) ∧
  ((k0_t92_loop v544).OK) ∧
  (∀ k0_t92 : Fin (k0_t92_loop v544).trips, 16 ∣ (k0_mult141 v544 k0_t92).toNat) ∧
  (∀ k0_t92 : Fin (k0_t92_loop v544).trips, ∀ a, (k0_off140 v544 k0_t92) a + S1x16.size a ≤ S8x6400.size a) ∧
  ((k0_t93_loop v544).OK) ∧
  (∀ k0_t93 : Fin (k0_t93_loop v544).trips, 16 ∣ (k0_mult142 v544 k0_t93).toNat) ∧
  (∀ k0_t93 : Fin (k0_t93_loop v544).trips, ∀ a, (k0_off141 v544 k0_t93) a + S1x16.size a ≤ S8x6400.size a)
theorem k0_t90_ok : ∀ (v544 : BitVec 32) (k0_hw47 : k0_chk47 v544), (k0_t90_loop v544).OK := fun v544 k0_hw47 => k0_hw47.1
theorem k0_mult138_dvd : ∀ (v544 : BitVec 32) (k0_hw47 : k0_chk47 v544) (k0_t90 : Fin (k0_t90_loop v544).trips), 16 ∣ (k0_mult138 v544 k0_t90).toNat := fun v544 k0_hw47 k0_t90 => k0_hw47.2.1 k0_t90
theorem k0_off137_inb : ∀ (v544 : BitVec 32) (k0_hw47 : k0_chk47 v544) (k0_t90 : Fin (k0_t90_loop v544).trips), ∀ a, (k0_off137 v544 k0_t90) a + S1x16.size a ≤ S8x6400.size a := fun v544 k0_hw47 k0_t90 => k0_hw47.2.2.1 k0_t90
theorem k0_t91_ok : ∀ (v544 : BitVec 32) (k0_hw47 : k0_chk47 v544), (k0_t91_loop v544).OK := fun v544 k0_hw47 => k0_hw47.2.2.2.1
theorem k0_mult139_dvd : ∀ (v544 : BitVec 32) (k0_hw47 : k0_chk47 v544) (k0_t91 : Fin (k0_t91_loop v544).trips), 16 ∣ (k0_mult139 v544 k0_t91).toNat := fun v544 k0_hw47 k0_t91 => k0_hw47.2.2.2.2.1 k0_t91
theorem k0_off138_inb : ∀ (v544 : BitVec 32) (k0_hw47 : k0_chk47 v544) (k0_t91 : Fin (k0_t91_loop v544).trips), ∀ a, (k0_off138 v544 k0_t91) a + S1x16.size a ≤ S8x6400.size a := fun v544 k0_hw47 k0_t91 => k0_hw47.2.2.2.2.2.1 k0_t91
theorem k0_mult140_dvd : ∀ (v544 : BitVec 32) (k0_hw47 : k0_chk47 v544), 16 ∣ (k0_mult140 v544).toNat := fun v544 k0_hw47 => k0_hw47.2.2.2.2.2.2.1
theorem k0_off139_inb : ∀ (v544 : BitVec 32) (k0_hw47 : k0_chk47 v544), ∀ a, (k0_off139 v544) a + S1x16.size a ≤ S8x6400.size a := fun v544 k0_hw47 => k0_hw47.2.2.2.2.2.2.2.1
theorem k0_t92_ok : ∀ (v544 : BitVec 32) (k0_hw47 : k0_chk47 v544), (k0_t92_loop v544).OK := fun v544 k0_hw47 => k0_hw47.2.2.2.2.2.2.2.2.1
theorem k0_mult141_dvd : ∀ (v544 : BitVec 32) (k0_hw47 : k0_chk47 v544) (k0_t92 : Fin (k0_t92_loop v544).trips), 16 ∣ (k0_mult141 v544 k0_t92).toNat := fun v544 k0_hw47 k0_t92 => k0_hw47.2.2.2.2.2.2.2.2.2.1 k0_t92
theorem k0_off140_inb : ∀ (v544 : BitVec 32) (k0_hw47 : k0_chk47 v544) (k0_t92 : Fin (k0_t92_loop v544).trips), ∀ a, (k0_off140 v544 k0_t92) a + S1x16.size a ≤ S8x6400.size a := fun v544 k0_hw47 k0_t92 => k0_hw47.2.2.2.2.2.2.2.2.2.2.1 k0_t92
theorem k0_t93_ok : ∀ (v544 : BitVec 32) (k0_hw47 : k0_chk47 v544), (k0_t93_loop v544).OK := fun v544 k0_hw47 => k0_hw47.2.2.2.2.2.2.2.2.2.2.2.1
theorem k0_mult142_dvd : ∀ (v544 : BitVec 32) (k0_hw47 : k0_chk47 v544) (k0_t93 : Fin (k0_t93_loop v544).trips), 16 ∣ (k0_mult142 v544 k0_t93).toNat := fun v544 k0_hw47 k0_t93 => k0_hw47.2.2.2.2.2.2.2.2.2.2.2.2.1 k0_t93
theorem k0_off141_inb : ∀ (v544 : BitVec 32) (k0_hw47 : k0_chk47 v544) (k0_t93 : Fin (k0_t93_loop v544).trips), ∀ a, (k0_off141 v544 k0_t93) a + S1x16.size a ≤ S8x6400.size a := fun v544 k0_hw47 k0_t93 => k0_hw47.2.2.2.2.2.2.2.2.2.2.2.2.2 k0_t93

@[reducible] def k0_t94_loop (v585 : BitVec 32) : Scf.Loop 32 :=
  let c0_i32_289 : BitVec 32 := 0#32
  let c6400_i32_287 : BitVec 32 := 6400#32
  let c0_i32_286 : BitVec 32 := 0#32
  let c89600_i32_285 : BitVec 32 := 89600#32
  let v586 : BitVec 32 := Scalar.subi v585 c89600_i32_285
  let v587 : BitVec 32 := Scalar.maxsi c0_i32_286 v586
  let v588 : BitVec 32 := Scalar.minsi c6400_i32_287 v587
  let c4_i32_288 : BitVec 32 := 4#32
  let v589 : BitVec 32 := Scalar.shrui v588 c4_i32_288
  let v590 : BitVec 32 := Scalar.subi v589 c0_i32_289
  let c1_i32_290 : BitVec 32 := 1#32
  let v592 : BitVec 32 := Scalar.divsi v590 c1_i32_290
  let v593 : BitVec 32 := Scalar.muli v592 c1_i32_290
  let v594 : BitVec 32 := Scalar.addi c0_i32_289 v593
  let c1_i32_291 : BitVec 32 := 1#32
  ⟨c0_i32_289, v594, c1_i32_291⟩

def k0_mult143 (v585 : BitVec 32) (k0_t94 : Fin (k0_t94_loop v585).trips) : BitVec 32 :=
  let c0_i32_289 : BitVec 32 := 0#32
  let c1_i32_291 : BitVec 32 := 1#32
  let arg18 : BitVec 32 := Scf.iv c0_i32_289 c1_i32_291 k0_t94
  let c16_i32_538 : BitVec 32 := 16#32
  let v1280 : BitVec 32 := Scalar.muli arg18 c16_i32_538
  v1280
def k0_off142 (v585 : BitVec 32) (k0_t94 : Fin (k0_t94_loop v585).trips) : Fin 2 → Nat :=
  let c7_i32_539 : BitVec 32 := 7#32
  let v1282 : Index := Scalar.indexCast c7_i32_539
  let c0_i32_289 : BitVec 32 := 0#32
  let c1_i32_291 : BitVec 32 := 1#32
  let arg18 : BitVec 32 := Scf.iv c0_i32_289 c1_i32_291 k0_t94
  let c16_i32_538 : BitVec 32 := 16#32
  let v1280 : BitVec 32 := Scalar.muli arg18 c16_i32_538
  let v1281 : BitVec 32 := v1280
  let v1283 : Index := Scalar.indexCast v1281
  ![7, v1283.toNat]
@[reducible] def k0_t95_loop (v585 : BitVec 32) : Scf.Loop 32 :=
  let c0_i32_289 : BitVec 32 := 0#32
  let c6400_i32_287 : BitVec 32 := 6400#32
  let c0_i32_286 : BitVec 32 := 0#32
  let c89600_i32_285 : BitVec 32 := 89600#32
  let v586 : BitVec 32 := Scalar.subi v585 c89600_i32_285
  let v587 : BitVec 32 := Scalar.maxsi c0_i32_286 v586
  let v588 : BitVec 32 := Scalar.minsi c6400_i32_287 v587
  let c4_i32_288 : BitVec 32 := 4#32
  let v589 : BitVec 32 := Scalar.shrui v588 c4_i32_288
  let v590 : BitVec 32 := Scalar.subi v589 c0_i32_289
  let c1_i32_290 : BitVec 32 := 1#32
  let v592 : BitVec 32 := Scalar.divsi v590 c1_i32_290
  let v593 : BitVec 32 := Scalar.muli v592 c1_i32_290
  let v594 : BitVec 32 := Scalar.addi c0_i32_289 v593
  let v591 : BitVec 32 := Scalar.addi c0_i32_289 v590
  let c1_i32_292 : BitVec 32 := 1#32
  ⟨v594, v591, c1_i32_292⟩
def k0_mult144 (v585 : BitVec 32) (k0_t95 : Fin (k0_t95_loop v585).trips) : BitVec 32 :=
  let c0_i32_289 : BitVec 32 := 0#32
  let c6400_i32_287 : BitVec 32 := 6400#32
  let c0_i32_286 : BitVec 32 := 0#32
  let c89600_i32_285 : BitVec 32 := 89600#32
  let v586 : BitVec 32 := Scalar.subi v585 c89600_i32_285
  let v587 : BitVec 32 := Scalar.maxsi c0_i32_286 v586
  let v588 : BitVec 32 := Scalar.minsi c6400_i32_287 v587
  let c4_i32_288 : BitVec 32 := 4#32
  let v589 : BitVec 32 := Scalar.shrui v588 c4_i32_288
  let v590 : BitVec 32 := Scalar.subi v589 c0_i32_289
  let c1_i32_290 : BitVec 32 := 1#32
  let v592 : BitVec 32 := Scalar.divsi v590 c1_i32_290
  let v593 : BitVec 32 := Scalar.muli v592 c1_i32_290
  let v594 : BitVec 32 := Scalar.addi c0_i32_289 v593
  let c1_i32_292 : BitVec 32 := 1#32
  let arg18 : BitVec 32 := Scf.iv v594 c1_i32_292 k0_t95
  let c16_i32_538 : BitVec 32 := 16#32
  let v1280 : BitVec 32 := Scalar.muli arg18 c16_i32_538
  v1280
def k0_off143 (v585 : BitVec 32) (k0_t95 : Fin (k0_t95_loop v585).trips) : Fin 2 → Nat :=
  let c7_i32_539 : BitVec 32 := 7#32
  let v1282 : Index := Scalar.indexCast c7_i32_539
  let c0_i32_289 : BitVec 32 := 0#32
  let c6400_i32_287 : BitVec 32 := 6400#32
  let c0_i32_286 : BitVec 32 := 0#32
  let c89600_i32_285 : BitVec 32 := 89600#32
  let v586 : BitVec 32 := Scalar.subi v585 c89600_i32_285
  let v587 : BitVec 32 := Scalar.maxsi c0_i32_286 v586
  let v588 : BitVec 32 := Scalar.minsi c6400_i32_287 v587
  let c4_i32_288 : BitVec 32 := 4#32
  let v589 : BitVec 32 := Scalar.shrui v588 c4_i32_288
  let v590 : BitVec 32 := Scalar.subi v589 c0_i32_289
  let c1_i32_290 : BitVec 32 := 1#32
  let v592 : BitVec 32 := Scalar.divsi v590 c1_i32_290
  let v593 : BitVec 32 := Scalar.muli v592 c1_i32_290
  let v594 : BitVec 32 := Scalar.addi c0_i32_289 v593
  let c1_i32_292 : BitVec 32 := 1#32
  let arg18 : BitVec 32 := Scf.iv v594 c1_i32_292 k0_t95
  let c16_i32_538 : BitVec 32 := 16#32
  let v1280 : BitVec 32 := Scalar.muli arg18 c16_i32_538
  let v1281 : BitVec 32 := v1280
  let v1283 : Index := Scalar.indexCast v1281
  ![7, v1283.toNat]
def k0_mult145 (v585 : BitVec 32) : BitVec 32 :=
  let c6400_i32_287 : BitVec 32 := 6400#32
  let c0_i32_286 : BitVec 32 := 0#32
  let c89600_i32_285 : BitVec 32 := 89600#32
  let v586 : BitVec 32 := Scalar.subi v585 c89600_i32_285
  let v587 : BitVec 32 := Scalar.maxsi c0_i32_286 v586
  let v588 : BitVec 32 := Scalar.minsi c6400_i32_287 v587
  let c4_i32_288 : BitVec 32 := 4#32
  let v589 : BitVec 32 := Scalar.shrui v588 c4_i32_288
  let c399_i32_293 : BitVec 32 := 399#32
  let v597 : BitVec 32 := Scalar.minsi v589 c399_i32_293
  let c16_i32_294 : BitVec 32 := 16#32
  let v598 : BitVec 32 := Scalar.muli v597 c16_i32_294
  v598
def k0_off144 (v585 : BitVec 32) : Fin 2 → Nat :=
  let c7_i32_295 : BitVec 32 := 7#32
  let v600 : Index := Scalar.indexCast c7_i32_295
  let c6400_i32_287 : BitVec 32 := 6400#32
  let c0_i32_286 : BitVec 32 := 0#32
  let c89600_i32_285 : BitVec 32 := 89600#32
  let v586 : BitVec 32 := Scalar.subi v585 c89600_i32_285
  let v587 : BitVec 32 := Scalar.maxsi c0_i32_286 v586
  let v588 : BitVec 32 := Scalar.minsi c6400_i32_287 v587
  let c4_i32_288 : BitVec 32 := 4#32
  let v589 : BitVec 32 := Scalar.shrui v588 c4_i32_288
  let c399_i32_293 : BitVec 32 := 399#32
  let v597 : BitVec 32 := Scalar.minsi v589 c399_i32_293
  let c16_i32_294 : BitVec 32 := 16#32
  let v598 : BitVec 32 := Scalar.muli v597 c16_i32_294
  let v599 : BitVec 32 := v598
  let v601 : Index := Scalar.indexCast v599
  ![7, v601.toNat]
@[reducible] def k0_t96_loop (v585 : BitVec 32) : Scf.Loop 32 :=
  let c6400_i32_287 : BitVec 32 := 6400#32
  let c0_i32_286 : BitVec 32 := 0#32
  let c89600_i32_285 : BitVec 32 := 89600#32
  let v586 : BitVec 32 := Scalar.subi v585 c89600_i32_285
  let v587 : BitVec 32 := Scalar.maxsi c0_i32_286 v586
  let v588 : BitVec 32 := Scalar.minsi c6400_i32_287 v587
  let c4_i32_288 : BitVec 32 := 4#32
  let v589 : BitVec 32 := Scalar.shrui v588 c4_i32_288
  let c1_i32_299 : BitVec 32 := 1#32
  let v617 : BitVec 32 := Scalar.addi v589 c1_i32_299
  let c400_i32_300 : BitVec 32 := 400#32
  let v618 : BitVec 32 := Scalar.subi c400_i32_300 v617
  let c1_i32_301 : BitVec 32 := 1#32
  let v620 : BitVec 32 := Scalar.divsi v618 c1_i32_301
  let v621 : BitVec 32 := Scalar.muli v620 c1_i32_301
  let v622 : BitVec 32 := Scalar.addi v617 v621
  let c1_i32_302 : BitVec 32 := 1#32
  ⟨v617, v622, c1_i32_302⟩
def k0_mult146 (v585 : BitVec 32) (k0_t96 : Fin (k0_t96_loop v585).trips) : BitVec 32 :=
  let c6400_i32_287 : BitVec 32 := 6400#32
  let c0_i32_286 : BitVec 32 := 0#32
  let c89600_i32_285 : BitVec 32 := 89600#32
  let v586 : BitVec 32 := Scalar.subi v585 c89600_i32_285
  let v587 : BitVec 32 := Scalar.maxsi c0_i32_286 v586
  let v588 : BitVec 32 := Scalar.minsi c6400_i32_287 v587
  let c4_i32_288 : BitVec 32 := 4#32
  let v589 : BitVec 32 := Scalar.shrui v588 c4_i32_288
  let c1_i32_299 : BitVec 32 := 1#32
  let v617 : BitVec 32 := Scalar.addi v589 c1_i32_299
  let c1_i32_302 : BitVec 32 := 1#32
  let arg18 : BitVec 32 := Scf.iv v617 c1_i32_302 k0_t96
  let c16_i32_538 : BitVec 32 := 16#32
  let v1280 : BitVec 32 := Scalar.muli arg18 c16_i32_538
  v1280
def k0_off145 (v585 : BitVec 32) (k0_t96 : Fin (k0_t96_loop v585).trips) : Fin 2 → Nat :=
  let c7_i32_539 : BitVec 32 := 7#32
  let v1282 : Index := Scalar.indexCast c7_i32_539
  let c6400_i32_287 : BitVec 32 := 6400#32
  let c0_i32_286 : BitVec 32 := 0#32
  let c89600_i32_285 : BitVec 32 := 89600#32
  let v586 : BitVec 32 := Scalar.subi v585 c89600_i32_285
  let v587 : BitVec 32 := Scalar.maxsi c0_i32_286 v586
  let v588 : BitVec 32 := Scalar.minsi c6400_i32_287 v587
  let c4_i32_288 : BitVec 32 := 4#32
  let v589 : BitVec 32 := Scalar.shrui v588 c4_i32_288
  let c1_i32_299 : BitVec 32 := 1#32
  let v617 : BitVec 32 := Scalar.addi v589 c1_i32_299
  let c1_i32_302 : BitVec 32 := 1#32
  let arg18 : BitVec 32 := Scf.iv v617 c1_i32_302 k0_t96
  let c16_i32_538 : BitVec 32 := 16#32
  let v1280 : BitVec 32 := Scalar.muli arg18 c16_i32_538
  let v1281 : BitVec 32 := v1280
  let v1283 : Index := Scalar.indexCast v1281
  ![7, v1283.toNat]
@[reducible] def k0_t97_loop (v585 : BitVec 32) : Scf.Loop 32 :=
  let c6400_i32_287 : BitVec 32 := 6400#32
  let c0_i32_286 : BitVec 32 := 0#32
  let c89600_i32_285 : BitVec 32 := 89600#32
  let v586 : BitVec 32 := Scalar.subi v585 c89600_i32_285
  let v587 : BitVec 32 := Scalar.maxsi c0_i32_286 v586
  let v588 : BitVec 32 := Scalar.minsi c6400_i32_287 v587
  let c4_i32_288 : BitVec 32 := 4#32
  let v589 : BitVec 32 := Scalar.shrui v588 c4_i32_288
  let c1_i32_299 : BitVec 32 := 1#32
  let v617 : BitVec 32 := Scalar.addi v589 c1_i32_299
  let c400_i32_300 : BitVec 32 := 400#32
  let v618 : BitVec 32 := Scalar.subi c400_i32_300 v617
  let c1_i32_301 : BitVec 32 := 1#32
  let v620 : BitVec 32 := Scalar.divsi v618 c1_i32_301
  let v621 : BitVec 32 := Scalar.muli v620 c1_i32_301
  let v622 : BitVec 32 := Scalar.addi v617 v621
  let v619 : BitVec 32 := Scalar.addi v617 v618
  let c1_i32_303 : BitVec 32 := 1#32
  ⟨v622, v619, c1_i32_303⟩
def k0_mult147 (v585 : BitVec 32) (k0_t97 : Fin (k0_t97_loop v585).trips) : BitVec 32 :=
  let c6400_i32_287 : BitVec 32 := 6400#32
  let c0_i32_286 : BitVec 32 := 0#32
  let c89600_i32_285 : BitVec 32 := 89600#32
  let v586 : BitVec 32 := Scalar.subi v585 c89600_i32_285
  let v587 : BitVec 32 := Scalar.maxsi c0_i32_286 v586
  let v588 : BitVec 32 := Scalar.minsi c6400_i32_287 v587
  let c4_i32_288 : BitVec 32 := 4#32
  let v589 : BitVec 32 := Scalar.shrui v588 c4_i32_288
  let c1_i32_299 : BitVec 32 := 1#32
  let v617 : BitVec 32 := Scalar.addi v589 c1_i32_299
  let c400_i32_300 : BitVec 32 := 400#32
  let v618 : BitVec 32 := Scalar.subi c400_i32_300 v617
  let c1_i32_301 : BitVec 32 := 1#32
  let v620 : BitVec 32 := Scalar.divsi v618 c1_i32_301
  let v621 : BitVec 32 := Scalar.muli v620 c1_i32_301
  let v622 : BitVec 32 := Scalar.addi v617 v621
  let c1_i32_303 : BitVec 32 := 1#32
  let arg18 : BitVec 32 := Scf.iv v622 c1_i32_303 k0_t97
  let c16_i32_538 : BitVec 32 := 16#32
  let v1280 : BitVec 32 := Scalar.muli arg18 c16_i32_538
  v1280
def k0_off146 (v585 : BitVec 32) (k0_t97 : Fin (k0_t97_loop v585).trips) : Fin 2 → Nat :=
  let c7_i32_539 : BitVec 32 := 7#32
  let v1282 : Index := Scalar.indexCast c7_i32_539
  let c6400_i32_287 : BitVec 32 := 6400#32
  let c0_i32_286 : BitVec 32 := 0#32
  let c89600_i32_285 : BitVec 32 := 89600#32
  let v586 : BitVec 32 := Scalar.subi v585 c89600_i32_285
  let v587 : BitVec 32 := Scalar.maxsi c0_i32_286 v586
  let v588 : BitVec 32 := Scalar.minsi c6400_i32_287 v587
  let c4_i32_288 : BitVec 32 := 4#32
  let v589 : BitVec 32 := Scalar.shrui v588 c4_i32_288
  let c1_i32_299 : BitVec 32 := 1#32
  let v617 : BitVec 32 := Scalar.addi v589 c1_i32_299
  let c400_i32_300 : BitVec 32 := 400#32
  let v618 : BitVec 32 := Scalar.subi c400_i32_300 v617
  let c1_i32_301 : BitVec 32 := 1#32
  let v620 : BitVec 32 := Scalar.divsi v618 c1_i32_301
  let v621 : BitVec 32 := Scalar.muli v620 c1_i32_301
  let v622 : BitVec 32 := Scalar.addi v617 v621
  let c1_i32_303 : BitVec 32 := 1#32
  let arg18 : BitVec 32 := Scf.iv v622 c1_i32_303 k0_t97
  let c16_i32_538 : BitVec 32 := 16#32
  let v1280 : BitVec 32 := Scalar.muli arg18 c16_i32_538
  let v1281 : BitVec 32 := v1280
  let v1283 : Index := Scalar.indexCast v1281
  ![7, v1283.toNat]

def k0_chk48 (v585 : BitVec 32) : Prop :=
  ((k0_t94_loop v585).OK) ∧
  (∀ k0_t94 : Fin (k0_t94_loop v585).trips, 16 ∣ (k0_mult143 v585 k0_t94).toNat) ∧
  (∀ k0_t94 : Fin (k0_t94_loop v585).trips, ∀ a, (k0_off142 v585 k0_t94) a + S1x16.size a ≤ S8x6400.size a) ∧
  ((k0_t95_loop v585).OK) ∧
  (∀ k0_t95 : Fin (k0_t95_loop v585).trips, 16 ∣ (k0_mult144 v585 k0_t95).toNat) ∧
  (∀ k0_t95 : Fin (k0_t95_loop v585).trips, ∀ a, (k0_off143 v585 k0_t95) a + S1x16.size a ≤ S8x6400.size a) ∧
  (16 ∣ (k0_mult145 v585).toNat) ∧
  (∀ a, (k0_off144 v585) a + S1x16.size a ≤ S8x6400.size a) ∧
  ((k0_t96_loop v585).OK) ∧
  (∀ k0_t96 : Fin (k0_t96_loop v585).trips, 16 ∣ (k0_mult146 v585 k0_t96).toNat) ∧
  (∀ k0_t96 : Fin (k0_t96_loop v585).trips, ∀ a, (k0_off145 v585 k0_t96) a + S1x16.size a ≤ S8x6400.size a) ∧
  ((k0_t97_loop v585).OK) ∧
  (∀ k0_t97 : Fin (k0_t97_loop v585).trips, 16 ∣ (k0_mult147 v585 k0_t97).toNat) ∧
  (∀ k0_t97 : Fin (k0_t97_loop v585).trips, ∀ a, (k0_off146 v585 k0_t97) a + S1x16.size a ≤ S8x6400.size a)
theorem k0_t94_ok : ∀ (v585 : BitVec 32) (k0_hw48 : k0_chk48 v585), (k0_t94_loop v585).OK := fun v585 k0_hw48 => k0_hw48.1
theorem k0_mult143_dvd : ∀ (v585 : BitVec 32) (k0_hw48 : k0_chk48 v585) (k0_t94 : Fin (k0_t94_loop v585).trips), 16 ∣ (k0_mult143 v585 k0_t94).toNat := fun v585 k0_hw48 k0_t94 => k0_hw48.2.1 k0_t94
theorem k0_off142_inb : ∀ (v585 : BitVec 32) (k0_hw48 : k0_chk48 v585) (k0_t94 : Fin (k0_t94_loop v585).trips), ∀ a, (k0_off142 v585 k0_t94) a + S1x16.size a ≤ S8x6400.size a := fun v585 k0_hw48 k0_t94 => k0_hw48.2.2.1 k0_t94
theorem k0_t95_ok : ∀ (v585 : BitVec 32) (k0_hw48 : k0_chk48 v585), (k0_t95_loop v585).OK := fun v585 k0_hw48 => k0_hw48.2.2.2.1
theorem k0_mult144_dvd : ∀ (v585 : BitVec 32) (k0_hw48 : k0_chk48 v585) (k0_t95 : Fin (k0_t95_loop v585).trips), 16 ∣ (k0_mult144 v585 k0_t95).toNat := fun v585 k0_hw48 k0_t95 => k0_hw48.2.2.2.2.1 k0_t95
theorem k0_off143_inb : ∀ (v585 : BitVec 32) (k0_hw48 : k0_chk48 v585) (k0_t95 : Fin (k0_t95_loop v585).trips), ∀ a, (k0_off143 v585 k0_t95) a + S1x16.size a ≤ S8x6400.size a := fun v585 k0_hw48 k0_t95 => k0_hw48.2.2.2.2.2.1 k0_t95
theorem k0_mult145_dvd : ∀ (v585 : BitVec 32) (k0_hw48 : k0_chk48 v585), 16 ∣ (k0_mult145 v585).toNat := fun v585 k0_hw48 => k0_hw48.2.2.2.2.2.2.1
theorem k0_off144_inb : ∀ (v585 : BitVec 32) (k0_hw48 : k0_chk48 v585), ∀ a, (k0_off144 v585) a + S1x16.size a ≤ S8x6400.size a := fun v585 k0_hw48 => k0_hw48.2.2.2.2.2.2.2.1
theorem k0_t96_ok : ∀ (v585 : BitVec 32) (k0_hw48 : k0_chk48 v585), (k0_t96_loop v585).OK := fun v585 k0_hw48 => k0_hw48.2.2.2.2.2.2.2.2.1
theorem k0_mult146_dvd : ∀ (v585 : BitVec 32) (k0_hw48 : k0_chk48 v585) (k0_t96 : Fin (k0_t96_loop v585).trips), 16 ∣ (k0_mult146 v585 k0_t96).toNat := fun v585 k0_hw48 k0_t96 => k0_hw48.2.2.2.2.2.2.2.2.2.1 k0_t96
theorem k0_off145_inb : ∀ (v585 : BitVec 32) (k0_hw48 : k0_chk48 v585) (k0_t96 : Fin (k0_t96_loop v585).trips), ∀ a, (k0_off145 v585 k0_t96) a + S1x16.size a ≤ S8x6400.size a := fun v585 k0_hw48 k0_t96 => k0_hw48.2.2.2.2.2.2.2.2.2.2.1 k0_t96
theorem k0_t97_ok : ∀ (v585 : BitVec 32) (k0_hw48 : k0_chk48 v585), (k0_t97_loop v585).OK := fun v585 k0_hw48 => k0_hw48.2.2.2.2.2.2.2.2.2.2.2.1
theorem k0_mult147_dvd : ∀ (v585 : BitVec 32) (k0_hw48 : k0_chk48 v585) (k0_t97 : Fin (k0_t97_loop v585).trips), 16 ∣ (k0_mult147 v585 k0_t97).toNat := fun v585 k0_hw48 k0_t97 => k0_hw48.2.2.2.2.2.2.2.2.2.2.2.2.1 k0_t97
theorem k0_off146_inb : ∀ (v585 : BitVec 32) (k0_hw48 : k0_chk48 v585) (k0_t97 : Fin (k0_t97_loop v585).trips), ∀ a, (k0_off146 v585 k0_t97) a + S1x16.size a ≤ S8x6400.size a := fun v585 k0_hw48 k0_t97 => k0_hw48.2.2.2.2.2.2.2.2.2.2.2.2.2 k0_t97

def k0_mult148 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  v2
def k0_off147 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v625 : BitVec 32 := v2
  let c96000_i32 : BitVec 32 := 96000#32
  ![v625.toNat, 96000]
@[reducible] def k0_t98_loop (v631 : BitVec 32) : Scf.Loop 32 :=
  let c0_i32_312 : BitVec 32 := 0#32
  let c3968_i32 : BitVec 32 := 3968#32
  let c0_i32_310 : BitVec 32 := 0#32
  let c96000_i32_309 : BitVec 32 := 96000#32
  let v632 : BitVec 32 := Scalar.subi v631 c96000_i32_309
  let v633 : BitVec 32 := Scalar.maxsi c0_i32_310 v632
  let v634 : BitVec 32 := Scalar.minsi c3968_i32 v633
  let c4_i32_311 : BitVec 32 := 4#32
  let v635 : BitVec 32 := Scalar.shrui v634 c4_i32_311
  let v636 : BitVec 32 := Scalar.subi v635 c0_i32_312
  let c1_i32_313 : BitVec 32 := 1#32
  let v638 : BitVec 32 := Scalar.divsi v636 c1_i32_313
  let v639 : BitVec 32 := Scalar.muli v638 c1_i32_313
  let v640 : BitVec 32 := Scalar.addi c0_i32_312 v639
  let c1_i32_314 : BitVec 32 := 1#32
  ⟨c0_i32_312, v640, c1_i32_314⟩

def k0_mult149 (v631 : BitVec 32) (k0_t98 : Fin (k0_t98_loop v631).trips) : BitVec 32 :=
  let c0_i32_312 : BitVec 32 := 0#32
  let c1_i32_314 : BitVec 32 := 1#32
  let arg18 : BitVec 32 := Scf.iv c0_i32_312 c1_i32_314 k0_t98
  let c16_i32_538 : BitVec 32 := 16#32
  let v1280 : BitVec 32 := Scalar.muli arg18 c16_i32_538
  v1280
def k0_off148 (v631 : BitVec 32) (k0_t98 : Fin (k0_t98_loop v631).trips) : Fin 2 → Nat :=
  let c0_i32_539 : BitVec 32 := 0#32
  let v1282 : Index := Scalar.indexCast c0_i32_539
  let c0_i32_312 : BitVec 32 := 0#32
  let c1_i32_314 : BitVec 32 := 1#32
  let arg18 : BitVec 32 := Scf.iv c0_i32_312 c1_i32_314 k0_t98
  let c16_i32_538 : BitVec 32 := 16#32
  let v1280 : BitVec 32 := Scalar.muli arg18 c16_i32_538
  let v1281 : BitVec 32 := v1280
  let v1283 : Index := Scalar.indexCast v1281
  ![0, v1283.toNat]
@[reducible] def k0_t99_loop (v631 : BitVec 32) : Scf.Loop 32 :=
  let c0_i32_312 : BitVec 32 := 0#32
  let c3968_i32 : BitVec 32 := 3968#32
  let c0_i32_310 : BitVec 32 := 0#32
  let c96000_i32_309 : BitVec 32 := 96000#32
  let v632 : BitVec 32 := Scalar.subi v631 c96000_i32_309
  let v633 : BitVec 32 := Scalar.maxsi c0_i32_310 v632
  let v634 : BitVec 32 := Scalar.minsi c3968_i32 v633
  let c4_i32_311 : BitVec 32 := 4#32
  let v635 : BitVec 32 := Scalar.shrui v634 c4_i32_311
  let v636 : BitVec 32 := Scalar.subi v635 c0_i32_312
  let c1_i32_313 : BitVec 32 := 1#32
  let v638 : BitVec 32 := Scalar.divsi v636 c1_i32_313
  let v639 : BitVec 32 := Scalar.muli v638 c1_i32_313
  let v640 : BitVec 32 := Scalar.addi c0_i32_312 v639
  let v637 : BitVec 32 := Scalar.addi c0_i32_312 v636
  let c1_i32_315 : BitVec 32 := 1#32
  ⟨v640, v637, c1_i32_315⟩
def k0_mult150 (v631 : BitVec 32) (k0_t99 : Fin (k0_t99_loop v631).trips) : BitVec 32 :=
  let c0_i32_312 : BitVec 32 := 0#32
  let c3968_i32 : BitVec 32 := 3968#32
  let c0_i32_310 : BitVec 32 := 0#32
  let c96000_i32_309 : BitVec 32 := 96000#32
  let v632 : BitVec 32 := Scalar.subi v631 c96000_i32_309
  let v633 : BitVec 32 := Scalar.maxsi c0_i32_310 v632
  let v634 : BitVec 32 := Scalar.minsi c3968_i32 v633
  let c4_i32_311 : BitVec 32 := 4#32
  let v635 : BitVec 32 := Scalar.shrui v634 c4_i32_311
  let v636 : BitVec 32 := Scalar.subi v635 c0_i32_312
  let c1_i32_313 : BitVec 32 := 1#32
  let v638 : BitVec 32 := Scalar.divsi v636 c1_i32_313
  let v639 : BitVec 32 := Scalar.muli v638 c1_i32_313
  let v640 : BitVec 32 := Scalar.addi c0_i32_312 v639
  let c1_i32_315 : BitVec 32 := 1#32
  let arg18 : BitVec 32 := Scf.iv v640 c1_i32_315 k0_t99
  let c16_i32_538 : BitVec 32 := 16#32
  let v1280 : BitVec 32 := Scalar.muli arg18 c16_i32_538
  v1280
def k0_off149 (v631 : BitVec 32) (k0_t99 : Fin (k0_t99_loop v631).trips) : Fin 2 → Nat :=
  let c0_i32_539 : BitVec 32 := 0#32
  let v1282 : Index := Scalar.indexCast c0_i32_539
  let c0_i32_312 : BitVec 32 := 0#32
  let c3968_i32 : BitVec 32 := 3968#32
  let c0_i32_310 : BitVec 32 := 0#32
  let c96000_i32_309 : BitVec 32 := 96000#32
  let v632 : BitVec 32 := Scalar.subi v631 c96000_i32_309
  let v633 : BitVec 32 := Scalar.maxsi c0_i32_310 v632
  let v634 : BitVec 32 := Scalar.minsi c3968_i32 v633
  let c4_i32_311 : BitVec 32 := 4#32
  let v635 : BitVec 32 := Scalar.shrui v634 c4_i32_311
  let v636 : BitVec 32 := Scalar.subi v635 c0_i32_312
  let c1_i32_313 : BitVec 32 := 1#32
  let v638 : BitVec 32 := Scalar.divsi v636 c1_i32_313
  let v639 : BitVec 32 := Scalar.muli v638 c1_i32_313
  let v640 : BitVec 32 := Scalar.addi c0_i32_312 v639
  let c1_i32_315 : BitVec 32 := 1#32
  let arg18 : BitVec 32 := Scf.iv v640 c1_i32_315 k0_t99
  let c16_i32_538 : BitVec 32 := 16#32
  let v1280 : BitVec 32 := Scalar.muli arg18 c16_i32_538
  let v1281 : BitVec 32 := v1280
  let v1283 : Index := Scalar.indexCast v1281
  ![0, v1283.toNat]
def k0_mult151 (v631 : BitVec 32) : BitVec 32 :=
  let c3968_i32 : BitVec 32 := 3968#32
  let c0_i32_310 : BitVec 32 := 0#32
  let c96000_i32_309 : BitVec 32 := 96000#32
  let v632 : BitVec 32 := Scalar.subi v631 c96000_i32_309
  let v633 : BitVec 32 := Scalar.maxsi c0_i32_310 v632
  let v634 : BitVec 32 := Scalar.minsi c3968_i32 v633
  let c4_i32_311 : BitVec 32 := 4#32
  let v635 : BitVec 32 := Scalar.shrui v634 c4_i32_311
  let c247_i32 : BitVec 32 := 247#32
  let v643 : BitVec 32 := Scalar.minsi v635 c247_i32
  let c16_i32_316 : BitVec 32 := 16#32
  let v644 : BitVec 32 := Scalar.muli v643 c16_i32_316
  v644
def k0_off150 (v631 : BitVec 32) : Fin 2 → Nat :=
  let c0_i32_317 : BitVec 32 := 0#32
  let v646 : Index := Scalar.indexCast c0_i32_317
  let c3968_i32 : BitVec 32 := 3968#32
  let c0_i32_310 : BitVec 32 := 0#32
  let c96000_i32_309 : BitVec 32 := 96000#32
  let v632 : BitVec 32 := Scalar.subi v631 c96000_i32_309
  let v633 : BitVec 32 := Scalar.maxsi c0_i32_310 v632
  let v634 : BitVec 32 := Scalar.minsi c3968_i32 v633
  let c4_i32_311 : BitVec 32 := 4#32
  let v635 : BitVec 32 := Scalar.shrui v634 c4_i32_311
  let c247_i32 : BitVec 32 := 247#32
  let v643 : BitVec 32 := Scalar.minsi v635 c247_i32
  let c16_i32_316 : BitVec 32 := 16#32
  let v644 : BitVec 32 := Scalar.muli v643 c16_i32_316
  let v645 : BitVec 32 := v644
  let v647 : Index := Scalar.indexCast v645
  ![0, v647.toNat]
@[reducible] def k0_t100_loop (v631 : BitVec 32) : Scf.Loop 32 :=
  let c3968_i32 : BitVec 32 := 3968#32
  let c0_i32_310 : BitVec 32 := 0#32
  let c96000_i32_309 : BitVec 32 := 96000#32
  let v632 : BitVec 32 := Scalar.subi v631 c96000_i32_309
  let v633 : BitVec 32 := Scalar.maxsi c0_i32_310 v632
  let v634 : BitVec 32 := Scalar.minsi c3968_i32 v633
  let c4_i32_311 : BitVec 32 := 4#32
  let v635 : BitVec 32 := Scalar.shrui v634 c4_i32_311
  let c1_i32_320 : BitVec 32 := 1#32
  let v663 : BitVec 32 := Scalar.addi v635 c1_i32_320
  let c248_i32_321 : BitVec 32 := 248#32
  let v664 : BitVec 32 := Scalar.subi c248_i32_321 v663
  let c1_i32_322 : BitVec 32 := 1#32
  let v666 : BitVec 32 := Scalar.divsi v664 c1_i32_322
  let v667 : BitVec 32 := Scalar.muli v666 c1_i32_322
  let v668 : BitVec 32 := Scalar.addi v663 v667
  let c1_i32_323 : BitVec 32 := 1#32
  ⟨v663, v668, c1_i32_323⟩
def k0_mult152 (v631 : BitVec 32) (k0_t100 : Fin (k0_t100_loop v631).trips) : BitVec 32 :=
  let c3968_i32 : BitVec 32 := 3968#32
  let c0_i32_310 : BitVec 32 := 0#32
  let c96000_i32_309 : BitVec 32 := 96000#32
  let v632 : BitVec 32 := Scalar.subi v631 c96000_i32_309
  let v633 : BitVec 32 := Scalar.maxsi c0_i32_310 v632
  let v634 : BitVec 32 := Scalar.minsi c3968_i32 v633
  let c4_i32_311 : BitVec 32 := 4#32
  let v635 : BitVec 32 := Scalar.shrui v634 c4_i32_311
  let c1_i32_320 : BitVec 32 := 1#32
  let v663 : BitVec 32 := Scalar.addi v635 c1_i32_320
  let c1_i32_323 : BitVec 32 := 1#32
  let arg18 : BitVec 32 := Scf.iv v663 c1_i32_323 k0_t100
  let c16_i32_538 : BitVec 32 := 16#32
  let v1280 : BitVec 32 := Scalar.muli arg18 c16_i32_538
  v1280
def k0_off151 (v631 : BitVec 32) (k0_t100 : Fin (k0_t100_loop v631).trips) : Fin 2 → Nat :=
  let c0_i32_539 : BitVec 32 := 0#32
  let v1282 : Index := Scalar.indexCast c0_i32_539
  let c3968_i32 : BitVec 32 := 3968#32
  let c0_i32_310 : BitVec 32 := 0#32
  let c96000_i32_309 : BitVec 32 := 96000#32
  let v632 : BitVec 32 := Scalar.subi v631 c96000_i32_309
  let v633 : BitVec 32 := Scalar.maxsi c0_i32_310 v632
  let v634 : BitVec 32 := Scalar.minsi c3968_i32 v633
  let c4_i32_311 : BitVec 32 := 4#32
  let v635 : BitVec 32 := Scalar.shrui v634 c4_i32_311
  let c1_i32_320 : BitVec 32 := 1#32
  let v663 : BitVec 32 := Scalar.addi v635 c1_i32_320
  let c1_i32_323 : BitVec 32 := 1#32
  let arg18 : BitVec 32 := Scf.iv v663 c1_i32_323 k0_t100
  let c16_i32_538 : BitVec 32 := 16#32
  let v1280 : BitVec 32 := Scalar.muli arg18 c16_i32_538
  let v1281 : BitVec 32 := v1280
  let v1283 : Index := Scalar.indexCast v1281
  ![0, v1283.toNat]
@[reducible] def k0_t101_loop (v631 : BitVec 32) : Scf.Loop 32 :=
  let c3968_i32 : BitVec 32 := 3968#32
  let c0_i32_310 : BitVec 32 := 0#32
  let c96000_i32_309 : BitVec 32 := 96000#32
  let v632 : BitVec 32 := Scalar.subi v631 c96000_i32_309
  let v633 : BitVec 32 := Scalar.maxsi c0_i32_310 v632
  let v634 : BitVec 32 := Scalar.minsi c3968_i32 v633
  let c4_i32_311 : BitVec 32 := 4#32
  let v635 : BitVec 32 := Scalar.shrui v634 c4_i32_311
  let c1_i32_320 : BitVec 32 := 1#32
  let v663 : BitVec 32 := Scalar.addi v635 c1_i32_320
  let c248_i32_321 : BitVec 32 := 248#32
  let v664 : BitVec 32 := Scalar.subi c248_i32_321 v663
  let c1_i32_322 : BitVec 32 := 1#32
  let v666 : BitVec 32 := Scalar.divsi v664 c1_i32_322
  let v667 : BitVec 32 := Scalar.muli v666 c1_i32_322
  let v668 : BitVec 32 := Scalar.addi v663 v667
  let v665 : BitVec 32 := Scalar.addi v663 v664
  let c1_i32_324 : BitVec 32 := 1#32
  ⟨v668, v665, c1_i32_324⟩
def k0_mult153 (v631 : BitVec 32) (k0_t101 : Fin (k0_t101_loop v631).trips) : BitVec 32 :=
  let c3968_i32 : BitVec 32 := 3968#32
  let c0_i32_310 : BitVec 32 := 0#32
  let c96000_i32_309 : BitVec 32 := 96000#32
  let v632 : BitVec 32 := Scalar.subi v631 c96000_i32_309
  let v633 : BitVec 32 := Scalar.maxsi c0_i32_310 v632
  let v634 : BitVec 32 := Scalar.minsi c3968_i32 v633
  let c4_i32_311 : BitVec 32 := 4#32
  let v635 : BitVec 32 := Scalar.shrui v634 c4_i32_311
  let c1_i32_320 : BitVec 32 := 1#32
  let v663 : BitVec 32 := Scalar.addi v635 c1_i32_320
  let c248_i32_321 : BitVec 32 := 248#32
  let v664 : BitVec 32 := Scalar.subi c248_i32_321 v663
  let c1_i32_322 : BitVec 32 := 1#32
  let v666 : BitVec 32 := Scalar.divsi v664 c1_i32_322
  let v667 : BitVec 32 := Scalar.muli v666 c1_i32_322
  let v668 : BitVec 32 := Scalar.addi v663 v667
  let c1_i32_324 : BitVec 32 := 1#32
  let arg18 : BitVec 32 := Scf.iv v668 c1_i32_324 k0_t101
  let c16_i32_538 : BitVec 32 := 16#32
  let v1280 : BitVec 32 := Scalar.muli arg18 c16_i32_538
  v1280
def k0_off152 (v631 : BitVec 32) (k0_t101 : Fin (k0_t101_loop v631).trips) : Fin 2 → Nat :=
  let c0_i32_539 : BitVec 32 := 0#32
  let v1282 : Index := Scalar.indexCast c0_i32_539
  let c3968_i32 : BitVec 32 := 3968#32
  let c0_i32_310 : BitVec 32 := 0#32
  let c96000_i32_309 : BitVec 32 := 96000#32
  let v632 : BitVec 32 := Scalar.subi v631 c96000_i32_309
  let v633 : BitVec 32 := Scalar.maxsi c0_i32_310 v632
  let v634 : BitVec 32 := Scalar.minsi c3968_i32 v633
  let c4_i32_311 : BitVec 32 := 4#32
  let v635 : BitVec 32 := Scalar.shrui v634 c4_i32_311
  let c1_i32_320 : BitVec 32 := 1#32
  let v663 : BitVec 32 := Scalar.addi v635 c1_i32_320
  let c248_i32_321 : BitVec 32 := 248#32
  let v664 : BitVec 32 := Scalar.subi c248_i32_321 v663
  let c1_i32_322 : BitVec 32 := 1#32
  let v666 : BitVec 32 := Scalar.divsi v664 c1_i32_322
  let v667 : BitVec 32 := Scalar.muli v666 c1_i32_322
  let v668 : BitVec 32 := Scalar.addi v663 v667
  let c1_i32_324 : BitVec 32 := 1#32
  let arg18 : BitVec 32 := Scf.iv v668 c1_i32_324 k0_t101
  let c16_i32_538 : BitVec 32 := 16#32
  let v1280 : BitVec 32 := Scalar.muli arg18 c16_i32_538
  let v1281 : BitVec 32 := v1280
  let v1283 : Index := Scalar.indexCast v1281
  ![0, v1283.toNat]

def k0_chk49 (v631 : BitVec 32) : Prop :=
  ((k0_t98_loop v631).OK) ∧
  (∀ k0_t98 : Fin (k0_t98_loop v631).trips, 16 ∣ (k0_mult149 v631 k0_t98).toNat) ∧
  (∀ k0_t98 : Fin (k0_t98_loop v631).trips, ∀ a, (k0_off148 v631 k0_t98) a + S1x16.size a ≤ S8x6400.size a) ∧
  ((k0_t99_loop v631).OK) ∧
  (∀ k0_t99 : Fin (k0_t99_loop v631).trips, 16 ∣ (k0_mult150 v631 k0_t99).toNat) ∧
  (∀ k0_t99 : Fin (k0_t99_loop v631).trips, ∀ a, (k0_off149 v631 k0_t99) a + S1x16.size a ≤ S8x6400.size a) ∧
  (16 ∣ (k0_mult151 v631).toNat) ∧
  (∀ a, (k0_off150 v631) a + S1x16.size a ≤ S8x6400.size a) ∧
  ((k0_t100_loop v631).OK) ∧
  (∀ k0_t100 : Fin (k0_t100_loop v631).trips, 16 ∣ (k0_mult152 v631 k0_t100).toNat) ∧
  (∀ k0_t100 : Fin (k0_t100_loop v631).trips, ∀ a, (k0_off151 v631 k0_t100) a + S1x16.size a ≤ S8x6400.size a) ∧
  ((k0_t101_loop v631).OK) ∧
  (∀ k0_t101 : Fin (k0_t101_loop v631).trips, 16 ∣ (k0_mult153 v631 k0_t101).toNat) ∧
  (∀ k0_t101 : Fin (k0_t101_loop v631).trips, ∀ a, (k0_off152 v631 k0_t101) a + S1x16.size a ≤ S8x6400.size a)
theorem k0_t98_ok : ∀ (v631 : BitVec 32) (k0_hw49 : k0_chk49 v631), (k0_t98_loop v631).OK := fun v631 k0_hw49 => k0_hw49.1
theorem k0_mult149_dvd : ∀ (v631 : BitVec 32) (k0_hw49 : k0_chk49 v631) (k0_t98 : Fin (k0_t98_loop v631).trips), 16 ∣ (k0_mult149 v631 k0_t98).toNat := fun v631 k0_hw49 k0_t98 => k0_hw49.2.1 k0_t98
theorem k0_off148_inb : ∀ (v631 : BitVec 32) (k0_hw49 : k0_chk49 v631) (k0_t98 : Fin (k0_t98_loop v631).trips), ∀ a, (k0_off148 v631 k0_t98) a + S1x16.size a ≤ S8x6400.size a := fun v631 k0_hw49 k0_t98 => k0_hw49.2.2.1 k0_t98
theorem k0_t99_ok : ∀ (v631 : BitVec 32) (k0_hw49 : k0_chk49 v631), (k0_t99_loop v631).OK := fun v631 k0_hw49 => k0_hw49.2.2.2.1
theorem k0_mult150_dvd : ∀ (v631 : BitVec 32) (k0_hw49 : k0_chk49 v631) (k0_t99 : Fin (k0_t99_loop v631).trips), 16 ∣ (k0_mult150 v631 k0_t99).toNat := fun v631 k0_hw49 k0_t99 => k0_hw49.2.2.2.2.1 k0_t99
theorem k0_off149_inb : ∀ (v631 : BitVec 32) (k0_hw49 : k0_chk49 v631) (k0_t99 : Fin (k0_t99_loop v631).trips), ∀ a, (k0_off149 v631 k0_t99) a + S1x16.size a ≤ S8x6400.size a := fun v631 k0_hw49 k0_t99 => k0_hw49.2.2.2.2.2.1 k0_t99
theorem k0_mult151_dvd : ∀ (v631 : BitVec 32) (k0_hw49 : k0_chk49 v631), 16 ∣ (k0_mult151 v631).toNat := fun v631 k0_hw49 => k0_hw49.2.2.2.2.2.2.1
theorem k0_off150_inb : ∀ (v631 : BitVec 32) (k0_hw49 : k0_chk49 v631), ∀ a, (k0_off150 v631) a + S1x16.size a ≤ S8x6400.size a := fun v631 k0_hw49 => k0_hw49.2.2.2.2.2.2.2.1
theorem k0_t100_ok : ∀ (v631 : BitVec 32) (k0_hw49 : k0_chk49 v631), (k0_t100_loop v631).OK := fun v631 k0_hw49 => k0_hw49.2.2.2.2.2.2.2.2.1
theorem k0_mult152_dvd : ∀ (v631 : BitVec 32) (k0_hw49 : k0_chk49 v631) (k0_t100 : Fin (k0_t100_loop v631).trips), 16 ∣ (k0_mult152 v631 k0_t100).toNat := fun v631 k0_hw49 k0_t100 => k0_hw49.2.2.2.2.2.2.2.2.2.1 k0_t100
theorem k0_off151_inb : ∀ (v631 : BitVec 32) (k0_hw49 : k0_chk49 v631) (k0_t100 : Fin (k0_t100_loop v631).trips), ∀ a, (k0_off151 v631 k0_t100) a + S1x16.size a ≤ S8x6400.size a := fun v631 k0_hw49 k0_t100 => k0_hw49.2.2.2.2.2.2.2.2.2.2.1 k0_t100
theorem k0_t101_ok : ∀ (v631 : BitVec 32) (k0_hw49 : k0_chk49 v631), (k0_t101_loop v631).OK := fun v631 k0_hw49 => k0_hw49.2.2.2.2.2.2.2.2.2.2.2.1
theorem k0_mult153_dvd : ∀ (v631 : BitVec 32) (k0_hw49 : k0_chk49 v631) (k0_t101 : Fin (k0_t101_loop v631).trips), 16 ∣ (k0_mult153 v631 k0_t101).toNat := fun v631 k0_hw49 k0_t101 => k0_hw49.2.2.2.2.2.2.2.2.2.2.2.2.1 k0_t101
theorem k0_off152_inb : ∀ (v631 : BitVec 32) (k0_hw49 : k0_chk49 v631) (k0_t101 : Fin (k0_t101_loop v631).trips), ∀ a, (k0_off152 v631 k0_t101) a + S1x16.size a ≤ S8x6400.size a := fun v631 k0_hw49 k0_t101 => k0_hw49.2.2.2.2.2.2.2.2.2.2.2.2.2 k0_t101

@[reducible] def k0_t102_loop (v672 : BitVec 32) : Scf.Loop 32 :=
  let c0_i32_329 : BitVec 32 := 0#32
  let c3968_i32_327 : BitVec 32 := 3968#32
  let c0_i32_326 : BitVec 32 := 0#32
  let c96000_i32_325 : BitVec 32 := 96000#32
  let v673 : BitVec 32 := Scalar.subi v672 c96000_i32_325
  let v674 : BitVec 32 := Scalar.maxsi c0_i32_326 v673
  let v675 : BitVec 32 := Scalar.minsi c3968_i32_327 v674
  let c4_i32_328 : BitVec 32 := 4#32
  let v676 : BitVec 32 := Scalar.shrui v675 c4_i32_328
  let v677 : BitVec 32 := Scalar.subi v676 c0_i32_329
  let c1_i32_330 : BitVec 32 := 1#32
  let v679 : BitVec 32 := Scalar.divsi v677 c1_i32_330
  let v680 : BitVec 32 := Scalar.muli v679 c1_i32_330
  let v681 : BitVec 32 := Scalar.addi c0_i32_329 v680
  let c1_i32_331 : BitVec 32 := 1#32
  ⟨c0_i32_329, v681, c1_i32_331⟩

def k0_mult154 (v672 : BitVec 32) (k0_t102 : Fin (k0_t102_loop v672).trips) : BitVec 32 :=
  let c0_i32_329 : BitVec 32 := 0#32
  let c1_i32_331 : BitVec 32 := 1#32
  let arg18 : BitVec 32 := Scf.iv c0_i32_329 c1_i32_331 k0_t102
  let c16_i32_538 : BitVec 32 := 16#32
  let v1280 : BitVec 32 := Scalar.muli arg18 c16_i32_538
  v1280
def k0_off153 (v672 : BitVec 32) (k0_t102 : Fin (k0_t102_loop v672).trips) : Fin 2 → Nat :=
  let c1_i32_539 : BitVec 32 := 1#32
  let v1282 : Index := Scalar.indexCast c1_i32_539
  let c0_i32_329 : BitVec 32 := 0#32
  let c1_i32_331 : BitVec 32 := 1#32
  let arg18 : BitVec 32 := Scf.iv c0_i32_329 c1_i32_331 k0_t102
  let c16_i32_538 : BitVec 32 := 16#32
  let v1280 : BitVec 32 := Scalar.muli arg18 c16_i32_538
  let v1281 : BitVec 32 := v1280
  let v1283 : Index := Scalar.indexCast v1281
  ![1, v1283.toNat]
@[reducible] def k0_t103_loop (v672 : BitVec 32) : Scf.Loop 32 :=
  let c0_i32_329 : BitVec 32 := 0#32
  let c3968_i32_327 : BitVec 32 := 3968#32
  let c0_i32_326 : BitVec 32 := 0#32
  let c96000_i32_325 : BitVec 32 := 96000#32
  let v673 : BitVec 32 := Scalar.subi v672 c96000_i32_325
  let v674 : BitVec 32 := Scalar.maxsi c0_i32_326 v673
  let v675 : BitVec 32 := Scalar.minsi c3968_i32_327 v674
  let c4_i32_328 : BitVec 32 := 4#32
  let v676 : BitVec 32 := Scalar.shrui v675 c4_i32_328
  let v677 : BitVec 32 := Scalar.subi v676 c0_i32_329
  let c1_i32_330 : BitVec 32 := 1#32
  let v679 : BitVec 32 := Scalar.divsi v677 c1_i32_330
  let v680 : BitVec 32 := Scalar.muli v679 c1_i32_330
  let v681 : BitVec 32 := Scalar.addi c0_i32_329 v680
  let v678 : BitVec 32 := Scalar.addi c0_i32_329 v677
  let c1_i32_332 : BitVec 32 := 1#32
  ⟨v681, v678, c1_i32_332⟩
def k0_mult155 (v672 : BitVec 32) (k0_t103 : Fin (k0_t103_loop v672).trips) : BitVec 32 :=
  let c0_i32_329 : BitVec 32 := 0#32
  let c3968_i32_327 : BitVec 32 := 3968#32
  let c0_i32_326 : BitVec 32 := 0#32
  let c96000_i32_325 : BitVec 32 := 96000#32
  let v673 : BitVec 32 := Scalar.subi v672 c96000_i32_325
  let v674 : BitVec 32 := Scalar.maxsi c0_i32_326 v673
  let v675 : BitVec 32 := Scalar.minsi c3968_i32_327 v674
  let c4_i32_328 : BitVec 32 := 4#32
  let v676 : BitVec 32 := Scalar.shrui v675 c4_i32_328
  let v677 : BitVec 32 := Scalar.subi v676 c0_i32_329
  let c1_i32_330 : BitVec 32 := 1#32
  let v679 : BitVec 32 := Scalar.divsi v677 c1_i32_330
  let v680 : BitVec 32 := Scalar.muli v679 c1_i32_330
  let v681 : BitVec 32 := Scalar.addi c0_i32_329 v680
  let c1_i32_332 : BitVec 32 := 1#32
  let arg18 : BitVec 32 := Scf.iv v681 c1_i32_332 k0_t103
  let c16_i32_538 : BitVec 32 := 16#32
  let v1280 : BitVec 32 := Scalar.muli arg18 c16_i32_538
  v1280
def k0_off154 (v672 : BitVec 32) (k0_t103 : Fin (k0_t103_loop v672).trips) : Fin 2 → Nat :=
  let c1_i32_539 : BitVec 32 := 1#32
  let v1282 : Index := Scalar.indexCast c1_i32_539
  let c0_i32_329 : BitVec 32 := 0#32
  let c3968_i32_327 : BitVec 32 := 3968#32
  let c0_i32_326 : BitVec 32 := 0#32
  let c96000_i32_325 : BitVec 32 := 96000#32
  let v673 : BitVec 32 := Scalar.subi v672 c96000_i32_325
  let v674 : BitVec 32 := Scalar.maxsi c0_i32_326 v673
  let v675 : BitVec 32 := Scalar.minsi c3968_i32_327 v674
  let c4_i32_328 : BitVec 32 := 4#32
  let v676 : BitVec 32 := Scalar.shrui v675 c4_i32_328
  let v677 : BitVec 32 := Scalar.subi v676 c0_i32_329
  let c1_i32_330 : BitVec 32 := 1#32
  let v679 : BitVec 32 := Scalar.divsi v677 c1_i32_330
  let v680 : BitVec 32 := Scalar.muli v679 c1_i32_330
  let v681 : BitVec 32 := Scalar.addi c0_i32_329 v680
  let c1_i32_332 : BitVec 32 := 1#32
  let arg18 : BitVec 32 := Scf.iv v681 c1_i32_332 k0_t103
  let c16_i32_538 : BitVec 32 := 16#32
  let v1280 : BitVec 32 := Scalar.muli arg18 c16_i32_538
  let v1281 : BitVec 32 := v1280
  let v1283 : Index := Scalar.indexCast v1281
  ![1, v1283.toNat]
def k0_mult156 (v672 : BitVec 32) : BitVec 32 :=
  let c3968_i32_327 : BitVec 32 := 3968#32
  let c0_i32_326 : BitVec 32 := 0#32
  let c96000_i32_325 : BitVec 32 := 96000#32
  let v673 : BitVec 32 := Scalar.subi v672 c96000_i32_325
  let v674 : BitVec 32 := Scalar.maxsi c0_i32_326 v673
  let v675 : BitVec 32 := Scalar.minsi c3968_i32_327 v674
  let c4_i32_328 : BitVec 32 := 4#32
  let v676 : BitVec 32 := Scalar.shrui v675 c4_i32_328
  let c247_i32_333 : BitVec 32 := 247#32
  let v684 : BitVec 32 := Scalar.minsi v676 c247_i32_333
  let c16_i32_334 : BitVec 32 := 16#32
  let v685 : BitVec 32 := Scalar.muli v684 c16_i32_334
  v685
def k0_off155 (v672 : BitVec 32) : Fin 2 → Nat :=
  let c1_i32_335 : BitVec 32 := 1#32
  let v687 : Index := Scalar.indexCast c1_i32_335
  let c3968_i32_327 : BitVec 32 := 3968#32
  let c0_i32_326 : BitVec 32 := 0#32
  let c96000_i32_325 : BitVec 32 := 96000#32
  let v673 : BitVec 32 := Scalar.subi v672 c96000_i32_325
  let v674 : BitVec 32 := Scalar.maxsi c0_i32_326 v673
  let v675 : BitVec 32 := Scalar.minsi c3968_i32_327 v674
  let c4_i32_328 : BitVec 32 := 4#32
  let v676 : BitVec 32 := Scalar.shrui v675 c4_i32_328
  let c247_i32_333 : BitVec 32 := 247#32
  let v684 : BitVec 32 := Scalar.minsi v676 c247_i32_333
  let c16_i32_334 : BitVec 32 := 16#32
  let v685 : BitVec 32 := Scalar.muli v684 c16_i32_334
  let v686 : BitVec 32 := v685
  let v688 : Index := Scalar.indexCast v686
  ![1, v688.toNat]
@[reducible] def k0_t104_loop (v672 : BitVec 32) : Scf.Loop 32 :=
  let c3968_i32_327 : BitVec 32 := 3968#32
  let c0_i32_326 : BitVec 32 := 0#32
  let c96000_i32_325 : BitVec 32 := 96000#32
  let v673 : BitVec 32 := Scalar.subi v672 c96000_i32_325
  let v674 : BitVec 32 := Scalar.maxsi c0_i32_326 v673
  let v675 : BitVec 32 := Scalar.minsi c3968_i32_327 v674
  let c4_i32_328 : BitVec 32 := 4#32
  let v676 : BitVec 32 := Scalar.shrui v675 c4_i32_328
  let c1_i32_339 : BitVec 32 := 1#32
  let v704 : BitVec 32 := Scalar.addi v676 c1_i32_339
  let c248_i32_340 : BitVec 32 := 248#32
  let v705 : BitVec 32 := Scalar.subi c248_i32_340 v704
  let c1_i32_341 : BitVec 32 := 1#32
  let v707 : BitVec 32 := Scalar.divsi v705 c1_i32_341
  let v708 : BitVec 32 := Scalar.muli v707 c1_i32_341
  let v709 : BitVec 32 := Scalar.addi v704 v708
  let c1_i32_342 : BitVec 32 := 1#32
  ⟨v704, v709, c1_i32_342⟩
def k0_mult157 (v672 : BitVec 32) (k0_t104 : Fin (k0_t104_loop v672).trips) : BitVec 32 :=
  let c3968_i32_327 : BitVec 32 := 3968#32
  let c0_i32_326 : BitVec 32 := 0#32
  let c96000_i32_325 : BitVec 32 := 96000#32
  let v673 : BitVec 32 := Scalar.subi v672 c96000_i32_325
  let v674 : BitVec 32 := Scalar.maxsi c0_i32_326 v673
  let v675 : BitVec 32 := Scalar.minsi c3968_i32_327 v674
  let c4_i32_328 : BitVec 32 := 4#32
  let v676 : BitVec 32 := Scalar.shrui v675 c4_i32_328
  let c1_i32_339 : BitVec 32 := 1#32
  let v704 : BitVec 32 := Scalar.addi v676 c1_i32_339
  let c1_i32_342 : BitVec 32 := 1#32
  let arg18 : BitVec 32 := Scf.iv v704 c1_i32_342 k0_t104
  let c16_i32_538 : BitVec 32 := 16#32
  let v1280 : BitVec 32 := Scalar.muli arg18 c16_i32_538
  v1280
def k0_off156 (v672 : BitVec 32) (k0_t104 : Fin (k0_t104_loop v672).trips) : Fin 2 → Nat :=
  let c1_i32_539 : BitVec 32 := 1#32
  let v1282 : Index := Scalar.indexCast c1_i32_539
  let c3968_i32_327 : BitVec 32 := 3968#32
  let c0_i32_326 : BitVec 32 := 0#32
  let c96000_i32_325 : BitVec 32 := 96000#32
  let v673 : BitVec 32 := Scalar.subi v672 c96000_i32_325
  let v674 : BitVec 32 := Scalar.maxsi c0_i32_326 v673
  let v675 : BitVec 32 := Scalar.minsi c3968_i32_327 v674
  let c4_i32_328 : BitVec 32 := 4#32
  let v676 : BitVec 32 := Scalar.shrui v675 c4_i32_328
  let c1_i32_339 : BitVec 32 := 1#32
  let v704 : BitVec 32 := Scalar.addi v676 c1_i32_339
  let c1_i32_342 : BitVec 32 := 1#32
  let arg18 : BitVec 32 := Scf.iv v704 c1_i32_342 k0_t104
  let c16_i32_538 : BitVec 32 := 16#32
  let v1280 : BitVec 32 := Scalar.muli arg18 c16_i32_538
  let v1281 : BitVec 32 := v1280
  let v1283 : Index := Scalar.indexCast v1281
  ![1, v1283.toNat]
@[reducible] def k0_t105_loop (v672 : BitVec 32) : Scf.Loop 32 :=
  let c3968_i32_327 : BitVec 32 := 3968#32
  let c0_i32_326 : BitVec 32 := 0#32
  let c96000_i32_325 : BitVec 32 := 96000#32
  let v673 : BitVec 32 := Scalar.subi v672 c96000_i32_325
  let v674 : BitVec 32 := Scalar.maxsi c0_i32_326 v673
  let v675 : BitVec 32 := Scalar.minsi c3968_i32_327 v674
  let c4_i32_328 : BitVec 32 := 4#32
  let v676 : BitVec 32 := Scalar.shrui v675 c4_i32_328
  let c1_i32_339 : BitVec 32 := 1#32
  let v704 : BitVec 32 := Scalar.addi v676 c1_i32_339
  let c248_i32_340 : BitVec 32 := 248#32
  let v705 : BitVec 32 := Scalar.subi c248_i32_340 v704
  let c1_i32_341 : BitVec 32 := 1#32
  let v707 : BitVec 32 := Scalar.divsi v705 c1_i32_341
  let v708 : BitVec 32 := Scalar.muli v707 c1_i32_341
  let v709 : BitVec 32 := Scalar.addi v704 v708
  let v706 : BitVec 32 := Scalar.addi v704 v705
  let c1_i32_343 : BitVec 32 := 1#32
  ⟨v709, v706, c1_i32_343⟩
def k0_mult158 (v672 : BitVec 32) (k0_t105 : Fin (k0_t105_loop v672).trips) : BitVec 32 :=
  let c3968_i32_327 : BitVec 32 := 3968#32
  let c0_i32_326 : BitVec 32 := 0#32
  let c96000_i32_325 : BitVec 32 := 96000#32
  let v673 : BitVec 32 := Scalar.subi v672 c96000_i32_325
  let v674 : BitVec 32 := Scalar.maxsi c0_i32_326 v673
  let v675 : BitVec 32 := Scalar.minsi c3968_i32_327 v674
  let c4_i32_328 : BitVec 32 := 4#32
  let v676 : BitVec 32 := Scalar.shrui v675 c4_i32_328
  let c1_i32_339 : BitVec 32 := 1#32
  let v704 : BitVec 32 := Scalar.addi v676 c1_i32_339
  let c248_i32_340 : BitVec 32 := 248#32
  let v705 : BitVec 32 := Scalar.subi c248_i32_340 v704
  let c1_i32_341 : BitVec 32 := 1#32
  let v707 : BitVec 32 := Scalar.divsi v705 c1_i32_341
  let v708 : BitVec 32 := Scalar.muli v707 c1_i32_341
  let v709 : BitVec 32 := Scalar.addi v704 v708
  let c1_i32_343 : BitVec 32 := 1#32
  let arg18 : BitVec 32 := Scf.iv v709 c1_i32_343 k0_t105
  let c16_i32_538 : BitVec 32 := 16#32
  let v1280 : BitVec 32 := Scalar.muli arg18 c16_i32_538
  v1280
def k0_off157 (v672 : BitVec 32) (k0_t105 : Fin (k0_t105_loop v672).trips) : Fin 2 → Nat :=
  let c1_i32_539 : BitVec 32 := 1#32
  let v1282 : Index := Scalar.indexCast c1_i32_539
  let c3968_i32_327 : BitVec 32 := 3968#32
  let c0_i32_326 : BitVec 32 := 0#32
  let c96000_i32_325 : BitVec 32 := 96000#32
  let v673 : BitVec 32 := Scalar.subi v672 c96000_i32_325
  let v674 : BitVec 32 := Scalar.maxsi c0_i32_326 v673
  let v675 : BitVec 32 := Scalar.minsi c3968_i32_327 v674
  let c4_i32_328 : BitVec 32 := 4#32
  let v676 : BitVec 32 := Scalar.shrui v675 c4_i32_328
  let c1_i32_339 : BitVec 32 := 1#32
  let v704 : BitVec 32 := Scalar.addi v676 c1_i32_339
  let c248_i32_340 : BitVec 32 := 248#32
  let v705 : BitVec 32 := Scalar.subi c248_i32_340 v704
  let c1_i32_341 : BitVec 32 := 1#32
  let v707 : BitVec 32 := Scalar.divsi v705 c1_i32_341
  let v708 : BitVec 32 := Scalar.muli v707 c1_i32_341
  let v709 : BitVec 32 := Scalar.addi v704 v708
  let c1_i32_343 : BitVec 32 := 1#32
  let arg18 : BitVec 32 := Scf.iv v709 c1_i32_343 k0_t105
  let c16_i32_538 : BitVec 32 := 16#32
  let v1280 : BitVec 32 := Scalar.muli arg18 c16_i32_538
  let v1281 : BitVec 32 := v1280
  let v1283 : Index := Scalar.indexCast v1281
  ![1, v1283.toNat]

def k0_chk50 (v672 : BitVec 32) : Prop :=
  ((k0_t102_loop v672).OK) ∧
  (∀ k0_t102 : Fin (k0_t102_loop v672).trips, 16 ∣ (k0_mult154 v672 k0_t102).toNat) ∧
  (∀ k0_t102 : Fin (k0_t102_loop v672).trips, ∀ a, (k0_off153 v672 k0_t102) a + S1x16.size a ≤ S8x6400.size a) ∧
  ((k0_t103_loop v672).OK) ∧
  (∀ k0_t103 : Fin (k0_t103_loop v672).trips, 16 ∣ (k0_mult155 v672 k0_t103).toNat) ∧
  (∀ k0_t103 : Fin (k0_t103_loop v672).trips, ∀ a, (k0_off154 v672 k0_t103) a + S1x16.size a ≤ S8x6400.size a) ∧
  (16 ∣ (k0_mult156 v672).toNat) ∧
  (∀ a, (k0_off155 v672) a + S1x16.size a ≤ S8x6400.size a) ∧
  ((k0_t104_loop v672).OK) ∧
  (∀ k0_t104 : Fin (k0_t104_loop v672).trips, 16 ∣ (k0_mult157 v672 k0_t104).toNat) ∧
  (∀ k0_t104 : Fin (k0_t104_loop v672).trips, ∀ a, (k0_off156 v672 k0_t104) a + S1x16.size a ≤ S8x6400.size a) ∧
  ((k0_t105_loop v672).OK) ∧
  (∀ k0_t105 : Fin (k0_t105_loop v672).trips, 16 ∣ (k0_mult158 v672 k0_t105).toNat) ∧
  (∀ k0_t105 : Fin (k0_t105_loop v672).trips, ∀ a, (k0_off157 v672 k0_t105) a + S1x16.size a ≤ S8x6400.size a)
theorem k0_t102_ok : ∀ (v672 : BitVec 32) (k0_hw50 : k0_chk50 v672), (k0_t102_loop v672).OK := fun v672 k0_hw50 => k0_hw50.1
theorem k0_mult154_dvd : ∀ (v672 : BitVec 32) (k0_hw50 : k0_chk50 v672) (k0_t102 : Fin (k0_t102_loop v672).trips), 16 ∣ (k0_mult154 v672 k0_t102).toNat := fun v672 k0_hw50 k0_t102 => k0_hw50.2.1 k0_t102
theorem k0_off153_inb : ∀ (v672 : BitVec 32) (k0_hw50 : k0_chk50 v672) (k0_t102 : Fin (k0_t102_loop v672).trips), ∀ a, (k0_off153 v672 k0_t102) a + S1x16.size a ≤ S8x6400.size a := fun v672 k0_hw50 k0_t102 => k0_hw50.2.2.1 k0_t102
theorem k0_t103_ok : ∀ (v672 : BitVec 32) (k0_hw50 : k0_chk50 v672), (k0_t103_loop v672).OK := fun v672 k0_hw50 => k0_hw50.2.2.2.1
theorem k0_mult155_dvd : ∀ (v672 : BitVec 32) (k0_hw50 : k0_chk50 v672) (k0_t103 : Fin (k0_t103_loop v672).trips), 16 ∣ (k0_mult155 v672 k0_t103).toNat := fun v672 k0_hw50 k0_t103 => k0_hw50.2.2.2.2.1 k0_t103
theorem k0_off154_inb : ∀ (v672 : BitVec 32) (k0_hw50 : k0_chk50 v672) (k0_t103 : Fin (k0_t103_loop v672).trips), ∀ a, (k0_off154 v672 k0_t103) a + S1x16.size a ≤ S8x6400.size a := fun v672 k0_hw50 k0_t103 => k0_hw50.2.2.2.2.2.1 k0_t103
theorem k0_mult156_dvd : ∀ (v672 : BitVec 32) (k0_hw50 : k0_chk50 v672), 16 ∣ (k0_mult156 v672).toNat := fun v672 k0_hw50 => k0_hw50.2.2.2.2.2.2.1
theorem k0_off155_inb : ∀ (v672 : BitVec 32) (k0_hw50 : k0_chk50 v672), ∀ a, (k0_off155 v672) a + S1x16.size a ≤ S8x6400.size a := fun v672 k0_hw50 => k0_hw50.2.2.2.2.2.2.2.1
theorem k0_t104_ok : ∀ (v672 : BitVec 32) (k0_hw50 : k0_chk50 v672), (k0_t104_loop v672).OK := fun v672 k0_hw50 => k0_hw50.2.2.2.2.2.2.2.2.1
theorem k0_mult157_dvd : ∀ (v672 : BitVec 32) (k0_hw50 : k0_chk50 v672) (k0_t104 : Fin (k0_t104_loop v672).trips), 16 ∣ (k0_mult157 v672 k0_t104).toNat := fun v672 k0_hw50 k0_t104 => k0_hw50.2.2.2.2.2.2.2.2.2.1 k0_t104
theorem k0_off156_inb : ∀ (v672 : BitVec 32) (k0_hw50 : k0_chk50 v672) (k0_t104 : Fin (k0_t104_loop v672).trips), ∀ a, (k0_off156 v672 k0_t104) a + S1x16.size a ≤ S8x6400.size a := fun v672 k0_hw50 k0_t104 => k0_hw50.2.2.2.2.2.2.2.2.2.2.1 k0_t104
theorem k0_t105_ok : ∀ (v672 : BitVec 32) (k0_hw50 : k0_chk50 v672), (k0_t105_loop v672).OK := fun v672 k0_hw50 => k0_hw50.2.2.2.2.2.2.2.2.2.2.2.1
theorem k0_mult158_dvd : ∀ (v672 : BitVec 32) (k0_hw50 : k0_chk50 v672) (k0_t105 : Fin (k0_t105_loop v672).trips), 16 ∣ (k0_mult158 v672 k0_t105).toNat := fun v672 k0_hw50 k0_t105 => k0_hw50.2.2.2.2.2.2.2.2.2.2.2.2.1 k0_t105
theorem k0_off157_inb : ∀ (v672 : BitVec 32) (k0_hw50 : k0_chk50 v672) (k0_t105 : Fin (k0_t105_loop v672).trips), ∀ a, (k0_off157 v672 k0_t105) a + S1x16.size a ≤ S8x6400.size a := fun v672 k0_hw50 k0_t105 => k0_hw50.2.2.2.2.2.2.2.2.2.2.2.2.2 k0_t105

@[reducible] def k0_t106_loop (v713 : BitVec 32) : Scf.Loop 32 :=
  let c0_i32_348 : BitVec 32 := 0#32
  let c3968_i32_346 : BitVec 32 := 3968#32
  let c0_i32_345 : BitVec 32 := 0#32
  let c96000_i32_344 : BitVec 32 := 96000#32
  let v714 : BitVec 32 := Scalar.subi v713 c96000_i32_344
  let v715 : BitVec 32 := Scalar.maxsi c0_i32_345 v714
  let v716 : BitVec 32 := Scalar.minsi c3968_i32_346 v715
  let c4_i32_347 : BitVec 32 := 4#32
  let v717 : BitVec 32 := Scalar.shrui v716 c4_i32_347
  let v718 : BitVec 32 := Scalar.subi v717 c0_i32_348
  let c1_i32_349 : BitVec 32 := 1#32
  let v720 : BitVec 32 := Scalar.divsi v718 c1_i32_349
  let v721 : BitVec 32 := Scalar.muli v720 c1_i32_349
  let v722 : BitVec 32 := Scalar.addi c0_i32_348 v721
  let c1_i32_350 : BitVec 32 := 1#32
  ⟨c0_i32_348, v722, c1_i32_350⟩

def k0_mult159 (v713 : BitVec 32) (k0_t106 : Fin (k0_t106_loop v713).trips) : BitVec 32 :=
  let c0_i32_348 : BitVec 32 := 0#32
  let c1_i32_350 : BitVec 32 := 1#32
  let arg18 : BitVec 32 := Scf.iv c0_i32_348 c1_i32_350 k0_t106
  let c16_i32_538 : BitVec 32 := 16#32
  let v1280 : BitVec 32 := Scalar.muli arg18 c16_i32_538
  v1280
def k0_off158 (v713 : BitVec 32) (k0_t106 : Fin (k0_t106_loop v713).trips) : Fin 2 → Nat :=
  let c2_i32_539 : BitVec 32 := 2#32
  let v1282 : Index := Scalar.indexCast c2_i32_539
  let c0_i32_348 : BitVec 32 := 0#32
  let c1_i32_350 : BitVec 32 := 1#32
  let arg18 : BitVec 32 := Scf.iv c0_i32_348 c1_i32_350 k0_t106
  let c16_i32_538 : BitVec 32 := 16#32
  let v1280 : BitVec 32 := Scalar.muli arg18 c16_i32_538
  let v1281 : BitVec 32 := v1280
  let v1283 : Index := Scalar.indexCast v1281
  ![2, v1283.toNat]
@[reducible] def k0_t107_loop (v713 : BitVec 32) : Scf.Loop 32 :=
  let c0_i32_348 : BitVec 32 := 0#32
  let c3968_i32_346 : BitVec 32 := 3968#32
  let c0_i32_345 : BitVec 32 := 0#32
  let c96000_i32_344 : BitVec 32 := 96000#32
  let v714 : BitVec 32 := Scalar.subi v713 c96000_i32_344
  let v715 : BitVec 32 := Scalar.maxsi c0_i32_345 v714
  let v716 : BitVec 32 := Scalar.minsi c3968_i32_346 v715
  let c4_i32_347 : BitVec 32 := 4#32
  let v717 : BitVec 32 := Scalar.shrui v716 c4_i32_347
  let v718 : BitVec 32 := Scalar.subi v717 c0_i32_348
  let c1_i32_349 : BitVec 32 := 1#32
  let v720 : BitVec 32 := Scalar.divsi v718 c1_i32_349
  let v721 : BitVec 32 := Scalar.muli v720 c1_i32_349
  let v722 : BitVec 32 := Scalar.addi c0_i32_348 v721
  let v719 : BitVec 32 := Scalar.addi c0_i32_348 v718
  let c1_i32_351 : BitVec 32 := 1#32
  ⟨v722, v719, c1_i32_351⟩
def k0_mult160 (v713 : BitVec 32) (k0_t107 : Fin (k0_t107_loop v713).trips) : BitVec 32 :=
  let c0_i32_348 : BitVec 32 := 0#32
  let c3968_i32_346 : BitVec 32 := 3968#32
  let c0_i32_345 : BitVec 32 := 0#32
  let c96000_i32_344 : BitVec 32 := 96000#32
  let v714 : BitVec 32 := Scalar.subi v713 c96000_i32_344
  let v715 : BitVec 32 := Scalar.maxsi c0_i32_345 v714
  let v716 : BitVec 32 := Scalar.minsi c3968_i32_346 v715
  let c4_i32_347 : BitVec 32 := 4#32
  let v717 : BitVec 32 := Scalar.shrui v716 c4_i32_347
  let v718 : BitVec 32 := Scalar.subi v717 c0_i32_348
  let c1_i32_349 : BitVec 32 := 1#32
  let v720 : BitVec 32 := Scalar.divsi v718 c1_i32_349
  let v721 : BitVec 32 := Scalar.muli v720 c1_i32_349
  let v722 : BitVec 32 := Scalar.addi c0_i32_348 v721
  let c1_i32_351 : BitVec 32 := 1#32
  let arg18 : BitVec 32 := Scf.iv v722 c1_i32_351 k0_t107
  let c16_i32_538 : BitVec 32 := 16#32
  let v1280 : BitVec 32 := Scalar.muli arg18 c16_i32_538
  v1280
def k0_off159 (v713 : BitVec 32) (k0_t107 : Fin (k0_t107_loop v713).trips) : Fin 2 → Nat :=
  let c2_i32_539 : BitVec 32 := 2#32
  let v1282 : Index := Scalar.indexCast c2_i32_539
  let c0_i32_348 : BitVec 32 := 0#32
  let c3968_i32_346 : BitVec 32 := 3968#32
  let c0_i32_345 : BitVec 32 := 0#32
  let c96000_i32_344 : BitVec 32 := 96000#32
  let v714 : BitVec 32 := Scalar.subi v713 c96000_i32_344
  let v715 : BitVec 32 := Scalar.maxsi c0_i32_345 v714
  let v716 : BitVec 32 := Scalar.minsi c3968_i32_346 v715
  let c4_i32_347 : BitVec 32 := 4#32
  let v717 : BitVec 32 := Scalar.shrui v716 c4_i32_347
  let v718 : BitVec 32 := Scalar.subi v717 c0_i32_348
  let c1_i32_349 : BitVec 32 := 1#32
  let v720 : BitVec 32 := Scalar.divsi v718 c1_i32_349
  let v721 : BitVec 32 := Scalar.muli v720 c1_i32_349
  let v722 : BitVec 32 := Scalar.addi c0_i32_348 v721
  let c1_i32_351 : BitVec 32 := 1#32
  let arg18 : BitVec 32 := Scf.iv v722 c1_i32_351 k0_t107
  let c16_i32_538 : BitVec 32 := 16#32
  let v1280 : BitVec 32 := Scalar.muli arg18 c16_i32_538
  let v1281 : BitVec 32 := v1280
  let v1283 : Index := Scalar.indexCast v1281
  ![2, v1283.toNat]
def k0_mult161 (v713 : BitVec 32) : BitVec 32 :=
  let c3968_i32_346 : BitVec 32 := 3968#32
  let c0_i32_345 : BitVec 32 := 0#32
  let c96000_i32_344 : BitVec 32 := 96000#32
  let v714 : BitVec 32 := Scalar.subi v713 c96000_i32_344
  let v715 : BitVec 32 := Scalar.maxsi c0_i32_345 v714
  let v716 : BitVec 32 := Scalar.minsi c3968_i32_346 v715
  let c4_i32_347 : BitVec 32 := 4#32
  let v717 : BitVec 32 := Scalar.shrui v716 c4_i32_347
  let c247_i32_352 : BitVec 32 := 247#32
  let v725 : BitVec 32 := Scalar.minsi v717 c247_i32_352
  let c16_i32_353 : BitVec 32 := 16#32
  let v726 : BitVec 32 := Scalar.muli v725 c16_i32_353
  v726
def k0_off160 (v713 : BitVec 32) : Fin 2 → Nat :=
  let c2_i32_354 : BitVec 32 := 2#32
  let v728 : Index := Scalar.indexCast c2_i32_354
  let c3968_i32_346 : BitVec 32 := 3968#32
  let c0_i32_345 : BitVec 32 := 0#32
  let c96000_i32_344 : BitVec 32 := 96000#32
  let v714 : BitVec 32 := Scalar.subi v713 c96000_i32_344
  let v715 : BitVec 32 := Scalar.maxsi c0_i32_345 v714
  let v716 : BitVec 32 := Scalar.minsi c3968_i32_346 v715
  let c4_i32_347 : BitVec 32 := 4#32
  let v717 : BitVec 32 := Scalar.shrui v716 c4_i32_347
  let c247_i32_352 : BitVec 32 := 247#32
  let v725 : BitVec 32 := Scalar.minsi v717 c247_i32_352
  let c16_i32_353 : BitVec 32 := 16#32
  let v726 : BitVec 32 := Scalar.muli v725 c16_i32_353
  let v727 : BitVec 32 := v726
  let v729 : Index := Scalar.indexCast v727
  ![2, v729.toNat]
@[reducible] def k0_t108_loop (v713 : BitVec 32) : Scf.Loop 32 :=
  let c3968_i32_346 : BitVec 32 := 3968#32
  let c0_i32_345 : BitVec 32 := 0#32
  let c96000_i32_344 : BitVec 32 := 96000#32
  let v714 : BitVec 32 := Scalar.subi v713 c96000_i32_344
  let v715 : BitVec 32 := Scalar.maxsi c0_i32_345 v714
  let v716 : BitVec 32 := Scalar.minsi c3968_i32_346 v715
  let c4_i32_347 : BitVec 32 := 4#32
  let v717 : BitVec 32 := Scalar.shrui v716 c4_i32_347
  let c1_i32_358 : BitVec 32 := 1#32
  let v745 : BitVec 32 := Scalar.addi v717 c1_i32_358
  let c248_i32_359 : BitVec 32 := 248#32
  let v746 : BitVec 32 := Scalar.subi c248_i32_359 v745
  let c1_i32_360 : BitVec 32 := 1#32
  let v748 : BitVec 32 := Scalar.divsi v746 c1_i32_360
  let v749 : BitVec 32 := Scalar.muli v748 c1_i32_360
  let v750 : BitVec 32 := Scalar.addi v745 v749
  let c1_i32_361 : BitVec 32 := 1#32
  ⟨v745, v750, c1_i32_361⟩
def k0_mult162 (v713 : BitVec 32) (k0_t108 : Fin (k0_t108_loop v713).trips) : BitVec 32 :=
  let c3968_i32_346 : BitVec 32 := 3968#32
  let c0_i32_345 : BitVec 32 := 0#32
  let c96000_i32_344 : BitVec 32 := 96000#32
  let v714 : BitVec 32 := Scalar.subi v713 c96000_i32_344
  let v715 : BitVec 32 := Scalar.maxsi c0_i32_345 v714
  let v716 : BitVec 32 := Scalar.minsi c3968_i32_346 v715
  let c4_i32_347 : BitVec 32 := 4#32
  let v717 : BitVec 32 := Scalar.shrui v716 c4_i32_347
  let c1_i32_358 : BitVec 32 := 1#32
  let v745 : BitVec 32 := Scalar.addi v717 c1_i32_358
  let c1_i32_361 : BitVec 32 := 1#32
  let arg18 : BitVec 32 := Scf.iv v745 c1_i32_361 k0_t108
  let c16_i32_538 : BitVec 32 := 16#32
  let v1280 : BitVec 32 := Scalar.muli arg18 c16_i32_538
  v1280
def k0_off161 (v713 : BitVec 32) (k0_t108 : Fin (k0_t108_loop v713).trips) : Fin 2 → Nat :=
  let c2_i32_539 : BitVec 32 := 2#32
  let v1282 : Index := Scalar.indexCast c2_i32_539
  let c3968_i32_346 : BitVec 32 := 3968#32
  let c0_i32_345 : BitVec 32 := 0#32
  let c96000_i32_344 : BitVec 32 := 96000#32
  let v714 : BitVec 32 := Scalar.subi v713 c96000_i32_344
  let v715 : BitVec 32 := Scalar.maxsi c0_i32_345 v714
  let v716 : BitVec 32 := Scalar.minsi c3968_i32_346 v715
  let c4_i32_347 : BitVec 32 := 4#32
  let v717 : BitVec 32 := Scalar.shrui v716 c4_i32_347
  let c1_i32_358 : BitVec 32 := 1#32
  let v745 : BitVec 32 := Scalar.addi v717 c1_i32_358
  let c1_i32_361 : BitVec 32 := 1#32
  let arg18 : BitVec 32 := Scf.iv v745 c1_i32_361 k0_t108
  let c16_i32_538 : BitVec 32 := 16#32
  let v1280 : BitVec 32 := Scalar.muli arg18 c16_i32_538
  let v1281 : BitVec 32 := v1280
  let v1283 : Index := Scalar.indexCast v1281
  ![2, v1283.toNat]
@[reducible] def k0_t109_loop (v713 : BitVec 32) : Scf.Loop 32 :=
  let c3968_i32_346 : BitVec 32 := 3968#32
  let c0_i32_345 : BitVec 32 := 0#32
  let c96000_i32_344 : BitVec 32 := 96000#32
  let v714 : BitVec 32 := Scalar.subi v713 c96000_i32_344
  let v715 : BitVec 32 := Scalar.maxsi c0_i32_345 v714
  let v716 : BitVec 32 := Scalar.minsi c3968_i32_346 v715
  let c4_i32_347 : BitVec 32 := 4#32
  let v717 : BitVec 32 := Scalar.shrui v716 c4_i32_347
  let c1_i32_358 : BitVec 32 := 1#32
  let v745 : BitVec 32 := Scalar.addi v717 c1_i32_358
  let c248_i32_359 : BitVec 32 := 248#32
  let v746 : BitVec 32 := Scalar.subi c248_i32_359 v745
  let c1_i32_360 : BitVec 32 := 1#32
  let v748 : BitVec 32 := Scalar.divsi v746 c1_i32_360
  let v749 : BitVec 32 := Scalar.muli v748 c1_i32_360
  let v750 : BitVec 32 := Scalar.addi v745 v749
  let v747 : BitVec 32 := Scalar.addi v745 v746
  let c1_i32_362 : BitVec 32 := 1#32
  ⟨v750, v747, c1_i32_362⟩
def k0_mult163 (v713 : BitVec 32) (k0_t109 : Fin (k0_t109_loop v713).trips) : BitVec 32 :=
  let c3968_i32_346 : BitVec 32 := 3968#32
  let c0_i32_345 : BitVec 32 := 0#32
  let c96000_i32_344 : BitVec 32 := 96000#32
  let v714 : BitVec 32 := Scalar.subi v713 c96000_i32_344
  let v715 : BitVec 32 := Scalar.maxsi c0_i32_345 v714
  let v716 : BitVec 32 := Scalar.minsi c3968_i32_346 v715
  let c4_i32_347 : BitVec 32 := 4#32
  let v717 : BitVec 32 := Scalar.shrui v716 c4_i32_347
  let c1_i32_358 : BitVec 32 := 1#32
  let v745 : BitVec 32 := Scalar.addi v717 c1_i32_358
  let c248_i32_359 : BitVec 32 := 248#32
  let v746 : BitVec 32 := Scalar.subi c248_i32_359 v745
  let c1_i32_360 : BitVec 32 := 1#32
  let v748 : BitVec 32 := Scalar.divsi v746 c1_i32_360
  let v749 : BitVec 32 := Scalar.muli v748 c1_i32_360
  let v750 : BitVec 32 := Scalar.addi v745 v749
  let c1_i32_362 : BitVec 32 := 1#32
  let arg18 : BitVec 32 := Scf.iv v750 c1_i32_362 k0_t109
  let c16_i32_538 : BitVec 32 := 16#32
  let v1280 : BitVec 32 := Scalar.muli arg18 c16_i32_538
  v1280
def k0_off162 (v713 : BitVec 32) (k0_t109 : Fin (k0_t109_loop v713).trips) : Fin 2 → Nat :=
  let c2_i32_539 : BitVec 32 := 2#32
  let v1282 : Index := Scalar.indexCast c2_i32_539
  let c3968_i32_346 : BitVec 32 := 3968#32
  let c0_i32_345 : BitVec 32 := 0#32
  let c96000_i32_344 : BitVec 32 := 96000#32
  let v714 : BitVec 32 := Scalar.subi v713 c96000_i32_344
  let v715 : BitVec 32 := Scalar.maxsi c0_i32_345 v714
  let v716 : BitVec 32 := Scalar.minsi c3968_i32_346 v715
  let c4_i32_347 : BitVec 32 := 4#32
  let v717 : BitVec 32 := Scalar.shrui v716 c4_i32_347
  let c1_i32_358 : BitVec 32 := 1#32
  let v745 : BitVec 32 := Scalar.addi v717 c1_i32_358
  let c248_i32_359 : BitVec 32 := 248#32
  let v746 : BitVec 32 := Scalar.subi c248_i32_359 v745
  let c1_i32_360 : BitVec 32 := 1#32
  let v748 : BitVec 32 := Scalar.divsi v746 c1_i32_360
  let v749 : BitVec 32 := Scalar.muli v748 c1_i32_360
  let v750 : BitVec 32 := Scalar.addi v745 v749
  let c1_i32_362 : BitVec 32 := 1#32
  let arg18 : BitVec 32 := Scf.iv v750 c1_i32_362 k0_t109
  let c16_i32_538 : BitVec 32 := 16#32
  let v1280 : BitVec 32 := Scalar.muli arg18 c16_i32_538
  let v1281 : BitVec 32 := v1280
  let v1283 : Index := Scalar.indexCast v1281
  ![2, v1283.toNat]

def k0_chk51 (v713 : BitVec 32) : Prop :=
  ((k0_t106_loop v713).OK) ∧
  (∀ k0_t106 : Fin (k0_t106_loop v713).trips, 16 ∣ (k0_mult159 v713 k0_t106).toNat) ∧
  (∀ k0_t106 : Fin (k0_t106_loop v713).trips, ∀ a, (k0_off158 v713 k0_t106) a + S1x16.size a ≤ S8x6400.size a) ∧
  ((k0_t107_loop v713).OK) ∧
  (∀ k0_t107 : Fin (k0_t107_loop v713).trips, 16 ∣ (k0_mult160 v713 k0_t107).toNat) ∧
  (∀ k0_t107 : Fin (k0_t107_loop v713).trips, ∀ a, (k0_off159 v713 k0_t107) a + S1x16.size a ≤ S8x6400.size a) ∧
  (16 ∣ (k0_mult161 v713).toNat) ∧
  (∀ a, (k0_off160 v713) a + S1x16.size a ≤ S8x6400.size a) ∧
  ((k0_t108_loop v713).OK) ∧
  (∀ k0_t108 : Fin (k0_t108_loop v713).trips, 16 ∣ (k0_mult162 v713 k0_t108).toNat) ∧
  (∀ k0_t108 : Fin (k0_t108_loop v713).trips, ∀ a, (k0_off161 v713 k0_t108) a + S1x16.size a ≤ S8x6400.size a) ∧
  ((k0_t109_loop v713).OK) ∧
  (∀ k0_t109 : Fin (k0_t109_loop v713).trips, 16 ∣ (k0_mult163 v713 k0_t109).toNat) ∧
  (∀ k0_t109 : Fin (k0_t109_loop v713).trips, ∀ a, (k0_off162 v713 k0_t109) a + S1x16.size a ≤ S8x6400.size a)
theorem k0_t106_ok : ∀ (v713 : BitVec 32) (k0_hw51 : k0_chk51 v713), (k0_t106_loop v713).OK := fun v713 k0_hw51 => k0_hw51.1
theorem k0_mult159_dvd : ∀ (v713 : BitVec 32) (k0_hw51 : k0_chk51 v713) (k0_t106 : Fin (k0_t106_loop v713).trips), 16 ∣ (k0_mult159 v713 k0_t106).toNat := fun v713 k0_hw51 k0_t106 => k0_hw51.2.1 k0_t106
theorem k0_off158_inb : ∀ (v713 : BitVec 32) (k0_hw51 : k0_chk51 v713) (k0_t106 : Fin (k0_t106_loop v713).trips), ∀ a, (k0_off158 v713 k0_t106) a + S1x16.size a ≤ S8x6400.size a := fun v713 k0_hw51 k0_t106 => k0_hw51.2.2.1 k0_t106
theorem k0_t107_ok : ∀ (v713 : BitVec 32) (k0_hw51 : k0_chk51 v713), (k0_t107_loop v713).OK := fun v713 k0_hw51 => k0_hw51.2.2.2.1
theorem k0_mult160_dvd : ∀ (v713 : BitVec 32) (k0_hw51 : k0_chk51 v713) (k0_t107 : Fin (k0_t107_loop v713).trips), 16 ∣ (k0_mult160 v713 k0_t107).toNat := fun v713 k0_hw51 k0_t107 => k0_hw51.2.2.2.2.1 k0_t107
theorem k0_off159_inb : ∀ (v713 : BitVec 32) (k0_hw51 : k0_chk51 v713) (k0_t107 : Fin (k0_t107_loop v713).trips), ∀ a, (k0_off159 v713 k0_t107) a + S1x16.size a ≤ S8x6400.size a := fun v713 k0_hw51 k0_t107 => k0_hw51.2.2.2.2.2.1 k0_t107
theorem k0_mult161_dvd : ∀ (v713 : BitVec 32) (k0_hw51 : k0_chk51 v713), 16 ∣ (k0_mult161 v713).toNat := fun v713 k0_hw51 => k0_hw51.2.2.2.2.2.2.1
theorem k0_off160_inb : ∀ (v713 : BitVec 32) (k0_hw51 : k0_chk51 v713), ∀ a, (k0_off160 v713) a + S1x16.size a ≤ S8x6400.size a := fun v713 k0_hw51 => k0_hw51.2.2.2.2.2.2.2.1
theorem k0_t108_ok : ∀ (v713 : BitVec 32) (k0_hw51 : k0_chk51 v713), (k0_t108_loop v713).OK := fun v713 k0_hw51 => k0_hw51.2.2.2.2.2.2.2.2.1
theorem k0_mult162_dvd : ∀ (v713 : BitVec 32) (k0_hw51 : k0_chk51 v713) (k0_t108 : Fin (k0_t108_loop v713).trips), 16 ∣ (k0_mult162 v713 k0_t108).toNat := fun v713 k0_hw51 k0_t108 => k0_hw51.2.2.2.2.2.2.2.2.2.1 k0_t108
theorem k0_off161_inb : ∀ (v713 : BitVec 32) (k0_hw51 : k0_chk51 v713) (k0_t108 : Fin (k0_t108_loop v713).trips), ∀ a, (k0_off161 v713 k0_t108) a + S1x16.size a ≤ S8x6400.size a := fun v713 k0_hw51 k0_t108 => k0_hw51.2.2.2.2.2.2.2.2.2.2.1 k0_t108
theorem k0_t109_ok : ∀ (v713 : BitVec 32) (k0_hw51 : k0_chk51 v713), (k0_t109_loop v713).OK := fun v713 k0_hw51 => k0_hw51.2.2.2.2.2.2.2.2.2.2.2.1
theorem k0_mult163_dvd : ∀ (v713 : BitVec 32) (k0_hw51 : k0_chk51 v713) (k0_t109 : Fin (k0_t109_loop v713).trips), 16 ∣ (k0_mult163 v713 k0_t109).toNat := fun v713 k0_hw51 k0_t109 => k0_hw51.2.2.2.2.2.2.2.2.2.2.2.2.1 k0_t109
theorem k0_off162_inb : ∀ (v713 : BitVec 32) (k0_hw51 : k0_chk51 v713) (k0_t109 : Fin (k0_t109_loop v713).trips), ∀ a, (k0_off162 v713 k0_t109) a + S1x16.size a ≤ S8x6400.size a := fun v713 k0_hw51 k0_t109 => k0_hw51.2.2.2.2.2.2.2.2.2.2.2.2.2 k0_t109

@[reducible] def k0_t110_loop (v754 : BitVec 32) : Scf.Loop 32 :=
  let c0_i32_367 : BitVec 32 := 0#32
  let c3968_i32_365 : BitVec 32 := 3968#32
  let c0_i32_364 : BitVec 32 := 0#32
  let c96000_i32_363 : BitVec 32 := 96000#32
  let v755 : BitVec 32 := Scalar.subi v754 c96000_i32_363
  let v756 : BitVec 32 := Scalar.maxsi c0_i32_364 v755
  let v757 : BitVec 32 := Scalar.minsi c3968_i32_365 v756
  let c4_i32_366 : BitVec 32 := 4#32
  let v758 : BitVec 32 := Scalar.shrui v757 c4_i32_366
  let v759 : BitVec 32 := Scalar.subi v758 c0_i32_367
  let c1_i32_368 : BitVec 32 := 1#32
  let v761 : BitVec 32 := Scalar.divsi v759 c1_i32_368
  let v762 : BitVec 32 := Scalar.muli v761 c1_i32_368
  let v763 : BitVec 32 := Scalar.addi c0_i32_367 v762
  let c1_i32_369 : BitVec 32 := 1#32
  ⟨c0_i32_367, v763, c1_i32_369⟩

def k0_mult164 (v754 : BitVec 32) (k0_t110 : Fin (k0_t110_loop v754).trips) : BitVec 32 :=
  let c0_i32_367 : BitVec 32 := 0#32
  let c1_i32_369 : BitVec 32 := 1#32
  let arg18 : BitVec 32 := Scf.iv c0_i32_367 c1_i32_369 k0_t110
  let c16_i32_538 : BitVec 32 := 16#32
  let v1280 : BitVec 32 := Scalar.muli arg18 c16_i32_538
  v1280
def k0_off163 (v754 : BitVec 32) (k0_t110 : Fin (k0_t110_loop v754).trips) : Fin 2 → Nat :=
  let c3_i32_539 : BitVec 32 := 3#32
  let v1282 : Index := Scalar.indexCast c3_i32_539
  let c0_i32_367 : BitVec 32 := 0#32
  let c1_i32_369 : BitVec 32 := 1#32
  let arg18 : BitVec 32 := Scf.iv c0_i32_367 c1_i32_369 k0_t110
  let c16_i32_538 : BitVec 32 := 16#32
  let v1280 : BitVec 32 := Scalar.muli arg18 c16_i32_538
  let v1281 : BitVec 32 := v1280
  let v1283 : Index := Scalar.indexCast v1281
  ![3, v1283.toNat]
@[reducible] def k0_t111_loop (v754 : BitVec 32) : Scf.Loop 32 :=
  let c0_i32_367 : BitVec 32 := 0#32
  let c3968_i32_365 : BitVec 32 := 3968#32
  let c0_i32_364 : BitVec 32 := 0#32
  let c96000_i32_363 : BitVec 32 := 96000#32
  let v755 : BitVec 32 := Scalar.subi v754 c96000_i32_363
  let v756 : BitVec 32 := Scalar.maxsi c0_i32_364 v755
  let v757 : BitVec 32 := Scalar.minsi c3968_i32_365 v756
  let c4_i32_366 : BitVec 32 := 4#32
  let v758 : BitVec 32 := Scalar.shrui v757 c4_i32_366
  let v759 : BitVec 32 := Scalar.subi v758 c0_i32_367
  let c1_i32_368 : BitVec 32 := 1#32
  let v761 : BitVec 32 := Scalar.divsi v759 c1_i32_368
  let v762 : BitVec 32 := Scalar.muli v761 c1_i32_368
  let v763 : BitVec 32 := Scalar.addi c0_i32_367 v762
  let v760 : BitVec 32 := Scalar.addi c0_i32_367 v759
  let c1_i32_370 : BitVec 32 := 1#32
  ⟨v763, v760, c1_i32_370⟩
def k0_mult165 (v754 : BitVec 32) (k0_t111 : Fin (k0_t111_loop v754).trips) : BitVec 32 :=
  let c0_i32_367 : BitVec 32 := 0#32
  let c3968_i32_365 : BitVec 32 := 3968#32
  let c0_i32_364 : BitVec 32 := 0#32
  let c96000_i32_363 : BitVec 32 := 96000#32
  let v755 : BitVec 32 := Scalar.subi v754 c96000_i32_363
  let v756 : BitVec 32 := Scalar.maxsi c0_i32_364 v755
  let v757 : BitVec 32 := Scalar.minsi c3968_i32_365 v756
  let c4_i32_366 : BitVec 32 := 4#32
  let v758 : BitVec 32 := Scalar.shrui v757 c4_i32_366
  let v759 : BitVec 32 := Scalar.subi v758 c0_i32_367
  let c1_i32_368 : BitVec 32 := 1#32
  let v761 : BitVec 32 := Scalar.divsi v759 c1_i32_368
  let v762 : BitVec 32 := Scalar.muli v761 c1_i32_368
  let v763 : BitVec 32 := Scalar.addi c0_i32_367 v762
  let c1_i32_370 : BitVec 32 := 1#32
  let arg18 : BitVec 32 := Scf.iv v763 c1_i32_370 k0_t111
  let c16_i32_538 : BitVec 32 := 16#32
  let v1280 : BitVec 32 := Scalar.muli arg18 c16_i32_538
  v1280
def k0_off164 (v754 : BitVec 32) (k0_t111 : Fin (k0_t111_loop v754).trips) : Fin 2 → Nat :=
  let c3_i32_539 : BitVec 32 := 3#32
  let v1282 : Index := Scalar.indexCast c3_i32_539
  let c0_i32_367 : BitVec 32 := 0#32
  let c3968_i32_365 : BitVec 32 := 3968#32
  let c0_i32_364 : BitVec 32 := 0#32
  let c96000_i32_363 : BitVec 32 := 96000#32
  let v755 : BitVec 32 := Scalar.subi v754 c96000_i32_363
  let v756 : BitVec 32 := Scalar.maxsi c0_i32_364 v755
  let v757 : BitVec 32 := Scalar.minsi c3968_i32_365 v756
  let c4_i32_366 : BitVec 32 := 4#32
  let v758 : BitVec 32 := Scalar.shrui v757 c4_i32_366
  let v759 : BitVec 32 := Scalar.subi v758 c0_i32_367
  let c1_i32_368 : BitVec 32 := 1#32
  let v761 : BitVec 32 := Scalar.divsi v759 c1_i32_368
  let v762 : BitVec 32 := Scalar.muli v761 c1_i32_368
  let v763 : BitVec 32 := Scalar.addi c0_i32_367 v762
  let c1_i32_370 : BitVec 32 := 1#32
  let arg18 : BitVec 32 := Scf.iv v763 c1_i32_370 k0_t111
  let c16_i32_538 : BitVec 32 := 16#32
  let v1280 : BitVec 32 := Scalar.muli arg18 c16_i32_538
  let v1281 : BitVec 32 := v1280
  let v1283 : Index := Scalar.indexCast v1281
  ![3, v1283.toNat]
def k0_mult166 (v754 : BitVec 32) : BitVec 32 :=
  let c3968_i32_365 : BitVec 32 := 3968#32
  let c0_i32_364 : BitVec 32 := 0#32
  let c96000_i32_363 : BitVec 32 := 96000#32
  let v755 : BitVec 32 := Scalar.subi v754 c96000_i32_363
  let v756 : BitVec 32 := Scalar.maxsi c0_i32_364 v755
  let v757 : BitVec 32 := Scalar.minsi c3968_i32_365 v756
  let c4_i32_366 : BitVec 32 := 4#32
  let v758 : BitVec 32 := Scalar.shrui v757 c4_i32_366
  let c247_i32_371 : BitVec 32 := 247#32
  let v766 : BitVec 32 := Scalar.minsi v758 c247_i32_371
  let c16_i32_372 : BitVec 32 := 16#32
  let v767 : BitVec 32 := Scalar.muli v766 c16_i32_372
  v767
def k0_off165 (v754 : BitVec 32) : Fin 2 → Nat :=
  let c3_i32_373 : BitVec 32 := 3#32
  let v769 : Index := Scalar.indexCast c3_i32_373
  let c3968_i32_365 : BitVec 32 := 3968#32
  let c0_i32_364 : BitVec 32 := 0#32
  let c96000_i32_363 : BitVec 32 := 96000#32
  let v755 : BitVec 32 := Scalar.subi v754 c96000_i32_363
  let v756 : BitVec 32 := Scalar.maxsi c0_i32_364 v755
  let v757 : BitVec 32 := Scalar.minsi c3968_i32_365 v756
  let c4_i32_366 : BitVec 32 := 4#32
  let v758 : BitVec 32 := Scalar.shrui v757 c4_i32_366
  let c247_i32_371 : BitVec 32 := 247#32
  let v766 : BitVec 32 := Scalar.minsi v758 c247_i32_371
  let c16_i32_372 : BitVec 32 := 16#32
  let v767 : BitVec 32 := Scalar.muli v766 c16_i32_372
  let v768 : BitVec 32 := v767
  let v770 : Index := Scalar.indexCast v768
  ![3, v770.toNat]
@[reducible] def k0_t112_loop (v754 : BitVec 32) : Scf.Loop 32 :=
  let c3968_i32_365 : BitVec 32 := 3968#32
  let c0_i32_364 : BitVec 32 := 0#32
  let c96000_i32_363 : BitVec 32 := 96000#32
  let v755 : BitVec 32 := Scalar.subi v754 c96000_i32_363
  let v756 : BitVec 32 := Scalar.maxsi c0_i32_364 v755
  let v757 : BitVec 32 := Scalar.minsi c3968_i32_365 v756
  let c4_i32_366 : BitVec 32 := 4#32
  let v758 : BitVec 32 := Scalar.shrui v757 c4_i32_366
  let c1_i32_377 : BitVec 32 := 1#32
  let v786 : BitVec 32 := Scalar.addi v758 c1_i32_377
  let c248_i32_378 : BitVec 32 := 248#32
  let v787 : BitVec 32 := Scalar.subi c248_i32_378 v786
  let c1_i32_379 : BitVec 32 := 1#32
  let v789 : BitVec 32 := Scalar.divsi v787 c1_i32_379
  let v790 : BitVec 32 := Scalar.muli v789 c1_i32_379
  let v791 : BitVec 32 := Scalar.addi v786 v790
  let c1_i32_380 : BitVec 32 := 1#32
  ⟨v786, v791, c1_i32_380⟩
def k0_mult167 (v754 : BitVec 32) (k0_t112 : Fin (k0_t112_loop v754).trips) : BitVec 32 :=
  let c3968_i32_365 : BitVec 32 := 3968#32
  let c0_i32_364 : BitVec 32 := 0#32
  let c96000_i32_363 : BitVec 32 := 96000#32
  let v755 : BitVec 32 := Scalar.subi v754 c96000_i32_363
  let v756 : BitVec 32 := Scalar.maxsi c0_i32_364 v755
  let v757 : BitVec 32 := Scalar.minsi c3968_i32_365 v756
  let c4_i32_366 : BitVec 32 := 4#32
  let v758 : BitVec 32 := Scalar.shrui v757 c4_i32_366
  let c1_i32_377 : BitVec 32 := 1#32
  let v786 : BitVec 32 := Scalar.addi v758 c1_i32_377
  let c1_i32_380 : BitVec 32 := 1#32
  let arg18 : BitVec 32 := Scf.iv v786 c1_i32_380 k0_t112
  let c16_i32_538 : BitVec 32 := 16#32
  let v1280 : BitVec 32 := Scalar.muli arg18 c16_i32_538
  v1280
def k0_off166 (v754 : BitVec 32) (k0_t112 : Fin (k0_t112_loop v754).trips) : Fin 2 → Nat :=
  let c3_i32_539 : BitVec 32 := 3#32
  let v1282 : Index := Scalar.indexCast c3_i32_539
  let c3968_i32_365 : BitVec 32 := 3968#32
  let c0_i32_364 : BitVec 32 := 0#32
  let c96000_i32_363 : BitVec 32 := 96000#32
  let v755 : BitVec 32 := Scalar.subi v754 c96000_i32_363
  let v756 : BitVec 32 := Scalar.maxsi c0_i32_364 v755
  let v757 : BitVec 32 := Scalar.minsi c3968_i32_365 v756
  let c4_i32_366 : BitVec 32 := 4#32
  let v758 : BitVec 32 := Scalar.shrui v757 c4_i32_366
  let c1_i32_377 : BitVec 32 := 1#32
  let v786 : BitVec 32 := Scalar.addi v758 c1_i32_377
  let c1_i32_380 : BitVec 32 := 1#32
  let arg18 : BitVec 32 := Scf.iv v786 c1_i32_380 k0_t112
  let c16_i32_538 : BitVec 32 := 16#32
  let v1280 : BitVec 32 := Scalar.muli arg18 c16_i32_538
  let v1281 : BitVec 32 := v1280
  let v1283 : Index := Scalar.indexCast v1281
  ![3, v1283.toNat]
@[reducible] def k0_t113_loop (v754 : BitVec 32) : Scf.Loop 32 :=
  let c3968_i32_365 : BitVec 32 := 3968#32
  let c0_i32_364 : BitVec 32 := 0#32
  let c96000_i32_363 : BitVec 32 := 96000#32
  let v755 : BitVec 32 := Scalar.subi v754 c96000_i32_363
  let v756 : BitVec 32 := Scalar.maxsi c0_i32_364 v755
  let v757 : BitVec 32 := Scalar.minsi c3968_i32_365 v756
  let c4_i32_366 : BitVec 32 := 4#32
  let v758 : BitVec 32 := Scalar.shrui v757 c4_i32_366
  let c1_i32_377 : BitVec 32 := 1#32
  let v786 : BitVec 32 := Scalar.addi v758 c1_i32_377
  let c248_i32_378 : BitVec 32 := 248#32
  let v787 : BitVec 32 := Scalar.subi c248_i32_378 v786
  let c1_i32_379 : BitVec 32 := 1#32
  let v789 : BitVec 32 := Scalar.divsi v787 c1_i32_379
  let v790 : BitVec 32 := Scalar.muli v789 c1_i32_379
  let v791 : BitVec 32 := Scalar.addi v786 v790
  let v788 : BitVec 32 := Scalar.addi v786 v787
  let c1_i32_381 : BitVec 32 := 1#32
  ⟨v791, v788, c1_i32_381⟩
def k0_mult168 (v754 : BitVec 32) (k0_t113 : Fin (k0_t113_loop v754).trips) : BitVec 32 :=
  let c3968_i32_365 : BitVec 32 := 3968#32
  let c0_i32_364 : BitVec 32 := 0#32
  let c96000_i32_363 : BitVec 32 := 96000#32
  let v755 : BitVec 32 := Scalar.subi v754 c96000_i32_363
  let v756 : BitVec 32 := Scalar.maxsi c0_i32_364 v755
  let v757 : BitVec 32 := Scalar.minsi c3968_i32_365 v756
  let c4_i32_366 : BitVec 32 := 4#32
  let v758 : BitVec 32 := Scalar.shrui v757 c4_i32_366
  let c1_i32_377 : BitVec 32 := 1#32
  let v786 : BitVec 32 := Scalar.addi v758 c1_i32_377
  let c248_i32_378 : BitVec 32 := 248#32
  let v787 : BitVec 32 := Scalar.subi c248_i32_378 v786
  let c1_i32_379 : BitVec 32 := 1#32
  let v789 : BitVec 32 := Scalar.divsi v787 c1_i32_379
  let v790 : BitVec 32 := Scalar.muli v789 c1_i32_379
  let v791 : BitVec 32 := Scalar.addi v786 v790
  let c1_i32_381 : BitVec 32 := 1#32
  let arg18 : BitVec 32 := Scf.iv v791 c1_i32_381 k0_t113
  let c16_i32_538 : BitVec 32 := 16#32
  let v1280 : BitVec 32 := Scalar.muli arg18 c16_i32_538
  v1280
def k0_off167 (v754 : BitVec 32) (k0_t113 : Fin (k0_t113_loop v754).trips) : Fin 2 → Nat :=
  let c3_i32_539 : BitVec 32 := 3#32
  let v1282 : Index := Scalar.indexCast c3_i32_539
  let c3968_i32_365 : BitVec 32 := 3968#32
  let c0_i32_364 : BitVec 32 := 0#32
  let c96000_i32_363 : BitVec 32 := 96000#32
  let v755 : BitVec 32 := Scalar.subi v754 c96000_i32_363
  let v756 : BitVec 32 := Scalar.maxsi c0_i32_364 v755
  let v757 : BitVec 32 := Scalar.minsi c3968_i32_365 v756
  let c4_i32_366 : BitVec 32 := 4#32
  let v758 : BitVec 32 := Scalar.shrui v757 c4_i32_366
  let c1_i32_377 : BitVec 32 := 1#32
  let v786 : BitVec 32 := Scalar.addi v758 c1_i32_377
  let c248_i32_378 : BitVec 32 := 248#32
  let v787 : BitVec 32 := Scalar.subi c248_i32_378 v786
  let c1_i32_379 : BitVec 32 := 1#32
  let v789 : BitVec 32 := Scalar.divsi v787 c1_i32_379
  let v790 : BitVec 32 := Scalar.muli v789 c1_i32_379
  let v791 : BitVec 32 := Scalar.addi v786 v790
  let c1_i32_381 : BitVec 32 := 1#32
  let arg18 : BitVec 32 := Scf.iv v791 c1_i32_381 k0_t113
  let c16_i32_538 : BitVec 32 := 16#32
  let v1280 : BitVec 32 := Scalar.muli arg18 c16_i32_538
  let v1281 : BitVec 32 := v1280
  let v1283 : Index := Scalar.indexCast v1281
  ![3, v1283.toNat]

def k0_chk52 (v754 : BitVec 32) : Prop :=
  ((k0_t110_loop v754).OK) ∧
  (∀ k0_t110 : Fin (k0_t110_loop v754).trips, 16 ∣ (k0_mult164 v754 k0_t110).toNat) ∧
  (∀ k0_t110 : Fin (k0_t110_loop v754).trips, ∀ a, (k0_off163 v754 k0_t110) a + S1x16.size a ≤ S8x6400.size a) ∧
  ((k0_t111_loop v754).OK) ∧
  (∀ k0_t111 : Fin (k0_t111_loop v754).trips, 16 ∣ (k0_mult165 v754 k0_t111).toNat) ∧
  (∀ k0_t111 : Fin (k0_t111_loop v754).trips, ∀ a, (k0_off164 v754 k0_t111) a + S1x16.size a ≤ S8x6400.size a) ∧
  (16 ∣ (k0_mult166 v754).toNat) ∧
  (∀ a, (k0_off165 v754) a + S1x16.size a ≤ S8x6400.size a) ∧
  ((k0_t112_loop v754).OK) ∧
  (∀ k0_t112 : Fin (k0_t112_loop v754).trips, 16 ∣ (k0_mult167 v754 k0_t112).toNat) ∧
  (∀ k0_t112 : Fin (k0_t112_loop v754).trips, ∀ a, (k0_off166 v754 k0_t112) a + S1x16.size a ≤ S8x6400.size a) ∧
  ((k0_t113_loop v754).OK) ∧
  (∀ k0_t113 : Fin (k0_t113_loop v754).trips, 16 ∣ (k0_mult168 v754 k0_t113).toNat) ∧
  (∀ k0_t113 : Fin (k0_t113_loop v754).trips, ∀ a, (k0_off167 v754 k0_t113) a + S1x16.size a ≤ S8x6400.size a)
theorem k0_t110_ok : ∀ (v754 : BitVec 32) (k0_hw52 : k0_chk52 v754), (k0_t110_loop v754).OK := fun v754 k0_hw52 => k0_hw52.1
theorem k0_mult164_dvd : ∀ (v754 : BitVec 32) (k0_hw52 : k0_chk52 v754) (k0_t110 : Fin (k0_t110_loop v754).trips), 16 ∣ (k0_mult164 v754 k0_t110).toNat := fun v754 k0_hw52 k0_t110 => k0_hw52.2.1 k0_t110
theorem k0_off163_inb : ∀ (v754 : BitVec 32) (k0_hw52 : k0_chk52 v754) (k0_t110 : Fin (k0_t110_loop v754).trips), ∀ a, (k0_off163 v754 k0_t110) a + S1x16.size a ≤ S8x6400.size a := fun v754 k0_hw52 k0_t110 => k0_hw52.2.2.1 k0_t110
theorem k0_t111_ok : ∀ (v754 : BitVec 32) (k0_hw52 : k0_chk52 v754), (k0_t111_loop v754).OK := fun v754 k0_hw52 => k0_hw52.2.2.2.1
theorem k0_mult165_dvd : ∀ (v754 : BitVec 32) (k0_hw52 : k0_chk52 v754) (k0_t111 : Fin (k0_t111_loop v754).trips), 16 ∣ (k0_mult165 v754 k0_t111).toNat := fun v754 k0_hw52 k0_t111 => k0_hw52.2.2.2.2.1 k0_t111
theorem k0_off164_inb : ∀ (v754 : BitVec 32) (k0_hw52 : k0_chk52 v754) (k0_t111 : Fin (k0_t111_loop v754).trips), ∀ a, (k0_off164 v754 k0_t111) a + S1x16.size a ≤ S8x6400.size a := fun v754 k0_hw52 k0_t111 => k0_hw52.2.2.2.2.2.1 k0_t111
theorem k0_mult166_dvd : ∀ (v754 : BitVec 32) (k0_hw52 : k0_chk52 v754), 16 ∣ (k0_mult166 v754).toNat := fun v754 k0_hw52 => k0_hw52.2.2.2.2.2.2.1
theorem k0_off165_inb : ∀ (v754 : BitVec 32) (k0_hw52 : k0_chk52 v754), ∀ a, (k0_off165 v754) a + S1x16.size a ≤ S8x6400.size a := fun v754 k0_hw52 => k0_hw52.2.2.2.2.2.2.2.1
theorem k0_t112_ok : ∀ (v754 : BitVec 32) (k0_hw52 : k0_chk52 v754), (k0_t112_loop v754).OK := fun v754 k0_hw52 => k0_hw52.2.2.2.2.2.2.2.2.1
theorem k0_mult167_dvd : ∀ (v754 : BitVec 32) (k0_hw52 : k0_chk52 v754) (k0_t112 : Fin (k0_t112_loop v754).trips), 16 ∣ (k0_mult167 v754 k0_t112).toNat := fun v754 k0_hw52 k0_t112 => k0_hw52.2.2.2.2.2.2.2.2.2.1 k0_t112
theorem k0_off166_inb : ∀ (v754 : BitVec 32) (k0_hw52 : k0_chk52 v754) (k0_t112 : Fin (k0_t112_loop v754).trips), ∀ a, (k0_off166 v754 k0_t112) a + S1x16.size a ≤ S8x6400.size a := fun v754 k0_hw52 k0_t112 => k0_hw52.2.2.2.2.2.2.2.2.2.2.1 k0_t112
theorem k0_t113_ok : ∀ (v754 : BitVec 32) (k0_hw52 : k0_chk52 v754), (k0_t113_loop v754).OK := fun v754 k0_hw52 => k0_hw52.2.2.2.2.2.2.2.2.2.2.2.1
theorem k0_mult168_dvd : ∀ (v754 : BitVec 32) (k0_hw52 : k0_chk52 v754) (k0_t113 : Fin (k0_t113_loop v754).trips), 16 ∣ (k0_mult168 v754 k0_t113).toNat := fun v754 k0_hw52 k0_t113 => k0_hw52.2.2.2.2.2.2.2.2.2.2.2.2.1 k0_t113
theorem k0_off167_inb : ∀ (v754 : BitVec 32) (k0_hw52 : k0_chk52 v754) (k0_t113 : Fin (k0_t113_loop v754).trips), ∀ a, (k0_off167 v754 k0_t113) a + S1x16.size a ≤ S8x6400.size a := fun v754 k0_hw52 k0_t113 => k0_hw52.2.2.2.2.2.2.2.2.2.2.2.2.2 k0_t113

@[reducible] def k0_t114_loop (v795 : BitVec 32) : Scf.Loop 32 :=
  let c0_i32_386 : BitVec 32 := 0#32
  let c3968_i32_384 : BitVec 32 := 3968#32
  let c0_i32_383 : BitVec 32 := 0#32
  let c96000_i32_382 : BitVec 32 := 96000#32
  let v796 : BitVec 32 := Scalar.subi v795 c96000_i32_382
  let v797 : BitVec 32 := Scalar.maxsi c0_i32_383 v796
  let v798 : BitVec 32 := Scalar.minsi c3968_i32_384 v797
  let c4_i32_385 : BitVec 32 := 4#32
  let v799 : BitVec 32 := Scalar.shrui v798 c4_i32_385
  let v800 : BitVec 32 := Scalar.subi v799 c0_i32_386
  let c1_i32_387 : BitVec 32 := 1#32
  let v802 : BitVec 32 := Scalar.divsi v800 c1_i32_387
  let v803 : BitVec 32 := Scalar.muli v802 c1_i32_387
  let v804 : BitVec 32 := Scalar.addi c0_i32_386 v803
  let c1_i32_388 : BitVec 32 := 1#32
  ⟨c0_i32_386, v804, c1_i32_388⟩

def k0_mult169 (v795 : BitVec 32) (k0_t114 : Fin (k0_t114_loop v795).trips) : BitVec 32 :=
  let c0_i32_386 : BitVec 32 := 0#32
  let c1_i32_388 : BitVec 32 := 1#32
  let arg18 : BitVec 32 := Scf.iv c0_i32_386 c1_i32_388 k0_t114
  let c16_i32_538 : BitVec 32 := 16#32
  let v1280 : BitVec 32 := Scalar.muli arg18 c16_i32_538
  v1280
def k0_off168 (v795 : BitVec 32) (k0_t114 : Fin (k0_t114_loop v795).trips) : Fin 2 → Nat :=
  let c4_i32_539 : BitVec 32 := 4#32
  let v1282 : Index := Scalar.indexCast c4_i32_539
  let c0_i32_386 : BitVec 32 := 0#32
  let c1_i32_388 : BitVec 32 := 1#32
  let arg18 : BitVec 32 := Scf.iv c0_i32_386 c1_i32_388 k0_t114
  let c16_i32_538 : BitVec 32 := 16#32
  let v1280 : BitVec 32 := Scalar.muli arg18 c16_i32_538
  let v1281 : BitVec 32 := v1280
  let v1283 : Index := Scalar.indexCast v1281
  ![4, v1283.toNat]
@[reducible] def k0_t115_loop (v795 : BitVec 32) : Scf.Loop 32 :=
  let c0_i32_386 : BitVec 32 := 0#32
  let c3968_i32_384 : BitVec 32 := 3968#32
  let c0_i32_383 : BitVec 32 := 0#32
  let c96000_i32_382 : BitVec 32 := 96000#32
  let v796 : BitVec 32 := Scalar.subi v795 c96000_i32_382
  let v797 : BitVec 32 := Scalar.maxsi c0_i32_383 v796
  let v798 : BitVec 32 := Scalar.minsi c3968_i32_384 v797
  let c4_i32_385 : BitVec 32 := 4#32
  let v799 : BitVec 32 := Scalar.shrui v798 c4_i32_385
  let v800 : BitVec 32 := Scalar.subi v799 c0_i32_386
  let c1_i32_387 : BitVec 32 := 1#32
  let v802 : BitVec 32 := Scalar.divsi v800 c1_i32_387
  let v803 : BitVec 32 := Scalar.muli v802 c1_i32_387
  let v804 : BitVec 32 := Scalar.addi c0_i32_386 v803
  let v801 : BitVec 32 := Scalar.addi c0_i32_386 v800
  let c1_i32_389 : BitVec 32 := 1#32
  ⟨v804, v801, c1_i32_389⟩
def k0_mult170 (v795 : BitVec 32) (k0_t115 : Fin (k0_t115_loop v795).trips) : BitVec 32 :=
  let c0_i32_386 : BitVec 32 := 0#32
  let c3968_i32_384 : BitVec 32 := 3968#32
  let c0_i32_383 : BitVec 32 := 0#32
  let c96000_i32_382 : BitVec 32 := 96000#32
  let v796 : BitVec 32 := Scalar.subi v795 c96000_i32_382
  let v797 : BitVec 32 := Scalar.maxsi c0_i32_383 v796
  let v798 : BitVec 32 := Scalar.minsi c3968_i32_384 v797
  let c4_i32_385 : BitVec 32 := 4#32
  let v799 : BitVec 32 := Scalar.shrui v798 c4_i32_385
  let v800 : BitVec 32 := Scalar.subi v799 c0_i32_386
  let c1_i32_387 : BitVec 32 := 1#32
  let v802 : BitVec 32 := Scalar.divsi v800 c1_i32_387
  let v803 : BitVec 32 := Scalar.muli v802 c1_i32_387
  let v804 : BitVec 32 := Scalar.addi c0_i32_386 v803
  let c1_i32_389 : BitVec 32 := 1#32
  let arg18 : BitVec 32 := Scf.iv v804 c1_i32_389 k0_t115
  let c16_i32_538 : BitVec 32 := 16#32
  let v1280 : BitVec 32 := Scalar.muli arg18 c16_i32_538
  v1280
def k0_off169 (v795 : BitVec 32) (k0_t115 : Fin (k0_t115_loop v795).trips) : Fin 2 → Nat :=
  let c4_i32_539 : BitVec 32 := 4#32
  let v1282 : Index := Scalar.indexCast c4_i32_539
  let c0_i32_386 : BitVec 32 := 0#32
  let c3968_i32_384 : BitVec 32 := 3968#32
  let c0_i32_383 : BitVec 32 := 0#32
  let c96000_i32_382 : BitVec 32 := 96000#32
  let v796 : BitVec 32 := Scalar.subi v795 c96000_i32_382
  let v797 : BitVec 32 := Scalar.maxsi c0_i32_383 v796
  let v798 : BitVec 32 := Scalar.minsi c3968_i32_384 v797
  let c4_i32_385 : BitVec 32 := 4#32
  let v799 : BitVec 32 := Scalar.shrui v798 c4_i32_385
  let v800 : BitVec 32 := Scalar.subi v799 c0_i32_386
  let c1_i32_387 : BitVec 32 := 1#32
  let v802 : BitVec 32 := Scalar.divsi v800 c1_i32_387
  let v803 : BitVec 32 := Scalar.muli v802 c1_i32_387
  let v804 : BitVec 32 := Scalar.addi c0_i32_386 v803
  let c1_i32_389 : BitVec 32 := 1#32
  let arg18 : BitVec 32 := Scf.iv v804 c1_i32_389 k0_t115
  let c16_i32_538 : BitVec 32 := 16#32
  let v1280 : BitVec 32 := Scalar.muli arg18 c16_i32_538
  let v1281 : BitVec 32 := v1280
  let v1283 : Index := Scalar.indexCast v1281
  ![4, v1283.toNat]
def k0_mult171 (v795 : BitVec 32) : BitVec 32 :=
  let c3968_i32_384 : BitVec 32 := 3968#32
  let c0_i32_383 : BitVec 32 := 0#32
  let c96000_i32_382 : BitVec 32 := 96000#32
  let v796 : BitVec 32 := Scalar.subi v795 c96000_i32_382
  let v797 : BitVec 32 := Scalar.maxsi c0_i32_383 v796
  let v798 : BitVec 32 := Scalar.minsi c3968_i32_384 v797
  let c4_i32_385 : BitVec 32 := 4#32
  let v799 : BitVec 32 := Scalar.shrui v798 c4_i32_385
  let c247_i32_390 : BitVec 32 := 247#32
  let v807 : BitVec 32 := Scalar.minsi v799 c247_i32_390
  let c16_i32_391 : BitVec 32 := 16#32
  let v808 : BitVec 32 := Scalar.muli v807 c16_i32_391
  v808
def k0_off170 (v795 : BitVec 32) : Fin 2 → Nat :=
  let c4_i32_392 : BitVec 32 := 4#32
  let v810 : Index := Scalar.indexCast c4_i32_392
  let c3968_i32_384 : BitVec 32 := 3968#32
  let c0_i32_383 : BitVec 32 := 0#32
  let c96000_i32_382 : BitVec 32 := 96000#32
  let v796 : BitVec 32 := Scalar.subi v795 c96000_i32_382
  let v797 : BitVec 32 := Scalar.maxsi c0_i32_383 v796
  let v798 : BitVec 32 := Scalar.minsi c3968_i32_384 v797
  let c4_i32_385 : BitVec 32 := 4#32
  let v799 : BitVec 32 := Scalar.shrui v798 c4_i32_385
  let c247_i32_390 : BitVec 32 := 247#32
  let v807 : BitVec 32 := Scalar.minsi v799 c247_i32_390
  let c16_i32_391 : BitVec 32 := 16#32
  let v808 : BitVec 32 := Scalar.muli v807 c16_i32_391
  let v809 : BitVec 32 := v808
  let v811 : Index := Scalar.indexCast v809
  ![4, v811.toNat]
@[reducible] def k0_t116_loop (v795 : BitVec 32) : Scf.Loop 32 :=
  let c3968_i32_384 : BitVec 32 := 3968#32
  let c0_i32_383 : BitVec 32 := 0#32
  let c96000_i32_382 : BitVec 32 := 96000#32
  let v796 : BitVec 32 := Scalar.subi v795 c96000_i32_382
  let v797 : BitVec 32 := Scalar.maxsi c0_i32_383 v796
  let v798 : BitVec 32 := Scalar.minsi c3968_i32_384 v797
  let c4_i32_385 : BitVec 32 := 4#32
  let v799 : BitVec 32 := Scalar.shrui v798 c4_i32_385
  let c1_i32_396 : BitVec 32 := 1#32
  let v827 : BitVec 32 := Scalar.addi v799 c1_i32_396
  let c248_i32_397 : BitVec 32 := 248#32
  let v828 : BitVec 32 := Scalar.subi c248_i32_397 v827
  let c1_i32_398 : BitVec 32 := 1#32
  let v830 : BitVec 32 := Scalar.divsi v828 c1_i32_398
  let v831 : BitVec 32 := Scalar.muli v830 c1_i32_398
  let v832 : BitVec 32 := Scalar.addi v827 v831
  let c1_i32_399 : BitVec 32 := 1#32
  ⟨v827, v832, c1_i32_399⟩
def k0_mult172 (v795 : BitVec 32) (k0_t116 : Fin (k0_t116_loop v795).trips) : BitVec 32 :=
  let c3968_i32_384 : BitVec 32 := 3968#32
  let c0_i32_383 : BitVec 32 := 0#32
  let c96000_i32_382 : BitVec 32 := 96000#32
  let v796 : BitVec 32 := Scalar.subi v795 c96000_i32_382
  let v797 : BitVec 32 := Scalar.maxsi c0_i32_383 v796
  let v798 : BitVec 32 := Scalar.minsi c3968_i32_384 v797
  let c4_i32_385 : BitVec 32 := 4#32
  let v799 : BitVec 32 := Scalar.shrui v798 c4_i32_385
  let c1_i32_396 : BitVec 32 := 1#32
  let v827 : BitVec 32 := Scalar.addi v799 c1_i32_396
  let c1_i32_399 : BitVec 32 := 1#32
  let arg18 : BitVec 32 := Scf.iv v827 c1_i32_399 k0_t116
  let c16_i32_538 : BitVec 32 := 16#32
  let v1280 : BitVec 32 := Scalar.muli arg18 c16_i32_538
  v1280
def k0_off171 (v795 : BitVec 32) (k0_t116 : Fin (k0_t116_loop v795).trips) : Fin 2 → Nat :=
  let c4_i32_539 : BitVec 32 := 4#32
  let v1282 : Index := Scalar.indexCast c4_i32_539
  let c3968_i32_384 : BitVec 32 := 3968#32
  let c0_i32_383 : BitVec 32 := 0#32
  let c96000_i32_382 : BitVec 32 := 96000#32
  let v796 : BitVec 32 := Scalar.subi v795 c96000_i32_382
  let v797 : BitVec 32 := Scalar.maxsi c0_i32_383 v796
  let v798 : BitVec 32 := Scalar.minsi c3968_i32_384 v797
  let c4_i32_385 : BitVec 32 := 4#32
  let v799 : BitVec 32 := Scalar.shrui v798 c4_i32_385
  let c1_i32_396 : BitVec 32 := 1#32
  let v827 : BitVec 32 := Scalar.addi v799 c1_i32_396
  let c1_i32_399 : BitVec 32 := 1#32
  let arg18 : BitVec 32 := Scf.iv v827 c1_i32_399 k0_t116
  let c16_i32_538 : BitVec 32 := 16#32
  let v1280 : BitVec 32 := Scalar.muli arg18 c16_i32_538
  let v1281 : BitVec 32 := v1280
  let v1283 : Index := Scalar.indexCast v1281
  ![4, v1283.toNat]
@[reducible] def k0_t117_loop (v795 : BitVec 32) : Scf.Loop 32 :=
  let c3968_i32_384 : BitVec 32 := 3968#32
  let c0_i32_383 : BitVec 32 := 0#32
  let c96000_i32_382 : BitVec 32 := 96000#32
  let v796 : BitVec 32 := Scalar.subi v795 c96000_i32_382
  let v797 : BitVec 32 := Scalar.maxsi c0_i32_383 v796
  let v798 : BitVec 32 := Scalar.minsi c3968_i32_384 v797
  let c4_i32_385 : BitVec 32 := 4#32
  let v799 : BitVec 32 := Scalar.shrui v798 c4_i32_385
  let c1_i32_396 : BitVec 32 := 1#32
  let v827 : BitVec 32 := Scalar.addi v799 c1_i32_396
  let c248_i32_397 : BitVec 32 := 248#32
  let v828 : BitVec 32 := Scalar.subi c248_i32_397 v827
  let c1_i32_398 : BitVec 32 := 1#32
  let v830 : BitVec 32 := Scalar.divsi v828 c1_i32_398
  let v831 : BitVec 32 := Scalar.muli v830 c1_i32_398
  let v832 : BitVec 32 := Scalar.addi v827 v831
  let v829 : BitVec 32 := Scalar.addi v827 v828
  let c1_i32_400 : BitVec 32 := 1#32
  ⟨v832, v829, c1_i32_400⟩
def k0_mult173 (v795 : BitVec 32) (k0_t117 : Fin (k0_t117_loop v795).trips) : BitVec 32 :=
  let c3968_i32_384 : BitVec 32 := 3968#32
  let c0_i32_383 : BitVec 32 := 0#32
  let c96000_i32_382 : BitVec 32 := 96000#32
  let v796 : BitVec 32 := Scalar.subi v795 c96000_i32_382
  let v797 : BitVec 32 := Scalar.maxsi c0_i32_383 v796
  let v798 : BitVec 32 := Scalar.minsi c3968_i32_384 v797
  let c4_i32_385 : BitVec 32 := 4#32
  let v799 : BitVec 32 := Scalar.shrui v798 c4_i32_385
  let c1_i32_396 : BitVec 32 := 1#32
  let v827 : BitVec 32 := Scalar.addi v799 c1_i32_396
  let c248_i32_397 : BitVec 32 := 248#32
  let v828 : BitVec 32 := Scalar.subi c248_i32_397 v827
  let c1_i32_398 : BitVec 32 := 1#32
  let v830 : BitVec 32 := Scalar.divsi v828 c1_i32_398
  let v831 : BitVec 32 := Scalar.muli v830 c1_i32_398
  let v832 : BitVec 32 := Scalar.addi v827 v831
  let c1_i32_400 : BitVec 32 := 1#32
  let arg18 : BitVec 32 := Scf.iv v832 c1_i32_400 k0_t117
  let c16_i32_538 : BitVec 32 := 16#32
  let v1280 : BitVec 32 := Scalar.muli arg18 c16_i32_538
  v1280
def k0_off172 (v795 : BitVec 32) (k0_t117 : Fin (k0_t117_loop v795).trips) : Fin 2 → Nat :=
  let c4_i32_539 : BitVec 32 := 4#32
  let v1282 : Index := Scalar.indexCast c4_i32_539
  let c3968_i32_384 : BitVec 32 := 3968#32
  let c0_i32_383 : BitVec 32 := 0#32
  let c96000_i32_382 : BitVec 32 := 96000#32
  let v796 : BitVec 32 := Scalar.subi v795 c96000_i32_382
  let v797 : BitVec 32 := Scalar.maxsi c0_i32_383 v796
  let v798 : BitVec 32 := Scalar.minsi c3968_i32_384 v797
  let c4_i32_385 : BitVec 32 := 4#32
  let v799 : BitVec 32 := Scalar.shrui v798 c4_i32_385
  let c1_i32_396 : BitVec 32 := 1#32
  let v827 : BitVec 32 := Scalar.addi v799 c1_i32_396
  let c248_i32_397 : BitVec 32 := 248#32
  let v828 : BitVec 32 := Scalar.subi c248_i32_397 v827
  let c1_i32_398 : BitVec 32 := 1#32
  let v830 : BitVec 32 := Scalar.divsi v828 c1_i32_398
  let v831 : BitVec 32 := Scalar.muli v830 c1_i32_398
  let v832 : BitVec 32 := Scalar.addi v827 v831
  let c1_i32_400 : BitVec 32 := 1#32
  let arg18 : BitVec 32 := Scf.iv v832 c1_i32_400 k0_t117
  let c16_i32_538 : BitVec 32 := 16#32
  let v1280 : BitVec 32 := Scalar.muli arg18 c16_i32_538
  let v1281 : BitVec 32 := v1280
  let v1283 : Index := Scalar.indexCast v1281
  ![4, v1283.toNat]

def k0_chk53 (v795 : BitVec 32) : Prop :=
  ((k0_t114_loop v795).OK) ∧
  (∀ k0_t114 : Fin (k0_t114_loop v795).trips, 16 ∣ (k0_mult169 v795 k0_t114).toNat) ∧
  (∀ k0_t114 : Fin (k0_t114_loop v795).trips, ∀ a, (k0_off168 v795 k0_t114) a + S1x16.size a ≤ S8x6400.size a) ∧
  ((k0_t115_loop v795).OK) ∧
  (∀ k0_t115 : Fin (k0_t115_loop v795).trips, 16 ∣ (k0_mult170 v795 k0_t115).toNat) ∧
  (∀ k0_t115 : Fin (k0_t115_loop v795).trips, ∀ a, (k0_off169 v795 k0_t115) a + S1x16.size a ≤ S8x6400.size a) ∧
  (16 ∣ (k0_mult171 v795).toNat) ∧
  (∀ a, (k0_off170 v795) a + S1x16.size a ≤ S8x6400.size a) ∧
  ((k0_t116_loop v795).OK) ∧
  (∀ k0_t116 : Fin (k0_t116_loop v795).trips, 16 ∣ (k0_mult172 v795 k0_t116).toNat) ∧
  (∀ k0_t116 : Fin (k0_t116_loop v795).trips, ∀ a, (k0_off171 v795 k0_t116) a + S1x16.size a ≤ S8x6400.size a) ∧
  ((k0_t117_loop v795).OK) ∧
  (∀ k0_t117 : Fin (k0_t117_loop v795).trips, 16 ∣ (k0_mult173 v795 k0_t117).toNat) ∧
  (∀ k0_t117 : Fin (k0_t117_loop v795).trips, ∀ a, (k0_off172 v795 k0_t117) a + S1x16.size a ≤ S8x6400.size a)
theorem k0_t114_ok : ∀ (v795 : BitVec 32) (k0_hw53 : k0_chk53 v795), (k0_t114_loop v795).OK := fun v795 k0_hw53 => k0_hw53.1
theorem k0_mult169_dvd : ∀ (v795 : BitVec 32) (k0_hw53 : k0_chk53 v795) (k0_t114 : Fin (k0_t114_loop v795).trips), 16 ∣ (k0_mult169 v795 k0_t114).toNat := fun v795 k0_hw53 k0_t114 => k0_hw53.2.1 k0_t114
theorem k0_off168_inb : ∀ (v795 : BitVec 32) (k0_hw53 : k0_chk53 v795) (k0_t114 : Fin (k0_t114_loop v795).trips), ∀ a, (k0_off168 v795 k0_t114) a + S1x16.size a ≤ S8x6400.size a := fun v795 k0_hw53 k0_t114 => k0_hw53.2.2.1 k0_t114
theorem k0_t115_ok : ∀ (v795 : BitVec 32) (k0_hw53 : k0_chk53 v795), (k0_t115_loop v795).OK := fun v795 k0_hw53 => k0_hw53.2.2.2.1
theorem k0_mult170_dvd : ∀ (v795 : BitVec 32) (k0_hw53 : k0_chk53 v795) (k0_t115 : Fin (k0_t115_loop v795).trips), 16 ∣ (k0_mult170 v795 k0_t115).toNat := fun v795 k0_hw53 k0_t115 => k0_hw53.2.2.2.2.1 k0_t115
theorem k0_off169_inb : ∀ (v795 : BitVec 32) (k0_hw53 : k0_chk53 v795) (k0_t115 : Fin (k0_t115_loop v795).trips), ∀ a, (k0_off169 v795 k0_t115) a + S1x16.size a ≤ S8x6400.size a := fun v795 k0_hw53 k0_t115 => k0_hw53.2.2.2.2.2.1 k0_t115
theorem k0_mult171_dvd : ∀ (v795 : BitVec 32) (k0_hw53 : k0_chk53 v795), 16 ∣ (k0_mult171 v795).toNat := fun v795 k0_hw53 => k0_hw53.2.2.2.2.2.2.1
theorem k0_off170_inb : ∀ (v795 : BitVec 32) (k0_hw53 : k0_chk53 v795), ∀ a, (k0_off170 v795) a + S1x16.size a ≤ S8x6400.size a := fun v795 k0_hw53 => k0_hw53.2.2.2.2.2.2.2.1
theorem k0_t116_ok : ∀ (v795 : BitVec 32) (k0_hw53 : k0_chk53 v795), (k0_t116_loop v795).OK := fun v795 k0_hw53 => k0_hw53.2.2.2.2.2.2.2.2.1
theorem k0_mult172_dvd : ∀ (v795 : BitVec 32) (k0_hw53 : k0_chk53 v795) (k0_t116 : Fin (k0_t116_loop v795).trips), 16 ∣ (k0_mult172 v795 k0_t116).toNat := fun v795 k0_hw53 k0_t116 => k0_hw53.2.2.2.2.2.2.2.2.2.1 k0_t116
theorem k0_off171_inb : ∀ (v795 : BitVec 32) (k0_hw53 : k0_chk53 v795) (k0_t116 : Fin (k0_t116_loop v795).trips), ∀ a, (k0_off171 v795 k0_t116) a + S1x16.size a ≤ S8x6400.size a := fun v795 k0_hw53 k0_t116 => k0_hw53.2.2.2.2.2.2.2.2.2.2.1 k0_t116
theorem k0_t117_ok : ∀ (v795 : BitVec 32) (k0_hw53 : k0_chk53 v795), (k0_t117_loop v795).OK := fun v795 k0_hw53 => k0_hw53.2.2.2.2.2.2.2.2.2.2.2.1
theorem k0_mult173_dvd : ∀ (v795 : BitVec 32) (k0_hw53 : k0_chk53 v795) (k0_t117 : Fin (k0_t117_loop v795).trips), 16 ∣ (k0_mult173 v795 k0_t117).toNat := fun v795 k0_hw53 k0_t117 => k0_hw53.2.2.2.2.2.2.2.2.2.2.2.2.1 k0_t117
theorem k0_off172_inb : ∀ (v795 : BitVec 32) (k0_hw53 : k0_chk53 v795) (k0_t117 : Fin (k0_t117_loop v795).trips), ∀ a, (k0_off172 v795 k0_t117) a + S1x16.size a ≤ S8x6400.size a := fun v795 k0_hw53 k0_t117 => k0_hw53.2.2.2.2.2.2.2.2.2.2.2.2.2 k0_t117

@[reducible] def k0_t118_loop (v836 : BitVec 32) : Scf.Loop 32 :=
  let c0_i32_405 : BitVec 32 := 0#32
  let c3968_i32_403 : BitVec 32 := 3968#32
  let c0_i32_402 : BitVec 32 := 0#32
  let c96000_i32_401 : BitVec 32 := 96000#32
  let v837 : BitVec 32 := Scalar.subi v836 c96000_i32_401
  let v838 : BitVec 32 := Scalar.maxsi c0_i32_402 v837
  let v839 : BitVec 32 := Scalar.minsi c3968_i32_403 v838
  let c4_i32_404 : BitVec 32 := 4#32
  let v840 : BitVec 32 := Scalar.shrui v839 c4_i32_404
  let v841 : BitVec 32 := Scalar.subi v840 c0_i32_405
  let c1_i32_406 : BitVec 32 := 1#32
  let v843 : BitVec 32 := Scalar.divsi v841 c1_i32_406
  let v844 : BitVec 32 := Scalar.muli v843 c1_i32_406
  let v845 : BitVec 32 := Scalar.addi c0_i32_405 v844
  let c1_i32_407 : BitVec 32 := 1#32
  ⟨c0_i32_405, v845, c1_i32_407⟩

def k0_mult174 (v836 : BitVec 32) (k0_t118 : Fin (k0_t118_loop v836).trips) : BitVec 32 :=
  let c0_i32_405 : BitVec 32 := 0#32
  let c1_i32_407 : BitVec 32 := 1#32
  let arg18 : BitVec 32 := Scf.iv c0_i32_405 c1_i32_407 k0_t118
  let c16_i32_538 : BitVec 32 := 16#32
  let v1280 : BitVec 32 := Scalar.muli arg18 c16_i32_538
  v1280
def k0_off173 (v836 : BitVec 32) (k0_t118 : Fin (k0_t118_loop v836).trips) : Fin 2 → Nat :=
  let c5_i32_539 : BitVec 32 := 5#32
  let v1282 : Index := Scalar.indexCast c5_i32_539
  let c0_i32_405 : BitVec 32 := 0#32
  let c1_i32_407 : BitVec 32 := 1#32
  let arg18 : BitVec 32 := Scf.iv c0_i32_405 c1_i32_407 k0_t118
  let c16_i32_538 : BitVec 32 := 16#32
  let v1280 : BitVec 32 := Scalar.muli arg18 c16_i32_538
  let v1281 : BitVec 32 := v1280
  let v1283 : Index := Scalar.indexCast v1281
  ![5, v1283.toNat]
@[reducible] def k0_t119_loop (v836 : BitVec 32) : Scf.Loop 32 :=
  let c0_i32_405 : BitVec 32 := 0#32
  let c3968_i32_403 : BitVec 32 := 3968#32
  let c0_i32_402 : BitVec 32 := 0#32
  let c96000_i32_401 : BitVec 32 := 96000#32
  let v837 : BitVec 32 := Scalar.subi v836 c96000_i32_401
  let v838 : BitVec 32 := Scalar.maxsi c0_i32_402 v837
  let v839 : BitVec 32 := Scalar.minsi c3968_i32_403 v838
  let c4_i32_404 : BitVec 32 := 4#32
  let v840 : BitVec 32 := Scalar.shrui v839 c4_i32_404
  let v841 : BitVec 32 := Scalar.subi v840 c0_i32_405
  let c1_i32_406 : BitVec 32 := 1#32
  let v843 : BitVec 32 := Scalar.divsi v841 c1_i32_406
  let v844 : BitVec 32 := Scalar.muli v843 c1_i32_406
  let v845 : BitVec 32 := Scalar.addi c0_i32_405 v844
  let v842 : BitVec 32 := Scalar.addi c0_i32_405 v841
  let c1_i32_408 : BitVec 32 := 1#32
  ⟨v845, v842, c1_i32_408⟩
def k0_mult175 (v836 : BitVec 32) (k0_t119 : Fin (k0_t119_loop v836).trips) : BitVec 32 :=
  let c0_i32_405 : BitVec 32 := 0#32
  let c3968_i32_403 : BitVec 32 := 3968#32
  let c0_i32_402 : BitVec 32 := 0#32
  let c96000_i32_401 : BitVec 32 := 96000#32
  let v837 : BitVec 32 := Scalar.subi v836 c96000_i32_401
  let v838 : BitVec 32 := Scalar.maxsi c0_i32_402 v837
  let v839 : BitVec 32 := Scalar.minsi c3968_i32_403 v838
  let c4_i32_404 : BitVec 32 := 4#32
  let v840 : BitVec 32 := Scalar.shrui v839 c4_i32_404
  let v841 : BitVec 32 := Scalar.subi v840 c0_i32_405
  let c1_i32_406 : BitVec 32 := 1#32
  let v843 : BitVec 32 := Scalar.divsi v841 c1_i32_406
  let v844 : BitVec 32 := Scalar.muli v843 c1_i32_406
  let v845 : BitVec 32 := Scalar.addi c0_i32_405 v844
  let c1_i32_408 : BitVec 32 := 1#32
  let arg18 : BitVec 32 := Scf.iv v845 c1_i32_408 k0_t119
  let c16_i32_538 : BitVec 32 := 16#32
  let v1280 : BitVec 32 := Scalar.muli arg18 c16_i32_538
  v1280
def k0_off174 (v836 : BitVec 32) (k0_t119 : Fin (k0_t119_loop v836).trips) : Fin 2 → Nat :=
  let c5_i32_539 : BitVec 32 := 5#32
  let v1282 : Index := Scalar.indexCast c5_i32_539
  let c0_i32_405 : BitVec 32 := 0#32
  let c3968_i32_403 : BitVec 32 := 3968#32
  let c0_i32_402 : BitVec 32 := 0#32
  let c96000_i32_401 : BitVec 32 := 96000#32
  let v837 : BitVec 32 := Scalar.subi v836 c96000_i32_401
  let v838 : BitVec 32 := Scalar.maxsi c0_i32_402 v837
  let v839 : BitVec 32 := Scalar.minsi c3968_i32_403 v838
  let c4_i32_404 : BitVec 32 := 4#32
  let v840 : BitVec 32 := Scalar.shrui v839 c4_i32_404
  let v841 : BitVec 32 := Scalar.subi v840 c0_i32_405
  let c1_i32_406 : BitVec 32 := 1#32
  let v843 : BitVec 32 := Scalar.divsi v841 c1_i32_406
  let v844 : BitVec 32 := Scalar.muli v843 c1_i32_406
  let v845 : BitVec 32 := Scalar.addi c0_i32_405 v844
  let c1_i32_408 : BitVec 32 := 1#32
  let arg18 : BitVec 32 := Scf.iv v845 c1_i32_408 k0_t119
  let c16_i32_538 : BitVec 32 := 16#32
  let v1280 : BitVec 32 := Scalar.muli arg18 c16_i32_538
  let v1281 : BitVec 32 := v1280
  let v1283 : Index := Scalar.indexCast v1281
  ![5, v1283.toNat]
def k0_mult176 (v836 : BitVec 32) : BitVec 32 :=
  let c3968_i32_403 : BitVec 32 := 3968#32
  let c0_i32_402 : BitVec 32 := 0#32
  let c96000_i32_401 : BitVec 32 := 96000#32
  let v837 : BitVec 32 := Scalar.subi v836 c96000_i32_401
  let v838 : BitVec 32 := Scalar.maxsi c0_i32_402 v837
  let v839 : BitVec 32 := Scalar.minsi c3968_i32_403 v838
  let c4_i32_404 : BitVec 32 := 4#32
  let v840 : BitVec 32 := Scalar.shrui v839 c4_i32_404
  let c247_i32_409 : BitVec 32 := 247#32
  let v848 : BitVec 32 := Scalar.minsi v840 c247_i32_409
  let c16_i32_410 : BitVec 32 := 16#32
  let v849 : BitVec 32 := Scalar.muli v848 c16_i32_410
  v849
def k0_off175 (v836 : BitVec 32) : Fin 2 → Nat :=
  let c5_i32_411 : BitVec 32 := 5#32
  let v851 : Index := Scalar.indexCast c5_i32_411
  let c3968_i32_403 : BitVec 32 := 3968#32
  let c0_i32_402 : BitVec 32 := 0#32
  let c96000_i32_401 : BitVec 32 := 96000#32
  let v837 : BitVec 32 := Scalar.subi v836 c96000_i32_401
  let v838 : BitVec 32 := Scalar.maxsi c0_i32_402 v837
  let v839 : BitVec 32 := Scalar.minsi c3968_i32_403 v838
  let c4_i32_404 : BitVec 32 := 4#32
  let v840 : BitVec 32 := Scalar.shrui v839 c4_i32_404
  let c247_i32_409 : BitVec 32 := 247#32
  let v848 : BitVec 32 := Scalar.minsi v840 c247_i32_409
  let c16_i32_410 : BitVec 32 := 16#32
  let v849 : BitVec 32 := Scalar.muli v848 c16_i32_410
  let v850 : BitVec 32 := v849
  let v852 : Index := Scalar.indexCast v850
  ![5, v852.toNat]
@[reducible] def k0_t120_loop (v836 : BitVec 32) : Scf.Loop 32 :=
  let c3968_i32_403 : BitVec 32 := 3968#32
  let c0_i32_402 : BitVec 32 := 0#32
  let c96000_i32_401 : BitVec 32 := 96000#32
  let v837 : BitVec 32 := Scalar.subi v836 c96000_i32_401
  let v838 : BitVec 32 := Scalar.maxsi c0_i32_402 v837
  let v839 : BitVec 32 := Scalar.minsi c3968_i32_403 v838
  let c4_i32_404 : BitVec 32 := 4#32
  let v840 : BitVec 32 := Scalar.shrui v839 c4_i32_404
  let c1_i32_415 : BitVec 32 := 1#32
  let v868 : BitVec 32 := Scalar.addi v840 c1_i32_415
  let c248_i32_416 : BitVec 32 := 248#32
  let v869 : BitVec 32 := Scalar.subi c248_i32_416 v868
  let c1_i32_417 : BitVec 32 := 1#32
  let v871 : BitVec 32 := Scalar.divsi v869 c1_i32_417
  let v872 : BitVec 32 := Scalar.muli v871 c1_i32_417
  let v873 : BitVec 32 := Scalar.addi v868 v872
  let c1_i32_418 : BitVec 32 := 1#32
  ⟨v868, v873, c1_i32_418⟩
def k0_mult177 (v836 : BitVec 32) (k0_t120 : Fin (k0_t120_loop v836).trips) : BitVec 32 :=
  let c3968_i32_403 : BitVec 32 := 3968#32
  let c0_i32_402 : BitVec 32 := 0#32
  let c96000_i32_401 : BitVec 32 := 96000#32
  let v837 : BitVec 32 := Scalar.subi v836 c96000_i32_401
  let v838 : BitVec 32 := Scalar.maxsi c0_i32_402 v837
  let v839 : BitVec 32 := Scalar.minsi c3968_i32_403 v838
  let c4_i32_404 : BitVec 32 := 4#32
  let v840 : BitVec 32 := Scalar.shrui v839 c4_i32_404
  let c1_i32_415 : BitVec 32 := 1#32
  let v868 : BitVec 32 := Scalar.addi v840 c1_i32_415
  let c1_i32_418 : BitVec 32 := 1#32
  let arg18 : BitVec 32 := Scf.iv v868 c1_i32_418 k0_t120
  let c16_i32_538 : BitVec 32 := 16#32
  let v1280 : BitVec 32 := Scalar.muli arg18 c16_i32_538
  v1280
def k0_off176 (v836 : BitVec 32) (k0_t120 : Fin (k0_t120_loop v836).trips) : Fin 2 → Nat :=
  let c5_i32_539 : BitVec 32 := 5#32
  let v1282 : Index := Scalar.indexCast c5_i32_539
  let c3968_i32_403 : BitVec 32 := 3968#32
  let c0_i32_402 : BitVec 32 := 0#32
  let c96000_i32_401 : BitVec 32 := 96000#32
  let v837 : BitVec 32 := Scalar.subi v836 c96000_i32_401
  let v838 : BitVec 32 := Scalar.maxsi c0_i32_402 v837
  let v839 : BitVec 32 := Scalar.minsi c3968_i32_403 v838
  let c4_i32_404 : BitVec 32 := 4#32
  let v840 : BitVec 32 := Scalar.shrui v839 c4_i32_404
  let c1_i32_415 : BitVec 32 := 1#32
  let v868 : BitVec 32 := Scalar.addi v840 c1_i32_415
  let c1_i32_418 : BitVec 32 := 1#32
  let arg18 : BitVec 32 := Scf.iv v868 c1_i32_418 k0_t120
  let c16_i32_538 : BitVec 32 := 16#32
  let v1280 : BitVec 32 := Scalar.muli arg18 c16_i32_538
  let v1281 : BitVec 32 := v1280
  let v1283 : Index := Scalar.indexCast v1281
  ![5, v1283.toNat]
@[reducible] def k0_t121_loop (v836 : BitVec 32) : Scf.Loop 32 :=
  let c3968_i32_403 : BitVec 32 := 3968#32
  let c0_i32_402 : BitVec 32 := 0#32
  let c96000_i32_401 : BitVec 32 := 96000#32
  let v837 : BitVec 32 := Scalar.subi v836 c96000_i32_401
  let v838 : BitVec 32 := Scalar.maxsi c0_i32_402 v837
  let v839 : BitVec 32 := Scalar.minsi c3968_i32_403 v838
  let c4_i32_404 : BitVec 32 := 4#32
  let v840 : BitVec 32 := Scalar.shrui v839 c4_i32_404
  let c1_i32_415 : BitVec 32 := 1#32
  let v868 : BitVec 32 := Scalar.addi v840 c1_i32_415
  let c248_i32_416 : BitVec 32 := 248#32
  let v869 : BitVec 32 := Scalar.subi c248_i32_416 v868
  let c1_i32_417 : BitVec 32 := 1#32
  let v871 : BitVec 32 := Scalar.divsi v869 c1_i32_417
  let v872 : BitVec 32 := Scalar.muli v871 c1_i32_417
  let v873 : BitVec 32 := Scalar.addi v868 v872
  let v870 : BitVec 32 := Scalar.addi v868 v869
  let c1_i32_419 : BitVec 32 := 1#32
  ⟨v873, v870, c1_i32_419⟩
def k0_mult178 (v836 : BitVec 32) (k0_t121 : Fin (k0_t121_loop v836).trips) : BitVec 32 :=
  let c3968_i32_403 : BitVec 32 := 3968#32
  let c0_i32_402 : BitVec 32 := 0#32
  let c96000_i32_401 : BitVec 32 := 96000#32
  let v837 : BitVec 32 := Scalar.subi v836 c96000_i32_401
  let v838 : BitVec 32 := Scalar.maxsi c0_i32_402 v837
  let v839 : BitVec 32 := Scalar.minsi c3968_i32_403 v838
  let c4_i32_404 : BitVec 32 := 4#32
  let v840 : BitVec 32 := Scalar.shrui v839 c4_i32_404
  let c1_i32_415 : BitVec 32 := 1#32
  let v868 : BitVec 32 := Scalar.addi v840 c1_i32_415
  let c248_i32_416 : BitVec 32 := 248#32
  let v869 : BitVec 32 := Scalar.subi c248_i32_416 v868
  let c1_i32_417 : BitVec 32 := 1#32
  let v871 : BitVec 32 := Scalar.divsi v869 c1_i32_417
  let v872 : BitVec 32 := Scalar.muli v871 c1_i32_417
  let v873 : BitVec 32 := Scalar.addi v868 v872
  let c1_i32_419 : BitVec 32 := 1#32
  let arg18 : BitVec 32 := Scf.iv v873 c1_i32_419 k0_t121
  let c16_i32_538 : BitVec 32 := 16#32
  let v1280 : BitVec 32 := Scalar.muli arg18 c16_i32_538
  v1280
def k0_off177 (v836 : BitVec 32) (k0_t121 : Fin (k0_t121_loop v836).trips) : Fin 2 → Nat :=
  let c5_i32_539 : BitVec 32 := 5#32
  let v1282 : Index := Scalar.indexCast c5_i32_539
  let c3968_i32_403 : BitVec 32 := 3968#32
  let c0_i32_402 : BitVec 32 := 0#32
  let c96000_i32_401 : BitVec 32 := 96000#32
  let v837 : BitVec 32 := Scalar.subi v836 c96000_i32_401
  let v838 : BitVec 32 := Scalar.maxsi c0_i32_402 v837
  let v839 : BitVec 32 := Scalar.minsi c3968_i32_403 v838
  let c4_i32_404 : BitVec 32 := 4#32
  let v840 : BitVec 32 := Scalar.shrui v839 c4_i32_404
  let c1_i32_415 : BitVec 32 := 1#32
  let v868 : BitVec 32 := Scalar.addi v840 c1_i32_415
  let c248_i32_416 : BitVec 32 := 248#32
  let v869 : BitVec 32 := Scalar.subi c248_i32_416 v868
  let c1_i32_417 : BitVec 32 := 1#32
  let v871 : BitVec 32 := Scalar.divsi v869 c1_i32_417
  let v872 : BitVec 32 := Scalar.muli v871 c1_i32_417
  let v873 : BitVec 32 := Scalar.addi v868 v872
  let c1_i32_419 : BitVec 32 := 1#32
  let arg18 : BitVec 32 := Scf.iv v873 c1_i32_419 k0_t121
  let c16_i32_538 : BitVec 32 := 16#32
  let v1280 : BitVec 32 := Scalar.muli arg18 c16_i32_538
  let v1281 : BitVec 32 := v1280
  let v1283 : Index := Scalar.indexCast v1281
  ![5, v1283.toNat]

def k0_chk54 (v836 : BitVec 32) : Prop :=
  ((k0_t118_loop v836).OK) ∧
  (∀ k0_t118 : Fin (k0_t118_loop v836).trips, 16 ∣ (k0_mult174 v836 k0_t118).toNat) ∧
  (∀ k0_t118 : Fin (k0_t118_loop v836).trips, ∀ a, (k0_off173 v836 k0_t118) a + S1x16.size a ≤ S8x6400.size a) ∧
  ((k0_t119_loop v836).OK) ∧
  (∀ k0_t119 : Fin (k0_t119_loop v836).trips, 16 ∣ (k0_mult175 v836 k0_t119).toNat) ∧
  (∀ k0_t119 : Fin (k0_t119_loop v836).trips, ∀ a, (k0_off174 v836 k0_t119) a + S1x16.size a ≤ S8x6400.size a) ∧
  (16 ∣ (k0_mult176 v836).toNat) ∧
  (∀ a, (k0_off175 v836) a + S1x16.size a ≤ S8x6400.size a) ∧
  ((k0_t120_loop v836).OK) ∧
  (∀ k0_t120 : Fin (k0_t120_loop v836).trips, 16 ∣ (k0_mult177 v836 k0_t120).toNat) ∧
  (∀ k0_t120 : Fin (k0_t120_loop v836).trips, ∀ a, (k0_off176 v836 k0_t120) a + S1x16.size a ≤ S8x6400.size a) ∧
  ((k0_t121_loop v836).OK) ∧
  (∀ k0_t121 : Fin (k0_t121_loop v836).trips, 16 ∣ (k0_mult178 v836 k0_t121).toNat) ∧
  (∀ k0_t121 : Fin (k0_t121_loop v836).trips, ∀ a, (k0_off177 v836 k0_t121) a + S1x16.size a ≤ S8x6400.size a)
theorem k0_t118_ok : ∀ (v836 : BitVec 32) (k0_hw54 : k0_chk54 v836), (k0_t118_loop v836).OK := fun v836 k0_hw54 => k0_hw54.1
theorem k0_mult174_dvd : ∀ (v836 : BitVec 32) (k0_hw54 : k0_chk54 v836) (k0_t118 : Fin (k0_t118_loop v836).trips), 16 ∣ (k0_mult174 v836 k0_t118).toNat := fun v836 k0_hw54 k0_t118 => k0_hw54.2.1 k0_t118
theorem k0_off173_inb : ∀ (v836 : BitVec 32) (k0_hw54 : k0_chk54 v836) (k0_t118 : Fin (k0_t118_loop v836).trips), ∀ a, (k0_off173 v836 k0_t118) a + S1x16.size a ≤ S8x6400.size a := fun v836 k0_hw54 k0_t118 => k0_hw54.2.2.1 k0_t118
theorem k0_t119_ok : ∀ (v836 : BitVec 32) (k0_hw54 : k0_chk54 v836), (k0_t119_loop v836).OK := fun v836 k0_hw54 => k0_hw54.2.2.2.1
theorem k0_mult175_dvd : ∀ (v836 : BitVec 32) (k0_hw54 : k0_chk54 v836) (k0_t119 : Fin (k0_t119_loop v836).trips), 16 ∣ (k0_mult175 v836 k0_t119).toNat := fun v836 k0_hw54 k0_t119 => k0_hw54.2.2.2.2.1 k0_t119
theorem k0_off174_inb : ∀ (v836 : BitVec 32) (k0_hw54 : k0_chk54 v836) (k0_t119 : Fin (k0_t119_loop v836).trips), ∀ a, (k0_off174 v836 k0_t119) a + S1x16.size a ≤ S8x6400.size a := fun v836 k0_hw54 k0_t119 => k0_hw54.2.2.2.2.2.1 k0_t119
theorem k0_mult176_dvd : ∀ (v836 : BitVec 32) (k0_hw54 : k0_chk54 v836), 16 ∣ (k0_mult176 v836).toNat := fun v836 k0_hw54 => k0_hw54.2.2.2.2.2.2.1
theorem k0_off175_inb : ∀ (v836 : BitVec 32) (k0_hw54 : k0_chk54 v836), ∀ a, (k0_off175 v836) a + S1x16.size a ≤ S8x6400.size a := fun v836 k0_hw54 => k0_hw54.2.2.2.2.2.2.2.1
theorem k0_t120_ok : ∀ (v836 : BitVec 32) (k0_hw54 : k0_chk54 v836), (k0_t120_loop v836).OK := fun v836 k0_hw54 => k0_hw54.2.2.2.2.2.2.2.2.1
theorem k0_mult177_dvd : ∀ (v836 : BitVec 32) (k0_hw54 : k0_chk54 v836) (k0_t120 : Fin (k0_t120_loop v836).trips), 16 ∣ (k0_mult177 v836 k0_t120).toNat := fun v836 k0_hw54 k0_t120 => k0_hw54.2.2.2.2.2.2.2.2.2.1 k0_t120
theorem k0_off176_inb : ∀ (v836 : BitVec 32) (k0_hw54 : k0_chk54 v836) (k0_t120 : Fin (k0_t120_loop v836).trips), ∀ a, (k0_off176 v836 k0_t120) a + S1x16.size a ≤ S8x6400.size a := fun v836 k0_hw54 k0_t120 => k0_hw54.2.2.2.2.2.2.2.2.2.2.1 k0_t120
theorem k0_t121_ok : ∀ (v836 : BitVec 32) (k0_hw54 : k0_chk54 v836), (k0_t121_loop v836).OK := fun v836 k0_hw54 => k0_hw54.2.2.2.2.2.2.2.2.2.2.2.1
theorem k0_mult178_dvd : ∀ (v836 : BitVec 32) (k0_hw54 : k0_chk54 v836) (k0_t121 : Fin (k0_t121_loop v836).trips), 16 ∣ (k0_mult178 v836 k0_t121).toNat := fun v836 k0_hw54 k0_t121 => k0_hw54.2.2.2.2.2.2.2.2.2.2.2.2.1 k0_t121
theorem k0_off177_inb : ∀ (v836 : BitVec 32) (k0_hw54 : k0_chk54 v836) (k0_t121 : Fin (k0_t121_loop v836).trips), ∀ a, (k0_off177 v836 k0_t121) a + S1x16.size a ≤ S8x6400.size a := fun v836 k0_hw54 k0_t121 => k0_hw54.2.2.2.2.2.2.2.2.2.2.2.2.2 k0_t121

@[reducible] def k0_t122_loop (v877 : BitVec 32) : Scf.Loop 32 :=
  let c0_i32_424 : BitVec 32 := 0#32
  let c3968_i32_422 : BitVec 32 := 3968#32
  let c0_i32_421 : BitVec 32 := 0#32
  let c96000_i32_420 : BitVec 32 := 96000#32
  let v878 : BitVec 32 := Scalar.subi v877 c96000_i32_420
  let v879 : BitVec 32 := Scalar.maxsi c0_i32_421 v878
  let v880 : BitVec 32 := Scalar.minsi c3968_i32_422 v879
  let c4_i32_423 : BitVec 32 := 4#32
  let v881 : BitVec 32 := Scalar.shrui v880 c4_i32_423
  let v882 : BitVec 32 := Scalar.subi v881 c0_i32_424
  let c1_i32_425 : BitVec 32 := 1#32
  let v884 : BitVec 32 := Scalar.divsi v882 c1_i32_425
  let v885 : BitVec 32 := Scalar.muli v884 c1_i32_425
  let v886 : BitVec 32 := Scalar.addi c0_i32_424 v885
  let c1_i32_426 : BitVec 32 := 1#32
  ⟨c0_i32_424, v886, c1_i32_426⟩

def k0_mult179 (v877 : BitVec 32) (k0_t122 : Fin (k0_t122_loop v877).trips) : BitVec 32 :=
  let c0_i32_424 : BitVec 32 := 0#32
  let c1_i32_426 : BitVec 32 := 1#32
  let arg18 : BitVec 32 := Scf.iv c0_i32_424 c1_i32_426 k0_t122
  let c16_i32_538 : BitVec 32 := 16#32
  let v1280 : BitVec 32 := Scalar.muli arg18 c16_i32_538
  v1280
def k0_off178 (v877 : BitVec 32) (k0_t122 : Fin (k0_t122_loop v877).trips) : Fin 2 → Nat :=
  let c6_i32_539 : BitVec 32 := 6#32
  let v1282 : Index := Scalar.indexCast c6_i32_539
  let c0_i32_424 : BitVec 32 := 0#32
  let c1_i32_426 : BitVec 32 := 1#32
  let arg18 : BitVec 32 := Scf.iv c0_i32_424 c1_i32_426 k0_t122
  let c16_i32_538 : BitVec 32 := 16#32
  let v1280 : BitVec 32 := Scalar.muli arg18 c16_i32_538
  let v1281 : BitVec 32 := v1280
  let v1283 : Index := Scalar.indexCast v1281
  ![6, v1283.toNat]
@[reducible] def k0_t123_loop (v877 : BitVec 32) : Scf.Loop 32 :=
  let c0_i32_424 : BitVec 32 := 0#32
  let c3968_i32_422 : BitVec 32 := 3968#32
  let c0_i32_421 : BitVec 32 := 0#32
  let c96000_i32_420 : BitVec 32 := 96000#32
  let v878 : BitVec 32 := Scalar.subi v877 c96000_i32_420
  let v879 : BitVec 32 := Scalar.maxsi c0_i32_421 v878
  let v880 : BitVec 32 := Scalar.minsi c3968_i32_422 v879
  let c4_i32_423 : BitVec 32 := 4#32
  let v881 : BitVec 32 := Scalar.shrui v880 c4_i32_423
  let v882 : BitVec 32 := Scalar.subi v881 c0_i32_424
  let c1_i32_425 : BitVec 32 := 1#32
  let v884 : BitVec 32 := Scalar.divsi v882 c1_i32_425
  let v885 : BitVec 32 := Scalar.muli v884 c1_i32_425
  let v886 : BitVec 32 := Scalar.addi c0_i32_424 v885
  let v883 : BitVec 32 := Scalar.addi c0_i32_424 v882
  let c1_i32_427 : BitVec 32 := 1#32
  ⟨v886, v883, c1_i32_427⟩
def k0_mult180 (v877 : BitVec 32) (k0_t123 : Fin (k0_t123_loop v877).trips) : BitVec 32 :=
  let c0_i32_424 : BitVec 32 := 0#32
  let c3968_i32_422 : BitVec 32 := 3968#32
  let c0_i32_421 : BitVec 32 := 0#32
  let c96000_i32_420 : BitVec 32 := 96000#32
  let v878 : BitVec 32 := Scalar.subi v877 c96000_i32_420
  let v879 : BitVec 32 := Scalar.maxsi c0_i32_421 v878
  let v880 : BitVec 32 := Scalar.minsi c3968_i32_422 v879
  let c4_i32_423 : BitVec 32 := 4#32
  let v881 : BitVec 32 := Scalar.shrui v880 c4_i32_423
  let v882 : BitVec 32 := Scalar.subi v881 c0_i32_424
  let c1_i32_425 : BitVec 32 := 1#32
  let v884 : BitVec 32 := Scalar.divsi v882 c1_i32_425
  let v885 : BitVec 32 := Scalar.muli v884 c1_i32_425
  let v886 : BitVec 32 := Scalar.addi c0_i32_424 v885
  let c1_i32_427 : BitVec 32 := 1#32
  let arg18 : BitVec 32 := Scf.iv v886 c1_i32_427 k0_t123
  let c16_i32_538 : BitVec 32 := 16#32
  let v1280 : BitVec 32 := Scalar.muli arg18 c16_i32_538
  v1280
def k0_off179 (v877 : BitVec 32) (k0_t123 : Fin (k0_t123_loop v877).trips) : Fin 2 → Nat :=
  let c6_i32_539 : BitVec 32 := 6#32
  let v1282 : Index := Scalar.indexCast c6_i32_539
  let c0_i32_424 : BitVec 32 := 0#32
  let c3968_i32_422 : BitVec 32 := 3968#32
  let c0_i32_421 : BitVec 32 := 0#32
  let c96000_i32_420 : BitVec 32 := 96000#32
  let v878 : BitVec 32 := Scalar.subi v877 c96000_i32_420
  let v879 : BitVec 32 := Scalar.maxsi c0_i32_421 v878
  let v880 : BitVec 32 := Scalar.minsi c3968_i32_422 v879
  let c4_i32_423 : BitVec 32 := 4#32
  let v881 : BitVec 32 := Scalar.shrui v880 c4_i32_423
  let v882 : BitVec 32 := Scalar.subi v881 c0_i32_424
  let c1_i32_425 : BitVec 32 := 1#32
  let v884 : BitVec 32 := Scalar.divsi v882 c1_i32_425
  let v885 : BitVec 32 := Scalar.muli v884 c1_i32_425
  let v886 : BitVec 32 := Scalar.addi c0_i32_424 v885
  let c1_i32_427 : BitVec 32 := 1#32
  let arg18 : BitVec 32 := Scf.iv v886 c1_i32_427 k0_t123
  let c16_i32_538 : BitVec 32 := 16#32
  let v1280 : BitVec 32 := Scalar.muli arg18 c16_i32_538
  let v1281 : BitVec 32 := v1280
  let v1283 : Index := Scalar.indexCast v1281
  ![6, v1283.toNat]
def k0_mult181 (v877 : BitVec 32) : BitVec 32 :=
  let c3968_i32_422 : BitVec 32 := 3968#32
  let c0_i32_421 : BitVec 32 := 0#32
  let c96000_i32_420 : BitVec 32 := 96000#32
  let v878 : BitVec 32 := Scalar.subi v877 c96000_i32_420
  let v879 : BitVec 32 := Scalar.maxsi c0_i32_421 v878
  let v880 : BitVec 32 := Scalar.minsi c3968_i32_422 v879
  let c4_i32_423 : BitVec 32 := 4#32
  let v881 : BitVec 32 := Scalar.shrui v880 c4_i32_423
  let c247_i32_428 : BitVec 32 := 247#32
  let v889 : BitVec 32 := Scalar.minsi v881 c247_i32_428
  let c16_i32_429 : BitVec 32 := 16#32
  let v890 : BitVec 32 := Scalar.muli v889 c16_i32_429
  v890
def k0_off180 (v877 : BitVec 32) : Fin 2 → Nat :=
  let c6_i32_430 : BitVec 32 := 6#32
  let v892 : Index := Scalar.indexCast c6_i32_430
  let c3968_i32_422 : BitVec 32 := 3968#32
  let c0_i32_421 : BitVec 32 := 0#32
  let c96000_i32_420 : BitVec 32 := 96000#32
  let v878 : BitVec 32 := Scalar.subi v877 c96000_i32_420
  let v879 : BitVec 32 := Scalar.maxsi c0_i32_421 v878
  let v880 : BitVec 32 := Scalar.minsi c3968_i32_422 v879
  let c4_i32_423 : BitVec 32 := 4#32
  let v881 : BitVec 32 := Scalar.shrui v880 c4_i32_423
  let c247_i32_428 : BitVec 32 := 247#32
  let v889 : BitVec 32 := Scalar.minsi v881 c247_i32_428
  let c16_i32_429 : BitVec 32 := 16#32
  let v890 : BitVec 32 := Scalar.muli v889 c16_i32_429
  let v891 : BitVec 32 := v890
  let v893 : Index := Scalar.indexCast v891
  ![6, v893.toNat]
@[reducible] def k0_t124_loop (v877 : BitVec 32) : Scf.Loop 32 :=
  let c3968_i32_422 : BitVec 32 := 3968#32
  let c0_i32_421 : BitVec 32 := 0#32
  let c96000_i32_420 : BitVec 32 := 96000#32
  let v878 : BitVec 32 := Scalar.subi v877 c96000_i32_420
  let v879 : BitVec 32 := Scalar.maxsi c0_i32_421 v878
  let v880 : BitVec 32 := Scalar.minsi c3968_i32_422 v879
  let c4_i32_423 : BitVec 32 := 4#32
  let v881 : BitVec 32 := Scalar.shrui v880 c4_i32_423
  let c1_i32_434 : BitVec 32 := 1#32
  let v909 : BitVec 32 := Scalar.addi v881 c1_i32_434
  let c248_i32_435 : BitVec 32 := 248#32
  let v910 : BitVec 32 := Scalar.subi c248_i32_435 v909
  let c1_i32_436 : BitVec 32 := 1#32
  let v912 : BitVec 32 := Scalar.divsi v910 c1_i32_436
  let v913 : BitVec 32 := Scalar.muli v912 c1_i32_436
  let v914 : BitVec 32 := Scalar.addi v909 v913
  let c1_i32_437 : BitVec 32 := 1#32
  ⟨v909, v914, c1_i32_437⟩
def k0_mult182 (v877 : BitVec 32) (k0_t124 : Fin (k0_t124_loop v877).trips) : BitVec 32 :=
  let c3968_i32_422 : BitVec 32 := 3968#32
  let c0_i32_421 : BitVec 32 := 0#32
  let c96000_i32_420 : BitVec 32 := 96000#32
  let v878 : BitVec 32 := Scalar.subi v877 c96000_i32_420
  let v879 : BitVec 32 := Scalar.maxsi c0_i32_421 v878
  let v880 : BitVec 32 := Scalar.minsi c3968_i32_422 v879
  let c4_i32_423 : BitVec 32 := 4#32
  let v881 : BitVec 32 := Scalar.shrui v880 c4_i32_423
  let c1_i32_434 : BitVec 32 := 1#32
  let v909 : BitVec 32 := Scalar.addi v881 c1_i32_434
  let c1_i32_437 : BitVec 32 := 1#32
  let arg18 : BitVec 32 := Scf.iv v909 c1_i32_437 k0_t124
  let c16_i32_538 : BitVec 32 := 16#32
  let v1280 : BitVec 32 := Scalar.muli arg18 c16_i32_538
  v1280
def k0_off181 (v877 : BitVec 32) (k0_t124 : Fin (k0_t124_loop v877).trips) : Fin 2 → Nat :=
  let c6_i32_539 : BitVec 32 := 6#32
  let v1282 : Index := Scalar.indexCast c6_i32_539
  let c3968_i32_422 : BitVec 32 := 3968#32
  let c0_i32_421 : BitVec 32 := 0#32
  let c96000_i32_420 : BitVec 32 := 96000#32
  let v878 : BitVec 32 := Scalar.subi v877 c96000_i32_420
  let v879 : BitVec 32 := Scalar.maxsi c0_i32_421 v878
  let v880 : BitVec 32 := Scalar.minsi c3968_i32_422 v879
  let c4_i32_423 : BitVec 32 := 4#32
  let v881 : BitVec 32 := Scalar.shrui v880 c4_i32_423
  let c1_i32_434 : BitVec 32 := 1#32
  let v909 : BitVec 32 := Scalar.addi v881 c1_i32_434
  let c1_i32_437 : BitVec 32 := 1#32
  let arg18 : BitVec 32 := Scf.iv v909 c1_i32_437 k0_t124
  let c16_i32_538 : BitVec 32 := 16#32
  let v1280 : BitVec 32 := Scalar.muli arg18 c16_i32_538
  let v1281 : BitVec 32 := v1280
  let v1283 : Index := Scalar.indexCast v1281
  ![6, v1283.toNat]
@[reducible] def k0_t125_loop (v877 : BitVec 32) : Scf.Loop 32 :=
  let c3968_i32_422 : BitVec 32 := 3968#32
  let c0_i32_421 : BitVec 32 := 0#32
  let c96000_i32_420 : BitVec 32 := 96000#32
  let v878 : BitVec 32 := Scalar.subi v877 c96000_i32_420
  let v879 : BitVec 32 := Scalar.maxsi c0_i32_421 v878
  let v880 : BitVec 32 := Scalar.minsi c3968_i32_422 v879
  let c4_i32_423 : BitVec 32 := 4#32
  let v881 : BitVec 32 := Scalar.shrui v880 c4_i32_423
  let c1_i32_434 : BitVec 32 := 1#32
  let v909 : BitVec 32 := Scalar.addi v881 c1_i32_434
  let c248_i32_435 : BitVec 32 := 248#32
  let v910 : BitVec 32 := Scalar.subi c248_i32_435 v909
  let c1_i32_436 : BitVec 32 := 1#32
  let v912 : BitVec 32 := Scalar.divsi v910 c1_i32_436
  let v913 : BitVec 32 := Scalar.muli v912 c1_i32_436
  let v914 : BitVec 32 := Scalar.addi v909 v913
  let v911 : BitVec 32 := Scalar.addi v909 v910
  let c1_i32_438 : BitVec 32 := 1#32
  ⟨v914, v911, c1_i32_438⟩
def k0_mult183 (v877 : BitVec 32) (k0_t125 : Fin (k0_t125_loop v877).trips) : BitVec 32 :=
  let c3968_i32_422 : BitVec 32 := 3968#32
  let c0_i32_421 : BitVec 32 := 0#32
  let c96000_i32_420 : BitVec 32 := 96000#32
  let v878 : BitVec 32 := Scalar.subi v877 c96000_i32_420
  let v879 : BitVec 32 := Scalar.maxsi c0_i32_421 v878
  let v880 : BitVec 32 := Scalar.minsi c3968_i32_422 v879
  let c4_i32_423 : BitVec 32 := 4#32
  let v881 : BitVec 32 := Scalar.shrui v880 c4_i32_423
  let c1_i32_434 : BitVec 32 := 1#32
  let v909 : BitVec 32 := Scalar.addi v881 c1_i32_434
  let c248_i32_435 : BitVec 32 := 248#32
  let v910 : BitVec 32 := Scalar.subi c248_i32_435 v909
  let c1_i32_436 : BitVec 32 := 1#32
  let v912 : BitVec 32 := Scalar.divsi v910 c1_i32_436
  let v913 : BitVec 32 := Scalar.muli v912 c1_i32_436
  let v914 : BitVec 32 := Scalar.addi v909 v913
  let c1_i32_438 : BitVec 32 := 1#32
  let arg18 : BitVec 32 := Scf.iv v914 c1_i32_438 k0_t125
  let c16_i32_538 : BitVec 32 := 16#32
  let v1280 : BitVec 32 := Scalar.muli arg18 c16_i32_538
  v1280
def k0_off182 (v877 : BitVec 32) (k0_t125 : Fin (k0_t125_loop v877).trips) : Fin 2 → Nat :=
  let c6_i32_539 : BitVec 32 := 6#32
  let v1282 : Index := Scalar.indexCast c6_i32_539
  let c3968_i32_422 : BitVec 32 := 3968#32
  let c0_i32_421 : BitVec 32 := 0#32
  let c96000_i32_420 : BitVec 32 := 96000#32
  let v878 : BitVec 32 := Scalar.subi v877 c96000_i32_420
  let v879 : BitVec 32 := Scalar.maxsi c0_i32_421 v878
  let v880 : BitVec 32 := Scalar.minsi c3968_i32_422 v879
  let c4_i32_423 : BitVec 32 := 4#32
  let v881 : BitVec 32 := Scalar.shrui v880 c4_i32_423
  let c1_i32_434 : BitVec 32 := 1#32
  let v909 : BitVec 32 := Scalar.addi v881 c1_i32_434
  let c248_i32_435 : BitVec 32 := 248#32
  let v910 : BitVec 32 := Scalar.subi c248_i32_435 v909
  let c1_i32_436 : BitVec 32 := 1#32
  let v912 : BitVec 32 := Scalar.divsi v910 c1_i32_436
  let v913 : BitVec 32 := Scalar.muli v912 c1_i32_436
  let v914 : BitVec 32 := Scalar.addi v909 v913
  let c1_i32_438 : BitVec 32 := 1#32
  let arg18 : BitVec 32 := Scf.iv v914 c1_i32_438 k0_t125
  let c16_i32_538 : BitVec 32 := 16#32
  let v1280 : BitVec 32 := Scalar.muli arg18 c16_i32_538
  let v1281 : BitVec 32 := v1280
  let v1283 : Index := Scalar.indexCast v1281
  ![6, v1283.toNat]

def k0_chk55 (v877 : BitVec 32) : Prop :=
  ((k0_t122_loop v877).OK) ∧
  (∀ k0_t122 : Fin (k0_t122_loop v877).trips, 16 ∣ (k0_mult179 v877 k0_t122).toNat) ∧
  (∀ k0_t122 : Fin (k0_t122_loop v877).trips, ∀ a, (k0_off178 v877 k0_t122) a + S1x16.size a ≤ S8x6400.size a) ∧
  ((k0_t123_loop v877).OK) ∧
  (∀ k0_t123 : Fin (k0_t123_loop v877).trips, 16 ∣ (k0_mult180 v877 k0_t123).toNat) ∧
  (∀ k0_t123 : Fin (k0_t123_loop v877).trips, ∀ a, (k0_off179 v877 k0_t123) a + S1x16.size a ≤ S8x6400.size a) ∧
  (16 ∣ (k0_mult181 v877).toNat) ∧
  (∀ a, (k0_off180 v877) a + S1x16.size a ≤ S8x6400.size a) ∧
  ((k0_t124_loop v877).OK) ∧
  (∀ k0_t124 : Fin (k0_t124_loop v877).trips, 16 ∣ (k0_mult182 v877 k0_t124).toNat) ∧
  (∀ k0_t124 : Fin (k0_t124_loop v877).trips, ∀ a, (k0_off181 v877 k0_t124) a + S1x16.size a ≤ S8x6400.size a) ∧
  ((k0_t125_loop v877).OK) ∧
  (∀ k0_t125 : Fin (k0_t125_loop v877).trips, 16 ∣ (k0_mult183 v877 k0_t125).toNat) ∧
  (∀ k0_t125 : Fin (k0_t125_loop v877).trips, ∀ a, (k0_off182 v877 k0_t125) a + S1x16.size a ≤ S8x6400.size a)
theorem k0_t122_ok : ∀ (v877 : BitVec 32) (k0_hw55 : k0_chk55 v877), (k0_t122_loop v877).OK := fun v877 k0_hw55 => k0_hw55.1
theorem k0_mult179_dvd : ∀ (v877 : BitVec 32) (k0_hw55 : k0_chk55 v877) (k0_t122 : Fin (k0_t122_loop v877).trips), 16 ∣ (k0_mult179 v877 k0_t122).toNat := fun v877 k0_hw55 k0_t122 => k0_hw55.2.1 k0_t122
theorem k0_off178_inb : ∀ (v877 : BitVec 32) (k0_hw55 : k0_chk55 v877) (k0_t122 : Fin (k0_t122_loop v877).trips), ∀ a, (k0_off178 v877 k0_t122) a + S1x16.size a ≤ S8x6400.size a := fun v877 k0_hw55 k0_t122 => k0_hw55.2.2.1 k0_t122
theorem k0_t123_ok : ∀ (v877 : BitVec 32) (k0_hw55 : k0_chk55 v877), (k0_t123_loop v877).OK := fun v877 k0_hw55 => k0_hw55.2.2.2.1
theorem k0_mult180_dvd : ∀ (v877 : BitVec 32) (k0_hw55 : k0_chk55 v877) (k0_t123 : Fin (k0_t123_loop v877).trips), 16 ∣ (k0_mult180 v877 k0_t123).toNat := fun v877 k0_hw55 k0_t123 => k0_hw55.2.2.2.2.1 k0_t123
theorem k0_off179_inb : ∀ (v877 : BitVec 32) (k0_hw55 : k0_chk55 v877) (k0_t123 : Fin (k0_t123_loop v877).trips), ∀ a, (k0_off179 v877 k0_t123) a + S1x16.size a ≤ S8x6400.size a := fun v877 k0_hw55 k0_t123 => k0_hw55.2.2.2.2.2.1 k0_t123
theorem k0_mult181_dvd : ∀ (v877 : BitVec 32) (k0_hw55 : k0_chk55 v877), 16 ∣ (k0_mult181 v877).toNat := fun v877 k0_hw55 => k0_hw55.2.2.2.2.2.2.1
theorem k0_off180_inb : ∀ (v877 : BitVec 32) (k0_hw55 : k0_chk55 v877), ∀ a, (k0_off180 v877) a + S1x16.size a ≤ S8x6400.size a := fun v877 k0_hw55 => k0_hw55.2.2.2.2.2.2.2.1
theorem k0_t124_ok : ∀ (v877 : BitVec 32) (k0_hw55 : k0_chk55 v877), (k0_t124_loop v877).OK := fun v877 k0_hw55 => k0_hw55.2.2.2.2.2.2.2.2.1
theorem k0_mult182_dvd : ∀ (v877 : BitVec 32) (k0_hw55 : k0_chk55 v877) (k0_t124 : Fin (k0_t124_loop v877).trips), 16 ∣ (k0_mult182 v877 k0_t124).toNat := fun v877 k0_hw55 k0_t124 => k0_hw55.2.2.2.2.2.2.2.2.2.1 k0_t124
theorem k0_off181_inb : ∀ (v877 : BitVec 32) (k0_hw55 : k0_chk55 v877) (k0_t124 : Fin (k0_t124_loop v877).trips), ∀ a, (k0_off181 v877 k0_t124) a + S1x16.size a ≤ S8x6400.size a := fun v877 k0_hw55 k0_t124 => k0_hw55.2.2.2.2.2.2.2.2.2.2.1 k0_t124
theorem k0_t125_ok : ∀ (v877 : BitVec 32) (k0_hw55 : k0_chk55 v877), (k0_t125_loop v877).OK := fun v877 k0_hw55 => k0_hw55.2.2.2.2.2.2.2.2.2.2.2.1
theorem k0_mult183_dvd : ∀ (v877 : BitVec 32) (k0_hw55 : k0_chk55 v877) (k0_t125 : Fin (k0_t125_loop v877).trips), 16 ∣ (k0_mult183 v877 k0_t125).toNat := fun v877 k0_hw55 k0_t125 => k0_hw55.2.2.2.2.2.2.2.2.2.2.2.2.1 k0_t125
theorem k0_off182_inb : ∀ (v877 : BitVec 32) (k0_hw55 : k0_chk55 v877) (k0_t125 : Fin (k0_t125_loop v877).trips), ∀ a, (k0_off182 v877 k0_t125) a + S1x16.size a ≤ S8x6400.size a := fun v877 k0_hw55 k0_t125 => k0_hw55.2.2.2.2.2.2.2.2.2.2.2.2.2 k0_t125

@[reducible] def k0_t126_loop (v918 : BitVec 32) : Scf.Loop 32 :=
  let c0_i32_443 : BitVec 32 := 0#32
  let c3968_i32_441 : BitVec 32 := 3968#32
  let c0_i32_440 : BitVec 32 := 0#32
  let c96000_i32_439 : BitVec 32 := 96000#32
  let v919 : BitVec 32 := Scalar.subi v918 c96000_i32_439
  let v920 : BitVec 32 := Scalar.maxsi c0_i32_440 v919
  let v921 : BitVec 32 := Scalar.minsi c3968_i32_441 v920
  let c4_i32_442 : BitVec 32 := 4#32
  let v922 : BitVec 32 := Scalar.shrui v921 c4_i32_442
  let v923 : BitVec 32 := Scalar.subi v922 c0_i32_443
  let c1_i32_444 : BitVec 32 := 1#32
  let v925 : BitVec 32 := Scalar.divsi v923 c1_i32_444
  let v926 : BitVec 32 := Scalar.muli v925 c1_i32_444
  let v927 : BitVec 32 := Scalar.addi c0_i32_443 v926
  let c1_i32_445 : BitVec 32 := 1#32
  ⟨c0_i32_443, v927, c1_i32_445⟩

def k0_mult184 (v918 : BitVec 32) (k0_t126 : Fin (k0_t126_loop v918).trips) : BitVec 32 :=
  let c0_i32_443 : BitVec 32 := 0#32
  let c1_i32_445 : BitVec 32 := 1#32
  let arg18 : BitVec 32 := Scf.iv c0_i32_443 c1_i32_445 k0_t126
  let c16_i32_538 : BitVec 32 := 16#32
  let v1280 : BitVec 32 := Scalar.muli arg18 c16_i32_538
  v1280
def k0_off183 (v918 : BitVec 32) (k0_t126 : Fin (k0_t126_loop v918).trips) : Fin 2 → Nat :=
  let c7_i32_539 : BitVec 32 := 7#32
  let v1282 : Index := Scalar.indexCast c7_i32_539
  let c0_i32_443 : BitVec 32 := 0#32
  let c1_i32_445 : BitVec 32 := 1#32
  let arg18 : BitVec 32 := Scf.iv c0_i32_443 c1_i32_445 k0_t126
  let c16_i32_538 : BitVec 32 := 16#32
  let v1280 : BitVec 32 := Scalar.muli arg18 c16_i32_538
  let v1281 : BitVec 32 := v1280
  let v1283 : Index := Scalar.indexCast v1281
  ![7, v1283.toNat]
@[reducible] def k0_t127_loop (v918 : BitVec 32) : Scf.Loop 32 :=
  let c0_i32_443 : BitVec 32 := 0#32
  let c3968_i32_441 : BitVec 32 := 3968#32
  let c0_i32_440 : BitVec 32 := 0#32
  let c96000_i32_439 : BitVec 32 := 96000#32
  let v919 : BitVec 32 := Scalar.subi v918 c96000_i32_439
  let v920 : BitVec 32 := Scalar.maxsi c0_i32_440 v919
  let v921 : BitVec 32 := Scalar.minsi c3968_i32_441 v920
  let c4_i32_442 : BitVec 32 := 4#32
  let v922 : BitVec 32 := Scalar.shrui v921 c4_i32_442
  let v923 : BitVec 32 := Scalar.subi v922 c0_i32_443
  let c1_i32_444 : BitVec 32 := 1#32
  let v925 : BitVec 32 := Scalar.divsi v923 c1_i32_444
  let v926 : BitVec 32 := Scalar.muli v925 c1_i32_444
  let v927 : BitVec 32 := Scalar.addi c0_i32_443 v926
  let v924 : BitVec 32 := Scalar.addi c0_i32_443 v923
  let c1_i32_446 : BitVec 32 := 1#32
  ⟨v927, v924, c1_i32_446⟩
def k0_mult185 (v918 : BitVec 32) (k0_t127 : Fin (k0_t127_loop v918).trips) : BitVec 32 :=
  let c0_i32_443 : BitVec 32 := 0#32
  let c3968_i32_441 : BitVec 32 := 3968#32
  let c0_i32_440 : BitVec 32 := 0#32
  let c96000_i32_439 : BitVec 32 := 96000#32
  let v919 : BitVec 32 := Scalar.subi v918 c96000_i32_439
  let v920 : BitVec 32 := Scalar.maxsi c0_i32_440 v919
  let v921 : BitVec 32 := Scalar.minsi c3968_i32_441 v920
  let c4_i32_442 : BitVec 32 := 4#32
  let v922 : BitVec 32 := Scalar.shrui v921 c4_i32_442
  let v923 : BitVec 32 := Scalar.subi v922 c0_i32_443
  let c1_i32_444 : BitVec 32 := 1#32
  let v925 : BitVec 32 := Scalar.divsi v923 c1_i32_444
  let v926 : BitVec 32 := Scalar.muli v925 c1_i32_444
  let v927 : BitVec 32 := Scalar.addi c0_i32_443 v926
  let c1_i32_446 : BitVec 32 := 1#32
  let arg18 : BitVec 32 := Scf.iv v927 c1_i32_446 k0_t127
  let c16_i32_538 : BitVec 32 := 16#32
  let v1280 : BitVec 32 := Scalar.muli arg18 c16_i32_538
  v1280
def k0_off184 (v918 : BitVec 32) (k0_t127 : Fin (k0_t127_loop v918).trips) : Fin 2 → Nat :=
  let c7_i32_539 : BitVec 32 := 7#32
  let v1282 : Index := Scalar.indexCast c7_i32_539
  let c0_i32_443 : BitVec 32 := 0#32
  let c3968_i32_441 : BitVec 32 := 3968#32
  let c0_i32_440 : BitVec 32 := 0#32
  let c96000_i32_439 : BitVec 32 := 96000#32
  let v919 : BitVec 32 := Scalar.subi v918 c96000_i32_439
  let v920 : BitVec 32 := Scalar.maxsi c0_i32_440 v919
  let v921 : BitVec 32 := Scalar.minsi c3968_i32_441 v920
  let c4_i32_442 : BitVec 32 := 4#32
  let v922 : BitVec 32 := Scalar.shrui v921 c4_i32_442
  let v923 : BitVec 32 := Scalar.subi v922 c0_i32_443
  let c1_i32_444 : BitVec 32 := 1#32
  let v925 : BitVec 32 := Scalar.divsi v923 c1_i32_444
  let v926 : BitVec 32 := Scalar.muli v925 c1_i32_444
  let v927 : BitVec 32 := Scalar.addi c0_i32_443 v926
  let c1_i32_446 : BitVec 32 := 1#32
  let arg18 : BitVec 32 := Scf.iv v927 c1_i32_446 k0_t127
  let c16_i32_538 : BitVec 32 := 16#32
  let v1280 : BitVec 32 := Scalar.muli arg18 c16_i32_538
  let v1281 : BitVec 32 := v1280
  let v1283 : Index := Scalar.indexCast v1281
  ![7, v1283.toNat]
def k0_mult186 (v918 : BitVec 32) : BitVec 32 :=
  let c3968_i32_441 : BitVec 32 := 3968#32
  let c0_i32_440 : BitVec 32 := 0#32
  let c96000_i32_439 : BitVec 32 := 96000#32
  let v919 : BitVec 32 := Scalar.subi v918 c96000_i32_439
  let v920 : BitVec 32 := Scalar.maxsi c0_i32_440 v919
  let v921 : BitVec 32 := Scalar.minsi c3968_i32_441 v920
  let c4_i32_442 : BitVec 32 := 4#32
  let v922 : BitVec 32 := Scalar.shrui v921 c4_i32_442
  let c247_i32_447 : BitVec 32 := 247#32
  let v930 : BitVec 32 := Scalar.minsi v922 c247_i32_447
  let c16_i32_448 : BitVec 32 := 16#32
  let v931 : BitVec 32 := Scalar.muli v930 c16_i32_448
  v931
def k0_off185 (v918 : BitVec 32) : Fin 2 → Nat :=
  let c7_i32_449 : BitVec 32 := 7#32
  let v933 : Index := Scalar.indexCast c7_i32_449
  let c3968_i32_441 : BitVec 32 := 3968#32
  let c0_i32_440 : BitVec 32 := 0#32
  let c96000_i32_439 : BitVec 32 := 96000#32
  let v919 : BitVec 32 := Scalar.subi v918 c96000_i32_439
  let v920 : BitVec 32 := Scalar.maxsi c0_i32_440 v919
  let v921 : BitVec 32 := Scalar.minsi c3968_i32_441 v920
  let c4_i32_442 : BitVec 32 := 4#32
  let v922 : BitVec 32 := Scalar.shrui v921 c4_i32_442
  let c247_i32_447 : BitVec 32 := 247#32
  let v930 : BitVec 32 := Scalar.minsi v922 c247_i32_447
  let c16_i32_448 : BitVec 32 := 16#32
  let v931 : BitVec 32 := Scalar.muli v930 c16_i32_448
  let v932 : BitVec 32 := v931
  let v934 : Index := Scalar.indexCast v932
  ![7, v934.toNat]
@[reducible] def k0_t128_loop (v918 : BitVec 32) : Scf.Loop 32 :=
  let c3968_i32_441 : BitVec 32 := 3968#32
  let c0_i32_440 : BitVec 32 := 0#32
  let c96000_i32_439 : BitVec 32 := 96000#32
  let v919 : BitVec 32 := Scalar.subi v918 c96000_i32_439
  let v920 : BitVec 32 := Scalar.maxsi c0_i32_440 v919
  let v921 : BitVec 32 := Scalar.minsi c3968_i32_441 v920
  let c4_i32_442 : BitVec 32 := 4#32
  let v922 : BitVec 32 := Scalar.shrui v921 c4_i32_442
  let c1_i32_453 : BitVec 32 := 1#32
  let v950 : BitVec 32 := Scalar.addi v922 c1_i32_453
  let c248_i32_454 : BitVec 32 := 248#32
  let v951 : BitVec 32 := Scalar.subi c248_i32_454 v950
  let c1_i32_455 : BitVec 32 := 1#32
  let v953 : BitVec 32 := Scalar.divsi v951 c1_i32_455
  let v954 : BitVec 32 := Scalar.muli v953 c1_i32_455
  let v955 : BitVec 32 := Scalar.addi v950 v954
  let c1_i32_456 : BitVec 32 := 1#32
  ⟨v950, v955, c1_i32_456⟩
def k0_mult187 (v918 : BitVec 32) (k0_t128 : Fin (k0_t128_loop v918).trips) : BitVec 32 :=
  let c3968_i32_441 : BitVec 32 := 3968#32
  let c0_i32_440 : BitVec 32 := 0#32
  let c96000_i32_439 : BitVec 32 := 96000#32
  let v919 : BitVec 32 := Scalar.subi v918 c96000_i32_439
  let v920 : BitVec 32 := Scalar.maxsi c0_i32_440 v919
  let v921 : BitVec 32 := Scalar.minsi c3968_i32_441 v920
  let c4_i32_442 : BitVec 32 := 4#32
  let v922 : BitVec 32 := Scalar.shrui v921 c4_i32_442
  let c1_i32_453 : BitVec 32 := 1#32
  let v950 : BitVec 32 := Scalar.addi v922 c1_i32_453
  let c1_i32_456 : BitVec 32 := 1#32
  let arg18 : BitVec 32 := Scf.iv v950 c1_i32_456 k0_t128
  let c16_i32_538 : BitVec 32 := 16#32
  let v1280 : BitVec 32 := Scalar.muli arg18 c16_i32_538
  v1280
def k0_off186 (v918 : BitVec 32) (k0_t128 : Fin (k0_t128_loop v918).trips) : Fin 2 → Nat :=
  let c7_i32_539 : BitVec 32 := 7#32
  let v1282 : Index := Scalar.indexCast c7_i32_539
  let c3968_i32_441 : BitVec 32 := 3968#32
  let c0_i32_440 : BitVec 32 := 0#32
  let c96000_i32_439 : BitVec 32 := 96000#32
  let v919 : BitVec 32 := Scalar.subi v918 c96000_i32_439
  let v920 : BitVec 32 := Scalar.maxsi c0_i32_440 v919
  let v921 : BitVec 32 := Scalar.minsi c3968_i32_441 v920
  let c4_i32_442 : BitVec 32 := 4#32
  let v922 : BitVec 32 := Scalar.shrui v921 c4_i32_442
  let c1_i32_453 : BitVec 32 := 1#32
  let v950 : BitVec 32 := Scalar.addi v922 c1_i32_453
  let c1_i32_456 : BitVec 32 := 1#32
  let arg18 : BitVec 32 := Scf.iv v950 c1_i32_456 k0_t128
  let c16_i32_538 : BitVec 32 := 16#32
  let v1280 : BitVec 32 := Scalar.muli arg18 c16_i32_538
  let v1281 : BitVec 32 := v1280
  let v1283 : Index := Scalar.indexCast v1281
  ![7, v1283.toNat]
@[reducible] def k0_t129_loop (v918 : BitVec 32) : Scf.Loop 32 :=
  let c3968_i32_441 : BitVec 32 := 3968#32
  let c0_i32_440 : BitVec 32 := 0#32
  let c96000_i32_439 : BitVec 32 := 96000#32
  let v919 : BitVec 32 := Scalar.subi v918 c96000_i32_439
  let v920 : BitVec 32 := Scalar.maxsi c0_i32_440 v919
  let v921 : BitVec 32 := Scalar.minsi c3968_i32_441 v920
  let c4_i32_442 : BitVec 32 := 4#32
  let v922 : BitVec 32 := Scalar.shrui v921 c4_i32_442
  let c1_i32_453 : BitVec 32 := 1#32
  let v950 : BitVec 32 := Scalar.addi v922 c1_i32_453
  let c248_i32_454 : BitVec 32 := 248#32
  let v951 : BitVec 32 := Scalar.subi c248_i32_454 v950
  let c1_i32_455 : BitVec 32 := 1#32
  let v953 : BitVec 32 := Scalar.divsi v951 c1_i32_455
  let v954 : BitVec 32 := Scalar.muli v953 c1_i32_455
  let v955 : BitVec 32 := Scalar.addi v950 v954
  let v952 : BitVec 32 := Scalar.addi v950 v951
  let c1_i32_457 : BitVec 32 := 1#32
  ⟨v955, v952, c1_i32_457⟩
def k0_mult188 (v918 : BitVec 32) (k0_t129 : Fin (k0_t129_loop v918).trips) : BitVec 32 :=
  let c3968_i32_441 : BitVec 32 := 3968#32
  let c0_i32_440 : BitVec 32 := 0#32
  let c96000_i32_439 : BitVec 32 := 96000#32
  let v919 : BitVec 32 := Scalar.subi v918 c96000_i32_439
  let v920 : BitVec 32 := Scalar.maxsi c0_i32_440 v919
  let v921 : BitVec 32 := Scalar.minsi c3968_i32_441 v920
  let c4_i32_442 : BitVec 32 := 4#32
  let v922 : BitVec 32 := Scalar.shrui v921 c4_i32_442
  let c1_i32_453 : BitVec 32 := 1#32
  let v950 : BitVec 32 := Scalar.addi v922 c1_i32_453
  let c248_i32_454 : BitVec 32 := 248#32
  let v951 : BitVec 32 := Scalar.subi c248_i32_454 v950
  let c1_i32_455 : BitVec 32 := 1#32
  let v953 : BitVec 32 := Scalar.divsi v951 c1_i32_455
  let v954 : BitVec 32 := Scalar.muli v953 c1_i32_455
  let v955 : BitVec 32 := Scalar.addi v950 v954
  let c1_i32_457 : BitVec 32 := 1#32
  let arg18 : BitVec 32 := Scf.iv v955 c1_i32_457 k0_t129
  let c16_i32_538 : BitVec 32 := 16#32
  let v1280 : BitVec 32 := Scalar.muli arg18 c16_i32_538
  v1280
def k0_off187 (v918 : BitVec 32) (k0_t129 : Fin (k0_t129_loop v918).trips) : Fin 2 → Nat :=
  let c7_i32_539 : BitVec 32 := 7#32
  let v1282 : Index := Scalar.indexCast c7_i32_539
  let c3968_i32_441 : BitVec 32 := 3968#32
  let c0_i32_440 : BitVec 32 := 0#32
  let c96000_i32_439 : BitVec 32 := 96000#32
  let v919 : BitVec 32 := Scalar.subi v918 c96000_i32_439
  let v920 : BitVec 32 := Scalar.maxsi c0_i32_440 v919
  let v921 : BitVec 32 := Scalar.minsi c3968_i32_441 v920
  let c4_i32_442 : BitVec 32 := 4#32
  let v922 : BitVec 32 := Scalar.shrui v921 c4_i32_442
  let c1_i32_453 : BitVec 32 := 1#32
  let v950 : BitVec 32 := Scalar.addi v922 c1_i32_453
  let c248_i32_454 : BitVec 32 := 248#32
  let v951 : BitVec 32 := Scalar.subi c248_i32_454 v950
  let c1_i32_455 : BitVec 32 := 1#32
  let v953 : BitVec 32 := Scalar.divsi v951 c1_i32_455
  let v954 : BitVec 32 := Scalar.muli v953 c1_i32_455
  let v955 : BitVec 32 := Scalar.addi v950 v954
  let c1_i32_457 : BitVec 32 := 1#32
  let arg18 : BitVec 32 := Scf.iv v955 c1_i32_457 k0_t129
  let c16_i32_538 : BitVec 32 := 16#32
  let v1280 : BitVec 32 := Scalar.muli arg18 c16_i32_538
  let v1281 : BitVec 32 := v1280
  let v1283 : Index := Scalar.indexCast v1281
  ![7, v1283.toNat]

def k0_chk56 (v918 : BitVec 32) : Prop :=
  ((k0_t126_loop v918).OK) ∧
  (∀ k0_t126 : Fin (k0_t126_loop v918).trips, 16 ∣ (k0_mult184 v918 k0_t126).toNat) ∧
  (∀ k0_t126 : Fin (k0_t126_loop v918).trips, ∀ a, (k0_off183 v918 k0_t126) a + S1x16.size a ≤ S8x6400.size a) ∧
  ((k0_t127_loop v918).OK) ∧
  (∀ k0_t127 : Fin (k0_t127_loop v918).trips, 16 ∣ (k0_mult185 v918 k0_t127).toNat) ∧
  (∀ k0_t127 : Fin (k0_t127_loop v918).trips, ∀ a, (k0_off184 v918 k0_t127) a + S1x16.size a ≤ S8x6400.size a) ∧
  (16 ∣ (k0_mult186 v918).toNat) ∧
  (∀ a, (k0_off185 v918) a + S1x16.size a ≤ S8x6400.size a) ∧
  ((k0_t128_loop v918).OK) ∧
  (∀ k0_t128 : Fin (k0_t128_loop v918).trips, 16 ∣ (k0_mult187 v918 k0_t128).toNat) ∧
  (∀ k0_t128 : Fin (k0_t128_loop v918).trips, ∀ a, (k0_off186 v918 k0_t128) a + S1x16.size a ≤ S8x6400.size a) ∧
  ((k0_t129_loop v918).OK) ∧
  (∀ k0_t129 : Fin (k0_t129_loop v918).trips, 16 ∣ (k0_mult188 v918 k0_t129).toNat) ∧
  (∀ k0_t129 : Fin (k0_t129_loop v918).trips, ∀ a, (k0_off187 v918 k0_t129) a + S1x16.size a ≤ S8x6400.size a)
theorem k0_t126_ok : ∀ (v918 : BitVec 32) (k0_hw56 : k0_chk56 v918), (k0_t126_loop v918).OK := fun v918 k0_hw56 => k0_hw56.1
theorem k0_mult184_dvd : ∀ (v918 : BitVec 32) (k0_hw56 : k0_chk56 v918) (k0_t126 : Fin (k0_t126_loop v918).trips), 16 ∣ (k0_mult184 v918 k0_t126).toNat := fun v918 k0_hw56 k0_t126 => k0_hw56.2.1 k0_t126
theorem k0_off183_inb : ∀ (v918 : BitVec 32) (k0_hw56 : k0_chk56 v918) (k0_t126 : Fin (k0_t126_loop v918).trips), ∀ a, (k0_off183 v918 k0_t126) a + S1x16.size a ≤ S8x6400.size a := fun v918 k0_hw56 k0_t126 => k0_hw56.2.2.1 k0_t126
theorem k0_t127_ok : ∀ (v918 : BitVec 32) (k0_hw56 : k0_chk56 v918), (k0_t127_loop v918).OK := fun v918 k0_hw56 => k0_hw56.2.2.2.1
theorem k0_mult185_dvd : ∀ (v918 : BitVec 32) (k0_hw56 : k0_chk56 v918) (k0_t127 : Fin (k0_t127_loop v918).trips), 16 ∣ (k0_mult185 v918 k0_t127).toNat := fun v918 k0_hw56 k0_t127 => k0_hw56.2.2.2.2.1 k0_t127
theorem k0_off184_inb : ∀ (v918 : BitVec 32) (k0_hw56 : k0_chk56 v918) (k0_t127 : Fin (k0_t127_loop v918).trips), ∀ a, (k0_off184 v918 k0_t127) a + S1x16.size a ≤ S8x6400.size a := fun v918 k0_hw56 k0_t127 => k0_hw56.2.2.2.2.2.1 k0_t127
theorem k0_mult186_dvd : ∀ (v918 : BitVec 32) (k0_hw56 : k0_chk56 v918), 16 ∣ (k0_mult186 v918).toNat := fun v918 k0_hw56 => k0_hw56.2.2.2.2.2.2.1
theorem k0_off185_inb : ∀ (v918 : BitVec 32) (k0_hw56 : k0_chk56 v918), ∀ a, (k0_off185 v918) a + S1x16.size a ≤ S8x6400.size a := fun v918 k0_hw56 => k0_hw56.2.2.2.2.2.2.2.1
theorem k0_t128_ok : ∀ (v918 : BitVec 32) (k0_hw56 : k0_chk56 v918), (k0_t128_loop v918).OK := fun v918 k0_hw56 => k0_hw56.2.2.2.2.2.2.2.2.1
theorem k0_mult187_dvd : ∀ (v918 : BitVec 32) (k0_hw56 : k0_chk56 v918) (k0_t128 : Fin (k0_t128_loop v918).trips), 16 ∣ (k0_mult187 v918 k0_t128).toNat := fun v918 k0_hw56 k0_t128 => k0_hw56.2.2.2.2.2.2.2.2.2.1 k0_t128
theorem k0_off186_inb : ∀ (v918 : BitVec 32) (k0_hw56 : k0_chk56 v918) (k0_t128 : Fin (k0_t128_loop v918).trips), ∀ a, (k0_off186 v918 k0_t128) a + S1x16.size a ≤ S8x6400.size a := fun v918 k0_hw56 k0_t128 => k0_hw56.2.2.2.2.2.2.2.2.2.2.1 k0_t128
theorem k0_t129_ok : ∀ (v918 : BitVec 32) (k0_hw56 : k0_chk56 v918), (k0_t129_loop v918).OK := fun v918 k0_hw56 => k0_hw56.2.2.2.2.2.2.2.2.2.2.2.1
theorem k0_mult188_dvd : ∀ (v918 : BitVec 32) (k0_hw56 : k0_chk56 v918) (k0_t129 : Fin (k0_t129_loop v918).trips), 16 ∣ (k0_mult188 v918 k0_t129).toNat := fun v918 k0_hw56 k0_t129 => k0_hw56.2.2.2.2.2.2.2.2.2.2.2.2.1 k0_t129
theorem k0_off187_inb : ∀ (v918 : BitVec 32) (k0_hw56 : k0_chk56 v918) (k0_t129 : Fin (k0_t129_loop v918).trips), ∀ a, (k0_off187 v918 k0_t129) a + S1x16.size a ≤ S8x6400.size a := fun v918 k0_hw56 k0_t129 => k0_hw56.2.2.2.2.2.2.2.2.2.2.2.2.2 k0_t129

def k0_off188 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_537 : BitVec 32 := 16#32
  let v1279 : BitVec 32 := Scalar.muli v1 c16_i32_537
  ![v1279.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x8x100000 : Shape := ⟨3, ![32, 8, 100000]⟩
abbrev S32x8 : Shape := ⟨2, ![32, 8]⟩
abbrev S256x100000 : Shape := ⟨2, ![256, 100000]⟩
abbrev S256 : Shape := ⟨1, ![256]⟩
abbrev S256x5 : Shape := ⟨2, ![256, 5]⟩
abbrev S256x1 : Shape := ⟨2, ![256, 1]⟩
abbrev S_ : Shape := ⟨0, ![]⟩
abbrev S1 : Shape := ⟨1, ![1]⟩

abbrev nBuf : Space → Nat
  | .hbm => 22
  | .vmem => 0
  | .smem => 0
  | _ => 0

abbrev bufTy : (tb : Table) → Fin (tcTables nBuf tb) → BufTy
  | .hbm, ⟨0, _⟩ => ⟨S32x8x100000, .f32⟩
  | .hbm, ⟨1, _⟩ => ⟨S32x8, .i32⟩
  | .hbm, ⟨2, _⟩ => ⟨S32x8, .i32⟩
  | .hbm, ⟨3, _⟩ => ⟨S256x100000, .f32⟩
  | .hbm, ⟨4, _⟩ => ⟨S256, .i32⟩
  | .hbm, ⟨5, _⟩ => ⟨S256, .i32⟩
  | .hbm, ⟨6, _⟩ => ⟨S256, .f32⟩
  | .hbm, ⟨7, _⟩ => ⟨S256x5, .f32⟩
  | .hbm, ⟨8, _⟩ => ⟨S256x5, .i32⟩
  | .hbm, ⟨9, _⟩ => ⟨S256x1, .i32⟩
  | .hbm, ⟨10, _⟩ => ⟨S256x5, .i32⟩
  | .hbm, ⟨11, _⟩ => ⟨S256x5, .i1⟩
  | .hbm, ⟨12, _⟩ => ⟨S_, .i1⟩
  | .hbm, ⟨13, _⟩ => ⟨S256, .i1⟩
  | .hbm, ⟨14, _⟩ => ⟨S256, .f32⟩
  | .hbm, ⟨15, _⟩ => ⟨S256, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1, .f32⟩
  | _, _ => ⟨S32x8x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_values : Ref sig .tc := ⟨.hbm, 7, rfl⟩
abbrev main_indices : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Proof.Words.lean ====
/-
  The words the kernel computes a block of its count with: how many vectors of a chunk lie wholly below the target's
  column, the bounds of the block's loops, and the columns its loads start at. A block's side condition is one statement
  over the row, the number of vectors below the target and the chunk's length; it holds of every target.
-/
module

public import proofs.«01_k».proof.Proof.Gen.KernelIdeal
public import proofs.«01_k».proof.Proof.Gen.KernelIdeal.Skeleton

@[expose] public section

noncomputable section

namespace Cert.Proof.Rank

open Cert.KernelIdeal Cert.KernelIdeal.Gen
open Idealize.ShloMosaic

/-- The number of 16-lane vectors of the chunk at column `cb`, `w` columns long, that lie wholly below column `t`. -/
def nge (t cb w : BitVec 32) : BitVec 32 := Scalar.shrui (Scalar.minsi w (Scalar.maxsi 0#32 (Scalar.subi t cb))) 4#32

/-- The loop over the vectors below the target's, -/
@[reducible] def geL (n : BitVec 32) : Scf.Loop 32 := ⟨0#32, Scalar.addi 0#32 (Scalar.muli (Scalar.divsi (Scalar.subi n 0#32) 1#32) 1#32), 1#32⟩
/-- what a step of one leaves over of it, -/
@[reducible] def geR (n : BitVec 32) : Scf.Loop 32 :=
  ⟨Scalar.addi 0#32 (Scalar.muli (Scalar.divsi (Scalar.subi n 0#32) 1#32) 1#32), Scalar.addi 0#32 (Scalar.subi n 0#32), 1#32⟩
/-- the loop over the vectors above the target's, of `nv` vectors in all, -/
@[reducible] def gtL (nv n : BitVec 32) : Scf.Loop 32 :=
  ⟨Scalar.addi n 1#32, Scalar.addi (Scalar.addi n 1#32) (Scalar.muli (Scalar.divsi (Scalar.subi nv (Scalar.addi n 1#32)) 1#32) 1#32), 1#32⟩
/-- and what a step of one leaves over of that. -/
@[reducible] def gtR (nv n : BitVec 32) : Scf.Loop 32 :=
  ⟨Scalar.addi (Scalar.addi n 1#32) (Scalar.muli (Scalar.divsi (Scalar.subi nv (Scalar.addi n 1#32)) 1#32) 1#32),
    Scalar.addi (Scalar.addi n 1#32) (Scalar.subi nv (Scalar.addi n 1#32)), 1#32⟩

/-- The column of trip `k` of a loop that starts at vector `lb`. -/
def colAt (lb : BitVec 32) (k : Nat) : BitVec 32 := Scalar.muli (Scf.iv lb 1#32 k) 16#32
/-- The column of the target's own vector, the last vector's where the target is not in the chunk. -/
def colT (cl n : BitVec 32) : BitVec 32 := Scalar.muli (Scalar.minsi n cl) 16#32
/-- Row `j` at the column a word says. -/
def offAt (j : Nat) (w : BitVec 32) : Fin 2 → Nat := ![j, (Scalar.indexCast w).toNat]

/-- A block's side condition: its loops have a meaning, the columns are multiples of sixteen, the loads are in the
    buffer. -/
def Chk (j : Nat) (nv cl n : BitVec 32) : Prop :=
  ((geL n).OK) ∧
  (∀ k : Fin (geL n).trips, 16 ∣ (colAt 0#32 k).toNat) ∧
  (∀ k : Fin (geL n).trips, ∀ a, (offAt j (colAt 0#32 k)) a + S1x16.size a ≤ S8x6400.size a) ∧
  ((geR n).OK) ∧
  (∀ k : Fin (geR n).trips, 16 ∣ (colAt (geR n).lb k).toNat) ∧
  (∀ k : Fin (geR n).trips, ∀ a, (offAt j (colAt (geR n).lb k)) a + S1x16.size a ≤ S8x6400.size a) ∧
  (16 ∣ (colT cl n).toNat) ∧
  (∀ a, (offAt j (colT cl n)) a + S1x16.size a ≤ S8x6400.size a) ∧
  ((gtL nv n).OK) ∧
  (∀ k : Fin (gtL nv n).trips, 16 ∣ (colAt (gtL nv n).lb k).toNat) ∧
  (∀ k : Fin (gtL nv n).trips, ∀ a, (offAt j (colAt (gtL nv n).lb k)) a + S1x16.size a ≤ S8x6400.size a) ∧
  ((gtR nv n).OK) ∧
  (∀ k : Fin (gtR nv n).trips, 16 ∣ (colAt (gtR nv n).lb k).toNat) ∧
  (∀ k : Fin (gtR nv n).trips, ∀ a, (offAt j (colAt (gtR nv n).lb k)) a + S1x16.size a ≤ S8x6400.size a)

/-- Division by one. -/
theorem divsi_one (x : BitVec 32) : Scalar.divsi x 1#32 = x := by
  unfold Scalar.divsi IntOp.divsi
  rw [if_neg, BitVec.sdiv_one]
  unfold IntOp.SDivCorner
  simp

theorem geL_ub (n : BitVec 32) : (geL n).ub = n := by
  simp [geL, divsi_one, Scalar.addi, Scalar.muli, Scalar.subi, IntOp.addi, IntOp.muli, IntOp.subi]
theorem geR_lb (n : BitVec 32) : (geR n).lb = n := geL_ub n
theorem geR_ub (n : BitVec 32) : (geR n).ub = n := by
  simp [geR, Scalar.addi, Scalar.subi, IntOp.addi, IntOp.subi]
theorem gtL_ub (nv n : BitVec 32) : (gtL nv n).ub = nv := by
  simp only [gtL, divsi_one, Scalar.addi, Scalar.muli, Scalar.subi, IntOp.addi, IntOp.muli, IntOp.subi, BitVec.mul_one]
  rw [BitVec.add_comm, BitVec.sub_add_cancel]
theorem gtR_lb (nv n : BitVec 32) : (gtR nv n).lb = nv := gtL_ub nv n
theorem gtR_ub (nv n : BitVec 32) : (gtR nv n).ub = nv := by
  simp only [gtR, Scalar.addi, Scalar.subi, IntOp.addi, IntOp.subi]
  rw [BitVec.add_comm, BitVec.sub_add_cancel]

theorem toInt_small {n : BitVec 32} (h : n.toNat ≤ 1000) : n.toInt = n.toNat := by
  rw [BitVec.toInt_eq_toNat_of_lt]; omega

/-- The trips of a loop with step one over small bounds. -/
theorem trips_one {lb ub : BitVec 32} (hl : lb.toNat ≤ 1000) (hu : ub.toNat ≤ 1000) :
    Scf.trips lb ub 1#32 = ub.toNat - lb.toNat := by
  unfold Scf.trips
  rw [toInt_small hl, toInt_small hu, show (1#32 : BitVec 32).toInt = 1 from rfl]
  omega

theorem ok_one {lb ub : BitVec 32} (hl : lb.toNat ≤ 1000) (hu : ub.toNat ≤ 1000) : Scf.OK lb ub 1#32 := by
  unfold Scf.OK
  rw [trips_one hl hu, toInt_small hl, show (1#32 : BitVec 32).toInt = 1 from rfl]
  omega

theorem toNat_colAt {lb : BitVec 32} {k : Nat} (hl : lb.toNat + k ≤ 1000) : (colAt lb k).toNat = 16 * (lb.toNat + k) := by
  unfold colAt Scalar.muli IntOp.muli Scf.iv
  simp only [BitVec.toNat_mul, BitVec.toNat_add, BitVec.toNat_ofNat]
  omega

theorem minsi_toNat {x y : BitVec 32} (hx : x.toNat ≤ 1000) (hy : y.toNat ≤ 1000) : (Scalar.minsi x y).toNat = min x.toNat y.toNat := by
  unfold Scalar.minsi IntOp.minsi
  rw [BitVec.slt_eq_decide, toInt_small hx, toInt_small hy]
  split <;> rename_i h <;> simp only [decide_eq_true_eq] at h <;> omega

theorem toNat_colT {cl n : BitVec 32} (hc : cl.toNat ≤ 399) (hn : n.toNat ≤ 400) : (colT cl n).toNat = 16 * min n.toNat cl.toNat := by
  unfold colT
  rw [show ∀ x, Scalar.muli x 16#32 = x * 16#32 from fun _ => rfl, BitVec.toNat_mul, minsi_toNat (by omega) (by omega)]
  simp only [BitVec.toNat_ofNat]
  omega

theorem offAt_eq (j : Nat) {w : BitVec 32} (hw : w.toNat ≤ 100000) : offAt j w = ![j, w.toNat] := by
  unfold offAt Scalar.indexCast
  congr 2

theorem offAt_inb {j : Nat} (hj : j < 8) {w : BitVec 32} (hw : w.toNat + 16 ≤ 6400) (a : Fin 2) :
    (offAt j w) a + S1x16.size a ≤ S8x6400.size a := by
  rw [offAt_eq j (by omega)]
  match a with
  | 0 => show j + 1 ≤ 8; omega
  | 1 => show w.toNat + 16 ≤ 6400; omega

theorem add_one_toNat {n : BitVec 32} (h : n.toNat ≤ 400) : (Scalar.addi n 1#32).toNat = n.toNat + 1 := by
  unfold Scalar.addi IntOp.addi
  rw [BitVec.toNat_add]; simp only [BitVec.toNat_ofNat]; omega

/-- The side condition holds in every row, whatever the number of vectors below the target. -/
theorem chk_holds {j : Nat} (hj : j < 8) {nv cl n : BitVec 32} (hnv : nv.toNat ≤ 400) (hcl : cl.toNat ≤ 399) (hn : n.toNat ≤ 400) :
    Chk j nv cl n := by
  have h1 := add_one_toNat hn
  have t1 : (geL n).trips = n.toNat := by
    show Scf.trips 0#32 (geL n).ub 1#32 = _
    rw [geL_ub, trips_one (by simp) (by omega)]; simp
  have t2 : (geR n).trips = 0 := by
    show Scf.trips (geR n).lb (geR n).ub 1#32 = _
    rw [geR_lb, geR_ub, trips_one (by omega) (by omega)]; simp
  have t3 : (gtL nv n).trips = nv.toNat - (n.toNat + 1) := by
    show Scf.trips (Scalar.addi n 1#32) (gtL nv n).ub 1#32 = _
    rw [gtL_ub, trips_one (by omega) (by omega), h1]
  have t4 : (gtR nv n).trips = 0 := by
    show Scf.trips (gtR nv n).lb (gtR nv n).ub 1#32 = _
    rw [gtR_lb, gtR_ub, trips_one (by omega) (by omega)]; simp
  refine ⟨?_, fun k => ?_, fun k => ?_, ?_, fun k => absurd k.isLt (by omega), fun k => absurd k.isLt (by omega), ?_, ?_, ?_,
    fun k => ?_, fun k => ?_, ?_, fun k => absurd k.isLt (by omega), fun k => absurd k.isLt (by omega)⟩
  · show Scf.OK 0#32 (geL n).ub 1#32
    rw [geL_ub]; exact ok_one (by simp) (by omega)
  · have := k.isLt
    rw [toNat_colAt (by simp; omega)]; exact Nat.dvd_mul_right _ _
  · have := k.isLt
    exact offAt_inb hj (by rw [toNat_colAt (by simp; omega)]; simp; omega)
  · show Scf.OK (geR n).lb (geR n).ub 1#32
    rw [geR_lb, geR_ub]; exact ok_one (by omega) (by omega)
  · rw [toNat_colT hcl hn]; exact Nat.dvd_mul_right _ _
  · exact offAt_inb hj (by rw [toNat_colT hcl hn]; omega)
  · show Scf.OK (Scalar.addi n 1#32) (gtL nv n).ub 1#32
    rw [gtL_ub]; exact ok_one (by omega) (by omega)
  · have := k.isLt
    rw [toNat_colAt (by show (Scalar.addi n 1#32).toNat + _ ≤ _; omega)]; exact Nat.dvd_mul_right _ _
  · have := k.isLt
    exact offAt_inb hj (by rw [toNat_colAt (by show (Scalar.addi n 1#32).toNat + _ ≤ _; omega)]; show 16 * ((Scalar.addi n 1#32).toNat + _) + 16 ≤ _; omega)
  · show Scf.OK (gtR nv n).lb (gtR nv n).ub 1#32
    rw [gtR_lb, gtR_ub]; exact ok_one (by omega) (by omega)

/-- The number of vectors below the target, as a number. -/
theorem toNat_nge {t cb w : BitVec 32} {C N : Nat} (ht : t.toNat < 100000) (hcb : cb.toNat = C) (hC : C ≤ 100000)
    (hw : w.toNat = 16 * N) (hN : N ≤ 400) : (nge t cb w).toNat = min N ((t.toNat - C) / 16) := by
  have hm : (Scalar.maxsi 0#32 (Scalar.subi t cb)).toNat = t.toNat - C := by
    unfold Scalar.maxsi IntOp.maxsi Scalar.subi IntOp.subi
    rw [BitVec.slt_eq_decide]
    by_cases h : C ≤ t.toNat
    · have hs : (t - cb).toNat = t.toNat - C := by rw [BitVec.toNat_sub_of_le (by rw [BitVec.le_def]; omega), hcb]
      have hi : (t - cb).toInt = ((t.toNat - C : Nat) : Int) := by rw [BitVec.toInt_eq_toNat_of_lt (by omega), hs]
      rw [if_neg (by rw [hi]; simp), hs]
    · have hs : (t - cb).toInt = (t.toNat : Int) - C := by
        rw [BitVec.toInt_sub, BitVec.toInt_eq_toNat_of_lt (by omega), BitVec.toInt_eq_toNat_of_lt (by omega), hcb]
        rw [Int.bmod_def]; omega
      rw [if_pos (by rw [hs]; simp; omega)]
      simp; omega
  have hmi : (Scalar.minsi w (Scalar.maxsi 0#32 (Scalar.subi t cb))).toNat = min (16 * N) (t.toNat - C) := by
    generalize Scalar.maxsi 0#32 (Scalar.subi t cb) = y at hm ⊢
    unfold Scalar.minsi IntOp.minsi
    rw [BitVec.slt_eq_decide, BitVec.toInt_eq_toNat_of_lt (by omega), BitVec.toInt_eq_toNat_of_lt (by omega)]
    split <;> rename_i h <;> simp only [decide_eq_true_eq] at h <;> omega
  unfold nge Scalar.shrui IntOp.shrui
  rw [if_pos (by decide)]
  show ((Scalar.minsi w (Scalar.maxsi 0#32 (Scalar.subi t cb))).toNat >>> 4) = _
  rw [hmi, Nat.shiftRight_eq_div_pow]
  omega

end Cert.Proof.Rank
-- ==== Proof.Count.lean ====
/-
  The count of one row, vector by vector, and the rule for one block of it: a block reads a chunk of the row out of its
  buffer — the vectors below the target's, the target's own, the vectors above — and takes the count at the chunk's first
  vector to the count past its last, whatever chunk the target lies in.
-/
module

public import Idealize.ShloMosaic.Lib.SparseCore.Quiescent
public import Idealize.ShloMosaic.Lib.StableHlo.Run
public import Idealize.ShloMosaic.Lib.Pipeline.Kit
public import Idealize.ShloMosaic.Lib.Transfers
public import Idealize.ShloMosaic.Lib.Tactic
public import proofs.«01_k».proof.Proof.Words

@[expose] public section

noncomputable section

namespace Cert.Proof.Rank

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UH : Type := URounds (GSem nD τ sig) ℕ
abbrev UU : Type := UH × Counters

local notation "𝕄" => MT nD τ sig (HIx 1) (Elt F) ℕ UU ℕ

/-! ## The count -/

/-- Vector `k` of a row. -/
def rowV (x : Nat → F .f32) (k : Nat) : FVec F S16 .f32 := fun l => x (16 * k + (l 0).val)

/-- What a vector below the target's adds to the count `c`: one in each lane at least the target's value; -/
def addGe (vt : FVec F S16 .f32) (c : IVec S16 32) (r : FVec F S16 .f32) : IVec S16 32 :=
  addi c (select (cmpf .oge r vt) k0_pay99 k0_pay98)
/-- a vector above it: one in each lane greater; -/
def addGt (vt : FVec F S16 .f32) (c : IVec S16 32) (r : FVec F S16 .f32) : IVec S16 32 :=
  addi c (select (cmpf .ogt r vt) k0_pay99 k0_pay98)
/-- the lanes of the vector at column `p` that beat the target's: greater, or equal at a lower column. -/
def beats (vt : FVec F S16 .f32) (t p : BitVec 32) (r : FVec F S16 .f32) : IVec S16 1 :=
  ori (cmpf .ogt r vt) (andi (cmpf .oeq r vt)
    (cmpi .slt (addi (iota .scVector S16 32 [0] iota_S16_d0_w32_scVector) (broadcast S16 p)) (broadcast S16 t)))
/-- What the target's own vector adds. -/
def addEq (vt : FVec F S16 .f32) (t p : BitVec 32) (c : IVec S16 32) (r : FVec F S16 .f32) : IVec S16 32 :=
  addi c (select (beats vt t p r) k0_pay99 k0_pay98)

/-- The count after vector `k`, from the count before it. -/
def stepV (x : Nat → F .f32) (vt : FVec F S16 .f32) (t : BitVec 32) (k : Nat) (c : IVec S16 32) : IVec S16 32 :=
  if k < t.toNat / 16 then addGe vt c (rowV x k)
  else if k = t.toNat / 16 then addEq vt t (BitVec.ofNat 32 (16 * k)) c (rowV x k)
  else addGt vt c (rowV x k)

/-- The count of the first `n` vectors of a row. -/
def cntV (x : Nat → F .f32) (vt : FVec F S16 .f32) (t : BitVec 32) : Nat → IVec S16 32
  | 0 => k0_pay98
  | n + 1 => stepV x vt t n (cntV x vt t n)

/-! ## A block's payloads -/

/-- A load of sixteen columns, as a vector. -/
def cast16 (ld : Vec F S1x16 .f32) : FVec F S16 .f32 := shapeCast S16 ld shapeCasts_S1x16_S16

/-- What the block adds at the target's own vector, nothing where the target lies past the chunk. -/
def addOwn (vt : FVec F S16 .f32) (t cb n nv cl : BitVec 32) (c : IVec S16 32) (r : FVec F S16 .f32) : IVec S16 32 :=
  addi c (select (broadcast S16 (Scalar.cmpi .slt n nv))
    (select (beats vt t (Scalar.addi cb (Scalar.muli (Scalar.minsi n cl) 16#32)) r) k0_pay99 k0_pay98) k0_pay98)

omit [FloatOps F] in
/-- The lane a sixteen-column load's vector reads. -/
theorem cast16_lane (l : S16.Idx) : ((Shape.reshapeEquiv shapeCasts_S1x16_S16 l : S1x16.Idx) 1).val = (l 0).val := by
  have h := Shape.rowMajor_reshapeEquiv shapeCasts_S1x16_S16 l
  rw [Shape.rowMajor_val_two, Shape.rowMajor_val_one] at h
  have h0 : ((Shape.reshapeEquiv shapeCasts_S1x16_S16 l : S1x16.Idx) 0).val = 0 := by
    have := ((Shape.reshapeEquiv shapeCasts_S1x16_S16 l : S1x16.Idx) 0).isLt
    have e : S1x16.size 0 = 1 := rfl
    omega
  simp only [h0] at h
  omega

omit [FloatOps F] in
/-- A load of sixteen columns of row `j` from column `16 k`, as a vector, of a buffer whose columns below `16 N` are
    the rows' from vector `k₀` on. -/
theorem cast16_load {κ : Kind} {cs : CoreSpace} {m : Memref sig κ cs S8x6400 .f32} {f : m.view.ty.Contents (Elt F)} {x : Nat → Nat → F .f32} {k₀ N : Nat}
    (hf : ∀ y : S8x6400.Idx, (y 1).val < 16 * N → m.view.read (Elt F) f y = x (y 0).val (16 * k₀ + (y 1).val))
    {j k : Nat} (hk : k < N) {off : Fin 2 → Nat} (ho : off = ![j, 16 * k]) (hin : ∀ a, off a + S1x16.size a ≤ S8x6400.size a) :
    cast16 (m.view.readAt (Elt F) (Rect.unit (s := S8x6400) off S1x16.size hin).toLoadRect f) = rowV (x j) (k₀ + k) := by
  subst ho
  funext l
  unfold cast16 shapeCast rowV
  rw [View.readAt_apply, hf]
  · rw [LoadRect.idx_apply, LoadRect.idx_apply]
    have h0 : ((Shape.reshapeEquiv shapeCasts_S1x16_S16 l : S1x16.Idx) 0).val = 0 := by
      have := ((Shape.reshapeEquiv shapeCasts_S1x16_S16 l : S1x16.Idx) 0).isLt
      have e : S1x16.size 0 = 1 := rfl
      omega
    have h1 := cast16_lane l
    show x (j + 1 * _) (16 * k₀ + (16 * k + 1 * _)) = _
    rw [h0, h1]
    congr 1; omega
  · rw [LoadRect.idx_apply]
    have h1 := cast16_lane l
    have hl : (l 0).val < 16 := (l 0).isLt
    show 16 * k + 1 * _ < _
    rw [h1]; omega

omit [FloatOps F] in
theorem addi_zero (c : IVec S16 32) : addi c k0_pay98 = c := by
  funext l; show c l + 0#32 = c l; simp

/-- Past the target's column, equality beats nothing. -/
theorem beats_above (vt : FVec F S16 .f32) {t p : BitVec 32} {P : Nat} (hp : p.toNat = P) (hP : P ≤ 100000) (ht : t.toNat < 100000)
    (h : t.toNat ≤ P) (r : FVec F S16 .f32) : beats vt t p r = cmpf .ogt r vt := by
  funext l
  have hl : (l 0).val < 16 := (l 0).isLt
  have hs : ((BitVec.ofNat 32 (0 * 16 + (l 0).val) + p).slt t) = false := by
    rw [BitVec.slt_eq_decide, decide_eq_false_iff_not, BitVec.toInt_eq_toNat_of_lt (x := t) (by omega), BitVec.toInt_eq_toNat_of_lt]
    · rw [BitVec.toNat_add, BitVec.toNat_ofNat]; omega
    · rw [BitVec.toNat_add, BitVec.toNat_ofNat]; omega
  show (FloatOps.cmpf .ogt (r l) (vt l)) ||| ((FloatOps.cmpf .oeq (r l) (vt l)) &&& BitVec.ofBool ((BitVec.ofNat 32 (0 * 16 + (l 0).val) + p).slt t)) = FloatOps.cmpf .ogt (r l) (vt l)
  rw [hs]; simp

/-- The block's own vector, in the three places the target may lie. -/
theorem addOwn_eq (x : Nat → F .f32) (vt : FVec F S16 .f32) {t cb n nv cl : BitVec 32} {k₀ N : Nat} (ht : t.toNat < 100000)
    (hcb : cb.toNat = 16 * k₀) (hk₀ : 16 * k₀ ≤ 96000) (hnv : nv.toNat = N) (hcl : cl.toNat + 1 = N) (hN : N ≤ 400)
    (hn : n.toNat = min N ((t.toNat - 16 * k₀) / 16)) :
    addOwn vt t cb n nv cl (cntV x vt t (k₀ + n.toNat)) (rowV x (k₀ + min n.toNat cl.toNat))
      = if n.toNat < N then cntV x vt t (k₀ + n.toNat + 1) else cntV x vt t (k₀ + N) := by
  have hlt : Scalar.cmpi .slt n nv = BitVec.ofBool (decide (n.toNat < N)) := by
    show BitVec.ofBool (n.slt nv) = _
    rw [BitVec.slt_eq_decide, toInt_small (by omega), toInt_small (by omega), hnv]; simp
  have hp : (Scalar.addi cb (Scalar.muli (Scalar.minsi n cl) 16#32)).toNat = 16 * (k₀ + min n.toNat cl.toNat) := by
    have h := toNat_colT (cl := cl) (n := n) (by omega) (by omega)
    unfold colT at h
    show (cb + _).toNat = _
    rw [BitVec.toNat_add, h, hcb]; omega
  unfold addOwn
  split
  · rename_i h
    rw [hlt, decide_eq_true h]
    have hmin : min n.toNat cl.toNat = n.toNat := by omega
    rw [hmin] at hp ⊢
    show addi _ (select _ _ _) = stepV x vt t (k₀ + n.toNat) _
    have hsel : ∀ (a b : IVec S16 32), select (broadcast S16 (BitVec.ofBool true)) a b = a := fun a b => by
      funext l; rfl
    rw [hsel]
    unfold stepV
    rw [if_neg (by omega)]
    split
    · rename_i hk
      have hp' : Scalar.addi cb (Scalar.muli (Scalar.minsi n cl) 16#32) = BitVec.ofNat 32 (16 * (k₀ + n.toNat)) := by
        apply BitVec.eq_of_toNat_eq; rw [hp, BitVec.toNat_ofNat]; omega
      rw [hp']; rfl
    · rw [beats_above vt hp (by omega) ht (by omega)]; rfl
  · rename_i h
    rw [hlt, decide_eq_false h]
    have hsel : ∀ (a b : IVec S16 32), select (broadcast S16 (BitVec.ofBool false)) a b = b := fun a b => by
      funext l; rfl
    rw [hsel, addi_zero]
    congr 1; omega

/-! ## The rule -/

section Block

variable (d : Dev nD) (L : grid0.Coords)

/-- The subcore at coordinates `L`. -/
abbrev cV (L : grid0.Coords) : Fin τ.nSC := (L 0).castLE hcore0
abbrev jV (L : grid0.Coords) : Fin τ.nSub := (L 1).castLE hsub0
abbrev 𝒱₀ : Variants := Variants.none

/-- The program's effects on that subcore. -/
abbrev ET (F : FTy → Type) (L : grid0.Coords) := TpuEff nD τ sig (Elt F) Λ₀ (.scVector (cV L) (jV L))

/-- The count of the first `k₀ + i` vectors, and the buffer. -/
def cntI (m : Memref sig .scVector .vmem S8x6400 .f32) (f : Buf (Elt F) (m.view.loc (V d (cV L) (jV L)))) (x : Nat → F .f32) (vt : FVec F S16 .f32)
    (t : BitVec 32) (k₀ : Nat) (i : Nat) (c : IVec S16 32) : sProp 𝕄 :=
  iprop(⌜c = cntV x vt t (k₀ + i)⌝ ∗ (m.view.loc (V d (cV L) (jV L)) ↦[m.view.set]{fullShare} f))

/-- A loop that loads vector `o + i` of the chunk at trip `i`, and adds to the count what that vector adds, takes the count
    at vector `k₀ + o` to the count `T` vectors on, `T` its trips. -/
theorem cnt_loop {m : Memref sig .scVector .vmem S8x6400 .f32} {f : Buf (Elt F) (m.view.loc (V d (cV L) (jV L)))} {x : Nat → Nat → F .f32} {k₀ N : Nat}
    (hf : ∀ y : S8x6400.Idx, (y 1).val < 16 * N → m.view.read (Elt F) f y = x (y 0).val (16 * k₀ + (y 1).val))
    {vt : FVec F S16 .f32} {t : BitVec 32} {j : Nat} (o T : Nat) {l : Scf.Loop 32} (hT : l.trips = T) (hoT : o + T ≤ N)
    (add : IVec S16 32 → FVec F S16 .f32 → IVec S16 32)
    (hadd : ∀ i, i < T → ∀ c, stepV (x j) vt t (k₀ + o + i) c = add c (rowV (x j) (k₀ + o + i)))
    {hok : l.OK} {init : IVec S16 32} (hinit : init = cntV (x j) vt t (k₀ + o)) {body : Fin l.trips → IVec S16 32 → Prog (ET F L) (IVec S16 32)}
    {off : Fin l.trips → Fin 2 → Nat} (ho : ∀ i, off i = ![j, 16 * (o + i.val)])
    {hin : ∀ (i : Fin l.trips) (a : Fin 2), off i a + S1x16.size a ≤ S8x6400.size a}
    {hl : ∀ i : Fin l.trips, m.view.LoadsAt (Rect.unit (s := S8x6400) (off i) S1x16.size (hin i)).toLoadRect}
    (hb : ∀ i c, body i c = .op (.load m (Rect.unit (s := S8x6400) (off i) S1x16.size (hin i)).toLoadRect (hl i)) fun ld => .ret (add c (cast16 ld)))
    {α : Type} {k : IVec S16 32 → Prog (ET F L) α} {Q : α → sProp 𝕄} {R : sProp 𝕄}
    (hk : iprop((m.view.loc (V d (cV L) (jV L)) ↦[m.view.set]{fullShare} f) ∗ R)
      ⊢ wp frame (wpE (defs₀ (F := F)) 𝒱₀ (V d (cV L) (jV L)) none) Set.univ (k (cntV (x j) vt t (k₀ + o + T))) Q) :
    iprop((m.view.loc (V d (cV L) (jV L)) ↦[m.view.set]{fullShare} f) ∗ R)
      ⊢ wp frame (wpE (defs₀ (F := F)) 𝒱₀ (V d (cV L) (jV L)) none) Set.univ (Scf.Loop.for l hok init body >>= k) Q := by
  have hbody : ∀ (i : Fin l.trips) (c : IVec S16 32),
      cntI d L m f (x j) vt t (k₀ + o) i c
        ⊢ wp frame (wpE (defs₀ (F := F)) 𝒱₀ (V d (cV L) (jV L)) none) Set.univ (body i c) (cntI d L m f (x j) vt t (k₀ + o) (i.val + 1)) := by
    intro i c
    have hi : i.val < T := hT ▸ i.isLt
    rw [hb]
    unfold cntI
    iintro ⟨%hc, H⟩
    iapply (wp_load 𝒱₀ (V d (cV L) (jV L)) none Set.univ (m := m) (S := m.view.set) (View.setOn_subset_set _ _)) $$ H
    iintro H
    rw [cast16_load hf (j := j) (k := o + i.val) (by omega) (ho i) (hin i), wp_ret]
    imodintro
    isplitr
    · ipureintro
      show _ = stepV (x j) vt t (k₀ + o + i.val) _
      rw [hadd _ hi, hc, ← Nat.add_assoc]
      rfl
    · iexact H
  iintro ⟨H, HR⟩
  iapply (Scf.wp_for_bind frame (wpE (defs₀ (F := F)) 𝒱₀ (V d (cV L) (jV L)) none) Set.univ l.lb l.ub l.st hok _ body
    (cntI d L m f (x j) vt t (k₀ + o)) hbody) $$ [H]
  · unfold cntI
    isplitr
    · ipureintro; exact hinit
    · iexact H
  unfold cntI
  iintro %c ⟨%hc, H⟩
  have hc' : c = cntV (x j) vt t (k₀ + o + T) := by rw [hc, ← hT]
  rw [hc']
  iapply hk
  isplitl [H] <;> iassumption

/-! ### One row's block of a chunk

The subcore's eight targets are lanes `0 … 7` of the vector `v5` it loaded, the rows it counts `x 0 … x 7`, the targets' values
`vt 0 … vt 7`. -/

theorem slices_lane (j : Fin 8) : S16.Slices ![j.val] S1 := by revert j; decide

/-- Target `j`. -/
def tw (v5 : Vec F S16 .i32) (j : Fin 8) : BitVec 32 := extractAt ![0] (extractStridedSlice S1 ![j.val] v5 (slices_lane j)) inpos_S1_p0

/-- Row `j`'s count of its first `k` vectors. -/
def cnt (x : Nat → Nat → F .f32) (vt : Fin 8 → FVec F S16 .f32) (v5 : Vec F S16 .i32) (j : Fin 8) (k : Nat) : IVec S16 32 :=
  cntV (x j.val) (vt j) (tw v5 j) k

/-- Buffer `m` at `f` holds the `N` vectors of the rows from vector `k₀`; the words the kernel counts them by. -/
structure Chunk {m : Memref sig .scVector .vmem S8x6400 .f32} (f : Buf (Elt F) (m.view.loc (V d (cV L) (jV L)))) (x : Nat → Nat → F .f32)
    (v5 : Vec F S16 .i32) (k₀ N : Nat) (cb w nv cl : BitVec 32) : Prop where
  hf : ∀ y : S8x6400.Idx, (y 1).val < 16 * N → m.view.read (Elt F) f y = x (y 0).val (16 * k₀ + (y 1).val)
  ht : ∀ j, (tw v5 j).toNat < 100000
  hcb : cb.toNat = 16 * k₀
  hk₀ : 16 * k₀ ≤ 96000
  hw : w.toNat = 16 * N
  hnv : nv.toNat = N
  hcl : cl.toNat + 1 = N
  hN : N ≤ 400

end Block

section Row

variable {d : Dev nD} {L : grid0.Coords}
variable {m : Memref sig .scVector .vmem S8x6400 .f32} {f : Buf (Elt F) (m.view.loc (V d (cV L) (jV L)))} {x : Nat → Nat → F .f32}
  {v5 : Vec F S16 .i32} {k₀ N : Nat} {cb w nv cl : BitVec 32} (C : Chunk d L f x v5 k₀ N cb w nv cl) {vt : Fin 8 → FVec F S16 .f32} {j : Fin 8}

include C

theorem Chunk.nge_eq (j : Fin 8) : (nge (tw v5 j) cb w).toNat = min N (((tw v5 j).toNat - 16 * k₀) / 16) :=
  toNat_nge (C.ht j) C.hcb (by have := C.hk₀; omega) C.hw C.hN

/-- The block's side condition. -/
theorem Chunk.chk (j : Fin 8) : Chk j.val nv cl (nge (tw v5 j) cb w) :=
  chk_holds j.isLt (by have := C.hnv; have := C.hN; omega) (by have := C.hcl; have := C.hN; omega) (by have := C.nge_eq j; have := C.hN; omega)

/-- The vectors below the target's. -/
theorem wp_ge {α : Type} {Q : α → sProp 𝕄} {R : sProp 𝕄} {l : Scf.Loop 32} {hok : l.OK} {body : Fin l.trips → IVec S16 32 → Prog (ET F L) (IVec S16 32)} {k : IVec S16 32 → Prog (ET F L) α}
    {off : Fin l.trips → Fin 2 → Nat} {hin : ∀ (i : Fin l.trips) (a : Fin 2), off i a + S1x16.size a ≤ S8x6400.size a}
    {hl : ∀ i : Fin l.trips, m.view.LoadsAt (Rect.unit (s := S8x6400) (off i) S1x16.size (hin i)).toLoadRect}
    (hk : iprop((m.view.loc (V d (cV L) (jV L)) ↦[m.view.set]{fullShare} f) ∗ R)
      ⊢ wp frame (wpE (defs₀ (F := F)) 𝒱₀ (V d (cV L) (jV L)) none) Set.univ (k (cnt x vt v5 j (k₀ + (nge (tw v5 j) cb w).toNat))) Q)
    (hloop : l = geL (nge (tw v5 j) cb w) := by rfl)
    (hb : ∀ i c, body i c = .op (.load m (Rect.unit (s := S8x6400) (off i) S1x16.size (hin i)).toLoadRect (hl i)) fun ld => .ret (addGe (vt j) c (cast16 ld)) := by intros; rfl)
    (ho : ∀ i, off i = offAt j.val (colAt 0#32 i) := by intros; rfl) :
    iprop((m.view.loc (V d (cV L) (jV L)) ↦[m.view.set]{fullShare} f) ∗ R)
      ⊢ wp frame (wpE (defs₀ (F := F)) 𝒱₀ (V d (cV L) (jV L)) none) Set.univ (Scf.Loop.for l hok (cnt x vt v5 j k₀) body >>= k) Q := by
  have hn := C.nge_eq j
  have hN := C.hN
  have hT : l.trips = (nge (tw v5 j) cb w).toNat := by
    subst hloop
    show Scf.trips 0#32 (geL _).ub 1#32 = _
    rw [geL_ub, trips_one (by simp) (by omega)]; simp
  refine cnt_loop d L C.hf (vt := vt j) (t := tw v5 j) (j := j.val) 0 (nge (tw v5 j) cb w).toNat hT (by omega) (addGe (vt j)) ?_ rfl (off := off) ?_ hb hk
  · intro i hi c
    unfold stepV
    rw [if_pos (by omega)]
  · intro i
    have hi : i.val < (nge (tw v5 j) cb w).toNat := hT ▸ i.isLt
    rw [ho, offAt_eq j.val (by rw [toNat_colAt (by simp; omega)]; simp; omega), toNat_colAt (by simp; omega)]; simp

/-- No vector is left to the second loop below the target. -/
theorem wp_geR {α : Type} {Q : α → sProp 𝕄} {R : sProp 𝕄} {l : Scf.Loop 32} {hok : l.OK} {n : Nat} {body : Fin l.trips → IVec S16 32 → Prog (ET F L) (IVec S16 32)} {k : IVec S16 32 → Prog (ET F L) α}
    (hk : R ⊢ wp frame (wpE (defs₀ (F := F)) 𝒱₀ (V d (cV L) (jV L)) none) Set.univ (k (cnt x vt v5 j n)) Q)
    (hloop : l = geR (nge (tw v5 j) cb w) := by rfl) :
    R ⊢ wp frame (wpE (defs₀ (F := F)) 𝒱₀ (V d (cV L) (jV L)) none) Set.univ (Scf.Loop.for l hok (cnt x vt v5 j n) body >>= k) Q := by
  have hn := C.nge_eq j
  have hN := C.hN
  refine Scf.wp_for0_bind' frame (wpE (defs₀ (F := F)) 𝒱₀ (V d (cV L) (jV L)) none) Set.univ _ _ _ hok _ _ ?_ _ _ _ hk
  subst hloop
  show Scf.trips (geR _).lb (geR _).ub 1#32 = _
  rw [geR_lb, geR_ub, trips_one (by omega) (by omega)]; simp

omit C in
/-- The load of the target's own vector: the last of the chunk where the target lies past it. -/
theorem wp_own {α : Type} {Q : α → sProp 𝕄} {R : sProp 𝕄} (j : Fin 8) (C : Chunk d L f x v5 k₀ N cb w nv cl) {off : Fin 2 → Nat} {hin : ∀ a : Fin 2, off a + S1x16.size a ≤ S8x6400.size a}
    {hl : m.view.LoadsAt (Rect.unit (s := S8x6400) off S1x16.size hin).toLoadRect} {k : Vec F S1x16 .f32 → Prog (ET F L) α}
    (hk : ∀ ld : Vec F S1x16 .f32, cast16 ld = rowV (x j.val) (k₀ + min (nge (tw v5 j) cb w).toNat cl.toNat) →
      (iprop((m.view.loc (V d (cV L) (jV L)) ↦[m.view.set]{fullShare} f) ∗ R)
        ⊢ wp frame (wpE (defs₀ (F := F)) 𝒱₀ (V d (cV L) (jV L)) none) Set.univ (k ld) Q))
    (ho : off = offAt j.val (colT cl (nge (tw v5 j) cb w)) := by rfl) :
    iprop((m.view.loc (V d (cV L) (jV L)) ↦[m.view.set]{fullShare} f) ∗ R)
      ⊢ wp frame (wpE (defs₀ (F := F)) 𝒱₀ (V d (cV L) (jV L)) none) Set.univ
          (Prog.lift (.load m (Rect.unit (s := S8x6400) off S1x16.size hin).toLoadRect hl) >>= k) Q := by
  have hn := C.nge_eq j
  have hN := C.hN
  have hcl := C.hcl
  have hld := cast16_load C.hf (j := j.val) (k := min (nge (tw v5 j) cb w).toNat cl.toNat) (by omega)
    (by rw [ho, offAt_eq j.val (by rw [toNat_colT (by omega) (by omega)]; omega), toNat_colT (by omega) (by omega)]) hin
  rw [Prog.bind_lift]
  iintro ⟨H, HR⟩
  iapply (wp_load 𝒱₀ (V d (cV L) (jV L)) none Set.univ (m := m) (S := m.view.set) (View.setOn_subset_set _ _)) $$ H
  iintro H
  iapply (hk _ hld)
  isplitl [H] <;> iassumption

/-- The vectors above the target's, from the count past its own. -/
theorem wp_gt {α : Type} {Q : α → sProp 𝕄} {R : sProp 𝕄} {l : Scf.Loop 32} {hok : l.OK} {init : IVec S16 32} {ld : Vec F S1x16 .f32}
    (hld : cast16 ld = rowV (x j.val) (k₀ + min (nge (tw v5 j) cb w).toNat cl.toNat))
    {body : Fin l.trips → IVec S16 32 → Prog (ET F L) (IVec S16 32)} {k : IVec S16 32 → Prog (ET F L) α}
    {off : Fin l.trips → Fin 2 → Nat} {hin : ∀ (i : Fin l.trips) (a : Fin 2), off i a + S1x16.size a ≤ S8x6400.size a}
    {hl : ∀ i : Fin l.trips, m.view.LoadsAt (Rect.unit (s := S8x6400) (off i) S1x16.size (hin i)).toLoadRect}
    (hk : iprop((m.view.loc (V d (cV L) (jV L)) ↦[m.view.set]{fullShare} f) ∗ R)
      ⊢ wp frame (wpE (defs₀ (F := F)) 𝒱₀ (V d (cV L) (jV L)) none) Set.univ (k (cnt x vt v5 j (k₀ + N))) Q)
    (hinit : init = addOwn (vt j) (tw v5 j) cb (nge (tw v5 j) cb w) nv cl (cnt x vt v5 j (k₀ + (nge (tw v5 j) cb w).toNat)) (cast16 ld) := by rfl)
    (hloop : l = gtL nv (nge (tw v5 j) cb w) := by rfl)
    (hb : ∀ i c, body i c = .op (.load m (Rect.unit (s := S8x6400) (off i) S1x16.size (hin i)).toLoadRect (hl i)) fun ld => .ret (addGt (vt j) c (cast16 ld)) := by intros; rfl)
    (ho : ∀ i, off i = offAt j.val (colAt (Scalar.addi (nge (tw v5 j) cb w) 1#32) i) := by intros; rfl) :
    iprop((m.view.loc (V d (cV L) (jV L)) ↦[m.view.set]{fullShare} f) ∗ R)
      ⊢ wp frame (wpE (defs₀ (F := F)) 𝒱₀ (V d (cV L) (jV L)) none) Set.univ (Scf.Loop.for l hok init body >>= k) Q := by
  obtain ⟨hf, ht, hcb, hk₀, hw, hnv, hcl, hN⟩ := C
  have hn := toNat_nge (cb := cb) (ht j) hcb (by omega) hw hN
  have hown := addOwn_eq (x j.val) (vt j) (ht j) hcb hk₀ hnv hcl hN hn
  generalize nge (tw v5 j) cb w = n at *
  have h1 := add_one_toNat (n := n) (by omega)
  have hT : l.trips = N - (n.toNat + 1) := by
    subst hloop
    show Scf.trips (Scalar.addi n 1#32) (gtL nv n).ub 1#32 = _
    rw [gtL_ub, trips_one (by omega) (by omega), h1, hnv]
  have he : k₀ + (if n.toNat < N then n.toNat + 1 else N) + (N - (n.toNat + 1)) = k₀ + N := by split <;> omega
  refine cnt_loop d L hf (vt := vt j) (t := tw v5 j) (j := j.val) (if n.toNat < N then n.toNat + 1 else N) (N - (n.toNat + 1)) hT (by split <;> omega) (addGt (vt j)) ?_ ?_
    (off := off) ?_ hb (by rw [he]; exact hk)
  · intro i hi c
    unfold stepV
    rw [if_pos (show n.toNat < N by omega)]
    rw [if_neg (by omega), if_neg (by omega)]
  · rw [hinit, hld]
    refine hown.trans ?_
    split <;> rfl
  · intro i
    have hi : i.val < N - (n.toNat + 1) := hT ▸ i.isLt
    rw [ho, offAt_eq j.val (by rw [toNat_colAt (by omega)]; omega), toNat_colAt (by omega), h1, if_pos (by omega)]

/-- No vector is left to the second loop above the target. -/
theorem wp_gtR {α : Type} {Q : α → sProp 𝕄} {R : sProp 𝕄} {l : Scf.Loop 32} {hok : l.OK} {n : Nat} {body : Fin l.trips → IVec S16 32 → Prog (ET F L) (IVec S16 32)} {k : IVec S16 32 → Prog (ET F L) α}
    (hk : R ⊢ wp frame (wpE (defs₀ (F := F)) 𝒱₀ (V d (cV L) (jV L)) none) Set.univ (k (cnt x vt v5 j n)) Q)
    (hloop : l = gtR nv (nge (tw v5 j) cb w) := by rfl) :
    R ⊢ wp frame (wpE (defs₀ (F := F)) 𝒱₀ (V d (cV L) (jV L)) none) Set.univ (Scf.Loop.for l hok (cnt x vt v5 j n) body >>= k) Q := by
  have hn := C.nge_eq j
  have hN := C.hN
  have hnv := C.hnv
  refine Scf.wp_for0_bind' frame (wpE (defs₀ (F := F)) 𝒱₀ (V d (cV L) (jV L)) none) Set.univ _ _ _ hok _ _ ?_ _ _ _ hk
  subst hloop
  show Scf.trips (gtR nv _).lb (gtR nv _).ub 1#32 = _
  rw [gtR_lb, gtR_ub, trips_one (by omega) (by omega)]; simp

end Row

/-! ### The program's own steps -/

section Step

variable {d : Dev nD} {L : grid0.Coords}

/-- A side condition that holds. -/
theorem wp_chk {α : Type} {Q : α → sProp 𝕄} {R : sProp 𝕄} {P : Prop} {dec : Decidable P} (hP : P) {k : PLift P → Prog (ET F L) α}
    (hk : R ⊢ wp frame (wpE (defs₀ (F := F)) 𝒱₀ (V d (cV L) (jV L)) none) Set.univ (k ⟨hP⟩) Q) :
    R ⊢ wp frame (wpE (defs₀ (F := F)) 𝒱₀ (V d (cV L) (jV L)) none) Set.univ (Prog.lift (.assume P dec) >>= k) Q := by
  rw [Prog.bind_lift, wp_assume_of _ _ _ _ hP]; exact hk

/-- A part of the program, then the rest. -/
theorem wp_part {α β : Type} {Q : α → sProp 𝕄} {R : sProp 𝕄} {a : Prog (ET F L) β} {k : β → Prog (ET F L) α}
    (hk : R ⊢ wp frame (wpE (defs₀ (F := F)) 𝒱₀ (V d (cV L) (jV L)) none) Set.univ a
      (fun b => wp frame (wpE (defs₀ (F := F)) 𝒱₀ (V d (cV L) (jV L)) none) Set.univ (k b) Q)) :
    R ⊢ wp frame (wpE (defs₀ (F := F)) 𝒱₀ (V d (cV L) (jV L)) none) Set.univ (a >>= k) Q := by
  rw [wp_bind]; exact hk

/-- A part's end. -/
theorem wp_done {α : Type} {Q : α → sProp 𝕄} {R : sProp 𝕄} {a : α} (hk : R ⊢ Q a) :
    R ⊢ wp frame (wpE (defs₀ (F := F)) 𝒱₀ (V d (cV L) (jV L)) none) Set.univ (pure a : Prog (ET F L) α) Q := by
  rw [Prog.pure_eq_ret, wp_ret]
  exact hk.trans fupd_intro

end Step

end Cert.Proof.Rank
-- ==== Proof.Steps.lean ====
/-
  The copies of a subcore: a chunk of its eight rows issued into a buffer, and the wait for it. A chunk in flight is what the
  wait will hand over — the buffer, holding the rows' columns from the chunk's first on.
-/
module

public import proofs.«01_k».proof.Proof.Count
public import Idealize.ShloMosaic.Lib.ValueIdxCore

@[expose] public section

noncomputable section

namespace Cert.Proof.Rank

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

/-! ## The subcore's rows -/

/-- The first of the eight rows of the subcore at `L`. -/
def base (L : grid0.Coords) : Nat := 16 * (L 1).val + 8 * (L 0).val

theorem base_lt (L : grid0.Coords) : base L + 8 ≤ 256 := by
  have h0 : (L 0).val < 2 := (L 0).isLt
  have h1 : (L 1).val < 16 := (L 1).isLt
  unfold base; omega

/-- Element `(r, p)` of the logits. -/
def elem (X : Vec F S256x100000 .f32) (r p : Nat) : F .f32 :=
  X (ix2 ⟨r % 256, Nat.mod_lt _ (by decide)⟩ ⟨p % 100000, Nat.mod_lt _ (by decide)⟩)

/-- The subcore's rows. -/
def rows (L : grid0.Coords) (X : Vec F S256x100000 .f32) (j p : Nat) : F .f32 := elem X (base L + j) p

theorem elem_eq (X : Vec F S256x100000 .f32) (i : S256x100000.Idx) {r p : Nat} (h0 : (i 0).val = r) (h1 : (i 1).val = p) : X i = elem X r p := by
  subst h0 h1
  unfold elem
  congr 1
  funext a
  have e0 : (i 0).val < 256 := (i 0).isLt
  have e1 : (i 1).val < 100000 := (i 1).isLt
  match a with
  | ⟨0, _⟩ => exact Fin.ext (Nat.mod_eq_of_lt e0).symm
  | ⟨1, _⟩ => exact Fin.ext (Nat.mod_eq_of_lt e1).symm

section Tile

variable (d : Dev nD) (L : grid0.Coords)

/-- The subcore's thread. -/
abbrev thr (d : Dev nD) (L : grid0.Coords) : Thread nD τ := V d (cV L) (jV L)

/-- An array that is read, some share of it. -/
def Rd {sp : Space} {s : Shape} {e : EltTy} (m : Memref sig .scVector sp s e) (f : Buf (Elt F) (m.view.loc (thr d L))) : sProp 𝕄 :=
  iprop(∃ q, m.view.loc (thr d L) ↦[Finset.univ]{q} f)

/-- The logits. -/
abbrev Src (X : Vec F S256x100000 .f32) : sProp 𝕄 := Rd d L (Memref.whole main_v0_scv : Memref sig .scVector .hbm S256x100000 .f32) X

/-- What the subcore owes, and the evidence that it may wait. -/
def Wt (O : CellTallies nD τ sig (HIx 1)) (W : Waits sig (HIx 1)) : sProp 𝕄 :=
  iprop(Transfers.MayWaits (thr d L) (none : HIx 1) O ∗ ∃ W', ⌜∀ p ∈ W', p ∈ W ∨ p.2 = none⌝ ∗ owes (thr d L) O W')

/-- The columns below `16 N` of the buffer are the rows' from vector `k₀` on. -/
def Loaded (m : Memref sig .scVector .vmem S8x6400 .f32) (x : Nat → Nat → F .f32) (k₀ N : Nat) (f : Buf (Elt F) (m.view.loc (thr d L))) : Prop :=
  ∀ y : S8x6400.Idx, (y 1).val < 16 * N → m.view.read (Elt F) f y = x (y 0).val (16 * k₀ + (y 1).val)

/-- The buffer, loaded. -/
def Full (m : Memref sig .scVector .vmem S8x6400 .f32) (x : Nat → Nat → F .f32) (k₀ N : Nat) : sProp 𝕄 :=
  iprop(∃ f, ⌜Loaded d L m x k₀ N f⌝ ∗ (m.view.loc (thr d L) ↦[m.view.set]{fullShare} f))

/-- A chunk in flight into the buffer `m`, of `a` units on the cell `sem`. -/
abbrev Coming (sem : DmaSem sig) (a : Nat) (m : Memref sig .scVector .vmem S8x6400 .f32) (x : Nat → Nat → F .f32) (k₀ N : Nat) : sProp 𝕄 :=
  Transfers.Flight countersEmb (thr d L) (.dma sem) (none : HIx 1) a (Full d L m x k₀ N)

variable {d L}

omit [FloatOps F] in
/-- A buffer that is loaded, as one. -/
theorem full_intro {m : Memref sig .scVector .vmem S8x6400 .f32} {x : Nat → Nat → F .f32} {k₀ N : Nat} {f : Buf (Elt F) (m.view.loc (thr d L))} (h : Loaded d L m x k₀ N f) :
    (m.view.loc (thr d L) ↦[m.view.set]{fullShare} f) ⊢ Full d L m x k₀ N := by
  unfold Full
  iintro H
  iexists f
  isplitr
  · ipureintro; exact h
  · iexact H

/-- Of an array that is read any elements may be lent. -/
theorem lend {sp : Space} {s : Shape} {e : EltTy} {m : Memref sig .scVector sp s e} {f : Buf (Elt F) (m.view.loc (thr d L))} (I : Finset (Idx (m.view.loc (thr d L)))) :
    Rd d L m f ⊢ (iprop((∃ q, m.view.loc (thr d L) ↦[I]{q} f) ∗ Rd d L m f) : sProp 𝕄) := by
  unfold Rd
  iintro ⟨%q, H⟩
  ihave H' := (pointsTo_share (PosShare.mem_left_op_right q)).1 $$ H
  icases H' with ⟨H1, H2⟩
  ihave H1' := (pointsTo_split_subset (Finset.subset_univ I)).1 $$ H1
  icases H1' with ⟨H1, -⟩
  isplitl [H1]
  · iexists _; iexact H1
  · iexists _; iexact H2

/-- The chunk's elements, read back through the buffer they were written into. -/
theorem loaded_write {m : Memref sig .scVector .vmem S8x6400 .f32} {X : Vec F S256x100000 .f32} {sz : Fin 2 → Nat} {N k₀ : Nat}
    (hsz : sz = ![8, 16 * N]) (hN : 16 * k₀ + 16 * N ≤ 100000) {off : Fin 2 → Nat} (ho : off = ![base L, 16 * k₀])
    {hin : ∀ a, (![0, 0] : Fin 2 → Nat) a + sz a ≤ S8x6400.size a} {hin' : ∀ a, off a + sz a ≤ S256x100000.size a} (fd : Buf (Elt F) (m.view.loc (thr d L))) :
    Loaded d L m (rows L X) k₀ N ((m.slice (Rect.unit (s := S8x6400) ![0, 0] sz hin) (fun _ => rfl)).view.write (Elt F) fd
      (((Memref.whole main_v0_scv : Memref sig .scVector .hbm S256x100000 .f32).slice (Rect.unit (s := S256x100000) off sz hin') (fun _ => rfl)).view.read (Elt F) X) Finset.univ) := by
  subst hsz ho
  intro y hy
  have hy0 : (y 0).val < 8 := (y 0).isLt
  obtain ⟨z, rfl⟩ : ∃ z : (Rect.unit (s := S8x6400) ![0, 0] ![8, 16 * N] hin).shape.Idx, (Rect.unit (s := S8x6400) ![0, 0] ![8, 16 * N] hin).emb z = y := by
    refine ⟨fun a => match a with | ⟨0, _⟩ => ⟨(y 0).val, hy0⟩ | ⟨1, _⟩ => ⟨(y 1).val, hy⟩, ?_⟩
    funext a
    match a with
    | ⟨0, _⟩ => exact Fin.ext (by show 0 + 1 * (y 0).val = _; simp)
    | ⟨1, _⟩ => exact Fin.ext (by show 0 + 1 * (y 1).val = _; simp)
  refine (View.read_slice_write_emb (v := m.view) _ _ _ (Finset.mem_univ z)).trans ?_
  have e0 : (((Rect.unit (s := S8x6400) ![0, 0] ![8, 16 * N] hin).emb z) 0).val = (z 0).val := by show 0 + 1 * (z 0).val = _; simp
  have e1 : (((Rect.unit (s := S8x6400) ![0, 0] ![8, 16 * N] hin).emb z) 1).val = (z 1).val := by show 0 + 1 * (z 1).val = _; simp
  rw [e0, e1]
  refine elem_eq X ((Rect.unit (s := S256x100000) ![base L, 16 * k₀] ![8, 16 * N] hin').emb z) ?_ ?_
  · show base L + 1 * (z 0).val = _; simp
  · show 16 * k₀ + 1 * (z 1).val = _; simp

/-- The issue of a chunk: the buffer, the cell at zero and a share of the logits give the chunk in flight. -/
theorem wp_issue {α : Type} {Q : α → sProp 𝕄} {sem : DmaSem sig} {m : Memref sig .scVector .vmem S8x6400 .f32} {X : Vec F S256x100000 .f32}
    (k₀ N : Nat) {sz : Fin 2 → Nat}
    (hsz : sz = ![8, 16 * N]) (hN0 : 0 < N) (hN : 16 * k₀ + 16 * N ≤ 100000) {off : Fin 2 → Nat} (ho : off = ![base L, 16 * k₀])
    {hin : ∀ a, (![0, 0] : Fin 2 → Nat) a + sz a ≤ S8x6400.size a} {hin' : ∀ a, off a + sz a ≤ S256x100000.size a}
    {h h'} {h1 h2 h3} {k : PUnit → Prog (ET F L) α} {f : Buf (Elt F) (m.view.loc (thr d L))} :
    iprop((m.view.loc (thr d L) ↦[m.view.set]{fullShare} f) ∗ semVal (thr d L, .dma sem) 0 ∗ Src d L X)
      ⊢ iprop((iprop(Coming d L sem (m.slice (Rect.unit (s := S8x6400) ![0, 0] sz hin) h).view.dmaCredit m (rows L X) k₀ N ∗ Src d L X)
            -∗ wp frame (wpE (defs₀ (F := F)) 𝒱₀ (thr d L) none) Set.univ (k ⟨⟩) Q)
          -∗ wp frame (wpE (defs₀ (F := F)) 𝒱₀ (thr d L) none) Set.univ
            (Prog.lift (TpuEff.enqueueDma ((Memref.whole main_v0_scv : Memref sig .scVector .hbm S256x100000 .f32).slice (Rect.unit (s := S256x100000) off sz hin') h')
              (.here (m.slice (Rect.unit (s := S8x6400) ![0, 0] sz hin) h)) (.dma sem) h1 h2 h3) >>= k) Q) := by
  have hpos : 0 < (m.slice (Rect.unit (s := S8x6400) ![0, 0] sz hin) h).view.dmaCredit := by
    refine View.amount_pos _ (.dma sem) ?_
    subst hsz
    show 0 < 8 * (16 * N * 1)
    omega
  rw [Prog.bind_lift]
  iintro ⟨Hf, Hv, HS⟩ Hk
  ihave HS' := (lend (d := d) (L := L) (m := (Memref.whole main_v0_scv : Memref sig .scVector .hbm S256x100000 .f32)) (f := X) ((Memref.whole main_v0_scv : Memref sig .scVector .hbm S256x100000 .f32).slice (Rect.unit (s := S256x100000) off sz hin') h').view.set) $$ HS
  icases HS' with ⟨⟨%q, Hs⟩, HS⟩
  iapply (Transfers.wp_dmaLocal countersEmb 𝒱₀ (thr d L) none (src := (Memref.whole main_v0_scv : Memref sig .scVector .hbm S256x100000 .f32).slice (Rect.unit (s := S256x100000) off sz hin') h')
    (dst := m.slice (Rect.unit (s := S8x6400) ![0, 0] sz hin) h) (sm := .dma sem) (q := q) (fs := X) (fd := f) (Sd := m.view.set) (none : HIx 1)
    (m.slice (Rect.unit (s := S8x6400) ![0, 0] sz hin) h).view.dmaCredit rfl hpos (View.set_slice_subset (v := m.view) _)) $$ [Hs Hf Hv]
  · isplitl [Hs]; · iexact Hs
    isplitl [Hf] <;> iassumption
  iintro HF
  iapply Hk
  isplitl [HF]
  · iapply (Transfers.Flight_mono (EC := countersEmb) (thr d L) (show _ ⊢ Full d L m (rows L X) k₀ N from ?_)) $$ HF
    iintro ⟨H, -⟩
    iapply (full_intro (loaded_write (X := X) (hin := hin) (hin' := hin') hsz hN ho f)) $$ H
  · iexact HS

/-- The wait for a chunk. -/
theorem wp_arrive {α : Type} {Q : α → sProp 𝕄} {sem : DmaSem sig} {m : Memref sig .scVector .vmem S8x6400 .f32} {x : Nat → Nat → F .f32} {k₀ N : Nat}
    {O : CellTallies nD τ sig (HIx 1)} {W : Waits sig (HIx 1)} {s' : Shape} {e' : EltTy} {s : Shape} {e : EltTy} {sp sp' : Space}
    {srcw : Memref sig .scVector sp' s' e'} {dstw : Memref sig .scVector sp s e} {h h'} {k : PUnit → Prog (ET F L) α} :
    iprop(Coming d L sem dstw.view.dmaCredit m x k₀ N ∗ Wt d L O W)
      ⊢ iprop((iprop(Full d L m x k₀ N ∗ semVal (thr d L, .dma sem) 0 ∗ Wt d L O W) -∗ wp frame (wpE (defs₀ (F := F)) 𝒱₀ (thr d L) none) Set.univ (k ⟨⟩) Q)
          -∗ wp frame (wpE (defs₀ (F := F)) 𝒱₀ (thr d L) none) Set.univ (Prog.lift (.waitDma2 sem srcw dstw h h') >>= k) Q) := by
  rw [Prog.bind_lift]
  unfold Wt
  iintro ⟨HF, #HM, %W', %hW', HO⟩ Hk
  iapply (Transfers.wp_waitLocalO countersEmb 𝒱₀ (thr d L) none (none : HIx 1) rfl (O := O) (W := W')) $$ [HF HO]
  · isplitl [HF]; · iexact HF
    isplitl [HO]; · iexact HO
    iapply (Transfers.MayWaits.elim (SemLoc.dma sem)); iexact HM
  iintro ⟨HD, Hv, HO⟩
  iapply Hk
  isplitl [HD]; · iexact HD
  isplitl [Hv]; · iexact Hv
  isplitr; · iexact HM
  iexists (insert (SemLoc.dma sem, (none : HIx 1)) W')
  isplitr
  · ipureintro; intro p hp
    rcases Finset.mem_insert.mp hp with hp | hp
    · exact .inr (hp ▸ rfl)
    · exact hW' p hp
  · iexact HO

end Tile

end Cert.Proof.Rank
-- ==== Proof.Trip.lean ====
/-
  One trip of the kernel's loop: the chunk in the first buffer counted, the next one issued into it, the chunk in the second
  buffer counted, and the one after that issued — or, at the last trip, the rows' remainder.
-/
module

public import proofs.«01_k».proof.Proof.Steps
public import proofs.«01_k».proof.Proof.Gen.KernelIdeal.Skeleton

@[expose] public section

noncomputable section

namespace Cert.Proof.Rank

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

section Tile

variable (d : Dev nD) (L : grid0.Coords)

/-- A trip, the targets' windows and values as it is given them. -/
abbrev trip (v2 : BitVec 32) (v5 : Vec F S16 .i32) (tv : Fin 8 → IVec S16 32) (vt : Fin 8 → Vec F S16 .f32) :=
  k0_t1_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scoped0 cc0_scoped1 cc0_scoped2
    v2 v5 (iota .scVector S16 32 [0] iota_S16_d0_w32_scVector) k0_pay98 k0_pay99 (tv 0) (vt 0) (tv 1) (vt 1) (tv 2) (vt 2) (tv 3) (vt 3) (tv 4) (vt 4) (tv 5) (vt 5) (tv 6) (vt 6) (tv 7) (vt 7) 0#32

theorem cond1_true : ∀ n : Fin k0_t1_loop.trips, k0_cond1 n = 1#1 := by decide
theorem cond2_iff : ∀ n : Fin k0_t1_loop.trips, k0_cond2 n = 1#1 ↔ n.val < 6 := by decide
theorem cond3_iff : ∀ n : Fin k0_t1_loop.trips, k0_cond3 n = 1#1 ↔ n.val = 6 := by decide

/-- The eight counts at vector `k`. -/
abbrev counts (x : Nat → Nat → F .f32) (vt : Fin 8 → FVec F S16 .f32) (v5 : Vec F S16 .i32) (k : Nat) :
    IVec S16 32 × IVec S16 32 × IVec S16 32 × IVec S16 32 × IVec S16 32 × IVec S16 32 × IVec S16 32 × IVec S16 32 :=
  (cnt x vt v5 0 k, cnt x vt v5 1 k, cnt x vt v5 2 k, cnt x vt v5 3 k, cnt x vt v5 4 k, cnt x vt v5 5 k, cnt x vt v5 6 k, cnt x vt v5 7 k)

abbrev buf0 : Memref sig .scVector .vmem S8x6400 .f32 := Memref.whole cc0_scratch0
abbrev buf1 : Memref sig .scVector .vmem S8x6400 .f32 := Memref.whole cc0_scratch1
/-- The units of a chunk, and of the remainder. -/
abbrev amt (m : Memref sig .scVector .vmem S8x6400 .f32) : Nat :=
  (m.slice (Rect.unit (s := S8x6400) ![0, 0] S8x6400.size inb_S8x6400_S8x6400_0_0) (fun _ => rfl)).view.dmaCredit
abbrev amtR : Nat := (buf1.slice (Rect.unit (s := S8x6400) ![0, 0] S8x3968.size inb_S8x6400_S8x3968_0_0) (fun _ => rfl)).view.dmaCredit

/-- What the second buffer awaits: a chunk, or the remainder once the loop is over. -/
def Next (x : Nat → Nat → F .f32) (n : Nat) : sProp 𝕄 :=
  if n < 7 then iprop(Coming d L cc0_scratch8.sem (amt buf1) buf1 x (800 * n + 400) 400 ∗ semVal (thr d L, .dma cc0_scratch10.sem) 0)
  else iprop(Coming d L cc0_scratch10.sem amtR buf1 x 6000 248 ∗ semVal (thr d L, .dma cc0_scratch8.sem) 0)

/-- Between the trips. -/
def TripI (X : Vec F S256x100000 .f32) (O : CellTallies nD τ sig (HIx 1)) (W : Waits sig (HIx 1)) (n : Nat) : sProp 𝕄 :=
  iprop(Coming d L cc0_scratch7.sem (amt buf0) buf0 (rows L X) (800 * n) 400 ∗ Next d L (rows L X) n ∗ Src d L X ∗ Wt d L O W)

/-- The subcore's rows at a column, as the copies' offsets are. -/
theorem at_col {a b : Nat} (h : a = b) : (![16 * (L 1).val + 8 * (L 0).val, a] : Fin 2 → Nat) = ![base L, b] := by
  subst h; rfl

variable {d L}

theorem chunk_of {m : Memref sig .scVector .vmem S8x6400 .f32} {f : Buf (Elt F) (m.view.loc (thr d L))} {x : Nat → Nat → F .f32} {k₀ : Nat} {v5 : Vec F S16 .i32} {cb : BitVec 32}
    (hf : Loaded d L m x k₀ 400 f) (ht : ∀ j, (tw v5 j).toNat < 100000) (hcb : cb.toNat = 16 * k₀) (hk : 16 * k₀ ≤ 96000) :
    Chunk d L f x v5 k₀ 400 cb 6400#32 400#32 399#32 :=
  ⟨hf, ht, hcb, hk, rfl, rfl, rfl, Nat.le_refl _⟩

theorem trip_run {X : Vec F S256x100000 .f32} {O : CellTallies nD τ sig (HIx 1)} {W : Waits sig (HIx 1)} {v2 : BitVec 32} {v5 : Vec F S16 .i32}
    (ht : ∀ j, (tw v5 j).toNat < 100000) (vt : Fin 8 → Vec F S16 .f32) (n : Fin k0_t1_loop.trips) :
    TripI d L X O W n.val
      ⊢ wp frame (wpE (defs₀ (F := F)) 𝒱₀ (thr d L) none) Set.univ
          (trip L v2 v5 (fun j => broadcast S16 (tw v5 j)) vt n (counts (rows L X) vt v5 (800 * n.val)))
          fun r => iprop(⌜r = counts (rows L X) vt v5 (800 * (n.val + 1))⌝ ∗ TripI d L X O W (n.val + 1)) := by
  have hn : n.val < 7 := n.isLt
  have hcb : (Scalar.muli (Scf.iv 0#32 1#32 n) 12800#32).toNat = 16 * (800 * n.val) := by
    have : ∀ n : Fin k0_t1_loop.trips, (Scalar.muli (Scf.iv 0#32 1#32 n) 12800#32).toNat = 16 * (800 * n.val) := by decide
    exact this n
  have hcb' : (Scalar.addi (Scalar.muli (Scf.iv 0#32 1#32 n) 12800#32) 6400#32).toNat = 16 * (800 * n.val + 400) := by
    have : ∀ n : Fin k0_t1_loop.trips, (Scalar.addi (Scalar.muli (Scf.iv 0#32 1#32 n) 12800#32) 6400#32).toNat = 16 * (800 * n.val + 400) := by decide
    exact this n
  unfold TripI Next
  rw [if_pos hn]
  unfold trip counts k0_t1_body
  dsimp only
  refine wp_part ?_
  rw [k0_part17_eq_skeleton, k0_part17_skel]
  rw [k0_part1_eq_skeleton, k0_part2_eq_skeleton, k0_part3_eq_skeleton, k0_part4_eq_skeleton, k0_part5_eq_skeleton, k0_part6_eq_skeleton, k0_part7_eq_skeleton, k0_part8_eq_skeleton,
    k0_part9_eq_skeleton, k0_part10_eq_skeleton, k0_part11_eq_skeleton, k0_part12_eq_skeleton, k0_part13_eq_skeleton, k0_part14_eq_skeleton, k0_part15_eq_skeleton, k0_part16_eq_skeleton]
  refine wp_part ?_
  dsimp only [k0_part1_skel]
  iintro ⟨H0, ⟨H1, Hr⟩, HS, HW⟩
  iapply (wp_arrive (d := d) (L := L) (m := buf0) (x := rows L X) (k₀ := 800 * n.val) (N := 400) (O := O) (W := W)) $$ [H0 HW]
  · isplitl [H0]; · iexact H0
    iexact HW
  unfold Full
  iintro ⟨⟨%f, %hf, H⟩, H0, HW⟩
  have C₀ := chunk_of hf ht hcb (by omega)
  icombine HS HW as HR
  icombine Hr HR as HR
  icombine H1 HR as HR
  icombine H0 HR as HR
  icombine H HR as HR
  istop
  refine wp_chk (C₀.chk 0) ?_
  refine wp_ge C₀ ?_
  refine wp_geR C₀ ?_
  refine wp_own 0 C₀ fun ld hld => ?_
  refine wp_done ?_
  refine wp_part ?_
  dsimp only [k0_part2_skel]
  refine wp_gt (vt := vt) C₀ hld ?_
  refine wp_gtR C₀ ?_
  refine wp_chk (C₀.chk 1) ?_
  refine wp_ge C₀ ?_
  refine wp_geR C₀ ?_
  refine wp_own 1 C₀ fun ld hld => ?_
  refine wp_done ?_
  refine wp_part ?_
  dsimp only [k0_part3_skel]
  refine wp_gt (vt := vt) C₀ hld ?_
  refine wp_gtR C₀ ?_
  refine wp_chk (C₀.chk 2) ?_
  refine wp_ge C₀ ?_
  refine wp_geR C₀ ?_
  refine wp_own 2 C₀ fun ld hld => ?_
  refine wp_done ?_
  refine wp_part ?_
  dsimp only [k0_part4_skel]
  refine wp_gt (vt := vt) C₀ hld ?_
  refine wp_gtR C₀ ?_
  refine wp_chk (C₀.chk 3) ?_
  refine wp_ge C₀ ?_
  refine wp_geR C₀ ?_
  refine wp_own 3 C₀ fun ld hld => ?_
  refine wp_done ?_
  refine wp_part ?_
  dsimp only [k0_part5_skel]
  refine wp_gt (vt := vt) C₀ hld ?_
  refine wp_gtR C₀ ?_
  refine wp_chk (C₀.chk 4) ?_
  refine wp_ge C₀ ?_
  refine wp_geR C₀ ?_
  refine wp_own 4 C₀ fun ld hld => ?_
  refine wp_done ?_
  refine wp_part ?_
  dsimp only [k0_part6_skel]
  refine wp_gt (vt := vt) C₀ hld ?_
  refine wp_gtR C₀ ?_
  refine wp_chk (C₀.chk 5) ?_
  refine wp_ge C₀ ?_
  refine wp_geR C₀ ?_
  refine wp_own 5 C₀ fun ld hld => ?_
  refine wp_done ?_
  refine wp_part ?_
  dsimp only [k0_part7_skel]
  refine wp_gt (vt := vt) C₀ hld ?_
  refine wp_gtR C₀ ?_
  refine wp_chk (C₀.chk 6) ?_
  refine wp_ge C₀ ?_
  refine wp_geR C₀ ?_
  refine wp_own 6 C₀ fun ld hld => ?_
  refine wp_done ?_
  refine wp_part ?_
  dsimp only [k0_part8_skel]
  refine wp_gt (vt := vt) C₀ hld ?_
  refine wp_gtR C₀ ?_
  refine wp_chk (C₀.chk 7) ?_
  refine wp_ge C₀ ?_
  refine wp_geR C₀ ?_
  refine wp_own 7 C₀ fun ld hld => ?_
  refine wp_done ?_
  refine wp_part ?_
  dsimp only [k0_part9_skel]
  refine wp_gt (vt := vt) C₀ hld ?_
  refine wp_gtR C₀ ?_
  rw [dif_pos (cond1_true n)]
  iintro ⟨H, H0, H1, Hr, HS, HW⟩
  iapply (wp_issue (d := d) (L := L) (m := buf0) (X := X) (sem := cc0_scratch7.sem) (800 * (n.val + 1)) 400 rfl (by omega) (by omega)
    ((k0_off62_eq L n).trans (at_col L (by omega))) (f := f)) $$ [H H0 HS]
  · isplitl [H]; · iexact H
    isplitl [H0] <;> iassumption
  iintro ⟨H0, HS⟩
  iapply (wp_arrive (d := d) (L := L) (m := buf1) (x := rows L X) (k₀ := 800 * n.val + 400) (N := 400) (O := O) (W := W)) $$ [H1 HW]
  · isplitl [H1]; · iexact H1
    iexact HW
  unfold Full
  iintro ⟨⟨%g, %hg, H⟩, H1, HW⟩
  have C₁ := chunk_of hg ht hcb' (by omega)
  icombine HS HW as HR
  icombine Hr HR as HR
  icombine H1 HR as HR
  icombine H0 HR as HR
  icombine H HR as HR
  istop
  refine wp_chk (C₁.chk 0) ?_
  refine wp_ge C₁ ?_
  refine wp_geR C₁ ?_
  refine wp_done ?_
  refine wp_part ?_
  dsimp only [k0_part10_skel]
  refine wp_own 0 C₁ fun ld hld => ?_
  refine wp_gt (vt := vt) C₁ hld ?_
  refine wp_gtR C₁ ?_
  refine wp_chk (C₁.chk 1) ?_
  refine wp_ge C₁ ?_
  refine wp_geR C₁ ?_
  refine wp_done ?_
  refine wp_part ?_
  dsimp only [k0_part11_skel]
  refine wp_own 1 C₁ fun ld hld => ?_
  refine wp_gt (vt := vt) C₁ hld ?_
  refine wp_gtR C₁ ?_
  refine wp_chk (C₁.chk 2) ?_
  refine wp_ge C₁ ?_
  refine wp_geR C₁ ?_
  refine wp_done ?_
  refine wp_part ?_
  dsimp only [k0_part12_skel]
  refine wp_own 2 C₁ fun ld hld => ?_
  refine wp_gt (vt := vt) C₁ hld ?_
  refine wp_gtR C₁ ?_
  refine wp_chk (C₁.chk 3) ?_
  refine wp_ge C₁ ?_
  refine wp_geR C₁ ?_
  refine wp_done ?_
  refine wp_part ?_
  dsimp only [k0_part13_skel]
  refine wp_own 3 C₁ fun ld hld => ?_
  refine wp_gt (vt := vt) C₁ hld ?_
  refine wp_gtR C₁ ?_
  refine wp_chk (C₁.chk 4) ?_
  refine wp_ge C₁ ?_
  refine wp_geR C₁ ?_
  refine wp_done ?_
  refine wp_part ?_
  dsimp only [k0_part14_skel]
  refine wp_own 4 C₁ fun ld hld => ?_
  refine wp_gt (vt := vt) C₁ hld ?_
  refine wp_gtR C₁ ?_
  refine wp_chk (C₁.chk 5) ?_
  refine wp_ge C₁ ?_
  refine wp_geR C₁ ?_
  refine wp_done ?_
  refine wp_part ?_
  dsimp only [k0_part15_skel]
  refine wp_own 5 C₁ fun ld hld => ?_
  refine wp_gt (vt := vt) C₁ hld ?_
  refine wp_gtR C₁ ?_
  refine wp_chk (C₁.chk 6) ?_
  refine wp_ge C₁ ?_
  refine wp_geR C₁ ?_
  refine wp_done ?_
  refine wp_part ?_
  dsimp only [k0_part16_skel]
  refine wp_own 6 C₁ fun ld hld => ?_
  refine wp_gt (vt := vt) C₁ hld ?_
  refine wp_gtR C₁ ?_
  refine wp_chk (C₁.chk 7) ?_
  refine wp_ge C₁ ?_
  refine wp_geR C₁ ?_
  refine wp_done ?_
  refine wp_own 7 C₁ fun ld hld => ?_
  refine wp_gt (vt := vt) C₁ hld ?_
  refine wp_gtR C₁ ?_
  by_cases h6 : n.val < 6
  · rw [dif_pos ((cond2_iff n).mpr h6)]
    iintro ⟨H, H0, H1, Hr, HS, HW⟩
    iapply (wp_issue (d := d) (L := L) (m := buf1) (X := X) (sem := cc0_scratch8.sem) (800 * (n.val + 1) + 400) 400 rfl (by omega) (by omega)
      ((k0_off104_eq L n).trans (at_col L (by omega))) (f := g)) $$ [H H1 HS]
    · isplitl [H]; · iexact H
      isplitl [H1] <;> iassumption
    iintro ⟨H1, HS⟩
    icombine HS HW as HR
    icombine Hr HR as HR
    icombine H1 HR as HR
    icombine H0 HR as HR
    istop
    refine wp_done ?_
    rw [dif_neg (fun h => by have := (cond3_iff n).mp h; omega)]
    refine wp_done ?_
    rw [if_pos (show n.val + 1 < 7 by omega)]
    iintro ⟨H0, H1, Hr, HS, HW⟩
    isplitr; · ipureintro; rfl
    isplitl [H0]; · iexact H0
    isplitl [H1 Hr]; · isplitl [H1] <;> iassumption
    isplitl [HS] <;> iassumption
  · rw [dif_neg (fun h => h6 ((cond2_iff n).mp h))]
    have h6' : n.val = 6 := by omega
    refine wp_done ?_
    rw [dif_pos ((cond3_iff n).mpr h6')]
    iintro ⟨H, H0, H1, Hr, HS, HW⟩
    iapply (wp_issue (d := d) (L := L) (m := buf1) (X := X) (sem := cc0_scratch10.sem) 6000 248 rfl (by omega) (by omega)
      ((k0_off105_eq L).trans (at_col L (by omega))) (f := g)) $$ [H Hr HS]
    · isplitl [H]; · iexact H
      isplitl [Hr] <;> iassumption
    iintro ⟨Hr, HS⟩
    icombine HS HW as HR
    icombine Hr HR as HR
    icombine H1 HR as HR
    icombine H0 HR as HR
    istop
    refine wp_done ?_
    rw [if_neg (show ¬ n.val + 1 < 7 by omega)]
    iintro ⟨H0, H1, Hr, HS, HW⟩
    isplitr; · ipureintro; rfl
    isplitl [H0]; · iexact H0
    isplitl [H1 Hr]; · isplitl [Hr] <;> iassumption
    isplitl [HS] <;> iassumption

end Tile

end Cert.Proof.Rank
-- ==== Proof.Lanes.lean ====
/-
  Where a target lies in its window and in the tail: the window's first column, the target's lane in it, its lane in the tail.
-/
module

public import proofs.«01_k».proof.Proof.Words

@[expose] public section

noncomputable section

namespace Cert.Proof.Rank

open Cert.KernelIdeal Cert.KernelIdeal.Gen
open Idealize.ShloMosaic

/-- The first column of a target's window. -/
def winCol (t : BitVec 32) : BitVec 32 := Scalar.minsi (Scalar.andi t 4294967168#32) 99840#32
/-- The target's lane in its window; -/
def winLane (t : BitVec 32) : BitVec 32 := Scalar.minsi (Scalar.subi t (winCol t)) 127#32
/-- its lane in the last 128 columns. -/
def tailLane (t : BitVec 32) : BitVec 32 := Scalar.minsi 127#32 (Scalar.maxsi 0#32 (Scalar.subi t 99872#32))

/-- The lesser of two words that are small and positive. -/
theorem minsi_toNat' {x y : BitVec 32} (hx : x.toNat < 2 ^ 31) (hy : y.toNat < 2 ^ 31) : (Scalar.minsi x y).toNat = min x.toNat y.toNat := by
  show (if x.slt y then x else y).toNat = _
  rw [BitVec.slt_eq_decide, BitVec.toInt_eq_toNat_of_lt (by omega), BitVec.toInt_eq_toNat_of_lt (by omega)]
  split <;> rename_i h <;> simp at h <;> omega

/-- A word with its low seven bits cleared. -/
theorem and_toNat (t : BitVec 32) : (Scalar.andi t 4294967168#32).toNat = t.toNat / 128 * 128 := by
  have h : Scalar.andi t 4294967168#32 = (t >>> 7) <<< 7 := by
    show t &&& 4294967168#32 = _
    apply BitVec.eq_of_getLsbD_eq
    intro i hi
    rw [BitVec.getLsbD_and, BitVec.getLsbD_shiftLeft, BitVec.getLsbD_ushiftRight]
    have e : (4294967168#32).getLsbD i = decide (7 ≤ i) := by
      have : ∀ i : Fin 32, (4294967168#32).getLsbD i.val = decide (7 ≤ i.val) := by decide
      exact this ⟨i, hi⟩
    rw [e]
    by_cases h7 : 7 ≤ i
    · simp [h7, hi, show 7 + (i - 7) = i by omega]
    · simp [h7]
  rw [h, BitVec.toNat_shiftLeft, BitVec.toNat_ushiftRight, Nat.shiftRight_eq_div_pow, Nat.shiftLeft_eq, Nat.mod_eq_of_lt]
  have := t.isLt
  omega

theorem winCol_toNat {t : BitVec 32} (ht : t.toNat < 100000) : (winCol t).toNat = min (t.toNat / 128 * 128) 99840 := by
  unfold winCol
  rw [minsi_toNat' (by rw [and_toNat]; omega) (by decide), and_toNat]; rfl

theorem winLane_toNat {t : BitVec 32} (ht : t.toNat < 100000) : (winLane t).toNat = min (t.toNat - (winCol t).toNat) 127 := by
  have h := winCol_toNat ht
  have hs : (Scalar.subi t (winCol t)).toNat = t.toNat - (winCol t).toNat := by
    show (t - winCol t).toNat = _
    rw [BitVec.toNat_sub]; omega
  unfold winLane
  rw [minsi_toNat' (by omega) (by decide), hs]; rfl

theorem tailLane_lt {t : BitVec 32} (ht : t.toNat < 100000) : (tailLane t).toNat < 128 ∧ (99968 ≤ t.toNat → 99872 + (tailLane t).toNat = t.toNat) := by
  have hs : (Scalar.subi t 99872#32).toInt = t.toNat - 99872 := by
    show (t - 99872#32).toInt = _
    rw [BitVec.toInt_sub, BitVec.toInt_eq_toNat_of_lt (x := t) (by omega), show (99872#32).toInt = 99872 by decide]
    rw [Int.bmod_eq_of_le] <;> omega
  generalize hd : Scalar.subi t 99872#32 = s at hs
  have hm : (Scalar.maxsi 0#32 s).toNat = t.toNat - 99872 := by
    unfold Scalar.maxsi IntOp.maxsi
    rw [BitVec.slt_eq_decide, show (0#32).toInt = 0 by decide]
    have := BitVec.toInt_eq_toNat_cond s
    split <;> rename_i h <;> simp only [decide_eq_true_eq] at h
    · show 0 = _; omega
    · split at this <;> omega
  have e : (tailLane t).toNat = min 127 (t.toNat - 99872) := by
    unfold tailLane
    rw [hd, minsi_toNat' (by decide) (by omega), hm]; rfl
  omega

/-- A target in the tail, told by its word. -/
theorem sge_tail {t : BitVec 32} (ht : t.toNat < 100000) : Scalar.cmpi .sge t 99968#32 = BitVec.ofBool (decide (99968 ≤ t.toNat)) := by
  show BitVec.ofBool ((99968#32).sle t) = _
  rw [BitVec.sle_eq_decide, BitVec.toInt_eq_toNat_of_lt (x := t) (by omega), show (99968#32).toInt = 99968 by decide]
  congr 1; simp

end Cert.Proof.Rank
-- ==== Proof.Windows.lean ====
/-
  The targets' windows: the rules for a copy a subcore issues and waits for, the nine copies on one cell that bring the last
  128 columns and a window about each of the eight targets, and the gathers that read a target's value out of them.
-/
module

public import proofs.«01_k».proof.Proof.Steps
public import proofs.«01_k».proof.Proof.Lanes
public import proofs.«01_k».proof.Proof.Gen.KernelIdeal.Skeleton
public import Idealize.ShloMosaic.Lib.SparseCore.Ops
public import Idealize.ShloMosaic.Lib.Batch

@[expose] public section

noncomputable section

namespace Cert.Proof.Rank

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

/-! ## A copy and its wait -/

section Copy

variable {d : Dev nD} {L : grid0.Coords}

/-- A copy out of an array that is read: in flight, it is to deliver what the destination rewritten entails. -/
theorem wp_copy {α : Type} {Q : α → sProp 𝕄} {sp sp' : Space} {s : Shape} {e : EltTy} {A : Memref sig .scVector sp s e} {r : Rect s} {hr : ∀ a, r.stride a = 1}
    {X : Buf (Elt F) (A.view.loc (thr d L))} {dst : Memref sig .scVector sp' r.shape e} {sem : DmaSem sig}
    {S : Finset (Idx (dst.view.loc (thr d L)))} {f : Buf (Elt F) (dst.view.loc (thr d L))} (D : sProp 𝕄)
    (hpos : 0 < dst.view.dmaCredit) (hS : dst.view.set ⊆ S)
    (hD : (dst.view.loc (thr d L) ↦[S]{fullShare} dst.view.write (Elt F) f ((A.slice r hr).view.read (Elt F) X) Finset.univ) ⊢ D)
    {h1 h2 h3} {k : PUnit → Prog (ET F L) α} :
    iprop((dst.view.loc (thr d L) ↦[S]{fullShare} f) ∗ semVal (thr d L, .dma sem) 0 ∗ Rd d L A X)
      ⊢ iprop((iprop(Transfers.Flight countersEmb (thr d L) (.dma sem) (none : HIx 1) dst.view.dmaCredit D ∗ Rd d L A X)
            -∗ wp frame (wpE (defs₀ (F := F)) 𝒱₀ (thr d L) none) Set.univ (k ⟨⟩) Q)
          -∗ wp frame (wpE (defs₀ (F := F)) 𝒱₀ (thr d L) none) Set.univ
            (Prog.lift (TpuEff.enqueueDma (A.slice r hr) (.here dst) (.dma sem) h1 h2 h3) >>= k) Q) := by
  rw [Prog.bind_lift]
  iintro ⟨Hf, Hv, HS⟩ Hk
  ihave HS' := (lend (d := d) (L := L) (m := A) (f := X) (A.slice r hr).view.set) $$ HS
  icases HS' with ⟨⟨%q, Hs⟩, HS⟩
  iapply (Transfers.wp_dmaLocal countersEmb 𝒱₀ (thr d L) none (src := A.slice r hr) (dst := dst) (sm := .dma sem) (q := q) (fs := X) (fd := f) (Sd := S) (none : HIx 1)
    dst.view.dmaCredit rfl hpos hS) $$ [Hs Hf Hv]
  · isplitl [Hs]; · iexact Hs
    isplitl [Hf] <;> iassumption
  iintro HF
  iapply Hk
  isplitl [HF]
  · iapply (Transfers.Flight_mono (EC := countersEmb) (thr d L) (show _ ⊢ D from ?_)) $$ HF
    iintro ⟨H, -⟩
    iapply hD $$ H
  · iexact HS

/-- The wait for what is in flight. -/
theorem wp_await {α : Type} {Q : α → sProp 𝕄} {sem : DmaSem sig} {D : sProp 𝕄}
    {O : CellTallies nD τ sig (HIx 1)} {W : Waits sig (HIx 1)} {s' : Shape} {e' : EltTy} {s : Shape} {e : EltTy} {sp sp' : Space}
    {srcw : Memref sig .scVector sp' s' e'} {dstw : Memref sig .scVector sp s e} {h h'} {k : PUnit → Prog (ET F L) α} :
    iprop(Transfers.Flight countersEmb (thr d L) (.dma sem) (none : HIx 1) dstw.view.dmaCredit D ∗ Wt d L O W)
      ⊢ iprop((iprop(D ∗ semVal (thr d L, .dma sem) 0 ∗ Wt d L O W) -∗ wp frame (wpE (defs₀ (F := F)) 𝒱₀ (thr d L) none) Set.univ (k ⟨⟩) Q)
          -∗ wp frame (wpE (defs₀ (F := F)) 𝒱₀ (thr d L) none) Set.univ (Prog.lift (.waitDma2 sem srcw dstw h h') >>= k) Q) := by
  rw [Prog.bind_lift]
  unfold Wt
  iintro ⟨HF, #HM, %W', %hW', HO⟩ Hk
  iapply (Transfers.wp_waitLocalO countersEmb 𝒱₀ (thr d L) none (none : HIx 1) rfl (O := O) (W := W')) $$ [HF HO]
  · isplitl [HF]; · iexact HF
    isplitl [HO]; · iexact HO
    iapply (Transfers.MayWaits.elim (SemLoc.dma sem)); iexact HM
  iintro ⟨HD, Hv, HO⟩
  iapply Hk
  isplitl [HD]; · iexact HD
  isplitl [Hv]; · iexact Hv
  isplitr; · iexact HM
  iexists (insert (SemLoc.dma sem, (none : HIx 1)) W')
  isplitr
  · ipureintro; intro p hp
    rcases Finset.mem_insert.mp hp with hp | hp
    · exact .inr (hp ▸ rfl)
    · exact hW' p hp
  · iexact HO

/-! ### A batch of copies on one cell -/

/-- The next copy of a batch. -/
theorem wp_copyB {α : Type} {Q : α → sProp 𝕄} {sp sp' : Space} {s : Shape} {e : EltTy} {A : Memref sig .scVector sp s e} {r : Rect s} {hr : ∀ a, r.stride a = 1}
    {X : Buf (Elt F) (A.view.loc (thr d L))} {dst : Memref sig .scVector sp' r.shape e} {sem : DmaSem sig}
    {S : Finset (Idx (dst.view.loc (thr d L)))} {f : Buf (Elt F) (dst.view.loc (thr d L))} {n N : Nat} {D : Fin n → sProp 𝕄} (j : Nat) (hj : j < n)
    (hN : dst.view.dmaCredit = N) (hS : dst.view.set ⊆ S)
    (hD : (dst.view.loc (thr d L) ↦[S]{fullShare} dst.view.write (Elt F) f ((A.slice r hr).view.read (Elt F) X) Finset.univ) ⊢ D ⟨j, hj⟩)
    {h1 h2 h3} {k : PUnit → Prog (ET F L) α} :
    iprop((dst.view.loc (thr d L) ↦[S]{fullShare} f) ∗ Transfers.Batch countersEmb (thr d L) (.dma sem) (none : HIx 1) N D j 0 ∗ Rd d L A X)
      ⊢ iprop((iprop(Transfers.Batch countersEmb (thr d L) (.dma sem) (none : HIx 1) N D (j + 1) 0 ∗ Rd d L A X)
            -∗ wp frame (wpE (defs₀ (F := F)) 𝒱₀ (thr d L) none) Set.univ (k ⟨⟩) Q)
          -∗ wp frame (wpE (defs₀ (F := F)) 𝒱₀ (thr d L) none) Set.univ
            (Prog.lift (TpuEff.enqueueDma (A.slice r hr) (.here dst) (.dma sem) h1 h2 h3) >>= k) Q) := by
  rw [Prog.bind_lift]
  iintro ⟨Hf, HB, HS⟩ Hk
  ihave HS' := (lend (d := d) (L := L) (m := A) (f := X) (A.slice r hr).view.set) $$ HS
  icases HS' with ⟨⟨%q, Hs⟩, HS⟩
  iapply (Transfers.wp_dmaBatch countersEmb 𝒱₀ (thr d L) none (src := A.slice r hr) (dst := dst) (sm := .dma sem) (q := q) (fs := X) (fd := f) (Sd := S) (D := D) (j := j) (u := 0)
    (none : HIx 1) N hN hS hj (Nat.zero_le _) ?_) $$ [Hs Hf HB]
  · iintro ⟨H, -⟩
    iapply hD $$ H
  · isplitl [Hs]; · iexact Hs
    isplitl [Hf] <;> iassumption
  iintro HB
  iapply Hk
  isplitl [HB] <;> iassumption

/-- A wait of a batch that is not its last. -/
theorem wp_awaitB {α : Type} {Q : α → sProp 𝕄} {sem : DmaSem sig} {n N : Nat} {D : Fin n → sProp 𝕄} {u u' : Nat}
    {O : CellTallies nD τ sig (HIx 1)} {W : Waits sig (HIx 1)} {s' : Shape} {e' : EltTy} {s : Shape} {e : EltTy} {sp sp' : Space}
    {srcw : Memref sig .scVector sp' s' e'} {dstw : Memref sig .scVector sp s e} {h h'} {k : PUnit → Prog (ET F L) α}
    (hN : dstw.view.dmaCredit = N) (hu : u + N < N * n) (hu' : u' = u + N) :
    iprop(Transfers.Batch countersEmb (thr d L) (.dma sem) (none : HIx 1) N D n u ∗ Wt d L O W)
      ⊢ iprop((iprop(Transfers.Batch countersEmb (thr d L) (.dma sem) (none : HIx 1) N D n u' ∗ Wt d L O W) -∗ wp frame (wpE (defs₀ (F := F)) 𝒱₀ (thr d L) none) Set.univ (k ⟨⟩) Q)
          -∗ wp frame (wpE (defs₀ (F := F)) 𝒱₀ (thr d L) none) Set.univ (Prog.lift (.waitDma2 sem srcw dstw h h') >>= k) Q) := by
  subst hu'
  rw [Prog.bind_lift]
  unfold Wt
  iintro ⟨HB, #HM, %W', %hW', HO⟩ Hk
  iapply (Transfers.wp_waitBatchO countersEmb 𝒱₀ (thr d L) none (none : HIx 1) hN hu (O := O) (W := W')) $$ [HB HO]
  · isplitl [HB]; · iexact HB
    isplitl [HO]; · iexact HO
    iapply (Transfers.MayWaits.elim (SemLoc.dma sem)); iexact HM
  iintro ⟨HB, HO⟩
  iapply Hk
  isplitl [HB]; · iexact HB
  isplitr; · iexact HM
  iexists (insert (SemLoc.dma sem, (none : HIx 1)) W')
  isplitr
  · ipureintro; intro p hp
    rcases Finset.mem_insert.mp hp with hp | hp
    · exact .inr (hp ▸ rfl)
    · exact hW' p hp
  · iexact HO

/-- A batch's last wait. -/
theorem wp_awaitL {α : Type} {Q : α → sProp 𝕄} {sem : DmaSem sig} {n N : Nat} {D : Fin n → sProp 𝕄} {u : Nat}
    {O : CellTallies nD τ sig (HIx 1)} {W : Waits sig (HIx 1)} {s' : Shape} {e' : EltTy} {s : Shape} {e : EltTy} {sp sp' : Space}
    {srcw : Memref sig .scVector sp' s' e'} {dstw : Memref sig .scVector sp s e} {h h'} {k : PUnit → Prog (ET F L) α}
    (hN : dstw.view.dmaCredit = N) (hN0 : 0 < N) (hu : u + N = N * n) :
    iprop(Transfers.Batch countersEmb (thr d L) (.dma sem) (none : HIx 1) N D n u ∗ Wt d L O W)
      ⊢ iprop((iprop(bigSep Finset.univ D ∗ semVal (thr d L, .dma sem) 0 ∗ Wt d L O W) -∗ wp frame (wpE (defs₀ (F := F)) 𝒱₀ (thr d L) none) Set.univ (k ⟨⟩) Q)
          -∗ wp frame (wpE (defs₀ (F := F)) 𝒱₀ (thr d L) none) Set.univ (Prog.lift (.waitDma2 sem srcw dstw h h') >>= k) Q) := by
  rw [Prog.bind_lift]
  unfold Wt
  iintro ⟨HB, #HM, %W', %hW', HO⟩ Hk
  iapply (Transfers.wp_waitBatchLastO countersEmb 𝒱₀ (thr d L) none (none : HIx 1) hN hN0 hu (O := O) (W := W')) $$ [HB HO]
  · isplitl [HB]; · iexact HB
    isplitl [HO]; · iexact HO
    iapply (Transfers.MayWaits.elim (SemLoc.dma sem)); iexact HM
  iintro ⟨HD, Hv, HO⟩
  iapply Hk
  isplitl [HD]; · iexact HD
  isplitl [Hv]; · iexact Hv
  isplitr; · iexact HM
  iexists (insert (SemLoc.dma sem, (none : HIx 1)) W')
  isplitr
  · ipureintro; intro p hp
    rcases Finset.mem_insert.mp hp with hp | hp
    · exact .inr (hp ▸ rfl)
    · exact hW' p hp
  · iexact HO

end Copy

/-! ## The windows -/

abbrev logits : Memref sig .scVector .hbm S256x100000 .f32 := Memref.whole main_v0_scv
abbrev tails : Memref sig .scVector .hbm S256x128 .f32 := Memref.whole main_v1_scv
abbrev winB : Memref sig .scVector .vmem S64x128 .f32 := Memref.whole cc0_scratch2
abbrev tailB : Memref sig .scVector .vmem S8x128 .f32 := Memref.whole cc0_scratch3

theorem win_inb (j : Fin 8) : ∀ a : Fin 2, (![8 * j.val, 0] : Fin 2 → Nat) a + S8x128.size a ≤ S64x128.size a := by revert j; decide

/-- The elements of window `j`: eight rows of the windows' buffer. -/
def winSet (j : Fin 8) : Finset S64x128.Idx := (Rect.unit (s := S64x128) ![8 * j.val, 0] S8x128.size (win_inb j)).set

theorem mem_winSet (j : Fin 8) (i : S64x128.Idx) : i ∈ winSet j ↔ (i 0).val / 8 = j.val := by
  unfold winSet
  rw [Rect.mem_set_unit]
  constructor
  · intro h
    have h0 : 8 * j.val ≤ (i 0).val ∧ (i 0).val < 8 * j.val + 8 := h 0
    omega
  · intro h a
    match a with
    | ⟨0, _⟩ => show 8 * j.val ≤ (i 0).val ∧ (i 0).val < 8 * j.val + 8; omega
    | ⟨1, _⟩ => exact ⟨Nat.zero_le _, by have : (i 1).val < 128 := (i 1).isLt; show (i 1).val < 0 + 128; omega⟩

theorem winSet_disjoint (t t' : Fin 8) (h : t ≠ t') : Disjoint (winSet t) (winSet t') := by
  rw [Finset.disjoint_left]
  intro i hi hi'
  rw [mem_winSet] at hi hi'
  exact h (Fin.ext (hi.symm.trans hi'))

section Win

variable (d : Dev nD) (L : grid0.Coords) (X : Vec F S256x100000 .f32) (v5 : Vec F S16 .i32)

/-- What the windows' buffer comes to hold: under row `8 j + r`, row `r` of the subcore's from target `j`'s window's first column on. -/
def winV : Vec F S64x128 .f32 := fun i =>
  rows L X ((i 0).val % 8) ((winCol (tw v5 ⟨(i 0).val / 8, by have : (i 0).val < 64 := (i 0).isLt; omega⟩)).toNat + (i 1).val)

/-- What the tail's buffer comes to hold: the last 128 columns of the subcore's rows. -/
def tailV : Vec F S8x128 .f32 := fun i => rows L X (i 0).val (99872 + (i 1).val)

/-- What the nine copies deliver. -/
def deliv : Fin 9 → sProp 𝕄 :=
  Fin.cases (iprop(tailB.view.loc (thr d L) ↦[tailB.view.set]{fullShare} (tailV L X : Buf (Elt F) (tailB.view.loc (thr d L)))))
    fun j => iprop(winB.view.loc (thr d L) ↦[winSet j]{fullShare} (winV L X v5 : Buf (Elt F) (winB.view.loc (thr d L))))

instance deliv_storable (t : Fin 9) : BI.Storable (upEmb : UEmb _ 𝕄) (deliv d L X v5 t) := by
  unfold deliv
  refine Fin.cases ?_ (fun j => ?_) t
  · dsimp only [Fin.cases_zero]; infer_instance
  · dsimp only [Fin.cases_succ]; infer_instance

end Win

/-! ### What a window's side conditions ask -/

theorem win_ok (L : grid0.Coords) {v : BitVec 32} (hv : v.toNat < 100000) :
    128 ∣ (winCol v).toNat ∧ ∀ a, k0_off12 L v a + S8x128.size a ≤ S256x100000.size a := by
  have h := winCol_toNat hv
  refine ⟨by rw [h]; omega, fun a => ?_⟩
  match a with
  | ⟨0, _⟩ => exact k0_off2_inb L 0
  | ⟨1, _⟩ => show (winCol v).toNat + 128 ≤ 100000; omega

theorem win_off (L : grid0.Coords) (v : BitVec 32) : k0_off12 L v = ![base L, (winCol v).toNat] := by
  funext a
  match a with
  | ⟨0, _⟩ => exact congrFun (k0_off2_eq L) 0
  | ⟨1, _⟩ => rfl

end Cert.Proof.Rank
-- ==== Proof.Gather.lean ====
/-
  The nine copies that bring the last 128 columns and a window about each of the eight targets, issued and joined again, and the
  gathers that read a target's value out of them.
-/
module

public import proofs.«01_k».proof.Proof.Windows
public import proofs.«01_k».proof.Proof.Gen.KernelIdeal.Skeleton
public import Idealize.ShloMosaic.Lib.SparseCore.Ops
public import Idealize.ShloMosaic.Lib.Batch

@[expose] public section

noncomputable section

namespace Cert.Proof.Rank

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

section Rules

variable {d : Dev nD} {L : grid0.Coords}

/-- The units of one of the nine copies. -/
@[irreducible] def unit9 : Nat := tailB.view.dmaCredit

theorem unit9_eq : tailB.view.dmaCredit = unit9 := by unfold unit9; rfl
theorem unit9_win {off : Fin 2 → Nat} {hin : ∀ a, off a + S8x128.size a ≤ S64x128.size a} {h} :
    (winB.slice (Rect.unit (s := S64x128) off S8x128.size hin) h).view.dmaCredit = unit9 := by unfold unit9; rfl
theorem unit9_pos : 0 < unit9 := unit9_eq ▸ View.amount_pos _ (.dma cc0_scratch9.sem) (by decide)

/-- The batch of the nine copies, `j` of them issued, `u` units of it waited for. -/
abbrev Nine (d : Dev nD) (L : grid0.Coords) (X : Vec F S256x100000 .f32) (v5 : Vec F S16 .i32) (j u : Nat) : sProp 𝕄 :=
  Transfers.Batch countersEmb (thr d L) (.dma cc0_scratch9.sem) (none : HIx 1) unit9 (deliv d L X v5) j u

/-- The last 128 columns, as an array of their own. -/
def lastCols (X : Vec F S256x100000 .f32) : Vec F S256x128 .f32 := fun i => elem X (i 0).val (99872 + (i 1).val)

/-- The first of the nine: the last 128 columns. -/
theorem wp_tail {α : Type} {Q : α → sProp 𝕄} {X : Vec F S256x100000 .f32} {v5 : Vec F S16 .i32} {off : Fin 2 → Nat} (ho : off = ![base L, 0])
    {hin : ∀ a, off a + S8x128.size a ≤ S256x128.size a} {h h1 h2 h3} {f : Buf (Elt F) (tailB.view.loc (thr d L))} {k : PUnit → Prog (ET F L) α} :
    iprop((tailB.view.loc (thr d L) ↦[tailB.view.set]{fullShare} f) ∗ Nine d L X v5 0 0 ∗ Rd d L tails (lastCols X))
      ⊢ iprop((iprop(Nine d L X v5 1 0 ∗ Rd d L tails (lastCols X))
            -∗ wp frame (wpE (defs₀ (F := F)) 𝒱₀ (thr d L) none) Set.univ (k ⟨⟩) Q)
          -∗ wp frame (wpE (defs₀ (F := F)) 𝒱₀ (thr d L) none) Set.univ
            (Prog.lift (TpuEff.enqueueDma (tails.slice (Rect.unit (s := S256x128) off S8x128.size hin) h) (.here tailB) (.dma cc0_scratch9.sem) h1 h2 h3) >>= k) Q) := by
  subst ho
  refine @wp_copyB F _ d L α Q _ _ _ _ tails (Rect.unit (s := S256x128) ![base L, 0] S8x128.size hin) h (lastCols X) tailB cc0_scratch9.sem
    tailB.view.set f 9 unit9 (deliv d L X v5) 0 (by decide) unit9_eq (Finset.Subset.refl _) ?_ h1 h2 h3 k
  refine Entails.of_eq (pointsTo_congr fun i _ => ?_)
  refine (View.write_emb_of_mem (v := tailB.view) f _ (Finset.mem_univ (show S8x128.Idx from i))).trans ?_
  show lastCols X ((Rect.unit (s := S256x128) ![base L, 0] S8x128.size hin).emb i) = _
  unfold lastCols tailV rows
  congr 1
  · show base L + 1 * (i 0).val = _; simp
  · show 99872 + (0 + 1 * (i 1).val) = _; simp

/-- The others: target `j`'s window. -/
theorem wp_window {α : Type} {Q : α → sProp 𝕄} {X : Vec F S256x100000 .f32} {v5 : Vec F S16 .i32} (j : Fin 8) {off : Fin 2 → Nat} (ho : off = ![base L, (winCol (tw v5 j)).toNat])
    {hin : ∀ a, off a + S8x128.size a ≤ S256x100000.size a} {woff : Fin 2 → Nat} (hw : woff = ![8 * j.val, 0])
    {hwin : ∀ a, woff a + S8x128.size a ≤ S64x128.size a} {h h' h1 h2 h3} {f : Buf (Elt F) (winB.view.loc (thr d L))} {k : PUnit → Prog (ET F L) α} :
    iprop((winB.view.loc (thr d L) ↦[winSet j]{fullShare} f) ∗ Nine d L X v5 (j.val + 1) 0 ∗ Src d L X)
      ⊢ iprop((iprop(Nine d L X v5 (j.val + 2) 0 ∗ Src d L X)
            -∗ wp frame (wpE (defs₀ (F := F)) 𝒱₀ (thr d L) none) Set.univ (k ⟨⟩) Q)
          -∗ wp frame (wpE (defs₀ (F := F)) 𝒱₀ (thr d L) none) Set.univ
            (Prog.lift (TpuEff.enqueueDma (logits.slice (Rect.unit (s := S256x100000) off S8x128.size hin) h)
              (.here (winB.slice (Rect.unit (s := S64x128) woff S8x128.size hwin) h')) (.dma cc0_scratch9.sem) h1 h2 h3) >>= k) Q) := by
  subst ho hw
  have hset : (winB.slice (Rect.unit (s := S64x128) ![8 * j.val, 0] S8x128.size hwin) h').view.set = winSet j := View.set_slice_whole _ _
  refine @wp_copyB F _ d L α Q _ _ _ _ logits (Rect.unit (s := S256x100000) ![base L, (winCol (tw v5 j)).toNat] S8x128.size hin) h X
    (winB.slice (Rect.unit (s := S64x128) ![8 * j.val, 0] S8x128.size hwin) h') cc0_scratch9.sem
    (winSet j) f 9 unit9 (deliv d L X v5) (j.val + 1) (by have := j.isLt; omega) unit9_win (Finset.subset_of_eq hset) ?_ h1 h2 h3 k
  refine Entails.of_eq (pointsTo_congr fun i hi => ?_)
  have hi' := (mem_winSet j i).mp hi
  have hj := j.isLt
  have h1' : (i 1).val < 128 := (i 1).isLt
  let z : S8x128.Idx := fun a => match a with | ⟨0, _⟩ => ⟨(i 0).val % 8, Nat.mod_lt _ (by decide)⟩ | ⟨1, _⟩ => ⟨(i 1).val, h1'⟩
  have hz : (winB.slice (Rect.unit (s := S64x128) ![8 * j.val, 0] S8x128.size hwin) h').view.emb z = i := by
    funext a
    match a with
    | ⟨0, _⟩ => exact Fin.ext (by show 8 * j.val + 1 * ((i 0).val % 8) = (i 0).val; omega)
    | ⟨1, _⟩ => exact Fin.ext (by show 0 + 1 * (i 1).val = (i 1).val; omega)
  have e := (View.write_emb_of_mem (v := (winB.slice (Rect.unit (s := S64x128) ![8 * j.val, 0] S8x128.size hwin) h').view) f
    ((logits.slice (Rect.unit (s := S256x100000) ![base L, (winCol (tw v5 j)).toNat] S8x128.size hin) h).view.read (Elt F) X) (Finset.mem_univ z))
  rw [hz] at e
  refine e.trans ?_
  refine (elem_eq X ((Rect.unit (s := S256x100000) ![base L, (winCol (tw v5 j)).toNat] S8x128.size hin).emb z) (r := base L + (i 0).val % 8) (p := (winCol (tw v5 j)).toNat + (i 1).val) ?_ ?_).trans ?_
  · show base L + 1 * ((i 0).val % 8) = _; omega
  · show (winCol (tw v5 j)).toNat + 1 * (i 1).val = _; omega
  · show _ = winV L X v5 i
    unfold winV rows
    have e8 : (⟨(i 0).val / 8, by have : (i 0).val < 64 := (i 0).isLt; omega⟩ : Fin 8) = j := Fin.ext hi'
    rw [e8]

omit [FloatOps F] in
/-- A buffer whole is its disjoint parts. -/
theorem pointsTo_parts {T : Type} [Fintype T] {ℓ : Loc nD τ sig} (K : T → Finset (Idx ℓ)) (hK : ∀ t t', t ≠ t' → Disjoint (K t) (K t')) (hc : ∀ i, ∃ t, i ∈ K t) (f : Buf (Elt F) ℓ) :
    (ℓ ↦[Finset.univ]{fullShare} f : sProp 𝕄) = bigSep Finset.univ fun t => ℓ ↦[K t]{fullShare} f := by
  classical
  rw [← pointsTo_biUnion Finset.univ K (fun t _ t' _ h => hK t t' h)]
  congr 1
  ext i
  simp only [Finset.mem_univ, Finset.mem_biUnion, true_and, true_iff]
  exact hc i

omit [FloatOps F] in
/-- The windows' buffer is its windows. -/
theorem win_parts (f : Buf (Elt F) (winB.view.loc (thr d L))) :
    (winB.view.loc (thr d L) ↦[Finset.univ]{fullShare} f : sProp 𝕄) = bigSep Finset.univ fun j : Fin 8 => (winB.view.loc (thr d L) ↦[winSet j]{fullShare} f) :=
  pointsTo_parts (ℓ := winB.view.loc (thr d L)) winSet (fun t t' h => winSet_disjoint t t' h)
    (fun i => ⟨⟨(show S64x128.Idx from i) 0 / 8, by have : ((show S64x128.Idx from i) 0).val < 64 := ((show S64x128.Idx from i) 0).isLt; omega⟩, (mem_winSet _ _).mpr rfl⟩) f

/-- What the nine copies deliver, joined: the two buffers. -/
theorem nine_done {X : Vec F S256x100000 .f32} {v5 : Vec F S16 .i32} :
    bigSep Finset.univ (deliv d L X v5) ⊢ (iprop((tailB.view.loc (thr d L) ↦[tailB.view.set]{fullShare} (tailV L X : Buf (Elt F) (tailB.view.loc (thr d L))))
      ∗ (winB.view.loc (thr d L) ↦[Finset.univ]{fullShare} (winV L X v5 : Buf (Elt F) (winB.view.loc (thr d L))))) : sProp 𝕄) := by
  rw [Fin.univ_succ, Finset.cons_eq_insert, bigSep_insert (by simp [Fin.succ_ne_zero]), bigSep_map]
  refine sep_mono .rfl ?_
  exact Entails.of_eq (win_parts (winV L X v5)).symm

/-- A wait for one of the nine, others still to come. -/
theorem wp_nine {α : Type} {Q : α → sProp 𝕄} {X : Vec F S256x100000 .f32} {v5 : Vec F S16 .i32} (n : Nat) {u : Nat} (hu : u = n * unit9) (hn : n < 8)
    {O : CellTallies nD τ sig (HIx 1)} {W : Waits sig (HIx 1)} {s' : Shape} {e' : EltTy} {s : Shape} {e : EltTy} {sp sp' : Space}
    {srcw : Memref sig .scVector sp' s' e'} {dstw : Memref sig .scVector sp s e} {h h'} {k : PUnit → Prog (ET F L) α} (hN : dstw.view.dmaCredit = unit9) :
    iprop(Nine d L X v5 9 u ∗ Wt d L O W)
      ⊢ iprop((iprop(Nine d L X v5 9 ((n + 1) * unit9) ∗ Wt d L O W) -∗ wp frame (wpE (defs₀ (F := F)) 𝒱₀ (thr d L) none) Set.univ (k ⟨⟩) Q)
          -∗ wp frame (wpE (defs₀ (F := F)) 𝒱₀ (thr d L) none) Set.univ (Prog.lift (.waitDma2 cc0_scratch9.sem srcw dstw h h') >>= k) Q) := by
  subst hu
  have hp := unit9_pos
  have h1 : n * unit9 + unit9 < unit9 * 9 := by
    have : (n + 1) * unit9 < 9 * unit9 := Nat.mul_lt_mul_of_pos_right (by omega) hp
    rw [Nat.add_mul, Nat.one_mul] at this
    omega
  exact wp_awaitB hN h1 (by rw [Nat.add_mul, Nat.one_mul])

/-- The last of the nine waits: the two buffers are loaded. -/
theorem wp_nine_last {α : Type} {Q : α → sProp 𝕄} {X : Vec F S256x100000 .f32} {v5 : Vec F S16 .i32}
    {O : CellTallies nD τ sig (HIx 1)} {W : Waits sig (HIx 1)} {s' : Shape} {e' : EltTy} {s : Shape} {e : EltTy} {sp sp' : Space}
    {srcw : Memref sig .scVector sp' s' e'} {dstw : Memref sig .scVector sp s e} {h h'} {k : PUnit → Prog (ET F L) α} (hN : dstw.view.dmaCredit = unit9) :
    iprop(Nine d L X v5 9 (8 * unit9) ∗ Wt d L O W)
      ⊢ iprop((iprop((tailB.view.loc (thr d L) ↦[tailB.view.set]{fullShare} (tailV L X : Buf (Elt F) (tailB.view.loc (thr d L))))
              ∗ (winB.view.loc (thr d L) ↦[Finset.univ]{fullShare} (winV L X v5 : Buf (Elt F) (winB.view.loc (thr d L))))
              ∗ semVal (thr d L, .dma cc0_scratch9.sem) 0 ∗ Wt d L O W) -∗ wp frame (wpE (defs₀ (F := F)) 𝒱₀ (thr d L) none) Set.univ (k ⟨⟩) Q)
          -∗ wp frame (wpE (defs₀ (F := F)) 𝒱₀ (thr d L) none) Set.univ (Prog.lift (.waitDma2 cc0_scratch9.sem srcw dstw h h') >>= k) Q) := by
  iintro H Hk
  iapply (wp_awaitL (d := d) (L := L) (sem := cc0_scratch9.sem) (D := deliv d L X v5) (O := O) (W := W) hN unit9_pos (show 8 * unit9 + unit9 = unit9 * 9 by omega)) $$ H
  iintro ⟨HD, Hv, HW⟩
  ihave HD' := (nine_done (d := d) (L := L)) $$ HD
  icases HD' with ⟨HT, Hw⟩
  iapply Hk
  isplitl [HT]; · iexact HT
  isplitl [Hw]; · iexact Hw
  isplitl [Hv] <;> iassumption

/-! ### The gathers -/

/-- A gather, at one lane of one row, out of the windows' buffer. -/
theorem wp_winAt {α : Type} {Q : α → sProp 𝕄} {R : sProp 𝕄} {X : Vec F S256x100000 .f32} {v5 : Vec F S16 .i32} (j : Fin 8) (ht : (tw v5 j).toNat < 100000)
    {v w : IVec S16 32} {hi : ∀ a x, ((![v, w] : Fin 2 → IVec S16 32) a x).toNat < S64x128.size a} {hl : winB.view.Loads} {k : Vec F S16 .f32 → Prog (ET F L) α}
    (hk : iprop((tailB.view.loc (thr d L) ↦[tailB.view.set]{fullShare} (tailV L X : Buf (Elt F) (tailB.view.loc (thr d L)))) ∗ (winB.view.loc (thr d L) ↦[Finset.univ]{fullShare} (winV L X v5 : Buf (Elt F) (winB.view.loc (thr d L)))) ∗ R)
      ⊢ wp frame (wpE (defs₀ (F := F)) 𝒱₀ (thr d L) none) Set.univ
          (k (broadcast S16 (rows L X j.val ((winCol (tw v5 j)).toNat + (winLane (tw v5 j)).toNat)))) Q)
    (hv : v = broadcast S16 (BitVec.ofNat 32 (9 * j.val)) := by rfl) (hw : w = broadcast S16 (winLane (tw v5 j)) := by rfl) :
    iprop((tailB.view.loc (thr d L) ↦[tailB.view.set]{fullShare} (tailV L X : Buf (Elt F) (tailB.view.loc (thr d L)))) ∗ (winB.view.loc (thr d L) ↦[Finset.univ]{fullShare} (winV L X v5 : Buf (Elt F) (winB.view.loc (thr d L)))) ∗ R)
      ⊢ wp frame (wpE (defs₀ (F := F)) 𝒱₀ (thr d L) none) Set.univ (SparseCore.vectorLoadIdx winB ![v, w] hi hl >>= k) Q := by
  subst hv hw
  have hj := j.isLt
  have hval : loadIdx ((winB.access (.whole S64x128)).read (Elt F) (winV L X v5)) ![broadcast S16 (BitVec.ofNat 32 (9 * j.val)), broadcast S16 (winLane (tw v5 j))] hi
      = broadcast S16 (rows L X j.val ((winCol (tw v5 j)).toNat + (winLane (tw v5 j)).toNat)) := by
    funext x
    have e : (BitVec.ofNat 32 (9 * j.val)).toNat = 9 * j.val := by rw [BitVec.toNat_ofNat]; omega
    refine (show _ = rows L X ((0 + 1 * (BitVec.ofNat 32 (9 * j.val)).toNat) % 8) ((winCol (tw v5 ⟨(0 + 1 * (BitVec.ofNat 32 (9 * j.val)).toNat) / 8, by omega⟩)).toNat + (0 + 1 * (winLane (tw v5 j)).toNat)) from rfl).trans ?_
    show _ = rows L X j.val _
    have e1 : (0 + 1 * (BitVec.ofNat 32 (9 * j.val)).toNat) % 8 = j.val := by omega
    have e2 : (⟨(0 + 1 * (BitVec.ofNat 32 (9 * j.val)).toNat) / 8, by omega⟩ : Fin 8) = j := Fin.ext (by show (0 + 1 * (BitVec.ofNat 32 (9 * j.val)).toNat) / 8 = _; omega)
    rw [e1, e2, Nat.zero_add, Nat.one_mul]
  iintro ⟨HT, H, HR⟩
  iapply (SparseCore.wp_vectorLoadIdx 𝒱₀ (thr d L) none Set.univ (base := winB) (S := Finset.univ) (f := (winV L X v5 : Buf (Elt F) (winB.view.loc (thr d L)))) (Finset.subset_univ _)) $$ H
  rw [hval]
  iintro H
  iapply hk
  isplitl [HT]; · iexact HT
  isplitl [H] <;> iassumption

/-- A gather, at one lane of one row, out of the last columns' buffer. -/
theorem wp_tailAt {α : Type} {Q : α → sProp 𝕄} {R : sProp 𝕄} {X : Vec F S256x100000 .f32} {v5 : Vec F S16 .i32} (j : Fin 8)
    {v w : IVec S16 32} {hi : ∀ a x, ((![v, w] : Fin 2 → IVec S16 32) a x).toNat < S8x128.size a} {hl : tailB.view.Loads} {k : Vec F S16 .f32 → Prog (ET F L) α}
    (hk : iprop((tailB.view.loc (thr d L) ↦[tailB.view.set]{fullShare} (tailV L X : Buf (Elt F) (tailB.view.loc (thr d L)))) ∗ R)
      ⊢ wp frame (wpE (defs₀ (F := F)) 𝒱₀ (thr d L) none) Set.univ
          (k (broadcast S16 (rows L X j.val (99872 + (tailLane (tw v5 j)).toNat)))) Q)
    (hv : v = broadcast S16 (BitVec.ofNat 32 j.val) := by rfl) (hw : w = broadcast S16 (tailLane (tw v5 j)) := by rfl) :
    iprop((tailB.view.loc (thr d L) ↦[tailB.view.set]{fullShare} (tailV L X : Buf (Elt F) (tailB.view.loc (thr d L)))) ∗ R)
      ⊢ wp frame (wpE (defs₀ (F := F)) 𝒱₀ (thr d L) none) Set.univ (SparseCore.vectorLoadIdx tailB ![v, w] hi hl >>= k) Q := by
  subst hv hw
  have hj := j.isLt
  have hval : loadIdx ((tailB.access (.whole S8x128)).read (Elt F) (tailV L X)) ![broadcast S16 (BitVec.ofNat 32 j.val), broadcast S16 (tailLane (tw v5 j))] hi
      = broadcast S16 (rows L X j.val (99872 + (tailLane (tw v5 j)).toNat)) := by
    funext x
    have e : (BitVec.ofNat 32 j.val).toNat = j.val := by rw [BitVec.toNat_ofNat]; omega
    refine (show _ = rows L X (0 + 1 * (BitVec.ofNat 32 j.val).toNat) (99872 + (0 + 1 * (tailLane (tw v5 j)).toNat)) from rfl).trans ?_
    show _ = rows L X j.val _
    rw [Nat.one_mul, Nat.one_mul, Nat.zero_add, Nat.zero_add, e]
  iintro ⟨H, HR⟩
  iapply (SparseCore.wp_vectorLoadIdx 𝒱₀ (thr d L) none Set.univ (base := tailB) (S := tailB.view.set) (f := (tailV L X : Buf (Elt F) (tailB.view.loc (thr d L))))
    (View.set_slice_subset (v := tailB.view) _)) $$ H
  rw [hval]
  iintro H
  iapply hk
  isplitl [H] <;> iassumption

/-- The targets' values. -/
def tv (x : Nat → Nat → F .f32) (v5 : Vec F S16 .i32) (j : Fin 8) : FVec F S16 .f32 := broadcast S16 (x j.val (tw v5 j).toNat)

/-- What the two gathers of a target give, the one or the other as it lies in the tail or does not, is its value. -/
theorem tv_eq (x : Nat → Nat → F .f32) {v5 : Vec F S16 .i32} (j : Fin 8) (ht : (tw v5 j).toNat < 100000) :
    select (broadcast S16 (Scalar.cmpi .sge (tw v5 j) 99968#32)) (broadcast S16 (x j.val (99872 + (tailLane (tw v5 j)).toNat)))
      (broadcast S16 (x j.val ((winCol (tw v5 j)).toNat + (winLane (tw v5 j)).toNat))) = tv x v5 j := by
  have hs := sge_tail ht
  have hw := winLane_toNat ht
  have hc := winCol_toNat ht
  have hl := (tailLane_lt ht).2
  funext l
  show (if Scalar.cmpi .sge (tw v5 j) 99968#32 = 1#1 then x j.val (99872 + (tailLane (tw v5 j)).toNat) else x j.val ((winCol (tw v5 j)).toNat + (winLane (tw v5 j)).toNat)) = x j.val (tw v5 j).toNat
  rw [hs]
  by_cases h : 99968 ≤ (tw v5 j).toNat
  · rw [decide_eq_true h, if_pos (show BitVec.ofBool true = 1#1 from rfl), hl h]
  · rw [decide_eq_false h, if_neg (by decide)]
    congr 1; omega

/-! ### The targets and the masks -/

/-- A word of an array of 256. -/
def word (T : Vec F S256 .i32) (r : Nat) : BitVec 32 := T (ix1 ⟨r % 256, Nat.mod_lt _ (by decide)⟩)

/-- The buffer's first eight words are the array's from the subcore's first row on. -/
def Held (d : Dev nD) (L : grid0.Coords) (m : Memref sig .scVector .vmem S16 .i32) (T : Vec F S256 .i32) : sProp 𝕄 :=
  iprop(∃ f, ⌜∀ y : S16.Idx, (y 0).val < 8 → m.view.read (Elt F) f y = word T (base L + (y 0).val)⌝ ∗ (m.view.loc (thr d L) ↦[m.view.set]{fullShare} f))

abbrev tgts : Memref sig .scVector .hbm S256 .i32 := Memref.whole main_v2_scv
abbrev masks : Memref sig .scVector .hbm S256 .i32 := Memref.whole main_v3_scv
abbrev tgtB : Memref sig .scVector .vmem S16 .i32 := Memref.whole cc0_scratch4
abbrev maskB : Memref sig .scVector .vmem S16 .i32 := Memref.whole cc0_scratch5

omit [FloatOps F] in
theorem held_intro {m : Memref sig .scVector .vmem S16 .i32} {T : Vec F S256 .i32} {f : Buf (Elt F) (m.view.loc (thr d L))}
    (h : ∀ y : S16.Idx, (y 0).val < 8 → m.view.read (Elt F) f y = word T (base L + (y 0).val)) :
    (m.view.loc (thr d L) ↦[m.view.set]{fullShare} f) ⊢ Held d L m T := by
  unfold Held
  iintro H
  iexists f
  isplitr
  · ipureintro; exact h
  · iexact H

theorem held_write {A : Memref sig .scVector .hbm S256 .i32} {T : Buf (Elt F) (A.view.loc (thr d L))} {T' : Vec F S256 .i32} (hT : A.view.read (Elt F) T = T')
    {m : Memref sig .scVector .vmem S16 .i32} {off : Fin 1 → Nat} (ho : off = ![base L])
    {hin : ∀ a, (![0] : Fin 1 → Nat) a + S8.size a ≤ S16.size a} {hin' : ∀ a, off a + S8.size a ≤ S256.size a} (f : Buf (Elt F) (m.view.loc (thr d L))) :
    (m.view.loc (thr d L) ↦[m.view.set]{fullShare} (m.slice (Rect.unit (s := S16) ![0] S8.size hin) (fun _ => rfl)).view.write (Elt F) f
      ((A.slice (Rect.unit (s := S256) off S8.size hin') (fun _ => rfl)).view.read (Elt F) T) Finset.univ) ⊢ Held d L m T' := by
  subst ho hT
  refine held_intro fun y hy => ?_
  obtain ⟨z, rfl⟩ : ∃ z : (Rect.unit (s := S16) ![0] S8.size hin).shape.Idx, (Rect.unit (s := S16) ![0] S8.size hin).emb z = y := by
    refine ⟨fun a => match a with | ⟨0, _⟩ => ⟨(y 0).val, hy⟩, ?_⟩
    funext a
    match a with
    | ⟨0, _⟩ => exact Fin.ext (by show 0 + 1 * (y 0).val = _; simp)
  refine (View.read_slice_write_emb (v := m.view) _ _ _ (Finset.mem_univ z)).trans ?_
  have e0 : (((Rect.unit (s := S16) ![0] S8.size hin).emb z) 0).val = (z 0).val := by show 0 + 1 * (z 0).val = _; simp
  rw [e0]
  show A.view.read (Elt F) T ((Rect.unit (s := S256) ![base L] S8.size hin').emb z) = A.view.read (Elt F) T _
  congr 1
  funext a
  have hb := base_lt L
  have hz : (z 0).val < 8 := (z 0).isLt
  match a with
  | ⟨0, _⟩ => exact Fin.ext (by show base L + 1 * (z 0).val = (base L + (z 0).val) % 256; omega)

/-- The load of a subcore's words. -/
theorem wp_words {α : Type} {Q : α → sProp 𝕄} {R : sProp 𝕄} {m : Memref sig .scVector .vmem S16 .i32} {T : Vec F S256 .i32}
    {hin : ∀ a, (![0] : Fin 1 → Nat) a + S16.size a ≤ S16.size a} {hl : m.view.LoadsAt (Rect.unit (s := S16) ![0] S16.size hin).toLoadRect} {k : Vec F S16 .i32 → Prog (ET F L) α}
    (hk : ∀ v : Vec F S16 .i32, (∀ j : Fin 8, tw v j = word T (base L + j.val)) →
      iprop((∃ f, m.view.loc (thr d L) ↦[m.view.set]{fullShare} f) ∗ R) ⊢ wp frame (wpE (defs₀ (F := F)) 𝒱₀ (thr d L) none) Set.univ (k v) Q) :
    iprop(Held d L m T ∗ R)
      ⊢ wp frame (wpE (defs₀ (F := F)) 𝒱₀ (thr d L) none) Set.univ (Prog.lift (.load m (Rect.unit (s := S16) ![0] S16.size hin).toLoadRect hl) >>= k) Q := by
  rw [Prog.bind_lift]
  unfold Held
  iintro ⟨⟨%f, %hf, H⟩, HR⟩
  iapply (wp_load 𝒱₀ (thr d L) none Set.univ (m := m) (S := m.view.set) (View.setOn_subset_set _ _)) $$ H
  iintro H
  iapply (hk _ ?_)
  · intro j
    unfold tw extractAt extractStridedSlice
    rw [View.readAt_apply, hf]
    · rw [LoadRect.idx_apply]
      show word T (base L + (0 + 1 * (j.val + 0))) = _
      congr 2; omega
    · rw [LoadRect.idx_apply]
      show 0 + 1 * (j.val + 0) < 8
      omega
  · isplitl [H]
    · iexists f; iexact H
    · iexact HR

/-! ### The last two vectors -/

/-- Vector `k` of a row, as a load of it. -/
def rowC (x : Nat → F .f32) (k : Nat) : Vec F S1x16 .f32 := fun l => x (16 * k + (l 1).val)

omit [FloatOps F] in
theorem cast16_rowC (x : Nat → F .f32) (k : Nat) : cast16 (rowC x k) = rowV x k := by
  funext l
  unfold cast16 shapeCast rowC rowV
  rw [cast16_lane]

/-- A load of one of a row's last two vectors. -/
theorem wp_last {α : Type} {Q : α → sProp 𝕄} {R : sProp 𝕄} {X : Vec F S256x100000 .f32} (j : Fin 8) (o k' : Nat) {off : Fin 2 → Nat}
    {hin : ∀ a, off a + S1x16.size a ≤ S8x128.size a} {hl : tailB.view.LoadsAt (Rect.unit (s := S8x128) off S1x16.size hin).toLoadRect} {k : Vec F S1x16 .f32 → Prog (ET F L) α}
    (hk : iprop((tailB.view.loc (thr d L) ↦[tailB.view.set]{fullShare} (tailV L X : Buf (Elt F) (tailB.view.loc (thr d L)))) ∗ R)
      ⊢ wp frame (wpE (defs₀ (F := F)) 𝒱₀ (thr d L) none) Set.univ (k (rowC (rows L X j.val) k')) Q)
    (ho : off = ![j.val, o] := by rfl) (hk' : 99872 + o = 16 * k' := by rfl) :
    iprop((tailB.view.loc (thr d L) ↦[tailB.view.set]{fullShare} (tailV L X : Buf (Elt F) (tailB.view.loc (thr d L)))) ∗ R)
      ⊢ wp frame (wpE (defs₀ (F := F)) 𝒱₀ (thr d L) none) Set.univ (Prog.lift (.load tailB (Rect.unit (s := S8x128) off S1x16.size hin).toLoadRect hl) >>= k) Q := by
  subst ho
  rw [Prog.bind_lift]
  have hval : tailB.view.readAt (Elt F) (Rect.unit (s := S8x128) ![j.val, o] S1x16.size hin).toLoadRect (tailV L X) = rowC (rows L X j.val) k' := by
    funext l
    have h0 : (l 0).val < 1 := (l 0).isLt
    rw [View.readAt_apply]
    unfold tailV rowC rows
    have e0 : ((Rect.unit (s := S8x128) ![j.val, o] S1x16.size hin).toLoadRect.idx l 0).val = j.val := by
      rw [LoadRect.idx_apply]; show j.val + 1 * (l 0).val = j.val; omega
    have e1 : ((Rect.unit (s := S8x128) ![j.val, o] S1x16.size hin).toLoadRect.idx l 1).val = o + (l 1).val := by
      rw [LoadRect.idx_apply]; show o + 1 * (l 1).val = _; omega
    generalize (Rect.unit (s := S8x128) ![j.val, o] S1x16.size hin).toLoadRect.idx l = i at e0 e1
    have e2 : 99872 + (o + (l 1).val) = 16 * k' + (l 1).val := by omega
    rw [← e0, ← e2, ← e1]
    rfl
  iintro ⟨H, HR⟩
  iapply (wp_load 𝒱₀ (thr d L) none Set.univ (m := tailB) (S := tailB.view.set) (View.setOn_subset_set _ _)) $$ H
  rw [hval]
  iintro H
  iapply hk
  isplitl [H] <;> iassumption

end Rules

/-! ## The subcore's results -/

/-- Lane `a` of the result, added. -/
def put (acc : FVec F S16 .f32) (a : BitVec 32) (v : F .f32) : FVec F S16 .f32 :=
  addf acc (select (cmpi .eq (iota .scVector S16 32 [0] iota_S16_d0_w32_scVector) (broadcast S16 a)) (broadcast S16 v) k0_pay100)

/-- A row's mask where its target's rank is below five. -/
def score (c : IVec S16 32) (m : BitVec 32) : F .f32 :=
  Scalar.select (Scalar.cmpi .slt (extractAt ![15] (scan .sum c) inpos_S16_p15) 5#32) (Scalar.sitofp .f32 m) (Scalar.ofBits .f32 0x00000000#32)

/-- Row `j`'s two lanes. -/
def put2 (v6 : Vec F S16 .i32) (c : Fin 8 → IVec S16 32) (j : Fin 8) (acc : FVec F S16 .f32) : FVec F S16 .f32 :=
  put (put acc (BitVec.ofNat 32 j.val) (score (c j) (tw v6 j))) (BitVec.ofNat 32 (8 + j.val)) (Scalar.sitofp .f32 (tw v6 j))

/-- What a subcore writes out, of its masks and its rows' counts. -/
def outV (v6 : Vec F S16 .i32) (c : Fin 8 → IVec S16 32) : FVec F S16 .f32 :=
  put2 v6 c 7 (put2 v6 c 6 (put2 v6 c 5 (put2 v6 c 4 (put2 v6 c 3 (put2 v6 c 2 (put2 v6 c 1 (put2 v6 c 0 k0_pay100)))))))

/-- A row's whole count. -/
def total (x : Nat → Nat → F .f32) (v5 : Vec F S16 .i32) (j : Fin 8) : IVec S16 32 :=
  addEq (tv x v5 j) (tw v5 j) 99984#32 (addEq (tv x v5 j) (tw v5 j) 99968#32 (cnt x (tv x v5) v5 j 6248) (cast16 (rowC (x j.val) 6248))) (cast16 (rowC (x j.val) 6249))

theorem out_eq (v6 : Vec F S16 .i32) (c : Fin 8 → IVec S16 32) (v7 : IVec S16 32) (h : v7 = iota .scVector S16 32 [0] iota_S16_d0_w32_scVector) :
    k0_pay1 v7 k0_pay100 (k0_pay267 v6) (k0_pay268 v6 v7 k0_pay100 (c 6) (c 7)
      (k0_pay265 v6 v7 k0_pay100 (c 3) (c 4) (k0_pay261 v6 v7 k0_pay100 (c 0) (c 1)) (k0_pay262 v6) (k0_pay263 v6 (c 2)) k0_pay264)
      (extractAt ![15] (k0_pay266 (c 5)) inpos_S16_p15)) 15#32 = outV v6 c := by
  subst h; rfl

end Cert.Proof.Rank
-- ==== Proof.Chain.lean ====
/-
  The rules of the windows' batch, of the words' copies and of the output's, in the form the body's proof takes them one after
  another: what an operation leaves goes on in place of what it took.
-/
module

public import proofs.«01_k».proof.Proof.Trip
public import proofs.«01_k».proof.Proof.Gather

@[expose] public section

noncomputable section

namespace Cert.Proof.Rank

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

abbrev outB : Memref sig .scVector .vmem S16 .f32 := Memref.whole cc0_scratch6
abbrev outs : Memref sig .scVector .hbm S512 .f32 := Memref.whole main_v4_scv

section Rules

variable {d : Dev nD} {L : grid0.Coords}

/-- The windows not yet asked for, from the `n`-th on. -/
def Wins (d : Dev nD) (L : grid0.Coords) (f : Buf (Elt F) (winB.view.loc (thr d L))) (n : Nat) : sProp 𝕄 :=
  bigSep (Finset.univ.filter fun j : Fin 8 => n ≤ j.val) fun j => (winB.view.loc (thr d L) ↦[winSet j]{fullShare} f)

omit [FloatOps F] in
theorem wins_start (f : Buf (Elt F) (winB.view.loc (thr d L))) : (winB.view.loc (thr d L) ↦[Finset.univ]{fullShare} f : sProp 𝕄) = Wins d L f 0 := by
  rw [win_parts]
  unfold Wins
  congr 1

omit [FloatOps F] in
theorem wins_step (f : Buf (Elt F) (winB.view.loc (thr d L))) (j : Fin 8) :
    Wins d L f j.val = (iprop((winB.view.loc (thr d L) ↦[winSet j]{fullShare} f) ∗ Wins d L f (j.val + 1)) : sProp 𝕄) := by
  unfold Wins
  have e : (Finset.univ.filter fun t : Fin 8 => j.val ≤ t.val) = insert j (Finset.univ.filter fun t : Fin 8 => j.val + 1 ≤ t.val) := by revert j; decide
  rw [e, BI.bigSep_insert (by simp)]
  rfl

/-- The next window asked for. -/
theorem wp_windowR {α : Type} {Q : α → sProp 𝕄} {R : sProp 𝕄} {X : Vec F S256x100000 .f32} {v5 : Vec F S16 .i32} (j : Fin 8) {off : Fin 2 → Nat} (ho : off = ![base L, (winCol (tw v5 j)).toNat])
    {hin : ∀ a, off a + S8x128.size a ≤ S256x100000.size a} {woff : Fin 2 → Nat} (hw : woff = ![8 * j.val, 0])
    {hwin : ∀ a, woff a + S8x128.size a ≤ S64x128.size a} {h h' h1 h2 h3} {f : Buf (Elt F) (winB.view.loc (thr d L))} {k : PUnit → Prog (ET F L) α}
    (hk : iprop(Wins d L f (j.val + 1) ∗ Nine d L X v5 (j.val + 2) 0 ∗ Src d L X ∗ R) ⊢ wp frame (wpE (defs₀ (F := F)) 𝒱₀ (thr d L) none) Set.univ (k ⟨⟩) Q) :
    iprop(Wins d L f j.val ∗ Nine d L X v5 (j.val + 1) 0 ∗ Src d L X ∗ R)
      ⊢ wp frame (wpE (defs₀ (F := F)) 𝒱₀ (thr d L) none) Set.univ
            (Prog.lift (TpuEff.enqueueDma (logits.slice (Rect.unit (s := S256x100000) off S8x128.size hin) h)
              (.here (winB.slice (Rect.unit (s := S64x128) woff S8x128.size hwin) h')) (.dma cc0_scratch9.sem) h1 h2 h3) >>= k) Q := by
  rw [wins_step f j]
  iintro ⟨⟨Hw, HWs⟩, HN, HS, HR⟩
  iapply (wp_window (d := d) (L := L) (X := X) (v5 := v5) j ho hw (f := f)) $$ [Hw HN HS]
  · isplitl [Hw]; · iexact Hw
    isplitl [HN] <;> iassumption
  iintro ⟨HN, HS⟩
  iapply hk
  isplitl [HWs]; · iexact HWs
  isplitl [HN]; · iexact HN
  isplitl [HS] <;> iassumption

/-- A wait for one of the nine. -/
theorem wp_nineR {α : Type} {Q : α → sProp 𝕄} {R : sProp 𝕄} {X : Vec F S256x100000 .f32} {v5 : Vec F S16 .i32} (n : Nat) {u : Nat}
    {O : CellTallies nD τ sig (HIx 1)} {W : Waits sig (HIx 1)} {s' : Shape} {e' : EltTy} {s : Shape} {e : EltTy} {sp sp' : Space}
    {srcw : Memref sig .scVector sp' s' e'} {dstw : Memref sig .scVector sp s e} {h h'} {k : PUnit → Prog (ET F L) α} (hN : dstw.view.dmaCredit = unit9)
    (hk : iprop(Nine d L X v5 9 ((n + 1) * unit9) ∗ Wt d L O W ∗ R) ⊢ wp frame (wpE (defs₀ (F := F)) 𝒱₀ (thr d L) none) Set.univ (k ⟨⟩) Q)
    (hu : u = n * unit9 := by rfl) (hn : n < 8 := by decide) :
    iprop(Nine d L X v5 9 u ∗ Wt d L O W ∗ R)
      ⊢ wp frame (wpE (defs₀ (F := F)) 𝒱₀ (thr d L) none) Set.univ (Prog.lift (.waitDma2 cc0_scratch9.sem srcw dstw h h') >>= k) Q := by
  iintro ⟨HN, HW, HR⟩
  iapply (wp_nine (d := d) (L := L) (X := X) (v5 := v5) (O := O) (W := W) n hu hn hN) $$ [HN HW]
  · isplitl [HN] <;> iassumption
  iintro ⟨HN, HW⟩
  iapply hk
  isplitl [HN]; · iexact HN
  isplitl [HW] <;> iassumption

/-- The words a subcore reads, copied in and waited for. -/
theorem wp_fetch {α : Type} {Q : α → sProp 𝕄} {R : sProp 𝕄} {A : Memref sig .scVector .hbm S256 .i32} {T : Buf (Elt F) (A.view.loc (thr d L))} {T' : Vec F S256 .i32} (hT : A.view.read (Elt F) T = T')
    {m : Memref sig .scVector .vmem S16 .i32} {sem : DmaSem sig} {off : Fin 1 → Nat} (ho : off = ![base L])
    {O : CellTallies nD τ sig (HIx 1)} {W : Waits sig (HIx 1)}
    {hin : ∀ a, (![0] : Fin 1 → Nat) a + S8.size a ≤ S16.size a} {hin' : ∀ a, off a + S8.size a ≤ S256.size a} {f : Buf (Elt F) (m.view.loc (thr d L))}
    {h h' h1 h2 h3} {s' : Shape} {e' : EltTy} {sp' : Space} {srcw : Memref sig .scVector sp' s' e'} {g g'} {k : PUnit → Prog (ET F L) α}
    (hk : iprop(Held d L m T' ∗ semVal (thr d L, .dma sem) 0 ∗ Rd d L A T ∗ Wt d L O W ∗ R) ⊢ wp frame (wpE (defs₀ (F := F)) 𝒱₀ (thr d L) none) Set.univ (k ⟨⟩) Q) :
    iprop((m.view.loc (thr d L) ↦[m.view.set]{fullShare} f) ∗ semVal (thr d L, .dma sem) 0 ∗ Rd d L A T ∗ Wt d L O W ∗ R)
      ⊢ wp frame (wpE (defs₀ (F := F)) 𝒱₀ (thr d L) none) Set.univ
          (Prog.lift (TpuEff.enqueueDma (A.slice (Rect.unit (s := S256) off S8.size hin') h') (.here (m.slice (Rect.unit (s := S16) ![0] S8.size hin) h)) (.dma sem) h1 h2 h3) >>= fun _ =>
            Prog.lift (.waitDma2 sem srcw (m.slice (Rect.unit (s := S16) ![0] S8.size hin) h) g g') >>= k) Q := by
  iintro ⟨H, Hv, HT, HW, HR⟩
  iapply (@wp_copy F _ d L α Q _ _ _ _ A (Rect.unit (s := S256) off S8.size hin') h' T (m.slice (Rect.unit (s := S16) ![0] S8.size hin) h) sem m.view.set f (Held d L m T')
    (View.amount_pos _ (.dma sem) (show 0 < S8.numel by decide)) (View.set_slice_subset (v := m.view) _) (held_write hT ho f) h1 h2 h3 _) $$ [H Hv HT]
  · isplitl [H]; · iexact H
    isplitl [Hv] <;> iassumption
  iintro ⟨HF, HT⟩
  iapply (wp_await (d := d) (L := L) (D := Held d L m T') (O := O) (W := W)) $$ [HF HW]
  · isplitl [HF]; · iexact HF
    iexact HW
  iintro ⟨H, Hv, HW⟩
  iapply hk
  isplitl [H]; · iexact H
  isplitl [Hv]; · iexact Hv
  isplitl [HT]; · iexact HT
  isplitl [HW] <;> iassumption

/-- The results copied out and waited for. -/
theorem wp_out {α : Type} {Q : α → sProp 𝕄} {R : sProp 𝕄} {sem : DmaSem sig} {off : Fin 1 → Nat} {O : CellTallies nD τ sig (HIx 1)} {W : Waits sig (HIx 1)}
    {hin : ∀ a, off a + S16.size a ≤ S512.size a} {h} {v : Vec F S16 .f32} {fo : Buf (Elt F) (outs.view.loc (thr d L))}
    {h1 h2 h3} {s' : Shape} {e' : EltTy} {sp' : Space} {srcw : Memref sig .scVector sp' s' e'} {g g'} {k : PUnit → Prog (ET F L) α}
    (hk : iprop((outs.view.loc (thr d L) ↦[(outs.slice (Rect.unit (s := S512) off S16.size hin) h).view.set]{fullShare} (outs.slice (Rect.unit (s := S512) off S16.size hin) h).view.write (Elt F) fo v Finset.univ)
        ∗ (∃ f, outB.view.loc (thr d L) ↦[outB.view.set]{fullShare} f) ∗ semVal (thr d L, .dma sem) 0 ∗ Wt d L O W ∗ R) ⊢ wp frame (wpE (defs₀ (F := F)) 𝒱₀ (thr d L) none) Set.univ (k ⟨⟩) Q) :
    iprop((outB.view.loc (thr d L) ↦[outB.view.set]{fullShare} (v : Buf (Elt F) (outB.view.loc (thr d L))))
        ∗ (outs.view.loc (thr d L) ↦[(outs.slice (Rect.unit (s := S512) off S16.size hin) h).view.set]{fullShare} fo) ∗ semVal (thr d L, .dma sem) 0 ∗ Wt d L O W ∗ R)
      ⊢ wp frame (wpE (defs₀ (F := F)) 𝒱₀ (thr d L) none) Set.univ
          (Prog.lift (TpuEff.enqueueDma outB (.here (outs.slice (Rect.unit (s := S512) off S16.size hin) h)) (.dma sem) h1 h2 h3) >>= fun _ =>
            Prog.lift (.waitDma2 sem srcw (outs.slice (Rect.unit (s := S512) off S16.size hin) h) g g') >>= k) Q := by
  iintro ⟨H, Ho, Hv, HW, HR⟩
  rw [Prog.bind_lift]
  iapply (Transfers.wp_dmaLocal countersEmb 𝒱₀ (thr d L) none (src := outB) (dst := outs.slice (Rect.unit (s := S512) off S16.size hin) h) (sm := .dma sem) (q := fullShare)
    (fs := (v : Buf (Elt F) (outB.view.loc (thr d L)))) (fd := fo) (none : HIx 1)
    (outs.slice (Rect.unit (s := S512) off S16.size hin) h).view.dmaCredit rfl (View.amount_pos _ (.dma sem) (show 0 < S16.numel by decide)) (Finset.Subset.refl _)) $$ [H Ho Hv]
  · isplitl [H]; · iexact H
    isplitl [Ho] <;> iassumption
  iintro HF
  iapply (wp_await (d := d) (L := L) (O := O) (W := W)) $$ [HF HW]
  · isplitl [HF] <;> iassumption
  iintro ⟨⟨Ho, H⟩, Hv, HW⟩
  iapply hk
  isplitl [Ho]; · iexact Ho
  isplitl [H]; · iexists _; iexact H
  isplitl [Hv]; · iexact Hv
  isplitl [HW] <;> iassumption

omit [FloatOps F] in
theorem pts_out (f : Buf (Elt F) (outB.view.loc (thr d L))) :
    (outB.view.loc (thr d L) ↦[outB.view.set]{fullShare} f : sProp 𝕄) = (outB.view.loc (thr d L) ↦[Finset.univ]{fullShare} f) := by
  simp only [Memref.view_whole, View.set_whole]

/-- The results put into their buffer. -/
theorem wp_keep {α : Type} {Q : α → sProp 𝕄} {R : sProp 𝕄} {hin : ∀ a, (![0] : Fin 1 → Nat) a + S16.size a ≤ S16.size a} {hl h1 h2} {v : Vec F S16 .f32} (v' : Vec F S16 .f32)
    {k : PUnit → Prog (ET F L) α}
    (hk : iprop((outB.view.loc (thr d L) ↦[outB.view.set]{fullShare} (v' : Buf (Elt F) (outB.view.loc (thr d L)))) ∗ R) ⊢ wp frame (wpE (defs₀ (F := F)) 𝒱₀ (thr d L) none) Set.univ (k ⟨⟩) Q) (hv : v = v') :
    iprop((∃ f, outB.view.loc (thr d L) ↦[outB.view.set]{fullShare} f) ∗ R)
      ⊢ wp frame (wpE (defs₀ (F := F)) 𝒱₀ (thr d L) none) Set.univ
          ((Prog.lift (.load outB (Rect.unit (s := S16) ![0] S16.size hin).toLoadRect hl) >>= fun _ =>
            Prog.lift (.store outB (Rect.unit (s := S16) ![0] S16.size hin) v Finset.univ h1 h2) >>= k)) Q := by
  subst hv
  rw [Prog.bind_lift]
  iintro ⟨⟨%f, H⟩, HR⟩
  iapply (wp_load 𝒱₀ (thr d L) none Set.univ (m := outB) (S := outB.view.set) (View.setOn_subset_set _ _)) $$ H
  iintro H
  rw [Prog.bind_lift]
  iapply (wp_store 𝒱₀ (thr d L) none Set.univ (m := outB) (r := Rect.unit (s := S16) ![0] S16.size hin) (Mk := Finset.univ) (S := Finset.univ) (Finset.subset_univ _)) $$ [H]
  · iapply (Entails.of_eq (pts_out f)) $$ H
  iintro H
  iapply hk
  isplitl [H]
  · iapply (Entails.of_eq ((pointsTo_congr fun i _ => ?_).trans (pts_out (v : Buf (Elt F) (outB.view.loc (thr d L)))).symm)) $$ H
    have hz : (outB.access (Rect.unit (s := S16) ![0] S16.size hin)).emb i = i := by
      funext a
      match a with
      | ⟨0, _⟩ => exact Fin.ext (by show 0 + 1 * (i 0).val = (i 0).val; omega)
    have e := View.write_emb_of_mem (v := outB.access (Rect.unit (s := S16) ![0] S16.size hin)) f v (Finset.mem_univ i)
    rw [hz] at e
    exact e
  · iexact HR

/-! ### The gathers' side conditions and values -/

theorem winIdx_ok (v5 : Vec F S16 .i32) (j : Fin 8) (ht : (tw v5 j).toNat < 100000) :
    ∀ a x, ((![broadcast S16 (BitVec.ofNat 32 (9 * j.val)), broadcast S16 (winLane (tw v5 j))] : Fin 2 → IVec S16 32) a x).toNat < S64x128.size a := by
  intro a x
  have hj := j.isLt
  match a with
  | ⟨0, _⟩ => show (BitVec.ofNat 32 (9 * j.val)).toNat < 64; rw [BitVec.toNat_ofNat]; exact Nat.lt_of_le_of_lt (Nat.mod_le _ _) (by omega)
  | ⟨1, _⟩ => show (winLane (tw v5 j)).toNat < 128; rw [winLane_toNat ht]; omega

theorem tailIdx_ok (v5 : Vec F S16 .i32) (j : Fin 8) (ht : (tw v5 j).toNat < 100000) :
    ∀ a x, ((![broadcast S16 (BitVec.ofNat 32 j.val), broadcast S16 (tailLane (tw v5 j))] : Fin 2 → IVec S16 32) a x).toNat < S8x128.size a := by
  intro a x
  have hj := j.isLt
  match a with
  | ⟨0, _⟩ => show (BitVec.ofNat 32 j.val).toNat < 8; rw [BitVec.toNat_ofNat]; omega
  | ⟨1, _⟩ => exact (tailLane_lt ht).1

/-- A part's end, its results put another way. -/
theorem wp_doneEq {α : Type} {Q : α → sProp 𝕄} {R : sProp 𝕄} {a : α} (b : α) (hk : R ⊢ Q b) (h : a = b) :
    R ⊢ wp frame (wpE (defs₀ (F := F)) 𝒱₀ (thr d L) none) Set.univ (pure a : Prog (ET F L) α) Q := by
  subst h; exact wp_done hk

theorem two_eq {A B C : Type} {a : A} {b b' : B} {c : A} {e e' : B} {z : C} (hb : b = b') (he : e = e') :
    (⟨a, b, c, e, z⟩ : Σ' (_ : A) (_ : B) (_ : A) (_ : B), C) = ⟨a, b', c, e', z⟩ := by
  subst hb he; rfl

/-! ### The loop -/

omit [FloatOps F] in
theorem trip_start {X : Vec F S256x100000 .f32} {O : CellTallies nD τ sig (HIx 1)} {W : Waits sig (HIx 1)} :
    iprop(Coming d L cc0_scratch7.sem (amt buf0) buf0 (rows L X) 0 400 ∗ Coming d L cc0_scratch8.sem (amt buf1) buf1 (rows L X) 400 400
      ∗ semVal (thr d L, .dma cc0_scratch10.sem) 0 ∗ Src d L X ∗ Wt d L O W) ⊢ TripI d L X O W 0 := by
  unfold TripI Next
  rw [if_pos (show 0 < 7 by decide)]
  iintro ⟨H0, H1, Zr, HS, HW⟩
  isplitl [H0]; · iexact H0
  isplitl [H1 Zr]; · isplitl [H1] <;> iassumption
  isplitl [HS] <;> iassumption

/-- The loop's seven trips. -/
theorem wp_trips {α : Type} {Q : α → sProp 𝕄} {R : sProp 𝕄} {X : Vec F S256x100000 .f32} {O : CellTallies nD τ sig (HIx 1)} {W : Waits sig (HIx 1)} {v2 : BitVec 32} {v5 : Vec F S16 .i32}
    (ht : ∀ j, (tw v5 j).toNat < 100000) (vt : Fin 8 → Vec F S16 .f32)
    {init : IVec S16 32 × IVec S16 32 × IVec S16 32 × IVec S16 32 × IVec S16 32 × IVec S16 32 × IVec S16 32 × IVec S16 32} {body}
    {k : IVec S16 32 × IVec S16 32 × IVec S16 32 × IVec S16 32 × IVec S16 32 × IVec S16 32 × IVec S16 32 × IVec S16 32 → Prog (ET F L) α}
    (hk : iprop((Coming d L cc0_scratch7.sem (amt buf0) buf0 (rows L X) 5600 400 ∗ (Coming d L cc0_scratch10.sem amtR buf1 (rows L X) 6000 248 ∗ semVal (thr d L, .dma cc0_scratch8.sem) 0)
        ∗ Src d L X ∗ Wt d L O W) ∗ R) ⊢ wp frame (wpE (defs₀ (F := F)) 𝒱₀ (thr d L) none) Set.univ
          (k (cnt (rows L X) vt v5 0 5600, cnt (rows L X) vt v5 1 5600, cnt (rows L X) vt v5 2 5600, cnt (rows L X) vt v5 3 5600, cnt (rows L X) vt v5 4 5600, cnt (rows L X) vt v5 5 5600,
            cnt (rows L X) vt v5 6 5600, cnt (rows L X) vt v5 7 5600)) Q)
    (hbody : body = trip L v2 v5 (fun j => broadcast S16 (tw v5 j)) vt := by rfl) (hinit : init = counts (rows L X) vt v5 0 := by rfl) :
    iprop(TripI d L X O W 0 ∗ R)
      ⊢ wp frame (wpE (defs₀ (F := F)) 𝒱₀ (thr d L) none) Set.univ (Scf.Loop.for k0_t1_loop k0_t1_ok init body >>= k) Q := by
  subst hbody hinit
  iintro ⟨HI, HR⟩
  iapply (Scf.wp_for_bind frame (wpE (defs₀ (F := F)) 𝒱₀ (thr d L) none) Set.univ _ _ _ k0_t1_ok _ _
    (fun n c => iprop(⌜c = counts (rows L X) vt v5 (800 * n)⌝ ∗ TripI d L X O W n)) ?_) $$ [HI]
  · intro n c
    iintro ⟨%hc, HI⟩
    subst hc
    iapply (trip_run (d := d) (L := L) ht vt n) $$ HI
  · isplitr
    · ipureintro; rfl
    · iexact HI
  iintro %c ⟨%hc, HI⟩
  have e : Scf.trips k0_t1_loop.lb k0_t1_loop.ub k0_t1_loop.st = 7 := by decide
  rw [e] at hc
  subst hc
  rw [e]
  iapply hk
  isplitl [HI]
  · unfold TripI Next
    rw [if_neg (show ¬ 7 < 7 by decide)]
    iexact HI
  · iexact HR

end Rules

end Cert.Proof.Rank
-- ==== Proof.Tile.lean ====
/-
  The whole of a subcore's program: its words copied in, its rows' first chunks, last columns and targets' windows issued, the
  targets' values gathered, the loop, the last chunk and the remainder counted, and the sixteen results copied out.
-/
module

public import proofs.«01_k».proof.Proof.Chain

@[expose] public section

noncomputable section

namespace Cert.Proof.Rank

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

/-- The body at the subcore `L`. -/
abbrev body (L : grid0.Coords) :=
  cc0__body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scoped0 cc0_scoped1 cc0_scoped2

section Tile

variable (d : Dev nD) (L : grid0.Coords)

/-- A buffer of the subcore, at whatever contents. -/
def Any {sp : Space} {s : Shape} {e : EltTy} (m : Memref sig .scVector sp s e) : sProp 𝕄 := iprop(∃ f, m.view.loc (thr d L) ↦[m.view.set]{fullShare} f)

/-- A DMA cell of the subcore at zero. -/
abbrev Zero (sem : DmaSem sig) : sProp 𝕄 := semVal (thr d L, .dma sem) 0

/-- The subcore's sixteen elements of the output. -/
abbrev outSet : Finset (Idx (outs.view.loc (thr d L))) := (outs.slice (Rect.unit (s := S512) (k0_off188 L) S16.size (k0_off188_inb L)) (fun _ => rfl)).view.set

/-- What the body is given and hands back, but for the output. -/
def Kit (X : Vec F S256x100000 .f32) (T M : Vec F S256 .i32) (O : CellTallies nD τ sig (HIx 1)) (W : Waits sig (HIx 1)) : sProp 𝕄 :=
  iprop((Src d L X ∗ Rd d L tails (lastCols X) ∗ Rd d L tgts T ∗ Rd d L masks M)
    ∗ (Any d L buf0 ∗ Any d L buf1 ∗ Any d L winB ∗ Any d L tailB ∗ Any d L tgtB ∗ Any d L maskB ∗ Any d L outB)
    ∗ (Zero d L cc0_scratch7.sem ∗ Zero d L cc0_scratch8.sem ∗ Zero d L cc0_scratch9.sem ∗ Zero d L cc0_scratch10.sem ∗ Zero d L cc0_scoped0.sem ∗ Zero d L cc0_scoped1.sem ∗ Zero d L cc0_scoped2.sem)
    ∗ Wt d L O W)

/-- The output, written. -/
def Done (X : Vec F S256x100000 .f32) (T M : Vec F S256 .i32) : sProp 𝕄 :=
  iprop(∃ fo v5 v6, ⌜∀ j : Fin 8, tw v5 j = word T (base L + j.val)⌝ ∗ ⌜∀ j : Fin 8, tw v6 j = word M (base L + j.val)⌝
    ∗ (outs.view.loc (thr d L) ↦[outSet d L]{fullShare}
        (outs.slice (Rect.unit (s := S512) (k0_off188 L) S16.size (k0_off188_inb L)) (fun _ => rfl)).view.write (Elt F) fo (outV v6 (total (rows L X) v5)) Finset.univ))

variable {d L}

omit [FloatOps F] in
theorem pts_win (f : Buf (Elt F) (winB.view.loc (thr d L))) :
    (winB.view.loc (thr d L) ↦[winB.view.set]{fullShare} f : sProp 𝕄) = (winB.view.loc (thr d L) ↦[Finset.univ]{fullShare} f) := by
  simp only [Memref.view_whole, View.set_whole]

set_option maxHeartbeats 400000 in
/-- The body, from what it is given to what it hands back. -/
theorem body_run {X : Vec F S256x100000 .f32} {T M : Vec F S256 .i32} {O : CellTallies nD τ sig (HIx 1)} {W : Waits sig (HIx 1)}
    (hT : ∀ r, (word T r).toNat < 100000) (fo : Buf (Elt F) (outs.view.loc (thr d L))) :
    iprop(Kit d L X T M O W ∗ (outs.view.loc (thr d L) ↦[outSet d L]{fullShare} fo))
      ⊢ wp frame (wpE (defs₀ (F := F)) 𝒱₀ (thr d L) none) Set.univ (body L) fun _ => iprop(Kit d L X T M O W ∗ Done d L X T M) := by
  unfold body
  rw [cc0__body_eq_skeleton, cc0__body_skel]
  rw [k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton,
    k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton,
    k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
  unfold Kit Any
  iintro ⟨⟨⟨HS, HL, HT, HM⟩, ⟨H0, H1, Hw, Ht, ⟨%ft, Htg⟩, Hmk, Hout⟩, ⟨Z0, Z1, Zw, Zr, Y0, Y1, Y2⟩, HW⟩, Ho⟩
  icombine Y2 Ho as HR
  icombine Hout HR as HR
  icombine Zr HR as HR
  icombine Zw HR as HR
  icombine Ht HR as HR
  icombine Hw HR as HR
  icombine HL HR as HR
  icombine Z1 HR as HR
  icombine H1 HR as HR
  icombine HS HR as HR
  icombine Z0 HR as HR
  icombine H0 HR as HR
  icombine Y1 HR as HR
  icombine HM HR as HR
  icombine Hmk HR as HR
  icombine HW HR as HR
  icombine HT HR as HR
  icombine Y0 HR as HR
  icombine Htg HR as HR
  istop
  refine wp_part ?_
  dsimp only [k0_part18_skel]
  refine wp_fetch (A := tgts) (T := T) (T' := T) rfl (m := tgtB) (sem := cc0_scoped0.sem) (k0_off1_eq L) (O := O) (W := W) ?_
  iintro ⟨Htg, Y0, HT, HW, ⟨%fm, Hmk⟩, HM, Y1, HR⟩
  icombine HT HR as HR
  icombine Y0 HR as HR
  icombine Htg HR as HR
  icombine HW HR as HR
  icombine HM HR as HR
  icombine Y1 HR as HR
  icombine Hmk HR as HR
  istop
  refine wp_fetch (A := masks) (T := M) (T' := M) rfl (m := maskB) (sem := cc0_scoped1.sem) (k0_off1_eq L) (O := O) (W := W) ?_
  iintro ⟨Hmk, Y1, HM, HW, Htg, HR⟩
  icombine HM HR as HR
  icombine Y1 HR as HR
  icombine HW HR as HR
  icombine Hmk HR as HR
  icombine Htg HR as HR
  istop
  refine wp_words (m := tgtB) (T := T) fun v5 h5 => ?_
  iintro ⟨Htg, Hmk, HR⟩
  icombine Htg HR as HR
  icombine Hmk HR as HR
  istop
  refine wp_words (m := maskB) (T := M) fun v6 h6 => ?_
  have ht : ∀ j, (tw v5 j).toNat < 100000 := fun j => (h5 j) ▸ hT _
  iintro ⟨Hmk, Htg, HW, Y1, HM, Y0, HT, ⟨%f0, H0⟩, Z0, HS, ⟨%f1, H1⟩, Z1, HR⟩
  iapply (wp_issue (d := d) (L := L) (m := buf0) (X := X) (sem := cc0_scratch7.sem) 0 400 rfl (by omega) (by omega)
    ((k0_off2_eq L).trans (at_col L (by omega))) (f := f0)) $$ [H0 Z0 HS]
  · isplitl [H0]; · iexact H0
    isplitl [Z0] <;> iassumption
  iintro ⟨H0, HS⟩
  icombine Hmk HR as HR
  icombine Htg HR as HR
  icombine Y1 HR as HR
  icombine HM HR as HR
  icombine Y0 HR as HR
  icombine HT HR as HR
  icombine HW HR as HR
  icombine H0 HR as HR
  icombine HS HR as HR
  icombine Z1 HR as HR
  icombine H1 HR as HR
  istop
  refine wp_done ?_
  refine wp_part ?_
  dsimp only [k0_part19_skel]
  iintro ⟨H1, Z1, HS, H0, HW, HT, Y0, HM, Y1, Htg, Hmk, HL, ⟨%fw, Hw⟩, ⟨%fl, Ht⟩, Zw, HR⟩
  iapply (wp_issue (d := d) (L := L) (m := buf1) (X := X) (sem := cc0_scratch8.sem) 400 400 rfl (by omega) (by omega)
    ((k0_off3_eq L).trans (at_col L (by omega))) (f := f1)) $$ [H1 Z1 HS]
  · isplitl [H1]; · iexact H1
    isplitl [Z1] <;> iassumption
  iintro ⟨H1, HS⟩
  imod (Transfers.batch_alloc' countersEmb (thr d L) (none : HIx 1) unit9 (deliv d L X v5)) $$ Zw with HN
  iapply (wp_tail (d := d) (L := L) (X := X) (v5 := v5) (k0_off4_eq L) (f := fl)) $$ [Ht HN HL]
  · isplitl [Ht]; · iexact Ht
    isplitl [HN] <;> iassumption
  iintro ⟨HN, HL⟩
  ihave Hw := (Entails.of_eq ((pts_win fw).trans (wins_start fw))) $$ Hw
  icombine Hmk HR as HR
  icombine Htg HR as HR
  icombine Y1 HR as HR
  icombine HM HR as HR
  icombine Y0 HR as HR
  icombine HT HR as HR
  icombine HL HR as HR
  icombine H1 HR as HR
  icombine H0 HR as HR
  icombine HW HR as HR
  icombine HS HR as HR
  icombine HN HR as HR
  icombine Hw HR as HR
  istop
  refine wp_chk (⟨(win_ok L (ht 0)).1, (win_ok L (ht 0)).2, (win_ok L (ht 0)).2⟩) ?_
  refine wp_windowR (X := X) (v5 := v5) (f := fw) 0 (win_off L (tw v5 0)) rfl ?_
  refine wp_chk (⟨(win_ok L (ht 1)).1, (win_ok L (ht 1)).2, (win_ok L (ht 1)).2⟩) ?_
  refine wp_windowR (X := X) (v5 := v5) (f := fw) 1 (win_off L (tw v5 1)) rfl ?_
  refine wp_chk (⟨(win_ok L (ht 2)).1, (win_ok L (ht 2)).2, (win_ok L (ht 2)).2⟩) ?_
  refine wp_done ?_
  refine wp_part ?_
  dsimp only [k0_part20_skel]
  refine wp_windowR (X := X) (v5 := v5) (f := fw) 2 (win_off L (tw v5 2)) rfl ?_
  refine wp_chk (⟨(win_ok L (ht 3)).1, (win_ok L (ht 3)).2, (win_ok L (ht 3)).2⟩) ?_
  refine wp_windowR (X := X) (v5 := v5) (f := fw) 3 (win_off L (tw v5 3)) rfl ?_
  refine wp_chk (⟨(win_ok L (ht 4)).1, (win_ok L (ht 4)).2, (win_ok L (ht 4)).2⟩) ?_
  refine wp_windowR (X := X) (v5 := v5) (f := fw) 4 (win_off L (tw v5 4)) rfl ?_
  refine wp_chk (⟨(win_ok L (ht 5)).1, (win_ok L (ht 5)).2, (win_ok L (ht 5)).2⟩) ?_
  refine wp_done ?_
  refine wp_part ?_
  dsimp only [k0_part21_skel]
  refine wp_windowR (X := X) (v5 := v5) (f := fw) 5 (win_off L (tw v5 5)) rfl ?_
  refine wp_chk (⟨(win_ok L (ht 6)).1, (win_ok L (ht 6)).2, (win_ok L (ht 6)).2⟩) ?_
  refine wp_windowR (X := X) (v5 := v5) (f := fw) 6 (win_off L (tw v5 6)) rfl ?_
  refine wp_chk (win_ok L (ht 7)) ?_
  refine wp_windowR (X := X) (v5 := v5) (f := fw) 7 (win_off L (tw v5 7)) rfl ?_
  iintro ⟨-, HN, HS, HW, HR⟩
  icombine HS HR as HR
  icombine HW HR as HR
  icombine HN HR as HR
  istop
  refine wp_nineR (X := X) (v5 := v5) (O := O) (W := W) 0 unit9_eq ?_ (Nat.zero_mul _).symm
  refine wp_nineR (X := X) (v5 := v5) (O := O) (W := W) 1 unit9_win ?_
  refine wp_done ?_
  refine wp_part ?_
  dsimp only [k0_part22_skel]
  refine wp_nineR (X := X) (v5 := v5) (O := O) (W := W) 2 unit9_win ?_
  refine wp_nineR (X := X) (v5 := v5) (O := O) (W := W) 3 unit9_win ?_
  refine wp_nineR (X := X) (v5 := v5) (O := O) (W := W) 4 unit9_win ?_
  refine wp_nineR (X := X) (v5 := v5) (O := O) (W := W) 5 unit9_win ?_
  refine wp_nineR (X := X) (v5 := v5) (O := O) (W := W) 6 unit9_win ?_
  refine wp_nineR (X := X) (v5 := v5) (O := O) (W := W) 7 unit9_win ?_
  iintro ⟨HN, HW, HR⟩
  iapply (wp_nine_last (d := d) (L := L) (X := X) (v5 := v5) (O := O) (W := W) unit9_win) $$ [HN HW]
  · isplitl [HN] <;> iassumption
  iintro ⟨Ht, Hw, Zw, HW⟩
  icombine HW HR as HR
  icombine Zw HR as HR
  icombine Hw HR as HR
  icombine Ht HR as HR
  istop
  refine wp_done ?_
  refine wp_part ?_
  dsimp only [k0_part23_skel]
  refine wp_chk (winIdx_ok v5 0 (ht 0)) ?_
  refine wp_winAt (X := X) (v5 := v5) 0 (ht 0) ?_
  refine wp_chk (tailIdx_ok v5 0 (ht 0)) ?_
  refine wp_tailAt (X := X) (v5 := v5) 0 ?_
  refine wp_chk (winIdx_ok v5 1 (ht 1)) ?_
  refine wp_winAt (X := X) (v5 := v5) 1 (ht 1) ?_
  refine wp_chk (tailIdx_ok v5 1 (ht 1)) ?_
  refine wp_tailAt (X := X) (v5 := v5) 1 ?_
  refine wp_doneEq ⟨broadcast S16 (tw v5 0), tv (rows L X) v5 0, broadcast S16 (tw v5 1), tv (rows L X) v5 1, k0_pay116 v5⟩ ?_ (two_eq (tv_eq (rows L X) 0 (ht 0)) (tv_eq (rows L X) 1 (ht 1)))
  refine wp_part ?_
  dsimp only [k0_part24_skel]
  refine wp_chk (winIdx_ok v5 2 (ht 2)) ?_
  refine wp_winAt (X := X) (v5 := v5) 2 (ht 2) ?_
  refine wp_chk (tailIdx_ok v5 2 (ht 2)) ?_
  refine wp_tailAt (X := X) (v5 := v5) 2 ?_
  refine wp_chk (winIdx_ok v5 3 (ht 3)) ?_
  refine wp_winAt (X := X) (v5 := v5) 3 (ht 3) ?_
  refine wp_chk (tailIdx_ok v5 3 (ht 3)) ?_
  refine wp_tailAt (X := X) (v5 := v5) 3 ?_
  refine wp_doneEq ⟨broadcast S16 (tw v5 2), tv (rows L X) v5 2, broadcast S16 (tw v5 3), tv (rows L X) v5 3, k0_pay123 v5⟩ ?_ (two_eq (tv_eq (rows L X) 2 (ht 2)) (tv_eq (rows L X) 3 (ht 3)))
  refine wp_part ?_
  dsimp only [k0_part25_skel]
  refine wp_chk (winIdx_ok v5 4 (ht 4)) ?_
  refine wp_winAt (X := X) (v5 := v5) 4 (ht 4) ?_
  refine wp_chk (tailIdx_ok v5 4 (ht 4)) ?_
  refine wp_tailAt (X := X) (v5 := v5) 4 ?_
  refine wp_chk (winIdx_ok v5 5 (ht 5)) ?_
  refine wp_winAt (X := X) (v5 := v5) 5 (ht 5) ?_
  refine wp_chk (tailIdx_ok v5 5 (ht 5)) ?_
  refine wp_tailAt (X := X) (v5 := v5) 5 ?_
  refine wp_doneEq ⟨broadcast S16 (tw v5 4), tv (rows L X) v5 4, broadcast S16 (tw v5 5), tv (rows L X) v5 5, k0_pay130 v5⟩ ?_ (two_eq (tv_eq (rows L X) 4 (ht 4)) (tv_eq (rows L X) 5 (ht 5)))
  refine wp_part ?_
  dsimp only [k0_part26_skel]
  refine wp_chk (winIdx_ok v5 6 (ht 6)) ?_
  refine wp_winAt (X := X) (v5 := v5) 6 (ht 6) ?_
  refine wp_chk (tailIdx_ok v5 6 (ht 6)) ?_
  refine wp_tailAt (X := X) (v5 := v5) 6 ?_
  refine wp_chk (winIdx_ok v5 7 (ht 7)) ?_
  refine wp_winAt (X := X) (v5 := v5) 7 (ht 7) ?_
  refine wp_chk (tailIdx_ok v5 7 (ht 7)) ?_
  refine wp_tailAt (X := X) (v5 := v5) 7 ?_
  refine wp_doneEq ⟨broadcast S16 (tw v5 6), tv (rows L X) v5 6, broadcast S16 (tw v5 7), tv (rows L X) v5 7, 0#32⟩ ?_ (two_eq (tv_eq (rows L X) 6 (ht 6)) (tv_eq (rows L X) 7 (ht 7)))
  refine wp_part ?_
  dsimp only [k0_part27_skel]
  iintro ⟨Ht, Hw, Zw, HW, HS, H0, H1, HL, HT, Y0, HM, Y1, Htg, Hmk, Zr, Hout, HR⟩
  ihave HI := (trip_start (d := d) (L := L) (X := X) (O := O) (W := W)) $$ [H0 H1 Zr HS HW]
  · isplitl [H0]; · iexact H0
    isplitl [H1]; · iexact H1
    isplitl [Zr]; · iexact Zr
    isplitl [HS] <;> iassumption
  icombine Hout HR as HR
  icombine Hmk HR as HR
  icombine Htg HR as HR
  icombine Y1 HR as HR
  icombine HM HR as HR
  icombine Y0 HR as HR
  icombine HT HR as HR
  icombine HL HR as HR
  icombine Zw HR as HR
  icombine Hw HR as HR
  icombine Ht HR as HR
  icombine HI HR as HR
  istop
  refine wp_trips (X := X) (v5 := v5) (O := O) (W := W) ht (tv (rows L X) v5) ?_
  dsimp only
  iintro ⟨⟨H0, ⟨H1, Z1⟩, HS, HW⟩, HR⟩
  iapply (wp_arrive (d := d) (L := L) (m := buf0) (x := rows L X) (k₀ := 5600) (N := 400) (O := O) (W := W)) $$ [H0 HW]
  · isplitl [H0]; · iexact H0
    iexact HW
  unfold Full
  iintro ⟨⟨%g0, %hg0, H⟩, Z0, HW⟩
  have C₀ := chunk_of hg0 ht (show (89600#32).toNat = 16 * 5600 by rfl) (by omega)
  icombine HS HR as HR
  icombine Z0 HR as HR
  icombine Z1 HR as HR
  icombine HW HR as HR
  icombine H1 HR as HR
  icombine H HR as HR
  istop
  refine wp_chk (C₀.chk 0) ?_
  refine wp_ge C₀ ?_
  refine wp_geR C₀ ?_
  refine wp_own 0 C₀ fun ld hld => ?_
  refine wp_done ?_
  refine wp_part ?_
  dsimp only [k0_part28_skel]
  refine wp_gt (vt := tv (rows L X) v5) C₀ hld ?_
  refine wp_gtR C₀ ?_
  refine wp_chk (C₀.chk 1) ?_
  refine wp_ge C₀ ?_
  refine wp_geR C₀ ?_
  refine wp_own 1 C₀ fun ld hld => ?_
  refine wp_done ?_
  refine wp_part ?_
  dsimp only [k0_part29_skel]
  refine wp_gt (vt := tv (rows L X) v5) C₀ hld ?_
  refine wp_gtR C₀ ?_
  refine wp_chk (C₀.chk 2) ?_
  refine wp_ge C₀ ?_
  refine wp_geR C₀ ?_
  refine wp_own 2 C₀ fun ld hld => ?_
  refine wp_done ?_
  refine wp_part ?_
  dsimp only [k0_part30_skel]
  refine wp_gt (vt := tv (rows L X) v5) C₀ hld ?_
  refine wp_gtR C₀ ?_
  refine wp_chk (C₀.chk 3) ?_
  refine wp_ge C₀ ?_
  refine wp_geR C₀ ?_
  refine wp_own 3 C₀ fun ld hld => ?_
  refine wp_done ?_
  refine wp_part ?_
  dsimp only [k0_part31_skel]
  refine wp_gt (vt := tv (rows L X) v5) C₀ hld ?_
  refine wp_gtR C₀ ?_
  refine wp_chk (C₀.chk 4) ?_
  refine wp_ge C₀ ?_
  refine wp_geR C₀ ?_
  refine wp_own 4 C₀ fun ld hld => ?_
  refine wp_done ?_
  refine wp_part ?_
  dsimp only [k0_part32_skel]
  refine wp_gt (vt := tv (rows L X) v5) C₀ hld ?_
  refine wp_gtR C₀ ?_
  refine wp_chk (C₀.chk 5) ?_
  refine wp_ge C₀ ?_
  refine wp_geR C₀ ?_
  refine wp_own 5 C₀ fun ld hld => ?_
  refine wp_done ?_
  refine wp_part ?_
  dsimp only [k0_part33_skel]
  refine wp_gt (vt := tv (rows L X) v5) C₀ hld ?_
  refine wp_gtR C₀ ?_
  refine wp_chk (C₀.chk 6) ?_
  refine wp_ge C₀ ?_
  refine wp_geR C₀ ?_
  refine wp_own 6 C₀ fun ld hld => ?_
  refine wp_done ?_
  refine wp_part ?_
  dsimp only [k0_part34_skel]
  refine wp_gt (vt := tv (rows L X) v5) C₀ hld ?_
  refine wp_gtR C₀ ?_
  refine wp_chk (C₀.chk 7) ?_
  refine wp_ge C₀ ?_
  refine wp_geR C₀ ?_
  refine wp_done ?_
  refine wp_part ?_
  dsimp only [k0_part35_skel]
  refine wp_own 7 C₀ fun ld hld => ?_
  refine wp_gt (vt := tv (rows L X) v5) C₀ hld ?_
  refine wp_gtR C₀ ?_
  iintro ⟨H0, H1, HW, HR⟩
  iapply (wp_arrive (d := d) (L := L) (m := buf1) (x := rows L X) (k₀ := 6000) (N := 248) (O := O) (W := W)) $$ [H1 HW]
  · isplitl [H1]; · iexact H1
    iexact HW
  unfold Full
  iintro ⟨⟨%g1, %hg1, H⟩, Zr, HW⟩
  have C₁ : Chunk d L g1 (rows L X) v5 6000 248 96000#32 3968#32 248#32 247#32 := ⟨hg1, ht, rfl, by omega, rfl, rfl, rfl, by omega⟩
  icombine HW HR as HR
  icombine Zr HR as HR
  icombine H0 HR as HR
  icombine H HR as HR
  istop
  refine wp_chk (C₁.chk 0) ?_
  refine wp_done ?_
  refine wp_part ?_
  dsimp only [k0_part36_skel]
  refine wp_ge C₁ ?_
  refine wp_geR C₁ ?_
  refine wp_own 0 C₁ fun ld hld => ?_
  refine wp_gt (vt := tv (rows L X) v5) C₁ hld ?_
  refine wp_gtR C₁ ?_
  refine wp_chk (C₁.chk 1) ?_
  refine wp_done ?_
  refine wp_part ?_
  dsimp only [k0_part37_skel]
  refine wp_ge C₁ ?_
  refine wp_geR C₁ ?_
  refine wp_own 1 C₁ fun ld hld => ?_
  refine wp_gt (vt := tv (rows L X) v5) C₁ hld ?_
  refine wp_gtR C₁ ?_
  refine wp_chk (C₁.chk 2) ?_
  refine wp_done ?_
  refine wp_part ?_
  dsimp only [k0_part38_skel]
  refine wp_ge C₁ ?_
  refine wp_geR C₁ ?_
  refine wp_own 2 C₁ fun ld hld => ?_
  refine wp_gt (vt := tv (rows L X) v5) C₁ hld ?_
  refine wp_gtR C₁ ?_
  refine wp_chk (C₁.chk 3) ?_
  refine wp_done ?_
  refine wp_part ?_
  dsimp only [k0_part39_skel]
  refine wp_ge C₁ ?_
  refine wp_geR C₁ ?_
  refine wp_own 3 C₁ fun ld hld => ?_
  refine wp_gt (vt := tv (rows L X) v5) C₁ hld ?_
  refine wp_gtR C₁ ?_
  refine wp_chk (C₁.chk 4) ?_
  refine wp_done ?_
  refine wp_part ?_
  dsimp only [k0_part40_skel]
  refine wp_ge C₁ ?_
  refine wp_geR C₁ ?_
  refine wp_own 4 C₁ fun ld hld => ?_
  refine wp_gt (vt := tv (rows L X) v5) C₁ hld ?_
  refine wp_gtR C₁ ?_
  refine wp_chk (C₁.chk 5) ?_
  refine wp_done ?_
  refine wp_part ?_
  dsimp only [k0_part41_skel]
  refine wp_ge C₁ ?_
  refine wp_geR C₁ ?_
  refine wp_own 5 C₁ fun ld hld => ?_
  refine wp_gt (vt := tv (rows L X) v5) C₁ hld ?_
  refine wp_gtR C₁ ?_
  refine wp_chk (C₁.chk 6) ?_
  refine wp_done ?_
  refine wp_part ?_
  dsimp only [k0_part42_skel]
  refine wp_ge C₁ ?_
  refine wp_geR C₁ ?_
  refine wp_own 6 C₁ fun ld hld => ?_
  refine wp_gt (vt := tv (rows L X) v5) C₁ hld ?_
  refine wp_gtR C₁ ?_
  refine wp_done ?_
  refine wp_part ?_
  dsimp only [k0_part43_skel]
  refine wp_chk (C₁.chk 7) ?_
  refine wp_ge C₁ ?_
  refine wp_geR C₁ ?_
  refine wp_own 7 C₁ fun ld hld => ?_
  refine wp_gt (vt := tv (rows L X) v5) C₁ hld ?_
  refine wp_done ?_
  refine wp_part ?_
  dsimp only [k0_part44_skel]
  refine wp_gtR C₁ ?_
  iintro ⟨H1, H0, Zr, HW, Z1, Z0, HS, Ht, HR⟩
  icombine HS HR as HR
  icombine Z0 HR as HR
  icombine Z1 HR as HR
  icombine HW HR as HR
  icombine Zr HR as HR
  icombine H0 HR as HR
  icombine H1 HR as HR
  icombine Ht HR as HR
  istop
  refine wp_last (X := X) 0 96 6248 ?_
  refine wp_last (X := X) 0 112 6249 ?_
  refine wp_last (X := X) 1 96 6248 ?_
  refine wp_last (X := X) 1 112 6249 ?_
  refine wp_done ?_
  refine wp_part ?_
  dsimp only [k0_part45_skel]
  refine wp_last (X := X) 2 96 6248 ?_
  refine wp_last (X := X) 2 112 6249 ?_
  refine wp_last (X := X) 3 96 6248 ?_
  refine wp_last (X := X) 3 112 6249 ?_
  refine wp_done ?_
  refine wp_part ?_
  dsimp only [k0_part46_skel]
  refine wp_last (X := X) 4 96 6248 ?_
  refine wp_last (X := X) 4 112 6249 ?_
  refine wp_last (X := X) 5 96 6248 ?_
  refine wp_last (X := X) 5 112 6249 ?_
  refine wp_done ?_
  refine wp_part ?_
  dsimp only [k0_part47_skel]
  refine wp_last (X := X) 6 96 6248 ?_
  refine wp_last (X := X) 6 112 6249 ?_
  refine wp_last (X := X) 7 96 6248 ?_
  refine wp_last (X := X) 7 112 6249 ?_
  refine wp_done ?_
  refine wp_part ?_
  dsimp only [k0_part48_skel]
  refine wp_done ?_
  refine wp_part ?_
  dsimp only [k0_part49_skel]
  refine wp_done ?_
  refine wp_part ?_
  dsimp only [k0_part50_skel]
  refine wp_done ?_
  iintro ⟨Ht, H1, H0, Zr, HW, Z1, Z0, HS, Hw, Zw, HL, HT, Y0, HM, Y1, Htg, Hmk, Hout, Y2, Ho⟩
  icombine Htg Hmk as HR
  icombine Y1 HR as HR
  icombine HM HR as HR
  icombine Y0 HR as HR
  icombine HT HR as HR
  icombine HL HR as HR
  icombine Zw HR as HR
  icombine Hw HR as HR
  icombine HS HR as HR
  icombine Z0 HR as HR
  icombine Z1 HR as HR
  icombine Zr HR as HR
  icombine H0 HR as HR
  icombine H1 HR as HR
  icombine Ht HR as HR
  icombine HW HR as HR
  icombine Y2 HR as HR
  icombine Ho HR as HR
  icombine Hout HR as HR
  istop
  refine wp_keep (outV v6 (total (rows L X) v5)) ?_ (out_eq v6 (total (rows L X) v5) _ rfl)
  refine wp_out (fo := fo) (O := O) (W := W) ?_
  refine wp_done ?_
  iintro ⟨Ho, Hout, Y2, HW, Ht, H1, H0, Zr, Z1, Z0, HS, Hw, Zw, HL, HT, Y0, HM, Y1, Htg, Hmk⟩
  ihave Hw := (Entails.of_eq (pts_win _).symm) $$ Hw
  isplitr [Ho]
  · isplitl [HS HL HT HM]
    · isplitl [HS]; · iexact HS
      isplitl [HL]; · iexact HL
      isplitl [HT] <;> iassumption
    isplitl [H0 H1 Hw Ht Htg Hmk Hout]
    · isplitl [H0]; · iexists _; iexact H0
      isplitl [H1]; · iexists _; iexact H1
      isplitl [Hw]; · iexists _; iexact Hw
      isplitl [Ht]; · iexists _; iexact Ht
      isplitl [Htg]; · iexact Htg
      isplitl [Hmk]; · iexact Hmk
      iexact Hout
    isplitr [HW]
    · isplitl [Z0]; · iexact Z0
      isplitl [Z1]; · iexact Z1
      isplitl [Zw]; · iexact Zw
      isplitl [Zr]; · iexact Zr
      isplitl [Y0]; · iexact Y0
      isplitl [Y1] <;> iassumption
    · iexact HW
  · unfold Done
    iexists fo
    iexists v5
    iexists v6
    isplitr; · ipureintro; exact h5
    isplitr; · ipureintro; exact h6
    iexact Ho

end Tile

end Cert.Proof.Rank
-- ==== Proof.Deal.lean ====
/-
  A subcore's part of the call as the launch theorem states it: the subcore's own buffers and cells dealt to the body, the body run,
  and its sixteen elements of the output handed back at the values of one array, the same for every subcore.
-/
module

public import proofs.«01_k».proof.Proof.Tile

@[expose] public section

noncomputable section

namespace Cert.Proof.Rank

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays -/

abbrev xLoc (d : Dev nD) : Loc nD τ sig := (SparseCore.T d).loc main_v0
abbrev lLoc (d : Dev nD) : Loc nD τ sig := (SparseCore.T d).loc main_v1
abbrev tLoc (d : Dev nD) : Loc nD τ sig := (SparseCore.T d).loc main_v2
abbrev kLoc (d : Dev nD) : Loc nD τ sig := (SparseCore.T d).loc main_v3
abbrev oLoc (d : Dev nD) : Loc nD τ sig := (SparseCore.T d).loc main_v4

/-- Some share of an array. -/
def Shr (ℓ : Loc nD τ sig) (f : Buf (Elt F) ℓ) : sProp 𝕄 := iprop(∃ q, ℓ ↦[Finset.univ]{q} f)

theorem Shr_deal (ℓ : Loc nD τ sig) (f : Buf (Elt F) ℓ) (n : Nat) : (Shr ℓ f : sProp 𝕄) ⊢ bigSep Finset.univ fun _ : Fin n => Shr ℓ f := by
  unfold Shr
  iintro ⟨%q, H⟩
  ihave H' := (Transfers.pointsTo_toks_split q n) $$ H
  icases H' with ⟨-, H⟩
  have h : (bigSep Finset.univ fun i : Fin n => (ℓ ↦[Finset.univ]{Transfers.shareTok q n i} f : sProp 𝕄))
      ⊢ bigSep Finset.univ fun _ : Fin n => iprop(∃ q, ℓ ↦[Finset.univ]{q} f) :=
    BI.bigSep_mono fun i _ => by
      show (ℓ ↦[Finset.univ]{Transfers.shareTok q n i} f : sProp 𝕄) ⊢ iprop(∃ q, ℓ ↦[Finset.univ]{q} f)
      iintro H; iexists _; iexact H
  iapply h
  iexact H

variable [FloatOps F]

/-- Some share of each of the four arrays a subcore reads. -/
def Tbl (d : Dev nD) (X : Vec F S256x100000 .f32) (T M : Vec F S256 .i32) : sProp 𝕄 :=
  iprop(Shr (xLoc d) X ∗ Shr (lLoc d) (lastCols X) ∗ Shr (tLoc d) T ∗ Shr (kLoc d) M)

theorem Tbl_deal (d : Dev nD) (X : Vec F S256x100000 .f32) (T M : Vec F S256 .i32) (n : Nat) :
    (Tbl d X T M : sProp 𝕄) ⊢ bigSep Finset.univ fun _ : Fin n => Tbl d X T M := by
  unfold Tbl
  rw [bigSep_sep', bigSep_sep', bigSep_sep']
  exact BIClass.sep_mono (Shr_deal _ _ n) (BIClass.sep_mono (Shr_deal _ _ n) (BIClass.sep_mono (Shr_deal _ _ n) (Shr_deal _ _ n)))

instance Tbl_storable (d : Dev nD) (X : Vec F S256x100000 .f32) (T M : Vec F S256 .i32) : BI.Storable (upEmb : UEmb _ 𝕄) (Tbl d X T M) := by
  unfold Tbl Shr; infer_instance

/-! ## The output -/

/-- A subcore's words, from its first row on. -/
def words (T : Vec F S256 .i32) (w : Nat) : Vec F S16 .i32 := fun l => word T (8 * w + (l 0).val)

/-- The output: at every sixteen elements what the subcore whose they are writes. -/
def outA (X : Vec F S256x100000 .f32) (T M : Vec F S256 .i32) : Vec F S512 .f32 := fun k =>
  outV (words (F := F) M ((k 0).val / 16)) (total (fun j p => elem X (8 * ((k 0).val / 16) + j) p) (words (F := F) T ((k 0).val / 16)))
    (ix1 ⟨(k 0).val % 16, Nat.mod_lt _ (by decide)⟩)

/-- The sixteen elements of the subcore at `(c, i)`. -/
def part (c i : Nat) : Finset S512.Idx := Finset.univ.filter fun k => (k 0).val / 16 = 2 * i + c

omit [FloatOps F] in
theorem tw_words (T : Vec F S256 .i32) (w : Nat) (j : Fin 8) : tw (words (F := F) T w) j = word T (8 * w + j.val) := by
  have e : ∀ v : Vec F S16 .i32, tw v j = v (ix1 ⟨j.val, by omega⟩) := fun v => by
    unfold tw extractAt extractStridedSlice
    congr 1
    funext a
    match a with
    | ⟨0, _⟩ => rfl
  rw [e]; rfl

/-- A subcore's results depend on its words alone. -/
theorem out_congr {x : Nat → Nat → F .f32} {v5 v6 w5 w6 : Vec F S16 .i32} (h5 : ∀ j, tw v5 j = tw w5 j) (h6 : ∀ j, tw v6 j = tw w6 j) :
    outV v6 (total x v5) = outV w6 (total x w5) := by
  have ht : total x v5 = total x w5 := by
    funext j
    unfold total cnt tv
    rw [h5 j]
  rw [ht]
  unfold outV put2
  simp only [h6]

section Tile

variable (d : Dev nD) (L : grid0.Coords)

omit [FloatOps F] in
theorem bigSep_part {I : Type} [DecidableEq I] {t s : Finset I} (h : t ⊆ s) (Φ : I → sProp 𝕄) :
    bigSep s Φ = iprop(bigSep t Φ ∗ bigSep (s \ t) Φ) := by
  conv_lhs => rw [← Finset.union_sdiff_of_subset h]
  exact bigSep_union Finset.disjoint_sdiff

/-- The subcore's DMA cells. -/
def cells : Finset (GSem nD τ sig) :=
  ({cc0_scratch7.sem, cc0_scratch8.sem, cc0_scratch9.sem, cc0_scratch10.sem, cc0_scoped0.sem, cc0_scoped1.sem, cc0_scoped2.sem} : Finset (DmaSem sig)).map
    ⟨fun s => (thr d L, .dma s), fun a b h => by simpa using h⟩

/-- A subcore's seven buffers, -/
def bufSet : Finset (Ref sig .scVector) := {cc0_scratch0, cc0_scratch1, cc0_scratch2, cc0_scratch3, cc0_scratch4, cc0_scratch5, cc0_scratch6}

/-- as the subcore's. -/
def bufs : Finset (DevRef τ sig) :=
  bufSet.map ⟨fun b : Ref sig .scVector => (Proc.scVector (cV L) (jV L)).devRef b, Proc.devRef_injective (Proc.scVector (cV L) (jV L))⟩

omit [FloatOps F] in
theorem cells_sub : cells d L ⊆ ownCells (thr d L) := by
  intro g hg
  obtain ⟨s, hs, rfl⟩ := Finset.mem_map.mp hg
  refine mem_ownCells.mpr ⟨rfl, ?_⟩
  show (SemLoc.dma s : SemLoc sig).isScoped .scVector = true
  revert hs
  clear hg
  revert s
  decide

omit [FloatOps F] in
theorem bufs_sub : bufs L ⊆ ownRefs (τ := τ) (sig := sig) (.scVector (cV L) (jV L)) := by
  intro b hb
  obtain ⟨s, hs, rfl⟩ := Finset.mem_map.mp hb
  refine SparseCore.Cfg.mem_ownRefs_of_owner ?_
  simp only [bufSet, Finset.mem_insert, Finset.mem_singleton] at hs
  rcases hs with rfl | rfl | rfl | rfl | rfl | rfl | rfl <;> rfl

omit [FloatOps F] in
theorem ownSems0_V :
    (ownSems0 (thr d L) : sProp 𝕄)
      = iprop((Zero d L cc0_scratch7.sem ∗ Zero d L cc0_scratch8.sem ∗ Zero d L cc0_scratch9.sem ∗ Zero d L cc0_scratch10.sem ∗ Zero d L cc0_scoped0.sem ∗ Zero d L cc0_scoped1.sem ∗ Zero d L cc0_scoped2.sem)
        ∗ bigSep (ownCells (thr d L) \ cells d L) fun g => semVal g 0) := by
  unfold SparseCore.Cfg.ownSems0
  rw [bigSep_part (cells_sub d L)]
  congr 1
  unfold cells
  rw [bigSep_map, SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

omit [FloatOps F] in
theorem Any_whole (b : Ref sig .scVector) :
    (Any d L (Memref.whole b) : sProp 𝕄) = iprop(∃ f, ((d, (Proc.scVector (cV L) (jV L)).devRef b) : Loc nD τ sig) ↦{fullShare} f) := by
  unfold Any
  simp only [Memref.view_whole, View.set_whole]

omit [FloatOps F] in
theorem bigSep_bufs (Φ : DevRef τ sig → sProp 𝕄) {A : Ref sig .scVector → sProp 𝕄} (h : ∀ b, A b = Φ ((Proc.scVector (cV L) (jV L)).devRef b)) :
    bigSep (bufs L) Φ = iprop(A cc0_scratch0 ∗ A cc0_scratch1 ∗ A cc0_scratch2 ∗ A cc0_scratch3 ∗ A cc0_scratch4 ∗ A cc0_scratch5 ∗ A cc0_scratch6) := by
  unfold bufs
  rw [bigSep_map, bufSet, SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  simp only [h]
  rfl

omit [FloatOps F] in
theorem ownBufs_V :
    (ownBufs (thr d L) : sProp 𝕄)
      = iprop((Any d L buf0 ∗ Any d L buf1 ∗ Any d L winB ∗ Any d L tailB ∗ Any d L tgtB ∗ Any d L maskB ∗ Any d L outB)
        ∗ bigSep (ownRefs (τ := τ) (.scVector (cV L) (jV L)) \ bufs L) fun b => iprop(∃ f, ((d, b) : Loc nD τ sig) ↦{fullShare} f)) := by
  unfold SparseCore.Cfg.ownBufs
  refine (bigSep_part (bufs_sub L) _).trans ?_
  rw [bigSep_bufs (F := F) L (fun b => iprop(∃ f, ((d, b) : Loc nD τ sig) ↦{fullShare} f)) (A := fun b => Any d L (Memref.whole b)) fun b => Any_whole d L b]

omit [FloatOps F] in
theorem part_eq : outSet d L = part (L 0).val (L 1).val := by
  ext k
  have h : outSet d L = (Rect.unit (s := S512) (k0_off188 L) S16.size (k0_off188_inb L)).set := by
    show ((View.whole (main_v4_scv : Ref sig .scVector)).slice _).set = _
    rw [View.set_slice_whole]
  rw [h, Rect.mem_set_unit]
  have ho : k0_off188 L 0 = 16 * (2 * (L 1).val + (L 0).val) := by
    rw [k0_off188_eq]
    show 32 * _ + 16 * _ = _
    omega
  unfold part
  rw [Finset.mem_filter]
  constructor
  · intro h
    have h0 := h 0
    rw [ho] at h0
    have e : S16.size 0 = 16 := rfl
    exact ⟨Finset.mem_univ _, by omega⟩
  · rintro ⟨-, h⟩ a
    match a with
    | ⟨0, _⟩ =>
      have e : S16.size 0 = 16 := rfl
      show k0_off188 L 0 ≤ (k 0).val ∧ (k 0).val < k0_off188 L 0 + S16.size 0
      omega

/-- The subcore's elements of the output, at `f`. -/
def Out (c i : Nat) (f : Vec F S512 .f32) : sProp 𝕄 := iprop(oLoc d ↦[(part c i : Finset (Idx (oLoc d)))]{fullShare} f)

omit [FloatOps F] in
theorem Out_eq (f : Vec F S512 .f32) :
    (Out d (L 0).val (L 1).val f : sProp 𝕄) = (outs.view.loc (thr d L) ↦[outSet d L]{fullShare} f) := by
  rw [part_eq]; rfl

theorem outA_at (X : Vec F S256x100000 .f32) (T M : Vec F S256 .i32) (k : S512.Idx) (l : S16.Idx) (w : Nat) (h : (k 0).val = 16 * w + (l 0).val) :
    outA X T M k = outV (words (F := F) M w) (total (fun j p => elem X (8 * w + j) p) (words (F := F) T w)) l := by
  have hl : (l 0).val < 16 := (l 0).isLt
  have hd : (k 0).val / 16 = w := by omega
  have hm : (k 0).val % 16 = (l 0).val := by omega
  have hi : (ix1 ⟨(k 0).val % 16, Nat.mod_lt _ (by decide)⟩ : S16.Idx) = l := by
    funext a
    match a with
    | ⟨0, _⟩ => exact Fin.ext hm
  unfold outA
  rw [hi, hd]

/-- What the subcore leaves is the output's values at its elements. -/
theorem Done_out (X : Vec F S256x100000 .f32) (T M : Vec F S256 .i32) : (Done d L X T M : sProp 𝕄) ⊢ Out d (L 0).val (L 1).val (outA X T M) := by
  rw [Out_eq]
  unfold Done
  iintro ⟨%fo, %v5, %v6, %h5, %h6, H⟩
  have e : ∀ k ∈ outSet d L, (outs.slice (Rect.unit (s := S512) (k0_off188 L) S16.size (k0_off188_inb L)) (fun _ => rfl)).view.write (Elt F) fo
      (outV v6 (total (rows L X) v5)) Finset.univ k = outA X T M k := by
    intro k hk
    obtain ⟨l, -, rfl⟩ := Finset.mem_map.mp hk
    rw [View.write_emb_of_mem _ _ (Finset.mem_univ l)]
    have ho : k0_off188 L 0 = 32 * (L 1).val + 16 * (L 0).val := congrFun (k0_off188_eq L) 0
    have hb : 8 * (2 * (L 1).val + (L 0).val) = base L := by unfold base; omega
    have hr : rows L X = fun j p => elem X (8 * (2 * (L 1).val + (L 0).val) + j) p := by
      unfold rows; rw [hb]
    refine Eq.trans ?_ (outA_at X T M _ l (2 * (L 1).val + (L 0).val) ?_).symm
    · show outV v6 (total (rows L X) v5) l = _
      rw [out_congr (w5 := words (F := F) T (2 * (L 1).val + (L 0).val)) (w6 := words (F := F) M (2 * (L 1).val + (L 0).val))
        (fun j => by rw [h5, tw_words, hb]) (fun j => by rw [h6, tw_words, hb]), hr]
    · show k0_off188 L 0 + 1 * (l 0).val = _
      rw [ho]; omega
  iapply (Entails.of_eq (pointsTo_congr e))
  iexact H

/-- The body at the subcore `L`, in the launch theorem's terms. -/
theorem tile_body (X : Vec F S256x100000 .f32) (T M : Vec F S256 .i32) (hT : ∀ r, (word T r).toNat < 100000)
    (hF : (K (F := F)).Facts) (O : CellTallies nD τ sig (HIx 1)) (W : Waits sig (HIx 1)) (hO : ∀ g, O g none = 0) :
    iprop(levAts (K (F := F)).L (K (F := F)).lev ∗ emp ∗ (Tbl d X T M ∗ ∃ f, Out d (L 0).val (L 1).val f)
        ∗ scopedBufs (thr d L) ∗ scopedSems0 (thr d L) ∗ owes (thr d L) O W)
      ⊢ wp frame (wpE (defs₀ (F := F)) 𝒱₀ (thr d L) none) Set.univ (body L)
          fun _ => iprop(Out d (L 0).val (L 1).val (outA X T M) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  generalize (bigSep (ownRefs (τ := τ) (.scVector (cV L) (jV L)) \ bufs L) fun b => (iprop(∃ f, ((d, b) : Loc nD τ sig) ↦{fullShare} f) : sProp 𝕄)) = RB
  generalize (bigSep (ownCells (thr d L) \ cells d L) fun g => (semVal g 0 : sProp 𝕄)) = RS
  have hin (f : Vec F S512 .f32) : iprop(levAts (K (F := F)).L (K (F := F)).lev ∗ emp ∗ (Tbl d X T M ∗ Out d (L 0).val (L 1).val f)
        ∗ ((Any d L buf0 ∗ Any d L buf1 ∗ Any d L winB ∗ Any d L tailB ∗ Any d L tgtB ∗ Any d L maskB ∗ Any d L outB) ∗ RB)
        ∗ ((Zero d L cc0_scratch7.sem ∗ Zero d L cc0_scratch8.sem ∗ Zero d L cc0_scratch9.sem ∗ Zero d L cc0_scratch10.sem ∗ Zero d L cc0_scoped0.sem ∗ Zero d L cc0_scoped1.sem ∗ Zero d L cc0_scoped2.sem) ∗ RS)
        ∗ owes (thr d L) O W)
      ⊢ iprop((Kit d L X T M O W ∗ (outs.view.loc (thr d L) ↦[outSet d L]{fullShare} f)) ∗ RB ∗ RS) := by
    rw [Out_eq]
    unfold Tbl Shr Kit Src Rd Wt
    iintro ⟨#Hlv, -, ⟨⟨HX, HL, HT, HM⟩, Ho⟩, ⟨Hb, HRB⟩, ⟨Hs, HRS⟩, HO⟩
    ihave Hmw := ((K (F := F)).mayWaits_none (thr := thr d L) hO) $$ Hlv
    isplitr [HRB HRS]
    · isplitr [Ho]
      · isplitl [HX HL HT HM]
        · isplitl [HX]; · iexact HX
          isplitl [HL]; · iexact HL
          isplitl [HT]; · iexact HT
          iexact HM
        isplitl [Hb]; · iexact Hb
        isplitl [Hs]; · iexact Hs
        isplitl [Hmw]; · iexact Hmw
        iexists W; isplitr
        · ipureintro; exact fun p hp => .inl hp
        · iexact HO
      · iexact Ho
    · isplitl [HRB] <;> iassumption
  have hout : iprop((Kit d L X T M O W ∗ Done d L X T M) ∗ RB ∗ RS)
      ⊢ iprop(Out d (L 0).val (L 1).val (outA X T M)
        ∗ ((Any d L buf0 ∗ Any d L buf1 ∗ Any d L winB ∗ Any d L tailB ∗ Any d L tgtB ∗ Any d L maskB ∗ Any d L outB) ∗ RB)
        ∗ ((Zero d L cc0_scratch7.sem ∗ Zero d L cc0_scratch8.sem ∗ Zero d L cc0_scratch9.sem ∗ Zero d L cc0_scratch10.sem ∗ Zero d L cc0_scoped0.sem ∗ Zero d L cc0_scoped1.sem ∗ Zero d L cc0_scoped2.sem) ∗ RS)
        ∗ ∃ W', ⌜∀ p ∈ W', p ∈ W ∨ p.2 = none⌝ ∗ owes (thr d L) O W') := by
    unfold Kit Wt
    iintro ⟨⟨⟨-, Hb, Hs, -, HW⟩, Hd⟩, HRB, HRS⟩
    ihave Ho := (Done_out (d := d) (L := L) (X := X) (T := T) (M := M)) $$ Hd
    isplitl [Ho]; · iexact Ho
    isplitl [Hb HRB]; · isplitl [Hb]; · iexact Hb
                        iexact HRB
    isplitl [Hs HRS]; · isplitl [Hs]; · iexact Hs
                        iexact HRS
    iexact HW
  have h (f : Vec F S512 .f32) := body_run (d := d) (L := L) (X := X) (T := T) (M := M) (O := O) (W := W) hT f
  generalize body (F := F) L = p at h ⊢
  have hrun (f : Vec F S512 .f32) := (hin f).trans ((sep_mono_left (h f)).trans ((wp_frame_r _ _ _).trans (wp_mono frame _ _ fun _ => hout)))
  iintro ⟨Hlv, He, ⟨Htbl, %f, Ho⟩, Hrest⟩
  iapply (hrun f)
  isplitl [Hlv]; · iexact Hlv
  isplitl [He]; · iexact He
  isplitl [Htbl Ho]; · isplitl [Htbl] <;> iassumption
  iexact Hrest

end Tile

/-! ## The call's payloads -/

omit [FloatOps F] in
theorem nCore_zero : (K (F := F)).nCore 0 = 2 := rfl
omit [FloatOps F] in
theorem nSub_zero : (K (F := F)).nSub 0 = 16 := rfl

instance Out_storable (d : Dev nD) (c i : Nat) (f : Vec F S512 .f32) : BI.Storable (upEmb : UEmb _ 𝕄) (Out d c i f) := by
  unfold Out; infer_instance

section Call

variable (X : Dev nD → Vec F S256x100000 .f32) (T M : Dev nD → Vec F S256 .i32)

/-- A SparseCore is handed shares of the four arrays and its subcores' parts of the output, a subcore a share of each and its own
    part; the parts come back at the output's values. -/
def P : (K (F := F)).Pay (nD := nD) (Val := Elt F) (Name := ℕ) (U := UU) where
  st := fun _ d c => iprop(Tbl d (X d) (T d) (M d) ∗ bigSep Finset.univ fun i : Fin 16 => iprop(∃ f, Out d c.val i.val f))
  dn := fun _ d c => bigSep Finset.univ fun i : Fin 16 => Out d c.val i.val (outA (X d) (T d) (M d))
  go := fun _ d c i => iprop(Tbl d (X d) (T d) (M d) ∗ ∃ f, Out d c.val i.val f)
  td := fun _ d c i => Out d c.val i.val (outA (X d) (T d) (M d))
  x := fun _ _ => iprop(emp)

instance P_storable : (P X T M).IsStorable where
  st _ d c := by unfold P; infer_instance
  dn _ d c := by unfold P; infer_instance
  go _ _ _ _ := by unfold P; infer_instance
  td _ _ _ _ := by unfold P; infer_instance

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => body (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hT : ∀ d r, (word (T d) r).toNat < 100000) : (K (F := F)).TileObl (D (F := F)) 𝒱 (P X T M) v₀ 0 := by
  intro d c i O W hO _ _
  simp only [show (P X T M).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have h := tile_body d (coordsV ⟨_, hc.1⟩ ⟨_, hc.2⟩) (X d) (T d) (M d) (hT d) facts O W hO
  generalize body (F := F) (coordsV ⟨_, hc.1⟩ ⟨_, hc.2⟩) = p at h ⊢
  exact h.trans (wp_mono frame _ _ fun _ => obl_post)

theorem vecSplit : (K (F := F)).VecSplit' (P X T M) 0 := by
  intro d c
  show iprop(Tbl d (X d) (T d) (M d) ∗ bigSep Finset.univ fun i : Fin 16 => iprop(∃ f, Out d c.val i.val f)) ⊢ |={Set.univ}=> iprop(
      (bigSep Finset.univ fun i : Fin 16 => iprop(Tbl d (X d) (T d) (M d) ∗ ∃ f, Out d c.val i.val f))
      ∗ ((bigSep Finset.univ fun i : Fin 16 => Out d c.val i.val (outA (X d) (T d) (M d)))
          -∗ bigSep Finset.univ fun i : Fin 16 => Out d c.val i.val (outA (X d) (T d) (M d))))
  rw [bigSep_sep']
  iintro ⟨Ht, Ho⟩; imodintro
  isplitr []
  · isplitl [Ht]
    · iapply (Tbl_deal d (X d) (T d) (M d) 16); iexact Ht
    · iexact Ho
  iintro H; iexact H

end Call

end Cert.Proof.Rank
-- ==== Proof.Launch.lean ====
/-
  The whole program: the operations before the call, the call, the operations after it, and what every run of it leaves — the three
  arguments as they were, the result at the value the operations compute of the output, every counter at zero.
-/
module

public import proofs.«01_k».proof.Proof.Deal

@[expose] public section

noncomputable section

namespace Cert.Proof.Rank

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.StableHlo (held seq after wp_seq held_congr)

variable {F : FTy → Type} [FloatOps F]

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

/-! ## The operations around the call -/

/-- The operations before the call, -/
def pre : List (HloOp τ sig (Elt F)) :=
  [StableHlo.reshape main_arg0 main_v0 (rfl : (.f32 : EltTy) = .f32) shapeCasts_S32x8x100000_S256x100000,
    StableHlo.unary main_v0 main_v1 ((extractStridedSlice S256x128 ![0, 99872] · slices_S256x100000_S256x128_0_99872) : (⟨S256x100000, .f32⟩ : BufTy).Contents (Elt F) → (⟨S256x128, .f32⟩ : BufTy).Contents (Elt F)),
    StableHlo.reshape main_arg1 main_v2 (rfl : (.i32 : EltTy) = .i32) shapeCasts_S32x8_S256,
    StableHlo.reshape main_arg2 main_v3 (rfl : (.i32 : EltTy) = .i32) shapeCasts_S32x8_S256]

/-- and after it. -/
def post : List (HloOp τ sig (Elt F)) :=
  [StableHlo.reshape main_v4 main_v5 (rfl : (.f32 : EltTy) = .f32) shapeCasts_S512_S32x16,
    StableHlo.unary main_v5 main_v6 ((extractStridedSlice S32x8 ![0, 0] · slices_S32x16_S32x8_0_0) : (⟨S32x16, .f32⟩ : BufTy).Contents (Elt F) → (⟨S32x8, .f32⟩ : BufTy).Contents (Elt F)),
    StableHlo.nullary main_cst (constant S_ .f32 0x00000000#32),
    StableHlo.binary main_v6 main_cst main_v7 ((fun x v => Host.reduceAdd x v reducesTo_S32x8_S_d0_1 h_S_) : (⟨S32x8, .f32⟩ : BufTy).Contents (Elt F) → (⟨S_, .f32⟩ : BufTy).Contents (Elt F) → (⟨S_, .f32⟩ : BufTy).Contents (Elt F)),
    StableHlo.unary main_v5 main_v8 ((extractStridedSlice S32x8 ![0, 8] · slices_S32x16_S32x8_0_8) : (⟨S32x16, .f32⟩ : BufTy).Contents (Elt F) → (⟨S32x8, .f32⟩ : BufTy).Contents (Elt F)),
    StableHlo.nullary main_cst_0 (constant S_ .f32 0x00000000#32),
    StableHlo.binary main_v8 main_cst_0 main_v9 ((fun x v => Host.reduceAdd x v reducesTo_S32x8_S_d0_1 h_S_) : (⟨S32x8, .f32⟩ : BufTy).Contents (Elt F) → (⟨S_, .f32⟩ : BufTy).Contents (Elt F) → (⟨S_, .f32⟩ : BufTy).Contents (Elt F)),
    StableHlo.binary main_v7 main_v9 main_v10 (Host.divf : (⟨S_, .f32⟩ : BufTy).Contents (Elt F) → (⟨S_, .f32⟩ : BufTy).Contents (Elt F) → (⟨S_, .f32⟩ : BufTy).Contents (Elt F)),
    StableHlo.unary main_v10 main_v11 (broadcastInDim S1 ![] bcast_S_S1 : (⟨S_, .f32⟩ : BufTy).Contents (Elt F) → (⟨S1, .f32⟩ : BufTy).Contents (Elt F))]

/-- The arrays the operations before the call use, -/
def refsA : Finset (Ref sig .tc) := {main_arg0, main_arg1, main_arg2, main_v0, main_v1, main_v2, main_v3}
/-- and those after it. -/
def refsB : Finset (Ref sig .tc) := {main_v4, main_v11, main_v5, main_v6, main_v7, main_v8, main_v9, main_v10, main_cst, main_cst_0}

/-- A set of the TensorCore's arrays as the device's. -/
abbrev onDev (s : Finset (Ref sig .tc)) : Finset (DevRef τ sig) := s.map ⟨fun b : Ref sig .tc => Proc.devRef .tc b, Proc.devRef_injective .tc⟩

theorem mem_onDev {s : Finset (Ref sig .tc)} {b : Ref sig .tc} (h : b ∈ s) : Proc.devRef (τ := τ) .tc b ∈ onDev s := Finset.mem_map_of_mem _ h

theorem pre_sub : ∀ op ∈ pre (F := F), op.bufs ⊆ onDev refsA := by
  unfold pre
  simp only [List.forall_mem_cons, List.not_mem_nil, false_imp_iff, implies_true, and_true]
  refine ⟨?_, ?_, ?_, ?_⟩
  all_goals
    intro b hb
    simp only [StableHlo.unary_bufs, StableHlo.reshape_bufs, Finset.mem_insert, Finset.mem_singleton] at hb
    rcases hb with rfl | rfl
    all_goals exact mem_onDev (by decide)

theorem post_sub : ∀ op ∈ post (F := F), op.bufs ⊆ onDev refsB := by
  unfold post
  simp only [List.forall_mem_cons, List.not_mem_nil, false_imp_iff, implies_true, and_true]
  refine ⟨?_, ?_, ?_, ?_, ?_, ?_, ?_, ?_, ?_⟩
  all_goals
    intro b hb
    simp only [StableHlo.unary_bufs, StableHlo.nullary_bufs, StableHlo.binary_bufs, StableHlo.reshape_bufs, Finset.mem_insert, Finset.mem_singleton] at hb
    rcases hb with rfl | rfl | rfl
    all_goals exact mem_onDev (by decide)

theorem pre_fresh : ∀ op ∈ pre (F := F), op.fresh = ∅ := by
  unfold pre
  simp only [List.forall_mem_cons, List.not_mem_nil, false_imp_iff, implies_true, and_true]
  exact ⟨rfl, rfl, rfl, rfl⟩

theorem post_fresh : ∀ op ∈ post (F := F), op.fresh = ∅ := by
  unfold post
  simp only [List.forall_mem_cons, List.not_mem_nil, false_imp_iff, implies_true, and_true]
  exact ⟨rfl, rfl, rfl, rfl, rfl, rfl, rfl, rfl, rfl⟩

theorem main_eq (d : Dev nD) : main (F := F) d = (seq pre >>= fun _ => (sc (F := F)).run d 0 >>= fun _ => (seq post >>= fun _ => pure ⟨⟩)) := rfl

/-- The launch contents of a device's arrays; -/
def V0 (d : Dev nD) : Valuation τ sig (Elt F) := fun b => m (d, b)
/-- at the call; -/
def Vc (d : Dev nD) : Valuation τ sig (Elt F) := after pre (V0 m d)
abbrev at' (b : Ref sig .tc) : DevRef τ sig := Proc.devRef .tc b
/-- the logits, the targets and the masks as the call takes them; -/
def lg (d : Dev nD) : Vec F S256x100000 .f32 := Vc m d (at' main_v0)
def tg (d : Dev nD) : Vec F S256 .i32 := Vc m d (at' main_v2)
def mk (d : Dev nD) : Vec F S256 .i32 := Vc m d (at' main_v3)
/-- what the call leaves; -/
def ou (d : Dev nD) : Vec F S512 .f32 := outA (lg m d) (tg m d) (mk m d)
/-- the arrays after the call, as the operations after it read them; -/
def Vo (d : Dev nD) : Valuation τ sig (Elt F) := Function.update (V0 m d) (at' main_v4) (ou m d)
/-- the result. -/
def res (d : Dev nD) : Vec F S1 .f32 := after post (Vo m d) (at' main_v11)

theorem Vc_arg (d : Dev nD) (b : Ref sig .tc) (h : b ∉ ({main_v0, main_v1, main_v2, main_v3} : Finset (Ref sig .tc))) : Vc m d (at' b) = m (d, at' b) := by
  refine StableHlo.after_of_forall_not_mem _ _ ?_
  have hne : ∀ c ∈ ({main_v0, main_v1, main_v2, main_v3} : Finset (Ref sig .tc)), at' b ≠ at' c := fun c hc e =>
    h ((Proc.devRef_injective (τ := τ) (sig := sig) .tc e) ▸ hc)
  unfold pre
  simp only [List.forall_mem_cons, List.not_mem_nil, false_imp_iff, implies_true, and_true, StableHlo.reshape_writes, StableHlo.unary_writes, Finset.mem_singleton]
  exact ⟨hne _ (by decide), hne _ (by decide), hne _ (by decide), hne _ (by decide)⟩

/-- The last columns are the logits' last columns. -/
theorem Vc_last (d : Dev nD) : Vc m d (at' main_v1) = lastCols (lg m d) := by
  have h0 : lg m d = shapeCast S256x100000 (m (d, at' main_arg0) : Vec F S32x8x100000 .f32) shapeCasts_S32x8x100000_S256x100000 := by
    unfold lg Vc pre; after_results; rfl
  have h1 : Vc m d (at' main_v1) = extractStridedSlice S256x128 ![0, 99872] (lg m d) slices_S256x100000_S256x128_0_99872 := by
    rw [h0]; unfold Vc pre; after_results; rfl
  rw [h1]
  funext i
  exact elem_eq (lg m d) _ (Nat.zero_add _) rfl

theorem Vo_out (d : Dev nD) : Vo m d (at' main_v4) = ou m d := Function.update_self _ _ _

omit [FloatOps F] in
theorem held_onDev (d : Dev nD) (s : Finset (Ref sig .tc)) (W : Valuation τ sig (Elt F)) :
    (held (T d) (onDev s) W : sProp 𝕄) = bigSep s fun b => iprop(((d, at' b) : Loc nD τ sig) ↦{fullShare} W (at' b)) := by
  unfold held onDev
  rw [bigSep_map]; rfl

/-- The TensorCore's arrays are those of the operations before the call and those of the ones after it. -/
theorem unscoped_held (d : Dev nD) :
    (unscopedBufs d (fun b => m ((SparseCore.T d).loc b)) : sProp 𝕄) = iprop(held (T d) (onDev refsA) (V0 m d) ∗ held (T d) (onDev refsB) (V0 m d)) := by
  rw [held_onDev, held_onDev]
  unfold unscopedBufs
  rw [show (Finset.univ.filter fun b : Ref sig .tc => ¬ b.isScoped) = refsA ∪ refsB by decide, BI.bigSep_union (by decide)]
  rfl

theorem held_A (d : Dev nD) :
    (held (T d) (onDev refsA) (Vc m d) : sProp 𝕄) = iprop(((d, at' main_arg0) ↦{fullShare} m (d, at' main_arg0)) ∗ ((d, at' main_arg1) ↦{fullShare} m (d, at' main_arg1))
      ∗ ((d, at' main_arg2) ↦{fullShare} m (d, at' main_arg2)) ∗ (xLoc d ↦{fullShare} lg m d) ∗ (lLoc d ↦{fullShare} lastCols (lg m d)) ∗ (tLoc d ↦{fullShare} tg m d) ∗ (kLoc d ↦{fullShare} mk m d)) := by
  rw [held_onDev]
  unfold refsA
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rw [Vc_arg m d main_arg0 (by decide), Vc_arg m d main_arg1 (by decide), Vc_arg m d main_arg2 (by decide), Vc_last]
  rfl

/-- The arrays of the operations after the call, but the output. -/
def rest (d : Dev nD) (W : Valuation τ sig (Elt F)) : sProp 𝕄 := bigSep (refsB.erase main_v4) fun b => iprop(((d, at' b) : Loc nD τ sig) ↦{fullShare} W (at' b))

omit [FloatOps F] in
theorem held_B (d : Dev nD) (W : Valuation τ sig (Elt F)) :
    (held (T d) (onDev refsB) W : sProp 𝕄) = iprop((oLoc d ↦{fullShare} W (at' main_v4)) ∗ rest d W) := by
  rw [held_onDev]
  exact SparseCore.bigSep_erase' (by decide)

theorem rest_Vo (d : Dev nD) : (rest d (Vo m d) : sProp 𝕄) = rest d (V0 m d) := by
  refine BI.bigSep_congr fun b hb => ?_
  have : Vo m d (at' b) = V0 m d (at' b) := Function.update_of_ne (fun e => (Finset.mem_erase.mp hb).1 (Proc.devRef_injective (τ := τ) (sig := sig) .tc e)) _ _
  rw [this]

theorem held_R (d : Dev nD) :
    (held (T d) (onDev refsB) (after post (Vo m d)) : sProp 𝕄) = iprop(((d, at' main_v11) ↦{fullShare} res m d)
      ∗ bigSep (refsB.erase main_v11) fun b => iprop(((d, at' b) : Loc nD τ sig) ↦{fullShare} after post (Vo m d) (at' b))) := by
  rw [held_onDev]
  exact SparseCore.bigSep_erase' (by decide)

/-! ## The output, dealt and joined -/

omit [FloatOps F] in
theorem pointsTo_partsOf {ι : Type} [Fintype ι] {ℓ : Loc nD τ sig} {I : Finset (Idx ℓ)} (K : ι → Finset (Idx ℓ)) (hK : ∀ t t', t ≠ t' → Disjoint (K t) (K t'))
    (hc : ∀ i, i ∈ I ↔ ∃ t, i ∈ K t) (f : Buf (Elt F) ℓ) :
    (ℓ ↦[I]{fullShare} f : sProp 𝕄) = bigSep Finset.univ fun t => ℓ ↦[K t]{fullShare} f := by
  classical
  rw [← pointsTo_biUnion Finset.univ K (fun t _ t' _ h => hK t t' h)]
  congr 1
  ext i
  simp only [Finset.mem_univ, Finset.mem_biUnion, true_and]
  exact hc i

omit [FloatOps F] in
theorem mem_part {c i : Nat} {k : S512.Idx} : k ∈ part c i ↔ (k 0).val / 16 = 2 * i + c := by simp [part]

omit [FloatOps F] in
/-- The output is the SparseCores' subcores' parts. -/
theorem out_parts (d : Dev nD) (f : Vec F S512 .f32) :
    (oLoc d ↦{fullShare} f : sProp 𝕄) = bigSep Finset.univ fun c : Fin 2 => bigSep Finset.univ fun i : Fin 16 => Out d c.val i.val f := by
  have h1 := pointsTo_partsOf (F := F) (ℓ := oLoc d) (I := Finset.univ) (fun c : Fin 2 => (Finset.univ.filter fun k : S512.Idx => (k 0).val / 16 % 2 = c.val : Finset S512.Idx))
    (fun c c' h => Finset.disjoint_left.mpr fun k hk hk' => h (Fin.ext ((Finset.mem_filter.mp hk).2.symm.trans (Finset.mem_filter.mp hk').2)))
    (fun k => ⟨fun _ => ⟨⟨((show S512.Idx from k) 0).val / 16 % 2, Nat.mod_lt _ (by decide)⟩, Finset.mem_filter.mpr ⟨Finset.mem_univ _, rfl⟩⟩, fun _ => Finset.mem_univ _⟩) f
  refine h1.trans (BI.bigSep_congr fun c _ => ?_)
  refine (pointsTo_partsOf (F := F) (ℓ := oLoc d) (fun i : Fin 16 => (part c.val i.val : Finset S512.Idx)) ?_ ?_ f)
  · intro i i' h
    refine Finset.disjoint_left.mpr fun k hk hk' => h (Fin.ext ?_)
    have a := mem_part.mp hk
    have b := mem_part.mp hk'
    omega
  · have key : ∀ k : S512.Idx, (k 0).val / 16 % 2 = c.val ↔ ∃ i : Fin 16, k ∈ part c.val i.val := by
      intro k
      have hk : (k 0).val < 512 := (k 0).isLt
      have hc := c.isLt
      refine ⟨fun e => ⟨⟨(k 0).val / 32, by omega⟩, mem_part.mpr ?_⟩, fun ⟨i, hi⟩ => ?_⟩
      · show _ = 2 * ((k 0).val / 32) + _; omega
      · have e := mem_part.mp hi
        omega
    intro k
    exact ⟨fun h => (key k).mp (Finset.mem_filter.mp h).2, fun h => Finset.mem_filter.mpr ⟨Finset.mem_univ _, (key k).mpr h⟩⟩

abbrev PP : (K (F := F)).Pay (nD := nD) (Val := Elt F) (Name := ℕ) (U := UU) := P (lg m) (tg m) (mk m)

/-- What the call takes, -/
theorem st_intro (d : Dev nD) (f : Vec F S512 .f32) :
    iprop((xLoc d ↦{fullShare} lg m d) ∗ (lLoc d ↦{fullShare} lastCols (lg m d)) ∗ (tLoc d ↦{fullShare} tg m d) ∗ (kLoc d ↦{fullShare} mk m d) ∗ (oLoc d ↦{fullShare} f))
      ⊢ (bigSep Finset.univ fun c : Fin ((K (F := F)).nCore 0) => (PP m).st 0 d c : sProp 𝕄) := by
  show _ ⊢ bigSep Finset.univ fun c : Fin 2 => iprop(Tbl d (lg m d) (tg m d) (mk m d) ∗ bigSep Finset.univ fun i : Fin 16 => iprop(∃ f, Out d c.val i.val f))
  rw [bigSep_sep', out_parts]
  iintro ⟨HX, HL, HT, HM, Ho⟩
  isplitr [Ho]
  · iapply (Tbl_deal d (lg m d) (tg m d) (mk m d) 2)
    unfold Tbl Shr
    isplitl [HX]; · iexists _; iexact HX
    isplitl [HL]; · iexists _; iexact HL
    isplitl [HT]; · iexists _; iexact HT
    iexists _; iexact HM
  · have h : (bigSep Finset.univ fun c : Fin 2 => bigSep Finset.univ fun i : Fin 16 => (Out d c.val i.val f : sProp 𝕄))
        ⊢ bigSep Finset.univ fun c : Fin 2 => bigSep Finset.univ fun i : Fin 16 => iprop(∃ f, Out d c.val i.val f) :=
      BI.bigSep_mono fun c _ => BI.bigSep_mono fun i _ => by
        show (Out d c.val i.val f : sProp 𝕄) ⊢ iprop(∃ f, Out d c.val i.val f)
        iintro H; iexists _; iexact H
    iapply h
    iexact Ho

/-- and hands back. -/
theorem dn_elim (d : Dev nD) : (bigSep Finset.univ fun c : Fin ((K (F := F)).nCore 0) => (PP m).dn 0 d c : sProp 𝕄) = (oLoc d ↦{fullShare} ou m d) := by
  rw [out_parts]; rfl

/-! ## The launch element -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PP m).x q thr) := by
  unfold u₀
  iintro Hu
  ihave H := (ownU_pair _ _) $$ Hu
  icases H with ⟨HH, -⟩
  imodintro
  isplitl [HH]; · iexact HH
  isplitr; · rw [bigSep_emp']; iempintro
  show _ ⊢ bigSep Finset.univ fun _ : Thread nD τ => bigSep Finset.univ fun _ : Fin 1 => (iprop(emp) : sProp 𝕄)
  rw [show (bigSep Finset.univ fun _ : Thread nD τ => bigSep Finset.univ fun _ : Fin 1 => (iprop(emp) : sProp 𝕄)) = iprop(emp) from by
    rw [BI.bigSep_congr fun _ _ => bigSep_emp' _, bigSep_emp']]

/-! ## The TensorCore's program -/

/-- What the program leaves a claim: the arguments as they were, the result. -/
def FIN (d : Dev nD) : sProp 𝕄 :=
  iprop(((d, at' main_arg0) ↦{fullShare} m (d, at' main_arg0)) ∗ ((d, at' main_arg1) ↦{fullShare} m (d, at' main_arg1))
    ∗ ((d, at' main_arg2) ↦{fullShare} m (d, at' main_arg2)) ∗ ((d, at' main_v11) ↦{fullShare} res m d))

theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, ⟨HA, HB⟩, Hts, -⟩, -⟩
  iapply (wp_seq 𝒱 none Set.univ d (onDev refsA) _ pre pre_sub pre_fresh (V0 m d)) $$ [Hb HA]
  · isplitl [Hb]; · iexact Hb
    iexact HA
  iintro ⟨Hb, HA⟩
  ihave HA := (Entails.of_eq (show (held (d.tc : Thread nD τ) (onDev refsA) (after pre (V0 m d)) : sProp 𝕄) = _ from held_A m d)) $$ HA
  icases HA with ⟨H0, H1, H2, HX, HL, HT, HM⟩
  ihave HB := (Entails.of_eq (held_B (F := F) d (V0 m d))) $$ HB
  icases HB with ⟨Ho, Hr⟩
  rw [wp_bind]
  iapply ((K (F := F)).wp_run (D (F := F)) 𝒱 (EH := EH) (P := PP m) κ d 0) $$ [Hst HX HL HT HM Ho Hb H0 H1 H2 Hr Hts]
  isplitr; · iexact Hctx
  isplitl [Hst]; · iexact Hst
  isplitl [HX HL HT HM Ho]
  · iapply (st_intro m d (V0 m d (at' main_v4)))
    isplitl [HX]; · iexact HX
    isplitl [HL]; · iexact HL
    isplitl [HT]; · iexact HT
    isplitl [HM] <;> iassumption
  iintro ⟨Hst, Hdn⟩
  ihave Ho := (Entails.of_eq (dn_elim m d)) $$ Hdn
  iapply (wp_seq 𝒱 none Set.univ d (onDev refsB) _ post post_sub post_fresh (Vo m d)) $$ [Hb Ho Hr]
  · isplitl [Hb]; · iexact Hb
    rw [show (held (d.tc : Thread nD τ) (onDev refsB) (Vo m d) : sProp 𝕄) = _ from held_B (F := F) d (Vo m d), Vo_out, rest_Vo]
    isplitl [Ho] <;> iassumption
  iintro ⟨Hb, HB⟩
  ihave HB := (Entails.of_eq (show (held (d.tc : Thread nD τ) (onDev refsB) (after post (Vo m d)) : sProp 𝕄) = _ from held_R m d)) $$ HB
  icases HB with ⟨HR, -⟩
  rw [wp_pure]; imodintro
  isplitl [Hst]; · iexact Hst
  isplitr [Hb Hts]
  · unfold FIN
    isplitl [H0]; · iexact H0
    isplitl [H1]; · iexact H1
    isplitl [H2] <;> iassumption
  isplitl [Hb] <;> iassumption

/-- What a final memory holds on a device. -/
def fq (d : Dev nD) (s' : Phys nD τ sig (Elt F)) : Prop :=
  s'.mem.mem (d, at' main_arg0) = m (d, at' main_arg0) ∧ s'.mem.mem (d, at' main_arg1) = m (d, at' main_arg1) ∧ s'.mem.mem (d, at' main_arg2) = m (d, at' main_arg2)
    ∧ s'.mem.mem (d, at' main_v11) = res m d

omit [FloatOps F] in
theorem agree (s' : Phys nD τ sig (Elt F)) (ℓ : Loc nD τ sig) (f : Buf (Elt F) ℓ) : iprop((ℓ ↦{fullShare} f) ∗ SI s') ⊢ iprop(⌜s'.mem.mem ℓ = f⌝ ∗ (SI s' : sProp 𝕄)) := by
  iintro ⟨Hi, HSI⟩
  ihave H := (persistent_entails_right (SI_pointsTo_agree (st := s') (ℓ := ℓ) (I := Finset.univ) (q := fullShare) (f := f))) $$ [HSI Hi]
  · isplitl [HSI] <;> iassumption
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp 𝕄) := by
  unfold FIN
  iintro ⟨⟨H0, H1, H2, HR⟩, HSI⟩
  ihave H := (agree (F := F) s' _ _) $$ [H0 HSI]
  · isplitl [H0] <;> iassumption
  icases H with ⟨%h0, HSI⟩
  ihave H := (agree (F := F) s' _ _) $$ [H1 HSI]
  · isplitl [H1] <;> iassumption
  icases H with ⟨%h1, HSI⟩
  ihave H := (agree (F := F) s' _ _) $$ [H2 HSI]
  · isplitl [H2] <;> iassumption
  icases H with ⟨%h2, HSI⟩
  ihave H := (agree (F := F) s' _ _) $$ [HR HSI]
  · isplitl [HR] <;> iassumption
  icases H with ⟨%h3, -⟩
  ipureintro; exact ⟨h0, h1, h2, h3⟩

/-! ## The run -/

/-- What every run of the program leaves. -/
def QC : PUnit × MemSt nD τ sig (Elt F) → Prop := fun r =>
  (∀ d : Dev nD, r.2.mem (d, at' main_arg0) = m (d, at' main_arg0) ∧ r.2.mem (d, at' main_arg1) = m (d, at' main_arg1) ∧ r.2.mem (d, at' main_arg2) = m (d, at' main_arg2)
    ∧ r.2.mem (d, at' main_v11) = res m d) ∧ r.2.sem = fun _ => 0

/-- Every run of the program, its targets in range: it ends, the arguments unchanged, the result the operations' value, every counter at zero. -/
theorem run_main [∀ e, Nonempty (Elt F e)] (hT : ∀ d r, (word (tg m d) r).toNat < 100000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (lg m) (tg m) (mk m) hT)
    (fun q _ => match q with | 0 => SparseCore.Cfg.VecSplit.of_plain (vecSplit (lg m) (tg m) (mk m)))
    m ρ main (fun _ => iprop(emp)) (FIN m) (u₀ (F := F)) (sep_elim_left.trans (hu₀ m)) (hmain m ρ) (fq m) (hfin m) (QC m) (fun _ h hz => ⟨h, hz⟩)

end Cert.Proof.Rank
-- ==== Proof.Frames.lean ====
/-
  The three frames: the kernel's from its run at the words, the idealized kernel's from the same run at the extended reals, the
  reference's from its own operations. What the run asks of the launch memory — every target's word below 100000 — is the
  precondition's.
-/
module

public import proofs.«01_k».proof.Defs
public import proofs.«01_k».proof.Proof.Launch
public import proofs.«01_k».proof.Proof.Gen.Kernel
public import proofs.«01_k».proof.Proof.Gen.KernelIdeal
public import proofs.«01_k».proof.Proof.Gen.ReferenceIdeal
public import proofs.«01_k».proof.Proof.Gen.Pre_in_range
public import Idealize.ShloMosaic.Lib.ReduceAll
public import Idealize.ShloMosaic.Lib.Claim
public import Idealize.ShloMosaic.Lib.Affine

@[expose] public section

noncomputable section

namespace Cert.Proof.Rank

open Cert.KernelIdeal Cert.KernelIdeal.Gen
open Idealize.ShloMosaic
open Idealize.SL.Sem
open Idealize.ShloMosaic.ValueIdx

variable {F : FTy → Type} [FloatOps F]

/-- A word at least 0 and below 100000, as the precondition compares them, is a number below 100000. -/
theorem lt_of_range (v : BitVec 32) (e : IntOp.andi (IntOp.cmpi .sge v 0#32) (IntOp.cmpi .slt v 100000#32) = 1#1) : v.toNat < 100000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The precondition's predicate, all ones, bounds every target. -/
theorem target_lt (x : FVec F S32x8x100000 .f32) (t k : IVec S32x8 32) (h : Cert.Pre_in_range.fn (F := F) x t k = fun _ => 1#1) (i : S32x8.Idx) : (t i).toNat < 100000 := by
  have e := congrFun h (fun a => a.elim0)
  dsimp only [Cert.Pre_in_range.fn] at e
  have hs : Subsingleton Cert.Pre_in_range.S_.Idx := ⟨fun a b => funext fun k => k.elim0⟩
  exact lt_of_range _ (Host.reduce_andi_all _ _ _ _ _ e i)

variable (m : (ℓ : Loc nD τ sig) → Buf (Elt F) ℓ)

/-- The targets the call takes are the second argument's words. -/
theorem tg_eq (d : Dev nD) : tg m d = shapeCast S256 (m (d, at' main_arg1) : Vec F S32x8 .i32) shapeCasts_S32x8_S256 := by
  unfold tg Vc pre; after_results; rfl

/-- Every target the call takes is in range, when the second argument's words are. -/
theorem tg_lt (h : ∀ d, Cert.Pre_in_range.fn (F := F) (m (d, at' main_arg0)) (m (d, at' main_arg1)) (m (d, at' main_arg2)) = fun _ => 1#1) (d : Dev nD) (r : Nat) :
    (word (tg m d) r).toNat < 100000 := by
  have key : ∀ i, (shapeCast S256 (m (d, at' main_arg1) : Vec F S32x8 .i32) shapeCasts_S32x8_S256 i).toNat < 100000 := fun i => target_lt _ _ _ (h d) _
  rw [tg_eq]
  unfold word
  exact key _

set_option maxHeartbeats 4000000 in
/-- The kernel's frame. -/
theorem frame_kernel : Cert.quiescent_Kernel := fun m ρ hpre =>
  (θ_run Cert.KernelIdeal.defs _ _).mono (fun _ h => ⟨fun c => ⟨(h.1 c).1, (h.1 c).2.1, (h.1 c).2.2.1⟩, h.2⟩) (run_main (F := Bits) m ρ (tg_lt (F := Bits) m fun d => hpre d))

/-- The idealized kernel's frame. -/
theorem frame_ideal : Cert.quiescent_KernelIdeal := fun m ρ hpre =>
  (θ_run Cert.KernelIdeal.defs _ _).mono (fun _ h => ⟨fun c => ⟨(h.1 c).1, (h.1 c).2.1, (h.1 c).2.2.1⟩, h.2⟩) (run_main (F := Ideal) m ρ (tg_lt (F := Ideal) m fun d => hpre d))

/-- The reference's frame. -/
theorem frame_reference : Cert.quiescent_ReferenceIdeal := by
  intro m g hpre
  hlo_run
  · exact fun _ => ⟨trivial, trivial, trivial⟩
  · exact sem_eq_zero_of_no_sems (by decide) r.2

end Cert.Proof.Rank
-- ==== Proof.Score.lean ====
/-
  The counts as numbers, floats exact: a row's count holds in each lane how many of the lane's columns beat the target,
  its lanes sum to the target's rank, and the score is the mask where that rank is below five.
-/
module

public import Idealize.ShloMosaic.Lib.IdealHost
public import Idealize.ShloMosaic.Lib.WordCmp
public import proofs.«01_k».proof.Proof.Deal

@[expose] public section

noncomputable section

namespace Cert.Proof.Rank

open Cert.KernelIdeal Cert.KernelIdeal.Gen
open Idealize.ShloMosaic
open Idealize.ShloMosaic.ValueIdx
open Idealize.ShloMosaic.WordCmp

/-- Column `p` of a row beats column `t`: greater, or equal at a lower column. -/
def Beat (x : Nat → EReal) (t p : Nat) : Prop := x t < x p ∨ (x p = x t ∧ p < t)

/-! ## Numbers of indices -/

open Classical in
/-- How many of the first `n` numbers have a property. -/
def num (B : Nat → Prop) (n : Nat) : Nat := ((Finset.range n).filter B).card

open Classical in
theorem num_succ (B : Nat → Prop) (n : Nat) : num B (n + 1) = num B n + if B n then 1 else 0 := by
  unfold num
  rw [Finset.card_filter, Finset.card_filter, Finset.sum_range_succ]

open Classical in
theorem num_last (B : Nat → Prop) {n m : Nat} (h : n = m + 1) : num B n = num B m + if B m then 1 else 0 := h ▸ num_succ B m

open Classical in
theorem num_le (B : Nat → Prop) (n : Nat) : num B n ≤ n := by
  unfold num
  exact (Finset.card_filter_le _ _).trans (by simp)

open Classical in
/-- Counted sixteen at a time, lane by lane. -/
theorem num_lanes (B : Nat → Prop) (n : Nat) : num B (16 * n) = ∑ l : Fin 16, num (fun k => B (16 * k + l.val)) n := by
  induction n with
  | zero => simp [num]
  | succ n ih =>
    have e : num B (16 * (n + 1)) = num B (16 * n) + ∑ l ∈ Finset.range 16, if B (16 * n + l) then 1 else 0 := by
      unfold num
      rw [Finset.card_filter, Finset.card_filter, show 16 * (n + 1) = 16 * n + 16 by ring, Finset.sum_range_add]
    rw [e, ih, Finset.sum_congr rfl fun (l : Fin 16) _ => num_succ (fun k => B (16 * k + l.val)) n, Finset.sum_add_distrib]
    exact congrArg _ (Fin.sum_univ_eq_sum_range (fun l => if B (16 * n + l) then 1 else 0) 16).symm

/-! ## The lanes of a count -/

open Classical in
/-- A one or a zero added to a lane. -/
theorem add_flag (c : IVec S16 32) (b : IVec S16 1) (l : S16.Idx) (p : Prop) (h : b l = 1#1 ↔ p) :
    addi c (select b k0_pay99 k0_pay98) l = c l + BitVec.ofNat 32 (if p then 1 else 0) := by
  show c l + (if b l = 1#1 then 1#32 else 0#32) = _
  by_cases hp : p
  · rw [if_pos (h.2 hp), if_pos hp]
  · rw [if_neg (h.not.2 hp), if_neg hp]

theorem ogt_iff (a b : FVec Ideal S16 .f32) (l : S16.Idx) : cmpf .ogt a b l = 1#1 ↔ (b l : EReal) < a l := by
  show Ideal.cmp .ogt (a l) (b l) = 1#1 ↔ _
  unfold Ideal.cmp
  exact ofBool_decide_eq_one_iff _

theorem oge_iff (a b : FVec Ideal S16 .f32) (l : S16.Idx) : cmpf .oge a b l = 1#1 ↔ (b l : EReal) ≤ a l := by
  show Ideal.cmp .oge (a l) (b l) = 1#1 ↔ _
  unfold Ideal.cmp
  exact ofBool_decide_eq_one_iff _

theorem oeq_iff (a b : FVec Ideal S16 .f32) (l : S16.Idx) : cmpf .oeq a b l = 1#1 ↔ (a l : EReal) = b l := by
  show Ideal.cmp .oeq (a l) (b l) = 1#1 ↔ _
  unfold Ideal.cmp
  exact ofBool_decide_eq_one_iff _

theorem or_and_bit (a b c : BitVec 1) : a ||| (b &&& c) = 1#1 ↔ a = 1#1 ∨ (b = 1#1 ∧ c = 1#1) := by
  revert a b c; decide

/-- The lanes of vector `k` that beat the target's, at a lane. -/
theorem beats_iff (x : Nat → Ideal .f32) {t p : BitVec 32} {k : Nat} (ht : t.toNat < 100000) (hp : p.toNat = 16 * k) (hk : k < 6250) (l : S16.Idx) :
    beats (F := Ideal) (broadcast S16 (x t.toNat)) t p (rowV x k) l = 1#1 ↔ Beat x t.toNat (16 * k + (l 0).val) := by
  have hl : (l 0).val < 16 := (l 0).isLt
  have hs : BitVec.ofBool ((BitVec.ofNat 32 (0 * 16 + (l 0).val) + p).slt t) = 1#1 ↔ 16 * k + (l 0).val < t.toNat := by
    rw [ofBool_eq_one_iff, BitVec.slt_eq_decide, decide_eq_true_iff, BitVec.toInt_eq_toNat_of_lt (x := t) (by omega), BitVec.toInt_eq_toNat_of_lt]
    · rw [BitVec.toNat_add, BitVec.toNat_ofNat]; omega
    · rw [BitVec.toNat_add, BitVec.toNat_ofNat]; omega
  show (cmpf (F := Ideal) .ogt (rowV x k) (broadcast S16 (x t.toNat)) l) ||| ((cmpf (F := Ideal) .oeq (rowV x k) (broadcast S16 (x t.toNat)) l)
    &&& BitVec.ofBool ((BitVec.ofNat 32 (0 * 16 + (l 0).val) + p).slt t)) = 1#1 ↔ _
  rw [or_and_bit, ogt_iff, oeq_iff, hs]
  rfl

open Classical in
/-- What a vector adds to a lane. -/
theorem stepV_lane (x : Nat → Ideal .f32) {t : BitVec 32} {k : Nat} (ht : t.toNat < 100000) (hk : k < 6250) (c : IVec S16 32) (l : S16.Idx) :
    stepV x (broadcast S16 (x t.toNat)) t k c l = c l + BitVec.ofNat 32 (if Beat x t.toNat (16 * k + (l 0).val) then 1 else 0) := by
  have hl : (l 0).val < 16 := (l 0).isLt
  unfold stepV
  split
  · refine add_flag _ _ _ _ ((oge_iff _ _ _).trans ?_)
    show (x t.toNat : EReal) ≤ x (16 * k + (l 0).val) ↔ _
    unfold Beat
    constructor
    · intro h
      rcases h.lt_or_eq with h | h
      · exact Or.inl h
      · exact Or.inr ⟨h.symm, by omega⟩
    · rintro (h | h)
      · exact h.le
      · exact h.1.ge
  · split
    · refine add_flag _ _ _ _ (beats_iff x ht ?_ hk l)
      rw [BitVec.toNat_ofNat]; omega
    · refine add_flag _ _ _ _ ((ogt_iff _ _ _).trans ?_)
      show (x t.toNat : EReal) < x (16 * k + (l 0).val) ↔ _
      unfold Beat
      constructor
      · exact Or.inl
      · rintro (h | h)
        · exact h
        · omega

/-- A lane of the count of a row's first `n` vectors. -/
theorem cntV_lane (x : Nat → Ideal .f32) {t : BitVec 32} {n : Nat} (ht : t.toNat < 100000) (hn : n ≤ 6250) (l : S16.Idx) :
    cntV x (broadcast S16 (x t.toNat)) t n l = BitVec.ofNat 32 (num (fun k => Beat x t.toNat (16 * k + (l 0).val)) n) := by
  induction n with
  | zero => show 0#32 = _; simp [num]
  | succ n ih =>
    show stepV x (broadcast S16 (x t.toNat)) t n (cntV x (broadcast S16 (x t.toNat)) t n) l = _
    rw [stepV_lane x ht (by omega), ih (by omega), num_succ, BitVec.ofNat_add]

open Classical in
/-- What the target's own rule adds to a lane, whatever the vector. -/
theorem addEq_lane (x : Nat → Ideal .f32) {t p : BitVec 32} {k : Nat} (ht : t.toNat < 100000) (hp : p.toNat = 16 * k) (hk : k < 6250)
    (c : IVec S16 32) (l : S16.Idx) : addEq (F := Ideal) (broadcast S16 (x t.toNat)) t p c (rowV x k) l
      = c l + BitVec.ofNat 32 (if Beat x t.toNat (16 * k + (l 0).val) then 1 else 0) :=
  add_flag _ _ _ _ (beats_iff x ht hp hk l)

/-- A lane of a row's whole count. -/
theorem total_lane (x : Nat → Nat → Ideal .f32) (v5 : Vec Ideal S16 .i32) (j : Fin 8) (ht : (tw v5 j).toNat < 100000) (l : S16.Idx) :
    total x v5 j l = BitVec.ofNat 32 (num (fun k => Beat (x j.val) (tw v5 j).toNat (16 * k + (l 0).val)) 6250) := by
  unfold total cnt tv
  rw [cast16_rowC, cast16_rowC, addEq_lane (x j.val) ht (k := 6249) (by decide) (by decide), addEq_lane (x j.val) ht (k := 6248) (by decide) (by decide),
    cntV_lane (x j.val) ht (by decide), num_last _ (show 6250 = 6249 + 1 by decide), num_last _ (show 6249 = 6248 + 1 by decide),
    BitVec.ofNat_add, BitVec.ofNat_add]

/-! ## The score -/

/-- The last lane of a running sum holds the lanes' sum. -/
theorem sum_lanes (c : IVec S16 32) (f : Fin 16 → Nat) (h : ∀ l, c l = BitVec.ofNat 32 (f (l 0))) :
    extractAt ![15] (scan .sum c) inpos_S16_p15 = BitVec.ofNat 32 (∑ l, f l) := by
  have e : c = fun l => BitVec.ofNat 32 (f (l 0)) := funext h
  subst e
  have g : (List.finRange 16).filter (fun k => decide (0 < k.val ∧ k.val ≤ 15)) = [1, 2, 3, 4, 5, 6, 7, 8, 9, 10, 11, 12, 13, 14, 15] := by decide
  show ((List.finRange 16).filter (fun k => decide (0 < k.val ∧ k.val ≤ 15))).foldl (fun r k => r + BitVec.ofNat 32 (f k)) (BitVec.ofNat 32 (f 0)) = _
  rw [g]
  simp only [List.foldl, Fin.sum_univ_succ, BitVec.ofNat_add, Finset.univ_eq_empty, Finset.sum_empty]
  simp [BitVec.add_assoc]

/-- A target's rank: how many columns of its row beat it. -/
def rankOf (x : Nat → EReal) (t : Nat) : Nat := num (Beat x t) 100000

/-- A row's score: its mask where its target's rank is below five. -/
def scoreOf (x : Nat → EReal) (t : Nat) (m : BitVec 32) : EReal := if rankOf x t < 5 then ((m.toInt : ℝ) : EReal) else 0

theorem score_eq (x : Nat → Nat → Ideal .f32) (v5 : Vec Ideal S16 .i32) (j : Fin 8) (ht : (tw v5 j).toNat < 100000) (m : BitVec 32) :
    score (F := Ideal) (total x v5 j) m = scoreOf (x j.val) (tw v5 j).toNat m := by
  unfold score
  rw [sum_lanes _ (fun i => num (fun k => Beat (x j.val) (tw v5 j).toNat (16 * k + i.val)) 6250) fun l => total_lane x v5 j ht l]
  rw [← num_lanes (Beat (x j.val) (tw v5 j).toNat) 6250]
  have hb : num (Beat (x j.val) (tw v5 j).toNat) (16 * 6250) ≤ 16 * 6250 := num_le _ _
  have e : rankOf (x j.val) (tw v5 j).toNat = num (Beat (x j.val) (tw v5 j).toNat) (16 * 6250) := rfl
  unfold scoreOf
  rw [← e] at hb ⊢
  generalize rankOf (x j.val) (tw v5 j).toNat = N at hb
  show (if IntOp.cmpi .slt (BitVec.ofNat 32 N) (BitVec.ofNat 32 5) = 1#1 then ((m.toInt : ℝ) : EReal) else Ideal.ofBits .f32 0x00000000#32) = _
  rw [cmpi_slt_ofNat (by omega) (by omega), Ideal.ofBits_zero_f32]
  simp only [ofBool_decide_eq_one_iff]

/-! ## The sixteen lanes a subcore writes -/

/-- A lane a value is put in. -/
theorem put_lane (acc : FVec Ideal S16 .f32) (a : Nat) (ha : a < 16) (v : Ideal .f32) (l : S16.Idx) :
    put acc (BitVec.ofNat 32 a) v l = if (l 0).val = a then (acc l : EReal) + v else acc l := by
  have hl : (l 0).val < 16 := (l 0).isLt
  show (acc l : EReal) + (if IntOp.cmpi .eq (BitVec.ofNat 32 (0 * 16 + (l 0).val)) (BitVec.ofNat 32 a) = 1#1 then v else Ideal.ofBits .f32 0x00000000#32) = _
  rw [cmpi_eq_eq, Ideal.ofBits_zero_f32]
  simp only [ofBool_decide_eq_one_iff]
  have e : BitVec.ofNat 32 (0 * 16 + (l 0).val) = BitVec.ofNat 32 a ↔ (l 0).val = a := by
    constructor
    · intro h
      have h := congrArg BitVec.toNat h
      rw [BitVec.toNat_ofNat, BitVec.toNat_ofNat] at h
      omega
    · rintro rfl; simp
  by_cases h : (l 0).val = a
  · rw [if_pos h, if_pos (e.2 h)]
  · rw [if_neg h, if_neg (e.not.2 h), add_zero]

/-- A row's two lanes, at one of the first eight; -/
theorem put2_score (v6 : Vec Ideal S16 .i32) (c : Fin 8 → IVec S16 32) (j i : Fin 8) (acc : FVec Ideal S16 .f32) (l : S16.Idx) (h : (l 0).val = i.val) :
    put2 (F := Ideal) v6 c j acc l = if i = j then (acc l : EReal) + score (F := Ideal) (c j) (tw v6 j) else acc l := by
  unfold put2
  rw [put_lane _ _ (by omega), if_neg (by omega), put_lane _ _ (by omega), h]
  simp only [Fin.ext_iff]

/-- at one of the last eight. -/
theorem put2_mask (v6 : Vec Ideal S16 .i32) (c : Fin 8 → IVec S16 32) (j i : Fin 8) (acc : FVec Ideal S16 .f32) (l : S16.Idx) (h : (l 0).val = 8 + i.val) :
    put2 (F := Ideal) v6 c j acc l = if i = j then (acc l : EReal) + (((tw v6 j).toInt : ℝ) : EReal) else acc l := by
  unfold put2
  rw [put_lane _ _ (by omega), put_lane _ _ (by omega), if_neg (show ¬(l 0).val = j.val by omega), h]
  simp only [Nat.add_left_cancel_iff, Fin.ext_iff]
  rfl

/-- Row `j`'s first lane holds its score, -/
theorem outV_score (v6 : Vec Ideal S16 .i32) (c : Fin 8 → IVec S16 32) (j : Fin 8) (l : S16.Idx) (h : (l 0).val = j.val) :
    outV (F := Ideal) v6 c l = score (F := Ideal) (c j) (tw v6 j) := by
  have z : (k0_pay100 (F := Ideal) l : EReal) = 0 := Ideal.ofBits_zero_f32
  unfold outV
  simp only [put2_score v6 c _ j _ l h, z]
  fin_cases j <;> simp

/-- its second its mask. -/
theorem outV_mask (v6 : Vec Ideal S16 .i32) (c : Fin 8 → IVec S16 32) (j : Fin 8) (l : S16.Idx) (h : (l 0).val = 8 + j.val) :
    outV (F := Ideal) v6 c l = (((tw v6 j).toInt : ℝ) : EReal) := by
  have z : (k0_pay100 (F := Ideal) l : EReal) = 0 := Ideal.ofBits_zero_f32
  unfold outV
  simp only [put2_mask v6 c _ j _ l h, z]
  fin_cases j <;> simp

end Cert.Proof.Rank
-- ==== Proof.TopFive.lean ====
/-
  The first elements of a stable sort: the position a stable sort puts at place `k` is the one with `k` positions ahead of
  it, so a position is among the first `m` where fewer than `m` positions are ahead of it.
-/
module

public import Idealize.ShloMosaic.Lib.SortFacts

@[expose] public section

namespace Cert.Proof.Rank

open Idealize.ShloMosaic

/-- Position `p` goes ahead of `t` in a stable sort: its element comes before, or neither does and it stands first. -/
def Ahead {n : Nat} (gt : Fin n → Fin n → Bool) (p t : Fin n) : Prop := gt p t = true ∨ (gt t p = false ∧ p < t)

section
variable {n : Nat} {gt : Fin n → Fin n → Bool} (ha : ∀ a b, gt a b = true → gt b a = false)
  (hn : ∀ a b c, gt a b = false → gt b c = false → gt a c = false)
include ha

/-- Of two positions one at most goes ahead of the other. -/
theorem Ahead.asymm {p t : Fin n} (h : Ahead gt p t) : ¬ Ahead gt t p := by
  rcases h with h | ⟨h, l⟩ <;> rintro (g | ⟨g, m⟩)
  · simp [ha _ _ h] at g
  · simp [h] at g
  · simp [h] at g
  · exact absurd (l.trans m) (lt_irrefl _)

include hn

/-- An insertion of a position lower than all the list's keeps the list in the order of `Ahead`. -/
theorem ahead_insert (a : Fin n) (l : List (Fin n)) (hl : l.Pairwise (Ahead gt)) (h : ∀ b ∈ l, a < b) :
    (insertBefore gt a l).Pairwise (Ahead gt) := by
  induction l with
  | nil => exact List.pairwise_singleton _ _
  | cons b l ih =>
    unfold insertBefore
    obtain ⟨hb, hl'⟩ := List.pairwise_cons.1 hl
    split
    · rename_i g
      refine List.pairwise_cons.2 ⟨fun c hc => ?_, ih hl' fun c hc => h c (List.mem_cons_of_mem _ hc)⟩
      rcases List.mem_cons.1 ((perm_insertBefore gt a l).mem_iff.1 hc) with rfl | hc
      · exact Or.inl g
      · exact hb c hc
    · rename_i g
      have g : gt b a = false := by simpa using g
      refine List.pairwise_cons.2 ⟨fun c hc => Or.inr ⟨?_, h c hc⟩, hl⟩
      rcases List.mem_cons.1 hc with rfl | hc
      · exact g
      · have e : gt c b = false := by
          rcases hb c hc with e | e
          · exact ha _ _ e
          · exact e.1
        exact hn _ _ _ e g

/-- A stable sort of positions in order puts them in the order of `Ahead`. -/
theorem ahead_sort (l : List (Fin n)) (h : l.Pairwise (· < ·)) : (stableSort gt l).Pairwise (Ahead gt) := by
  induction l with
  | nil => exact List.Pairwise.nil
  | cons a l ih =>
    obtain ⟨hb, hl⟩ := List.pairwise_cons.1 h
    exact ahead_insert ha hn a _ (ih hl) fun b hb' => hb b ((perm_stableSort gt l).mem_iff.1 hb')

/-- Of two places the first holds a position ahead of the second's. -/
theorem ahead_place {i j : Fin n} (h : i < j) : Ahead gt (sortedFrom gt i) (sortedFrom gt j) :=
  List.pairwise_iff_get.1 (ahead_sort ha hn _ (List.pairwise_lt_finRange n)) _ _ h

open Classical in
/-- The position at place `k` has `k` positions ahead of it. -/
theorem card_ahead (k : Fin n) : (Finset.univ.filter fun p => Ahead gt p (sortedFrom gt k)).card = k.val := by
  have e : (Finset.univ.filter fun p => Ahead gt p (sortedFrom gt k)) = (Finset.Iio k).image (sortedFrom gt) := by
    ext p
    obtain ⟨i, rfl⟩ := sortedFrom_surjective gt p
    simp only [Finset.mem_filter, Finset.mem_univ, true_and, Finset.mem_image, Finset.mem_Iio]
    constructor
    · intro h
      refine ⟨i, ?_, rfl⟩
      rcases lt_trichotomy i k with g | g | g
      · exact g
      · subst g; exact absurd h (Ahead.asymm ha h)
      · exact absurd h (Ahead.asymm ha (ahead_place ha hn g))
    · rintro ⟨j, hj, e⟩
      rw [← e]; exact ahead_place ha hn hj
  rw [e, Finset.card_image_of_injective _ (sortedFrom_injective gt), Fin.card_Iio]

open Classical in
/-- A position is among the first `m` places where fewer than `m` positions are ahead of it. -/
theorem top_iff (m : Nat) (t : Fin n) :
    (∃ k : Fin n, k.val < m ∧ sortedFrom gt k = t) ↔ (Finset.univ.filter fun p => Ahead gt p t).card < m := by
  constructor
  · rintro ⟨k, h, rfl⟩
    rwa [card_ahead ha hn]
  · obtain ⟨k, rfl⟩ := sortedFrom_surjective gt t
    rw [card_ahead ha hn]
    exact fun h => ⟨k, h, rfl⟩

end

end Cert.Proof.Rank
-- ==== Proof.Hits.lean ====
/-
  The reference's hits, floats exact: a target is among the five greatest of its row, equal ones in column order, where its
  rank — how many columns beat it — is below five.
-/
module

public import Idealize.ShloMosaic.Lib.ReduceAll
public import proofs.«01_k».proof.ReferenceIdeal
public import proofs.«01_k».proof.Proof.Score
public import proofs.«01_k».proof.Proof.TopFive

@[expose] public section

noncomputable section

namespace Cert.Proof.Rank

open Cert.KernelIdeal
open Cert.ReferenceIdeal (S256x5 S256x1)
open Idealize.ShloMosaic
open Idealize.ShloMosaic.ValueIdx
open Idealize.ShloMosaic.WordCmp

/-- A fold by `or` is 1 where it starts at 1 or meets one. -/
theorem foldl_or {ι : Type} (f : ι → BitVec 1) (l : List ι) (a : BitVec 1) :
    l.foldl (fun r n => IntOp.ori r (f n)) a = 1#1 ↔ a = 1#1 ∨ ∃ n ∈ l, f n = 1#1 := by
  induction l generalizing a with
  | nil => simp
  | cons b l ih =>
    have e : ∀ u v : BitVec 1, IntOp.ori u v = 1#1 ↔ u = 1#1 ∨ v = 1#1 := by decide
    rw [List.foldl_cons, ih, e]
    simp only [List.mem_cons, exists_eq_or_imp]
    exact or_assoc

/-- A row of flags has one set. -/
theorem any_iff (f : IVec S256x5 1) (h : S256x5.ReducesTo [1] S256) (hu : 0 < S_.numel) (r : Fin 256) :
    Host.reduce IntOp.ori f (constantI S_ 1 0#1) h hu (ix1 r) = 1#1 ↔ ∃ k : Fin 5, f (ix2 r k) = 1#1 := by
  have hd : ∀ i : S256x5.Idx, h.drop i = ix1 r ↔ i 0 = r := fun i => by
    have e : (h.drop i 0 : Nat) = i 0 := h.drop_apply_val_of_eq i 0 0
    constructor
    · intro g
      rw [g] at e
      exact Fin.ext e.symm
    · intro g
      funext a
      match a with
      | ⟨0, _⟩ => exact Fin.ext (e.trans (congrArg Fin.val g))
  rw [Host.reduce_eq_foldl, foldl_or]
  constructor
  · rintro (g | ⟨i, hi, g⟩)
    · exact absurd g (by show ¬(0#1 = 1#1); decide)
    · have hi := (hd i).1 (of_decide_eq_true (List.mem_filter.1 hi).2)
      have e : i = ix2 r (i 1) := (eq_ix2 i).trans (congrArg (fun a => ix2 a (i 1)) hi)
      exact ⟨i 1, e ▸ g⟩
  · rintro ⟨k, g⟩
    refine Or.inr ⟨ix2 r k, List.mem_filter.2 ⟨List.mem_map.2 ⟨S256x5.rowMajor (ix2 r k), List.mem_finRange _, Equiv.symm_apply_apply _ _⟩, ?_⟩, g⟩
    exact decide_eq_true ((hd _).2 rfl)

/-- Whether an element of a row is greater than another. -/
def above (X : FVec Ideal S256x100000 .f32) (r : Fin 256) (k k' : Fin 100000) : Bool :=
  FloatOps.cmpfTotal (F := Ideal) .gt (X (ix2 r k)) (X (ix2 r k')) == 1#1

theorem above_iff (X : FVec Ideal S256x100000 .f32) (r : Fin 256) (k k' : Fin 100000) :
    above X r k k' = true ↔ (X (ix2 r k') : EReal) < X (ix2 r k) := by
  unfold above
  rw [beq_iff_eq]
  show Ideal.cmp .ogt (X (ix2 r k)) (X (ix2 r k')) = 1#1 ↔ _
  unfold Ideal.cmp
  exact ofBool_decide_eq_one_iff _

theorem above_false (X : FVec Ideal S256x100000 .f32) (r : Fin 256) (k k' : Fin 100000) :
    above X r k k' = false ↔ (X (ix2 r k) : EReal) ≤ X (ix2 r k') := by
  rw [← Bool.not_eq_true, above_iff, not_lt]

/-- The columns of a row's first elements under a stable sort, as words, whatever the sizes. -/
theorem topK_word {α : Type} {n0 n1 k1 : Nat} (gt : α → α → BitVec 1) (X : (⟨2, ![n0, n1]⟩ : Shape).Idx → α)
    (h : (⟨2, ![n0, n1]⟩ : Shape).Slices (fun _ => 0) ⟨2, ![n0, k1]⟩) (r : Fin n0) (k : Fin k1) (hk : k.val < n1) :
    (Host.topK ⟨2, ![n0, k1]⟩ 1 gt X h).2 (ix2 r k)
      = BitVec.ofNat 32 (sortedFrom (fun a b : Fin n1 => gt (X (ix2 r a)) (X (ix2 r b)) == 1#1) ⟨k.val, hk⟩).val := by
  have al : ∀ q p : Fin n1, (ix2 r q : (⟨2, ![n0, n1]⟩ : Shape).Idx).along 1 p = ix2 r p := fun q p => by
    funext a
    match a with
    | ⟨0, _⟩ => rfl
    | ⟨1, _⟩ => rfl
  have key : ∀ q : Fin n1, (Host.sort2 ⟨2, ![n0, n1]⟩ 1 (fun a b => gt a.1 b.1) X
      (fun i => if hd : 1 < (⟨2, ![n0, n1]⟩ : Shape).rank then iotaInDim ⟨2, ![n0, n1]⟩ 32 ⟨1, hd⟩ i else 0#32)).2 (ix2 r q)
      = BitVec.ofNat 32 (sortedFrom (fun a b : Fin n1 => gt (X (ix2 r a)) (X (ix2 r b)) == 1#1) q).val := fun q => by
    show BitVec.ofNat 32 (((ix2 r q : (⟨2, ![n0, n1]⟩ : Shape).Idx).along 1 (sortedFrom (fun k k' : Fin n1 =>
      gt (X ((ix2 r q : (⟨2, ![n0, n1]⟩ : Shape).Idx).along 1 k)) (X ((ix2 r q : (⟨2, ![n0, n1]⟩ : Shape).Idx).along 1 k')) == 1#1) q)) 1).val = _
    simp only [al]
    rfl
  rw [← key]
  unfold Host.topK extractStridedSlice
  dsimp only
  refine congrArg (Host.sort2 ⟨2, ![n0, n1]⟩ 1 (fun a b => gt a.1 b.1) X _).2 (funext fun a => ?_)
  match a with
  | ⟨0, _⟩ => exact Fin.ext (Nat.zero_add _)
  | ⟨1, _⟩ => exact Fin.ext (Nat.zero_add _)

/-- The five greatest's columns, as words. -/
theorem top_word (X : FVec Ideal S256x100000 .f32) (h : S256x100000.Slices (fun _ => 0) S256x5) (r : Fin 256) (k : Fin 5) :
    (Host.topK S256x5 1 (FloatOps.cmpfTotal (F := Ideal) (φ := .f32) .gt) X h).2 (ix2 r k)
      = BitVec.ofNat 32 (sortedFrom (above X r) ⟨k.val, by omega⟩).val :=
  topK_word _ X h r k (by omega)

/-- A column is ahead of the target's in the reference's order where it beats it. -/
theorem ahead_iff (X : FVec Ideal S256x100000 .f32) (r : Fin 256) (p t : Fin 100000) :
    Ahead (above X r) p t ↔ Beat (fun q => elem (F := Ideal) X r.val q) t.val p.val := by
  have e : ∀ q : Fin 100000, elem (F := Ideal) X r.val q.val = X (ix2 r q) := fun q => (elem_eq (F := Ideal) X (ix2 r q) rfl rfl).symm
  unfold Ahead Beat
  rw [above_iff, above_false]
  show _ ↔ elem (F := Ideal) X r.val t.val < elem (F := Ideal) X r.val p.val ∨ (elem (F := Ideal) X r.val p.val = elem (F := Ideal) X r.val t.val ∧ p.val < t.val)
  rw [e, e]
  constructor
  · rintro (h | ⟨h, l⟩)
    · exact Or.inl h
    · rcases h.lt_or_eq with g | g
      · exact Or.inl g
      · exact Or.inr ⟨g.symm, l⟩
  · rintro (h | ⟨h, l⟩)
    · exact Or.inl h
    · exact Or.inr ⟨h.ge, l⟩

open Classical in
/-- The columns ahead of the target's, in number, are its rank. -/
theorem card_rank (X : FVec Ideal S256x100000 .f32) (r : Fin 256) (t : Fin 100000) :
    (Finset.univ.filter fun p => Ahead (above X r) p t).card = rankOf (fun q => elem (F := Ideal) X r.val q) t.val := by
  unfold rankOf num
  rw [Finset.card_filter, Finset.card_filter, ← Fin.sum_univ_eq_sum_range (fun q => if Beat (fun q => elem (F := Ideal) X r.val q) t.val q then 1 else 0) 100000]
  exact Finset.sum_congr rfl fun p _ => if_congr (ahead_iff X r p t) rfl rfl

/-- The reference's hit of a row. -/
theorem hit_iff (X : FVec Ideal S256x100000 .f32) (T : IVec S256 32) (r : Fin 256) (ht : (T (ix1 r)).toNat < 100000)
    (h : S256x100000.Slices (fun _ => 0) S256x5) (h1 : S256.BroadcastsInDim S256x1 ![0]) (h2 : S256x1.BroadcastsInDim S256x5 ![0, 1])
    (hr : S256x5.ReducesTo [1] S256) (hu : 0 < S_.numel) :
    Host.reduce IntOp.ori (cmpi .eq (Host.topK S256x5 1 (FloatOps.cmpfTotal (F := Ideal) (φ := .f32) .gt) X h).2
      (broadcastInDim S256x5 ![0, 1] h2 (broadcastInDim S256x1 ![0] h1 T))) (constantI S_ 1 0#1) hr hu (ix1 r) = 1#1
      ↔ rankOf (fun q => elem (F := Ideal) X r.val q) (T (ix1 r)).toNat < 5 := by
  have hb : ∀ k : Fin 5, broadcastInDim S256x5 ![0, 1] h2 (broadcastInDim S256x1 ![0] h1 T) (ix2 r k) = T (ix1 r) := fun k => by
    show T _ = T _
    congr 1
    funext a
    match a with
    | ⟨0, _⟩ => rfl
  have ha : ∀ a b, above X r a b = true → above X r b a = false := fun a b g => by
    rw [above_false]; exact ((above_iff X r a b).1 g).le
  have hn : ∀ a b c, above X r a b = false → above X r b c = false → above X r a c = false := fun a b c g g' => by
    rw [above_false] at *; exact g.trans g'
  rw [any_iff, show (T (ix1 r)).toNat = (⟨(T (ix1 r)).toNat, ht⟩ : Fin 100000).val from rfl, ← card_rank, ← top_iff ha hn]
  have hw : ∀ p : Fin 100000, BitVec.ofNat 32 p.val = T (ix1 r) ↔ p = ⟨(T (ix1 r)).toNat, ht⟩ := fun p => by
    have hp := p.isLt
    constructor
    · intro g
      apply Fin.ext
      show p.val = (T (ix1 r)).toNat
      rw [← g, BitVec.toNat_ofNat]; omega
    · intro g
      rw [g]; simp
  constructor
  · rintro ⟨k, g⟩
    refine ⟨⟨k.val, by omega⟩, k.isLt, (hw _).1 ?_⟩
    have g : IntOp.cmpi .eq _ _ = 1#1 := g
    rw [cmpi_eq_eq, ofBool_decide_eq_one_iff, top_word, hb] at g
    exact g
  · rintro ⟨k, hk, g⟩
    refine ⟨⟨k.val, hk⟩, ?_⟩
    show IntOp.cmpi .eq _ _ = 1#1
    rw [cmpi_eq_eq, ofBool_decide_eq_one_iff, top_word, hb]
    exact (hw _).2 g

end Cert.Proof.Rank
-- ==== Proof.Value.lean ====
/-
  The value claim, floats exact: the two programs' results are the same quotient — of the sum of the rows' scores by the sum
  of the rows' masks.
-/
module

public import proofs.«01_k».proof.Proof.Frames
public import proofs.«01_k».proof.Proof.Hits

@[expose] public section

noncomputable section

namespace Cert.Proof.Rank

open Cert.KernelIdeal Cert.KernelIdeal.Gen
open Cert.ReferenceIdeal (S256x5 S256x1)
open Idealize.ShloMosaic
open Idealize.SL.Sem
open Idealize.ShloMosaic.ValueIdx
open Idealize.ShloMosaic.StableHlo

/-! ## The sums -/

/-- A host's sum of a whole array from zero is the sum of its elements. -/
theorem sum_total {s : Shape} {axes : List (Fin s.rank)} (h : s.ReducesTo axes S_) (hu : 0 < S_.numel) (x : FVec Ideal s .f32) :
    Host.reduceAdd x (constant (F := Ideal) S_ .f32 0x00000000#32) h hu = fun _ => (∑ i, (x i : EReal) : EReal) := by
  funext j
  rw [hostReduceAdd_apply]
  refine (Ideal.hostReduceAdd_total h (fun b => b.elim0) x _ j).trans ?_
  show Ideal.ofBits .f32 0x00000000#32 + _ = _
  rw [Ideal.ofBits_zero_f32, zero_add]

/-- A sum over the rows, -/
theorem sum_rows (g : Nat → EReal) : ∑ i : S256.Idx, g (i 0).val = ∑ r : Fin 256, g r.val := by
  let e : S256.Idx ≃ Fin 256 := ⟨fun i => i 0, fun r => ix1 r, fun i => (eq_ix1 i).symm, fun _ => rfl⟩
  exact Equiv.sum_comp e fun r => g r.val

/-- the rows in eights. -/
theorem sum_eights (g : Nat → EReal) : ∑ i : S32x8.Idx, g (8 * (i 0).val + (i 1).val) = ∑ r : Fin 256, g r.val := by
  let e : S32x8.Idx ≃ Fin 256 := idxEquiv2.trans (finProdFinEquiv (m := 32) (n := 8))
  rw [← Equiv.sum_comp e fun r => g r.val]
  refine Finset.sum_congr rfl fun i _ => congrArg g ?_
  show _ = (i 1).val + 8 * (i 0).val
  omega

/-! ## The kernel's side -/

/-- An element of a slice of the output, as an element of the output. -/
theorem slice_at (A : FVec Ideal S512 .f32) (o : Nat) (ho : o ≤ 8) (h : S32x16.Slices ![0, o] S32x8) (i : S32x8.Idx) :
    ∃ k : S512.Idx, (k 0).val = 16 * (i 0).val + (o + (i 1).val)
      ∧ extractStridedSlice S32x8 ![0, o] (shapeCast S32x16 A shapeCasts_S512_S32x16) h i = A k := by
  unfold extractStridedSlice shapeCast
  refine ⟨_, ?_, rfl⟩
  generalize hj : (fun a => _ : S32x16.Idx) = j
  have h0 : (j 0).val = (i 0).val := by rw [← hj]; exact Nat.zero_add _
  have h1 : (j 1).val = o + (i 1).val := by rw [← hj]; rfl
  have e := Shape.rowMajor_reshapeEquiv shapeCasts_S512_S32x16 j
  rw [Shape.rowMajor_val_one, Shape.rowMajor_val_two, h0, h1] at e
  have e : ((Shape.reshapeEquiv shapeCasts_S512_S32x16 j : S512.Idx) 0).val = (i 0).val * 16 + (o + (i 1).val) := e
  omega

variable (X : FVec Ideal S256x100000 .f32) (T M : IVec S256 32) (hT : ∀ r, (word (F := Ideal) T r).toNat < 100000)

/-- Row `r`'s score. -/
def rowScore (r : Nat) : EReal := scoreOf (fun p => elem (F := Ideal) X r p) (word (F := Ideal) T r).toNat (word (F := Ideal) M r)
/-- Row `r`'s mask. -/
def rowMask (r : Nat) : EReal := (((word (F := Ideal) M r).toInt : ℝ) : EReal)

include hT in
/-- The output's first eight columns are the rows' scores, -/
theorem score_at (h : S32x16.Slices ![0, 0] S32x8) (i : S32x8.Idx) :
    extractStridedSlice S32x8 ![0, 0] (shapeCast S32x16 (outA (F := Ideal) X T M) shapeCasts_S512_S32x16) h i
      = rowScore X T M (8 * (i 0).val + (i 1).val) := by
  obtain ⟨k, hk, e⟩ := slice_at (outA (F := Ideal) X T M) 0 (by decide) h i
  have hi : (i 1).val < 8 := (i 1).isLt
  rw [e, outA_at (F := Ideal) X T M k (ix1 ⟨(i 1).val, by omega⟩) (i 0).val (by rw [hk, Nat.zero_add]),
    outV_score _ _ ⟨(i 1).val, hi⟩ _ rfl, score_eq _ _ _ (by rw [tw_words]; exact hT _), tw_words, tw_words]
  rfl

/-- its last eight the rows' masks. -/
theorem mask_at (h : S32x16.Slices ![0, 8] S32x8) (i : S32x8.Idx) :
    extractStridedSlice S32x8 ![0, 8] (shapeCast S32x16 (outA (F := Ideal) X T M) shapeCasts_S512_S32x16) h i
      = rowMask M (8 * (i 0).val + (i 1).val) := by
  obtain ⟨k, hk, e⟩ := slice_at (outA (F := Ideal) X T M) 8 (by decide) h i
  have hi : (i 1).val < 8 := (i 1).isLt
  rw [e, outA_at (F := Ideal) X T M k (ix1 ⟨8 + (i 1).val, by omega⟩) (i 0).val hk, outV_mask _ _ ⟨(i 1).val, hi⟩ _ rfl, tw_words]
  rfl

/-! ## The reference's side -/

include hT in
/-- A row's hit times its mask is its score. -/
theorem hit_mask (r : Fin 256) (h : S256x100000.Slices (fun _ => 0) S256x5) (h1 : S256.BroadcastsInDim S256x1 ![0]) (h2 : S256x1.BroadcastsInDim S256x5 ![0, 1])
    (hr : S256x5.ReducesTo [1] S256) (hu : 0 < S_.numel) :
    mulf (F := Ideal) (uitofp .f32 (Host.reduce IntOp.ori (cmpi .eq (Host.topK S256x5 1 (FloatOps.cmpfTotal (F := Ideal) (φ := .f32) .gt) X h).2
      (broadcastInDim S256x5 ![0, 1] h2 (broadcastInDim S256x1 ![0] h1 T))) (constantI S_ 1 0#1) hr hu)) (sitofp .f32 M) (ix1 r) = rowScore X T M r.val := by
  have e : ∀ A : IVec S256 32, word (F := Ideal) A r.val = A (ix1 r) := fun A => by
    unfold word
    congr 2
    exact Fin.ext (Nat.mod_eq_of_lt r.isLt)
  have ht := hT r.val
  rw [e] at ht
  have g := hit_iff X T r ht h h1 h2 hr hu
  unfold rowScore scoreOf
  rw [e, e]
  revert g
  generalize Host.reduce IntOp.ori _ _ hr hu = b
  intro g
  show (((b (ix1 r)).toNat : ℝ) : EReal) * (((M (ix1 r)).toInt : ℝ) : EReal) = _
  by_cases c : b (ix1 r) = 1#1
  · rw [if_pos (g.1 c), c]; simp
  · have z : ∀ v : BitVec 1, v ≠ 1#1 → v = 0#1 := by decide
    rw [if_neg (g.not.1 c), z _ c]; simp

include hT in
/-- The two quotients are one. -/
theorem quotient_eq (a0 : S32x16.Slices ![0, 0] S32x8) (a8 : S32x16.Slices ![0, 8] S32x8) (ra : S32x8.ReducesTo [0, 1] S_) (rb : S256.ReducesTo [0] S_)
    (h : S256x100000.Slices (fun _ => 0) S256x5) (h1 : S256.BroadcastsInDim S256x1 ![0]) (h2 : S256x1.BroadcastsInDim S256x5 ![0, 1])
    (hr : S256x5.ReducesTo [1] S256) (hu : 0 < S_.numel) (hb : S_.BroadcastsInDim S1 ![]) :
    broadcastInDim S1 ![] hb (Host.divf
      (Host.reduceAdd (F := Ideal) (extractStridedSlice S32x8 ![0, 0] (shapeCast S32x16 (outA (F := Ideal) X T M) shapeCasts_S512_S32x16) a0) (constant S_ .f32 0x00000000#32) ra hu)
      (Host.reduceAdd (F := Ideal) (extractStridedSlice S32x8 ![0, 8] (shapeCast S32x16 (outA (F := Ideal) X T M) shapeCasts_S512_S32x16) a8) (constant S_ .f32 0x00000000#32) ra hu))
    = broadcastInDim S1 ![] hb (Host.divf
      (Host.reduceAdd (F := Ideal) (mulf (F := Ideal) (uitofp .f32 (Host.reduce IntOp.ori (cmpi .eq (Host.topK S256x5 1 (FloatOps.cmpfTotal (F := Ideal) (φ := .f32) .gt) X h).2
        (broadcastInDim S256x5 ![0, 1] h2 (broadcastInDim S256x1 ![0] h1 T))) (constantI S_ 1 0#1) hr hu)) (sitofp .f32 M)) (constant S_ .f32 0x00000000#32) rb hu)
      (Host.reduceAdd (F := Ideal) (sitofp .f32 M) (constant S_ .f32 0x00000000#32) rb hu)) := by
  rw [sum_total, sum_total, sum_total, sum_total, Finset.sum_congr rfl fun i _ => score_at X T M hT a0 i, Finset.sum_congr rfl fun i _ => mask_at X T M a8 i,
    sum_eights (rowScore X T M), sum_eights (rowMask M), ← sum_rows (rowScore X T M), ← sum_rows (rowMask M)]
  have es : ∀ i : S256.Idx, mulf (F := Ideal) (uitofp .f32 (Host.reduce IntOp.ori (cmpi .eq (Host.topK S256x5 1 (FloatOps.cmpfTotal (F := Ideal) (φ := .f32) .gt) X h).2
        (broadcastInDim S256x5 ![0, 1] h2 (broadcastInDim S256x1 ![0] h1 T))) (constantI S_ 1 0#1) hr hu)) (sitofp .f32 M) i = rowScore X T M (i 0).val := fun i => by
    obtain ⟨r, rfl⟩ : ∃ r, i = ix1 r := ⟨i 0, eq_ix1 i⟩
    exact hit_mask X T M hT r h h1 h2 hr hu
  have em : ∀ i : S256.Idx, sitofp (F := Ideal) .f32 M i = rowMask M (i 0).val := fun i => by
    obtain ⟨r, rfl⟩ : ∃ r : Fin 256, i = ix1 r := ⟨i 0, eq_ix1 i⟩
    unfold rowMask word
    show (((M (ix1 r)).toInt : ℝ) : EReal) = _
    congr 5
    exact Fin.ext (Nat.mod_eq_of_lt r.isLt).symm
  rw [Finset.sum_congr rfl fun i _ => es i, Finset.sum_congr rfl fun i _ => em i]

/-! ## The claim -/

section
variable (m : (ℓ : Loc nD τ sig) → Buf (Elt Ideal) ℓ)

/-- The logits the call takes are the first argument's. -/
theorem lg_eq (d : Dev nD) : lg m d = shapeCast S256x100000 (m (d, at' main_arg0) : Vec Ideal S32x8x100000 .f32) shapeCasts_S32x8x100000_S256x100000 := by
  unfold lg Vc pre; after_results; rfl

/-- The masks the call takes are the third argument's words. -/
theorem mk_eq (d : Dev nD) : mk m d = shapeCast S256 (m (d, at' main_arg2) : Vec Ideal S32x8 .i32) shapeCasts_S32x8_S256 := by
  unfold mk Vc pre; after_results; rfl

/-- The kernel's result, of what the call leaves. -/
theorem res_eq (d : Dev nD) : res m d = broadcastInDim S1 ![] bcast_S_S1 (Host.divf
      (Host.reduceAdd (F := Ideal) (extractStridedSlice S32x8 ![0, 0] (shapeCast S32x16 (ou m d) shapeCasts_S512_S32x16) slices_S32x16_S32x8_0_0) (constant S_ .f32 0x00000000#32) reducesTo_S32x8_S_d0_1 h_S_)
      (Host.reduceAdd (F := Ideal) (extractStridedSlice S32x8 ![0, 8] (shapeCast S32x16 (ou m d) shapeCasts_S512_S32x16) slices_S32x16_S32x8_0_8) (constant S_ .f32 0x00000000#32) reducesTo_S32x8_S_d0_1 h_S_)) := by
  rw [← Vo_out]
  unfold res post; after_results; rfl

end

/-- The value claim: from the same arguments, the targets in range, the two programs end with the same result. -/
theorem algebraic : Cert.algebraic_KernelIdeal_ReferenceIdeal := by
  intro m g m' g' hpre hagree
  have hT := tg_lt (F := Ideal) m fun d => hpre d
  refine ⟨fun c => res m c, (θ_run Cert.KernelIdeal.defs _ _).mono (fun _ h c => ⟨(h.1 c).2.2.2, (h.1 c).1, (h.1 c).2.1, (h.1 c).2.2.1⟩)
    (run_main (F := Ideal) m g hT), ?_⟩
  hlo_run
  refine Eq.trans ?_ ((quotient_eq (lg m c) (tg m c) (mk m c) (hT c) slices_S32x16_S32x8_0_0 slices_S32x16_S32x8_0_8 reducesTo_S32x8_S_d0_1
    Cert.ReferenceIdeal.Facts₀.reducesTo_S256_S_d0 Cert.ReferenceIdeal.Facts₀.sliceFits_S256x100000_S256x5
    Cert.ReferenceIdeal.Facts₀.bcast_S256_S256x1_0 Cert.ReferenceIdeal.Facts₀.bcast_S256x1_S256x5_0_1
    Cert.ReferenceIdeal.Facts₀.reducesTo_S256x5_S256_d1 h_S_ bcast_S_S1).symm.trans (res_eq m c).symm)
  rw [lg_eq, tg_eq, mk_eq]
  rfl

end Cert.Proof.Rank
-- ==== Proof.lean ====
/-
  The proof of `Cert.Claim`: the three frames, the idealization's own claim, and the value claim.
-/
module

public import proofs.«01_k».proof.Defs
public import proofs.«01_k».proof.Proof.Value

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Pre_in_range.Gen.facts,
    Rank.frame_kernel, Rank.frame_ideal, Rank.frame_reference, trivial, Rank.algebraic⟩

end Cert.Proof

end
